-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v130)) (v2 : (c : Dev Cert.KernelIdeal.nD) → Buf (Elt Ideal) ((c.tc : Thread Cert.KernelIdeal.nD Cert.KernelIdeal.τ).loc Cert.KernelIdeal.main_v131)) (v3 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v130) = v1 c
          ∧ r.2.mem ((c.tc : Thread Cert.KernelIdeal.nD Cert.KernelIdeal.τ).loc Cert.KernelIdeal.main_v131) = v2 c
          ∧ r.2.mem ((c.tc : Thread Cert.KernelIdeal.nD Cert.KernelIdeal.τ).loc Cert.KernelIdeal.main_v134) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7)) (v1 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_v8) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)) (v1 : (c : Dev Cert.Kernel6Ideal.nD) → Buf (Elt Ideal) ((c.tc : Thread Cert.Kernel6Ideal.nD Cert.Kernel6Ideal.τ).loc Cert.Kernel6Ideal.main_v7)) (v2 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_v7) = v1 c
          ∧ r.2.mem ((c.tc : Thread Cert.Kernel6Ideal.nD Cert.Kernel6Ideal.τ).loc Cert.Kernel6Ideal.main_v9) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7)) (v1 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_v8) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  IdealRules.named_const.Statement Cert.Kernel15Ideal.κ "mask" .f32 0xF149F2CA#32 ⊥

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v83)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v83) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v44) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v6)) (v1 : (c : Dev Cert.Kernel16Ideal.nD) → Buf (Elt Ideal) ((c.tc : Thread Cert.Kernel16Ideal.nD Cert.Kernel16Ideal.τ).loc Cert.Kernel16Ideal.main_v8)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_v8) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v6)) (v1 : (c : Dev Cert.Kernel17Ideal.nD) → Buf (Elt Ideal) ((c.tc : Thread Cert.Kernel17Ideal.nD Cert.Kernel17Ideal.τ).loc Cert.Kernel17Ideal.main_v8)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6) = v0 c
          ∧ r.2.mem ((c.tc : Thread Cert.Kernel17Ideal.nD Cert.Kernel17Ideal.τ).loc Cert.Kernel17Ideal.main_v8) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v8)) (v1 : (c : Dev Cert.Kernel18Ideal.nD) → Buf (Elt Ideal) ((c.tc : Thread Cert.Kernel18Ideal.nD Cert.Kernel18Ideal.τ).loc Cert.Kernel18Ideal.main_v10)) (v2 : (c : Dev Cert.Kernel18Ideal.nD) → Buf (Elt Ideal) ((c.tc : Thread Cert.Kernel18Ideal.nD Cert.Kernel18Ideal.τ).loc Cert.Kernel18Ideal.main_v11)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8) = v0 c
          ∧ r.2.mem ((c.tc : Thread Cert.Kernel18Ideal.nD Cert.Kernel18Ideal.τ).loc Cert.Kernel18Ideal.main_v10) = v1 c
          ∧ r.2.mem ((c.tc : Thread Cert.Kernel18Ideal.nD Cert.Kernel18Ideal.τ).loc Cert.Kernel18Ideal.main_v11) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v15) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_v21) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8208x1024 : Shape := ⟨2, ![8208, 1024]⟩
abbrev S8208x16 : Shape := ⟨2, ![8208, 16]⟩
abbrev S_ : Shape := ⟨0, ![]⟩

class Facts : Prop where
  bcast_S_S8208x1024 : S_.BroadcastsInDim S8208x1024 (![] : Fin 0 → Fin S8208x1024.rank)
  bcast_S_S8208x16 : S_.BroadcastsInDim S8208x16 (![] : Fin 0 → Fin S8208x16.rank)

variable [Facts]

def fn {F : FTy → Type} [FloatOps F] (main_arg0 : FVec F S8208x1024 .f32) (main_arg1 : FVec F S8208x1024 .f32) (main_arg2 : FVec F S8208x1024 .f32) (main_arg3 : FVec F S8208x16 .f32) (main_arg4 : FVec F S8208x1024 .f32) : IVec S8208x1024 1 × IVec S8208x1024 1 × IVec S8208x1024 1 × IVec S8208x16 1 × IVec S8208x1024 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S8208x1024 .f32 := Host.absf main_arg1
  let main_cst_0 : FVec F S_ .f32 := constant S_ .f32 0x7F800000#32
  let main_v4 : FVec F S8208x1024 .f32 := broadcastInDim S8208x1024 ![] bcast_S_S8208x1024 main_cst_0
  let main_v5 : IVec S8208x1024 1 := cmpf .olt main_v3 main_v4
  let main_v6 : FVec F S8208x1024 .f32 := Host.absf main_arg2
  let main_cst_1 : FVec F S_ .f32 := constant S_ .f32 0x7F800000#32
  let main_v7 : FVec F S8208x1024 .f32 := broadcastInDim S8208x1024 ![] bcast_S_S8208x1024 main_cst_1
  let main_v8 : IVec S8208x1024 1 := cmpf .olt main_v6 main_v7
  let main_v9 : FVec F S8208x16 .f32 := Host.absf main_arg3
  let main_cst_2 : FVec F S_ .f32 := constant S_ .f32 0x7F800000#32
  let main_v10 : FVec F S8208x16 .f32 := broadcastInDim S8208x16 ![] bcast_S_S8208x16 main_cst_2
  let main_v11 : IVec S8208x16 1 := cmpf .olt main_v9 main_v10
  let main_v12 : FVec F S8208x1024 .f32 := Host.absf main_arg4
  let main_cst_3 : FVec F S_ .f32 := constant S_ .f32 0x7F800000#32
  let main_v13 : FVec F S8208x1024 .f32 := broadcastInDim S8208x1024 ![] bcast_S_S8208x1024 main_cst_3
  let main_v14 : IVec S8208x1024 1 := cmpf .olt main_v12 main_v13
  (main_v2, main_v5, main_v8, main_v11, main_v14)
-- ==== Pre_finite15.lean ====
abbrev S8208x1024 : Shape := ⟨2, ![8208, 1024]⟩
abbrev S8208x16 : Shape := ⟨2, ![8208, 16]⟩
abbrev S_ : Shape := ⟨0, ![]⟩

class Facts : Prop where
  bcast_S_S8208x1024 : S_.BroadcastsInDim S8208x1024 (![] : Fin 0 → Fin S8208x1024.rank)
  bcast_S_S8208x16 : S_.BroadcastsInDim S8208x16 (![] : Fin 0 → Fin S8208x16.rank)

variable [Facts]

def fn {F : FTy → Type} [FloatOps F] (main_arg0 : FVec F S8208x1024 .f32) (main_arg1 : FVec F S8208x1024 .f32) (main_arg2 : FVec F S8208x1024 .f32) (main_arg3 : FVec F S8208x16 .f32) (main_arg4 : FVec F S8208x1024 .f32) : IVec S8208x1024 1 × IVec S8208x1024 1 × IVec S8208x1024 1 × IVec S8208x16 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_v3 : FVec F S8208x1024 .f32 := Host.absf main_arg1
  let main_cst_0 : FVec F S_ .f32 := constant S_ .f32 0x7F800000#32
  let main_v4 : FVec F S8208x1024 .f32 := broadcastInDim S8208x1024 ![] bcast_S_S8208x1024 main_cst_0
  let main_v5 : IVec S8208x1024 1 := cmpf .olt main_v3 main_v4
  let main_v6 : FVec F S8208x1024 .f32 := Host.absf main_arg2
  let main_cst_1 : FVec F S_ .f32 := constant S_ .f32 0x7F800000#32
  let main_v7 : FVec F S8208x1024 .f32 := broadcastInDim S8208x1024 ![] bcast_S_S8208x1024 main_cst_1
  let main_v8 : IVec S8208x1024 1 := cmpf .olt main_v6 main_v7
  let main_v9 : FVec F S8208x16 .f32 := Host.absf main_arg3
  let main_cst_2 : FVec F S_ .f32 := constant S_ .f32 0x7F800000#32
  let main_v10 : FVec F S8208x16 .f32 := broadcastInDim S8208x16 ![] bcast_S_S8208x16 main_cst_2
  let main_v11 : IVec S8208x16 1 := cmpf .olt main_v9 main_v10
  (main_v2, main_v5, main_v8, main_v11)
-- ==== Kernel.lean ====
abbrev S8208x1024 : Shape := ⟨2, ![8208, 1024]⟩
abbrev S8208x16 : Shape := ⟨2, ![8208, 16]⟩
abbrev S_ : Shape := ⟨0, ![]⟩
abbrev S8208 : Shape := ⟨1, ![8208]⟩
abbrev S8208x16x64 : Shape := ⟨3, ![8208, 16, 64]⟩
abbrev S16x8208x64 : Shape := ⟨3, ![16, 8208, 64]⟩
abbrev S16x8208 : Shape := ⟨2, ![16, 8208]⟩
abbrev S16x8208x8208 : Shape := ⟨3, ![16, 8208, 8208]⟩
abbrev S16x8208x1 : Shape := ⟨3, ![16, 8208, 1]⟩
abbrev S16x1x8208 : Shape := ⟨3, ![16, 1, 8208]⟩
abbrev S1x8208 : Shape := ⟨2, ![1, 8208]⟩
abbrev S8208x1 : Shape := ⟨2, ![8208, 1]⟩
abbrev S8208x8208 : Shape := ⟨2, ![8208, 8208]⟩
abbrev S8448x1024 : Shape := ⟨2, ![8448, 1024]⟩
abbrev S8448x8x128 : Shape := ⟨3, ![8448, 8, 128]⟩
abbrev S8448x128 : Shape := ⟨2, ![8448, 128]⟩
abbrev S1x1x128 : Shape := ⟨3, ![1, 1, 128]⟩
abbrev S8448x1 : Shape := ⟨2, ![8448, 1]⟩
abbrev S8448x16 : Shape := ⟨2, ![8448, 16]⟩
abbrev S8448x8x2 : Shape := ⟨3, ![8448, 8, 2]⟩
abbrev S8448x8x1 : Shape := ⟨3, ![8448, 8, 1]⟩
abbrev S8x8x8448 : Shape := ⟨3, ![8, 8, 8448]⟩
abbrev S768x128 : Shape := ⟨2, ![768, 128]⟩
abbrev S1x8x8448 : Shape := ⟨3, ![1, 8, 8448]⟩
abbrev S1x128 : Shape := ⟨2, ![1, 128]⟩
abbrev S768 : Shape := ⟨1, ![768]⟩
abbrev S768x1 : Shape := ⟨2, ![768, 1]⟩
abbrev S768x768 : Shape := ⟨2, ![768, 768]⟩
abbrev S1x1x768 : Shape := ⟨3, ![1, 1, 768]⟩
abbrev S1x768 : Shape := ⟨2, ![1, 768]⟩
abbrev S512x128 : Shape := ⟨2, ![512, 128]⟩
abbrev S1x512 : Shape := ⟨2, ![1, 512]⟩
abbrev S768x512 : Shape := ⟨2, ![768, 512]⟩
abbrev S1x1x512 : Shape := ⟨3, ![1, 1, 512]⟩
abbrev S512 : Shape := ⟨1, ![512]⟩
abbrev S256x128 : Shape := ⟨2, ![256, 128]⟩
abbrev S256x1 : Shape := ⟨2, ![256, 1]⟩
abbrev S1x256 : Shape := ⟨2, ![1, 256]⟩
abbrev S256x256 : Shape := ⟨2, ![256, 256]⟩
abbrev S1x1x256 : Shape := ⟨3, ![1, 1, 256]⟩
abbrev S256 : Shape := ⟨1, ![256]⟩
abbrev S8x2x8208 : Shape := ⟨3, ![8, 2, 8208]⟩

abbrev nBuf : Space → Nat
  | .hbm => 204
  | .vmem => 24
  | .smem => 0
  | _ => 0

abbrev hbmTy0_0 (i : Nat) : BufTy := match i % 128 with
  | 0 => ⟨S8208x1024, .f32⟩
  | 1 => ⟨S8208x1024, .f32⟩
  | 2 => ⟨S8208x1024, .f32⟩
  | 3 => ⟨S8208x16, .f32⟩
  | 4 => ⟨S8208x1024, .f32⟩
  | 5 => ⟨S_, .f32⟩
  | 6 => ⟨S_, .f32⟩
  | 7 => ⟨S_, .f32⟩
  | 8 => ⟨S_, .f32⟩
  | 9 => ⟨S8208, .i32⟩
  | 10 => ⟨S8208x16x64, .f32⟩
  | 11 => ⟨S16x8208x64, .f32⟩
  | 12 => ⟨S16x8208, .f32⟩
  | 13 => ⟨S8208x16x64, .f32⟩
  | 14 => ⟨S16x8208x64, .f32⟩
  | 15 => ⟨S16x8208, .f32⟩
  | 16 => ⟨S16x8208x8208, .f32⟩
  | 17 => ⟨S_, .f32⟩
  | 18 => ⟨S16x8208x8208, .f32⟩
  | 19 => ⟨S16x8208x8208, .f32⟩
  | 20 => ⟨S16x8208x1, .f32⟩
  | 21 => ⟨S16x1x8208, .f32⟩
  | 22 => ⟨S16x8208x8208, .f32⟩
  | 23 => ⟨S16x8208x8208, .f32⟩
  | 24 => ⟨S16x8208x8208, .f32⟩
  | 25 => ⟨S16x8208x8208, .f32⟩
  | 26 => ⟨S1x8208, .i32⟩
  | 27 => ⟨S8208x1, .i32⟩
  | 28 => ⟨S8208x8208, .i32⟩
  | 29 => ⟨S8208x8208, .i32⟩
  | 30 => ⟨S8208x8208, .i1⟩
  | 31 => ⟨S_, .f32⟩
  | 32 => ⟨S_, .f32⟩
  | 33 => ⟨S16x8208x8208, .i1⟩
  | 34 => ⟨S16x8208x8208, .f32⟩
  | 35 => ⟨S16x8208x8208, .f32⟩
  | 36 => ⟨S_, .f32⟩
  | 37 => ⟨S16x8208, .f32⟩
  | 38 => ⟨S16x8208x1, .f32⟩
  | 39 => ⟨S16x8208x8208, .f32⟩
  | 40 => ⟨S16x8208x8208, .f32⟩
  | 41 => ⟨S16x8208x8208, .f32⟩
  | 42 => ⟨S_, .f32⟩
  | 43 => ⟨S16x8208, .f32⟩
  | 44 => ⟨S16x8208x1, .f32⟩
  | 45 => ⟨S16x8208x8208, .f32⟩
  | 46 => ⟨S16x8208x8208, .f32⟩
  | 47 => ⟨S8208x16x64, .f32⟩
  | 48 => ⟨S16x8208x64, .f32⟩
  | 49 => ⟨S16x8208x64, .f32⟩
  | 50 => ⟨S8208x16x64, .f32⟩
  | 51 => ⟨S16x8208x64, .f32⟩
  | 52 => ⟨S_, .f32⟩
  | 53 => ⟨S16x8208x1, .f32⟩
  | 54 => ⟨S16x8208x1, .f32⟩
  | 55 => ⟨S16x8208x64, .f32⟩
  | 56 => ⟨S16x8208x64, .f32⟩
  | 57 => ⟨S16x8208x64, .f32⟩
  | 58 => ⟨S_, .f32⟩
  | 59 => ⟨S16x8208, .f32⟩
  | 60 => ⟨S16x8208x1, .f32⟩
  | 61 => ⟨S_, .f32⟩
  | 62 => ⟨S_, .f32⟩
  | 63 => ⟨S8208x1024, .f32⟩
  | 64 => ⟨S8208x1024, .f32⟩
  | 65 => ⟨S_, .i32⟩
  | 66 => ⟨S_, .f32⟩
  | 67 => ⟨S8448x1024, .f32⟩
  | 68 => ⟨S8448x1024, .bf16⟩
  | 69 => ⟨S_, .i32⟩
  | 70 => ⟨S_, .f32⟩
  | 71 => ⟨S8448x1024, .f32⟩
  | 72 => ⟨S8448x8x128, .f32⟩
  | 73 => ⟨S8208x16, .f32⟩
  | 74 => ⟨S8208x16, .f32⟩
  | 75 => ⟨S_, .i32⟩
  | 76 => ⟨S_, .f32⟩
  | 77 => ⟨S8448x128, .f32⟩
  | 78 => ⟨S1x1x128, .i32⟩
  | 79 => ⟨S8448x1, .i32⟩
  | 80 => ⟨S_, .i32⟩
  | 81 => ⟨S8448x1, .i32⟩
  | 82 => ⟨S8448x1, .i1⟩
  | 83 => ⟨S8448x16, .f32⟩
  | 84 => ⟨S8448x16, .f32⟩
  | 85 => ⟨S_, .f32⟩
  | 86 => ⟨S_, .f32⟩
  | 87 => ⟨S8448x16, .i1⟩
  | 88 => ⟨S8448x16, .f32⟩
  | 89 => ⟨S8448x16, .f32⟩
  | 90 => ⟨S8448x8x2, .f32⟩
  | 91 => ⟨S_, .i32⟩
  | 92 => ⟨S1x1x128, .i32⟩
  | 93 => ⟨S1x1x128, .i1⟩
  | 94 => ⟨S_, .f32⟩
  | 95 => ⟨S_, .f32⟩
  | 96 => ⟨S8448x8x128, .i1⟩
  | 97 => ⟨S8448x8x128, .f32⟩
  | 98 => ⟨S8448x8x128, .f32⟩
  | 99 => ⟨S_, .i32⟩
  | 100 => ⟨S1x1x128, .i32⟩
  | 101 => ⟨S1x1x128, .i1⟩
  | 102 => ⟨S_, .f32⟩
  | 103 => ⟨S_, .f32⟩
  | 104 => ⟨S8448x8x128, .i1⟩
  | 105 => ⟨S8448x8x128, .f32⟩
  | 106 => ⟨S8448x8x128, .f32⟩
  | 107 => ⟨S8448x8x1, .f32⟩
  | 108 => ⟨S8448x8x1, .bf16⟩
  | 109 => ⟨S8448x8x1, .f32⟩
  | 110 => ⟨S8448x8x1, .f32⟩
  | 111 => ⟨S8448x8x1, .bf16⟩
  | 112 => ⟨S8448x8x1, .f32⟩
  | 113 => ⟨S8448x8x1, .f32⟩
  | 114 => ⟨S8448x8x1, .f32⟩
  | 115 => ⟨S8448x8x1, .f32⟩
  | 116 => ⟨S8448x8x1, .bf16⟩
  | 117 => ⟨S8448x8x1, .f32⟩
  | 118 => ⟨S8448x8x1, .f32⟩
  | 119 => ⟨S8448x8x1, .bf16⟩
  | 120 => ⟨S8448x8x1, .f32⟩
  | 121 => ⟨S8448x8x1, .f32⟩
  | 122 => ⟨S8448x8x1, .f32⟩
  | 123 => ⟨S_, .i32⟩
  | 124 => ⟨S1x1x128, .i32⟩
  | 125 => ⟨S1x1x128, .i1⟩
  | 126 => ⟨S8448x8x128, .i1⟩
  | 127 => ⟨S8448x8x128, .f32⟩
  | _ => ⟨S8208x1024, .f32⟩

abbrev hbmTy0_1 (i : Nat) : BufTy := match i % 128 with
  | 0 => ⟨S8448x8x128, .f32⟩
  | 1 => ⟨S_, .i32⟩
  | 2 => ⟨S1x1x128, .i32⟩
  | 3 => ⟨S1x1x128, .i1⟩
  | 4 => ⟨S8448x8x128, .i1⟩
  | 5 => ⟨S8448x8x128, .f32⟩
  | 6 => ⟨S8448x8x128, .f32⟩
  | 7 => ⟨S_, .i32⟩
  | 8 => ⟨S1x1x128, .i32⟩
  | 9 => ⟨S1x1x128, .i1⟩
  | 10 => ⟨S8448x8x128, .i1⟩
  | 11 => ⟨S8448x8x128, .f32⟩
  | 12 => ⟨S8448x8x128, .f32⟩
  | 13 => ⟨S_, .i32⟩
  | 14 => ⟨S1x1x128, .i32⟩
  | 15 => ⟨S1x1x128, .i1⟩
  | 16 => ⟨S8448x8x128, .i1⟩
  | 17 => ⟨S8448x8x128, .f32⟩
  | 18 => ⟨S8448x8x128, .f32⟩
  | 19 => ⟨S_, .i32⟩
  | 20 => ⟨S1x1x128, .i32⟩
  | 21 => ⟨S1x1x128, .i1⟩
  | 22 => ⟨S8448x8x128, .i1⟩
  | 23 => ⟨S8448x8x128, .f32⟩
  | 24 => ⟨S8448x8x128, .f32⟩
  | 25 => ⟨S_, .i32⟩
  | 26 => ⟨S1x1x128, .i32⟩
  | 27 => ⟨S1x1x128, .i1⟩
  | 28 => ⟨S8448x8x128, .i1⟩
  | 29 => ⟨S8448x8x128, .f32⟩
  | 30 => ⟨S8448x8x128, .f32⟩
  | 31 => ⟨S8448x1024, .f32⟩
  | 32 => ⟨S8448x1024, .bf16⟩
  | 33 => ⟨S8448x1024, .f32⟩
  | 34 => ⟨S8448x1024, .bf16⟩
  | 35 => ⟨S_, .i32⟩
  | 36 => ⟨S_, .f32⟩
  | 37 => ⟨S8448x1024, .f32⟩
  | 38 => ⟨S8448x1024, .bf16⟩
  | 39 => ⟨S8208x16x64, .f32⟩
  | 40 => ⟨S8208x1024, .f32⟩
  | 41 => ⟨S_, .i32⟩
  | 42 => ⟨S_, .f32⟩
  | 43 => ⟨S8448x1024, .f32⟩
  | 44 => ⟨S8448x1024, .bf16⟩
  | 45 => ⟨S16x8208x64, .f32⟩
  | 46 => ⟨S8208x16x64, .f32⟩
  | 47 => ⟨S8208x1024, .f32⟩
  | 48 => ⟨S8208x1024, .f32⟩
  | 49 => ⟨S8208x1024, .f32⟩
  | 50 => ⟨S_, .i32⟩
  | 51 => ⟨S_, .f32⟩
  | 52 => ⟨S8448x1024, .f32⟩
  | 53 => ⟨S16x8208x64, .f32⟩
  | 54 => ⟨S8208x16x64, .f32⟩
  | 55 => ⟨S8208x1024, .f32⟩
  | 56 => ⟨S_, .i32⟩
  | 57 => ⟨S_, .f32⟩
  | 58 => ⟨S8448x1024, .f32⟩
  | 59 => ⟨S8448x1024, .f32⟩
  | 60 => ⟨S8448x1024, .f32⟩
  | 61 => ⟨S8448x1024, .f32⟩
  | 62 => ⟨S8x8x8448, .f32⟩
  | 63 => ⟨S8208x1024, .f32⟩
  | 64 => ⟨S_, .f32⟩
  | 65 => ⟨S8208x1024, .f32⟩
  | 66 => ⟨S8208x1024, .f32⟩
  | 67 => ⟨S8208x1024, .f32⟩
  | 68 => ⟨S_, .f32⟩
  | 69 => ⟨S_, .f32⟩
  | 70 => ⟨S8208x1024, .f32⟩
  | 71 => ⟨S8208x1024, .f32⟩
  | 72 => ⟨S8208x1024, .f32⟩
  | 73 => ⟨S8x2x8208, .f32⟩
  | 74 => ⟨S16x8208, .f32⟩
  | 75 => ⟨S8208x16, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | .local _ .vmem, ⟨0, _⟩ => ⟨S768x128, .bf16⟩
  | .local _ .vmem, ⟨1, _⟩ => ⟨S768x128, .bf16⟩
  | .local _ .vmem, ⟨2, _⟩ => ⟨S768x128, .bf16⟩
  | .local _ .vmem, ⟨3, _⟩ => ⟨S768x128, .bf16⟩
  | .local _ .vmem, ⟨4, _⟩ => ⟨S768x128, .f32⟩
  | .local _ .vmem, ⟨5, _⟩ => ⟨S768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S8448x128, .bf16⟩
  | .local _ .vmem, ⟨11, _⟩ => ⟨S8448x128, .bf16⟩
  | .local _ .vmem, ⟨12, _⟩ => ⟨S8448x128, .bf16⟩
  | .local _ .vmem, ⟨13, _⟩ => ⟨S8448x128, .bf16⟩
  | .local _ .vmem, ⟨14, _⟩ => ⟨S8448x128, .bf16⟩
  | .local _ .vmem, ⟨15, _⟩ => ⟨S8448x128, .bf16⟩
  | .local _ .vmem, ⟨16, _⟩ => ⟨S768x128, .f32⟩
  | .local _ .vmem, ⟨17, _⟩ => ⟨S768x128, .f32⟩
  | .local _ .vmem, ⟨18, _⟩ => ⟨S8448x128, .f32⟩
  | .local _ .vmem, ⟨19, _⟩ => ⟨S8448x128, .f32⟩
  | .local _ .vmem, ⟨20, _⟩ => ⟨S8448x128, .f32⟩
  | .local _ .vmem, ⟨21, _⟩ => ⟨S8448x128, .f32⟩
  | .local _ .vmem, ⟨22, _⟩ => ⟨S1x8x8448, .f32⟩
  | .local _ .vmem, ⟨23, _⟩ => ⟨S1x8x8448, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_call2_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_call3_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_v65 : Ref sig .tc := ⟨.hbm, 98, rfl⟩
abbrev main_c_14 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_16 : Ref sig .tc := ⟨.hbm, 123, rfl⟩
abbrev main_v85 : Ref sig .tc := ⟨.hbm, 124, rfl⟩
abbrev main_v86 : Ref sig .tc := ⟨.hbm, 125, rfl⟩
abbrev main_call7_v0 : Ref sig .tc := ⟨.hbm, 126, rfl⟩
abbrev main_call7_v1 : Ref sig .tc := ⟨.hbm, 127, rfl⟩
abbrev main_v87 : Ref sig .tc := ⟨.hbm, 128, rfl⟩
abbrev main_c_17 : Ref sig .tc := ⟨.hbm, 129, rfl⟩
abbrev main_v88 : Ref sig .tc := ⟨.hbm, 130, rfl⟩
abbrev main_v89 : Ref sig .tc := ⟨.hbm, 131, rfl⟩
abbrev main_call8_v0 : Ref sig .tc := ⟨.hbm, 132, rfl⟩
abbrev main_call8_v1 : Ref sig .tc := ⟨.hbm, 133, rfl⟩
abbrev main_v90 : Ref sig .tc := ⟨.hbm, 134, rfl⟩
abbrev main_c_18 : Ref sig .tc := ⟨.hbm, 135, rfl⟩
abbrev main_v91 : Ref sig .tc := ⟨.hbm, 136, rfl⟩
abbrev main_v92 : Ref sig .tc := ⟨.hbm, 137, rfl⟩
abbrev main_call9_v0 : Ref sig .tc := ⟨.hbm, 138, rfl⟩
abbrev main_call9_v1 : Ref sig .tc := ⟨.hbm, 139, rfl⟩
abbrev main_v93 : Ref sig .tc := ⟨.hbm, 140, rfl⟩
abbrev main_c_19 : Ref sig .tc := ⟨.hbm, 141, rfl⟩
abbrev main_v94 : Ref sig .tc := ⟨.hbm, 142, rfl⟩
abbrev main_v95 : Ref sig .tc := ⟨.hbm, 143, rfl⟩
abbrev main_call10_v0 : Ref sig .tc := ⟨.hbm, 144, rfl⟩
abbrev main_call10_v1 : Ref sig .tc := ⟨.hbm, 145, rfl⟩
abbrev main_v96 : Ref sig .tc := ⟨.hbm, 146, rfl⟩
abbrev main_c_20 : Ref sig .tc := ⟨.hbm, 147, rfl⟩
abbrev main_v97 : Ref sig .tc := ⟨.hbm, 148, rfl⟩
abbrev main_v98 : Ref sig .tc := ⟨.hbm, 149, rfl⟩
abbrev main_call11_v0 : Ref sig .tc := ⟨.hbm, 150, rfl⟩
abbrev main_call11_v1 : Ref sig .tc := ⟨.hbm, 151, rfl⟩
abbrev main_v99 : Ref sig .tc := ⟨.hbm, 152, rfl⟩
abbrev main_c_21 : Ref sig .tc := ⟨.hbm, 153, rfl⟩
abbrev main_v100 : Ref sig .tc := ⟨.hbm, 154, rfl⟩
abbrev main_v101 : Ref sig .tc := ⟨.hbm, 155, rfl⟩
abbrev main_call12_v0 : Ref sig .tc := ⟨.hbm, 156, rfl⟩
abbrev main_call12_v1 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_c_22 : Ref sig .tc := ⟨.hbm, 163, rfl⟩
abbrev main_call13_v0 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_c_23 : Ref sig .tc := ⟨.hbm, 169, rfl⟩
abbrev main_call14_v0 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_c_24 : Ref sig .tc := ⟨.hbm, 178, rfl⟩
abbrev main_call15_v0 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_c_25 : Ref sig .tc := ⟨.hbm, 184, rfl⟩
abbrev main_call16_v0 : Ref sig .tc := ⟨.hbm, 185, rfl⟩
abbrev main_v122 : Ref sig .tc := ⟨.hbm, 186, rfl⟩
abbrev main_v123_0 : Ref sig .tc := ⟨.hbm, 187, rfl⟩
abbrev main_v123_1 : Ref sig .tc := ⟨.hbm, 188, rfl⟩
abbrev main_v123_2 : Ref sig .tc := ⟨.hbm, 189, rfl⟩
abbrev main_v123_3 : Ref sig .tc := ⟨.hbm, 190, rfl⟩
abbrev main_v124 : Ref sig .tc := ⟨.hbm, 191, rfl⟩
abbrev main_cst_26 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_cst_27 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_34 : BitVec 32 := 1#32
  ⟨c0_i32_32, v106, c1_i32_34⟩
def k0_mult1 (i : grid0.Coords) (k0_t1 : Fin (k0_t1_loop i).trips) : BitVec 32 :=
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  v341
def k0_off1 (i : grid0.Coords) (k0_t1 : Fin (k0_t1_loop i).trips) : Fin 2 → Nat :=
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  let v342 : BitVec 32 := v341
  let v343 : Index := Scalar.indexCast v342
  let c0_107 : Index := 0#32
  ![v343.toNat, 0]
def k0_off2 (i : grid0.Coords) (k0_t1 : Fin (k0_t1_loop i).trips) : Fin 3 → Nat :=
  let c0_115 : Index := 0#32
  let c0_116 : Index := 0#32
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  let v342 : BitVec 32 := v341
  let v367 : Index := Scalar.indexCast v342
  ![0, 0, v367.toNat]
def k0_off3 (i : grid0.Coords) (k0_t1 : Fin (k0_t1_loop i).trips) : Fin 3 → Nat :=
  let c0_126 : Index := 0#32
  let c1_127 : Index := 1#32
  let c0_i32_32 : BitVec 32 := 0#32
  let c1_i32_34 : BitVec 32 := 1#32
  let arg14 : BitVec 32 := Scf.iv c0_i32_32 c1_i32_34 k0_t1
  let c768_i32_106 : BitVec 32 := 768#32
  let v341 : BitVec 32 := Scalar.muli arg14 c768_i32_106
  let v342 : BitVec 32 := v341
  let v394 : Index := Scalar.indexCast v342
  ![0, 1, v394.toNat]
@[reducible] def k0_t2_loop (i : grid0.Coords) : Scf.Loop 32 :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let v103 : BitVec 32 := Scalar.addi c0_i32_32 v102
  let c1_i32_35 : BitVec 32 := 1#32
  ⟨v106, v103, c1_i32_35⟩
def k0_mult2 (i : grid0.Coords) (k0_t2 : Fin (k0_t2_loop i).trips) : BitVec 32 :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  v341
def k0_off4 (i : grid0.Coords) (k0_t2 : Fin (k0_t2_loop i).trips) : Fin 2 → Nat :=
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  let v342 : BitVec 32 := v341
  let v343 : Index := Scalar.indexCast v342
  let c0_107 : Index := 0#32
  ![v343.toNat, 0]
def k0_off5 (i : grid0.Coords) (k0_t2 : Fin (k0_t2_loop i).trips) : Fin 3 → Nat :=
  let c0_115 : Index := 0#32
  let c0_116 : Index := 0#32
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  let v342 : BitVec 32 := v341
  let v367 : Index := Scalar.indexCast v342
  ![0, 0, v367.toNat]
def k0_off6 (i : grid0.Coords) (k0_t2 : Fin (k0_t2_loop i).trips) : Fin 3 → Nat :=
  let c0_126 : Index := 0#32
  let c1_127 : Index := 1#32
  let c0_i32_32 : BitVec 32 := 0#32
  let arg1 : BitVec 32 := BitVec.ofNat 32 (i 1).val
  let v102 : BitVec 32 := Scalar.subi arg1 c0_i32_32
  let c1_i32_33 : BitVec 32 := 1#32
  let v104 : BitVec 32 := Scalar.divsi v102 c1_i32_33
  let v105 : BitVec 32 := Scalar.muli v104 c1_i32_33
  let v106 : BitVec 32 := Scalar.addi c0_i32_32 v105
  let c1_i32_35 : BitVec 32 := 1#32
  let arg14 : BitVec 32 := Scf.iv v106 c1_i32_35 k0_t2
  let c768_i32_106 : BitVec 32 := 768#32
  let v341 : BitVec 32 := Scalar.muli arg14 c768_i32_106
  let v342 : BitVec 32 := v341
  let v394 : Index := Scalar.indexCast v342
  ![0, 1, v394.toNat]
def k0_mult3 (i : grid0.Coords) : BitVec 32 :=
  let arg1 : BitVec 32 := BitVec.ofNat 32 (i 1).val
  let c768_i32 : BitVec 32 := 768#32
  let v109 : BitVec 32 := Scalar.muli arg1 c768_i32
  v109
def k0_off7 (i : grid0.Coords) : Fin 2 → Nat :=
  let arg1 : BitVec 32 := BitVec.ofNat 32 (i 1).val
  let c768_i32 : BitVec 32 := 768#32
  let v109 : BitVec 32 := Scalar.muli arg1 c768_i32
  let v110 : BitVec 32 := v109
  let v111 : Index := Scalar.indexCast v110
  let c0_36 : Index := 0#32
  ![v111.toNat, 0]
def k0_off8 (i : grid0.Coords) : Fin 3 → Nat :=
  let c0_48 : Index := 0#32
  let c0_49 : Index := 0#32
  let arg1 : BitVec 32 := BitVec.ofNat 32 (i 1).val
  let c768_i32 : BitVec 32 := 768#32
  let v109 : BitVec 32 := Scalar.muli arg1 c768_i32
  let v110 : BitVec 32 := v109
  let v156 : Index := Scalar.indexCast v110
  ![0, 0, v156.toNat]
def k0_off9 (i : grid0.Coords) : Fin 3 → Nat :=
  let c0_60 : Index := 0#32
  let c1 : Index := 1#32
  let arg1 : BitVec 32 := BitVec.ofNat 32 (i 1).val
  let c768_i32 : BitVec 32 := 768#32
  let v109 : BitVec 32 := Scalar.muli arg1 c768_i32
  let v110 : BitVec 32 := v109
  let v185 : Index := Scalar.indexCast v110
  ![0, 1, v185.toNat]
def k0_mult4 (i : grid0.Coords) : BitVec 32 :=
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  v215
def k0_off10 (i : grid0.Coords) : Fin 2 → Nat :=
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  let v216 : BitVec 32 := v215
  let v219 : Index := Scalar.indexCast v216
  let c0_69 : Index := 0#32
  ![v219.toNat, 0]
def k0_off11 (i : grid0.Coords) : Fin 3 → Nat :=
  let c0_82 : Index := 0#32
  let c0_83 : Index := 0#32
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  let v216 : BitVec 32 := v215
  let v270 : Index := Scalar.indexCast v216
  ![0, 0, v270.toNat]
def k0_off12 (i : grid0.Coords) : Fin 3 → Nat :=
  let c0_94 : Index := 0#32
  let c1_95 : Index := 1#32
  let arg1 : BitVec 32 := BitVec.ofNat 32 (i 1).val
  let c768_i32 : BitVec 32 := 768#32
  let v109 : BitVec 32 := Scalar.muli arg1 c768_i32
  let v110 : BitVec 32 := v109
  let c512_i32 : BitVec 32 := 512#32
  let v215 : BitVec 32 := Scalar.addi v110 c512_i32
  let v216 : BitVec 32 := v215
  let v303 : Index := Scalar.indexCast v216
  ![0, 1, v303.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8448x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8448x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8448x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8448x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8448x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x8448 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8208x1024 : Shape := ⟨2, ![8208, 1024]⟩
abbrev S8208x16 : Shape := ⟨2, ![8208, 16]⟩
abbrev S8208 : Shape := ⟨1, ![8208]⟩
abbrev S8208x16x64 : Shape := ⟨3, ![8208, 16, 64]⟩
abbrev S16x8208x64 : Shape := ⟨3, ![16, 8208, 64]⟩
abbrev S16x8208 : Shape := ⟨2, ![16, 8208]⟩
abbrev S16x8208x8208 : Shape := ⟨3, ![16, 8208, 8208]⟩
abbrev S_ : Shape := ⟨0, ![]⟩
abbrev S16x8208x1 : Shape := ⟨3, ![16, 8208, 1]⟩
abbrev S16x1x8208 : Shape := ⟨3, ![16, 1, 8208]⟩
abbrev S1x8208 : Shape := ⟨2, ![1, 8208]⟩
abbrev S8208x1 : Shape := ⟨2, ![8208, 1]⟩
abbrev S8208x8208 : Shape := ⟨2, ![8208, 8208]⟩
abbrev S16x64x8208 : Shape := ⟨3, ![16, 64, 8208]⟩

abbrev nBuf : Space → Nat
  | .hbm => 124
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x16, .f32⟩
  | .hbm, ⟨4, _⟩ => ⟨S8208x1024, .f32⟩
  | .hbm, ⟨5, _⟩ => ⟨S8208, .i32⟩
  | .hbm, ⟨6, _⟩ => ⟨S8208x16x64, .f32⟩
  | .hbm, ⟨7, _⟩ => ⟨S16x8208x64, .f32⟩
  | .hbm, ⟨8, _⟩ => ⟨S16x8208, .f32⟩
  | .hbm, ⟨9, _⟩ => ⟨S8208x16x64, .f32⟩
  | .hbm, ⟨10, _⟩ => ⟨S16x8208x64, .f32⟩
  | .hbm, ⟨11, _⟩ => ⟨S16x8208, .f32⟩
  | .hbm, ⟨12, _⟩ => ⟨S16x8208x8208, .f32⟩
  | .hbm, ⟨13, _⟩ => ⟨S_, .f32⟩
  | .hbm, ⟨14, _⟩ => ⟨S16x8208x8208, .f32⟩
  | .hbm, ⟨15, _⟩ => ⟨S16x8208x8208, .f32⟩
  | .hbm, ⟨16, _⟩ => ⟨S16x8208x1, .f32⟩
  | .hbm, ⟨17, _⟩ => ⟨S16x1x8208, .f32⟩
  | .hbm, ⟨18, _⟩ => ⟨S16x8208x8208, .f32⟩
  | .hbm, ⟨19, _⟩ => ⟨S16x8208x8208, .f32⟩
  | .hbm, ⟨20, _⟩ => ⟨S16x8208x8208, .f32⟩
  | .hbm, ⟨21, _⟩ => ⟨S16x8208x8208, .f32⟩
  | .hbm, ⟨22, _⟩ => ⟨S1x8208, .i32⟩
  | .hbm, ⟨23, _⟩ => ⟨S8208x1, .i32⟩
  | .hbm, ⟨24, _⟩ => ⟨S8208x8208, .i32⟩
  | .hbm, ⟨25, _⟩ => ⟨S8208x8208, .i32⟩
  | .hbm, ⟨26, _⟩ => ⟨S8208x8208, .i1⟩
  | .hbm, ⟨27, _⟩ => ⟨S_, .f32⟩
  | .hbm, ⟨28, _⟩ => ⟨S_, .f32⟩
  | .hbm, ⟨29, _⟩ => ⟨S16x8208x8208, .i1⟩
  | .hbm, ⟨30, _⟩ => ⟨S16x8208x8208, .f32⟩
  | .hbm, ⟨31, _⟩ => ⟨S16x8208x8208, .f32⟩
  | .hbm, ⟨32, _⟩ => ⟨S_, .f32⟩
  | .hbm, ⟨33, _⟩ => ⟨S16x8208x8208, .f32⟩
  | .hbm, ⟨34, _⟩ => ⟨S_, .f32⟩
  | .hbm, ⟨35, _⟩ => ⟨S16x8208, .f32⟩
  | .hbm, ⟨36, _⟩ => ⟨S16x8208x1, .f32⟩
  | .hbm, ⟨37, _⟩ => ⟨S16x8208x8208, .f32⟩
  | .hbm, ⟨38, _⟩ => ⟨S16x8208x8208, .i1⟩
  | .hbm, ⟨39, _⟩ => ⟨S16x8208x8208, .f32⟩
  | .hbm, ⟨40, _⟩ => ⟨S_, .f32⟩
  | .hbm, ⟨41, _⟩ => ⟨S16x8208, .f32⟩
  | .hbm, ⟨42, _⟩ => ⟨S_, .f32⟩
  | .hbm, ⟨43, _⟩ => ⟨S16x8208, .f32⟩
  | .hbm, ⟨44, _⟩ => ⟨S16x8208, .f32⟩
  | .hbm, ⟨45, _⟩ => ⟨S_, .f32⟩
  | .hbm, ⟨46, _⟩ => ⟨S16x8208, .f32⟩
  | .hbm, ⟨47, _⟩ => ⟨S16x8208, .i1⟩
  | .hbm, ⟨48, _⟩ => ⟨S_, .f32⟩
  | .hbm, ⟨49, _⟩ => ⟨S16x8208, .f32⟩
  | .hbm, ⟨50, _⟩ => ⟨S16x8208, .i1⟩
  | .hbm, ⟨51, _⟩ => ⟨S_, .f32⟩
  | .hbm, ⟨52, _⟩ => ⟨S16x8208, .f32⟩
  | .hbm, ⟨53, _⟩ => ⟨S_, .f32⟩
  | .hbm, ⟨54, _⟩ => ⟨S16x8208, .f32⟩
  | .hbm, ⟨55, _⟩ => ⟨S_, .f32⟩
  | .hbm, ⟨56, _⟩ => ⟨S16x8208, .f32⟩
  | .hbm, ⟨57, _⟩ => ⟨S16x8208, .f32⟩
  | .hbm, ⟨58, _⟩ => ⟨S16x8208, .f32⟩
  | .hbm, ⟨59, _⟩ => ⟨S16x8208x1, .f32⟩
  | .hbm, ⟨60, _⟩ => ⟨S16x8208x8208, .f32⟩
  | .hbm, ⟨61, _⟩ => ⟨S16x8208x8208, .f32⟩
  | .hbm, ⟨62, _⟩ => ⟨S16x8208x8208, .f32⟩
  | .hbm, ⟨63, _⟩ => ⟨S_, .f32⟩
  | .hbm, ⟨64, _⟩ => ⟨S16x8208, .f32⟩
  | .hbm, ⟨65, _⟩ => ⟨S16x8208x1, .f32⟩
  | .hbm, ⟨66, _⟩ => ⟨S16x8208x8208, .f32⟩
  | .hbm, ⟨67, _⟩ => ⟨S16x8208x8208, .f32⟩
  | .hbm, ⟨68, _⟩ => ⟨S16x8208x1, .f32⟩
  | .hbm, ⟨69, _⟩ => ⟨S_, .f32⟩
  | .hbm, ⟨70, _⟩ => ⟨S16x8208x1, .f32⟩
  | .hbm, ⟨71, _⟩ => ⟨S16x8208x1, .f32⟩
  | .hbm, ⟨72, _⟩ => ⟨S8208x16x64, .f32⟩
  | .hbm, ⟨73, _⟩ => ⟨S16x8208x64, .f32⟩
  | .hbm, ⟨74, _⟩ => ⟨S16x8208x64, .f32⟩
  | .hbm, ⟨75, _⟩ => ⟨S8208x16x64, .f32⟩
  | .hbm, ⟨76, _⟩ => ⟨S8208x1024, .f32⟩
  | .hbm, ⟨77, _⟩ => ⟨S8208x16x64, .f32⟩
  | .hbm, ⟨78, _⟩ => ⟨S16x8208x64, .f32⟩
  | .hbm, ⟨79, _⟩ => ⟨S16x64x8208, .f32⟩
  | .hbm, ⟨80, _⟩ => ⟨S16x8208x64, .f32⟩
  | .hbm, ⟨81, _⟩ => ⟨S16x8208x8208, .f32⟩
  | .hbm, ⟨82, _⟩ => ⟨S8208x16x64, .f32⟩
  | .hbm, ⟨83, _⟩ => ⟨S8208x1024, .f32⟩
  | .hbm, ⟨84, _⟩ => ⟨S16x8208x8208, .f32⟩
  | .hbm, ⟨85, _⟩ => ⟨S16x8208x8208, .f32⟩
  | .hbm, ⟨86, _⟩ => ⟨S16x8208x8208, .f32⟩
  | .hbm, ⟨87, _⟩ => ⟨S_, .f32⟩
  | .hbm, ⟨88, _⟩ => ⟨S16x8208, .f32⟩
  | .hbm, ⟨89, _⟩ => ⟨S16x8208x1, .f32⟩
  | .hbm, ⟨90, _⟩ => ⟨S16x8208x1, .f32⟩
  | .hbm, ⟨91, _⟩ => ⟨S16x8208x8208, .f32⟩
  | .hbm, ⟨92, _⟩ => ⟨S16x8208x8208, .f32⟩
  | .hbm, ⟨93, _⟩ => ⟨S_, .f32⟩
  | .hbm, ⟨94, _⟩ => ⟨S16x8208, .f32⟩
  | .hbm, ⟨95, _⟩ => ⟨S16x8208x8208, .f32⟩
  | .hbm, ⟨96, _⟩ => ⟨S16x8208x8208, .f32⟩
  | .hbm, ⟨97, _⟩ => ⟨S16x8208x8208, .f32⟩
  | .hbm, ⟨98, _⟩ => ⟨S_, .f32⟩
  | .hbm, ⟨99, _⟩ => ⟨S16x8208x8208, .f32⟩
  | .hbm, ⟨100, _⟩ => ⟨S16x8208x8208, .f32⟩
  | .hbm, ⟨101, _⟩ => ⟨S_, .f32⟩
  | .hbm, ⟨102, _⟩ => ⟨S16x8208, .f32⟩
  | .hbm, ⟨103, _⟩ => ⟨S16x8208x1, .f32⟩
  | .hbm, ⟨104, _⟩ => ⟨S16x8208x8208, .f32⟩
  | .hbm, ⟨105, _⟩ => ⟨S_, .f32⟩
  | .hbm, ⟨106, _⟩ => ⟨S16x8208, .f32⟩
  | .hbm, ⟨107, _⟩ => ⟨S16x1x8208, .f32⟩
  | .hbm, ⟨108, _⟩ => ⟨S_, .f32⟩
  | .hbm, ⟨109, _⟩ => ⟨S16x8208, .f32⟩
  | .hbm, ⟨110, _⟩ => ⟨S_, .f32⟩
  | .hbm, ⟨111, _⟩ => ⟨S16x8208, .f32⟩
  | .hbm, ⟨112, _⟩ => ⟨S_, .f32⟩
  | .hbm, ⟨113, _⟩ => ⟨S16x8208x8208, .f32⟩
  | .hbm, ⟨114, _⟩ => ⟨S16x8208x8208, .f32⟩
  | .hbm, ⟨115, _⟩ => ⟨S16x8208x64, .f32⟩
  | .hbm, ⟨116, _⟩ => ⟨S16x8208x64, .f32⟩
  | .hbm, ⟨117, _⟩ => ⟨S8208x16, .f32⟩
  | .hbm, ⟨118, _⟩ => ⟨S8208x16x64, .f32⟩
  | .hbm, ⟨119, _⟩ => ⟨S8208x1024, .f32⟩
  | .hbm, ⟨120, _⟩ => ⟨S8208x16, .f32⟩
  | .hbm, ⟨121, _⟩ => ⟨S8208x16, .f32⟩
  | .hbm, ⟨122, _⟩ => ⟨S8208x16x64, .f32⟩
  | .hbm, ⟨123, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== Kernel2.lean ====
abbrev S8208x1024 : Shape := ⟨2, ![8208, 1024]⟩
abbrev S8208x5632 : Shape := ⟨2, ![8208, 5632]⟩
abbrev S_ : Shape := ⟨0, ![]⟩
abbrev S8448x1024 : Shape := ⟨2, ![8448, 1024]⟩
abbrev S1024x8448 : Shape := ⟨2, ![1024, 8448]⟩
abbrev S8448x5632 : Shape := ⟨2, ![8448, 5632]⟩
abbrev S1024x5632 : Shape := ⟨2, ![1024, 5632]⟩
abbrev S1024x1408 : Shape := ⟨2, ![1024, 1408]⟩
abbrev S1408x1408 : Shape := ⟨2, ![1408, 1408]⟩

abbrev nBuf : Space → Nat
  | .hbm => 12
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S1024x8448, .f32⟩
  | .hbm, ⟨6, _⟩ => ⟨S1024x8448, .bf16⟩
  | .hbm, ⟨7, _⟩ => ⟨S_, .i32⟩
  | .hbm, ⟨8, _⟩ => ⟨S_, .f32⟩
  | .hbm, ⟨9, _⟩ => ⟨S8448x5632, .f32⟩
  | .hbm, ⟨10, _⟩ => ⟨S8448x5632, .bf16⟩
  | .hbm, ⟨11, _⟩ => ⟨S1024x5632, .f32⟩
  | .local _ .vmem, ⟨0, _⟩ => ⟨S1024x1408, .bf16⟩
  | .local _ .vmem, ⟨1, _⟩ => ⟨S1024x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8208x1024 : Shape := ⟨2, ![8208, 1024]⟩
abbrev S8208x5632 : Shape := ⟨2, ![8208, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x5632, .f32⟩
  | .hbm, ⟨2, _⟩ => ⟨S_, .f32⟩
  | .hbm, ⟨3, _⟩ => ⟨S1024x5632, .f32⟩
  | .hbm, ⟨4, _⟩ => ⟨S8208x5632, .f32⟩
  | .hbm, ⟨5, _⟩ => ⟨S5632x1024, .f32⟩
  | .hbm, ⟨6, _⟩ => ⟨S1024x5632, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8208x2816 : Shape := ⟨2, ![8208, 2816]⟩
abbrev S8208x1024 : Shape := ⟨2, ![8208, 1024]⟩
abbrev S_ : Shape := ⟨0, ![]⟩
abbrev S8448x2816 : Shape := ⟨2, ![8448, 2816]⟩
abbrev S8448x1024 : Shape := ⟨2, ![8448, 1024]⟩
abbrev S2816x1024 : Shape := ⟨2, ![2816, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8208x2816, .f32⟩
  | .hbm, ⟨1, _⟩ => ⟨S8208x1024, .f32⟩
  | .hbm, ⟨2, _⟩ => ⟨S_, .i32⟩
  | .hbm, ⟨3, _⟩ => ⟨S_, .f32⟩
  | .hbm, ⟨4, _⟩ => ⟨S8448x2816, .f32⟩
  | .hbm, ⟨5, _⟩ => ⟨S8448x2816, .bf16⟩
  | .hbm, ⟨6, _⟩ => ⟨S_, .i32⟩
  | .hbm, ⟨7, _⟩ => ⟨S_, .f32⟩
  | .hbm, ⟨8, _⟩ => ⟨S8448x1024, .f32⟩
  | .hbm, ⟨9, _⟩ => ⟨S8448x1024, .bf16⟩
  | .hbm, ⟨10, _⟩ => ⟨S2816x1024, .f32⟩
  | .local _ .vmem, ⟨0, _⟩ => ⟨S768x1408, .bf16⟩
  | .local _ .vmem, ⟨1, _⟩ => ⟨S768x1408, .bf16⟩
  | .local _ .vmem, ⟨2, _⟩ => ⟨S768x1024, .bf16⟩
  | .local _ .vmem, ⟨3, _⟩ => ⟨S768x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8208x2816 : Shape := ⟨2, ![8208, 2816]⟩
abbrev S8208x1024 : Shape := ⟨2, ![8208, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S8208x1024, .f32⟩
  | .hbm, ⟨2, _⟩ => ⟨S_, .f32⟩
  | .hbm, ⟨3, _⟩ => ⟨S2816x1024, .f32⟩
  | .hbm, ⟨4, _⟩ => ⟨S8208x1024, .f32⟩
  | .hbm, ⟨5, _⟩ => ⟨S1024x2816, .f32⟩
  | .hbm, ⟨6, _⟩ => ⟨S2816x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8208x1024 : Shape := ⟨2, ![8208, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩
abbrev S8448x5632 : Shape := ⟨2, ![8448, 5632]⟩
abbrev S8448x1024 : Shape := ⟨2, ![8448, 1024]⟩
abbrev S1x1024 : Shape := ⟨2, ![1, 1024]⟩
abbrev S384x5632 : Shape := ⟨2, ![384, 5632]⟩
abbrev S384x1024 : Shape := ⟨2, ![384, 1024]⟩
abbrev S384 : Shape := ⟨1, ![384]⟩
abbrev S384x1 : Shape := ⟨2, ![384, 1]⟩

abbrev nBuf : Space → Nat
  | .hbm => 22
  | .vmem => 13
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S8208x5632, .f32⟩
  | .hbm, ⟨4, _⟩ => ⟨S8208x1024, .f32⟩
  | .hbm, ⟨5, _⟩ => ⟨S_, .i32⟩
  | .hbm, ⟨6, _⟩ => ⟨S_, .f32⟩
  | .hbm, ⟨7, _⟩ => ⟨S8448x5632, .f32⟩
  | .hbm, ⟨8, _⟩ => ⟨S8448x5632, .bf16⟩
  | .hbm, ⟨9, _⟩ => ⟨S1024x5632, .bf16⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S8448x1024, .bf16⟩
  | .hbm, ⟨19, _⟩ => ⟨S1x1024, .f32⟩
  | .hbm, ⟨20, _⟩ => ⟨S8208x1024, .f32⟩
  | .hbm, ⟨21, _⟩ => ⟨S1024, .f32⟩
  | .local _ .vmem, ⟨0, _⟩ => ⟨S384x5632, .bf16⟩
  | .local _ .vmem, ⟨1, _⟩ => ⟨S384x5632, .bf16⟩
  | .local _ .vmem, ⟨2, _⟩ => ⟨S1024x5632, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S8208x1024 : Shape := ⟨2, ![8208, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩
abbrev S8208 : Shape := ⟨1, ![8208]⟩
abbrev S8208x1 : Shape := ⟨2, ![8208, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x5632, .f32⟩
  | .hbm, ⟨3, _⟩ => ⟨S8208x5632, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x5632, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S_, .f32⟩
  | .hbm, ⟨34, _⟩ => ⟨S1024, .f32⟩
  | .hbm, ⟨35, _⟩ => ⟨S8208x1024, .f32⟩
  | .hbm, ⟨36, _⟩ => ⟨S_, .f32⟩
  | .hbm, ⟨37, _⟩ => ⟨S8208, .f32⟩
  | .hbm, ⟨38, _⟩ => ⟨S8208x1, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1, .f32⟩
  | .hbm, ⟨43, _⟩ => ⟨S_, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel5.lean ====
abbrev S8208x5632 : Shape := ⟨2, ![8208, 5632]⟩
abbrev S2816x1024 : Shape := ⟨2, ![2816, 1024]⟩
abbrev S8208x1024 : Shape := ⟨2, ![8208, 1024]⟩
abbrev S8208x2816 : Shape := ⟨2, ![8208, 2816]⟩
abbrev S_ : Shape := ⟨0, ![]⟩
abbrev S8448x1024 : Shape := ⟨2, ![8448, 1024]⟩
abbrev S8448x2816 : Shape := ⟨2, ![8448, 2816]⟩
abbrev S8448x5632 : Shape := ⟨2, ![8448, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 21
  | .vmem => 9
  | .smem => 0
  | _ => 0

abbrev bufTy : (tb : Table) → Fin (tcTables nBuf tb) → BufTy
  | .hbm, ⟨0, _⟩ => ⟨S8208x5632, .f32⟩
  | .hbm, ⟨1, _⟩ => ⟨S2816x1024, .f32⟩
  | .hbm, ⟨2, _⟩ => ⟨S8208x1024, .f32⟩
  | .hbm, ⟨3, _⟩ => ⟨S8208x2816, .f32⟩
  | .hbm, ⟨4, _⟩ => ⟨S8208x2816, .f32⟩
  | .hbm, ⟨5, _⟩ => ⟨S_, .i32⟩
  | .hbm, ⟨6, _⟩ => ⟨S_, .f32⟩
  | .hbm, ⟨7, _⟩ => ⟨S8448x1024, .f32⟩
  | .hbm, ⟨8, _⟩ => ⟨S8448x1024, .bf16⟩
  | .hbm, ⟨9, _⟩ => ⟨S2816x1024, .bf16⟩
  | .hbm, ⟨10, _⟩ => ⟨S_, .i32⟩
  | .hbm, ⟨11, _⟩ => ⟨S_, .f32⟩
  | .hbm, ⟨12, _⟩ => ⟨S8448x2816, .f32⟩
  | .hbm, ⟨13, _⟩ => ⟨S8448x2816, .bf16⟩
  | .hbm, ⟨14, _⟩ => ⟨S_, .i32⟩
  | .hbm, ⟨15, _⟩ => ⟨S_, .f32⟩
  | .hbm, ⟨16, _⟩ => ⟨S8448x2816, .f32⟩
  | .hbm, ⟨17, _⟩ => ⟨S8448x2816, .bf16⟩
  | .hbm, ⟨18, _⟩ => ⟨S8448x5632, .bf16⟩
  | .hbm, ⟨19, _⟩ => ⟨S8208x5632, .bf16⟩
  | .hbm, ⟨20, _⟩ => ⟨S8208x5632, .f32⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S8208x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8208x5632 : Shape := ⟨2, ![8208, 5632]⟩
abbrev S2816x1024 : Shape := ⟨2, ![2816, 1024]⟩
abbrev S8208x1024 : Shape := ⟨2, ![8208, 1024]⟩
abbrev S8208x2816 : Shape := ⟨2, ![8208, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8208x5632, .f32⟩
  | .hbm, ⟨1, _⟩ => ⟨S2816x1024, .f32⟩
  | .hbm, ⟨2, _⟩ => ⟨S8208x1024, .f32⟩
  | .hbm, ⟨3, _⟩ => ⟨S8208x2816, .f32⟩
  | .hbm, ⟨4, _⟩ => ⟨S8208x2816, .f32⟩
  | .hbm, ⟨5, _⟩ => ⟨S8208x2816, .f32⟩
  | .hbm, ⟨6, _⟩ => ⟨S8208x2816, .f32⟩
  | .hbm, ⟨7, _⟩ => ⟨S_, .f32⟩
  | .hbm, ⟨8, _⟩ => ⟨S8208x2816, .f32⟩
  | .hbm, ⟨9, _⟩ => ⟨S8208x2816, .f32⟩
  | .hbm, ⟨10, _⟩ => ⟨S_, .f32⟩
  | .hbm, ⟨11, _⟩ => ⟨S8208x2816, .f32⟩
  | .hbm, ⟨12, _⟩ => ⟨S8208x2816, .f32⟩
  | .hbm, ⟨13, _⟩ => ⟨S_, .f32⟩
  | .hbm, ⟨14, _⟩ => ⟨S8208x2816, .f32⟩
  | .hbm, ⟨15, _⟩ => ⟨S8208x2816, .f32⟩
  | .hbm, ⟨16, _⟩ => ⟨S8208x2816, .f32⟩
  | .hbm, ⟨17, _⟩ => ⟨S8208x2816, .f32⟩
  | .hbm, ⟨18, _⟩ => ⟨S8208x2816, .f32⟩
  | .hbm, ⟨19, _⟩ => ⟨S8208x1024, .f32⟩
  | .hbm, ⟨20, _⟩ => ⟨S8208x2816, .f32⟩
  | .hbm, ⟨21, _⟩ => ⟨S8208x2816, .f32⟩
  | .hbm, ⟨22, _⟩ => ⟨S8208x2816, .f32⟩
  | .hbm, ⟨23, _⟩ => ⟨S8208x2816, .f32⟩
  | .hbm, ⟨24, _⟩ => ⟨S8208x2816, .f32⟩
  | .hbm, ⟨25, _⟩ => ⟨S8208x2816, .f32⟩
  | .hbm, ⟨26, _⟩ => ⟨S8208x2816, .f32⟩
  | .hbm, ⟨27, _⟩ => ⟨S8208x5632, .f32⟩
  | _, _ => ⟨S8208x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Kernel6.lean ====
abbrev S8208x1024 : Shape := ⟨2, ![8208, 1024]⟩
abbrev S1024x5632 : Shape := ⟨2, ![1024, 5632]⟩
abbrev S_ : Shape := ⟨0, ![]⟩
abbrev S8448x1024 : Shape := ⟨2, ![8448, 1024]⟩
abbrev S8448x2816 : Shape := ⟨2, ![8448, 2816]⟩
abbrev S768x1024 : Shape := ⟨2, ![768, 1024]⟩
abbrev S1024x1408 : Shape := ⟨2, ![1024, 1408]⟩
abbrev S768x1408 : Shape := ⟨2, ![768, 1408]⟩
abbrev S8208x2816 : Shape := ⟨2, ![8208, 2816]⟩

abbrev nBuf : Space → Nat
  | .hbm => 16
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S1024x5632, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .bf16⟩
  | .hbm, ⟨6, _⟩ => ⟨S1024x5632, .bf16⟩
  | .hbm, ⟨7, _⟩ => ⟨S8448x2816, .bf16⟩
  | .hbm, ⟨8, _⟩ => ⟨S8448x2816, .bf16⟩
  | .hbm, ⟨9, _⟩ => ⟨S8448x2816, .bf16⟩
  | .hbm, ⟨10, _⟩ => ⟨S8208x2816, .bf16⟩
  | .hbm, ⟨11, _⟩ => ⟨S8208x2816, .f32⟩
  | .hbm, ⟨12, _⟩ => ⟨S8208x2816, .bf16⟩
  | .hbm, ⟨13, _⟩ => ⟨S8208x2816, .f32⟩
  | .hbm, ⟨14, _⟩ => ⟨S8208x2816, .bf16⟩
  | .hbm, ⟨15, _⟩ => ⟨S8208x2816, .f32⟩
  | .local _ .vmem, ⟨0, _⟩ => ⟨S768x1024, .bf16⟩
  | .local _ .vmem, ⟨1, _⟩ => ⟨S768x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8208x1024 : Shape := ⟨2, ![8208, 1024]⟩
abbrev S1024x5632 : Shape := ⟨2, ![1024, 5632]⟩
abbrev S8208x5632 : Shape := ⟨2, ![8208, 5632]⟩
abbrev S8208x2816 : Shape := ⟨2, ![8208, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x5632, .f32⟩
  | .hbm, ⟨2, _⟩ => ⟨S8208x5632, .f32⟩
  | .hbm, ⟨3, _⟩ => ⟨S8208x2816, .f32⟩
  | .hbm, ⟨4, _⟩ => ⟨S8208x2816, .f32⟩
  | .hbm, ⟨5, _⟩ => ⟨S8208x2816, .f32⟩
  | .hbm, ⟨6, _⟩ => ⟨S8208x2816, .f32⟩
  | .hbm, ⟨7, _⟩ => ⟨S_, .f32⟩
  | .hbm, ⟨8, _⟩ => ⟨S8208x2816, .f32⟩
  | .hbm, ⟨9, _⟩ => ⟨S8208x2816, .f32⟩
  | .hbm, ⟨10, _⟩ => ⟨S_, .f32⟩
  | .hbm, ⟨11, _⟩ => ⟨S8208x2816, .f32⟩
  | .hbm, ⟨12, _⟩ => ⟨S8208x2816, .f32⟩
  | .hbm, ⟨13, _⟩ => ⟨S8208x2816, .f32⟩
  | .hbm, ⟨14, _⟩ => ⟨S8208x2816, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Kernel7.lean ====
abbrev S8208x1024 : Shape := ⟨2, ![8208, 1024]⟩
abbrev S8208x4096 : Shape := ⟨2, ![8208, 4096]⟩
abbrev S_ : Shape := ⟨0, ![]⟩
abbrev S8448x1024 : Shape := ⟨2, ![8448, 1024]⟩
abbrev S1024x8448 : Shape := ⟨2, ![1024, 8448]⟩
abbrev S8448x4096 : Shape := ⟨2, ![8448, 4096]⟩
abbrev S1024x4096 : Shape := ⟨2, ![1024, 4096]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x4096, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S1024x8448, .f32⟩
  | .hbm, ⟨6, _⟩ => ⟨S1024x8448, .bf16⟩
  | .hbm, ⟨7, _⟩ => ⟨S_, .i32⟩
  | .hbm, ⟨8, _⟩ => ⟨S_, .f32⟩
  | .hbm, ⟨9, _⟩ => ⟨S8448x4096, .f32⟩
  | .hbm, ⟨10, _⟩ => ⟨S8448x4096, .bf16⟩
  | .hbm, ⟨11, _⟩ => ⟨S1024x4096, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8208x1024 : Shape := ⟨2, ![8208, 1024]⟩
abbrev S8208x4096 : Shape := ⟨2, ![8208, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x4096, .f32⟩
  | .hbm, ⟨2, _⟩ => ⟨S_, .f32⟩
  | .hbm, ⟨3, _⟩ => ⟨S1024x4096, .f32⟩
  | .hbm, ⟨4, _⟩ => ⟨S8208x4096, .f32⟩
  | .hbm, ⟨5, _⟩ => ⟨S4096x1024, .f32⟩
  | .hbm, ⟨6, _⟩ => ⟨S1024x4096, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8208x1024 : Shape := ⟨2, ![8208, 1024]⟩
abbrev S8208x4112 : Shape := ⟨2, ![8208, 4112]⟩
abbrev S_ : Shape := ⟨0, ![]⟩
abbrev S8448x1024 : Shape := ⟨2, ![8448, 1024]⟩
abbrev S1024x8448 : Shape := ⟨2, ![1024, 8448]⟩
abbrev S8448x4224 : Shape := ⟨2, ![8448, 4224]⟩
abbrev S1024x4224 : Shape := ⟨2, ![1024, 4224]⟩
abbrev S1024x1408 : Shape := ⟨2, ![1024, 1408]⟩
abbrev S1408x1408 : Shape := ⟨2, ![1408, 1408]⟩
abbrev S1024x4112 : Shape := ⟨2, ![1024, 4112]⟩

abbrev nBuf : Space → Nat
  | .hbm => 13
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8208x4112, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S1024x8448, .f32⟩
  | .hbm, ⟨6, _⟩ => ⟨S1024x8448, .bf16⟩
  | .hbm, ⟨7, _⟩ => ⟨S_, .i32⟩
  | .hbm, ⟨8, _⟩ => ⟨S_, .f32⟩
  | .hbm, ⟨9, _⟩ => ⟨S8448x4224, .f32⟩
  | .hbm, ⟨10, _⟩ => ⟨S8448x4224, .bf16⟩
  | .hbm, ⟨11, _⟩ => ⟨S1024x4224, .f32⟩
  | .hbm, ⟨12, _⟩ => ⟨S1024x4112, .f32⟩
  | .local _ .vmem, ⟨0, _⟩ => ⟨S1024x1408, .bf16⟩
  | .local _ .vmem, ⟨1, _⟩ => ⟨S1024x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8208x1024 : Shape := ⟨2, ![8208, 1024]⟩
abbrev S8208x4112 : Shape := ⟨2, ![8208, 4112]⟩
abbrev S_ : Shape := ⟨0, ![]⟩
abbrev S1024x4112 : Shape := ⟨2, ![1024, 4112]⟩
abbrev S4112x1024 : Shape := ⟨2, ![4112, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x4112, .f32⟩
  | .hbm, ⟨2, _⟩ => ⟨S_, .f32⟩
  | .hbm, ⟨3, _⟩ => ⟨S1024x4112, .f32⟩
  | .hbm, ⟨4, _⟩ => ⟨S8208x4112, .f32⟩
  | .hbm, ⟨5, _⟩ => ⟨S4112x1024, .f32⟩
  | .hbm, ⟨6, _⟩ => ⟨S1024x4112, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8208x1024 : Shape := ⟨2, ![8208, 1024]⟩
abbrev S1024 : Shape := ⟨1, ![1024]⟩
abbrev S1024x4096 : Shape := ⟨2, ![1024, 4096]⟩
abbrev S8208x4096 : Shape := ⟨2, ![8208, 4096]⟩
abbrev S_ : Shape := ⟨0, ![]⟩
abbrev S8448x4096 : Shape := ⟨2, ![8448, 4096]⟩
abbrev S8448x1024 : Shape := ⟨2, ![8448, 1024]⟩
abbrev S1x1024 : Shape := ⟨2, ![1, 1024]⟩
abbrev S384x4096 : Shape := ⟨2, ![384, 4096]⟩
abbrev S384x1024 : Shape := ⟨2, ![384, 1024]⟩
abbrev S384 : Shape := ⟨1, ![384]⟩
abbrev S384x1 : Shape := ⟨2, ![384, 1]⟩

abbrev nBuf : Space → Nat
  | .hbm => 22
  | .vmem => 13
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S8208x4096, .f32⟩
  | .hbm, ⟨4, _⟩ => ⟨S8208x1024, .f32⟩
  | .hbm, ⟨5, _⟩ => ⟨S_, .i32⟩
  | .hbm, ⟨6, _⟩ => ⟨S_, .f32⟩
  | .hbm, ⟨7, _⟩ => ⟨S8448x4096, .f32⟩
  | .hbm, ⟨8, _⟩ => ⟨S8448x4096, .bf16⟩
  | .hbm, ⟨9, _⟩ => ⟨S1024x4096, .bf16⟩
  | .hbm, ⟨10, _⟩ => ⟨S_, .i32⟩
  | .hbm, ⟨11, _⟩ => ⟨S_, .f32⟩
  | .hbm, ⟨12, _⟩ => ⟨S8448x1024, .f32⟩
  | .hbm, ⟨13, _⟩ => ⟨S1x1024, .f32⟩
  | .hbm, ⟨14, _⟩ => ⟨S_, .i32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S8448x1024, .bf16⟩
  | .hbm, ⟨19, _⟩ => ⟨S1x1024, .f32⟩
  | .hbm, ⟨20, _⟩ => ⟨S8208x1024, .f32⟩
  | .hbm, ⟨21, _⟩ => ⟨S1024, .f32⟩
  | .local _ .vmem, ⟨0, _⟩ => ⟨S384x4096, .bf16⟩
  | .local _ .vmem, ⟨1, _⟩ => ⟨S384x4096, .bf16⟩
  | .local _ .vmem, ⟨2, _⟩ => ⟨S1024x4096, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8208x1024 : Shape := ⟨2, ![8208, 1024]⟩
abbrev S1024 : Shape := ⟨1, ![1024]⟩
abbrev S1024x4096 : Shape := ⟨2, ![1024, 4096]⟩
abbrev S8208x4096 : Shape := ⟨2, ![8208, 4096]⟩
abbrev S_ : Shape := ⟨0, ![]⟩
abbrev S8208 : Shape := ⟨1, ![8208]⟩
abbrev S8208x1 : Shape := ⟨2, ![8208, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024, .f32⟩
  | .hbm, ⟨2, _⟩ => ⟨S1024x4096, .f32⟩
  | .hbm, ⟨3, _⟩ => ⟨S8208x4096, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S1x1024, .f32⟩
  | .hbm, ⟨23, _⟩ => ⟨S8208x1024, .f32⟩
  | .hbm, ⟨24, _⟩ => ⟨S8208x1024, .f32⟩
  | .hbm, ⟨25, _⟩ => ⟨S8208x4096, .f32⟩
  | .hbm, ⟨26, _⟩ => ⟨S8208x1024, .f32⟩
  | .hbm, ⟨27, _⟩ => ⟨S8208x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8208x1024, .f32⟩
  | .hbm, ⟨32, _⟩ => ⟨S8208x1024, .f32⟩
  | .hbm, ⟨33, _⟩ => ⟨S_, .f32⟩
  | .hbm, ⟨34, _⟩ => ⟨S1024, .f32⟩
  | .hbm, ⟨35, _⟩ => ⟨S8208x1024, .f32⟩
  | .hbm, ⟨36, _⟩ => ⟨S_, .f32⟩
  | .hbm, ⟨37, _⟩ => ⟨S8208, .f32⟩
  | .hbm, ⟨38, _⟩ => ⟨S8208x1, .f32⟩
  | .hbm, ⟨39, _⟩ => ⟨S8208x1024, .f32⟩
  | .hbm, ⟨40, _⟩ => ⟨S8208x1024, .f32⟩
  | .hbm, ⟨41, _⟩ => ⟨S8208x1024, .f32⟩
  | .hbm, ⟨42, _⟩ => ⟨S8208x1, .f32⟩
  | .hbm, ⟨43, _⟩ => ⟨S_, .f32⟩
  | .hbm, ⟨44, _⟩ => ⟨S8208x1, .f32⟩
  | .hbm, ⟨45, _⟩ => ⟨S8208x1, .f32⟩
  | .hbm, ⟨46, _⟩ => ⟨S_, .f32⟩
  | .hbm, ⟨47, _⟩ => ⟨S8208, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel10.lean ====
abbrev S8208x1024 : Shape := ⟨2, ![8208, 1024]⟩
abbrev S_ : Shape := ⟨0, ![]⟩
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .bf16⟩
  | .hbm, ⟨6, _⟩ => ⟨S_, .i32⟩
  | .hbm, ⟨7, _⟩ => ⟨S_, .f32⟩
  | .hbm, ⟨8, _⟩ => ⟨S8448x1024, .f32⟩
  | .hbm, ⟨9, _⟩ => ⟨S8448x1024, .bf16⟩
  | .hbm, ⟨10, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8208x1024 : Shape := ⟨2, ![8208, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S_, .f32⟩
  | .hbm, ⟨3, _⟩ => ⟨S1024x1024, .f32⟩
  | .hbm, ⟨4, _⟩ => ⟨S8208x1024, .f32⟩
  | .hbm, ⟨5, _⟩ => ⟨S1024x1024, .f32⟩
  | .hbm, ⟨6, _⟩ => ⟨S1024x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S1024x1024 : Shape := ⟨2, ![1024, 1024]⟩
abbrev S8208x1024 : Shape := ⟨2, ![8208, 1024]⟩
abbrev S_ : Shape := ⟨0, ![]⟩
abbrev S8448x1024 : Shape := ⟨2, ![8448, 1024]⟩
abbrev S768x1024 : Shape := ⟨2, ![768, 1024]⟩

abbrev nBuf : Space → Nat
  | .hbm => 9
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8208x1024, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .bf16⟩
  | .hbm, ⟨6, _⟩ => ⟨S1024x1024, .bf16⟩
  | .hbm, ⟨7, _⟩ => ⟨S8448x1024, .f32⟩
  | .hbm, ⟨8, _⟩ => ⟨S8208x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S1024x1024 : Shape := ⟨2, ![1024, 1024]⟩
abbrev S8208x1024 : Shape := ⟨2, ![8208, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8208x1024, .f32⟩
  | .hbm, ⟨2, _⟩ => ⟨S_, .f32⟩
  | .hbm, ⟨3, _⟩ => ⟨S8208x1024, .f32⟩
  | .hbm, ⟨4, _⟩ => ⟨S8208x1024, .f32⟩
  | .hbm, ⟨5, _⟩ => ⟨S8208x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8208x1024 : Shape := ⟨2, ![8208, 1024]⟩
abbrev S1024x4096 : Shape := ⟨2, ![1024, 4096]⟩
abbrev S_ : Shape := ⟨0, ![]⟩
abbrev S8448x1024 : Shape := ⟨2, ![8448, 1024]⟩
abbrev S8448x4096 : Shape := ⟨2, ![8448, 4096]⟩
abbrev S768x1024 : Shape := ⟨2, ![768, 1024]⟩
abbrev S1024x1024 : Shape := ⟨2, ![1024, 1024]⟩
abbrev S8208x4096 : Shape := ⟨2, ![8208, 4096]⟩

abbrev nBuf : Space → Nat
  | .hbm => 9
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S1024x4096, .f32⟩
  | .hbm, ⟨2, _⟩ => ⟨S_, .i32⟩
  | .hbm, ⟨3, _⟩ => ⟨S_, .f32⟩
  | .hbm, ⟨4, _⟩ => ⟨S8448x1024, .f32⟩
  | .hbm, ⟨5, _⟩ => ⟨S8448x1024, .bf16⟩
  | .hbm, ⟨6, _⟩ => ⟨S1024x4096, .bf16⟩
  | .hbm, ⟨7, _⟩ => ⟨S8448x4096, .f32⟩
  | .hbm, ⟨8, _⟩ => ⟨S8208x4096, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8208x1024 : Shape := ⟨2, ![8208, 1024]⟩
abbrev S1024x4096 : Shape := ⟨2, ![1024, 4096]⟩
abbrev S8208x4096 : Shape := ⟨2, ![8208, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x4096, .f32⟩
  | .hbm, ⟨2, _⟩ => ⟨S8208x4096, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8208x1024 : Shape := ⟨2, ![8208, 1024]⟩
abbrev S1024x4112 : Shape := ⟨2, ![1024, 4112]⟩
abbrev S_ : Shape := ⟨0, ![]⟩
abbrev S1024x4224 : Shape := ⟨2, ![1024, 4224]⟩
abbrev S8448x1024 : Shape := ⟨2, ![8448, 1024]⟩
abbrev S8448x4224 : Shape := ⟨2, ![8448, 4224]⟩
abbrev S768x1024 : Shape := ⟨2, ![768, 1024]⟩
abbrev S1024x1408 : Shape := ⟨2, ![1024, 1408]⟩
abbrev S768x1408 : Shape := ⟨2, ![768, 1408]⟩
abbrev S8208x4112 : Shape := ⟨2, ![8208, 4112]⟩

abbrev nBuf : Space → Nat
  | .hbm => 12
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S1024x4112, .f32⟩
  | .hbm, ⟨2, _⟩ => ⟨S_, .i32⟩
  | .hbm, ⟨3, _⟩ => ⟨S_, .f32⟩
  | .hbm, ⟨4, _⟩ => ⟨S1024x4224, .f32⟩
  | .hbm, ⟨5, _⟩ => ⟨S_, .i32⟩
  | .hbm, ⟨6, _⟩ => ⟨S_, .f32⟩
  | .hbm, ⟨7, _⟩ => ⟨S8448x1024, .f32⟩
  | .hbm, ⟨8, _⟩ => ⟨S8448x1024, .bf16⟩
  | .hbm, ⟨9, _⟩ => ⟨S1024x4224, .bf16⟩
  | .hbm, ⟨10, _⟩ => ⟨S8448x4224, .f32⟩
  | .hbm, ⟨11, _⟩ => ⟨S8208x4112, .f32⟩
  | .local _ .vmem, ⟨0, _⟩ => ⟨S768x1024, .bf16⟩
  | .local _ .vmem, ⟨1, _⟩ => ⟨S768x1024, .bf16⟩
  | .local _ .vmem, ⟨2, _⟩ => ⟨S1024x1408, .bf16⟩
  | .local _ .vmem, ⟨3, _⟩ => ⟨S1024x1408, .bf16⟩
  | .local _ .vmem, ⟨4, _⟩ => ⟨S768x1408, .f32⟩
  | .local _ .vmem, ⟨5, _⟩ => ⟨S768x1408, .f32⟩
  | .local _ .vmem, ⟨6, _⟩ => ⟨S768x1408, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8208x1024 : Shape := ⟨2, ![8208, 1024]⟩
abbrev S1024x4112 : Shape := ⟨2, ![1024, 4112]⟩
abbrev S8208x4112 : Shape := ⟨2, ![8208, 4112]⟩

abbrev nBuf : Space → Nat
  | .hbm => 3
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x4112, .f32⟩
  | .hbm, ⟨2, _⟩ => ⟨S8208x4112, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8208x2816 : Shape := ⟨2, ![8208, 2816]⟩
abbrev S2816x1024 : Shape := ⟨2, ![2816, 1024]⟩
abbrev S8208x1024 : Shape := ⟨2, ![8208, 1024]⟩
abbrev S_ : Shape := ⟨0, ![]⟩
abbrev S8448x2816 : Shape := ⟨2, ![8448, 2816]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S_, .i32⟩
  | .hbm, ⟨4, _⟩ => ⟨S_, .f32⟩
  | .hbm, ⟨5, _⟩ => ⟨S8448x2816, .f32⟩
  | .hbm, ⟨6, _⟩ => ⟨S8448x2816, .bf16⟩
  | .hbm, ⟨7, _⟩ => ⟨S2816x1024, .bf16⟩
  | .hbm, ⟨8, _⟩ => ⟨S_, .i32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8208x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8208x2816 : Shape := ⟨2, ![8208, 2816]⟩
abbrev S2816x1024 : Shape := ⟨2, ![2816, 1024]⟩
abbrev S8208x1024 : Shape := ⟨2, ![8208, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S8208x1024, .f32⟩
  | .hbm, ⟨4, _⟩ => ⟨S8208x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S8208x1024 : Shape := ⟨2, ![8208, 1024]⟩
abbrev S8208x16 : Shape := ⟨2, ![8208, 16]⟩
abbrev S_ : Shape := ⟨0, ![]⟩
abbrev S8448x1024 : Shape := ⟨2, ![8448, 1024]⟩
abbrev S8448x8x128 : Shape := ⟨3, ![8448, 8, 128]⟩
abbrev S8448x128 : Shape := ⟨2, ![8448, 128]⟩
abbrev S1x1x128 : Shape := ⟨3, ![1, 1, 128]⟩
abbrev S8448x1 : Shape := ⟨2, ![8448, 1]⟩
abbrev S8448x16 : Shape := ⟨2, ![8448, 16]⟩
abbrev S8448x8x2 : Shape := ⟨3, ![8448, 8, 2]⟩
abbrev S8448x8x1 : Shape := ⟨3, ![8448, 8, 1]⟩
abbrev S1x1024 : Shape := ⟨2, ![1, 1024]⟩
abbrev S8448x4224 : Shape := ⟨2, ![8448, 4224]⟩
abbrev S768x128 : Shape := ⟨2, ![768, 128]⟩
abbrev S1x128 : Shape := ⟨2, ![1, 128]⟩
abbrev S768 : Shape := ⟨1, ![768]⟩
abbrev S768x1 : Shape := ⟨2, ![768, 1]⟩
abbrev S256x128 : Shape := ⟨2, ![256, 128]⟩
abbrev S768x256 : Shape := ⟨2, ![768, 256]⟩
abbrev S1x768 : Shape := ⟨2, ![1, 768]⟩
abbrev S768x768 : Shape := ⟨2, ![768, 768]⟩

abbrev nBuf : Space → Nat
  | .hbm => 165
  | .vmem => 20
  | .smem => 0
  | _ => 0

abbrev hbmTy0_0 (i : Nat) : BufTy := match i % 128 with
  | 0 => ⟨S8208x1024, .f32⟩
  | 1 => ⟨S8208x1024, .f32⟩
  | 2 => ⟨S8208x1024, .f32⟩
  | 3 => ⟨S8208x16, .f32⟩
  | 4 => ⟨S8208x1024, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S8208x1024, .f32⟩
  | 12 => ⟨S8208x1024, .f32⟩
  | 13 => ⟨S_, .i32⟩
  | 14 => ⟨S_, .f32⟩
  | 15 => ⟨S8448x1024, .f32⟩
  | 16 => ⟨S8448x1024, .bf16⟩
  | 17 => ⟨S_, .i32⟩
  | 18 => ⟨S_, .f32⟩
  | 19 => ⟨S8448x1024, .f32⟩
  | 20 => ⟨S8448x8x128, .f32⟩
  | 21 => ⟨S8208x16, .f32⟩
  | 22 => ⟨S8208x16, .f32⟩
  | 23 => ⟨S_, .i32⟩
  | 24 => ⟨S_, .f32⟩
  | 25 => ⟨S8448x128, .f32⟩
  | 26 => ⟨S1x1x128, .i32⟩
  | 27 => ⟨S8448x1, .i32⟩
  | 28 => ⟨S_, .i32⟩
  | 29 => ⟨S8448x1, .i32⟩
  | 30 => ⟨S8448x1, .i1⟩
  | 31 => ⟨S8448x16, .f32⟩
  | 32 => ⟨S8448x16, .f32⟩
  | 33 => ⟨S_, .f32⟩
  | 34 => ⟨S_, .f32⟩
  | 35 => ⟨S8448x16, .i1⟩
  | 36 => ⟨S8448x16, .f32⟩
  | 37 => ⟨S8448x16, .f32⟩
  | 38 => ⟨S8448x8x2, .f32⟩
  | 39 => ⟨S_, .i32⟩
  | 40 => ⟨S1x1x128, .i32⟩
  | 41 => ⟨S1x1x128, .i1⟩
  | 42 => ⟨S_, .f32⟩
  | 43 => ⟨S_, .f32⟩
  | 44 => ⟨S8448x8x128, .i1⟩
  | 45 => ⟨S8448x8x128, .f32⟩
  | 46 => ⟨S8448x8x128, .f32⟩
  | 47 => ⟨S_, .i32⟩
  | 48 => ⟨S1x1x128, .i32⟩
  | 49 => ⟨S1x1x128, .i1⟩
  | 50 => ⟨S_, .f32⟩
  | 51 => ⟨S_, .f32⟩
  | 52 => ⟨S8448x8x128, .i1⟩
  | 53 => ⟨S8448x8x128, .f32⟩
  | 54 => ⟨S8448x8x128, .f32⟩
  | 55 => ⟨S8448x8x1, .f32⟩
  | 56 => ⟨S8448x8x1, .bf16⟩
  | 57 => ⟨S8448x8x1, .f32⟩
  | 58 => ⟨S8448x8x1, .f32⟩
  | 59 => ⟨S8448x8x1, .bf16⟩
  | 60 => ⟨S8448x8x1, .f32⟩
  | 61 => ⟨S8448x8x1, .f32⟩
  | 62 => ⟨S8448x8x1, .f32⟩
  | 63 => ⟨S8448x8x1, .f32⟩
  | 64 => ⟨S8448x8x1, .bf16⟩
  | 65 => ⟨S8448x8x1, .f32⟩
  | 66 => ⟨S8448x8x1, .f32⟩
  | 67 => ⟨S8448x8x1, .bf16⟩
  | 68 => ⟨S8448x8x1, .f32⟩
  | 69 => ⟨S8448x8x1, .f32⟩
  | 70 => ⟨S8448x8x1, .f32⟩
  | 71 => ⟨S_, .i32⟩
  | 72 => ⟨S1x1x128, .i32⟩
  | 73 => ⟨S1x1x128, .i1⟩
  | 74 => ⟨S8448x8x128, .i1⟩
  | 75 => ⟨S8448x8x128, .f32⟩
  | 76 => ⟨S8448x8x128, .f32⟩
  | 77 => ⟨S_, .i32⟩
  | 78 => ⟨S1x1x128, .i32⟩
  | 79 => ⟨S1x1x128, .i1⟩
  | 80 => ⟨S8448x8x128, .i1⟩
  | 81 => ⟨S8448x8x128, .f32⟩
  | 82 => ⟨S8448x8x128, .f32⟩
  | 83 => ⟨S_, .i32⟩
  | 84 => ⟨S1x1x128, .i32⟩
  | 85 => ⟨S1x1x128, .i1⟩
  | 86 => ⟨S8448x8x128, .i1⟩
  | 87 => ⟨S8448x8x128, .f32⟩
  | 88 => ⟨S8448x8x128, .f32⟩
  | 89 => ⟨S_, .i32⟩
  | 90 => ⟨S1x1x128, .i32⟩
  | 91 => ⟨S1x1x128, .i1⟩
  | 92 => ⟨S8448x8x128, .i1⟩
  | 93 => ⟨S8448x8x128, .f32⟩
  | 94 => ⟨S8448x8x128, .f32⟩
  | 95 => ⟨S_, .i32⟩
  | 96 => ⟨S1x1x128, .i32⟩
  | 97 => ⟨S1x1x128, .i1⟩
  | 98 => ⟨S8448x8x128, .i1⟩
  | 99 => ⟨S8448x8x128, .f32⟩
  | 100 => ⟨S8448x8x128, .f32⟩
  | 101 => ⟨S_, .i32⟩
  | 102 => ⟨S1x1x128, .i32⟩
  | 103 => ⟨S1x1x128, .i1⟩
  | 104 => ⟨S8448x8x128, .i1⟩
  | 105 => ⟨S8448x8x128, .f32⟩
  | 106 => ⟨S8448x8x128, .f32⟩
  | 107 => ⟨S8448x1024, .f32⟩
  | 108 => ⟨S8448x1024, .bf16⟩
  | 109 => ⟨S8448x1024, .f32⟩
  | 110 => ⟨S8448x1024, .bf16⟩
  | 111 => ⟨S1x1024, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S1x1024, .i32⟩
  | 119 => ⟨S1x1024, .i32⟩
  | 120 => ⟨S_, .i32⟩
  | 121 => ⟨S1x1024, .i32⟩
  | 122 => ⟨S1x1024, .i1⟩
  | 123 => ⟨S_, .i32⟩
  | 124 => ⟨S1x1024, .i32⟩
  | 125 => ⟨S1x1024, .i1⟩
  | 126 => ⟨S_, .i32⟩
  | 127 => ⟨S_, .i1⟩
  | _ => ⟨S8208x1024, .f32⟩

abbrev hbmTy0_1 (i : Nat) : BufTy := match i % 128 with
  | 0 => ⟨S1x1024, .i1⟩
  | 1 => ⟨S1x1024, .i1⟩
  | 2 => ⟨S1x1024, .i1⟩
  | 3 => ⟨S1x1024, .i32⟩
  | 4 => ⟨S1x1024, .i32⟩
  | 5 => ⟨S1x1024, .i32⟩
  | 6 => ⟨S_, .i32⟩
  | 7 => ⟨S1x1024, .i32⟩
  | 8 => ⟨S1x1024, .i1⟩
  | 9 => ⟨S8448x1024, .i1⟩
  | 10 => ⟨S8448x1024, .i1⟩
  | 11 => ⟨S8448x1024, .i1⟩
  | 12 => ⟨S_, .bf16⟩
  | 13 => ⟨S8448x1024, .bf16⟩
  | 14 => ⟨S8448x1024, .bf16⟩
  | 15 => ⟨S_, .i32⟩
  | 16 => ⟨S1x1024, .i32⟩
  | 17 => ⟨S1x1024, .i1⟩
  | 18 => ⟨S8448x1024, .i1⟩
  | 19 => ⟨S8448x1024, .i1⟩
  | 20 => ⟨S8448x1024, .i1⟩
  | 21 => ⟨S_, .bf16⟩
  | 22 => ⟨S8448x1024, .bf16⟩
  | 23 => ⟨S8448x1024, .bf16⟩
  | 24 => ⟨S_, .i32⟩
  | 25 => ⟨S_, .f32⟩
  | 26 => ⟨S8448x4224, .f32⟩
  | 27 => ⟨S_, .i32⟩
  | 28 => ⟨S_, .f32⟩
  | 29 => ⟨S8448x1024, .f32⟩
  | 30 => ⟨S8448x1024, .bf16⟩
  | 31 => ⟨S8448x1024, .f32⟩
  | 32 => ⟨S8448x1024, .bf16⟩
  | 33 => ⟨S8448x1024, .f32⟩
  | 34 => ⟨S8448x1024, .f32⟩
  | 35 => ⟨S8208x1024, .bf16⟩
  | 36 => ⟨S8208x1024, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | .local _ .vmem, ⟨0, _⟩ => ⟨S768x128, .bf16⟩
  | .local _ .vmem, ⟨1, _⟩ => ⟨S768x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S8448x128, .bf16⟩
  | .local _ .vmem, ⟨7, _⟩ => ⟨S8448x128, .bf16⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S768x128, .f32⟩
  | .local _ .vmem, ⟨13, _⟩ => ⟨S768x128, .f32⟩
  | .local _ .vmem, ⟨14, _⟩ => ⟨S768x128, .bf16⟩
  | .local _ .vmem, ⟨15, _⟩ => ⟨S768x128, .bf16⟩
  | .local _ .vmem, ⟨16, _⟩ => ⟨S768x128, .f32⟩
  | .local _ .vmem, ⟨17, _⟩ => ⟨S768x128, .f32⟩
  | .local _ .vmem, ⟨18, _⟩ => ⟨S768x128, .f32⟩
  | .local _ .vmem, ⟨19, _⟩ => ⟨S768x128, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_v22 : Ref sig .tc := ⟨.hbm, 46, rfl⟩
abbrev main_c_8 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_call6_v0 : Ref sig .tc := ⟨.hbm, 74, rfl⟩
abbrev main_call6_v1 : Ref sig .tc := ⟨.hbm, 75, rfl⟩
abbrev main_v44 : Ref sig .tc := ⟨.hbm, 76, rfl⟩
abbrev main_c_11 : Ref sig .tc := ⟨.hbm, 77, rfl⟩
abbrev main_v45 : Ref sig .tc := ⟨.hbm, 78, rfl⟩
abbrev main_v46 : Ref sig .tc := ⟨.hbm, 79, rfl⟩
abbrev main_call7_v0 : Ref sig .tc := ⟨.hbm, 80, rfl⟩
abbrev main_call7_v1 : Ref sig .tc := ⟨.hbm, 81, rfl⟩
abbrev main_v47 : Ref sig .tc := ⟨.hbm, 82, rfl⟩
abbrev main_c_12 : Ref sig .tc := ⟨.hbm, 83, rfl⟩
abbrev main_v48 : Ref sig .tc := ⟨.hbm, 84, rfl⟩
abbrev main_v49 : Ref sig .tc := ⟨.hbm, 85, rfl⟩
abbrev main_call8_v0 : Ref sig .tc := ⟨.hbm, 86, rfl⟩
abbrev main_call8_v1 : Ref sig .tc := ⟨.hbm, 87, rfl⟩
abbrev main_v50 : Ref sig .tc := ⟨.hbm, 88, rfl⟩
abbrev main_c_13 : Ref sig .tc := ⟨.hbm, 89, rfl⟩
abbrev main_v51 : Ref sig .tc := ⟨.hbm, 90, rfl⟩
abbrev main_v52 : Ref sig .tc := ⟨.hbm, 91, rfl⟩
abbrev main_call9_v0 : Ref sig .tc := ⟨.hbm, 92, rfl⟩
abbrev main_call9_v1 : Ref sig .tc := ⟨.hbm, 93, rfl⟩
abbrev main_v53 : Ref sig .tc := ⟨.hbm, 94, rfl⟩
abbrev main_c_14 : Ref sig .tc := ⟨.hbm, 95, rfl⟩
abbrev main_v54 : Ref sig .tc := ⟨.hbm, 96, rfl⟩
abbrev main_v55 : Ref sig .tc := ⟨.hbm, 97, rfl⟩
abbrev main_call10_v0 : Ref sig .tc := ⟨.hbm, 98, rfl⟩
abbrev main_call10_v1 : Ref sig .tc := ⟨.hbm, 99, rfl⟩
abbrev main_v56 : Ref sig .tc := ⟨.hbm, 100, rfl⟩
abbrev main_c_15 : Ref sig .tc := ⟨.hbm, 101, rfl⟩
abbrev main_v57 : Ref sig .tc := ⟨.hbm, 102, rfl⟩
abbrev main_v58 : Ref sig .tc := ⟨.hbm, 103, rfl⟩
abbrev main_call11_v0 : Ref sig .tc := ⟨.hbm, 104, rfl⟩
abbrev main_call11_v1 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_16 : Ref sig .tc := ⟨.hbm, 112, rfl⟩
abbrev main_call12_v0 : Ref sig .tc := ⟨.hbm, 113, rfl⟩
abbrev main_call12_c : Ref sig .tc := ⟨.hbm, 114, rfl⟩
abbrev main_call12_v1 : Ref sig .tc := ⟨.hbm, 115, rfl⟩
abbrev main_call12_c_0 : Ref sig .tc := ⟨.hbm, 116, rfl⟩
abbrev main_call12_v2 : Ref sig .tc := ⟨.hbm, 117, rfl⟩
abbrev main_call12_v3 : Ref sig .tc := ⟨.hbm, 118, rfl⟩
abbrev main_call12_v4 : Ref sig .tc := ⟨.hbm, 119, rfl⟩
abbrev main_call12_c_1 : Ref sig .tc := ⟨.hbm, 120, rfl⟩
abbrev main_call12_v5 : Ref sig .tc := ⟨.hbm, 121, rfl⟩
abbrev main_call12_v6 : Ref sig .tc := ⟨.hbm, 122, rfl⟩
abbrev main_call12_c_2 : Ref sig .tc := ⟨.hbm, 123, rfl⟩
abbrev main_call12_v7 : Ref sig .tc := ⟨.hbm, 124, rfl⟩
abbrev main_call12_v8 : Ref sig .tc := ⟨.hbm, 125, rfl⟩
abbrev main_call12_c_3 : Ref sig .tc := ⟨.hbm, 126, rfl⟩
abbrev main_call12_v9 : Ref sig .tc := ⟨.hbm, 127, rfl⟩
abbrev main_call12_v10 : Ref sig .tc := ⟨.hbm, 128, rfl⟩
abbrev main_call12_v11 : Ref sig .tc := ⟨.hbm, 129, rfl⟩
abbrev main_call12_v12 : Ref sig .tc := ⟨.hbm, 130, rfl⟩
abbrev main_call12_v13 : Ref sig .tc := ⟨.hbm, 131, rfl⟩
abbrev main_call12_v14 : Ref sig .tc := ⟨.hbm, 132, rfl⟩
abbrev main_v65 : Ref sig .tc := ⟨.hbm, 133, rfl⟩
abbrev main_c_17 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_cst_18 : Ref sig .tc := ⟨.hbm, 140, rfl⟩
abbrev main_call13_v0 : Ref sig .tc := ⟨.hbm, 141, rfl⟩
abbrev main_v71 : Ref sig .tc := ⟨.hbm, 142, rfl⟩
abbrev main_c_19 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_cst_20 : Ref sig .tc := ⟨.hbm, 149, rfl⟩
abbrev main_call14_v0 : Ref sig .tc := ⟨.hbm, 150, rfl⟩
abbrev main_v77 : Ref sig .tc := ⟨.hbm, 151, rfl⟩
abbrev main_c_21 : Ref sig .tc := ⟨.hbm, 152, rfl⟩
abbrev main_call15_v0 : Ref sig .tc := ⟨.hbm, 153, rfl⟩
abbrev main_v78 : Ref sig .tc := ⟨.hbm, 154, rfl⟩
abbrev main_c_22 : Ref sig .tc := ⟨.hbm, 155, rfl⟩
abbrev main_call16_v0 : Ref sig .tc := ⟨.hbm, 156, rfl⟩
abbrev main_v79 : Ref sig .tc := ⟨.hbm, 157, rfl⟩
abbrev main_v80 : Ref sig .tc := ⟨.hbm, 158, rfl⟩
abbrev main_v81_0 : Ref sig .tc := ⟨.hbm, 159, rfl⟩
abbrev main_v81_1 : Ref sig .tc := ⟨.hbm, 160, rfl⟩
abbrev main_v81_2 : Ref sig .tc := ⟨.hbm, 161, rfl⟩
abbrev main_v81_3 : Ref sig .tc := ⟨.hbm, 162, rfl⟩
abbrev main_v82 : Ref sig .tc := ⟨.hbm, 163, rfl⟩
abbrev main_v83 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_18 : BitVec 32 := 1#32
  ⟨c0_i32_16, v61, c1_i32_18⟩
def k0_mult1 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c768_i32_48 : BitVec 32 := 768#32
  let v168 : BitVec 32 := Scalar.muli arg12 c768_i32_48
  let c0_i32_49 : BitVec 32 := 0#32
  let v169 : BitVec 32 := Scalar.addi v168 c0_i32_49
  v169
def k0_off1 (i : grid0.Coords) (k0_t1 : Fin (k0_t1_loop i).trips) (c0_i32_49 : BitVec 32) : Fin 2 → Nat :=
  let c0_i32_16 : BitVec 32 := 0#32
  let c1_i32_18 : BitVec 32 := 1#32
  let arg12 : BitVec 32 := Scf.iv c0_i32_16 c1_i32_18 k0_t1
  let c768_i32_48 : BitVec 32 := 768#32
  let v168 : BitVec 32 := Scalar.muli arg12 c768_i32_48
  let v169 : BitVec 32 := Scalar.addi v168 c0_i32_49
  let v170 : BitVec 32 := v169
  let v171 : Index := Scalar.indexCast v170
  let c0_50 : Index := 0#32
  ![v171.toNat, 0]
def k0_mult2 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c768_i32_59 : BitVec 32 := 768#32
  let v222 : BitVec 32 := Scalar.muli arg12 c768_i32_59
  let c256_i32 : BitVec 32 := 256#32
  let v223 : BitVec 32 := Scalar.addi v222 c256_i32
  v223
def k0_mult3 (i : grid0.Coords) (k0_t1 : Fin (k0_t1_loop i).trips) : BitVec 32 :=
  let c0_i32_16 : BitVec 32 := 0#32
  let c1_i32_18 : BitVec 32 := 1#32
  let arg12 : BitVec 32 := Scf.iv c0_i32_16 c1_i32_18 k0_t1
  let c768_i32_69 : BitVec 32 := 768#32
  let v276 : BitVec 32 := Scalar.muli arg12 c768_i32_69
  let c512_i32 : BitVec 32 := 512#32
  let v277 : BitVec 32 := Scalar.addi v276 c512_i32
  v277
@[reducible] def k0_t2_loop (i : grid0.Coords) : Scf.Loop 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let v58 : BitVec 32 := Scalar.addi c0_i32_16 v57
  let c1_i32_19 : BitVec 32 := 1#32
  ⟨v61, v58, c1_i32_19⟩
def k0_mult4 (i : grid0.Coords) (k0_t2 : Fin (k0_t2_loop i).trips) : BitVec 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_48 : BitVec 32 := 768#32
  let v168 : BitVec 32 := Scalar.muli arg12 c768_i32_48
  let c0_i32_49 : BitVec 32 := 0#32
  let v169 : BitVec 32 := Scalar.addi v168 c0_i32_49
  v169
def k0_off2 (i : grid0.Coords) (k0_t2 : Fin (k0_t2_loop i).trips) (c0_i32_49 : BitVec 32) : Fin 2 → Nat :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_48 : BitVec 32 := 768#32
  let v168 : BitVec 32 := Scalar.muli arg12 c768_i32_48
  let v169 : BitVec 32 := Scalar.addi v168 c0_i32_49
  let v170 : BitVec 32 := v169
  let v171 : Index := Scalar.indexCast v170
  let c0_50 : Index := 0#32
  ![v171.toNat, 0]
def k0_mult5 (i : grid0.Coords) (k0_t2 : Fin (k0_t2_loop i).trips) : BitVec 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_59 : BitVec 32 := 768#32
  let v222 : BitVec 32 := Scalar.muli arg12 c768_i32_59
  let c256_i32 : BitVec 32 := 256#32
  let v223 : BitVec 32 := Scalar.addi v222 c256_i32
  v223
def k0_mult6 (i : grid0.Coords) (k0_t2 : Fin (k0_t2_loop i).trips) : BitVec 32 :=
  let c0_i32_16 : BitVec 32 := 0#32
  let arg1 : BitVec 32 := BitVec.ofNat 32 (i 1).val
  let v57 : BitVec 32 := Scalar.subi arg1 c0_i32_16
  let c1_i32_17 : BitVec 32 := 1#32
  let v59 : BitVec 32 := Scalar.divsi v57 c1_i32_17
  let v60 : BitVec 32 := Scalar.muli v59 c1_i32_17
  let v61 : BitVec 32 := Scalar.addi c0_i32_16 v60
  let c1_i32_19 : BitVec 32 := 1#32
  let arg12 : BitVec 32 := Scf.iv v61 c1_i32_19 k0_t2
  let c768_i32_69 : BitVec 32 := 768#32
  let v276 : BitVec 32 := Scalar.muli arg12 c768_i32_69
  let c512_i32 : BitVec 32 := 512#32
  let v277 : BitVec 32 := Scalar.addi v276 c512_i32
  v277
def k0_mult7 (i : grid0.Coords) : BitVec 32 :=
  let arg1 : BitVec 32 := BitVec.ofNat 32 (i 1).val
  let c768_i32 : BitVec 32 := 768#32
  let v64 : BitVec 32 := Scalar.muli arg1 c768_i32
  v64
def k0_off3 (i : grid0.Coords) : Fin 2 → Nat :=
  let arg1 : BitVec 32 := BitVec.ofNat 32 (i 1).val
  let c768_i32 : BitVec 32 := 768#32
  let v64 : BitVec 32 := Scalar.muli arg1 c768_i32
  let v65 : BitVec 32 := v64
  let v66 : Index := Scalar.indexCast v65
  let c0_20 : Index := 0#32
  ![v66.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel15Ideal.lean ====
variable {F : FTy → Type} [FloatOps F] [Named F]
def κ : String → Option EReal := fun
  | "mask" => some ⊥
  | _ => none
-- ==== Reference15Ideal.lean ====
abbrev S8208x1024 : Shape := ⟨2, ![8208, 1024]⟩
abbrev S8208x16 : Shape := ⟨2, ![8208, 16]⟩
abbrev S8208 : Shape := ⟨1, ![8208]⟩
abbrev S8208x16x64 : Shape := ⟨3, ![8208, 16, 64]⟩
abbrev S16x8208x64 : Shape := ⟨3, ![16, 8208, 64]⟩
abbrev S16x8208 : Shape := ⟨2, ![16, 8208]⟩
abbrev S16x8208x8208 : Shape := ⟨3, ![16, 8208, 8208]⟩
abbrev S_ : Shape := ⟨0, ![]⟩
abbrev S16x8208x1 : Shape := ⟨3, ![16, 8208, 1]⟩
abbrev S16x1x8208 : Shape := ⟨3, ![16, 1, 8208]⟩
abbrev S1x8208 : Shape := ⟨2, ![1, 8208]⟩
abbrev S8208x1 : Shape := ⟨2, ![8208, 1]⟩
abbrev S8208x8208 : Shape := ⟨2, ![8208, 8208]⟩

abbrev nBuf : Space → Nat
  | .hbm => 60
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x16, .f32⟩
  | .hbm, ⟨4, _⟩ => ⟨S8208x1024, .f32⟩
  | .hbm, ⟨5, _⟩ => ⟨S8208, .i32⟩
  | .hbm, ⟨6, _⟩ => ⟨S8208x16x64, .f32⟩
  | .hbm, ⟨7, _⟩ => ⟨S16x8208x64, .f32⟩
  | .hbm, ⟨8, _⟩ => ⟨S16x8208, .f32⟩
  | .hbm, ⟨9, _⟩ => ⟨S8208x16x64, .f32⟩
  | .hbm, ⟨10, _⟩ => ⟨S16x8208x64, .f32⟩
  | .hbm, ⟨11, _⟩ => ⟨S16x8208, .f32⟩
  | .hbm, ⟨12, _⟩ => ⟨S16x8208x8208, .f32⟩
  | .hbm, ⟨13, _⟩ => ⟨S_, .f32⟩
  | .hbm, ⟨14, _⟩ => ⟨S16x8208x8208, .f32⟩
  | .hbm, ⟨15, _⟩ => ⟨S16x8208x8208, .f32⟩
  | .hbm, ⟨16, _⟩ => ⟨S16x8208x1, .f32⟩
  | .hbm, ⟨17, _⟩ => ⟨S16x1x8208, .f32⟩
  | .hbm, ⟨18, _⟩ => ⟨S16x8208x8208, .f32⟩
  | .hbm, ⟨19, _⟩ => ⟨S16x8208x8208, .f32⟩
  | .hbm, ⟨20, _⟩ => ⟨S16x8208x8208, .f32⟩
  | .hbm, ⟨21, _⟩ => ⟨S16x8208x8208, .f32⟩
  | .hbm, ⟨22, _⟩ => ⟨S1x8208, .i32⟩
  | .hbm, ⟨23, _⟩ => ⟨S8208x1, .i32⟩
  | .hbm, ⟨24, _⟩ => ⟨S8208x8208, .i32⟩
  | .hbm, ⟨25, _⟩ => ⟨S8208x8208, .i32⟩
  | .hbm, ⟨26, _⟩ => ⟨S8208x8208, .i1⟩
  | .hbm, ⟨27, _⟩ => ⟨S_, .f32⟩
  | .hbm, ⟨28, _⟩ => ⟨S_, .f32⟩
  | .hbm, ⟨29, _⟩ => ⟨S16x8208x8208, .i1⟩
  | .hbm, ⟨30, _⟩ => ⟨S16x8208x8208, .f32⟩
  | .hbm, ⟨31, _⟩ => ⟨S16x8208x8208, .f32⟩
  | .hbm, ⟨32, _⟩ => ⟨S_, .f32⟩
  | .hbm, ⟨33, _⟩ => ⟨S16x8208, .f32⟩
  | .hbm, ⟨34, _⟩ => ⟨S_, .f32⟩
  | .hbm, ⟨35, _⟩ => ⟨S16x8208, .f32⟩
  | .hbm, ⟨36, _⟩ => ⟨S16x8208, .f32⟩
  | .hbm, ⟨37, _⟩ => ⟨S16x8208x1, .f32⟩
  | .hbm, ⟨38, _⟩ => ⟨S16x8208x8208, .f32⟩
  | .hbm, ⟨39, _⟩ => ⟨S16x8208x8208, .f32⟩
  | .hbm, ⟨40, _⟩ => ⟨S16x8208x8208, .f32⟩
  | .hbm, ⟨41, _⟩ => ⟨S_, .f32⟩
  | .hbm, ⟨42, _⟩ => ⟨S16x8208, .f32⟩
  | .hbm, ⟨43, _⟩ => ⟨S16x8208x1, .f32⟩
  | .hbm, ⟨44, _⟩ => ⟨S16x8208x8208, .f32⟩
  | .hbm, ⟨45, _⟩ => ⟨S16x8208x8208, .f32⟩
  | .hbm, ⟨46, _⟩ => ⟨S8208x16x64, .f32⟩
  | .hbm, ⟨47, _⟩ => ⟨S16x8208x64, .f32⟩
  | .hbm, ⟨48, _⟩ => ⟨S16x8208x64, .f32⟩
  | .hbm, ⟨49, _⟩ => ⟨S8208x16x64, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S_, .f32⟩
  | .hbm, ⟨54, _⟩ => ⟨S8208x1024, .f32⟩
  | .hbm, ⟨55, _⟩ => ⟨S8208x1024, .f32⟩
  | .hbm, ⟨56, _⟩ => ⟨S_, .f32⟩
  | .hbm, ⟨57, _⟩ => ⟨S8208x1024, .f32⟩
  | .hbm, ⟨58, _⟩ => ⟨S8208x1024, .f32⟩
  | .hbm, ⟨59, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel16.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S_ : Shape := ⟨0, ![]⟩
abbrev S8448x2816 : Shape := ⟨2, ![8448, 2816]⟩
abbrev S8448x1024 : Shape := ⟨2, ![8448, 1024]⟩
abbrev S1x1024 : Shape := ⟨2, ![1, 1024]⟩
abbrev S1024x8448 : Shape := ⟨2, ![1024, 8448]⟩
abbrev S768x2816 : Shape := ⟨2, ![768, 2816]⟩
abbrev S768x1024 : Shape := ⟨2, ![768, 1024]⟩
abbrev S1024x768 : Shape := ⟨2, ![1024, 768]⟩
abbrev S768 : Shape := ⟨1, ![768]⟩
abbrev S768x1 : Shape := ⟨2, ![768, 1]⟩

abbrev nBuf : Space → Nat
  | .hbm => 19
  | .vmem => 12
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8448x2816, .f32⟩
  | .hbm, ⟨7, _⟩ => ⟨S8448x2816, .bf16⟩
  | .hbm, ⟨8, _⟩ => ⟨S2816x1024, .bf16⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S1x1024, .f32⟩
  | .hbm, ⟨13, _⟩ => ⟨S8448x1024, .f32⟩
  | .hbm, ⟨14, _⟩ => ⟨S8448x1024, .bf16⟩
  | .hbm, ⟨15, _⟩ => ⟨S1024x8448, .bf16⟩
  | .hbm, ⟨16, _⟩ => ⟨S8208x1024, .f32⟩
  | .hbm, ⟨17, _⟩ => ⟨S8208x1024, .bf16⟩
  | .hbm, ⟨18, _⟩ => ⟨S8208x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | .local _ .vmem, ⟨10, _⟩ => ⟨S1024x768, .bf16⟩
  | .local _ .vmem, ⟨11, _⟩ => ⟨S1024x768, .bf16⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S8208x1024, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S1x1024, .f32⟩
  | .hbm, ⟨20, _⟩ => ⟨S8208x1024, .f32⟩
  | .hbm, ⟨21, _⟩ => ⟨S8208x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel17.lean ====
abbrev S8208x1024 : Shape := ⟨2, ![8208, 1024]⟩
abbrev S1024x1024 : Shape := ⟨2, ![1024, 1024]⟩
abbrev S1024 : Shape := ⟨1, ![1024]⟩
abbrev S_ : Shape := ⟨0, ![]⟩
abbrev S8448x1024 : Shape := ⟨2, ![8448, 1024]⟩
abbrev S1x1024 : Shape := ⟨2, ![1, 1024]⟩
abbrev S1024x8448 : Shape := ⟨2, ![1024, 8448]⟩
abbrev S768x1024 : Shape := ⟨2, ![768, 1024]⟩
abbrev S1024x768 : Shape := ⟨2, ![1024, 768]⟩
abbrev S768 : Shape := ⟨1, ![768]⟩
abbrev S768x1 : Shape := ⟨2, ![768, 1]⟩

abbrev nBuf : Space → Nat
  | .hbm => 19
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S1024x1024, .f32⟩
  | .hbm, ⟨2, _⟩ => ⟨S8208x1024, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S8448x1024, .f32⟩
  | .hbm, ⟨7, _⟩ => ⟨S8448x1024, .bf16⟩
  | .hbm, ⟨8, _⟩ => ⟨S1024x1024, .bf16⟩
  | .hbm, ⟨9, _⟩ => ⟨S_, .i32⟩
  | .hbm, ⟨10, _⟩ => ⟨S_, .f32⟩
  | .hbm, ⟨11, _⟩ => ⟨S8448x1024, .f32⟩
  | .hbm, ⟨12, _⟩ => ⟨S1x1024, .f32⟩
  | .hbm, ⟨13, _⟩ => ⟨S8448x1024, .f32⟩
  | .hbm, ⟨14, _⟩ => ⟨S8448x1024, .bf16⟩
  | .hbm, ⟨15, _⟩ => ⟨S1024x8448, .bf16⟩
  | .hbm, ⟨16, _⟩ => ⟨S8208x1024, .f32⟩
  | .hbm, ⟨17, _⟩ => ⟨S8208x1024, .bf16⟩
  | .hbm, ⟨18, _⟩ => ⟨S8208x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | .local _ .vmem, ⟨10, _⟩ => ⟨S1024x768, .bf16⟩
  | .local _ .vmem, ⟨11, _⟩ => ⟨S1024x768, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S8208x1024 : Shape := ⟨2, ![8208, 1024]⟩
abbrev S1024x1024 : Shape := ⟨2, ![1024, 1024]⟩
abbrev S1024 : Shape := ⟨1, ![1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x1024, .f32⟩
  | .hbm, ⟨2, _⟩ => ⟨S8208x1024, .f32⟩
  | .hbm, ⟨3, _⟩ => ⟨S1024, .f32⟩
  | .hbm, ⟨4, _⟩ => ⟨S8208x1024, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S1x1024, .f32⟩
  | .hbm, ⟨20, _⟩ => ⟨S8208x1024, .f32⟩
  | .hbm, ⟨21, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel18.lean ====
abbrev S8208x1024 : Shape := ⟨2, ![8208, 1024]⟩
abbrev S1024x1024 : Shape := ⟨2, ![1024, 1024]⟩
abbrev S_ : Shape := ⟨0, ![]⟩
abbrev S8448x4224 : Shape := ⟨2, ![8448, 4224]⟩
abbrev S8448x1024 : Shape := ⟨2, ![8448, 1024]⟩
abbrev S256x1024 : Shape := ⟨2, ![256, 1024]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 27
  | .vmem => 15
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S1024x1024, .f32⟩
  | .hbm, ⟨4, _⟩ => ⟨S8208x1024, .f32⟩
  | .hbm, ⟨5, _⟩ => ⟨S_, .i32⟩
  | .hbm, ⟨6, _⟩ => ⟨S_, .f32⟩
  | .hbm, ⟨7, _⟩ => ⟨S8448x4224, .f32⟩
  | .hbm, ⟨8, _⟩ => ⟨S_, .i32⟩
  | .hbm, ⟨9, _⟩ => ⟨S_, .f32⟩
  | .hbm, ⟨10, _⟩ => ⟨S8448x1024, .f32⟩
  | .hbm, ⟨11, _⟩ => ⟨S8448x1024, .bf16⟩
  | .hbm, ⟨12, _⟩ => ⟨S1024x1024, .bf16⟩
  | .hbm, ⟨13, _⟩ => ⟨S_, .i32⟩
  | .hbm, ⟨14, _⟩ => ⟨S_, .f32⟩
  | .hbm, ⟨15, _⟩ => ⟨S8448x1024, .f32⟩
  | .hbm, ⟨16, _⟩ => ⟨S_, .i32⟩
  | .hbm, ⟨17, _⟩ => ⟨S_, .f32⟩
  | .hbm, ⟨18, _⟩ => ⟨S8448x1024, .f32⟩
  | .hbm, ⟨19, _⟩ => ⟨S8448x1024, .bf16⟩
  | .hbm, ⟨20, _⟩ => ⟨S8448x1024, .bf16⟩
  | .hbm, ⟨21, _⟩ => ⟨S8448x1024, .f32⟩
  | .hbm, ⟨22, _⟩ => ⟨S8208x1024, .bf16⟩
  | .hbm, ⟨23, _⟩ => ⟨S8208x1024, .f32⟩
  | .hbm, ⟨24, _⟩ => ⟨S8208x1024, .bf16⟩
  | .hbm, ⟨25, _⟩ => ⟨S8208x1024, .f32⟩
  | .hbm, ⟨26, _⟩ => ⟨S8208x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_c_2 : Ref sig .tc := ⟨.hbm, 16, rfl⟩
abbrev main_call3_v0 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8208x1024 : Shape := ⟨2, ![8208, 1024]⟩
abbrev S1024x1024 : Shape := ⟨2, ![1024, 1024]⟩
abbrev S_ : Shape := ⟨0, ![]⟩
abbrev S8208x16x64 : Shape := ⟨3, ![8208, 16, 64]⟩
abbrev S8208x16 : Shape := ⟨2, ![8208, 16]⟩
abbrev S8208x16x1 : Shape := ⟨3, ![8208, 16, 1]⟩

abbrev nBuf : Space → Nat
  | .hbm => 31
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S1024x1024, .f32⟩
  | .hbm, ⟨4, _⟩ => ⟨S8208x1024, .f32⟩
  | .hbm, ⟨5, _⟩ => ⟨S8208x1024, .f32⟩
  | .hbm, ⟨6, _⟩ => ⟨S8208x1024, .f32⟩
  | .hbm, ⟨7, _⟩ => ⟨S_, .f32⟩
  | .hbm, ⟨8, _⟩ => ⟨S8208x1024, .f32⟩
  | .hbm, ⟨9, _⟩ => ⟨S8208x1024, .f32⟩
  | .hbm, ⟨10, _⟩ => ⟨S_, .f32⟩
  | .hbm, ⟨11, _⟩ => ⟨S8208x1024, .f32⟩
  | .hbm, ⟨12, _⟩ => ⟨S8208x1024, .f32⟩
  | .hbm, ⟨13, _⟩ => ⟨S_, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S8208x1024, .f32⟩
  | .hbm, ⟨25, _⟩ => ⟨S8208x16x64, .f32⟩
  | .hbm, ⟨26, _⟩ => ⟨S_, .f32⟩
  | .hbm, ⟨27, _⟩ => ⟨S8208x16, .f32⟩
  | .hbm, ⟨28, _⟩ => ⟨S8208x16x1, .f32⟩
  | .hbm, ⟨29, _⟩ => ⟨S8208x16x64, .f32⟩
  | .hbm, ⟨30, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proof.RealBlock.lean ====
/-
  The real numbers one lane pair of the attention's backward pass works with: the logits in base two, the shifted
  weights, the gradient of the scores; and how sums and products of real numbers read among the extended reals.
-/
module
public import Idealize.ShloMosaic.Lib.Pointwise
public import Idealize.ShloMosaic.Lib.VecWindow
public import Mathlib.Algebra.BigOperators.Intervals

@[expose] public noncomputable section
namespace Cert.Bwd
open Idealize.ShloMosaic

/-- A sum of real numbers among the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem coe_sum_univ {n : ℕ} (f : Fin n → ℝ) : (∑ x, (f x : EReal)) = ((∑ x, f x : ℝ) : EReal) := (coe_sum _ f).symm

theorem exp2_real (x : ℝ) : (FloatOps.exp2 (F := Ideal) (φ := .f32) ((x : ℝ) : EReal) : EReal) = ((Real.rpow 2 x : ℝ) : EReal) := rfl

/-- The arrays of one lane pair, by row and lane, and the per-row numbers of its two heads, by head and row. -/
structure Inp where
  q : ℕ → ℕ → ℝ
  dO : ℕ → ℕ → ℝ
  ka : ℕ → ℕ → ℝ
  kb : ℕ → ℕ → ℝ
  v : ℕ → ℕ → ℝ
  sh : ℕ → ℕ → ℝ
  dl : ℕ → ℕ → ℝ

namespace Inp

variable (X : Inp)

/-- Head `h`'s keys with the lanes that carry its gate. -/
def key (h s l : ℕ) : ℝ := if h = 0 then X.ka s l else X.kb s l

/-- Head `h`'s queries, with ones in the lanes that meet the gate's. -/
def qh (h r l : ℕ) : ℝ :=
  if h = 0 then (if l < 64 then X.q r l else if l < 67 then 1 else 0) else (if l < 64 then (if l < 3 then 1 else 0) else X.q r l)

/-- Head `h`'s lanes of the output's gradient. -/
def doh (h r l : ℕ) : ℝ := if h = 0 then (if l < 64 then X.dO r l else 0) else (if l < 64 then 0 else X.dO r l)

/-- Query row `r` meets key row `s`. -/
def ok (r s : ℕ) : Prop := s ≤ r ∧ (240 ≤ s ∨ r < 240 ∨ s < r / 768 * 768)

instance (r s : ℕ) : Decidable (ok r s) := by unfold ok; infer_instance

/-- The weight of a pair of rows, not divided by the row's sum. -/
def w (h r s : ℕ) : ℝ := if ok r s then Real.rpow 2 ((∑ l ∈ Finset.range 128, X.qh h r l * X.key h s l) + X.sh h r) else 0

/-- The gradient of a pair's score. -/
def ds (h r s : ℕ) : ℝ := X.w h r s * ((∑ l ∈ Finset.range 128, X.doh h r l * X.v s l) - X.dl h r)

/-- The lanes of head 0 and of head 1. -/
def hd (l : ℕ) : ℕ := if l < 64 then 0 else 1

theorem w_of_ok {h r s : ℕ} (hk : ok r s) :
    X.w h r s = Real.rpow 2 ((∑ l ∈ Finset.range 128, X.qh h r l * X.key h s l) + X.sh h r) := if_pos hk

theorem ds_of_not {h r s : ℕ} (hk : ¬ ok r s) : X.ds h r s = 0 := by unfold ds w; rw [if_neg hk, zero_mul]

theorem w_of_not {h r s : ℕ} (hk : ¬ ok r s) : X.w h r s = 0 := if_neg hk

end Inp
-- ==== Proof.RealStep.lean ====
/-
  The attention's gradient over the real numbers, one head at a time, as the plain step states it.
-/
module
public import proofs.«01_k».proof.Proof.RealBlock

@[expose] public noncomputable section
namespace Cert.Bwd

/-- The five arrays: rows by columns (the gate: rows by heads). -/
structure Real5 where
  q : ℕ → ℕ → ℝ
  k : ℕ → ℕ → ℝ
  v : ℕ → ℕ → ℝ
  g : ℕ → ℕ → ℝ
  ct : ℕ → ℕ → ℝ

namespace Real5

variable (a : Real5)

/-- The logit of query `r` and key `s` at head `h`. -/
def x (h r s : ℕ) : ℝ :=
  (∑ l ∈ Finset.range 64, a.q r (h * 64 + l) * a.k s (h * 64 + l)) * (1 / 8) + (a.g r h - a.g s h)

variable (M : ℕ → ℕ → ℝ)

/-- The shifted exponential, zero after the query; its row's sum; the product of the cotangent with the values. -/
def e (h r s : ℕ) : ℝ := if s ≤ r then Real.exp (a.x h r s - M h r) else 0
def l (h r : ℕ) : ℝ := ∑ s ∈ Finset.range 8208, a.e M h r s
def dp (h r s : ℕ) : ℝ := ∑ d ∈ Finset.range 64, a.ct r (h * 64 + d) * a.v s (h * 64 + d)

/-- The gradient of the logits. -/
def gl (h r s : ℕ) : ℝ :=
  if s ≤ r then (a.dp h r s / a.l M h r + -(∑ t ∈ Finset.range 8208, a.dp h r t * (1 / (a.l M h r * a.l M h r)) * a.e M h r t)) * a.e M h r s else 0

/-- The four results. -/
def dq (r h d : ℕ) : ℝ := ∑ s ∈ Finset.range 8208, a.gl M h r s * (1 / 8) * a.k s (h * 64 + d)
def dk (s h d : ℕ) : ℝ := ∑ r ∈ Finset.range 8208, a.gl M h r s * (1 / 8) * a.q r (h * 64 + d)
def dv (s h d : ℕ) : ℝ := ∑ r ∈ Finset.range 8208, a.ct r (h * 64 + d) * (a.e M h r s / a.l M h r)
def dg (s h : ℕ) : ℝ := (∑ r ∈ Finset.range 8208, -a.gl M h r s) + ∑ t ∈ Finset.range 8208, a.gl M h s t

theorem e_nonneg (h r s : ℕ) : 0 ≤ a.e M h r s := by
  unfold e
  split
  · exact (Real.exp_pos _).le
  · exact le_rfl

theorem l_pos (h r : ℕ) (hr : r < 8208) : 0 < a.l M h r := by
  refine Finset.sum_pos' (fun s _ => a.e_nonneg M h r s) ⟨r, Finset.mem_range.2 hr, ?_⟩
  unfold e
  rw [if_pos (le_refl r)]
  exact Real.exp_pos _

/-- The gradients of a row's logits sum to zero: a row's weights sum to one. -/
theorem gl_sum (h r : ℕ) (hr : r < 8208) : ∑ s ∈ Finset.range 8208, a.gl M h r s = 0 := by
  have hl : a.l M h r ≠ 0 := (a.l_pos M h r hr).ne'
  have e1 : ∀ s, a.gl M h r s = (a.dp h r s / a.l M h r + -(∑ t ∈ Finset.range 8208, a.dp h r t * (1 / (a.l M h r * a.l M h r)) * a.e M h r t)) * a.e M h r s := by
    intro s
    unfold gl
    split
    · rfl
    · rename_i hs
      unfold e
      rw [if_neg hs, mul_zero]
  rw [Finset.sum_congr rfl fun s _ => e1 s]
  simp only [add_mul]
  rw [Finset.sum_add_distrib, ← Finset.mul_sum, show ∑ s ∈ Finset.range 8208, a.e M h r s = a.l M h r from rfl, neg_mul, Finset.sum_mul]
  rw [← sub_eq_add_neg, sub_eq_zero]
  refine Finset.sum_congr rfl fun s _ => ?_
  field_simp

theorem dg_eq (s h : ℕ) (hs : s < 8208) : a.dg M s h = -∑ r ∈ Finset.range 8208, a.gl M h r s := by
  unfold dg
  rw [a.gl_sum M h s hs, add_zero, Finset.sum_neg_distrib]

end Real5
-- ==== Proof.BufRead.lean ====
/-
  Reading the buffers the kernel keeps its running gradients in: a load of a band of rows, and what a store of a band
  leaves, as real numbers by row and lane.
-/
module
public import proofs.«01_k».proof.Proof.Gen.KernelIdeal.Frame
public import proofs.«01_k».proof.Proof.RealBlock

@[expose] public noncomputable section
namespace Cert.KernelIdeal.Bwd
open Gen Cert.Bwd
open Idealize.ShloMosaic TcCoe Idealize.SL.Sem

theorem inb_rows {off : Fin 2 → ℕ} {o n : ℕ} (hoff : off = ![o, 0]) (h : o + n ≤ 8448) : ∀ a, off a + (![n, 128] : Fin 2 → ℕ) a ≤ S8448x128.size a := by
  subst hoff
  intro a
  match a with
  | ⟨0, _⟩ => exact h
  | ⟨1, _⟩ => exact Nat.le_refl 128

theorem inb_gate {off : Fin 3 → ℕ} {h o n : ℕ} (hoff : off = ![0, h, o]) (hh : h < 8) (hn : o + n ≤ 8448) :
    ∀ a, off a + (![1, 1, n] : Fin 3 → ℕ) a ≤ S1x8x8448.size a := by
  subst hoff
  intro a
  match a with
  | ⟨0, _⟩ => exact Nat.le_refl 1
  | ⟨1, _⟩ => exact hh
  | ⟨2, _⟩ => exact hn

/-- A load of the rows `[o, o + n)` of an array that holds `g`. -/
theorem readAt_rows {e : EltTy} {sp : Space} {n : ℕ} (v : View sig .tc sp S8448x128 e) (f : v.ty.Contents (Elt Ideal)) (g : ℕ → ℕ → Elt Ideal e)
    (hg : ∀ (s : Fin 8448) (l : Fin 128), v.read (Elt Ideal) f (ix2 s l) = g s.val l.val)
    {off : Fin 2 → ℕ} {o : ℕ} (hoff : off = ![o, 0]) (inb : ∀ a, off a + (![n, 128] : Fin 2 → ℕ) a ≤ S8448x128.size a) (x : Fin n) (l : Fin 128) :
    v.readAt (Elt Ideal) (Rect.unit (s := S8448x128) off ![n, 128] inb).toLoadRect f (ix2 x l) = g (o + x.val) l.val := by
  subst hoff
  have hb : o + x.val < 8448 := by
    have h : o + n ≤ 8448 := inb 0
    have := x.isLt
    omega
  rw [View.readAt_unit v f inb rfl inb]
  refine Eq.trans ?_ (hg ⟨o + x.val, hb⟩ l)
  refine congrArg (v.read (Elt Ideal) f) (funext fun a => Fin.ext ?_)
  match a with
  | ⟨0, _⟩ => show o + 1 * x.val = o + x.val; omega
  | ⟨1, _⟩ => show 0 + 1 * l.val = l.val; omega

/-- A store to the rows `[o, o + n)`: those rows hold the payload, the others what they held. -/
theorem read_store_rows {sp : Space} {n : ℕ} (v : View sig .tc sp S8448x128 .f32) (f : v.ty.Contents (Elt Ideal))
    {off : Fin 2 → ℕ} {o : ℕ} (hoff : off = ![o, 0]) (inb : ∀ a, off a + (![n, 128] : Fin 2 → ℕ) a ≤ S8448x128.size a)
    (w : (Rect.unit (s := S8448x128) off ![n, 128] inb).shape.Idx → Elt Ideal .f32) (L : List (View.Piece (Elt Ideal) S8448x128 .f32))
    (D U : ℕ → ℕ → ℝ)
    (hD : ∀ (s : Fin 8448) (l : Fin 128), v.read (Elt Ideal) (v.writes (Elt Ideal) f L) (ix2 s l) = ((D s.val l.val : ℝ) : EReal))
    (hU : ∀ (x : Fin n) (l : Fin 128), w (ix2 x l) = ((U (o + x.val) l.val : ℝ) : EReal)) (s : Fin 8448) (l : Fin 128) :
    v.read (Elt Ideal) (v.writes (Elt Ideal) f (⟨Rect.unit (s := S8448x128) off ![n, 128] inb, w⟩ :: L)) (ix2 s l)
      = (((if o ≤ s.val ∧ s.val < o + n then U s.val l.val else D s.val l.val) : ℝ) : EReal) := by
  subst hoff
  by_cases h : o ≤ s.val ∧ s.val < o + n
  · rw [if_pos h]
    have e := hU ⟨s.val - o, by omega⟩ l
    rw [show o + (⟨s.val - o, by omega⟩ : Fin n).val = s.val by show o + (s.val - o) = s.val; omega] at e
    refine Eq.trans ?_ e
    refine View.read_writes_cons_unit_of_mem v f inb w L (ix2 s l) (ix2 ⟨s.val - o, by omega⟩ l) rfl fun a => ?_
    match a with
    | ⟨0, _⟩ => show s.val = o + (s.val - o); omega
    | ⟨1, _⟩ => show l.val = 0 + l.val; omega
  · rw [if_neg h, ← hD]
    refine View.read_writes_cons_unit_of_not_mem v f inb w L (ix2 s l) rfl 0 ?_
    show s.val < o ∨ o + n ≤ s.val
    omega

/-- A load of the lanes `[o, o + n)` of gate row `h`. -/
theorem readAt_gate {sp : Space} {n : ℕ} (v : View sig .tc sp S1x8x8448 .f32) (f : v.ty.Contents (Elt Ideal)) (g : ℕ → ℕ → ℝ)
    (hg : ∀ (h : Fin 8) (s : Fin 8448), v.read (Elt Ideal) f (ix3 0 h s) = ((g h.val s.val : ℝ) : EReal))
    {off : Fin 3 → ℕ} {h o : ℕ} (hoff : off = ![0, h, o]) (hh : h < 8) (inb : ∀ a, off a + (![1, 1, n] : Fin 3 → ℕ) a ≤ S1x8x8448.size a) (x : Fin n) :
    v.readAt (Elt Ideal) (Rect.unit (s := S1x8x8448) off ![1, 1, n] inb).toLoadRect f (ix3 0 0 x) = ((g h (o + x.val) : ℝ) : EReal) := by
  subst hoff
  have hb : o + x.val < 8448 := by
    have h : o + n ≤ 8448 := inb 2
    have := x.isLt
    omega
  rw [View.readAt_unit v f inb rfl inb]
  refine Eq.trans ?_ (hg ⟨h, hh⟩ ⟨o + x.val, hb⟩)
  refine congrArg (v.read (Elt Ideal) f) (funext fun a => Fin.ext ?_)
  match a with
  | ⟨0, _⟩ => show 0 + 1 * 0 = 0; omega
  | ⟨1, _⟩ => show h + 1 * 0 = h; omega
  | ⟨2, _⟩ => show o + 1 * x.val = o + x.val; omega

/-- A store to the lanes `[o, o + n)` of gate row `h`. -/
theorem read_store_gate {sp : Space} {n : ℕ} (v : View sig .tc sp S1x8x8448 .f32) (f : v.ty.Contents (Elt Ideal))
    {off : Fin 3 → ℕ} {h o : ℕ} (hoff : off = ![0, h, o]) (inb : ∀ a, off a + (![1, 1, n] : Fin 3 → ℕ) a ≤ S1x8x8448.size a)
    (w : (Rect.unit (s := S1x8x8448) off ![1, 1, n] inb).shape.Idx → Elt Ideal .f32) (L : List (View.Piece (Elt Ideal) S1x8x8448 .f32))
    (D U : ℕ → ℕ → ℝ)
    (hD : ∀ (k : Fin 8) (s : Fin 8448), v.read (Elt Ideal) (v.writes (Elt Ideal) f L) (ix3 0 k s) = ((D k.val s.val : ℝ) : EReal))
    (hU : ∀ x : Fin n, w (ix3 0 0 x) = ((U h (o + x.val) : ℝ) : EReal)) (k : Fin 8) (s : Fin 8448) :
    v.read (Elt Ideal) (v.writes (Elt Ideal) f (⟨Rect.unit (s := S1x8x8448) off ![1, 1, n] inb, w⟩ :: L)) (ix3 0 k s)
      = (((if k.val = h ∧ o ≤ s.val ∧ s.val < o + n then U k.val s.val else D k.val s.val) : ℝ) : EReal) := by
  subst hoff
  by_cases hk : k.val = h ∧ o ≤ s.val ∧ s.val < o + n
  · rw [if_pos hk]
    have e := hU ⟨s.val - o, by omega⟩
    rw [show o + (⟨s.val - o, by omega⟩ : Fin n).val = s.val by show o + (s.val - o) = s.val; omega] at e
    rw [hk.1]
    refine Eq.trans ?_ e
    refine View.read_writes_cons_unit_of_mem v f inb w L (ix3 0 k s) (ix3 0 0 ⟨s.val - o, by omega⟩) rfl fun a => ?_
    match a with
    | ⟨0, _⟩ => show 0 = 0 + 0; omega
    | ⟨1, _⟩ => show k.val = h + 0; omega
    | ⟨2, _⟩ => show s.val = o + (s.val - o); omega
  · rw [if_neg hk, ← hD]
    by_cases h1 : k.val = h
    · refine View.read_writes_cons_unit_of_not_mem v f inb w L (ix3 0 k s) rfl 2 ?_
      show s.val < o ∨ o + n ≤ s.val
      omega
    · refine View.read_writes_cons_unit_of_not_mem v f inb w L (ix3 0 k s) rfl 1 ?_
      show k.val < h ∨ h + 1 ≤ k.val
      omega
-- ==== Proof.Trip.lean ====
/-
  One trip of the loop over the key tiles before the diagonal: what it leaves in the carried gradients of the queries
  and in the rows of the three running gradients it writes.
-/
module
public import proofs.«01_k».proof.Proof.Gen.KernelIdeal.Frame
public import proofs.«01_k».proof.Proof.BufRead

set_option maxRecDepth 8192
@[expose] public noncomputable section
namespace Cert.KernelIdeal.Bwd
open Gen Cert.Bwd
open Idealize.ShloMosaic TcCoe Idealize.SL.Sem

/-- The tile's query-side vectors hold the real numbers of rows `i·768 …`. -/
structure Rows (X : Inp) (i : ℕ) (v5 : IVec S1x128 1) (v7 v9 v23 v33 v36 v39 : FVec Ideal S768x128 .bf16)
    (w0 w1 v67 v73 : FVec Ideal S768x1 .f32) : Prop where
  lo : ∀ l : Fin 128, v5 (ix2 0 l) = BitVec.ofBool (decide (l.val < 64))
  q : ∀ (r : Fin 768) (l : Fin 128), v7 (ix2 r l) = ((X.q (i * 768 + r.val) l.val : ℝ) : EReal)
  d : ∀ (r : Fin 768) (l : Fin 128), v9 (ix2 r l) = ((X.dO (i * 768 + r.val) l.val : ℝ) : EReal)
  q0 : ∀ (r : Fin 768) (l : Fin 128), v23 (ix2 r l) = ((X.qh 0 (i * 768 + r.val) l.val : ℝ) : EReal)
  q1 : ∀ (r : Fin 768) (l : Fin 128), v33 (ix2 r l) = ((X.qh 1 (i * 768 + r.val) l.val : ℝ) : EReal)
  d0 : ∀ (r : Fin 768) (l : Fin 128), v36 (ix2 r l) = ((X.doh 0 (i * 768 + r.val) l.val : ℝ) : EReal)
  d1 : ∀ (r : Fin 768) (l : Fin 128), v39 (ix2 r l) = ((X.doh 1 (i * 768 + r.val) l.val : ℝ) : EReal)
  s0 : ∀ r : Fin 768, w0 (ix2 r 0) = ((X.sh 0 (i * 768 + r.val) : ℝ) : EReal)
  s1 : ∀ r : Fin 768, w1 (ix2 r 0) = ((X.sh 1 (i * 768 + r.val) : ℝ) : EReal)
  l0 : ∀ r : Fin 768, v67 (ix2 r 0) = ((X.dl 0 (i * 768 + r.val) : ℝ) : EReal)
  l1 : ∀ r : Fin 768, v73 (ix2 r 0) = ((X.dl 1 (i * 768 + r.val) : ℝ) : EReal)

variable (𝒱 : Variants) (c : Dev nD) (bd : Option 𝒱.V) (i : grid0.Coords) (y2 : Memref sig .tc .vmem S768x128 .bf16) (z2 : y2.IsWhole) (y3 : Memref sig .tc .vmem S768x128 .bf16) (z3 : y3.IsWhole) (y4 : Memref sig .tc .vmem S768x128 .f32) (z4 : y4.IsWhole) (y5 : Memref sig .tc .vmem S768x128 .f32) (z5 : y5.IsWhole) (y6 : Memref sig .tc .vmem S768x128 .f32) (z6 : y6.IsWhole) (y7 : Memref sig .tc .vmem S8448x128 .bf16) (z7 : y7.IsWhole) (y8 : Memref sig .tc .vmem S8448x128 .bf16) (z8 : y8.IsWhole) (y9 : Memref sig .tc .vmem S8448x128 .bf16) (z9 : y9.IsWhole) (y10 : Memref sig .tc .vmem S768x128 .f32) (z10 : y10.IsWhole) (y11 : Memref sig .tc .vmem S8448x128 .f32) (z11 : y11.IsWhole) (y12 : Memref sig .tc .vmem S8448x128 .f32) (z12 : y12.IsWhole) (y13 : Memref sig .tc .vmem S1x8x8448 .f32) (z13 : y13.IsWhole) (y0 : BitVec 32) (y1 : BitVec 32) (v5 : IVec S1x128 1) (v7 : FVec Ideal S768x128 .bf16) (v9 : FVec Ideal S768x128 .bf16) (v23 : FVec Ideal S768x128 .bf16) (v33 : FVec Ideal S768x128 .bf16) (v36 : FVec Ideal S768x128 .bf16) (v39 : FVec Ideal S768x128 .bf16) (v50 : FVec Ideal S768x1 .f32) (v56 : FVec Ideal S768x1 .f32) (v67 : FVec Ideal S768x1 .f32) (v73 : FVec Ideal S768x1 .f32) (v75 : FVec Ideal S768x128 .f32) (v82 : IVec S768x128 1) (v83 : FVec Ideal S768x128 .f32) (X_arg7 : BufTy.Contents (Elt Ideal) y7.view.ty) (X_arg8 : BufTy.Contents (Elt Ideal) y8.view.ty) (X_arg9 : BufTy.Contents (Elt Ideal) y9.view.ty) (k : Fin (k0_t1_loop i).trips)

theorem off_word {n : ℕ} (hn : n < 11) : (Scalar.indexCast (Scalar.muli (Scf.iv 0#32 1#32 n) 768#32)).toNat = n * 768 := by
  have : ∀ n : Fin 11, (Scalar.indexCast (Scalar.muli (Scf.iv 0#32 1#32 n.val) 768#32)).toNat = n.val * 768 := by decide +kernel
  exact this ⟨n, hn⟩

variable (X : Inp) (n : ℕ) (hR : Rows X n v5 v7 v9 v23 v33 v36 v39 (k0_pay51 v50 v75 v82 v83) (k0_pay52 y0 v56 v75) v67 v73)
  (hk : k.val < n) (hn : n < 11)
  (h7 : ∀ (s : Fin 8448) (l : Fin 128), y7.view.read (Elt Ideal) X_arg7 (ix2 s l) = ((X.ka s.val l.val : ℝ) : EReal))
  (h8 : ∀ (s : Fin 8448) (l : Fin 128), y8.view.read (Elt Ideal) X_arg8 (ix2 s l) = ((X.kb s.val l.val : ℝ) : EReal))
  (h9 : ∀ (s : Fin 8448) (l : Fin 128), y9.view.read (Elt Ideal) X_arg9 (ix2 s l) = ((X.v s.val l.val : ℝ) : EReal))
  (acc : FVec Ideal S768x128 .f32 × FVec Ideal S768x128 .f32) (f11 : BufTy.Contents (Elt Ideal) y11.view.ty)
  (f12 : BufTy.Contents (Elt Ideal) y12.view.ty) (f13 : BufTy.Contents (Elt Ideal) y13.view.ty)

include hR hk hn h7 h8 h9

theorem trip_dq0 (A : ℕ → ℕ → ℝ)
    (ha : ∀ (r : Fin 768) (l : Fin 128), acc.1 (ix2 r l) = ((A r.val l.val : ℝ) : EReal)) (r : Fin 768) (l : Fin 128) :
    ((trip_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 k).1 acc f11 f12 f13).1 (ix2 r l)
      = ((A r.val l.val + ∑ s ∈ Finset.range 768, X.ds 0 (n * 768 + r.val) (k.val * 768 + s) * X.key 0 (k.val * 768 + s) l.val : ℝ) : EReal) := by
  have hok : ∀ r s : Fin 768, Inp.ok (n * 768 + r.val) (k.val * 768 + s.val) := fun r s => by unfold Inp.ok; omega
  have ho : (![(Scalar.indexCast (Scalar.muli (Scf.iv 0#32 1#32 k.val) 768#32)).toNat, 0] : Fin 2 → ℕ) = ![k.val * 768, 0] := by rw [off_word (by omega)]
  have E7 := readAt_rows y7.view X_arg7 (fun s l => ((X.ka s l : ℝ) : EReal)) h7 ho (inb_rows (n := 768) ho (by omega))
  have E9 := readAt_rows y9.view X_arg9 (fun s l => ((X.v s l : ℝ) : EReal)) h9 ho (inb_rows (n := 768) ho (by omega))
  unfold trip_k0_t1
  dsimp only
  sl_unfold_words
  pointwise
  simp only [E7, E9, hR.q0, hR.s0, hR.d0, hR.l0, ha,
    ← EReal.coe_mul, ← EReal.coe_add, ← EReal.coe_sub, coe_sum_univ, exp2_real]
  simp only [Finset.sum_range, Inp.ds, Inp.w_of_ok X (hok _ _)]
  rfl

theorem trip_dq1 (A : ℕ → ℕ → ℝ)
    (ha : ∀ (r : Fin 768) (l : Fin 128), acc.2 (ix2 r l) = ((A r.val l.val : ℝ) : EReal)) (r : Fin 768) (l : Fin 128) :
    ((trip_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 k).1 acc f11 f12 f13).2 (ix2 r l)
      = ((A r.val l.val + ∑ s ∈ Finset.range 768, X.ds 1 (n * 768 + r.val) (k.val * 768 + s) * X.key 1 (k.val * 768 + s) l.val : ℝ) : EReal) := by
  have hok : ∀ r s : Fin 768, Inp.ok (n * 768 + r.val) (k.val * 768 + s.val) := fun r s => by unfold Inp.ok; omega
  have ho : (![(Scalar.indexCast (Scalar.muli (Scf.iv 0#32 1#32 k.val) 768#32)).toNat, 0] : Fin 2 → ℕ) = ![k.val * 768, 0] := by rw [off_word (by omega)]
  have E8 := readAt_rows y8.view X_arg8 (fun s l => ((X.kb s l : ℝ) : EReal)) h8 ho (inb_rows (n := 768) ho (by omega))
  have E9 := readAt_rows y9.view X_arg9 (fun s l => ((X.v s l : ℝ) : EReal)) h9 ho (inb_rows (n := 768) ho (by omega))
  unfold trip_k0_t1
  dsimp only
  sl_unfold_words
  pointwise [k0_pay58, k0_pay59, k0_pay56, k0_pay57, k0_pay55]
  simp only [E8, E9, hR.q1, hR.s1, hR.d1, hR.l1, ha,
    ← EReal.coe_mul, ← EReal.coe_add, ← EReal.coe_sub, coe_sum_univ, exp2_real]
  simp only [Finset.sum_range, Inp.ds, Inp.w_of_ok X (hok _ _)]
  rfl

theorem trip_dk (D : ℕ → ℕ → ℝ)
    (hD : ∀ (s : Fin 8448) (l : Fin 128), y11.view.read (Elt Ideal) f11 (ix2 s l) = ((D s.val l.val : ℝ) : EReal)) (s : Fin 8448) (l : Fin 128) :
    y11.view.read (Elt Ideal) (y11.view.writes (Elt Ideal) f11 ((trip_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 k).2.1 acc f11 f12 f13)) (ix2 s l)
      = (((if k.val * 768 ≤ s.val ∧ s.val < k.val * 768 + 768 then
          D s.val l.val + ∑ r ∈ Finset.range 768, X.ds (Inp.hd l.val) (n * 768 + r) s.val * X.q (n * 768 + r) l.val else D s.val l.val) : ℝ) : EReal) := by
  have hok : ∀ r s : Fin 768, Inp.ok (n * 768 + r.val) (k.val * 768 + s.val) := fun r s => by unfold Inp.ok; omega
  have ho : (![(Scalar.indexCast (Scalar.muli (Scf.iv 0#32 1#32 k.val) 768#32)).toNat, 0] : Fin 2 → ℕ) = ![k.val * 768, 0] := by rw [off_word (by omega)]
  have E7 := readAt_rows y7.view X_arg7 (fun s l => ((X.ka s l : ℝ) : EReal)) h7 ho (inb_rows (n := 768) ho (by omega))
  have E8 := readAt_rows y8.view X_arg8 (fun s l => ((X.kb s l : ℝ) : EReal)) h8 ho (inb_rows (n := 768) ho (by omega))
  have E9 := readAt_rows y9.view X_arg9 (fun s l => ((X.v s l : ℝ) : EReal)) h9 ho (inb_rows (n := 768) ho (by omega))
  have E11 := readAt_rows y11.view f11 (fun s l => ((D s l : ℝ) : EReal)) hD ho (inb_rows (n := 768) ho (by omega))
  unfold trip_k0_t1
  dsimp only
  sl_unfold_words
  refine read_store_rows y11.view f11 ho _ _ [] D (fun s l => D s l + ∑ r ∈ Finset.range 768, X.ds (Inp.hd l) (n * 768 + r) s * X.q (n * 768 + r) l)
    hD (fun x l => ?_) s l
  pointwise [k0_pay60, k0_pay61, k0_pay56, k0_pay57, k0_pay55]
  simp only [E11, E7, E8,
    E9, hR.q0, hR.s0, hR.d0, hR.l0, hR.q1, hR.s1, hR.d1, hR.l1, hR.q, hR.lo, Scalar.select_ofBool, decide_eq_true_eq,
    ← EReal.coe_mul, ← EReal.coe_add, ← EReal.coe_sub, coe_sum_univ, exp2_real]
  simp only [Finset.sum_range, Inp.ds, Inp.w_of_ok X (hok _ _), Inp.hd]
  split <;> rfl

theorem trip_dv (D : ℕ → ℕ → ℝ)
    (hD : ∀ (s : Fin 8448) (l : Fin 128), y12.view.read (Elt Ideal) f12 (ix2 s l) = ((D s.val l.val : ℝ) : EReal)) (s : Fin 8448) (l : Fin 128) :
    y12.view.read (Elt Ideal) (y12.view.writes (Elt Ideal) f12 ((trip_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 k).2.2.1 acc f11 f12 f13)) (ix2 s l)
      = (((if k.val * 768 ≤ s.val ∧ s.val < k.val * 768 + 768 then
          D s.val l.val + ∑ r ∈ Finset.range 768, X.w (Inp.hd l.val) (n * 768 + r) s.val * X.dO (n * 768 + r) l.val else D s.val l.val) : ℝ) : EReal) := by
  have hok : ∀ r s : Fin 768, Inp.ok (n * 768 + r.val) (k.val * 768 + s.val) := fun r s => by unfold Inp.ok; omega
  have ho : (![(Scalar.indexCast (Scalar.muli (Scf.iv 0#32 1#32 k.val) 768#32)).toNat, 0] : Fin 2 → ℕ) = ![k.val * 768, 0] := by rw [off_word (by omega)]
  have E7 := readAt_rows y7.view X_arg7 (fun s l => ((X.ka s l : ℝ) : EReal)) h7 ho (inb_rows (n := 768) ho (by omega))
  have E8 := readAt_rows y8.view X_arg8 (fun s l => ((X.kb s l : ℝ) : EReal)) h8 ho (inb_rows (n := 768) ho (by omega))
  have E12 := readAt_rows y12.view f12 (fun s l => ((D s l : ℝ) : EReal)) hD ho (inb_rows (n := 768) ho (by omega))
  unfold trip_k0_t1
  dsimp only
  sl_unfold_words
  refine read_store_rows y12.view f12 ho _ _ [] D (fun s l => D s l + ∑ r ∈ Finset.range 768, X.w (Inp.hd l) (n * 768 + r) s * X.dO (n * 768 + r) l)
    hD (fun x l => ?_) s l
  pointwise [k0_pay60, k0_pay61, k0_pay56, k0_pay57, k0_pay55]
  simp only [E12, E7, E8,
    hR.q0, hR.s0, hR.q1, hR.s1, hR.d, hR.lo, Scalar.select_ofBool, decide_eq_true_eq,
    ← EReal.coe_mul, ← EReal.coe_add, ← EReal.coe_sub, coe_sum_univ, exp2_real]
  simp only [Finset.sum_range, Inp.w_of_ok X (hok _ _), Inp.hd]
  split <;> rfl

theorem trip_dc (D : ℕ → ℕ → ℝ)
    (hD : ∀ (h : Fin 8) (s : Fin 8448), y13.view.read (Elt Ideal) f13 (ix3 0 h s) = ((D h.val s.val : ℝ) : EReal)) (h : Fin 8) (s : Fin 8448) :
    y13.view.read (Elt Ideal) (y13.view.writes (Elt Ideal) f13 ((trip_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 k).2.2.2.1 acc f11 f12 f13)) (ix3 0 h s)
      = (((if h.val < 2 ∧ k.val * 768 ≤ s.val ∧ s.val < k.val * 768 + 768 then
          D h.val s.val - ∑ r ∈ Finset.range 768, X.ds h.val (n * 768 + r) s.val else D h.val s.val) : ℝ) : EReal) := by
  have hok : ∀ r s : Fin 768, Inp.ok (n * 768 + r.val) (k.val * 768 + s.val) := fun r s => by unfold Inp.ok; omega
  have ho : (![(Scalar.indexCast (Scalar.muli (Scf.iv 0#32 1#32 k.val) 768#32)).toNat, 0] : Fin 2 → ℕ) = ![k.val * 768, 0] := by rw [off_word (by omega)]
  have ho0 : (![0, 0, (Scalar.indexCast (Scalar.muli (Scf.iv 0#32 1#32 k.val) 768#32)).toNat] : Fin 3 → ℕ) = ![0, 0, k.val * 768] := by rw [off_word (by omega)]
  have ho1 : (![0, 1, (Scalar.indexCast (Scalar.muli (Scf.iv 0#32 1#32 k.val) 768#32)).toNat] : Fin 3 → ℕ) = ![0, 1, k.val * 768] := by rw [off_word (by omega)]
  let U : ℕ → ℕ → ℝ := fun h s => D h s - ∑ r ∈ Finset.range 768, X.ds h (n * 768 + r) s
  let D' : ℕ → ℕ → ℝ := fun h s => if h = 0 ∧ k.val * 768 ≤ s ∧ s < k.val * 768 + 768 then U h s else D h s
  have E7 := readAt_rows y7.view X_arg7 (fun s l => ((X.ka s l : ℝ) : EReal)) h7 ho (inb_rows (n := 768) ho (by omega))
  have E8 := readAt_rows y8.view X_arg8 (fun s l => ((X.kb s l : ℝ) : EReal)) h8 ho (inb_rows (n := 768) ho (by omega))
  have E9 := readAt_rows y9.view X_arg9 (fun s l => ((X.v s l : ℝ) : EReal)) h9 ho (inb_rows (n := 768) ho (by omega))
  have E130 := readAt_gate y13.view f13 D hD ho0 (by decide) (inb_gate (n := 768) ho0 (by decide) (by omega))
  have E131 := readAt_gate y13.view f13 D hD ho1 (by decide) (inb_gate (n := 768) ho1 (by decide) (by omega))
  unfold trip_k0_t1
  dsimp only
  sl_unfold_words
  refine (read_store_gate y13.view f13 ho1 _ _ _ D' U
    (read_store_gate y13.view f13 ho0 _ _ [] D U hD (fun x => ?_)) (fun x => ?_) h s).trans ?_
  · pointwise
    simp only [E130, E7,
      E9, hR.q0, hR.s0, hR.d0, hR.l0,
      ← EReal.coe_mul, ← EReal.coe_add, ← EReal.coe_sub, coe_sum_univ, exp2_real, ← EReal.coe_neg, zero_sub]
    simp only [U, Finset.sum_range, Inp.ds, Inp.w_of_ok X (hok _ _), Inp.hd, sub_eq_add_neg]
    rfl
  · pointwise [k0_pay58, k0_pay59, k0_pay56, k0_pay57, k0_pay55]
    simp only [E131, E8,
      E9, hR.q1, hR.s1, hR.d1, hR.l1,
      ← EReal.coe_mul, ← EReal.coe_add, ← EReal.coe_sub, coe_sum_univ, exp2_real, ← EReal.coe_neg, zero_sub]
    simp only [U, Finset.sum_range, Inp.ds, Inp.w_of_ok X (hok _ _), Inp.hd, sub_eq_add_neg]
    rfl
  · congr 1
    simp only [D', U]
    have h8' := h.isLt
    split_ifs <;> first | rfl | omega
-- ==== Proof.Loop.lean ====
/-
  The loop over the key tiles before the diagonal, after any number of trips.
-/
module
public import proofs.«01_k».proof.Proof.Trip

set_option maxRecDepth 8192
@[expose] public noncomputable section
namespace Cert.KernelIdeal.Bwd
open Gen Cert.Bwd
open Idealize.ShloMosaic TcCoe Idealize.SL.Sem

/-- What the loop has left after `j` trips of tile `n`: the carried gradients of the two heads' queries, and the
    running gradients of the keys, the values and the gates. -/
structure After (X : Inp) (n j : ℕ) (Dk Dv Dc : ℕ → ℕ → ℝ) (acc : FVec Ideal S768x128 .f32 × FVec Ideal S768x128 .f32)
    (k v : Vec Ideal S8448x128 .f32) (c : Vec Ideal S1x8x8448 .f32) : Prop where
  q0 : ∀ (r : Fin 768) (l : Fin 128), acc.1 (ix2 r l)
    = ((∑ s ∈ Finset.range (j * 768), X.ds 0 (n * 768 + r.val) s * X.key 0 s l.val : ℝ) : EReal)
  q1 : ∀ (r : Fin 768) (l : Fin 128), acc.2 (ix2 r l)
    = ((∑ s ∈ Finset.range (j * 768), X.ds 1 (n * 768 + r.val) s * X.key 1 s l.val : ℝ) : EReal)
  k : ∀ (s : Fin 8448) (l : Fin 128), k (ix2 s l) = (((if s.val < j * 768 then
    Dk s.val l.val + ∑ r ∈ Finset.range 768, X.ds (Inp.hd l.val) (n * 768 + r) s.val * X.q (n * 768 + r) l.val else Dk s.val l.val) : ℝ) : EReal)
  v : ∀ (s : Fin 8448) (l : Fin 128), v (ix2 s l) = (((if s.val < j * 768 then
    Dv s.val l.val + ∑ r ∈ Finset.range 768, X.w (Inp.hd l.val) (n * 768 + r) s.val * X.dO (n * 768 + r) l.val else Dv s.val l.val) : ℝ) : EReal)
  c : ∀ (h : Fin 8) (s : Fin 8448), c (ix3 0 h s) = (((if h.val < 2 ∧ s.val < j * 768 then
    Dc h.val s.val - ∑ r ∈ Finset.range 768, X.ds h.val (n * 768 + r) s.val else Dc h.val s.val) : ℝ) : EReal)

theorem sum_tile (f : ℕ → ℝ) (j : ℕ) :
    ∑ s ∈ Finset.range ((j + 1) * 768), f s = (∑ s ∈ Finset.range (j * 768), f s) + ∑ s ∈ Finset.range 768, f (j * 768 + s) := by
  rw [Nat.add_mul, Nat.one_mul, Finset.sum_range_add]

variable (𝒱 : Variants) (c : Dev nD) (bd : Option 𝒱.V) (i : grid0.Coords) (y2 : Memref sig .tc .vmem S768x128 .bf16) (z2 : y2.IsWhole) (y3 : Memref sig .tc .vmem S768x128 .bf16) (z3 : y3.IsWhole) (y4 : Memref sig .tc .vmem S768x128 .f32) (z4 : y4.IsWhole) (y5 : Memref sig .tc .vmem S768x128 .f32) (z5 : y5.IsWhole) (y6 : Memref sig .tc .vmem S768x128 .f32) (z6 : y6.IsWhole) (y7 : Memref sig .tc .vmem S8448x128 .bf16) (z7 : y7.IsWhole) (y8 : Memref sig .tc .vmem S8448x128 .bf16) (z8 : y8.IsWhole) (y9 : Memref sig .tc .vmem S8448x128 .bf16) (z9 : y9.IsWhole) (y10 : Memref sig .tc .vmem S768x128 .f32) (z10 : y10.IsWhole) (y11 : Memref sig .tc .vmem S8448x128 .f32) (z11 : y11.IsWhole) (y12 : Memref sig .tc .vmem S8448x128 .f32) (z12 : y12.IsWhole) (y13 : Memref sig .tc .vmem S1x8x8448 .f32) (z13 : y13.IsWhole) (y0 : BitVec 32) (y1 : BitVec 32) (v5 : IVec S1x128 1) (v7 : FVec Ideal S768x128 .bf16) (v9 : FVec Ideal S768x128 .bf16) (v23 : FVec Ideal S768x128 .bf16) (v33 : FVec Ideal S768x128 .bf16) (v36 : FVec Ideal S768x128 .bf16) (v39 : FVec Ideal S768x128 .bf16) (v50 : FVec Ideal S768x1 .f32) (v56 : FVec Ideal S768x1 .f32) (v67 : FVec Ideal S768x1 .f32) (v73 : FVec Ideal S768x1 .f32) (v75 : FVec Ideal S768x128 .f32) (v82 : IVec S768x128 1) (v83 : FVec Ideal S768x128 .f32) (X_arg7 : BufTy.Contents (Elt Ideal) y7.view.ty) (X_arg8 : BufTy.Contents (Elt Ideal) y8.view.ty) (X_arg9 : BufTy.Contents (Elt Ideal) y9.view.ty)
  (G_arg11 : BufTy.Contents (Elt Ideal) y11.view.ty) (G_arg12 : BufTy.Contents (Elt Ideal) y12.view.ty)
  (G_arg13 : BufTy.Contents (Elt Ideal) y13.view.ty) (init : FVec Ideal S768x128 .f32 × FVec Ideal S768x128 .f32)

theorem loop_after (X : Inp) (n : ℕ) (hR : Rows X n v5 v7 v9 v23 v33 v36 v39 (k0_pay51 v50 v75 v82 v83) (k0_pay52 y0 v56 v75) v67 v73)
    (hn : n < 11) (ht : (k0_t1_loop i).trips = n)
    (h7 : ∀ (s : Fin 8448) (l : Fin 128), y7.view.read (Elt Ideal) X_arg7 (ix2 s l) = ((X.ka s.val l.val : ℝ) : EReal))
    (h8 : ∀ (s : Fin 8448) (l : Fin 128), y8.view.read (Elt Ideal) X_arg8 (ix2 s l) = ((X.kb s.val l.val : ℝ) : EReal))
    (h9 : ∀ (s : Fin 8448) (l : Fin 128), y9.view.read (Elt Ideal) X_arg9 (ix2 s l) = ((X.v s.val l.val : ℝ) : EReal))
    (hi0 : ∀ (r : Fin 768) (l : Fin 128), init.1 (ix2 r l) = 0) (hi1 : ∀ (r : Fin 768) (l : Fin 128), init.2 (ix2 r l) = 0)
    (Dk Dv Dc : ℕ → ℕ → ℝ)
    (hk : ∀ (s : Fin 8448) (l : Fin 128), y11.view.read (Elt Ideal) G_arg11 (ix2 s l) = ((Dk s.val l.val : ℝ) : EReal))
    (hv : ∀ (s : Fin 8448) (l : Fin 128), y12.view.read (Elt Ideal) G_arg12 (ix2 s l) = ((Dv s.val l.val : ℝ) : EReal))
    (hc : ∀ (h : Fin 8) (s : Fin 8448), y13.view.read (Elt Ideal) G_arg13 (ix3 0 h s) = ((Dc h.val s.val : ℝ) : EReal)) :
    ∀ j : ℕ, j ≤ n → After X n j Dk Dv Dc
      (st_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 G_arg11 G_arg12 G_arg13 init j).1
      (y11.view.read (Elt Ideal) (y11.view.writes (Elt Ideal) G_arg11 (st_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 G_arg11 G_arg12 G_arg13 init j).2.1))
      (y12.view.read (Elt Ideal) (y12.view.writes (Elt Ideal) G_arg12 (st_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 G_arg11 G_arg12 G_arg13 init j).2.2.1))
      (y13.view.read (Elt Ideal) (y13.view.writes (Elt Ideal) G_arg13 (st_k0_t1 (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 G_arg11 G_arg12 G_arg13 init j).2.2.2)) := by
  intro j
  induction j with
  | zero =>
    intro _
    refine ⟨fun r l => ?_, fun r l => ?_, fun s l => ?_, fun s l => ?_, fun h s => ?_⟩
    · rw [Nat.zero_mul, Finset.sum_range_zero]; exact hi0 r l
    · rw [Nat.zero_mul, Finset.sum_range_zero]; exact hi1 r l
    · rw [if_neg (by omega)]; exact hk s l
    · rw [if_neg (by omega)]; exact hv s l
    · rw [if_neg (by omega)]; exact hc h s
  | succ j ih =>
    intro hj
    have hs := st_k0_t1_succ (F := Ideal) 𝒱 c bd i y2 z2 y3 z3 y4 z4 y5 z5 y6 z6 y7 z7 y8 z8 y9 z9 y10 z10 y11 z11 y12 z12 y13 z13 y0 y1 v5 v7 v9 v23 v33 v36 v39 v50 v56 v67 v73 v75 v82 v83 X_arg7 X_arg8 X_arg9 G_arg11 G_arg12 G_arg13 init ⟨j, by omega⟩
    have I := ih (by omega)
    refine ⟨fun r l => ?_, fun r l => ?_, fun s l => ?_, fun s l => ?_, fun h s => ?_⟩
    · rw [hs]
      refine (trip_dq0 (k := ⟨j, by omega⟩) _ _ _ _ _ _ _ _ _ _ _ _ _ _ _ _ _ _ _ _ _ _ _ _ _ _ _ _ _ _ _ _ _ _ _ _ _ _ _ _ _ _ _ _ _ _ _ X n hR (by show j < n; omega) hn h7 h8 h9 _ _ _ _ (fun r l => ∑ s ∈ Finset.range (j * 768), X.ds 0 (n * 768 + r) s * X.key 0 s l) I.q0 r l).trans ?_
      rw [sum_tile]
    · rw [hs]
      refine (trip_dq1 (k := ⟨j, by omega⟩) _ _ _ _ _ _ _ _ _ _ _ _ _ _ _ _ _ _ _ _ _ _ _ _ _ _ _ _ _ _ _ _ _ _ _ _ _ _ _ _ _ _ _ _ _ _ _ X n hR (by show j < n; omega) hn h7 h8 h9 _ _ _ _ (fun r l => ∑ s ∈ Finset.range (j * 768), X.ds 1 (n * 768 + r) s * X.key 1 s l) I.q1 r l).trans ?_
      rw [sum_tile]
    · rw [hs]
      dsimp only
      rw [View.writes_append]
      refine (trip_dk (k := ⟨j, by omega⟩) _ _ _ _ _ _ _ _ _ _ _ _ _ _ _ _ _ _ _ _ _ _ _ _ _ _ _ _ _ _ _ _ _ _ _ _ _ _ _ _ _ _ _ _ _ _ _ X n hR (by show j < n; omega) hn h7 h8 h9 _ _ _ _
        (fun s l => if s < j * 768 then Dk s l + ∑ r ∈ Finset.range 768, X.ds (Inp.hd l) (n * 768 + r) s * X.q (n * 768 + r) l else Dk s l) I.k s l).trans ?_
      congr 1
      dsimp only
      split_ifs <;> first | rfl | omega
    · rw [hs]
      dsimp only
      rw [View.writes_append]
      refine (trip_dv (k := ⟨j, by omega⟩) _ _ _ _ _ _ _ _ _ _ _ _ _ _ _ _ _ _ _ _ _ _ _ _ _ _ _ _ _ _ _ _ _ _ _ _ _ _ _ _ _ _ _ _ _ _ _ X n hR (by show j < n; omega) hn h7 h8 h9 _ _ _ _
        (fun s l => if s < j * 768 then Dv s l + ∑ r ∈ Finset.range 768, X.w (Inp.hd l) (n * 768 + r) s * X.dO (n * 768 + r) l else Dv s l) I.v s l).trans ?_
      congr 1
      dsimp only
      split_ifs <;> first | rfl | omega
    · rw [hs]
      dsimp only
      rw [View.writes_append]
      refine (trip_dc (k := ⟨j, by omega⟩) _ _ _ _ _ _ _ _ _ _ _ _ _ _ _ _ _ _ _ _ _ _ _ _ _ _ _ _ _ _ _ _ _ _ _ _ _ _ _ _ _ _ _ _ _ _ _ X n hR (by show j < n; omega) hn h7 h8 h9 _ _ _ _
        (fun h s => if h < 2 ∧ s < j * 768 then Dc h s - ∑ r ∈ Finset.range 768, X.ds h (n * 768 + r) s else Dc h s) I.c h s).trans ?_
      congr 1
      dsimp only
      split_ifs <;> first | rfl | omega
-- ==== Proof.Diag.lean ====
/-
  The two blocks on the diagonal of a tile: all its queries against the tile's first 512 keys, and its last 256 queries
  against the last 256.  Their weights, the scores' gradients, and what each adds to the four gradients.
-/
module
public import proofs.«01_k».proof.Proof.Trip

set_option maxRecDepth 8192
@[expose] public noncomputable section
namespace Cert.KernelIdeal.Bwd
open Gen Cert.Bwd
open Idealize.ShloMosaic TcCoe Idealize.SL.Sem

theorem mask_value : (Named.named (F := Ideal) Cert.KernelIdeal.κ "mask" (φ := .f32) 0xF149F2CA#32 : EReal) = ⊥ :=
  IdealRules.named_const.ideal_named_scalar _ _ _ _ rfl

/-- A weight under a mask: two to the score where the mask holds, zero elsewhere. -/
theorem masked_weight (P : Prop) [Decidable P] (t s : ℝ) :
    (FloatOps.exp2 (F := Ideal) (φ := .f32) ((Scalar.select (BitVec.ofBool (decide P)) ((t : ℝ) : EReal) ⊥ : EReal) + (s : EReal)) : EReal)
      = (((if P then Real.rpow 2 (t + s) else 0) : ℝ) : EReal) := by
  rw [Scalar.select_ofBool]
  by_cases h : P
  · simp only [h, decide_true, if_true, ← EReal.coe_add, exp2_real]
  · simp only [h, decide_false, if_false, EReal.bot_add]
    rfl

theorem ok_diag {n r s : ℕ} (hr : r < 768) :
    Inp.ok (n * 768 + r) (n * 768 + s) ↔ (n * 768 + s ≤ n * 768 + r ∧ (240 ≤ n * 768 + s ∨ n * 768 + r < 240)) := by
  unfold Inp.ok; omega

theorem mask_word {a b : ℕ} (ha : a < 2 ^ 31) (hb : b < 2 ^ 31) :
    IntOp.andi (IntOp.cmpi .sle (BitVec.ofNat 32 a) (BitVec.ofNat 32 b))
      (IntOp.ori (IntOp.cmpi .sge (BitVec.ofNat 32 a) 240#32) (IntOp.cmpi .slt (BitVec.ofNat 32 b) 240#32))
      = BitVec.ofBool (decide (a ≤ b ∧ (240 ≤ a ∨ b < 240))) := by
  rw [WordCmp.cmpi_sle_ofNat ha hb, WordCmp.cmpi_sge_ofNat ha (by decide), WordCmp.cmpi_slt_ofNat hb (by decide)]
  by_cases h1 : a ≤ b <;> by_cases h2 : 240 ≤ a <;> by_cases h3 : b < 240 <;> simp [h1, h2, h3] <;> rfl

theorem mask_a (n : ℕ) (hn : n < 11) (r : Fin 768) (s : Fin 512) :
    k0_pay74 (k0_pay72 (BitVec.ofNat 32 n)) (iota .tc S1x512 32 [1] iota_S1x512_d1_w32) (k0_pay73 (BitVec.ofNat 32 n)) (ix2 r s)
      = BitVec.ofBool (decide (Inp.ok (n * 768 + r.val) (n * 768 + s.val))) := by
  have e1 : IntOp.addi (Scalar.addi (Scalar.muli (BitVec.ofNat 32 n) 768#32) 0#32) (BitVec.ofNat 32 r.val) = BitVec.ofNat 32 (n * 768 + r.val) := by
    show (BitVec.ofNat 32 n * 768#32 + 0#32) + BitVec.ofNat 32 r.val = _
    apply BitVec.eq_of_toNat_eq; simp
  have e2 : IntOp.addi (Scalar.muli (BitVec.ofNat 32 n) 768#32) (BitVec.ofNat 32 s.val) = BitVec.ofNat 32 (n * 768 + s.val) := by
    show BitVec.ofNat 32 n * 768#32 + BitVec.ofNat 32 s.val = _
    apply BitVec.eq_of_toNat_eq; simp
  pointwise [k0_pay74, k0_pay72, k0_pay73]
  rw [e1, e2, mask_word (by omega) (by omega)]
  simp only [ok_diag r.isLt]

theorem mask_b (n : ℕ) (hn : n < 11) (r : Fin 256) (s : Fin 256) :
    k0_pay96 (BitVec.ofNat 32 n) (Scalar.muli (BitVec.ofNat 32 n) 768#32) (ix2 r s)
      = BitVec.ofBool (decide (Inp.ok (n * 768 + (512 + r.val)) (n * 768 + (512 + s.val)))) := by
  have e : ∀ x : ℕ, IntOp.addi (Scalar.addi (Scalar.muli (BitVec.ofNat 32 n) 768#32) 512#32) (BitVec.ofNat 32 x) = BitVec.ofNat 32 (n * 768 + (512 + x)) := by
    intro x
    show (BitVec.ofNat 32 n * 768#32 + 512#32) + BitVec.ofNat 32 x = _
    apply BitVec.eq_of_toNat_eq; simp [Nat.add_assoc]
  pointwise [k0_pay96]
  rw [e, e, mask_word (by omega) (by omega)]
  simp only [ok_diag (show 512 + r.val < 768 by omega)]

variable {v5 : IVec S1x128 1} {v7 v9 v23 v33 v36 v39 : FVec Ideal S768x128 .bf16} {w0 w1 v67 v73 : FVec Ideal S768x1 .f32}
  (X : Inp) (n : ℕ) (hR : Rows X n v5 v7 v9 v23 v33 v36 v39 w0 w1 v67 v73) (hn : n < 11)
  {a7 a8 a9 : FVec Ideal S512x128 .bf16} {b7 b8 b9 : FVec Ideal S256x128 .bf16}
  (h7 : ∀ (s : Fin 512) (l : Fin 128), a7 (ix2 s l) = ((X.ka (n * 768 + s.val) l.val : ℝ) : EReal))
  (h8 : ∀ (s : Fin 512) (l : Fin 128), a8 (ix2 s l) = ((X.kb (n * 768 + s.val) l.val : ℝ) : EReal))
  (h9 : ∀ (s : Fin 512) (l : Fin 128), a9 (ix2 s l) = ((X.v (n * 768 + s.val) l.val : ℝ) : EReal))
  (g7 : ∀ (s : Fin 256) (l : Fin 128), b7 (ix2 s l) = ((X.ka (n * 768 + (512 + s.val)) l.val : ℝ) : EReal))
  (g8 : ∀ (s : Fin 256) (l : Fin 128), b8 (ix2 s l) = ((X.kb (n * 768 + (512 + s.val)) l.val : ℝ) : EReal))
  (g9 : ∀ (s : Fin 256) (l : Fin 128), b9 (ix2 s l) = ((X.v (n * 768 + (512 + s.val)) l.val : ℝ) : EReal))

include hR h7 hn in
theorem weight_a0 (r : Fin 768) (s : Fin 512) :
    k0_pay75 v23 w0 (k0_pay69 a7) (k0_pay72 (BitVec.ofNat 32 n)) (iota .tc S1x512 32 [1] iota_S1x512_d1_w32) (k0_pay73 (BitVec.ofNat 32 n)) (ix2 r s) = ((X.w 0 (n * 768 + r.val) (n * 768 + s.val) : ℝ) : EReal) := by
  pointwise [k0_pay75, k0_pay69]
  simp only [hR.q0, h7, hR.s0, mask_a n hn, mask_value, ← EReal.coe_mul, coe_sum_univ, masked_weight]
  simp only [Finset.sum_range, Inp.w]
  rfl

include hR h8 hn in
theorem weight_a1 (r : Fin 768) (s : Fin 512) :
    k0_pay84 w1 (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) (ix2 r s) = ((X.w 1 (n * 768 + r.val) (n * 768 + s.val) : ℝ) : EReal) := by
  pointwise [k0_pay84, k0_pay82, k0_pay83, k0_pay70]
  simp only [hR.q1, h8, hR.s1, mask_a n hn, mask_value, ← EReal.coe_mul, coe_sum_univ, masked_weight]
  simp only [Finset.sum_range, Inp.w]
  rfl

include hR h7 h9 hn in
theorem score_a0 (r : Fin 768) (s : Fin 512) :
    k0_pay76 v23 v36 v67 w0 (k0_pay69 a7) (k0_pay71 a9) (k0_pay72 (BitVec.ofNat 32 n)) (iota .tc S1x512 32 [1] iota_S1x512_d1_w32) (k0_pay73 (BitVec.ofNat 32 n)) (ix2 r s) = ((X.ds 0 (n * 768 + r.val) (n * 768 + s.val) : ℝ) : EReal) := by
  have E := weight_a0 X n hR hn h7
  pointwise [k0_pay76, k0_pay71]
  simp only [E, hR.d0, h9, hR.l0, ← EReal.coe_mul, ← EReal.coe_sub, coe_sum_univ]
  simp only [Finset.sum_range, Inp.ds]

include hR h8 h9 hn in
theorem score_a1 (r : Fin 768) (s : Fin 512) :
    k0_pay85 v39 v73 w1 (k0_pay71 a9) (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) (ix2 r s) = ((X.ds 1 (n * 768 + r.val) (n * 768 + s.val) : ℝ) : EReal) := by
  have E := weight_a1 X n hR hn h8
  pointwise [k0_pay85, k0_pay71]
  simp only [E, hR.d1, h9, hR.l1, ← EReal.coe_mul, ← EReal.coe_sub, coe_sum_univ]
  simp only [Finset.sum_range, Inp.ds]

include hR g7 hn in
theorem weight_b0 (r : Fin 256) (s : Fin 256) :
    k0_pay99 (BitVec.ofNat 32 n) v23 w0 (Scalar.muli (BitVec.ofNat 32 n) 768#32) b7 (ix2 r s) = ((X.w 0 (n * 768 + (512 + r.val)) (n * 768 + (512 + s.val)) : ℝ) : EReal) := by
  pointwise [k0_pay99, k0_pay93]
  simp only [hR.q0, g7, hR.s0, mask_b n hn, mask_value, ← EReal.coe_mul, coe_sum_univ, masked_weight]
  simp only [Finset.sum_range, Inp.w]
  rfl

include hR g8 hn in
theorem weight_b1 (r : Fin 256) (s : Fin 256) :
    k0_pay109 v33 w1 (k0_pay94 b8) (k0_pay96 (BitVec.ofNat 32 n) (Scalar.muli (BitVec.ofNat 32 n) 768#32)) (ix2 r s) = ((X.w 1 (n * 768 + (512 + r.val)) (n * 768 + (512 + s.val)) : ℝ) : EReal) := by
  pointwise [k0_pay109, k0_pay94]
  simp only [hR.q1, g8, hR.s1, mask_b n hn, mask_value, ← EReal.coe_mul, coe_sum_univ, masked_weight]
  simp only [Finset.sum_range, Inp.w]
  rfl

include hR g7 g9 hn in
theorem score_b0 (r : Fin 256) (s : Fin 256) :
    k0_pay103 (k0_pay100 v36 b9) (k0_pay101 (BitVec.ofNat 32 n) v23 w0 (Scalar.muli (BitVec.ofNat 32 n) 768#32) b7) (k0_pay102 v67) (ix2 r s) = ((X.ds 0 (n * 768 + (512 + r.val)) (n * 768 + (512 + s.val)) : ℝ) : EReal) := by
  have E := weight_b0 X n hR hn g7
  pointwise [k0_pay103, k0_pay100, k0_pay101, k0_pay102, k0_pay95]
  simp only [E, hR.d0, g9, hR.l0, ← EReal.coe_mul, ← EReal.coe_sub, coe_sum_univ]
  simp only [Finset.sum_range, Inp.ds]

include hR g8 g9 hn in
theorem score_b1 (r : Fin 256) (s : Fin 256) :
    k0_pay110 v33 v39 v73 w1 (k0_pay94 b8) (k0_pay95 b9) (k0_pay96 (BitVec.ofNat 32 n) (Scalar.muli (BitVec.ofNat 32 n) 768#32)) (ix2 r s) = ((X.ds 1 (n * 768 + (512 + r.val)) (n * 768 + (512 + s.val)) : ℝ) : EReal) := by
  have E := weight_b1 X n hR hn g8
  pointwise [k0_pay110, k0_pay95]
  simp only [E, hR.d1, g9, hR.l1, ← EReal.coe_mul, ← EReal.coe_sub, coe_sum_univ]
  simp only [Finset.sum_range, Inp.ds]
-- ==== Proof.DiagAdd.lean ====
/-
  What the two diagonal blocks of a tile add to the gradients of the queries, the keys, the values and the gates.
-/
module
public import proofs.«01_k».proof.Proof.Diag

set_option maxRecDepth 8192
@[expose] public noncomputable section
namespace Cert.KernelIdeal.Bwd
open Gen Cert.Bwd
open Idealize.ShloMosaic TcCoe Idealize.SL.Sem

/-- A sum over a tile's 768 rows whose first 512 terms are zero. -/
theorem sum_last (f : ℕ → ℝ) (h : ∀ r, r < 512 → f r = 0) : ∑ r ∈ Finset.range 768, f r = ∑ r ∈ Finset.range 256, f (512 + r) := by
  rw [show (768 : ℕ) = 512 + 256 from rfl, Finset.sum_range_add, Finset.sum_eq_zero (fun r hr => h r (Finset.mem_range.1 hr)), zero_add]

variable {v5 : IVec S1x128 1} {v7 v9 v23 v33 v36 v39 : FVec Ideal S768x128 .bf16} {w0 w1 v67 v73 : FVec Ideal S768x1 .f32}
  (X : Inp) (n : ℕ) (hR : Rows X n v5 v7 v9 v23 v33 v36 v39 w0 w1 v67 v73) (hn : n < 11)
  {a7 a8 a9 : FVec Ideal S512x128 .bf16} {b7 b8 b9 : FVec Ideal S256x128 .bf16}
  (h7 : ∀ (s : Fin 512) (l : Fin 128), a7 (ix2 s l) = ((X.ka (n * 768 + s.val) l.val : ℝ) : EReal))
  (h8 : ∀ (s : Fin 512) (l : Fin 128), a8 (ix2 s l) = ((X.kb (n * 768 + s.val) l.val : ℝ) : EReal))
  (h9 : ∀ (s : Fin 512) (l : Fin 128), a9 (ix2 s l) = ((X.v (n * 768 + s.val) l.val : ℝ) : EReal))
  (g7 : ∀ (s : Fin 256) (l : Fin 128), b7 (ix2 s l) = ((X.ka (n * 768 + (512 + s.val)) l.val : ℝ) : EReal))
  (g8 : ∀ (s : Fin 256) (l : Fin 128), b8 (ix2 s l) = ((X.kb (n * 768 + (512 + s.val)) l.val : ℝ) : EReal))
  (g9 : ∀ (s : Fin 256) (l : Fin 128), b9 (ix2 s l) = ((X.v (n * 768 + (512 + s.val)) l.val : ℝ) : EReal))

include hR h7 h9 hn in
theorem dq_a0 (A : FVec Ideal S768x128 .f32) (B : ℕ → ℕ → ℝ) (hA : ∀ (r : Fin 768) (l : Fin 128), A (ix2 r l) = ((B r.val l.val : ℝ) : EReal)) (r : Fin 768) (l : Fin 128) :
    k0_pay78 v23 v36 v67 w0 A (k0_pay69 a7) (k0_pay71 a9) (k0_pay72 (BitVec.ofNat 32 n)) (iota .tc S1x512 32 [1] iota_S1x512_d1_w32) (k0_pay73 (BitVec.ofNat 32 n)) (ix2 r l) = ((B r.val l.val + ∑ s ∈ Finset.range 512, X.ds 0 (n * 768 + r.val) (n * 768 + s) * X.key 0 (n * 768 + s) l.val : ℝ) : EReal) := by
  have E0 := score_a0 X n hR hn h7 h9
  have K : ∀ (s : Fin 512) (l : Fin 128), k0_pay69 (F := Ideal) a7 (ix2 s l) = ((X.ka (n * 768 + s.val) l.val : ℝ) : EReal) := fun s l => (show k0_pay69 (F := Ideal) a7 (ix2 s l) = a7 (ix2 s l) by pointwise [k0_pay69]).trans (h7 s l)
  pointwise [k0_pay78, k0_pay77]
  simp only [hA, E0, K, ← EReal.coe_mul, coe_sum_univ, ← EReal.coe_add]
  simp only [Finset.sum_range, Inp.key]
  rfl

include hR g7 g9 hn in
theorem dq_b0 (A : FVec Ideal S768x128 .f32) (B : ℕ → ℕ → ℝ) (hA : ∀ (r : Fin 768) (l : Fin 128), A (ix2 r l) = ((B r.val l.val : ℝ) : EReal)) (r : Fin 256) (l : Fin 128) :
    k0_pay105 (k0_pay91 A) (k0_pay93 b7) (k0_pay100 v36 b9) (k0_pay101 (BitVec.ofNat 32 n) v23 w0 (Scalar.muli (BitVec.ofNat 32 n) 768#32) b7) (k0_pay102 v67) (ix2 r l) = ((B (512 + r.val) l.val + ∑ s ∈ Finset.range 256, X.ds 0 (n * 768 + (512 + r.val)) (n * 768 + (512 + s)) * X.key 0 (n * 768 + (512 + s)) l.val : ℝ) : EReal) := by
  have E0 := score_b0 X n hR hn g7 g9
  have K : ∀ (s : Fin 256) (l : Fin 128), k0_pay93 (F := Ideal) b7 (ix2 s l) = ((X.ka (n * 768 + (512 + s.val)) l.val : ℝ) : EReal) := fun s l => (show k0_pay93 (F := Ideal) b7 (ix2 s l) = b7 (ix2 s l) by pointwise [k0_pay93]).trans (g7 s l)
  pointwise [k0_pay105, k0_pay104, k0_pay91]
  simp only [hA, E0, K, ← EReal.coe_mul, coe_sum_univ, ← EReal.coe_add]
  simp only [Finset.sum_range, Inp.key]
  rfl

include hR h8 h9 hn in
theorem dq_a1 (A : FVec Ideal S768x128 .f32) (B : ℕ → ℕ → ℝ) (hA : ∀ (r : Fin 768) (l : Fin 128), A (ix2 r l) = ((B r.val l.val : ℝ) : EReal)) (r : Fin 768) (l : Fin 128) :
    k0_pay87 v39 v73 w1 A (k0_pay70 a8) (k0_pay71 a9) (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) (ix2 r l) = ((B r.val l.val + ∑ s ∈ Finset.range 512, X.ds 1 (n * 768 + r.val) (n * 768 + s) * X.key 1 (n * 768 + s) l.val : ℝ) : EReal) := by
  have E1 := score_a1 X n hR hn h8 h9
  have K : ∀ (s : Fin 512) (l : Fin 128), k0_pay70 (F := Ideal) a8 (ix2 s l) = ((X.kb (n * 768 + s.val) l.val : ℝ) : EReal) := fun s l => (show k0_pay70 (F := Ideal) a8 (ix2 s l) = a8 (ix2 s l) by pointwise [k0_pay70]).trans (h8 s l)
  pointwise [k0_pay87, k0_pay86]
  simp only [hA, E1, K, ← EReal.coe_mul, coe_sum_univ, ← EReal.coe_add]
  simp only [Finset.sum_range, Inp.key]
  rfl

include hR g8 g9 hn in
theorem dq_b1 (A : FVec Ideal S768x128 .f32) (B : ℕ → ℕ → ℝ) (hA : ∀ (r : Fin 768) (l : Fin 128), A (ix2 r l) = ((B r.val l.val : ℝ) : EReal)) (r : Fin 256) (l : Fin 128) :
    k0_pay112 v33 v39 v73 w1 (k0_pay92 A) (k0_pay94 b8) (k0_pay95 b9) (k0_pay96 (BitVec.ofNat 32 n) (Scalar.muli (BitVec.ofNat 32 n) 768#32)) (ix2 r l) = ((B (512 + r.val) l.val + ∑ s ∈ Finset.range 256, X.ds 1 (n * 768 + (512 + r.val)) (n * 768 + (512 + s)) * X.key 1 (n * 768 + (512 + s)) l.val : ℝ) : EReal) := by
  have E1 := score_b1 X n hR hn g8 g9
  have K : ∀ (s : Fin 256) (l : Fin 128), k0_pay94 (F := Ideal) b8 (ix2 s l) = ((X.kb (n * 768 + (512 + s.val)) l.val : ℝ) : EReal) := fun s l => (show k0_pay94 (F := Ideal) b8 (ix2 s l) = b8 (ix2 s l) by pointwise [k0_pay94]).trans (g8 s l)
  pointwise [k0_pay112, k0_pay111, k0_pay92]
  simp only [hA, E1, K, ← EReal.coe_mul, coe_sum_univ, ← EReal.coe_add]
  simp only [Finset.sum_range, Inp.key]
  rfl

include hR h7 h8 h9 hn in
theorem dk_a (V : FVec Ideal S512x128 .f32) (D : ℕ → ℕ → ℝ) (hD : ∀ (s : Fin 512) (l : Fin 128), V (ix2 s l) = ((D (n * 768 + s.val) l.val : ℝ) : EReal)) (s : Fin 512) (l : Fin 128) :
    k0_pay89 v5 v7 v39 v73 w1 (k0_pay71 a9) (k0_pay74 (k0_pay72 (BitVec.ofNat 32 n)) (iota .tc S1x512 32 [1] iota_S1x512_d1_w32) (k0_pay73 (BitVec.ofNat 32 n))) (k0_pay79 v7 v23 v36 v67 w0 (k0_pay69 a7) (k0_pay71 a9) (k0_pay72 (BitVec.ofNat 32 n)) (iota .tc S1x512 32 [1] iota_S1x512_d1_w32) (k0_pay73 (BitVec.ofNat 32 n))) (k0_pay82 v33 (k0_pay70 a8)) (k0_pay83 (F := Ideal)) V (ix2 s l) = ((D (n * 768 + s.val) l.val + ∑ r ∈ Finset.range 768, X.ds (Inp.hd l.val) (n * 768 + r) (n * 768 + s.val) * X.q (n * 768 + r) l.val : ℝ) : EReal) := by
  have E0 := score_a0 X n hR hn h7 h9
  have E1 := score_a1 X n hR hn h8 h9
  pointwise [k0_pay89, k0_pay86, k0_pay79, k0_pay77]
  simp only [hD, E0, E1, hR.q, hR.lo, Scalar.select_ofBool, decide_eq_true_eq, ← EReal.coe_mul, coe_sum_univ]
  simp only [Finset.sum_range, Inp.hd]
  split <;> rw [EReal.coe_add]

include hR h7 h8 hn in
theorem dv_a (V : FVec Ideal S512x128 .f32) (D : ℕ → ℕ → ℝ) (hD : ∀ (s : Fin 512) (l : Fin 128), V (ix2 s l) = ((D (n * 768 + s.val) l.val : ℝ) : EReal)) (s : Fin 512) (l : Fin 128) :
    k0_pay90 v5 v9 w1 (k0_pay74 (k0_pay72 (BitVec.ofNat 32 n)) (iota .tc S1x512 32 [1] iota_S1x512_d1_w32) (k0_pay73 (BitVec.ofNat 32 n))) (k0_pay80 v9 v23 w0 (k0_pay69 a7) (k0_pay72 (BitVec.ofNat 32 n)) (iota .tc S1x512 32 [1] iota_S1x512_d1_w32) (k0_pay73 (BitVec.ofNat 32 n))) (k0_pay82 v33 (k0_pay70 a8)) (k0_pay83 (F := Ideal)) V (ix2 s l) = ((D (n * 768 + s.val) l.val + ∑ r ∈ Finset.range 768, X.w (Inp.hd l.val) (n * 768 + r) (n * 768 + s.val) * X.dO (n * 768 + r) l.val : ℝ) : EReal) := by
  have E0 := weight_a0 X n hR hn h7
  have E1 := weight_a1 X n hR hn h8
  pointwise [k0_pay90, k0_pay80]
  simp only [hD, E0, E1, hR.d, hR.lo, Scalar.select_ofBool, decide_eq_true_eq, ← EReal.coe_mul, coe_sum_univ]
  simp only [Finset.sum_range, Inp.hd]
  split <;> rw [EReal.coe_add]

include hR g7 g8 g9 hn in
theorem dk_b (V : FVec Ideal S256x128 .f32) (D : ℕ → ℕ → ℝ) (hD : ∀ (s : Fin 256) (l : Fin 128), V (ix2 s l) = ((D (n * 768 + (512 + s.val)) l.val : ℝ) : EReal)) (s : Fin 256) (l : Fin 128) :
    k0_pay2 v5 (k0_pay106 (k0_pay97 v7) (k0_pay100 v36 b9) (k0_pay101 (BitVec.ofNat 32 n) v23 w0 (Scalar.muli (BitVec.ofNat 32 n) 768#32) b7) (k0_pay102 v67)) (k0_pay113 v33 v39 v73 w1 (k0_pay94 b8) (k0_pay95 b9) (k0_pay96 (BitVec.ofNat 32 n) (Scalar.muli (BitVec.ofNat 32 n) 768#32)) (k0_pay97 v7)) V (ix2 s l) = ((D (n * 768 + (512 + s.val)) l.val + ∑ r ∈ Finset.range 768, X.ds (Inp.hd l.val) (n * 768 + r) (n * 768 + (512 + s.val)) * X.q (n * 768 + r) l.val : ℝ) : EReal) := by
  have E0 := score_b0 X n hR hn g7 g9
  have E1 := score_b1 X n hR hn g8 g9
  rw [sum_last _ (fun r hr => by rw [X.ds_of_not (by unfold Inp.ok; omega), zero_mul])]
  pointwise [k0_pay2, k0_pay106, k0_pay113, k0_pay104, k0_pay111, k0_pay97]
  simp only [hD, E0, E1, hR.q, hR.lo, Scalar.select_ofBool, decide_eq_true_eq, ← EReal.coe_mul, coe_sum_univ]
  simp only [Finset.sum_range, Inp.hd]
  split <;> rw [EReal.coe_add]

include hR g7 g8 hn in
theorem dv_b (V : FVec Ideal S256x128 .f32) (D : ℕ → ℕ → ℝ) (hD : ∀ (s : Fin 256) (l : Fin 128), V (ix2 s l) = ((D (n * 768 + (512 + s.val)) l.val : ℝ) : EReal)) (s : Fin 256) (l : Fin 128) :
    k0_pay3 v5 (k0_pay107 (k0_pay98 v9) (k0_pay99 (BitVec.ofNat 32 n) v23 w0 (Scalar.muli (BitVec.ofNat 32 n) 768#32) b7)) (k0_pay114 v33 w1 (k0_pay94 b8) (k0_pay96 (BitVec.ofNat 32 n) (Scalar.muli (BitVec.ofNat 32 n) 768#32)) (k0_pay98 v9)) V (ix2 s l) = ((D (n * 768 + (512 + s.val)) l.val + ∑ r ∈ Finset.range 768, X.w (Inp.hd l.val) (n * 768 + r) (n * 768 + (512 + s.val)) * X.dO (n * 768 + r) l.val : ℝ) : EReal) := by
  have E0 := weight_b0 X n hR hn g7
  have E1 := weight_b1 X n hR hn g8
  rw [sum_last _ (fun r hr => by rw [X.w_of_not (by unfold Inp.ok; omega), zero_mul])]
  pointwise [k0_pay3, k0_pay107, k0_pay114, k0_pay98]
  simp only [hD, E0, E1, hR.d, hR.lo, Scalar.select_ofBool, decide_eq_true_eq, ← EReal.coe_mul, coe_sum_univ]
  simp only [Finset.sum_range, Inp.hd]
  split <;> rw [EReal.coe_add]

include hR h7 h9 hn in
theorem dc_a0 (V : Vec Ideal S1x1x512 .f32) (D : ℕ → ℕ → ℝ) (hD : ∀ (s : Fin 512), V (ix3 0 0 s) = ((D 0 (n * 768 + s.val) : ℝ) : EReal)) (s : Fin 512) :
    k0_pay81 v23 v36 v67 w0 (k0_pay69 a7) (k0_pay71 a9) (k0_pay72 (BitVec.ofNat 32 n)) (iota .tc S1x512 32 [1] iota_S1x512_d1_w32) (k0_pay73 (BitVec.ofNat 32 n)) V (ix3 0 0 s) = ((D 0 (n * 768 + s.val) - ∑ r ∈ Finset.range 768, X.ds 0 (n * 768 + r) (n * 768 + s.val) : ℝ) : EReal) := by
  have E0 := score_a0 X n hR hn h7 h9
  pointwise [k0_pay81]
  simp only [hD, E0, coe_sum_univ, zero_sub, ← EReal.coe_neg, ← EReal.coe_add, zero_add, sub_eq_add_neg]
  simp only [Finset.sum_range]

include hR g7 g9 hn in
theorem dc_b0 (V : Vec Ideal S1x1x256 .f32) (D : ℕ → ℕ → ℝ) (hD : ∀ (s : Fin 256), V (ix3 0 0 s) = ((D 0 (n * 768 + (512 + s.val)) : ℝ) : EReal)) (s : Fin 256) :
    k0_pay108 (k0_pay100 v36 b9) (k0_pay101 (BitVec.ofNat 32 n) v23 w0 (Scalar.muli (BitVec.ofNat 32 n) 768#32) b7) (k0_pay102 v67) V (ix3 0 0 s) = ((D 0 (n * 768 + (512 + s.val)) - ∑ r ∈ Finset.range 768, X.ds 0 (n * 768 + r) (n * 768 + (512 + s.val)) : ℝ) : EReal) := by
  have E0 := score_b0 X n hR hn g7 g9
  rw [sum_last _ (fun r hr => X.ds_of_not (by unfold Inp.ok; omega))]
  pointwise [k0_pay108]
  simp only [hD, E0, coe_sum_univ, zero_sub, ← EReal.coe_neg, ← EReal.coe_add, zero_add, sub_eq_add_neg]
  simp only [Finset.sum_range]

include hR h8 h9 hn in
theorem dc_a1 (V : Vec Ideal S1x1x512 .f32) (D : ℕ → ℕ → ℝ) (hD : ∀ (s : Fin 512), V (ix3 0 0 s) = ((D 1 (n * 768 + s.val) : ℝ) : EReal)) (s : Fin 512) :
    k0_pay88 v39 v73 w1 (k0_pay71 a9) (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) V (ix3 0 0 s) = ((D 1 (n * 768 + s.val) - ∑ r ∈ Finset.range 768, X.ds 1 (n * 768 + r) (n * 768 + s.val) : ℝ) : EReal) := by
  have E1 := score_a1 X n hR hn h8 h9
  pointwise [k0_pay88]
  simp only [hD, E1, coe_sum_univ, zero_sub, ← EReal.coe_neg, ← EReal.coe_add, zero_add, sub_eq_add_neg]
  simp only [Finset.sum_range]

include hR g8 g9 hn in
theorem dc_b1 (V : Vec Ideal S1x1x256 .f32) (D : ℕ → ℕ → ℝ) (hD : ∀ (s : Fin 256), V (ix3 0 0 s) = ((D 1 (n * 768 + (512 + s.val)) : ℝ) : EReal)) (s : Fin 256) :
    k0_pay1 (k0_pay110 v33 v39 v73 w1 (k0_pay94 b8) (k0_pay95 b9) (k0_pay96 (BitVec.ofNat 32 n) (Scalar.muli (BitVec.ofNat 32 n) 768#32))) V (ix3 0 0 s) = ((D 1 (n * 768 + (512 + s.val)) - ∑ r ∈ Finset.range 768, X.ds 1 (n * 768 + r) (n * 768 + (512 + s.val)) : ℝ) : EReal) := by
  have E1 := score_b1 X n hR hn g8 g9
  rw [sum_last _ (fun r hr => X.ds_of_not (by unfold Inp.ok; omega))]
  pointwise [k0_pay1]
  simp only [hD, E1, coe_sum_univ, zero_sub, ← EReal.coe_neg, ← EReal.coe_add, zero_add, sub_eq_add_neg]
  simp only [Finset.sum_range]

include hR in
/-- The tile of the queries' gradient, joined from the two blocks and the two heads. -/
theorem dq_tile (A0 A1 : FVec Ideal S768x128 .f32) (B0 B1 : FVec Ideal S256x128 .f32) (a0 a1 b0 b1 : ℕ → ℕ → ℝ)
    (hA0 : ∀ (r : Fin 768) (l : Fin 128), A0 (ix2 r l) = ((a0 r.val l.val : ℝ) : EReal))
    (hA1 : ∀ (r : Fin 768) (l : Fin 128), A1 (ix2 r l) = ((a1 r.val l.val : ℝ) : EReal))
    (hB0 : ∀ (r : Fin 256) (l : Fin 128), B0 (ix2 r l) = ((b0 r.val l.val : ℝ) : EReal))
    (hB1 : ∀ (r : Fin 256) (l : Fin 128), B1 (ix2 r l) = ((b1 r.val l.val : ℝ) : EReal)) (r : Fin 768) (l : Fin 128) :
    k0_pay4 v5 A0 A1 B0 B1 (ix2 r l) = (((if l.val < 64 then (if r.val < 512 then a0 r.val l.val else b0 (r.val - 512) l.val)
      else (if r.val < 512 then a1 r.val l.val else b1 (r.val - 512) l.val)) : ℝ) : EReal) := by
  pointwise [k0_pay4]
  simp only [hR.lo, Scalar.select_ofBool, decide_eq_true_eq]
  have hr := r.isLt
  by_cases h1 : l.val < 64 <;> by_cases h2 : r.val < 512 <;> simp only [h1, h2, if_true, if_false, dif_pos, dif_neg, not_false_eq_true]
  · exact hA0 r l
  · exact hB0 ⟨r.val - 512, by omega⟩ l
  · exact hA1 r l
  · exact hB1 ⟨r.val - 512, by omega⟩ l
-- ==== Proof.RowsOf.lean ====
/-
  The vectors the body makes of a tile's blocks before its loops: the lane masks, the two heads' queries and output
  gradients, the rows' shifts and the rows' subtracted sums.
-/
module
public import proofs.«01_k».proof.Proof.Trip

set_option maxRecDepth 8192
@[expose] public noncomputable section
namespace Cert.KernelIdeal.Bwd
open Gen Cert.Bwd
open Idealize.ShloMosaic TcCoe Idealize.SL.Sem

theorem lane_lt (l : Fin 128) (b : ℕ) (hb : b < 2 ^ 31) :
    IntOp.cmpi .slt (BitVec.ofNat 32 l.val) (BitVec.ofNat 32 b) = BitVec.ofBool (decide (l.val < b)) :=
  WordCmp.cmpi_slt_ofNat (by have := l.isLt; omega) hb

theorem lane_eq (l : Fin 128) (b : ℕ) (hb : b < 2 ^ 31) :
    IntOp.cmpi .eq (BitVec.ofNat 32 l.val) (BitVec.ofNat 32 b) = BitVec.ofBool (decide (l.val = b)) :=
  WordCmp.cmpi_eq_ofNat (by have := l.isLt; omega) (by omega)

theorem neg_inf : Ideal.ofBits FTy.f32 0xFF800000#32 = (⊥ : EReal) := by simp [Ideal.ofBits, Ideal.ieee]

/-- The largest of numbers that are all `a` or minus infinity. -/
theorem fold_max_const (f : Fin 128 → EReal) (a : EReal) (x : Fin 128) (hx : f x = a) (h : ∀ y, f y = a ∨ f y = ⊥) :
    Finset.fold max (⊥ : EReal) f Finset.univ = a := by
  apply le_antisymm
  · rw [Finset.fold_max_le]
    refine ⟨bot_le, fun y _ => ?_⟩
    rcases h y with e | e <;> rw [e]
    exact bot_le
  · rw [Finset.le_fold_max]
    exact Or.inr ⟨x, Finset.mem_univ _, hx.ge⟩

theorem max_lo (f : Fin 128 → EReal) (a b : EReal) (hf : ∀ l : Fin 128, f l = if l.val < 64 then a else b) :
    Finset.fold max (⊥ : EReal) (fun x => if x.val < 64 then f x else ⊥) Finset.univ = a := by
  refine fold_max_const _ a ⟨0, by decide⟩ (by rw [hf]; simp) fun y => ?_
  by_cases h : y.val < 64
  · left; rw [if_pos h, hf, if_pos h]
  · right; rw [if_neg h]

theorem max_hi (f : Fin 128 → EReal) (a b : EReal) (hf : ∀ l : Fin 128, f l = if l.val < 64 then a else b) :
    Finset.fold max (⊥ : EReal) (fun x => if x.val < 64 then ⊥ else f x) Finset.univ = b := by
  refine fold_max_const _ b ⟨64, by decide⟩ (by rw [hf]; simp) fun y => ?_
  by_cases h : y.val < 64
  · right; rw [if_pos h]
  · left; rw [if_neg h, hf, if_neg h]

theorem pick_lane (f : Fin 128 → ℝ) (j : ℕ) (hj : j < 128) :
    (∑ x : Fin 128, if x.val = j then ((f x : ℝ) : EReal) else 0) = ((f ⟨j, hj⟩ : ℝ) : EReal) := by
  rw [Finset.sum_eq_single ⟨j, hj⟩]
  · simp
  · intro b _ hb
    rw [if_neg (fun h => hb (Fin.ext h))]
  · simp

theorem lo_mask (l : Fin 128) : k0_pay30 (ix2 0 l) = BitVec.ofBool (decide (l.val < 64)) := by
  pointwise [k0_pay30]
  exact lane_lt l 64 (by decide)

theorem lo_mask41 (l : Fin 128) : k0_pay41 (ix2 0 l) = BitVec.ofBool (decide (l.val < 64)) := by
  pointwise [k0_pay41]
  exact lane_lt l 64 (by decide)

theorem lo_mask45 (l : Fin 128) : k0_pay45 (ix2 0 l) = BitVec.ofBool (decide (l.val < 64)) := by
  pointwise [k0_pay45]
  exact lane_lt l 64 (by decide)

theorem halves42 (ms : Vec Ideal S768x128 .f32) (a b : EReal) (r : Fin 768) (h : ∀ l : Fin 128, ms (ix2 r l) = if l.val < 64 then a else b) :
    k0_pay42 ms (ix2 r 0) = a := by
  pointwise [k0_pay42, k0_pay40]
  simp only [lo_mask41, Scalar.select_ofBool, decide_eq_true_eq, neg_inf]
  exact max_lo (fun l => ms (ix2 r l)) a b h

theorem halves43 (ms : Vec Ideal S768x128 .f32) (a b : EReal) (r : Fin 768) (h : ∀ l : Fin 128, ms (ix2 r l) = if l.val < 64 then a else b) :
    k0_pay43 ms (ix2 r 0) = b := by
  pointwise [k0_pay43, k0_pay40]
  simp only [lo_mask41, Scalar.select_ofBool, decide_eq_true_eq, neg_inf]
  exact max_hi (fun l => ms (ix2 r l)) a b h

theorem halves46 (ms : Vec Ideal S768x128 .f32) (a b : EReal) (r : Fin 768) (h : ∀ l : Fin 128, ms (ix2 r l) = if l.val < 64 then a else b) :
    k0_pay46 ms (ix2 r 0) = a := by
  pointwise [k0_pay46, k0_pay44]
  simp only [lo_mask45, Scalar.select_ofBool, decide_eq_true_eq, neg_inf]
  exact max_lo (fun l => ms (ix2 r l)) a b h

theorem halves47 (ms : Vec Ideal S768x128 .f32) (a b : EReal) (r : Fin 768) (h : ∀ l : Fin 128, ms (ix2 r l) = if l.val < 64 then a else b) :
    k0_pay47 ms (ix2 r 0) = b := by
  pointwise [k0_pay47, k0_pay44]
  simp only [lo_mask45, Scalar.select_ofBool, decide_eq_true_eq, neg_inf]
  exact max_hi (fun l => ms (ix2 r l)) a b h

/-- What the five blocks of a tile hold, for lane pair `p`: the queries, the output's gradient, the shifts and the
    subtracted sums repeated over each head's lanes, and the gates, one lane a head. -/
structure Blocks (X : Inp) (M C : ℕ → ℕ → ℝ) (p n : ℕ) (q d : Vec Ideal S768x128 .bf16) (ms dl c : Vec Ideal S768x128 .f32) : Prop where
  q : ∀ (r : Fin 768) (l : Fin 128), q (ix2 r l) = ((X.q (n * 768 + r.val) l.val : ℝ) : EReal)
  d : ∀ (r : Fin 768) (l : Fin 128), d (ix2 r l) = ((X.dO (n * 768 + r.val) l.val : ℝ) : EReal)
  ms : ∀ (r : Fin 768) (l : Fin 128), ms (ix2 r l) = ((M (Inp.hd l.val) (n * 768 + r.val) : ℝ) : EReal)
  dl : ∀ (r : Fin 768) (l : Fin 128), dl (ix2 r l) = ((X.dl (Inp.hd l.val) (n * 768 + r.val) : ℝ) : EReal)
  c : ∀ (r : Fin 768) (l : Fin 128), c (ix2 r l) = ((C (n * 768 + r.val) l.val : ℝ) : EReal)
  sh : ∀ h r : ℕ, h < 2 → X.sh h r = C r (2 * p + h) - M h r

theorem head_split (f : ℕ → ℝ) (l : Fin 128) : ((f (Inp.hd l.val) : ℝ) : EReal) = if l.val < 64 then ((f 0 : ℝ) : EReal) else ((f 1 : ℝ) : EReal) := by
  unfold Inp.hd; split <;> rfl

theorem rows_of (X : Inp) (M C : ℕ → ℕ → ℝ) (p n : ℕ) (hp : p < 8) (q d : Vec Ideal S768x128 .bf16) (ms dl c : Vec Ideal S768x128 .f32)
    (B : Blocks X M C p n q d ms dl c) :
    Rows X n k0_pay30 (k0_pay31 q) (k0_pay32 d) (k0_pay36 q) (k0_pay37 q) (k0_pay38 d) (k0_pay39 d)
      (k0_pay51 (k0_pay42 ms) (k0_pay48 c) (k0_pay49 (BitVec.ofNat 32 p)) k0_pay50)
      (k0_pay52 (BitVec.ofNat 32 p) (k0_pay43 ms) (k0_pay48 c)) (k0_pay46 dl) (k0_pay47 dl) := by
  have e0 : Scalar.addi (Scalar.muli (2#32) (BitVec.ofNat 32 p)) 0#32 = BitVec.ofNat 32 (2 * p + 0) := by
    show (2#32 * BitVec.ofNat 32 p) + 0#32 = _
    apply BitVec.eq_of_toNat_eq; simp
  have e1 : Scalar.addi (Scalar.muli (2#32) (BitVec.ofNat 32 p)) 1#32 = BitVec.ofNat 32 (2 * p + 1) := by
    show (2#32 * BitVec.ofNat 32 p) + 1#32 = _
    apply BitVec.eq_of_toNat_eq; simp
  refine ⟨lo_mask, fun r l => ?_, fun r l => ?_, fun r l => ?_, fun r l => ?_, fun r l => ?_, fun r l => ?_, fun r => ?_, fun r => ?_,
    fun r => ?_, fun r => ?_⟩
  · pointwise [k0_pay31]; exact B.q r l
  · pointwise [k0_pay32]; exact B.d r l
  · pointwise [k0_pay36, k0_pay35, k0_pay34, k0_pay31]
    rw [lane_lt l 64 (by decide), lane_lt l 67 (by decide), B.q, Scalar.select_ofBool, Scalar.select_ofBool]
    simp only [decide_eq_true_eq, Inp.qh, if_true]
    split_ifs <;> rfl
  · pointwise [k0_pay37, k0_pay35, k0_pay34, k0_pay31]
    rw [lane_lt l 64 (by decide), lane_lt l 3 (by decide), B.q, Scalar.select_ofBool, Scalar.select_ofBool]
    simp only [decide_eq_true_eq, Inp.qh, if_neg (show ¬ (1 : ℕ) = 0 by decide)]
    split_ifs <;> rfl
  · pointwise [k0_pay38, k0_pay33, k0_pay32]
    rw [lo_mask, B.d, Scalar.select_ofBool]
    simp only [decide_eq_true_eq, Inp.doh, if_true]
    split_ifs <;> rfl
  · pointwise [k0_pay39, k0_pay33, k0_pay32]
    rw [lo_mask, B.d, Scalar.select_ofBool]
    simp only [decide_eq_true_eq, Inp.doh, if_neg (show ¬ (1 : ℕ) = 0 by decide)]
    split_ifs <;> rfl
  · have hm := halves42 ms _ _ r (fun l => (B.ms r l).trans (head_split (fun h => M h (n * 768 + r.val)) l))
    pointwise [k0_pay51, k0_pay48, k0_pay49, k0_pay50]
    simp only [hm, e0, lane_eq _ _ (show 2 * p + 0 < 2 ^ 31 by omega), Scalar.select_ofBool, decide_eq_true_eq, B.c]
    rw [pick_lane (fun x => C (n * 768 + r.val) x.val) (2 * p + 0) (by omega), ← EReal.coe_sub, B.sh 0 _ (by decide)]
  · have hm := halves43 ms _ _ r (fun l => (B.ms r l).trans (head_split (fun h => M h (n * 768 + r.val)) l))
    pointwise [k0_pay52, k0_pay48]
    simp only [hm, e1, lane_eq _ _ (show 2 * p + 1 < 2 ^ 31 by omega), Scalar.select_ofBool, decide_eq_true_eq, B.c]
    rw [pick_lane (fun x => C (n * 768 + r.val) x.val) (2 * p + 1) (by omega), ← EReal.coe_sub, B.sh 1 _ (by decide)]
  · exact halves46 dl _ _ r (fun l => (B.dl r l).trans (head_split (fun h => X.dl h (n * 768 + r.val)) l))
  · exact halves47 dl _ _ r (fun l => (B.dl r l).trans (head_split (fun h => X.dl h (n * 768 + r.val)) l))
-- ==== Proof.Body.lean ====
/-
  The whole body at a point after the first tile: what the trip counts are, and what the body leaves in each result.
-/
module
public import proofs.«01_k».proof.Proof.Loop
public import proofs.«01_k».proof.Proof.DiagAdd
public import proofs.«01_k».proof.Proof.RowsOf

set_option maxRecDepth 8192
@[expose] public noncomputable section
namespace Cert.KernelIdeal.Bwd
open Gen Cert.Bwd
open Idealize.ShloMosaic TcCoe Idealize.SL.Sem

theorem trips1 (i : grid0.Coords) : (k0_t1_loop i).trips = (i 1).val := by
  have : ∀ n : Fin 11, Scf.trips 0#32 (Scalar.addi 0#32 (Scalar.muli (Scalar.divsi (Scalar.subi (BitVec.ofNat 32 n.val) 0#32) 1#32) 1#32)) 1#32 = n.val := by decide +kernel
  exact this (i 1)

theorem trips2 (i : grid0.Coords) : (k0_t2_loop i).trips = 0 := by
  have : ∀ n : Fin 11, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide +kernel
  exact this (i 1)

theorem words1 (i : grid0.Coords) : Scf.trips (k0_t1_loop i).lb (k0_t1_loop i).ub (k0_t1_loop i).st = (i 1).val := trips1 i

theorem words2 (i : grid0.Coords) : Scf.trips (k0_t2_loop i).lb (k0_t2_loop i).ub (k0_t2_loop i).st = 0 := trips2 i

/-- Reading a whole block gives the block. -/
theorem tile_read {e : EltTy} (a : Memref sig .tc .vmem S768x128 e) (h : a.IsWhole) (x : Vec Ideal S768x128 e) :
    View.readAt (Elt Ideal) a.view (Rect.unit (s := S768x128) (![0, 0] : Fin 2 → ℕ) ![768, 128] inb_S768x128_S768x128_0_0).toLoadRect (h.unread x) = x :=
  (View.readAt_full a.view (h.unread x) inb_S768x128_S768x128_0_0).trans (h.read_unread x)

section
variable (𝒱 : Variants) (c : Dev nD) (bd : Option 𝒱.V) (i : grid0.Coords) (p2 : Memref sig .tc .vmem S768x128 .bf16) (q2 : p2.IsWhole) (p3 : Memref sig .tc .vmem S768x128 .bf16) (q3 : p3.IsWhole) (p4 : Memref sig .tc .vmem S768x128 .f32) (q4 : p4.IsWhole) (p5 : Memref sig .tc .vmem S768x128 .f32) (q5 : p5.IsWhole) (p6 : Memref sig .tc .vmem S768x128 .f32) (q6 : p6.IsWhole) (p7 : Memref sig .tc .vmem S8448x128 .bf16) (q7 : p7.IsWhole) (p8 : Memref sig .tc .vmem S8448x128 .bf16) (q8 : p8.IsWhole) (p9 : Memref sig .tc .vmem S8448x128 .bf16) (q9 : p9.IsWhole) (p10 : Memref sig .tc .vmem S768x128 .f32) (q10 : p10.IsWhole) (p11 : Memref sig .tc .vmem S8448x128 .f32) (q11 : p11.IsWhole) (p12 : Memref sig .tc .vmem S8448x128 .f32) (q12 : p12.IsWhole) (p13 : Memref sig .tc .vmem S1x8x8448 .f32) (q13 : p13.IsWhole) (p0 : BitVec 32) (p1 : BitVec 32) (v5 : IVec S1x128 1) (v7 : FVec Ideal S768x128 .bf16) (v9 : FVec Ideal S768x128 .bf16) (v23 : FVec Ideal S768x128 .bf16) (v33 : FVec Ideal S768x128 .bf16) (v36 : FVec Ideal S768x128 .bf16) (v39 : FVec Ideal S768x128 .bf16) (v50 : FVec Ideal S768x1 .f32) (v56 : FVec Ideal S768x1 .f32) (v67 : FVec Ideal S768x1 .f32) (v73 : FVec Ideal S768x1 .f32) (v75 : FVec Ideal S768x128 .f32) (v82 : IVec S768x128 1) (v83 : FVec Ideal S768x128 .f32) (X_arg7 : BufTy.Contents (Elt Ideal) p7.view.ty) (X_arg8 : BufTy.Contents (Elt Ideal) p8.view.ty) (X_arg9 : BufTy.Contents (Elt Ideal) p9.view.ty) (v106 : BitVec 32)
  (G_arg11 : BufTy.Contents (Elt Ideal) p11.view.ty) (G_arg12 : BufTy.Contents (Elt Ideal) p12.view.ty)
  (G_arg13 : BufTy.Contents (Elt Ideal) p13.view.ty) (init : FVec Ideal S768x128 .f32 × FVec Ideal S768x128 .f32)

/-- The second loop runs no trip. -/
theorem loop2_none (j : ℕ) (hj : j = 0) : st_k0_t2 (F := Ideal) 𝒱 c bd i p2 q2 p3 q3 p4 q4 p5 q5 p6 q6 p7 q7 p8 q8 p9 q9 p10 q10 p11 q11 p12 q12 p13 q13 p0 p1 v5 v7 v9 v23 v33 v36 v39 v50 v56 v67 v73 v75 v82 v83 v106 X_arg7 X_arg8 X_arg9 G_arg11 G_arg12 G_arg13 init j = (init, [], [], []) := by
  subst hj; rfl

end
-- ==== Proof.Logits.lean ====
/-
  The parts that the two programs share, over the extended reals: the heads of an array, the logits, their row
  maxima, the exponentials and their sums.
-/
module
public import proofs.«01_k».proof.Proof.RealStep
public import proofs.«01_k».proof.Proof.Body

set_option maxRecDepth 8192
@[expose] public noncomputable section
namespace Cert.KernelIdeal.Bwd
open Gen Cert.Bwd
open Idealize.ShloMosaic TcCoe Idealize.SL.Sem

/-- The arguments hold the real numbers of `a`. -/
structure Holds (x0 x1 x2 : FVec Ideal S8208x1024 .f32) (x3 : FVec Ideal S8208x16 .f32) (x4 : FVec Ideal S8208x1024 .f32) (a : Real5) : Prop where
  q : ∀ (r : Fin 8208) (j : Fin 1024), x0 (ix2 r j) = ((a.q r.val j.val : ℝ) : EReal)
  k : ∀ (r : Fin 8208) (j : Fin 1024), x1 (ix2 r j) = ((a.k r.val j.val : ℝ) : EReal)
  v : ∀ (r : Fin 8208) (j : Fin 1024), x2 (ix2 r j) = ((a.v r.val j.val : ℝ) : EReal)
  g : ∀ (r : Fin 8208) (h : Fin 16), x3 (ix2 r h) = ((a.g r.val h.val : ℝ) : EReal)
  ct : ∀ (r : Fin 8208) (j : Fin 1024), x4 (ix2 r j) = ((a.ct r.val j.val : ℝ) : EReal)

/-- An array by head, row and lane. -/
def heads (x : FVec Ideal S8208x1024 .f32) : FVec Ideal S16x8208x64 .f32 :=
  transpose S16x8208x64 [1, 0, 2] (shapeCast S8208x16x64 x shapeCasts_S8208x1024_S8208x16x64) transposes_S8208x16x64_S16x8208x64_1_0_2

theorem heads_at (x : FVec Ideal S8208x1024 .f32) (f : ℕ → ℕ → ℝ) (hx : ∀ (r : Fin 8208) (j : Fin 1024), x (ix2 r j) = ((f r.val j.val : ℝ) : EReal))
    (h : Fin 16) (r : Fin 8208) (d : Fin 64) : heads x (ix3 h r d) = ((f r.val (h.val * 64 + d.val) : ℝ) : EReal) := by
  have := hx r ⟨h.val * 64 + d.val, by omega⟩
  rw [← this]
  pointwise [heads]

/-- The scaled products of queries and keys, the differences of the gate, the causal mask, the logits. -/
def scores (x0 x1 : FVec Ideal S8208x1024 .f32) : FVec Ideal S16x8208x8208 .f32 :=
  mulf (Host.dotGeneral dot_S16x8208x64_S16x8208x64_S16x8208x8208_2_2_1_1_0_0 none (heads x0) (heads x1))
    (broadcastInDim S16x8208x8208 ![] bcast_S_S16x8208x8208 (constant S_ .f32 0x3E000000#32))

def gates (x3 : FVec Ideal S8208x16 .f32) : FVec Ideal S16x8208x8208 .f32 :=
  subf (broadcastInDim S16x8208x8208 ![0, 1, 2] bcast_S16x8208x1_S16x8208x8208_0_1_2
      (broadcastInDim S16x8208x1 ![0, 1] bcast_S16x8208_S16x8208x1_0_1 (transpose S16x8208 [1, 0] x3 transposes_S8208x16_S16x8208_1_0)))
    (broadcastInDim S16x8208x8208 ![0, 1, 2] bcast_S16x1x8208_S16x8208x8208_0_1_2
      (broadcastInDim S16x1x8208 ![0, 2] bcast_S16x8208_S16x1x8208_0_2 (transpose S16x8208 [1, 0] x3 transposes_S8208x16_S16x8208_1_0)))

def causal : Vec Ideal S8208x8208 .i1 :=
  cmpi .sle (broadcastInDim S8208x8208 ![0, 1] bcast_S1x8208_S8208x8208_0_1 (broadcastInDim S1x8208 ![1] bcast_S8208_S1x8208_1 (iotaInDim S8208 32 0)))
    (broadcastInDim S8208x8208 ![0, 1] bcast_S8208x1_S8208x8208_0_1 (broadcastInDim S8208x1 ![0] bcast_S8208_S8208x1_0 (iotaInDim S8208 32 0)))

def logits (x0 x1 : FVec Ideal S8208x1024 .f32) (x3 : FVec Ideal S8208x16 .f32) : FVec Ideal S16x8208x8208 .f32 :=
  select (broadcastInDim S16x8208x8208 ![1, 2] bcast_S8208x8208_S16x8208x8208_1_2 causal)
    (addf (scores x0 x1) (gates x3))
    (broadcastInDim S16x8208x8208 ![] bcast_S_S16x8208x8208 (constant S_ .f32 0xFF800000#32))

theorem lit_eighth : Ideal.ofBits FTy.f32 1040187392#32 = ((1 / 8 : ℝ) : EReal) := by
  simp [Ideal.ofBits, Ideal.ieee, -EReal.coe_mul]; norm_num

theorem lit_bot : Ideal.ofBits FTy.f32 4286578688#32 = (⊥ : EReal) := by
  simp [Ideal.ofBits, Ideal.ieee]

theorem lit_one : Ideal.ofBits FTy.f32 1065353216#32 = ((1 : ℝ) : EReal) := by
  simp [Ideal.ofBits, Ideal.ieee, -EReal.coe_mul]; norm_num

theorem lit_two : Ideal.ofBits FTy.f32 1073741824#32 = ((2 : ℝ) : EReal) := by
  simp [Ideal.ofBits, Ideal.ieee, -EReal.coe_mul]; norm_num

theorem lit_zero : Ideal.ofBits FTy.f32 0#32 = ((0 : ℝ) : EReal) := by
  simp [Ideal.ofBits, Ideal.ieee]

theorem causal_at (r s : Fin 8208) : causal (ix2 r s) = if s.val ≤ r.val then 1#1 else 0#1 := by
  pointwise [causal]
  split
  · rename_i hs
    exact (WordCmp.cmpi_sle_ofNat_eq_one_iff (by omega) (by omega)).2 hs
  · rename_i hs
    exact (WordCmp.cmpi_sle_ofNat_eq_zero_iff (by omega) (by omega)).2 hs

theorem scores_at {x0 x1 x2 : FVec Ideal S8208x1024 .f32} {x3 : FVec Ideal S8208x16 .f32} {x4 : FVec Ideal S8208x1024 .f32} {a : Real5}
    (H : Holds x0 x1 x2 x3 x4 a) (h : Fin 16) (r s : Fin 8208) :
    scores x0 x1 (ix3 h r s) = (((∑ l ∈ Finset.range 64, a.q r.val (h.val * 64 + l) * a.k s.val (h.val * 64 + l)) * (1 / 8) : ℝ) : EReal) := by
  pointwise [scores]
  simp only [heads_at x0 a.q H.q, heads_at x1 a.k H.k, lit_eighth, ← EReal.coe_mul, coe_sum_univ, Finset.sum_range]

theorem gates_at {x0 x1 x2 : FVec Ideal S8208x1024 .f32} {x3 : FVec Ideal S8208x16 .f32} {x4 : FVec Ideal S8208x1024 .f32} {a : Real5}
    (H : Holds x0 x1 x2 x3 x4 a) (h : Fin 16) (r s : Fin 8208) :
    gates x3 (ix3 h r s) = ((a.g r.val h.val - a.g s.val h.val : ℝ) : EReal) := by
  pointwise [gates]
  simp only [H.g, ← EReal.coe_sub]

theorem logits_at {x0 x1 x2 : FVec Ideal S8208x1024 .f32} {x3 : FVec Ideal S8208x16 .f32} {x4 : FVec Ideal S8208x1024 .f32} {a : Real5}
    (H : Holds x0 x1 x2 x3 x4 a) (h : Fin 16) (r s : Fin 8208) :
    logits x0 x1 x3 (ix3 h r s) = if s.val ≤ r.val then ((a.x h.val r.val s.val : ℝ) : EReal) else ⊥ := by
  pointwise [logits]
  rw [causal_at, scores_at H, gates_at H, lit_bot, ← EReal.coe_add]
  by_cases hs : s.val ≤ r.val
  · rw [if_pos hs, if_pos hs]; rfl
  · rw [if_neg hs, if_neg hs]; rfl

/-- The largest of finitely many extended reals, none above every real and one of them a real, is a real. -/
theorem fold_max_real {n : ℕ} (f : Fin n → EReal) (i : Fin n) (hi : f i ≠ ⊥) (hf : ∀ j, f j ≠ ⊤) :
    Finset.fold max (⊥ : EReal) f Finset.univ = (((Finset.fold max (⊥ : EReal) f Finset.univ).toReal : ℝ) : EReal) := by
  refine (EReal.coe_toReal ?_ ?_).symm
  · refine ne_of_lt ((Finset.fold_max_lt _).2 ⟨bot_lt_top, fun j _ => lt_top_iff_ne_top.2 (hf j)⟩)
  · refine ne_of_gt (lt_of_lt_of_le (bot_lt_iff_ne_bot.2 hi) ((Finset.le_fold_max _).2 (Or.inr ⟨i, Finset.mem_univ i, le_rfl⟩)))

/-- The row maxima of the logits. -/
def rowMax (x0 x1 : FVec Ideal S8208x1024 .f32) (x3 : FVec Ideal S8208x16 .f32) : FVec Ideal S16x8208 .f32 :=
  Host.reduce FloatOps.maximumf (logits x0 x1 x3) (constant S_ .f32 0xFF800000#32) reducesTo_S16x8208x8208_S16x8208_d2 h_S_

theorem red_last : S16x8208x8208.Reduces [2] S16x8208 := by decide

theorem lift_last (h : Fin 16) (r : Fin 8208) (k : Fin (S16x8208x8208.size 2)) :
    red_last.lift (ix2 h r) k = ix3 h r (⟨k.val, k.isLt⟩ : Fin 8208) := by
  funext c; apply Fin.ext
  fin_cases c <;> rfl

theorem rowMax_real {x0 x1 x2 : FVec Ideal S8208x1024 .f32} {x3 : FVec Ideal S8208x16 .f32} {x4 : FVec Ideal S8208x1024 .f32} {a : Real5}
    (H : Holds x0 x1 x2 x3 x4 a) (h : Fin 16) (r : Fin 8208) :
    rowMax x0 x1 x3 (ix2 h r) = ((EReal.toReal (rowMax x0 x1 x3 (ix2 h r)) : ℝ) : EReal) := by
  have e : rowMax x0 x1 x3 (ix2 h r) = Finset.fold max (⊥ : EReal) (fun s : Fin 8208 => logits x0 x1 x3 (ix3 h r s)) Finset.univ := by
    unfold rowMax
    rw [Host.reduce_eq_fold_single FloatOps.maximumf (logits x0 x1 x3) _ reducesTo_S16x8208x8208_S16x8208_d2 red_last h_S_]
    have hf : (logits x0 x1 x3 ∘ red_last.lift (ix2 h r)) = fun s : Fin 8208 => logits x0 x1 x3 (ix3 h r s) :=
      funext fun k => congrArg (logits x0 x1 x3) (lift_last h r k)
    have hb : (constant S_ .f32 0xFF800000#32 : FVec Ideal S_ .f32) (Shape.Idx.first h_S_) = (⊥ : EReal) := lit_bot
    refine Eq.trans (congrArg (fun f => Finset.fold (FloatOps.maximumf (F := Ideal) (φ := .f32)) _ f (Finset.univ : Finset (Fin 8208))) hf) ?_
    exact congrArg (fun b => Finset.fold (max : EReal → EReal → EReal) b _ (Finset.univ : Finset (Fin 8208))) hb
  rw [e]
  refine fold_max_real _ r ?_ fun s => ?_
  · show logits x0 x1 x3 (ix3 h r r) ≠ ⊥
    rw [logits_at H, if_pos le_rfl]
    exact EReal.coe_ne_bot _
  · show logits x0 x1 x3 (ix3 h r s) ≠ ⊤
    rw [logits_at H]
    split
    · exact EReal.coe_ne_top _
    · exact bot_ne_top
-- ==== Proof.Finite.lean ====
/-
  Finite arguments are arrays of real numbers.
-/
module
public import proofs.«01_k».proof.Defs
public import proofs.«01_k».proof.Proof.Logits

set_option maxRecDepth 8192
@[expose] public noncomputable section
namespace Cert.Bwd
open Idealize.ShloMosaic TcCoe Idealize.SL.Sem
open Cert.KernelIdeal (S8208x1024 S8208x16)
open Cert.KernelIdeal.Bwd

instance finite_facts : Cert.Pre_finite.Facts where
  bcast_S_S8208x1024 := by decide
  bcast_S_S8208x16 := by decide

/-- A number whose size is below the infinite one is real. -/
theorem real_of_small {S : Shape} (x : FVec Ideal S .f32) (hb : Cert.Pre_finite.S_.BroadcastsInDim S (![] : Fin 0 → Fin S.rank))
    (h : cmpf .olt (Host.absf x) (broadcastInDim S ![] hb (constant Cert.Pre_finite.S_ .f32 0x7F800000#32)) = fun _ => 1#1) (i : S.Idx) :
    x i = ((EReal.toReal (x i) : ℝ) : EReal) := by
  have e := congrFun h i
  pointwise [] at e
  have top : Ideal.ofBits FTy.f32 2139095040#32 = (⊤ : EReal) := by simp [Ideal.ofBits, Ideal.ieee]
  rw [top] at e
  have b : decide (FloatOps.absf (x i) < (⊤ : EReal)) = true := by
    cases hd : decide (FloatOps.absf (x i) < (⊤ : EReal)) with
    | true => rfl
    | false => rw [hd] at e; exact absurd e (by decide)
  have l : max (x i : EReal) (-(x i)) < ⊤ := of_decide_eq_true b
  refine (EReal.coe_toReal (fun h1 => ?_) fun h1 => ?_).symm
  · rw [h1] at l; simp at l
  · rw [h1] at l; simp at l

/-- The entry of an array at two numbers, where it has one. -/
def entry {p q : ℕ} (x : FVec Ideal ⟨2, ![p, q]⟩ .f32) (r j : ℕ) : ℝ :=
  if h : r < p ∧ j < q then EReal.toReal (x (ix2 (⟨r, h.1⟩ : Fin p) (⟨j, h.2⟩ : Fin q))) else 0

theorem entry_at {p q : ℕ} (x : FVec Ideal ⟨2, ![p, q]⟩ .f32) (h : ∀ i, x i = ((EReal.toReal (x i) : ℝ) : EReal)) (r : Fin p) (j : Fin q) :
    x (ix2 r j) = ((entry x r.val j.val : ℝ) : EReal) := by
  unfold entry
  rw [dif_pos ⟨r.isLt, j.isLt⟩]
  exact h _

/-- The arguments' numbers. -/
def reals (x0 x1 x2 : FVec Ideal S8208x1024 .f32) (x3 : FVec Ideal S8208x16 .f32) (x4 : FVec Ideal S8208x1024 .f32) : Real5 :=
  ⟨entry x0, entry x1, entry x2, entry x3, entry x4⟩

theorem holds_reals {x0 x1 x2 : FVec Ideal S8208x1024 .f32} {x3 : FVec Ideal S8208x16 .f32} {x4 : FVec Ideal S8208x1024 .f32}
    (h0 : (Cert.Pre_finite.fn x0 x1 x2 x3 x4).1 = fun _ => 1#1) (h1 : (Cert.Pre_finite.fn x0 x1 x2 x3 x4).2.1 = fun _ => 1#1)
    (h2 : (Cert.Pre_finite.fn x0 x1 x2 x3 x4).2.2.1 = fun _ => 1#1) (h3 : (Cert.Pre_finite.fn x0 x1 x2 x3 x4).2.2.2.1 = fun _ => 1#1)
    (h4 : (Cert.Pre_finite.fn x0 x1 x2 x3 x4).2.2.2.2 = fun _ => 1#1) : Holds x0 x1 x2 x3 x4 (reals x0 x1 x2 x3 x4) where
  q := entry_at x0 (real_of_small x0 _ h0)
  k := entry_at x1 (real_of_small x1 _ h1)
  v := entry_at x2 (real_of_small x2 _ h2)
  g := entry_at x3 (real_of_small x3 _ h3)
  ct := entry_at x4 (real_of_small x4 _ h4)

/-- The rows' maxima. -/
def maxima (x0 x1 : FVec Ideal S8208x1024 .f32) (x3 : FVec Ideal S8208x16 .f32) : ℕ → ℕ → ℝ := entry (rowMax x0 x1 x3)

theorem maxima_at {x0 x1 x2 : FVec Ideal S8208x1024 .f32} {x3 : FVec Ideal S8208x16 .f32} {x4 : FVec Ideal S8208x1024 .f32} {a : Real5}
    (H : Holds x0 x1 x2 x3 x4 a) (h : Fin 16) (r : Fin 8208) : rowMax x0 x1 x3 (ix2 h r) = ((maxima x0 x1 x3 h.val r.val : ℝ) : EReal) :=
  entry_at (rowMax x0 x1 x3) (fun i => (congrArg (rowMax x0 x1 x3) (eq_ix2 i)).trans
    ((rowMax_real H (i 0) (i 1)).trans (congrArg (fun z : EReal => ((EReal.toReal z : ℝ) : EReal)) (congrArg (rowMax x0 x1 x3) (eq_ix2 i)).symm))) h r
-- ==== Proof.Store.lean ====
/-
  What a tile's body leaves in the running gradients of the keys, the values and the gates after its two diagonal
  blocks have been stored.
-/
module
public import proofs.«01_k».proof.Proof.DiagAdd
public import proofs.«01_k».proof.Proof.BufRead

set_option maxRecDepth 8192
@[expose] public noncomputable section
namespace Cert.KernelIdeal.Bwd
open Gen Cert.Bwd
open Idealize.ShloMosaic TcCoe Idealize.SL.Sem

section
variable {v5 : IVec S1x128 1} {v7 v9 v23 v33 v36 v39 : FVec Ideal S768x128 .bf16} {w0 w1 v67 v73 : FVec Ideal S768x1 .f32}
  (X : Inp) (n : ℕ) (hR : Rows X n v5 v7 v9 v23 v33 v36 v39 w0 w1 v67 v73) (hn : n < 11)
  {a7 a8 a9 : FVec Ideal S512x128 .bf16} {b7 b8 b9 : FVec Ideal S256x128 .bf16}
  (h7 : ∀ (s : Fin 512) (l : Fin 128), a7 (ix2 s l) = ((X.ka (n * 768 + s.val) l.val : ℝ) : EReal))
  (h8 : ∀ (s : Fin 512) (l : Fin 128), a8 (ix2 s l) = ((X.kb (n * 768 + s.val) l.val : ℝ) : EReal))
  (h9 : ∀ (s : Fin 512) (l : Fin 128), a9 (ix2 s l) = ((X.v (n * 768 + s.val) l.val : ℝ) : EReal))
  (g7 : ∀ (s : Fin 256) (l : Fin 128), b7 (ix2 s l) = ((X.ka (n * 768 + (512 + s.val)) l.val : ℝ) : EReal))
  (g8 : ∀ (s : Fin 256) (l : Fin 128), b8 (ix2 s l) = ((X.kb (n * 768 + (512 + s.val)) l.val : ℝ) : EReal))
  (g9 : ∀ (s : Fin 256) (l : Fin 128), b9 (ix2 s l) = ((X.v (n * 768 + (512 + s.val)) l.val : ℝ) : EReal))

include hR hn h7 h8 h9 g7 g8 g9 in
theorem store_dk {sp : Space} (v : View sig .tc sp S8448x128 .f32) (f : v.ty.Contents (Elt Ideal))
    {offA offB : Fin 2 → ℕ} (hA : offA = ![n * 768, 0]) (hB : offB = ![n * 768 + 512, 0])
    (inbA : ∀ a, offA a + (![512, 128] : Fin 2 → ℕ) a ≤ S8448x128.size a) (inbB : ∀ a, offB a + (![256, 128] : Fin 2 → ℕ) a ≤ S8448x128.size a)
    (L : List (View.Piece (Elt Ideal) S8448x128 .f32)) (D : ℕ → ℕ → ℝ)
    (hD : ∀ (s : Fin 8448) (l : Fin 128), v.read (Elt Ideal) (v.writes (Elt Ideal) f L) (ix2 s l) = (((if s.val < n * 768 then
      D s.val l.val + ∑ r ∈ Finset.range 768, X.ds (Inp.hd l.val) (n * 768 + r) s.val * X.q (n * 768 + r) l.val else D s.val l.val) : ℝ) : EReal))
    (s : Fin 8448) (l : Fin 128) :
    v.read (Elt Ideal) (v.writes (Elt Ideal) f (⟨Rect.unit (s := S8448x128) offB ![256, 128] inbB, k0_pay2 v5 (k0_pay106 (k0_pay97 v7) (k0_pay100 v36 b9) (k0_pay101 (BitVec.ofNat 32 n) v23 w0 (Scalar.muli (BitVec.ofNat 32 n) 768#32) b7) (k0_pay102 v67)) (k0_pay113 v33 v39 v73 w1 (k0_pay94 b8) (k0_pay95 b9) (k0_pay96 (BitVec.ofNat 32 n) (Scalar.muli (BitVec.ofNat 32 n) 768#32)) (k0_pay97 v7)) (v.readAt (Elt Ideal) (Rect.unit (s := S8448x128) offB ![256, 128] inbB).toLoadRect (v.writes (Elt Ideal) f (⟨Rect.unit (s := S8448x128) offA ![512, 128] inbA, k0_pay89 v5 v7 v39 v73 w1 (k0_pay71 a9) (k0_pay74 (k0_pay72 (BitVec.ofNat 32 n)) (iota .tc S1x512 32 [1] iota_S1x512_d1_w32) (k0_pay73 (BitVec.ofNat 32 n))) (k0_pay79 v7 v23 v36 v67 w0 (k0_pay69 a7) (k0_pay71 a9) (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S8448x128) offA ![512, 128] inbA).toLoadRect (v.writes (Elt Ideal) f L))⟩ :: L)))⟩ :: ⟨Rect.unit (s := S8448x128) offA ![512, 128] inbA, k0_pay89 v5 v7 v39 v73 w1 (k0_pay71 a9) (k0_pay74 (k0_pay72 (BitVec.ofNat 32 n)) (iota .tc S1x512 32 [1] iota_S1x512_d1_w32) (k0_pay73 (BitVec.ofNat 32 n))) (k0_pay79 v7 v23 v36 v67 w0 (k0_pay69 a7) (k0_pay71 a9) (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S8448x128) offA ![512, 128] inbA).toLoadRect (v.writes (Elt Ideal) f L))⟩ :: L)) (ix2 s l) = (((if s.val < (n + 1) * 768 then
      D s.val l.val + ∑ r ∈ Finset.range 768, X.ds (Inp.hd l.val) (n * 768 + r) s.val * X.q (n * 768 + r) l.val else D s.val l.val) : ℝ) : EReal) := by
  have HA := read_store_rows v f hA inbA _ L (fun s l => if s < n * 768 then D s l + ∑ r ∈ Finset.range 768, X.ds (Inp.hd l) (n * 768 + r) s * X.q (n * 768 + r) l else D s l)
    (fun s l => D s l + ∑ r ∈ Finset.range 768, X.ds (Inp.hd l) (n * 768 + r) s * X.q (n * 768 + r) l) hD
    (dk_a X n hR hn h7 h8 h9 _ D (fun s l => (readAt_rows v (v.writes (Elt Ideal) f L) (fun s l => (((if s < n * 768 then
      D s l + ∑ r ∈ Finset.range 768, X.ds (Inp.hd l) (n * 768 + r) s * X.q (n * 768 + r) l else D s l) : ℝ) : EReal)) hD hA inbA s l).trans (by rw [if_neg (by omega)])))
  refine (read_store_rows v f hB inbB _ _ (fun s l => if n * 768 ≤ s ∧ s < n * 768 + 512 then D s l + ∑ r ∈ Finset.range 768, X.ds (Inp.hd l) (n * 768 + r) s * X.q (n * 768 + r) l else if s < n * 768 then D s l + ∑ r ∈ Finset.range 768, X.ds (Inp.hd l) (n * 768 + r) s * X.q (n * 768 + r) l else D s l) (fun s l => D s l + ∑ r ∈ Finset.range 768, X.ds (Inp.hd l) (n * 768 + r) s * X.q (n * 768 + r) l) HA
    (fun x l => (dk_b X n hR hn g7 g8 g9 _ D (fun s l => (readAt_rows v _ (fun s l => (((if n * 768 ≤ s ∧ s < n * 768 + 512 then D s l + ∑ r ∈ Finset.range 768, X.ds (Inp.hd l) (n * 768 + r) s * X.q (n * 768 + r) l else
      if s < n * 768 then D s l + ∑ r ∈ Finset.range 768, X.ds (Inp.hd l) (n * 768 + r) s * X.q (n * 768 + r) l else D s l) : ℝ) : EReal)) HA hB inbB s l).trans
      (by rw [if_neg (by omega), if_neg (by omega), Nat.add_assoc])) x l).trans (by rw [Nat.add_assoc])) s l).trans ?_
  congr 1
  split_ifs <;> first | rfl | omega

include hR hn h7 h8 g7 g8 in
theorem store_dv {sp : Space} (v : View sig .tc sp S8448x128 .f32) (f : v.ty.Contents (Elt Ideal))
    {offA offB : Fin 2 → ℕ} (hA : offA = ![n * 768, 0]) (hB : offB = ![n * 768 + 512, 0])
    (inbA : ∀ a, offA a + (![512, 128] : Fin 2 → ℕ) a ≤ S8448x128.size a) (inbB : ∀ a, offB a + (![256, 128] : Fin 2 → ℕ) a ≤ S8448x128.size a)
    (L : List (View.Piece (Elt Ideal) S8448x128 .f32)) (D : ℕ → ℕ → ℝ)
    (hD : ∀ (s : Fin 8448) (l : Fin 128), v.read (Elt Ideal) (v.writes (Elt Ideal) f L) (ix2 s l) = (((if s.val < n * 768 then
      D s.val l.val + ∑ r ∈ Finset.range 768, X.w (Inp.hd l.val) (n * 768 + r) s.val * X.dO (n * 768 + r) l.val else D s.val l.val) : ℝ) : EReal))
    (s : Fin 8448) (l : Fin 128) :
    v.read (Elt Ideal) (v.writes (Elt Ideal) f (⟨Rect.unit (s := S8448x128) offB ![256, 128] inbB, k0_pay3 v5 (k0_pay107 (k0_pay98 v9) (k0_pay99 (BitVec.ofNat 32 n) v23 w0 (Scalar.muli (BitVec.ofNat 32 n) 768#32) b7)) (k0_pay114 v33 w1 (k0_pay94 b8) (k0_pay96 (BitVec.ofNat 32 n) (Scalar.muli (BitVec.ofNat 32 n) 768#32)) (k0_pay98 v9)) (v.readAt (Elt Ideal) (Rect.unit (s := S8448x128) offB ![256, 128] inbB).toLoadRect (v.writes (Elt Ideal) f (⟨Rect.unit (s := S8448x128) offA ![512, 128] inbA, k0_pay90 v5 v9 w1 (k0_pay74 (k0_pay72 (BitVec.ofNat 32 n)) (iota .tc S1x512 32 [1] iota_S1x512_d1_w32) (k0_pay73 (BitVec.ofNat 32 n))) (k0_pay80 v9 v23 w0 (k0_pay69 a7) (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S8448x128) offA ![512, 128] inbA).toLoadRect (v.writes (Elt Ideal) f L))⟩ :: L)))⟩ :: ⟨Rect.unit (s := S8448x128) offA ![512, 128] inbA, k0_pay90 v5 v9 w1 (k0_pay74 (k0_pay72 (BitVec.ofNat 32 n)) (iota .tc S1x512 32 [1] iota_S1x512_d1_w32) (k0_pay73 (BitVec.ofNat 32 n))) (k0_pay80 v9 v23 w0 (k0_pay69 a7) (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S8448x128) offA ![512, 128] inbA).toLoadRect (v.writes (Elt Ideal) f L))⟩ :: L)) (ix2 s l) = (((if s.val < (n + 1) * 768 then
      D s.val l.val + ∑ r ∈ Finset.range 768, X.w (Inp.hd l.val) (n * 768 + r) s.val * X.dO (n * 768 + r) l.val else D s.val l.val) : ℝ) : EReal) := by
  have HA := read_store_rows v f hA inbA _ L (fun s l => if s < n * 768 then D s l + ∑ r ∈ Finset.range 768, X.w (Inp.hd l) (n * 768 + r) s * X.dO (n * 768 + r) l else D s l)
    (fun s l => D s l + ∑ r ∈ Finset.range 768, X.w (Inp.hd l) (n * 768 + r) s * X.dO (n * 768 + r) l) hD
    (dv_a X n hR hn h7 h8 _ D (fun s l => (readAt_rows v (v.writes (Elt Ideal) f L) (fun s l => (((if s < n * 768 then
      D s l + ∑ r ∈ Finset.range 768, X.w (Inp.hd l) (n * 768 + r) s * X.dO (n * 768 + r) l else D s l) : ℝ) : EReal)) hD hA inbA s l).trans (by rw [if_neg (by omega)])))
  refine (read_store_rows v f hB inbB _ _ (fun s l => if n * 768 ≤ s ∧ s < n * 768 + 512 then D s l + ∑ r ∈ Finset.range 768, X.w (Inp.hd l) (n * 768 + r) s * X.dO (n * 768 + r) l else if s < n * 768 then D s l + ∑ r ∈ Finset.range 768, X.w (Inp.hd l) (n * 768 + r) s * X.dO (n * 768 + r) l else D s l) (fun s l => D s l + ∑ r ∈ Finset.range 768, X.w (Inp.hd l) (n * 768 + r) s * X.dO (n * 768 + r) l) HA
    (fun x l => (dv_b X n hR hn g7 g8 _ D (fun s l => (readAt_rows v _ (fun s l => (((if n * 768 ≤ s ∧ s < n * 768 + 512 then D s l + ∑ r ∈ Finset.range 768, X.w (Inp.hd l) (n * 768 + r) s * X.dO (n * 768 + r) l else
      if s < n * 768 then D s l + ∑ r ∈ Finset.range 768, X.w (Inp.hd l) (n * 768 + r) s * X.dO (n * 768 + r) l else D s l) : ℝ) : EReal)) HA hB inbB s l).trans
      (by rw [if_neg (by omega), if_neg (by omega), Nat.add_assoc])) x l).trans (by rw [Nat.add_assoc])) s l).trans ?_
  congr 1
  split_ifs <;> first | rfl | omega

include hR hn h7 h8 h9 g7 g8 g9 in
theorem store_dc {sp : Space} (v : View sig .tc sp S1x8x8448 .f32) (f : v.ty.Contents (Elt Ideal))
    {offA0 offA1 offB0 offB1 : Fin 3 → ℕ} (hA0 : offA0 = ![0, 0, n * 768]) (hA1 : offA1 = ![0, 1, n * 768])
    (hB0 : offB0 = ![0, 0, n * 768 + 512]) (hB1 : offB1 = ![0, 1, n * 768 + 512])
    (inbA0 : ∀ a, offA0 a + (![1, 1, 512] : Fin 3 → ℕ) a ≤ S1x8x8448.size a) (inbA1 : ∀ a, offA1 a + (![1, 1, 512] : Fin 3 → ℕ) a ≤ S1x8x8448.size a)
    (inbB0 : ∀ a, offB0 a + (![1, 1, 256] : Fin 3 → ℕ) a ≤ S1x8x8448.size a) (inbB1 : ∀ a, offB1 a + (![1, 1, 256] : Fin 3 → ℕ) a ≤ S1x8x8448.size a)
    (L : List (View.Piece (Elt Ideal) S1x8x8448 .f32)) (D : ℕ → ℕ → ℝ)
    (hD : ∀ (h : Fin 8) (s : Fin 8448), v.read (Elt Ideal) (v.writes (Elt Ideal) f L) (ix3 0 h s) = (((if h.val < 2 ∧ s.val < n * 768 then
      D h.val s.val - ∑ r ∈ Finset.range 768, X.ds h.val (n * 768 + r) s.val else D h.val s.val) : ℝ) : EReal))
    (h : Fin 8) (s : Fin 8448) :
    v.read (Elt Ideal) (v.writes (Elt Ideal) f (⟨Rect.unit (s := S1x8x8448) offB1 ![1, 1, 256] inbB1, k0_pay1 (k0_pay110 v33 v39 v73 w1 (k0_pay94 b8) (k0_pay95 b9) (k0_pay96 (BitVec.ofNat 32 n) (Scalar.muli (BitVec.ofNat 32 n) 768#32))) (v.readAt (Elt Ideal) (Rect.unit (s := S1x8x8448) offB1 ![1, 1, 256] inbB1).toLoadRect (v.writes (Elt Ideal) f (⟨Rect.unit (s := S1x8x8448) offB0 ![1, 1, 256] inbB0, k0_pay108 (k0_pay100 v36 b9) (k0_pay101 (BitVec.ofNat 32 n) v23 w0 (Scalar.muli (BitVec.ofNat 32 n) 768#32) b7) (k0_pay102 v67) (v.readAt (Elt Ideal) (Rect.unit (s := S1x8x8448) offB0 ![1, 1, 256] inbB0).toLoadRect (v.writes (Elt Ideal) f (⟨Rect.unit (s := S1x8x8448) offA1 ![1, 1, 512] inbA1, k0_pay88 v39 v73 w1 (k0_pay71 a9) (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S1x8x8448) offA1 ![1, 1, 512] inbA1).toLoadRect (v.writes (Elt Ideal) f (⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)))⟩ :: ⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)))⟩ :: ⟨Rect.unit (s := S1x8x8448) offA1 ![1, 1, 512] inbA1, k0_pay88 v39 v73 w1 (k0_pay71 a9) (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S1x8x8448) offA1 ![1, 1, 512] inbA1).toLoadRect (v.writes (Elt Ideal) f (⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)))⟩ :: ⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)))⟩ :: ⟨Rect.unit (s := S1x8x8448) offB0 ![1, 1, 256] inbB0, k0_pay108 (k0_pay100 v36 b9) (k0_pay101 (BitVec.ofNat 32 n) v23 w0 (Scalar.muli (BitVec.ofNat 32 n) 768#32) b7) (k0_pay102 v67) (v.readAt (Elt Ideal) (Rect.unit (s := S1x8x8448) offB0 ![1, 1, 256] inbB0).toLoadRect (v.writes (Elt Ideal) f (⟨Rect.unit (s := S1x8x8448) offA1 ![1, 1, 512] inbA1, k0_pay88 v39 v73 w1 (k0_pay71 a9) (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S1x8x8448) offA1 ![1, 1, 512] inbA1).toLoadRect (v.writes (Elt Ideal) f (⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)))⟩ :: ⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)))⟩ :: ⟨Rect.unit (s := S1x8x8448) offA1 ![1, 1, 512] inbA1, k0_pay88 v39 v73 w1 (k0_pay71 a9) (k0_pay74 (k0_pay72 (BitVec.ofNat 32 n)) (iota .tc S1x512 32 [1] iota_S1x512_d1_w32) (k0_pay73 (BitVec.ofNat 32 n))) (k0_pay82 v33 (k0_pay70 a8)) (k0_pay83 (F := Ideal)) (v.readAt (Elt Ideal) (Rect.unit (s := S1x8x8448) offA1 ![1, 1, 512] inbA1).toLoadRect (v.writes (Elt Ideal) f (⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)))⟩ :: ⟨Rect.unit (s := S1x8x8448) offA0 ![1, 1, 512] inbA0, k0_pay81 v23 v36 v67 w0 (k0_pay69 a7) (k0_pay71 a9) (k0_pay72 (BitVec.ofNat 32 n)) (iota .tc S1x512 32 [1] iota_S1x512_d1_w32) (k0_pay73 (BitVec.ofNat 32 n)) (v.readAt (Elt Ideal) (Rect.unit (s := S1x8x8448) offA0 ![1, 1, 512] inbA0).toLoadRect (v.writes (Elt Ideal) f (L)))⟩ :: L)) (ix3 0 h s) = (((if h.val < 2 ∧ s.val < (n + 1) * 768 then
      D h.val s.val - ∑ r ∈ Finset.range 768, X.ds h.val (n * 768 + r) s.val else D h.val s.val) : ℝ) : EReal) := by
  have H1 := read_store_gate v f hA0 inbA0 _ L (fun h s => (if h < 2 ∧ s < n * 768 then D h s - ∑ r ∈ Finset.range 768, X.ds h (n * 768 + r) s else D h s)) (fun h s => D h s - ∑ r ∈ Finset.range 768, X.ds h (n * 768 + r) s) hD
    (dc_a0 X n hR hn h7 h9 _ D (fun s => (readAt_gate v (v.writes (Elt Ideal) f L) (fun h s => (if h < 2 ∧ s < n * 768 then D h s - ∑ r ∈ Finset.range 768, X.ds h (n * 768 + r) s else D h s)) hD hA0 (by omega) inbA0 s).trans
      (by rw [if_neg (by omega)])))
  have H2 := read_store_gate v f hA1 inbA1 _ _ (fun h s => (if h = 0 ∧ n * 768 ≤ s ∧ s < n * 768 + 512 then D h s - ∑ r ∈ Finset.range 768, X.ds h (n * 768 + r) s else (if h < 2 ∧ s < n * 768 then D h s - ∑ r ∈ Finset.range 768, X.ds h (n * 768 + r) s else D h s))) (fun h s => D h s - ∑ r ∈ Finset.range 768, X.ds h (n * 768 + r) s) H1
    (dc_a1 X n hR hn h8 h9 _ D (fun s => (readAt_gate v _ (fun h s => (if h = 0 ∧ n * 768 ≤ s ∧ s < n * 768 + 512 then D h s - ∑ r ∈ Finset.range 768, X.ds h (n * 768 + r) s else (if h < 2 ∧ s < n * 768 then D h s - ∑ r ∈ Finset.range 768, X.ds h (n * 768 + r) s else D h s))) H1 hA1 (by omega) inbA1 s).trans
      (by rw [if_neg (by omega), if_neg (by omega)])))
  have H3 := read_store_gate v f hB0 inbB0 _ _ (fun h s => (if h = 1 ∧ n * 768 ≤ s ∧ s < n * 768 + 512 then D h s - ∑ r ∈ Finset.range 768, X.ds h (n * 768 + r) s else (if h = 0 ∧ n * 768 ≤ s ∧ s < n * 768 + 512 then D h s - ∑ r ∈ Finset.range 768, X.ds h (n * 768 + r) s else (if h < 2 ∧ s < n * 768 then D h s - ∑ r ∈ Finset.range 768, X.ds h (n * 768 + r) s else D h s)))) (fun h s => D h s - ∑ r ∈ Finset.range 768, X.ds h (n * 768 + r) s) H2
    (fun x => (dc_b0 X n hR hn g7 g9 _ D (fun s => (readAt_gate v _ (fun h s => (if h = 1 ∧ n * 768 ≤ s ∧ s < n * 768 + 512 then D h s - ∑ r ∈ Finset.range 768, X.ds h (n * 768 + r) s else (if h = 0 ∧ n * 768 ≤ s ∧ s < n * 768 + 512 then D h s - ∑ r ∈ Finset.range 768, X.ds h (n * 768 + r) s else (if h < 2 ∧ s < n * 768 then D h s - ∑ r ∈ Finset.range 768, X.ds h (n * 768 + r) s else D h s)))) H2 hB0 (by omega) inbB0 s).trans
      (by rw [if_neg (by omega), if_neg (by omega), if_neg (by omega), Nat.add_assoc])) x).trans (by rw [Nat.add_assoc]))
  refine (read_store_gate v f hB1 inbB1 _ _ (fun h s => (if h = 0 ∧ n * 768 + 512 ≤ s ∧ s < n * 768 + 512 + 256 then D h s - ∑ r ∈ Finset.range 768, X.ds h (n * 768 + r) s else (if h = 1 ∧ n * 768 ≤ s ∧ s < n * 768 + 512 then D h s - ∑ r ∈ Finset.range 768, X.ds h (n * 768 + r) s else (if h = 0 ∧ n * 768 ≤ s ∧ s < n * 768 + 512 then D h s - ∑ r ∈ Finset.range 768, X.ds h (n * 768 + r) s else (if h < 2 ∧ s < n * 768 then D h s - ∑ r ∈ Finset.range 768, X.ds h (n * 768 + r) s else D h s))))) (fun h s => D h s - ∑ r ∈ Finset.range 768, X.ds h (n * 768 + r) s) H3
    (fun x => (dc_b1 X n hR hn g8 g9 _ D (fun s => (readAt_gate v _ (fun h s => (if h = 0 ∧ n * 768 + 512 ≤ s ∧ s < n * 768 + 512 + 256 then D h s - ∑ r ∈ Finset.range 768, X.ds h (n * 768 + r) s else (if h = 1 ∧ n * 768 ≤ s ∧ s < n * 768 + 512 then D h s - ∑ r ∈ Finset.range 768, X.ds h (n * 768 + r) s else (if h = 0 ∧ n * 768 ≤ s ∧ s < n * 768 + 512 then D h s - ∑ r ∈ Finset.range 768, X.ds h (n * 768 + r) s else (if h < 2 ∧ s < n * 768 then D h s - ∑ r ∈ Finset.range 768, X.ds h (n * 768 + r) s else D h s))))) H3 hB1 (by omega) inbB1 s).trans
      (by rw [if_neg (by omega), if_neg (by omega), if_neg (by omega), if_neg (by omega), Nat.add_assoc])) x).trans (by rw [Nat.add_assoc])) h s).trans ?_
  congr 1
  split_ifs <;> first | rfl | omega

end

theorem word_a {n : ℕ} (hn : n < 11) : (Scalar.indexCast (Scalar.muli (BitVec.ofNat 32 n) 768#32)).toNat = n * 768 := by
  have : ∀ n : Fin 11, (Scalar.indexCast (Scalar.muli (BitVec.ofNat 32 n.val) 768#32)).toNat = n.val * 768 := by decide +kernel
  exact this ⟨n, hn⟩

theorem word_b {n : ℕ} (hn : n < 11) : (Scalar.indexCast (Scalar.addi (Scalar.muli (BitVec.ofNat 32 n) 768#32) 512#32)).toNat = n * 768 + 512 := by
  have : ∀ n : Fin 11, (Scalar.indexCast (Scalar.addi (Scalar.muli (BitVec.ofNat 32 n.val) 768#32) 512#32)).toNat = n.val * 768 + 512 := by decide +kernel
  exact this ⟨n, hn⟩

theorem wrd_a {n : ℕ} (hn : n < 11) : (![(Scalar.indexCast (Scalar.muli (BitVec.ofNat 32 n) 768#32)).toNat, 0] : Fin 2 → ℕ) = ![n * 768, 0] := by
  rw [word_a hn]

theorem wrd_b {n : ℕ} (hn : n < 11) : (![(Scalar.indexCast (Scalar.addi (Scalar.muli (BitVec.ofNat 32 n) 768#32) 512#32)).toNat, 0] : Fin 2 → ℕ) = ![n * 768 + 512, 0] := by
  rw [word_b hn]

theorem wrd_g {n : ℕ} (hn : n < 11) (h : ℕ) : (![0, h, (Scalar.indexCast (Scalar.muli (BitVec.ofNat 32 n) 768#32)).toNat] : Fin 3 → ℕ) = ![0, h, n * 768] := by
  rw [word_a hn]

theorem wrd_h {n : ℕ} (hn : n < 11) (h : ℕ) : (![0, h, (Scalar.indexCast (Scalar.addi (Scalar.muli (BitVec.ofNat 32 n) 768#32) 512#32)).toNat] : Fin 3 → ℕ) = ![0, h, n * 768 + 512] := by
  rw [word_b hn]

/-- The queries' gradient, gathered from the carried sum and the two diagonal blocks, is one sum over the keys so far. -/
theorem dq_join (X : Inp) (n r l : ℕ) (hr : r < 768) :
    (if l < 64 then (if r < 512 then (∑ s ∈ Finset.range (n * 768), X.ds 0 (n * 768 + r) s * X.key 0 s l) + ∑ s ∈ Finset.range 512, X.ds 0 (n * 768 + r) (n * 768 + s) * X.key 0 (n * 768 + s) l
        else ((∑ s ∈ Finset.range (n * 768), X.ds 0 (n * 768 + (512 + (r - 512))) s * X.key 0 s l) + ∑ s ∈ Finset.range 512, X.ds 0 (n * 768 + (512 + (r - 512))) (n * 768 + s) * X.key 0 (n * 768 + s) l) + ∑ s ∈ Finset.range 256, X.ds 0 (n * 768 + (512 + (r - 512))) (n * 768 + (512 + s)) * X.key 0 (n * 768 + (512 + s)) l)
      else (if r < 512 then (∑ s ∈ Finset.range (n * 768), X.ds 1 (n * 768 + r) s * X.key 1 s l) + ∑ s ∈ Finset.range 512, X.ds 1 (n * 768 + r) (n * 768 + s) * X.key 1 (n * 768 + s) l
        else ((∑ s ∈ Finset.range (n * 768), X.ds 1 (n * 768 + (512 + (r - 512))) s * X.key 1 s l) + ∑ s ∈ Finset.range 512, X.ds 1 (n * 768 + (512 + (r - 512))) (n * 768 + s) * X.key 1 (n * 768 + s) l) + ∑ s ∈ Finset.range 256, X.ds 1 (n * 768 + (512 + (r - 512))) (n * 768 + (512 + s)) * X.key 1 (n * 768 + (512 + s)) l))
      = ∑ s ∈ Finset.range ((n + 1) * 768), X.ds (Inp.hd l) (n * 768 + r) s * X.key (Inp.hd l) s l := by
  have J : ∀ h : ℕ, (if r < 512 then (∑ s ∈ Finset.range (n * 768), X.ds h (n * 768 + r) s * X.key h s l) + ∑ s ∈ Finset.range 512, X.ds h (n * 768 + r) (n * 768 + s) * X.key h (n * 768 + s) l
        else ((∑ s ∈ Finset.range (n * 768), X.ds h (n * 768 + (512 + (r - 512))) s * X.key h s l) + ∑ s ∈ Finset.range 512, X.ds h (n * 768 + (512 + (r - 512))) (n * 768 + s) * X.key h (n * 768 + s) l) + ∑ s ∈ Finset.range 256, X.ds h (n * 768 + (512 + (r - 512))) (n * 768 + (512 + s)) * X.key h (n * 768 + (512 + s)) l)
      = ∑ s ∈ Finset.range ((n + 1) * 768), X.ds h (n * 768 + r) s * X.key h s l := by
    intro h
    rw [show (n + 1) * 768 = n * 768 + (512 + 256) by omega, Finset.sum_range_add, Finset.sum_range_add]
    split
    · rw [Finset.sum_eq_zero (s := Finset.range 256) (fun s _ => by rw [X.ds_of_not (by unfold Inp.ok; omega), zero_mul]), add_zero]
    · rw [show 512 + (r - 512) = r by omega, add_assoc]
  rw [J 0, J 1]
  unfold Inp.hd
  split <;> rfl

/-- A whole store of zeros. -/
theorem store_zero_rows {sp : Space} (v : View sig .tc sp S8448x128 .f32) (f : v.ty.Contents (Elt Ideal))
    {off : Fin 2 → ℕ} (hoff : off = ![0, 0]) (inb : ∀ a, off a + (![8448, 128] : Fin 2 → ℕ) a ≤ S8448x128.size a)
    (w : (Rect.unit (s := S8448x128) off ![8448, 128] inb).shape.Idx → Elt Ideal .f32)
    (hw : ∀ (x : Fin 8448) (l : Fin 128), w (ix2 x l) = 0) (s : Fin 8448) (l : Fin 128) :
    v.read (Elt Ideal) (v.writes (Elt Ideal) f [⟨Rect.unit (s := S8448x128) off ![8448, 128] inb, w⟩]) (ix2 s l) = ((0 : ℝ) : EReal) := by
  subst hoff
  refine Eq.trans ?_ (hw s l)
  refine View.read_writes_cons_unit_of_mem v f inb w [] (ix2 s l) (ix2 s l) rfl fun a => ?_
  match a with
  | ⟨0, _⟩ => exact (Nat.zero_add _).symm
  | ⟨1, _⟩ => exact (Nat.zero_add _).symm

theorem store_zero_gate {sp : Space} (v : View sig .tc sp S1x8x8448 .f32) (f : v.ty.Contents (Elt Ideal))
    {off : Fin 3 → ℕ} (hoff : off = ![0, 0, 0]) (inb : ∀ a, off a + (![1, 8, 8448] : Fin 3 → ℕ) a ≤ S1x8x8448.size a)
    (w : (Rect.unit (s := S1x8x8448) off ![1, 8, 8448] inb).shape.Idx → Elt Ideal .f32)
    (hw : ∀ (h : Fin 8) (x : Fin 8448), w (ix3 0 h x) = 0) (h : Fin 8) (s : Fin 8448) :
    v.read (Elt Ideal) (v.writes (Elt Ideal) f [⟨Rect.unit (s := S1x8x8448) off ![1, 8, 8448] inb, w⟩]) (ix3 0 h s) = ((0 : ℝ) : EReal) := by
  subst hoff
  refine Eq.trans ?_ (hw h s)
  refine View.read_writes_cons_unit_of_mem v f inb w [] (ix3 0 h s) (ix3 0 h s) rfl fun a => ?_
  match a with
  | ⟨0, _⟩ => exact (Nat.zero_add _).symm
  | ⟨1, _⟩ => exact (Nat.zero_add _).symm
  | ⟨2, _⟩ => exact (Nat.zero_add _).symm

/-- An array handed over whole is read as it is. -/
theorem whole_read {e : EltTy} (a : Memref sig .tc .vmem S8448x128 e) (h : a.IsWhole) (x : Vec Ideal S8448x128 e) (f : ℕ → ℕ → Elt Ideal e)
    (hx : ∀ (s : Fin 8448) (l : Fin 128), x (ix2 s l) = f s.val l.val) (s : Fin 8448) (l : Fin 128) : a.view.read (Elt Ideal) (h.unread x) (ix2 s l) = f s.val l.val := by
  rw [h.read_unread]; exact hx s l

/-- The two loads of the diagonal tile's rows. -/
theorem rows_read {n : ℕ} (hi : n < 11) (a : Memref sig .tc .vmem S8448x128 .bf16) (h : a.IsWhole) (x : Vec Ideal S8448x128 .bf16) (f : ℕ → ℕ → ℝ)
    (hx : ∀ (s : Fin 8448) (l : Fin 128), x (ix2 s l) = ((f s.val l.val : ℝ) : EReal)) :
    (∀ (s : Fin 8448) (l : Fin 128), a.view.read (Elt Ideal) (h.unread x) (ix2 s l) = ((f s.val l.val : ℝ) : EReal)) ∧
    (∀ (y : Fin 512) (l : Fin 128), a.view.readAt (Elt Ideal) (Rect.unit (s := S8448x128) (![(Scalar.indexCast (Scalar.muli (BitVec.ofNat 32 n) 768#32)).toNat, 0] : Fin 2 → ℕ) ![512, 128] (inb_rows (wrd_a hi) (by omega))).toLoadRect (h.unread x) (ix2 y l) = ((f (n * 768 + y.val) l.val : ℝ) : EReal)) ∧
    ∀ (y : Fin 256) (l : Fin 128), a.view.readAt (Elt Ideal) (Rect.unit (s := S8448x128) (![(Scalar.indexCast (Scalar.addi (Scalar.muli (BitVec.ofNat 32 n) 768#32) 512#32)).toNat, 0] : Fin 2 → ℕ) ![256, 128] (inb_rows (wrd_b hi) (by omega))).toLoadRect (h.unread x) (ix2 y l) = ((f (n * 768 + (512 + y.val)) l.val : ℝ) : EReal) := by
  have e := whole_read a h x (fun s l => ((f s l : ℝ) : EReal)) hx
  have b := readAt_rows a.view (h.unread x) (fun s l => ((f s l : ℝ) : EReal)) e (wrd_b hi) (inb_rows (n := 256) (wrd_b hi) (by omega))
  simp only [Nat.add_assoc] at b
  exact ⟨e, readAt_rows a.view (h.unread x) (fun s l => ((f s l : ℝ) : EReal)) e (wrd_a hi) (inb_rows (n := 512) (wrd_a hi) (by omega)), b⟩
-- ==== Proof.BodyA.lean ====
/-
  What the body leaves in each result at a lane pair's first tile, from what its blocks hold.
-/
module
public import proofs.«01_k».proof.Proof.Body
public import proofs.«01_k».proof.Proof.Store

set_option maxRecDepth 8192
@[expose] public noncomputable section
namespace Cert.KernelIdeal.Bwd
open Gen Cert.Bwd
open Idealize.ShloMosaic TcCoe Idealize.SL.Sem

variable (c : Dev nD) (i : grid0.Coords) (u2 : Memref sig .tc .vmem S768x128 .bf16) (v2 : u2.IsWhole) (u3 : Memref sig .tc .vmem S768x128 .bf16) (v3 : u3.IsWhole) (u4 : Memref sig .tc .vmem S768x128 .f32) (v4 : u4.IsWhole) (u5 : Memref sig .tc .vmem S768x128 .f32) (v5 : u5.IsWhole) (u6 : Memref sig .tc .vmem S768x128 .f32) (v6 : u6.IsWhole) (u7 : Memref sig .tc .vmem S8448x128 .bf16) (v7 : u7.IsWhole) (u8 : Memref sig .tc .vmem S8448x128 .bf16) (v8 : u8.IsWhole) (u9 : Memref sig .tc .vmem S8448x128 .bf16) (v9 : u9.IsWhole) (u10 : Memref sig .tc .vmem S768x128 .f32) (v10 : u10.IsWhole) (u11 : Memref sig .tc .vmem S8448x128 .f32) (v11 : u11.IsWhole) (u12 : Memref sig .tc .vmem S8448x128 .f32) (v12 : u12.IsWhole) (u13 : Memref sig .tc .vmem S1x8x8448 .f32) (v13 : u13.IsWhole) (hc0 : cond0_0 i) (x0 : Vec Ideal S768x128 .bf16) (x1 : Vec Ideal S768x128 .bf16) (x2 : Vec Ideal S768x128 .f32) (x3 : Vec Ideal S768x128 .f32) (x4 : Vec Ideal S768x128 .f32) (x5 : Vec Ideal S8448x128 .bf16) (x6 : Vec Ideal S8448x128 .bf16) (x7 : Vec Ideal S8448x128 .bf16)
  (X : Inp) (M C : ℕ → ℕ → ℝ) (n p : ℕ) (hn : (i 1).val = n) (hp : (i 0).val = p) (B : Blocks X M C p n x0 x1 x2 x3 x4)
  (h5 : ∀ (s : Fin 8448) (l : Fin 128), x5 (ix2 s l) = ((X.ka s.val l.val : ℝ) : EReal))
  (h6 : ∀ (s : Fin 8448) (l : Fin 128), x6 (ix2 s l) = ((X.kb s.val l.val : ℝ) : EReal))
  (h7 : ∀ (s : Fin 8448) (l : Fin 128), x7 (ix2 s l) = ((X.v s.val l.val : ℝ) : EReal))

include hn hp B h5 h6 h7

theorem dk_A (s : Fin 8448) (l : Fin 128) : out0_A_9 (F := Ideal) c i u2 v2 u3 v3 u4 v4 u5 v5 u6 v6 u7 v7 u8 v8 u9 v9 u10 v10 u11 v11 u12 v12 u13 v13 hc0 x0 x1 x2 x3 x4 x5 x6 x7 (ix2 s l)
    = (((if s.val < (n + 1) * 768 then 0 + ∑ r ∈ Finset.range 768, X.ds (Inp.hd l.val) (n * 768 + r) s.val * X.q (n * 768 + r) l.val else 0) : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := store_zero_rows u11.view u11.view.junk rfl inb_S8448x128_S8448x128_0_0 (k0_pay27 (F := Ideal)) (fun _ _ => by pointwise [k0_pay27])
  have zv := store_zero_rows u12.view u12.view.junk rfl inb_S8448x128_S8448x128_0_0 (k0_pay28 (F := Ideal)) (fun _ _ => by pointwise [k0_pay28])
  have zc := store_zero_gate u13.view u13.view.junk rfl inb_S1x8x8448_S1x8x8448_0_0_0 (k0_pay29 (F := Ideal)) (fun _ _ => by pointwise [k0_pay29])
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) (fun _ _ => 0) (fun _ _ => 0) (fun _ _ => 0) zk zv zc (i 1).val le_rfl
  refine (congrFun ((View.read_writes_eq_canon VO0_9 VO0_9.junk _ (cover0_A_9 c i u2 v2 u3 v3 u4 v4 u5 v5 u6 v6 u7 v7 u8 v8 u9 v9 u10 v10 u11 v11 u12 v12 u13 v13 hc0 x0 x1 x2 x3 x4 x5 x6 x7)).trans
    (View.read_writes_eq_canon u11.view u11.view.junk _ (cover0_A_9 c i u2 v2 u3 v3 u4 v4 u5 v5 u6 v6 u7 v7 u8 v8 u9 v9 u10 v10 u11 v11 u12 v12 u13 v13 hc0 x0 x1 x2 x3 x4 x5 x6 x7)).symm) _).trans ?_
  unfold kernelRun0_A
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  exact store_dk X (i 1).val hR hi a5 a6 a7 b5 b6 b7 u11.view _ (wrd_a hi) (wrd_b hi) _ _ _ (fun _ _ => 0) (fun s l => by rw [View.writes_append]; exact I.k s l) s l

theorem dv_A (s : Fin 8448) (l : Fin 128) : out0_A_10 (F := Ideal) c i u2 v2 u3 v3 u4 v4 u5 v5 u6 v6 u7 v7 u8 v8 u9 v9 u10 v10 u11 v11 u12 v12 u13 v13 hc0 x0 x1 x2 x3 x4 x5 x6 x7 (ix2 s l)
    = (((if s.val < (n + 1) * 768 then 0 + ∑ r ∈ Finset.range 768, X.w (Inp.hd l.val) (n * 768 + r) s.val * X.dO (n * 768 + r) l.val else 0) : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := store_zero_rows u11.view u11.view.junk rfl inb_S8448x128_S8448x128_0_0 (k0_pay27 (F := Ideal)) (fun _ _ => by pointwise [k0_pay27])
  have zv := store_zero_rows u12.view u12.view.junk rfl inb_S8448x128_S8448x128_0_0 (k0_pay28 (F := Ideal)) (fun _ _ => by pointwise [k0_pay28])
  have zc := store_zero_gate u13.view u13.view.junk rfl inb_S1x8x8448_S1x8x8448_0_0_0 (k0_pay29 (F := Ideal)) (fun _ _ => by pointwise [k0_pay29])
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) (fun _ _ => 0) (fun _ _ => 0) (fun _ _ => 0) zk zv zc (i 1).val le_rfl
  refine (congrFun ((View.read_writes_eq_canon VO0_10 VO0_10.junk _ (cover0_A_10 c i u2 v2 u3 v3 u4 v4 u5 v5 u6 v6 u7 v7 u8 v8 u9 v9 u10 v10 u11 v11 u12 v12 u13 v13 hc0 x0 x1 x2 x3 x4 x5 x6 x7)).trans
    (View.read_writes_eq_canon u12.view u12.view.junk _ (cover0_A_10 c i u2 v2 u3 v3 u4 v4 u5 v5 u6 v6 u7 v7 u8 v8 u9 v9 u10 v10 u11 v11 u12 v12 u13 v13 hc0 x0 x1 x2 x3 x4 x5 x6 x7)).symm) _).trans ?_
  unfold kernelRun0_A
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  exact store_dv X (i 1).val hR hi a5 a6 b5 b6 u12.view _ (wrd_a hi) (wrd_b hi) _ _ _ (fun _ _ => 0) (fun s l => by rw [View.writes_append]; exact I.v s l) s l

theorem dc_A (h : Fin 8) (s : Fin 8448) : out0_A_11 (F := Ideal) c i u2 v2 u3 v3 u4 v4 u5 v5 u6 v6 u7 v7 u8 v8 u9 v9 u10 v10 u11 v11 u12 v12 u13 v13 hc0 x0 x1 x2 x3 x4 x5 x6 x7 (ix3 0 h s)
    = (((if h.val < 2 ∧ s.val < (n + 1) * 768 then 0 - ∑ r ∈ Finset.range 768, X.ds h.val (n * 768 + r) s.val else 0) : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := store_zero_rows u11.view u11.view.junk rfl inb_S8448x128_S8448x128_0_0 (k0_pay27 (F := Ideal)) (fun _ _ => by pointwise [k0_pay27])
  have zv := store_zero_rows u12.view u12.view.junk rfl inb_S8448x128_S8448x128_0_0 (k0_pay28 (F := Ideal)) (fun _ _ => by pointwise [k0_pay28])
  have zc := store_zero_gate u13.view u13.view.junk rfl inb_S1x8x8448_S1x8x8448_0_0_0 (k0_pay29 (F := Ideal)) (fun _ _ => by pointwise [k0_pay29])
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) (fun _ _ => 0) (fun _ _ => 0) (fun _ _ => 0) zk zv zc (i 1).val le_rfl
  refine (congrFun ((View.read_writes_eq_canon VO0_11 VO0_11.junk _ (cover0_A_11 c i u2 v2 u3 v3 u4 v4 u5 v5 u6 v6 u7 v7 u8 v8 u9 v9 u10 v10 u11 v11 u12 v12 u13 v13 hc0 x0 x1 x2 x3 x4 x5 x6 x7)).trans
    (View.read_writes_eq_canon u13.view u13.view.junk _ (cover0_A_11 c i u2 v2 u3 v3 u4 v4 u5 v5 u6 v6 u7 v7 u8 v8 u9 v9 u10 v10 u11 v11 u12 v12 u13 v13 hc0 x0 x1 x2 x3 x4 x5 x6 x7)).symm) _).trans ?_
  unfold kernelRun0_A
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  exact store_dc X (i 1).val hR hi a5 a6 a7 b5 b6 b7 u13.view _ (wrd_g hi 0) (wrd_g hi 1) (wrd_h hi 0) (wrd_h hi 1) _ _ _ _ _ (fun _ _ => 0) (fun s l => by rw [View.writes_append]; exact I.c s l) h s

theorem dq_A (r : Fin 768) (l : Fin 128) : out0_A_8 (F := Ideal) c i u2 v2 u3 v3 u4 v4 u5 v5 u6 v6 u7 v7 u8 v8 u9 v9 u10 v10 u11 v11 u12 v12 u13 v13 hc0 x0 x1 x2 x3 x4 x5 x6 x7 (ix2 r l)
    = ((∑ s ∈ Finset.range ((n + 1) * 768), X.ds (Inp.hd l.val) (n * 768 + r.val) s * X.key (Inp.hd l.val) s l.val : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := store_zero_rows u11.view u11.view.junk rfl inb_S8448x128_S8448x128_0_0 (k0_pay27 (F := Ideal)) (fun _ _ => by pointwise [k0_pay27])
  have zv := store_zero_rows u12.view u12.view.junk rfl inb_S8448x128_S8448x128_0_0 (k0_pay28 (F := Ideal)) (fun _ _ => by pointwise [k0_pay28])
  have zc := store_zero_gate u13.view u13.view.junk rfl inb_S1x8x8448_S1x8x8448_0_0_0 (k0_pay29 (F := Ideal)) (fun _ _ => by pointwise [k0_pay29])
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) (fun _ _ => 0) (fun _ _ => 0) (fun _ _ => 0) zk zv zc (i 1).val le_rfl
  unfold out0_A_8 kernelRun0_A
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  rw [View.read_writes_full]
  refine (dq_tile X (i 1).val hR _ _ _ _ (fun r l => (∑ s ∈ Finset.range ((i 1).val * 768), X.ds 0 ((i 1).val * 768 + r) s * X.key 0 s l) + ∑ s ∈ Finset.range 512, X.ds 0 ((i 1).val * 768 + r) ((i 1).val * 768 + s) * X.key 0 ((i 1).val * 768 + s) l) (fun r l => (∑ s ∈ Finset.range ((i 1).val * 768), X.ds 1 ((i 1).val * 768 + r) s * X.key 1 s l) + ∑ s ∈ Finset.range 512, X.ds 1 ((i 1).val * 768 + r) ((i 1).val * 768 + s) * X.key 1 ((i 1).val * 768 + s) l) (fun r l => ((∑ s ∈ Finset.range ((i 1).val * 768), X.ds 0 ((i 1).val * 768 + (512 + r)) s * X.key 0 s l) + ∑ s ∈ Finset.range 512, X.ds 0 ((i 1).val * 768 + (512 + r)) ((i 1).val * 768 + s) * X.key 0 ((i 1).val * 768 + s) l) + ∑ s ∈ Finset.range 256, X.ds 0 ((i 1).val * 768 + (512 + r)) ((i 1).val * 768 + (512 + s)) * X.key 0 ((i 1).val * 768 + (512 + s)) l) (fun r l => ((∑ s ∈ Finset.range ((i 1).val * 768), X.ds 1 ((i 1).val * 768 + (512 + r)) s * X.key 1 s l) + ∑ s ∈ Finset.range 512, X.ds 1 ((i 1).val * 768 + (512 + r)) ((i 1).val * 768 + s) * X.key 1 ((i 1).val * 768 + s) l) + ∑ s ∈ Finset.range 256, X.ds 1 ((i 1).val * 768 + (512 + r)) ((i 1).val * 768 + (512 + s)) * X.key 1 ((i 1).val * 768 + (512 + s)) l)
    (dq_a0 X (i 1).val hR hi a5 a7 _ (fun r l => ∑ s ∈ Finset.range ((i 1).val * 768), X.ds 0 ((i 1).val * 768 + r) s * X.key 0 s l) I.q0) (dq_a1 X (i 1).val hR hi a6 a7 _ (fun r l => ∑ s ∈ Finset.range ((i 1).val * 768), X.ds 1 ((i 1).val * 768 + r) s * X.key 1 s l) I.q1)
    (dq_b0 X (i 1).val hR hi b5 b7 _ (fun r l => (∑ s ∈ Finset.range ((i 1).val * 768), X.ds 0 ((i 1).val * 768 + r) s * X.key 0 s l) + ∑ s ∈ Finset.range 512, X.ds 0 ((i 1).val * 768 + r) ((i 1).val * 768 + s) * X.key 0 ((i 1).val * 768 + s) l) (dq_a0 X (i 1).val hR hi a5 a7 _ (fun r l => ∑ s ∈ Finset.range ((i 1).val * 768), X.ds 0 ((i 1).val * 768 + r) s * X.key 0 s l) I.q0))
    (dq_b1 X (i 1).val hR hi b6 b7 _ (fun r l => (∑ s ∈ Finset.range ((i 1).val * 768), X.ds 1 ((i 1).val * 768 + r) s * X.key 1 s l) + ∑ s ∈ Finset.range 512, X.ds 1 ((i 1).val * 768 + r) ((i 1).val * 768 + s) * X.key 1 ((i 1).val * 768 + s) l) (dq_a1 X (i 1).val hR hi a6 a7 _ (fun r l => ∑ s ∈ Finset.range ((i 1).val * 768), X.ds 1 ((i 1).val * 768 + r) s * X.key 1 s l) I.q1)) r l).trans ?_
  congr 1
  exact dq_join X (i 1).val r.val l.val r.isLt
-- ==== Proof.BodyB.lean ====
/-
  What the body leaves in each result at a lane pair's later tiles, from what its blocks hold.
-/
module
public import proofs.«01_k».proof.Proof.Body
public import proofs.«01_k».proof.Proof.Store

set_option maxRecDepth 8192
@[expose] public noncomputable section
namespace Cert.KernelIdeal.Bwd
open Gen Cert.Bwd
open Idealize.ShloMosaic TcCoe Idealize.SL.Sem

variable (c : Dev nD) (i : grid0.Coords) (u2 : Memref sig .tc .vmem S768x128 .bf16) (v2 : u2.IsWhole) (u3 : Memref sig .tc .vmem S768x128 .bf16) (v3 : u3.IsWhole) (u4 : Memref sig .tc .vmem S768x128 .f32) (v4 : u4.IsWhole) (u5 : Memref sig .tc .vmem S768x128 .f32) (v5 : u5.IsWhole) (u6 : Memref sig .tc .vmem S768x128 .f32) (v6 : u6.IsWhole) (u7 : Memref sig .tc .vmem S8448x128 .bf16) (v7 : u7.IsWhole) (u8 : Memref sig .tc .vmem S8448x128 .bf16) (v8 : u8.IsWhole) (u9 : Memref sig .tc .vmem S8448x128 .bf16) (v9 : u9.IsWhole) (u10 : Memref sig .tc .vmem S768x128 .f32) (v10 : u10.IsWhole) (u11 : Memref sig .tc .vmem S8448x128 .f32) (v11 : u11.IsWhole) (u12 : Memref sig .tc .vmem S8448x128 .f32) (v12 : u12.IsWhole) (u13 : Memref sig .tc .vmem S1x8x8448 .f32) (v13 : u13.IsWhole) (hc0 : ¬cond0_0 i) (x0 : Vec Ideal S768x128 .bf16) (x1 : Vec Ideal S768x128 .bf16) (x2 : Vec Ideal S768x128 .f32) (x3 : Vec Ideal S768x128 .f32) (x4 : Vec Ideal S768x128 .f32) (x5 : Vec Ideal S8448x128 .bf16) (x6 : Vec Ideal S8448x128 .bf16) (x7 : Vec Ideal S8448x128 .bf16) (xo9 : Vec Ideal S8448x128 .f32) (xo10 : Vec Ideal S8448x128 .f32) (xo11 : Vec Ideal S1x8x8448 .f32)
  (X : Inp) (M C Dk Dv Dc : ℕ → ℕ → ℝ) (n p : ℕ) (hn : (i 1).val = n) (hp : (i 0).val = p) (B : Blocks X M C p n x0 x1 x2 x3 x4)
  (h5 : ∀ (s : Fin 8448) (l : Fin 128), x5 (ix2 s l) = ((X.ka s.val l.val : ℝ) : EReal))
  (h6 : ∀ (s : Fin 8448) (l : Fin 128), x6 (ix2 s l) = ((X.kb s.val l.val : ℝ) : EReal))
  (h7 : ∀ (s : Fin 8448) (l : Fin 128), x7 (ix2 s l) = ((X.v s.val l.val : ℝ) : EReal))
  (o9 : ∀ (s : Fin 8448) (l : Fin 128), xo9 (ix2 s l) = ((Dk s.val l.val : ℝ) : EReal))
  (o10 : ∀ (s : Fin 8448) (l : Fin 128), xo10 (ix2 s l) = ((Dv s.val l.val : ℝ) : EReal))
  (o11 : ∀ (h : Fin 8) (s : Fin 8448), xo11 (ix3 0 h s) = ((Dc h.val s.val : ℝ) : EReal))

include hn hp B h5 h6 h7 o9 o10 o11

theorem dk_B (s : Fin 8448) (l : Fin 128) : out0_B_9 (F := Ideal) c i u2 v2 u3 v3 u4 v4 u5 v5 u6 v6 u7 v7 u8 v8 u9 v9 u10 v10 u11 v11 u12 v12 u13 v13 hc0 x0 x1 x2 x3 x4 x5 x6 x7 xo9 xo10 xo11 (ix2 s l)
    = (((if s.val < (n + 1) * 768 then Dk s.val l.val + ∑ r ∈ Finset.range 768, X.ds (Inp.hd l.val) (n * 768 + r) s.val * X.q (n * 768 + r) l.val else Dk s.val l.val) : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := whole_read u11 v11 xo9 (fun s l => ((Dk s l : ℝ) : EReal)) o9
  have zv := whole_read u12 v12 xo10 (fun s l => ((Dv s l : ℝ) : EReal)) o10
  have zc : ∀ (h : Fin 8) (s : Fin 8448), u13.view.read (Elt Ideal) (v13.unread xo11) (ix3 0 h s) = ((Dc h.val s.val : ℝ) : EReal) := fun h s => by
    rw [v13.read_unread]; exact o11 h s
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) Dk Dv Dc zk zv zc (i 1).val le_rfl
  unfold out0_B_9 kernelRun0_B
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  exact store_dk X (i 1).val hR hi a5 a6 a7 b5 b6 b7 u11.view _ (wrd_a hi) (wrd_b hi) _ _ _ Dk I.k s l

theorem dv_B (s : Fin 8448) (l : Fin 128) : out0_B_10 (F := Ideal) c i u2 v2 u3 v3 u4 v4 u5 v5 u6 v6 u7 v7 u8 v8 u9 v9 u10 v10 u11 v11 u12 v12 u13 v13 hc0 x0 x1 x2 x3 x4 x5 x6 x7 xo9 xo10 xo11 (ix2 s l)
    = (((if s.val < (n + 1) * 768 then Dv s.val l.val + ∑ r ∈ Finset.range 768, X.w (Inp.hd l.val) (n * 768 + r) s.val * X.dO (n * 768 + r) l.val else Dv s.val l.val) : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := whole_read u11 v11 xo9 (fun s l => ((Dk s l : ℝ) : EReal)) o9
  have zv := whole_read u12 v12 xo10 (fun s l => ((Dv s l : ℝ) : EReal)) o10
  have zc : ∀ (h : Fin 8) (s : Fin 8448), u13.view.read (Elt Ideal) (v13.unread xo11) (ix3 0 h s) = ((Dc h.val s.val : ℝ) : EReal) := fun h s => by
    rw [v13.read_unread]; exact o11 h s
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) Dk Dv Dc zk zv zc (i 1).val le_rfl
  unfold out0_B_10 kernelRun0_B
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  exact store_dv X (i 1).val hR hi a5 a6 b5 b6 u12.view _ (wrd_a hi) (wrd_b hi) _ _ _ Dv I.v s l

theorem dc_B (h : Fin 8) (s : Fin 8448) : out0_B_11 (F := Ideal) c i u2 v2 u3 v3 u4 v4 u5 v5 u6 v6 u7 v7 u8 v8 u9 v9 u10 v10 u11 v11 u12 v12 u13 v13 hc0 x0 x1 x2 x3 x4 x5 x6 x7 xo9 xo10 xo11 (ix3 0 h s)
    = (((if h.val < 2 ∧ s.val < (n + 1) * 768 then Dc h.val s.val - ∑ r ∈ Finset.range 768, X.ds h.val (n * 768 + r) s.val else Dc h.val s.val) : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := whole_read u11 v11 xo9 (fun s l => ((Dk s l : ℝ) : EReal)) o9
  have zv := whole_read u12 v12 xo10 (fun s l => ((Dv s l : ℝ) : EReal)) o10
  have zc : ∀ (h : Fin 8) (s : Fin 8448), u13.view.read (Elt Ideal) (v13.unread xo11) (ix3 0 h s) = ((Dc h.val s.val : ℝ) : EReal) := fun h s => by
    rw [v13.read_unread]; exact o11 h s
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) Dk Dv Dc zk zv zc (i 1).val le_rfl
  unfold out0_B_11 kernelRun0_B
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  exact store_dc X (i 1).val hR hi a5 a6 a7 b5 b6 b7 u13.view _ (wrd_g hi 0) (wrd_g hi 1) (wrd_h hi 0) (wrd_h hi 1) _ _ _ _ _ Dc I.c h s

theorem dq_B (r : Fin 768) (l : Fin 128) : out0_B_8 (F := Ideal) c i u2 v2 u3 v3 u4 v4 u5 v5 u6 v6 u7 v7 u8 v8 u9 v9 u10 v10 u11 v11 u12 v12 u13 v13 hc0 x0 x1 x2 x3 x4 x5 x6 x7 xo9 xo10 xo11 (ix2 r l)
    = ((∑ s ∈ Finset.range ((n + 1) * 768), X.ds (Inp.hd l.val) (n * 768 + r.val) s * X.key (Inp.hd l.val) s l.val : ℝ) : EReal) := by
  subst hn
  subst hp
  have hi : (i 1).val < 11 := (i 1).isLt
  have hR := rows_of X M C (i 0).val (i 1).val (i 0).isLt x0 x1 x2 x3 x4 B
  have T1 := words1 i
  have T2 := words2 i
  obtain ⟨e5, a5, b5⟩ := rows_read hi u7 v7 x5 X.ka h5
  obtain ⟨e6, a6, b6⟩ := rows_read hi u8 v8 x6 X.kb h6
  obtain ⟨e7, a7, b7⟩ := rows_read hi u9 v9 x7 X.v h7
  have zk := whole_read u11 v11 xo9 (fun s l => ((Dk s l : ℝ) : EReal)) o9
  have zv := whole_read u12 v12 xo10 (fun s l => ((Dv s l : ℝ) : EReal)) o10
  have zc : ∀ (h : Fin 8) (s : Fin 8448), u13.view.read (Elt Ideal) (v13.unread xo11) (ix3 0 h s) = ((Dc h.val s.val : ℝ) : EReal) := fun h s => by
    rw [v13.read_unread]; exact o11 h s
  have I := loop_after .none c none i u2 v2 u3 v3 u4 v4 u5 v5 u6 v6 u7 v7 u8 v8 u9 v9 u10 v10 u11 v11 u12 v12 u13 v13 _ (BitVec.ofNat 32 (i 1).val) _ _ _ _ _ _ _ _ _ _ _ _ _ _ _ _ _ _ _ _ (k0_pay53, k0_pay54) X (i 1).val hR hi T1 e5 e6 e7 (fun r l => by pointwise [k0_pay53]) (fun r l => by pointwise [k0_pay54]) Dk Dv Dc zk zv zc (i 1).val le_rfl
  unfold out0_B_8 kernelRun0_B
  dsimp only
  sl_unfold_words
  simp only [T1, T2, loop2_none _ _ _ _ _ _ _ _ _ _ _ _ _ _ _ _ _ _ _ _ _ _ _ _ _ _ _ _ _ _ _ _ _ _ _ _ _ _ _ _ _ _ _ _ _ _ _ _ _ _ _ _ _ rfl, List.nil_append, tile_read]
  rw [View.read_writes_full]
  refine (dq_tile X (i 1).val hR _ _ _ _ (fun r l => (∑ s ∈ Finset.range ((i 1).val * 768), X.ds 0 ((i 1).val * 768 + r) s * X.key 0 s l) + ∑ s ∈ Finset.range 512, X.ds 0 ((i 1).val * 768 + r) ((i 1).val * 768 + s) * X.key 0 ((i 1).val * 768 + s) l) (fun r l => (∑ s ∈ Finset.range ((i 1).val * 768), X.ds 1 ((i 1).val * 768 + r) s * X.key 1 s l) + ∑ s ∈ Finset.range 512, X.ds 1 ((i 1).val * 768 + r) ((i 1).val * 768 + s) * X.key 1 ((i 1).val * 768 + s) l) (fun r l => ((∑ s ∈ Finset.range ((i 1).val * 768), X.ds 0 ((i 1).val * 768 + (512 + r)) s * X.key 0 s l) + ∑ s ∈ Finset.range 512, X.ds 0 ((i 1).val * 768 + (512 + r)) ((i 1).val * 768 + s) * X.key 0 ((i 1).val * 768 + s) l) + ∑ s ∈ Finset.range 256, X.ds 0 ((i 1).val * 768 + (512 + r)) ((i 1).val * 768 + (512 + s)) * X.key 0 ((i 1).val * 768 + (512 + s)) l) (fun r l => ((∑ s ∈ Finset.range ((i 1).val * 768), X.ds 1 ((i 1).val * 768 + (512 + r)) s * X.key 1 s l) + ∑ s ∈ Finset.range 512, X.ds 1 ((i 1).val * 768 + (512 + r)) ((i 1).val * 768 + s) * X.key 1 ((i 1).val * 768 + s) l) + ∑ s ∈ Finset.range 256, X.ds 1 ((i 1).val * 768 + (512 + r)) ((i 1).val * 768 + (512 + s)) * X.key 1 ((i 1).val * 768 + (512 + s)) l)
    (dq_a0 X (i 1).val hR hi a5 a7 _ (fun r l => ∑ s ∈ Finset.range ((i 1).val * 768), X.ds 0 ((i 1).val * 768 + r) s * X.key 0 s l) I.q0) (dq_a1 X (i 1).val hR hi a6 a7 _ (fun r l => ∑ s ∈ Finset.range ((i 1).val * 768), X.ds 1 ((i 1).val * 768 + r) s * X.key 1 s l) I.q1)
    (dq_b0 X (i 1).val hR hi b5 b7 _ (fun r l => (∑ s ∈ Finset.range ((i 1).val * 768), X.ds 0 ((i 1).val * 768 + r) s * X.key 0 s l) + ∑ s ∈ Finset.range 512, X.ds 0 ((i 1).val * 768 + r) ((i 1).val * 768 + s) * X.key 0 ((i 1).val * 768 + s) l) (dq_a0 X (i 1).val hR hi a5 a7 _ (fun r l => ∑ s ∈ Finset.range ((i 1).val * 768), X.ds 0 ((i 1).val * 768 + r) s * X.key 0 s l) I.q0))
    (dq_b1 X (i 1).val hR hi b6 b7 _ (fun r l => (∑ s ∈ Finset.range ((i 1).val * 768), X.ds 1 ((i 1).val * 768 + r) s * X.key 1 s l) + ∑ s ∈ Finset.range 512, X.ds 1 ((i 1).val * 768 + r) ((i 1).val * 768 + s) * X.key 1 ((i 1).val * 768 + s) l) (dq_a1 X (i 1).val hR hi a6 a7 _ (fun r l => ∑ s ∈ Finset.range ((i 1).val * 768), X.ds 1 ((i 1).val * 768 + r) s * X.key 1 s l) I.q1)) r l).trans ?_
  congr 1
  exact dq_join X (i 1).val r.val l.val r.isLt
-- ==== Proof.Points.lean ====
/-
  The blocks a grid point works on, as pieces of the whole arrays the kernel is called with.
-/
module
public import proofs.«01_k».proof.Proof.BodyA
public import proofs.«01_k».proof.Proof.BodyB
public import Idealize.ShloMosaic.Lib.Pipeline.Value

set_option maxRecDepth 8192
@[expose] public noncomputable section
namespace Cert.KernelIdeal.Bwd
open Gen Cert.Bwd
open Idealize.ShloMosaic TcCoe Idealize.SL.Sem

/-- The arrays the kernel is called with, by row and column; the per-row numbers by head and row. -/
structure Arrs where
  Q : ℕ → ℕ → ℝ
  Do : ℕ → ℕ → ℝ
  M : ℕ → ℕ → ℝ
  Dl : ℕ → ℕ → ℝ
  C : ℕ → ℕ → ℝ
  Ka : ℕ → ℕ → ℝ
  Kb : ℕ → ℕ → ℝ
  Va : ℕ → ℕ → ℝ

/-- Lane pair `p`'s part. -/
def Arrs.pair (d : Arrs) (p : ℕ) : Inp where
  q r l := d.Q r (p * 128 + l)
  dO r l := d.Do r (p * 128 + l)
  ka s l := d.Ka s (p * 128 + l)
  kb s l := d.Kb s (p * 128 + l)
  v s l := d.Va s (p * 128 + l)
  sh h r := d.C r (2 * p + h) - d.M (2 * p + h) r
  dl h r := d.Dl (2 * p + h) r

variable (m : (ℓ : Loc nD τ sig) → Buf (Elt Ideal) ℓ) (c : Dev nD)

/-- The kernel's arrays hold these numbers. -/
structure Held (d : Arrs) : Prop where
  h0 : ∀ (r : Fin 8448) (l : Fin 1024), (V m c main_v49 : Vec Ideal S8448x1024 .bf16) (ix2 r l) = ((d.Q r.val l.val : ℝ) : EReal)
  h1 : ∀ (r : Fin 8448) (l : Fin 1024), (V m c main_v112 : Vec Ideal S8448x1024 .bf16) (ix2 r l) = ((d.Do r.val l.val : ℝ) : EReal)
  h2 : ∀ (r : Fin 8448) (l : Fin 1024), (V m c main_v118 : Vec Ideal S8448x1024 .f32) (ix2 r l) = ((d.M (l.val / 64) r.val : ℝ) : EReal)
  h3 : ∀ (r : Fin 8448) (l : Fin 1024), (V m c main_v122 : Vec Ideal S8448x1024 .f32) (ix2 r l) = ((d.Dl (l.val / 64) r.val : ℝ) : EReal)
  h4 : ∀ (r : Fin 8448) (l : Fin 128), (V m c main_v54 : Vec Ideal S8448x128 .f32) (ix2 r l) = ((d.C r.val l.val : ℝ) : EReal)
  h5 : ∀ (r : Fin 8448) (l : Fin 1024), (V m c main_v104 : Vec Ideal S8448x1024 .bf16) (ix2 r l) = ((d.Ka r.val l.val : ℝ) : EReal)
  h6 : ∀ (r : Fin 8448) (l : Fin 1024), (V m c main_v106 : Vec Ideal S8448x1024 .bf16) (ix2 r l) = ((d.Kb r.val l.val : ℝ) : EReal)
  h7 : ∀ (r : Fin 8448) (l : Fin 1024), (V m c main_v108 : Vec Ideal S8448x1024 .bf16) (ix2 r l) = ((d.Va r.val l.val : ℝ) : EReal)

theorem coords_p (t : Fin cfg0.N) : (grid0.coords t 0).val = t.val / 11 := by
  have h : t.val < 88 := t.isLt.trans_eq N_0
  have e : (grid0.coords t 0).val = t.val / 11 % 8 := Pipeline.Grid.coords_val t 0 (by decide) rfl
  omega

theorem coords_n (t : Fin cfg0.N) : (grid0.coords t 1).val = t.val % 11 := by
  have e : (grid0.coords t 1).val = t.val / 1 % 11 := Pipeline.Grid.coords_val t 1 (by decide) rfl
  omega

theorem small_word {n : ℕ} (h : n < 88) : (BitVec.ofNat 32 n).toNat = n := by
  rw [BitVec.toNat_ofNat, Nat.mod_eq_of_lt (by omega)]

variable (t : Fin cfg0.N)

theorem word_n : (BitVec.ofNat 32 (grid0.coords t 1).val).toNat = t.val % 11 := by
  have h : t.val < 88 := t.isLt.trans_eq N_0
  rw [coords_n, small_word (by omega)]

theorem word_p : (BitVec.ofNat 32 (grid0.coords t 0).val).toNat = t.val / 11 := by
  have h : t.val < 88 := t.isLt.trans_eq N_0
  rw [coords_p, small_word (by omega)]

theorem index0 : win0_0.index t 0 = t.val % 11 ∧ win0_0.index t 1 = t.val / 11 := ⟨word_n t, word_p t⟩

theorem index1 : win0_1.index t 0 = t.val % 11 ∧ win0_1.index t 1 = t.val / 11 := ⟨word_n t, word_p t⟩

theorem index2 : win0_2.index t 0 = t.val % 11 ∧ win0_2.index t 1 = t.val / 11 := ⟨word_n t, word_p t⟩

theorem index3 : win0_3.index t 0 = t.val % 11 ∧ win0_3.index t 1 = t.val / 11 := ⟨word_n t, word_p t⟩

theorem index4 : win0_4.index t 0 = t.val % 11 ∧ win0_4.index t 1 = 0 := ⟨word_n t, rfl⟩

theorem index5 : win0_5.index t 0 = 0 ∧ win0_5.index t 1 = t.val / 11 := ⟨rfl, word_p t⟩

theorem index6 : win0_6.index t 0 = 0 ∧ win0_6.index t 1 = t.val / 11 := ⟨rfl, word_p t⟩

theorem index7 : win0_7.index t 0 = 0 ∧ win0_7.index t 1 = t.val / 11 := ⟨rfl, word_p t⟩

theorem index8 : win0_8.index t 0 = t.val % 11 ∧ win0_8.index t 1 = t.val / 11 := ⟨word_n t, word_p t⟩

theorem index9 : win0_9.index t 0 = 0 ∧ win0_9.index t 1 = t.val / 11 := ⟨rfl, word_p t⟩

theorem index10 : win0_10.index t 0 = 0 ∧ win0_10.index t 1 = t.val / 11 := ⟨rfl, word_p t⟩

theorem index11 : win0_11.index t 0 = t.val / 11 ∧ win0_11.index t 1 = 0 ∧ win0_11.index t 2 = 0 := ⟨word_p t, rfl, rfl⟩

theorem blk0 {d : Arrs} (H : Held m c d) (r : Fin 768) (l : Fin 128) :
    (iblk m c 0 t : Vec Ideal S768x128 .bf16) (ix2 r l) = ((d.Q (t.val % 11 * 768 + r.val) (t.val / 11 * 128 + l.val) : ℝ) : EReal) := by
  have h : t.val < 88 := t.isLt.trans_eq N_0
  obtain ⟨i0, i1⟩ := index0 t
  unfold iblk
  rw [View.read_apply]
  refine Eq.trans ?_ ((H.h0 ⟨t.val % 11 * 768 + r.val, by omega⟩ ⟨t.val / 11 * 128 + l.val, by omega⟩).trans ?_)
  · show (V m c main_v49 : Vec Ideal S8448x1024 .bf16) _ = _
    congr 1
    funext a
    apply Fin.ext
    match a with
    | ⟨0, _⟩ => show win0_0.index t 0 * 768 + 1 * r.val = t.val % 11 * 768 + r.val; rw [i0]; omega
    | ⟨1, _⟩ => show win0_0.index t 1 * 128 + 1 * l.val = t.val / 11 * 128 + l.val; rw [i1]; omega
  · rfl

theorem blk1 {d : Arrs} (H : Held m c d) (r : Fin 768) (l : Fin 128) :
    (iblk m c 1 t : Vec Ideal S768x128 .bf16) (ix2 r l) = ((d.Do (t.val % 11 * 768 + r.val) (t.val / 11 * 128 + l.val) : ℝ) : EReal) := by
  have h : t.val < 88 := t.isLt.trans_eq N_0
  obtain ⟨i0, i1⟩ := index1 t
  unfold iblk
  rw [View.read_apply]
  refine Eq.trans ?_ ((H.h1 ⟨t.val % 11 * 768 + r.val, by omega⟩ ⟨t.val / 11 * 128 + l.val, by omega⟩).trans ?_)
  · show (V m c main_v112 : Vec Ideal S8448x1024 .bf16) _ = _
    congr 1
    funext a
    apply Fin.ext
    match a with
    | ⟨0, _⟩ => show win0_1.index t 0 * 768 + 1 * r.val = t.val % 11 * 768 + r.val; rw [i0]; omega
    | ⟨1, _⟩ => show win0_1.index t 1 * 128 + 1 * l.val = t.val / 11 * 128 + l.val; rw [i1]; omega
  · rfl

theorem blk2 {d : Arrs} (H : Held m c d) (r : Fin 768) (l : Fin 128) :
    (iblk m c 2 t : Vec Ideal S768x128 .f32) (ix2 r l) = ((d.M (2 * (t.val / 11) + Inp.hd l.val) (t.val % 11 * 768 + r.val) : ℝ) : EReal) := by
  have h : t.val < 88 := t.isLt.trans_eq N_0
  obtain ⟨i0, i1⟩ := index2 t
  unfold iblk
  rw [View.read_apply]
  refine Eq.trans ?_ ((H.h2 ⟨t.val % 11 * 768 + r.val, by omega⟩ ⟨t.val / 11 * 128 + l.val, by omega⟩).trans ?_)
  · show (V m c main_v118 : Vec Ideal S8448x1024 .f32) _ = _
    congr 1
    funext a
    apply Fin.ext
    match a with
    | ⟨0, _⟩ => show win0_2.index t 0 * 768 + 1 * r.val = t.val % 11 * 768 + r.val; rw [i0]; omega
    | ⟨1, _⟩ => show win0_2.index t 1 * 128 + 1 * l.val = t.val / 11 * 128 + l.val; rw [i1]; omega
  · dsimp only
    unfold Inp.hd
    rw [show (t.val / 11 * 128 + l.val) / 64 = 2 * (t.val / 11) + (if l.val < 64 then 0 else 1) by split <;> omega]

theorem blk3 {d : Arrs} (H : Held m c d) (r : Fin 768) (l : Fin 128) :
    (iblk m c 3 t : Vec Ideal S768x128 .f32) (ix2 r l) = ((d.Dl (2 * (t.val / 11) + Inp.hd l.val) (t.val % 11 * 768 + r.val) : ℝ) : EReal) := by
  have h : t.val < 88 := t.isLt.trans_eq N_0
  obtain ⟨i0, i1⟩ := index3 t
  unfold iblk
  rw [View.read_apply]
  refine Eq.trans ?_ ((H.h3 ⟨t.val % 11 * 768 + r.val, by omega⟩ ⟨t.val / 11 * 128 + l.val, by omega⟩).trans ?_)
  · show (V m c main_v122 : Vec Ideal S8448x1024 .f32) _ = _
    congr 1
    funext a
    apply Fin.ext
    match a with
    | ⟨0, _⟩ => show win0_3.index t 0 * 768 + 1 * r.val = t.val % 11 * 768 + r.val; rw [i0]; omega
    | ⟨1, _⟩ => show win0_3.index t 1 * 128 + 1 * l.val = t.val / 11 * 128 + l.val; rw [i1]; omega
  · dsimp only
    unfold Inp.hd
    rw [show (t.val / 11 * 128 + l.val) / 64 = 2 * (t.val / 11) + (if l.val < 64 then 0 else 1) by split <;> omega]

theorem blk4 {d : Arrs} (H : Held m c d) (r : Fin 768) (l : Fin 128) :
    (iblk m c 4 t : Vec Ideal S768x128 .f32) (ix2 r l) = ((d.C (t.val % 11 * 768 + r.val) (l.val) : ℝ) : EReal) := by
  have h : t.val < 88 := t.isLt.trans_eq N_0
  obtain ⟨i0, i1⟩ := index4 t
  unfold iblk
  rw [View.read_apply]
  refine Eq.trans ?_ ((H.h4 ⟨t.val % 11 * 768 + r.val, by omega⟩ ⟨l.val, by omega⟩).trans ?_)
  · show (V m c main_v54 : Vec Ideal S8448x128 .f32) _ = _
    congr 1
    funext a
    apply Fin.ext
    match a with
    | ⟨0, _⟩ => show win0_4.index t 0 * 768 + 1 * r.val = t.val % 11 * 768 + r.val; rw [i0]; omega
    | ⟨1, _⟩ => show win0_4.index t 1 * 128 + 1 * l.val = l.val; rw [i1]; omega
  · rfl

theorem blk5 {d : Arrs} (H : Held m c d) (r : Fin 8448) (l : Fin 128) :
    (iblk m c 5 t : Vec Ideal S8448x128 .bf16) (ix2 r l) = ((d.Ka (r.val) (t.val / 11 * 128 + l.val) : ℝ) : EReal) := by
  have h : t.val < 88 := t.isLt.trans_eq N_0
  obtain ⟨i0, i1⟩ := index5 t
  unfold iblk
  rw [View.read_apply]
  refine Eq.trans ?_ ((H.h5 ⟨r.val, by omega⟩ ⟨t.val / 11 * 128 + l.val, by omega⟩).trans ?_)
  · show (V m c main_v104 : Vec Ideal S8448x1024 .bf16) _ = _
    congr 1
    funext a
    apply Fin.ext
    match a with
    | ⟨0, _⟩ => show win0_5.index t 0 * 8448 + 1 * r.val = r.val; rw [i0]; omega
    | ⟨1, _⟩ => show win0_5.index t 1 * 128 + 1 * l.val = t.val / 11 * 128 + l.val; rw [i1]; omega
  · rfl

theorem blk6 {d : Arrs} (H : Held m c d) (r : Fin 8448) (l : Fin 128) :
    (iblk m c 6 t : Vec Ideal S8448x128 .bf16) (ix2 r l) = ((d.Kb (r.val) (t.val / 11 * 128 + l.val) : ℝ) : EReal) := by
  have h : t.val < 88 := t.isLt.trans_eq N_0
  obtain ⟨i0, i1⟩ := index6 t
  unfold iblk
  rw [View.read_apply]
  refine Eq.trans ?_ ((H.h6 ⟨r.val, by omega⟩ ⟨t.val / 11 * 128 + l.val, by omega⟩).trans ?_)
  · show (V m c main_v106 : Vec Ideal S8448x1024 .bf16) _ = _
    congr 1
    funext a
    apply Fin.ext
    match a with
    | ⟨0, _⟩ => show win0_6.index t 0 * 8448 + 1 * r.val = r.val; rw [i0]; omega
    | ⟨1, _⟩ => show win0_6.index t 1 * 128 + 1 * l.val = t.val / 11 * 128 + l.val; rw [i1]; omega
  · rfl

theorem blk7 {d : Arrs} (H : Held m c d) (r : Fin 8448) (l : Fin 128) :
    (iblk m c 7 t : Vec Ideal S8448x128 .bf16) (ix2 r l) = ((d.Va (r.val) (t.val / 11 * 128 + l.val) : ℝ) : EReal) := by
  have h : t.val < 88 := t.isLt.trans_eq N_0
  obtain ⟨i0, i1⟩ := index7 t
  unfold iblk
  rw [View.read_apply]
  refine Eq.trans ?_ ((H.h7 ⟨r.val, by omega⟩ ⟨t.val / 11 * 128 + l.val, by omega⟩).trans ?_)
  · show (V m c main_v108 : Vec Ideal S8448x1024 .bf16) _ = _
    congr 1
    funext a
    apply Fin.ext
    match a with
    | ⟨0, _⟩ => show win0_7.index t 0 * 8448 + 1 * r.val = r.val; rw [i0]; omega
    | ⟨1, _⟩ => show win0_7.index t 1 * 128 + 1 * l.val = t.val / 11 * 128 + l.val; rw [i1]; omega
  · rfl

/-- The blocks of point `t` hold lane pair `t / 11`'s numbers at tile `t % 11`. -/
theorem blocks_of {d : Arrs} (H : Held m c d) :
    Blocks (d.pair (t.val / 11)) (fun h r => d.M (2 * (t.val / 11) + h) r) d.C (t.val / 11) (t.val % 11)
      (iblk m c 0 t) (iblk m c 1 t) (iblk m c 2 t) (iblk m c 3 t) (iblk m c 4 t) :=
  ⟨blk0 m c t H, blk1 m c t H, blk2 m c t H, blk3 m c t H, blk4 m c t H, fun _ _ _ => rfl⟩
-- ==== Proof.Accum.lean ====
/-
  The running gradients over the tiles of a lane pair, by induction on the grid point.
-/
module
public import proofs.«01_k».proof.Proof.Points

set_option maxRecDepth 8192
@[expose] public noncomputable section
namespace Cert.KernelIdeal.Bwd
open Gen Cert.Bwd
open Idealize.ShloMosaic TcCoe Idealize.SL.Sem

/-- The gradients gathered over the first `n` query tiles. -/
def sumK (X : Inp) (n s l : ℕ) : ℝ := ∑ r ∈ Finset.range (n * 768), X.ds (Inp.hd l) r s * X.q r l
def sumV (X : Inp) (n s l : ℕ) : ℝ := ∑ r ∈ Finset.range (n * 768), X.w (Inp.hd l) r s * X.dO r l
def sumC (X : Inp) (n h s : ℕ) : ℝ := if h < 2 then - ∑ r ∈ Finset.range (n * 768), X.ds h r s else 0

theorem late {n r s : ℕ} (hr : r < 768) (hs : ¬ s < (n + 1) * 768) : ¬ Inp.ok (n * 768 + r) s := by
  unfold Inp.ok; omega

theorem sumK_step (X : Inp) (n s l : ℕ) :
    (if s < (n + 1) * 768 then sumK X n s l + ∑ r ∈ Finset.range 768, X.ds (Inp.hd l) (n * 768 + r) s * X.q (n * 768 + r) l else sumK X n s l) = sumK X (n + 1) s l := by
  have e : sumK X (n + 1) s l = sumK X n s l + ∑ r ∈ Finset.range 768, X.ds (Inp.hd l) (n * 768 + r) s * X.q (n * 768 + r) l := sum_tile _ n
  rw [e]
  split
  · rfl
  · rename_i h
    rw [Finset.sum_eq_zero (fun r hr => by rw [X.ds_of_not (late (Finset.mem_range.1 hr) h), zero_mul]), add_zero]

theorem sumV_step (X : Inp) (n s l : ℕ) :
    (if s < (n + 1) * 768 then sumV X n s l + ∑ r ∈ Finset.range 768, X.w (Inp.hd l) (n * 768 + r) s * X.dO (n * 768 + r) l else sumV X n s l) = sumV X (n + 1) s l := by
  have e : sumV X (n + 1) s l = sumV X n s l + ∑ r ∈ Finset.range 768, X.w (Inp.hd l) (n * 768 + r) s * X.dO (n * 768 + r) l := sum_tile _ n
  rw [e]
  split
  · rfl
  · rename_i h
    rw [Finset.sum_eq_zero (fun r hr => by rw [X.w_of_not (late (Finset.mem_range.1 hr) h), zero_mul]), add_zero]

theorem sumC_step (X : Inp) (n h s : ℕ) :
    (if h < 2 ∧ s < (n + 1) * 768 then sumC X n h s - ∑ r ∈ Finset.range 768, X.ds h (n * 768 + r) s else sumC X n h s) = sumC X (n + 1) h s := by
  unfold sumC
  by_cases h2 : h < 2
  · rw [if_pos h2, if_pos h2, sum_tile]
    split
    · rw [neg_add, sub_eq_add_neg]
    · rename_i hh
      rw [Finset.sum_eq_zero (s := Finset.range 768) (fun r hr => by rw [X.ds_of_not (late (Finset.mem_range.1 hr) (by omega))]), add_zero]
  · rw [if_neg h2, if_neg h2, if_neg (fun x => h2 x.1)]

theorem sumK_zero (X : Inp) (s l : ℕ) : (0 : ℝ) = sumK X 0 s l := by unfold sumK; rw [Nat.zero_mul, Finset.sum_range_zero]
theorem sumV_zero (X : Inp) (s l : ℕ) : (0 : ℝ) = sumV X 0 s l := by unfold sumV; rw [Nat.zero_mul, Finset.sum_range_zero]
theorem sumC_zero (X : Inp) (h s : ℕ) : (0 : ℝ) = sumC X 0 h s := by unfold sumC; rw [Nat.zero_mul, Finset.sum_range_zero, neg_zero, ite_self]

variable (m : (ℓ : Loc nD τ sig) → Buf (Elt Ideal) ℓ) (c : Dev nD)

/-- What a point leaves in its four results. -/
structure Left (X : Inp) (n : ℕ) (o : Vec Ideal S768x128 .f32 × Vec Ideal S8448x128 .f32 × Vec Ideal S8448x128 .f32 × Vec Ideal S1x8x8448 .f32) : Prop where
  q : ∀ (r : Fin 768) (l : Fin 128), o.1 (ix2 r l)
    = ((∑ s ∈ Finset.range ((n + 1) * 768), X.ds (Inp.hd l.val) (n * 768 + r.val) s * X.key (Inp.hd l.val) s l.val : ℝ) : EReal)
  k : ∀ (s : Fin 8448) (l : Fin 128), o.2.1 (ix2 s l) = ((sumK X (n + 1) s.val l.val : ℝ) : EReal)
  v : ∀ (s : Fin 8448) (l : Fin 128), o.2.2.1 (ix2 s l) = ((sumV X (n + 1) s.val l.val : ℝ) : EReal)
  c : ∀ (h : Fin 8) (s : Fin 8448), o.2.2.2 (ix3 0 h s) = ((sumC X (n + 1) h.val s.val : ℝ) : EReal)

theorem left_mk {X : Inp} {n : ℕ} {o8 : Vec Ideal S768x128 .f32} {o9 o10 : Vec Ideal S8448x128 .f32} {o11 : Vec Ideal S1x8x8448 .f32}
    {Dk Dv Dc : ℕ → ℕ → ℝ}
    (hq : ∀ (r : Fin 768) (l : Fin 128), o8 (ix2 r l)
      = ((∑ s ∈ Finset.range ((n + 1) * 768), X.ds (Inp.hd l.val) (n * 768 + r.val) s * X.key (Inp.hd l.val) s l.val : ℝ) : EReal))
    (hk : ∀ (s : Fin 8448) (l : Fin 128), o9 (ix2 s l) = ((Dk s.val l.val : ℝ) : EReal))
    (hv : ∀ (s : Fin 8448) (l : Fin 128), o10 (ix2 s l) = ((Dv s.val l.val : ℝ) : EReal))
    (hc : ∀ (h : Fin 8) (s : Fin 8448), o11 (ix3 0 h s) = ((Dc h.val s.val : ℝ) : EReal))
    (ek : ∀ s l : ℕ, Dk s l = sumK X (n + 1) s l) (ev : ∀ s l : ℕ, Dv s l = sumV X (n + 1) s l) (ec : ∀ h s : ℕ, Dc h s = sumC X (n + 1) h s) :
    Left X n (o8, o9, o10, o11) :=
  ⟨hq, fun s l => by rw [← ek]; exact hk s l, fun s l => by rw [← ev]; exact hv s l, fun h s => by rw [← ec]; exact hc h s⟩

theorem left_A {d : Arrs} (H : Held m c d) (t : Fin cfg0.N) (h0 : t.val % 11 = 0) : Left (d.pair (t.val / 11)) (t.val % 11) (outsAt0 m c t.val t.isLt) := by
  rw [outsAt0_A m c t h0]
  have dq := dq_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (d.pair (t.val / 11)) (fun h r => d.M (2 * (t.val / 11) + h) r) d.C (t.val % 11) (t.val / 11) (coords_n t) (coords_p t) (blocks_of m c t H) (blk5 m c t H) (blk6 m c t H) (blk7 m c t H)
  have dk := dk_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (d.pair (t.val / 11)) (fun h r => d.M (2 * (t.val / 11) + h) r) d.C (t.val % 11) (t.val / 11) (coords_n t) (coords_p t) (blocks_of m c t H) (blk5 m c t H) (blk6 m c t H) (blk7 m c t H)
  have dv := dv_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (d.pair (t.val / 11)) (fun h r => d.M (2 * (t.val / 11) + h) r) d.C (t.val % 11) (t.val / 11) (coords_n t) (coords_p t) (blocks_of m c t H) (blk5 m c t H) (blk6 m c t H) (blk7 m c t H)
  have dc := dc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (iblk m c 0 t) (iblk m c 1 t) (iblk m c 2 t) (iblk m c 3 t) (iblk m c 4 t) (iblk m c 5 t) (iblk m c 6 t) (iblk m c 7 t) (d.pair (t.val / 11)) (fun h r => d.M (2 * (t.val / 11) + h) r) d.C (t.val % 11) (t.val / 11) (coords_n t) (coords_p t) (blocks_of m c t H) (blk5 m c t H) (blk6 m c t H) (blk7 m c t H)
  exact left_mk (Dk := fun s l => if s < (t.val % 11 + 1) * 768 then 0 + ∑ r ∈ Finset.range 768, (d.pair (t.val / 11)).ds (Inp.hd l) (t.val % 11 * 768 + r) s * (d.pair (t.val / 11)).q (t.val % 11 * 768 + r) l else 0) (Dv := fun s l => if s < (t.val % 11 + 1) * 768 then 0 + ∑ r ∈ Finset.range 768, (d.pair (t.val / 11)).w (Inp.hd l) (t.val % 11 * 768 + r) s * (d.pair (t.val / 11)).dO (t.val % 11 * 768 + r) l else 0) (Dc := fun h s => if h < 2 ∧ s < (t.val % 11 + 1) * 768 then 0 - ∑ r ∈ Finset.range 768, (d.pair (t.val / 11)).ds h (t.val % 11 * 768 + r) s else 0)
    dq dk dv dc (fun s l => by rw [← sumK_step, h0, ← sumK_zero]) (fun s l => by rw [← sumV_step, h0, ← sumV_zero]) (fun h s => by rw [← sumC_step, h0, ← sumC_zero])

theorem left_B {d : Arrs} (H : Held m c d) (t : Fin cfg0.N) (h0 : ¬ t.val % 11 = 0)
    (I : Left (d.pair (t.val / 11)) (t.val % 11 - 1) (outsAt0 m c (t.val - 1) (Nat.lt_of_le_of_lt (Nat.sub_le _ _) t.isLt))) :
    Left (d.pair (t.val / 11)) (t.val % 11) (outsAt0 m c t.val t.isLt) := by
  rw [outsAt0_B m c t h0]
  have hn : t.val % 11 - 1 + 1 = t.val % 11 := by omega
  have Ik := I.k
  have Iv := I.v
  have Ic := I.c
  rw [hn] at Ik Iv Ic
  have dq := dq_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) _ _ _ (d.pair (t.val / 11)) (fun h r => d.M (2 * (t.val / 11) + h) r) d.C (sumK (d.pair (t.val / 11)) (t.val % 11)) (sumV (d.pair (t.val / 11)) (t.val % 11)) (sumC (d.pair (t.val / 11)) (t.val % 11)) (t.val % 11) (t.val / 11) (coords_n t) (coords_p t) (blocks_of m c t H) (blk5 m c t H) (blk6 m c t H) (blk7 m c t H) Ik Iv Ic
  have dk := dk_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) _ _ _ (d.pair (t.val / 11)) (fun h r => d.M (2 * (t.val / 11) + h) r) d.C (sumK (d.pair (t.val / 11)) (t.val % 11)) (sumV (d.pair (t.val / 11)) (t.val % 11)) (sumC (d.pair (t.val / 11)) (t.val % 11)) (t.val % 11) (t.val / 11) (coords_n t) (coords_p t) (blocks_of m c t H) (blk5 m c t H) (blk6 m c t H) (blk7 m c t H) Ik Iv Ic
  have dv := dv_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) _ _ _ (d.pair (t.val / 11)) (fun h r => d.M (2 * (t.val / 11) + h) r) d.C (sumK (d.pair (t.val / 11)) (t.val % 11)) (sumV (d.pair (t.val / 11)) (t.val % 11)) (sumC (d.pair (t.val / 11)) (t.val % 11)) (t.val % 11) (t.val / 11) (coords_n t) (coords_p t) (blocks_of m c t H) (blk5 m c t H) (blk6 m c t H) (blk7 m c t H) Ik Iv Ic
  have dc := dc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) (iblk m c 0 t) (iblk m c 1 t) (iblk m c 2 t) (iblk m c 3 t) (iblk m c 4 t) (iblk m c 5 t) (iblk m c 6 t) (iblk m c 7 t) _ _ _ (d.pair (t.val / 11)) (fun h r => d.M (2 * (t.val / 11) + h) r) d.C (sumK (d.pair (t.val / 11)) (t.val % 11)) (sumV (d.pair (t.val / 11)) (t.val % 11)) (sumC (d.pair (t.val / 11)) (t.val % 11)) (t.val % 11) (t.val / 11) (coords_n t) (coords_p t) (blocks_of m c t H) (blk5 m c t H) (blk6 m c t H) (blk7 m c t H) Ik Iv Ic
  exact left_mk (Dk := fun s l => if s < (t.val % 11 + 1) * 768 then sumK (d.pair (t.val / 11)) (t.val % 11) s l + ∑ r ∈ Finset.range 768, (d.pair (t.val / 11)).ds (Inp.hd l) (t.val % 11 * 768 + r) s * (d.pair (t.val / 11)).q (t.val % 11 * 768 + r) l else sumK (d.pair (t.val / 11)) (t.val % 11) s l) (Dv := fun s l => if s < (t.val % 11 + 1) * 768 then sumV (d.pair (t.val / 11)) (t.val % 11) s l + ∑ r ∈ Finset.range 768, (d.pair (t.val / 11)).w (Inp.hd l) (t.val % 11 * 768 + r) s * (d.pair (t.val / 11)).dO (t.val % 11 * 768 + r) l else sumV (d.pair (t.val / 11)) (t.val % 11) s l) (Dc := fun h s => if h < 2 ∧ s < (t.val % 11 + 1) * 768 then sumC (d.pair (t.val / 11)) (t.val % 11) h s - ∑ r ∈ Finset.range 768, (d.pair (t.val / 11)).ds h (t.val % 11 * 768 + r) s else sumC (d.pair (t.val / 11)) (t.val % 11) h s)
    dq dk dv dc (sumK_step _ _) (sumV_step _ _) (sumC_step _ _)

theorem left_at {d : Arrs} (H : Held m c d) : ∀ (k : ℕ) (t : Fin cfg0.N), t.val = k → Left (d.pair (t.val / 11)) (t.val % 11) (outsAt0 m c t.val t.isLt) := by
  intro k
  induction k with
  | zero => exact fun t ht => left_A m c H t (by omega)
  | succ k ih =>
    intro t ht
    by_cases h0 : t.val % 11 = 0
    · exact left_A m c H t h0
    · refine left_B m c H t h0 ?_
      have I := ih ⟨t.val - 1, Nat.lt_of_le_of_lt (Nat.sub_le _ _) t.isLt⟩ (by show t.val - 1 = k; omega)
      dsimp only at I
      rw [show (t.val - 1) / 11 = t.val / 11 by omega, show (t.val - 1) % 11 = t.val % 11 - 1 by omega] at I
      exact I
-- ==== Proof.Final.lean ====
/-
  What the kernel leaves in its four result arrays.
-/
module
public import proofs.«01_k».proof.Proof.Accum
public import proofs.«01_k».proof.Proof.Gen.KernelIdeal.Run

set_option maxRecDepth 8192
@[expose] public noncomputable section
namespace Cert.KernelIdeal.Bwd
open Gen Cert.Bwd
open Idealize.ShloMosaic TcCoe Idealize.SL.Sem
open Pipeline (Dat)

/-- The four results, by row and column (the gates' by lane pair, head and row). -/
def outQ (d : Arrs) (r j : ℕ) : ℝ :=
  ∑ s ∈ Finset.range 8448, (d.pair (j / 128)).ds (Inp.hd (j % 128)) r s * (d.pair (j / 128)).key (Inp.hd (j % 128)) s (j % 128)
def outK (d : Arrs) (s j : ℕ) : ℝ := sumK (d.pair (j / 128)) 11 s (j % 128)
def outV (d : Arrs) (s j : ℕ) : ℝ := sumV (d.pair (j / 128)) 11 s (j % 128)
def outC (d : Arrs) (p h s : ℕ) : ℝ := sumC (d.pair p) 11 h s

/-- The keys after a tile add nothing to its queries' gradient. -/
theorem sum_causal (X : Inp) (n r h l : ℕ) (hn : n < 11) (hr : r < 768) :
    ∑ s ∈ Finset.range ((n + 1) * 768), X.ds h (n * 768 + r) s * X.key h s l = ∑ s ∈ Finset.range 8448, X.ds h (n * 768 + r) s * X.key h s l := by
  refine Finset.sum_subset (Finset.range_subset_range.2 (by omega)) fun s _ hs => ?_
  rw [X.ds_of_not, zero_mul]
  unfold Inp.ok
  have : ¬ s < (n + 1) * 768 := fun h => hs (Finset.mem_range.2 h)
  omega

variable (m : (ℓ : Loc nD τ sig) → Buf (Elt Ideal) ℓ) (c : Dev nD) (d : Arrs)

abbrev arr8 : Vec Ideal S8448x1024 .f32 := fun i => ((outQ d (i 0).val (i 1).val : ℝ) : EReal)

abbrev arr9 : Vec Ideal S8448x1024 .f32 := fun i => ((outK d (i 0).val (i 1).val : ℝ) : EReal)

abbrev arr10 : Vec Ideal S8448x1024 .f32 := fun i => ((outV d (i 0).val (i 1).val : ℝ) : EReal)

abbrev arr11 : Vec Ideal S8x8x8448 .f32 := fun i => ((outC d (i 0).val (i 1).val (i 2).val : ℝ) : EReal)

variable {d} (H : Held m c d)
include H

theorem flushed8 (t : Fin cfg0.N) (hf : (cfg0.win 8).flush t = true) :
    (dats m 0 c).flushed 8 t = ((cfg0.win 8).blk t).view.read (Elt Ideal) (arr8 d : Buf (Elt Ideal) ((c.tc : Thread nD τ).loc main_v123_0)) := by
  have ht : t.val < 88 := t.isLt.trans_eq N_0
  show (cfg0.win 8).cut (grid0.coords t) ((dats m 0 c).after 8 t) = _
  rw [after0_8]
  have L := left_at m c H t.val t rfl
  generalize outsAt0 m c t.val t.isLt = o at L ⊢
  obtain ⟨i0, i1⟩ := index8 t
  funext y
  rw [View.read_apply]
  let y' : S768x128.Idx := y
  have h0 : (y' 0).val < 768 := (y' 0).isLt
  have h1 : (y' 1).val < 128 := (y' 1).isLt
  show o.1 y' = (arr8 d) _
  have e : ((cfg0.win 8).blk t).view.emb y = (ix2 (⟨t.val % 11 * 768 + (y' 0).val, by omega⟩ : Fin 8448) (⟨t.val / 11 * 128 + (y' 1).val, by omega⟩ : Fin 1024) : S8448x1024.Idx) := by
    funext a
    apply Fin.ext
    match a with
    | ⟨0, _⟩ => show win0_8.index t 0 * 768 + 1 * (y' 0).val = t.val % 11 * 768 + (y' 0).val; rw [i0]; omega
    | ⟨1, _⟩ => show win0_8.index t 1 * 128 + 1 * (y' 1).val = t.val / 11 * 128 + (y' 1).val; rw [i1]; omega
  have g : (arr8 d) (ix2 (⟨t.val % 11 * 768 + (y' 0).val, by omega⟩ : Fin 8448) (⟨t.val / 11 * 128 + (y' 1).val, by omega⟩ : Fin 1024)) = o.1 y' := by
    refine Eq.trans ?_ ((L.q (y' 0) (y' 1)).symm.trans (congrArg o.1 (eq_ix2 y').symm))
    show ((outQ d (t.val % 11 * 768 + (y' 0).val) (t.val / 11 * 128 + (y' 1).val) : ℝ) : EReal) = _
    unfold outQ
    rw [show (t.val / 11 * 128 + (y' 1).val) / 128 = t.val / 11 by omega, show (t.val / 11 * 128 + (y' 1).val) % 128 = (y' 1).val by omega, sum_causal _ _ _ _ _ (by omega) h0]
  exact (congrArg (arr8 d) e |>.trans g).symm

theorem final8 : (dats m 0 c).arrAt 8 cfg0.N = (arr8 d : Buf (Elt Ideal) ((c.tc : Thread nD τ).loc main_v123_0)) :=
  (dats m 0 c).arrAt_eq_of_cover 8 _ (flushed8 m c H) fun (i : S8448x1024.Idx) => by
    have h0 : (i 0).val < 8448 := (i 0).isLt
    have h1 : (i 1).val < 1024 := (i 1).isLt
    have hN : (i 1).val / 128 * 11 + (i 0).val / 768 < cfg0.N := by rw [show cfg0.N = 88 from N_0]; omega
    generalize ht : (⟨(i 1).val / 128 * 11 + (i 0).val / 768, hN⟩ : Fin cfg0.N) = t
    have hv : t.val = (i 1).val / 128 * 11 + (i 0).val / 768 := by rw [← ht]
    obtain ⟨i0, i1⟩ := index8 t
    refine ⟨t, flush0_8 t, ?_⟩
    show i ∈ ((View.whole main_v123_0).slice (win0_8.rect t)).set
    rw [View.set_slice_whole, Rect.mem_set_unit]
    intro a
    match a with
    | ⟨0, _⟩ =>
      show win0_8.index t 0 * 768 ≤ (i 0).val ∧ (i 0).val < win0_8.index t 0 * 768 + 768
      rw [i0]; omega
    | ⟨1, _⟩ =>
      show win0_8.index t 1 * 128 ≤ (i 1).val ∧ (i 1).val < win0_8.index t 1 * 128 + 128
      rw [i1]; omega

theorem flushed9 (t : Fin cfg0.N) (hf : (cfg0.win 9).flush t = true) :
    (dats m 0 c).flushed 9 t = ((cfg0.win 9).blk t).view.read (Elt Ideal) (arr9 d : Buf (Elt Ideal) ((c.tc : Thread nD τ).loc main_v123_1)) := by
  have ht : t.val < 88 := t.isLt.trans_eq N_0
  replace hf := (flush0_9 t).1 hf
  show (cfg0.win 9).cut (grid0.coords t) ((dats m 0 c).after 9 t) = _
  rw [after0_9]
  have L := left_at m c H t.val t rfl
  generalize outsAt0 m c t.val t.isLt = o at L ⊢
  obtain ⟨i0, i1⟩ := index9 t
  funext y
  rw [View.read_apply]
  let y' : S8448x128.Idx := y
  have h0 : (y' 0).val < 8448 := (y' 0).isLt
  have h1 : (y' 1).val < 128 := (y' 1).isLt
  show o.2.1 y' = (arr9 d) _
  have e : ((cfg0.win 9).blk t).view.emb y = (ix2 (⟨0 + (y' 0).val, by omega⟩ : Fin 8448) (⟨t.val / 11 * 128 + (y' 1).val, by omega⟩ : Fin 1024) : S8448x1024.Idx) := by
    funext a
    apply Fin.ext
    match a with
    | ⟨0, _⟩ => show win0_9.index t 0 * 8448 + 1 * (y' 0).val = 0 + (y' 0).val; rw [i0]; omega
    | ⟨1, _⟩ => show win0_9.index t 1 * 128 + 1 * (y' 1).val = t.val / 11 * 128 + (y' 1).val; rw [i1]; omega
  have g : (arr9 d) (ix2 (⟨0 + (y' 0).val, by omega⟩ : Fin 8448) (⟨t.val / 11 * 128 + (y' 1).val, by omega⟩ : Fin 1024)) = o.2.1 y' := by
    refine Eq.trans ?_ ((L.k (y' 0) (y' 1)).symm.trans (congrArg o.2.1 (eq_ix2 y').symm))
    show ((outK d (0 + (y' 0).val) (t.val / 11 * 128 + (y' 1).val) : ℝ) : EReal) = _
    unfold outK
    rw [show (t.val / 11 * 128 + (y' 1).val) / 128 = t.val / 11 by omega, show (t.val / 11 * 128 + (y' 1).val) % 128 = (y' 1).val by omega, hf, Nat.zero_add]
  exact (congrArg (arr9 d) e |>.trans g).symm

theorem final9 : (dats m 0 c).arrAt 9 cfg0.N = (arr9 d : Buf (Elt Ideal) ((c.tc : Thread nD τ).loc main_v123_1)) :=
  (dats m 0 c).arrAt_eq_of_cover 9 _ (flushed9 m c H) fun (i : S8448x1024.Idx) => by
    have h0 : (i 0).val < 8448 := (i 0).isLt
    have h1 : (i 1).val < 1024 := (i 1).isLt
    have hN : (i 1).val / 128 * 11 + 10 < cfg0.N := by rw [show cfg0.N = 88 from N_0]; omega
    generalize ht : (⟨(i 1).val / 128 * 11 + 10, hN⟩ : Fin cfg0.N) = t
    have hv : t.val = (i 1).val / 128 * 11 + 10 := by rw [← ht]
    obtain ⟨i0, i1⟩ := index9 t
    refine ⟨t, (flush0_9 t).2 (by omega), ?_⟩
    show i ∈ ((View.whole main_v123_1).slice (win0_9.rect t)).set
    rw [View.set_slice_whole, Rect.mem_set_unit]
    intro a
    match a with
    | ⟨0, _⟩ =>
      show win0_9.index t 0 * 8448 ≤ (i 0).val ∧ (i 0).val < win0_9.index t 0 * 8448 + 8448
      rw [i0]; omega
    | ⟨1, _⟩ =>
      show win0_9.index t 1 * 128 ≤ (i 1).val ∧ (i 1).val < win0_9.index t 1 * 128 + 128
      rw [i1]; omega

theorem flushed10 (t : Fin cfg0.N) (hf : (cfg0.win 10).flush t = true) :
    (dats m 0 c).flushed 10 t = ((cfg0.win 10).blk t).view.read (Elt Ideal) (arr10 d : Buf (Elt Ideal) ((c.tc : Thread nD τ).loc main_v123_2)) := by
  have ht : t.val < 88 := t.isLt.trans_eq N_0
  replace hf := (flush0_10 t).1 hf
  show (cfg0.win 10).cut (grid0.coords t) ((dats m 0 c).after 10 t) = _
  rw [after0_10]
  have L := left_at m c H t.val t rfl
  generalize outsAt0 m c t.val t.isLt = o at L ⊢
  obtain ⟨i0, i1⟩ := index10 t
  funext y
  rw [View.read_apply]
  let y' : S8448x128.Idx := y
  have h0 : (y' 0).val < 8448 := (y' 0).isLt
  have h1 : (y' 1).val < 128 := (y' 1).isLt
  show o.2.2.1 y' = (arr10 d) _
  have e : ((cfg0.win 10).blk t).view.emb y = (ix2 (⟨0 + (y' 0).val, by omega⟩ : Fin 8448) (⟨t.val / 11 * 128 + (y' 1).val, by omega⟩ : Fin 1024) : S8448x1024.Idx) := by
    funext a
    apply Fin.ext
    match a with
    | ⟨0, _⟩ => show win0_10.index t 0 * 8448 + 1 * (y' 0).val = 0 + (y' 0).val; rw [i0]; omega
    | ⟨1, _⟩ => show win0_10.index t 1 * 128 + 1 * (y' 1).val = t.val / 11 * 128 + (y' 1).val; rw [i1]; omega
  have g : (arr10 d) (ix2 (⟨0 + (y' 0).val, by omega⟩ : Fin 8448) (⟨t.val / 11 * 128 + (y' 1).val, by omega⟩ : Fin 1024)) = o.2.2.1 y' := by
    refine Eq.trans ?_ ((L.v (y' 0) (y' 1)).symm.trans (congrArg o.2.2.1 (eq_ix2 y').symm))
    show ((outV d (0 + (y' 0).val) (t.val / 11 * 128 + (y' 1).val) : ℝ) : EReal) = _
    unfold outV
    rw [show (t.val / 11 * 128 + (y' 1).val) / 128 = t.val / 11 by omega, show (t.val / 11 * 128 + (y' 1).val) % 128 = (y' 1).val by omega, hf, Nat.zero_add]
  exact (congrArg (arr10 d) e |>.trans g).symm

theorem final10 : (dats m 0 c).arrAt 10 cfg0.N = (arr10 d : Buf (Elt Ideal) ((c.tc : Thread nD τ).loc main_v123_2)) :=
  (dats m 0 c).arrAt_eq_of_cover 10 _ (flushed10 m c H) fun (i : S8448x1024.Idx) => by
    have h0 : (i 0).val < 8448 := (i 0).isLt
    have h1 : (i 1).val < 1024 := (i 1).isLt
    have hN : (i 1).val / 128 * 11 + 10 < cfg0.N := by rw [show cfg0.N = 88 from N_0]; omega
    generalize ht : (⟨(i 1).val / 128 * 11 + 10, hN⟩ : Fin cfg0.N) = t
    have hv : t.val = (i 1).val / 128 * 11 + 10 := by rw [← ht]
    obtain ⟨i0, i1⟩ := index10 t
    refine ⟨t, (flush0_10 t).2 (by omega), ?_⟩
    show i ∈ ((View.whole main_v123_2).slice (win0_10.rect t)).set
    rw [View.set_slice_whole, Rect.mem_set_unit]
    intro a
    match a with
    | ⟨0, _⟩ =>
      show win0_10.index t 0 * 8448 ≤ (i 0).val ∧ (i 0).val < win0_10.index t 0 * 8448 + 8448
      rw [i0]; omega
    | ⟨1, _⟩ =>
      show win0_10.index t 1 * 128 ≤ (i 1).val ∧ (i 1).val < win0_10.index t 1 * 128 + 128
      rw [i1]; omega

theorem flushed11 (t : Fin cfg0.N) (hf : (cfg0.win 11).flush t = true) :
    (dats m 0 c).flushed 11 t = ((cfg0.win 11).blk t).view.read (Elt Ideal) (arr11 d : Buf (Elt Ideal) ((c.tc : Thread nD τ).loc main_v123_3)) := by
  have ht : t.val < 88 := t.isLt.trans_eq N_0
  replace hf := (flush0_11 t).1 hf
  show (cfg0.win 11).cut (grid0.coords t) ((dats m 0 c).after 11 t) = _
  rw [after0_11]
  have L := left_at m c H t.val t rfl
  generalize outsAt0 m c t.val t.isLt = o at L ⊢
  obtain ⟨i0, i1, i2⟩ := index11 t
  funext y
  rw [View.read_apply]
  let y' : S1x8x8448.Idx := y
  have h0 : (y' 0).val < 1 := (y' 0).isLt
  have h1 : (y' 1).val < 8 := (y' 1).isLt
  have h2 : (y' 2).val < 8448 := (y' 2).isLt
  show o.2.2.2 y' = (arr11 d) _
  have e : ((cfg0.win 11).blk t).view.emb y = (ix3 (⟨t.val / 11, by omega⟩ : Fin 8) (⟨(y' 1).val, h1⟩ : Fin 8) (⟨(y' 2).val, h2⟩ : Fin 8448) : S8x8x8448.Idx) := by
    funext a
    apply Fin.ext
    match a with
    | ⟨0, _⟩ => show win0_11.index t 0 * 1 + 1 * (y' 0).val = t.val / 11; rw [i0]; omega
    | ⟨1, _⟩ => show win0_11.index t 1 * 8 + 1 * (y' 1).val = (y' 1).val; rw [i1]; omega
    | ⟨2, _⟩ => show win0_11.index t 2 * 8448 + 1 * (y' 2).val = (y' 2).val; rw [i2]; omega
  have g : (arr11 d) (ix3 (⟨t.val / 11, by omega⟩ : Fin 8) (⟨(y' 1).val, h1⟩ : Fin 8) (⟨(y' 2).val, h2⟩ : Fin 8448)) = o.2.2.2 y' := by
    have ey : ix3 (0 : Fin 1) (y' 1 : Fin 8) (y' 2 : Fin 8448) = y' := by
      have e0 : (0 : Fin 1) = (y' 0 : Fin 1) := Fin.ext (by show 0 = (y' 0).val; omega)
      rw [e0]
      exact (eq_ix3 y').symm
    refine Eq.trans ?_ ((L.c (y' 1) (y' 2)).symm.trans (congrArg o.2.2.2 ey))
    show ((outC d (t.val / 11) (y' 1).val (y' 2).val : ℝ) : EReal) = _
    unfold outC
    rw [hf]
  exact (congrArg (arr11 d) e |>.trans g).symm

theorem final11 : (dats m 0 c).arrAt 11 cfg0.N = (arr11 d : Buf (Elt Ideal) ((c.tc : Thread nD τ).loc main_v123_3)) :=
  (dats m 0 c).arrAt_eq_of_cover 11 _ (flushed11 m c H) fun (i : S8x8x8448.Idx) => by
    have h0 : (i 0).val < 8 := (i 0).isLt
    have h1 : (i 1).val < 8 := (i 1).isLt
    have h2 : (i 2).val < 8448 := (i 2).isLt
    have hN : (i 0).val * 11 + 10 < cfg0.N := by rw [show cfg0.N = 88 from N_0]; omega
    generalize ht : (⟨(i 0).val * 11 + 10, hN⟩ : Fin cfg0.N) = t
    have hv : t.val = (i 0).val * 11 + 10 := by rw [← ht]
    obtain ⟨i0, i1, i2⟩ := index11 t
    refine ⟨t, (flush0_11 t).2 (by omega), ?_⟩
    show i ∈ ((View.whole main_v123_3).slice (win0_11.rect t)).set
    rw [View.set_slice_whole, Rect.mem_set_unit]
    intro a
    match a with
    | ⟨0, _⟩ =>
      show win0_11.index t 0 * 1 ≤ (i 0).val ∧ (i 0).val < win0_11.index t 0 * 1 + 1
      rw [i0]; omega
    | ⟨1, _⟩ =>
      show win0_11.index t 1 * 8 ≤ (i 1).val ∧ (i 1).val < win0_11.index t 1 * 8 + 8
      rw [i1]; omega
    | ⟨2, _⟩ =>
      show win0_11.index t 2 * 8448 ≤ (i 2).val ∧ (i 2).val < win0_11.index t 2 * 8448 + 8448
      rw [i2]; omega
-- ==== Proof.Fwd.lean ====
/-
  The forward pass's numbers over the extended reals: the shifted exponentials, their row sums, the weights, the
  outputs, the scaled cotangents and their products with the outputs.
-/
module
public import proofs.«01_k».proof.Proof.Logits

set_option maxRecDepth 8192
@[expose] public noncomputable section
namespace Cert.KernelIdeal.Bwd
open Gen Cert.Bwd
open Idealize.ShloMosaic TcCoe Idealize.SL.Sem

section
variable (x0 x1 x2 : FVec Ideal S8208x1024 .f32) (x3 : FVec Ideal S8208x16 .f32) (x4 : FVec Ideal S8208x1024 .f32)

/-- A number per row and head, repeated along a last axis. -/
def along (y : FVec Ideal S16x8208 .f32) : FVec Ideal S16x8208x1 .f32 := broadcastInDim S16x8208x1 ![0, 1] bcast_S16x8208_S16x8208x1_0_1 y

/-- The shifted exponentials, their row sums, the weights, the outputs. -/
def expo : FVec Ideal S16x8208x8208 .f32 :=
  Host.exp (subf (logits x0 x1 x3) (broadcastInDim S16x8208x8208 ![0, 1, 2] bcast_S16x8208x1_S16x8208x8208_0_1_2 (along (rowMax x0 x1 x3))))

def sums : FVec Ideal S16x8208 .f32 :=
  Host.reduceAdd (expo x0 x1 x3) (constant S_ .f32 0x00000000#32) reducesTo_S16x8208x8208_S16x8208_d2 h_S_

def wts : FVec Ideal S16x8208x8208 .f32 :=
  Host.divf (expo x0 x1 x3) (broadcastInDim S16x8208x8208 ![0, 1, 2] bcast_S16x8208x1_S16x8208x8208_0_1_2 (along (sums x0 x1 x3)))

def outs : FVec Ideal S16x8208x64 .f32 :=
  Host.dotGeneral dot_S16x8208x8208_S16x8208x64_S16x8208x64_2_1_1_2_0_0 none (wts x0 x1 x3) (heads x2)

/-- The cotangents over the row sums, and their products with the outputs. -/
def dos : FVec Ideal S16x8208x64 .f32 :=
  mulf (heads x4) (broadcastInDim S16x8208x64 ![0, 1, 2] bcast_S16x8208x1_S16x8208x64_0_1_2
    (Host.divf (broadcastInDim S16x8208x1 ![] bcast_S_S16x8208x1 (constant S_ .f32 0x3F800000#32)) (along (sums x0 x1 x3))))

def delta : FVec Ideal S16x8208 .f32 :=
  Host.reduceAdd (mulf (dos x0 x1 x3 x4) (outs x0 x1 x2 x3)) (constant S_ .f32 0x00000000#32) reducesTo_S16x8208x64_S16x8208_d2 h_S_

end

/-- A quotient of reals with a divisor that is not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem expo_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r s : Fin 8208) :
    expo x0 x1 x3 (ix3 h r s) = ((a.e M h.val r.val s.val : ℝ) : EReal) := by
  pointwise [expo, along]
  rw [logits_at H, hM]
  unfold Real5.e
  split
  · rfl
  · rfl

theorem sums_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r : Fin 8208) :
    sums x0 x1 x3 (ix2 h r) = ((a.l M h.val r.val : ℝ) : EReal) := by
  pointwise [sums]
  simp only [expo_at H hM, coe_sum_univ, lit_zero, ← EReal.coe_add, zero_add]
  simp only [Real5.l, Finset.sum_range]

theorem wts_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r s : Fin 8208) :
    wts x0 x1 x3 (ix3 h r s) = ((a.e M h.val r.val s.val / a.l M h.val r.val : ℝ) : EReal) := by
  pointwise [wts, along]
  rw [expo_at H hM, sums_at H hM]
  exact div_coe _ _ (a.l_pos M h.val r.val r.isLt).ne'

theorem outs_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r : Fin 8208) (d : Fin 64) :
    outs x0 x1 x2 x3 (ix3 h r d) = ((∑ s ∈ Finset.range 8208, a.e M h.val r.val s / a.l M h.val r.val * a.v s (h.val * 64 + d.val) : ℝ) : EReal) := by
  pointwise [outs]
  simp only [wts_at H hM, heads_at x2 a.v H.v, ← EReal.coe_mul, coe_sum_univ, Finset.sum_range]

theorem dos_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r : Fin 8208) (d : Fin 64) :
    dos x0 x1 x3 x4 (ix3 h r d) = ((a.ct r.val (h.val * 64 + d.val) * (1 / a.l M h.val r.val) : ℝ) : EReal) := by
  pointwise [dos, along]
  rw [heads_at x4 a.ct H.ct, sums_at H hM, ← EReal.coe_one]
  rw [EReal.coe_mul, ← div_coe _ _ (a.l_pos M h.val r.val r.isLt).ne']

theorem delta_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r : Fin 8208) :
    delta x0 x1 x2 x3 x4 (ix2 h r) = ((∑ d ∈ Finset.range 64, a.ct r.val (h.val * 64 + d) * (1 / a.l M h.val r.val)
      * ∑ s ∈ Finset.range 8208, a.e M h.val r.val s / a.l M h.val r.val * a.v s (h.val * 64 + d) : ℝ) : EReal) := by
  pointwise [delta]
  simp only [dos_at H hM, outs_at H hM, coe_sum_univ, lit_zero, ← EReal.coe_add, ← EReal.coe_mul, zero_add]
  simp only [Finset.sum_range (n := 64)]
-- ==== Proof.Prep.lean ====
/-
  The arrays the call is given: what the host code makes of the five arguments, as real numbers.
-/
module
public import proofs.«01_k».proof.Proof.Fwd
public import proofs.«01_k».proof.Proof.Points

set_option maxRecDepth 8192
@[expose] public noncomputable section
namespace Cert.KernelIdeal.Bwd
open Gen Cert.Bwd
open Idealize.ShloMosaic TcCoe Idealize.SL.Sem

/-- The natural logarithm of two and its reciprocal, the change of base. -/
def ln2 : FVec Ideal S_ .f32 := Host.log (constant S_ .f32 0x40000000#32)
def log2e : FVec Ideal S_ .f32 := Host.divf (constant S_ .f32 0x3F800000#32) ln2
def zero : FVec Ideal S_ .f32 := sitofp .f32 (constantI S_ 32 0#32)

/-- An array with the padding rows in front. -/
def padRows (x : FVec Ideal S8208x1024 .f32) : FVec Ideal S8448x1024 .f32 :=
  pad S8448x1024 ![240, 0] ![0, 0] ![0, 0] x zero pads_S8208x1024_S8448x1024_24000_000 h_S_

/-- A number per head and row, repeated over the head's lanes. -/
def lanes (y : FVec Ideal S16x8208x1 .f32) : FVec Ideal S8208x1024 .f32 :=
  shapeCast S8208x1024 (transpose S8208x16x64 [1, 0, 2] (broadcastInDim S16x8208x64 ![0, 1, 2] bcast_S16x8208x1_S16x8208x64_0_1_2 y)
    transposes_S16x8208x64_S8208x16x64_1_0_2) shapeCasts_S8208x16x64_S8208x1024

section
variable (x0 x1 x2 : FVec Ideal S8208x1024 .f32) (x3 : FVec Ideal S8208x16 .f32) (x4 : FVec Ideal S8208x1024 .f32)

def arrQ : FVec Ideal S8448x1024 .bf16 :=
  truncf .bf16 (padRows (mulf x0 (broadcastInDim S8208x1024 ![] bcast_S_S8208x1024 (mulf (constant S_ .f32 0x3E000000#32) log2e)))) bitsLt_bf16_f32

def arrV : FVec Ideal S8448x1024 .bf16 := truncf .bf16 (padRows x2) bitsLt_bf16_f32

def arrDo : FVec Ideal S8448x1024 .bf16 :=
  truncf .bf16 (padRows (shapeCast S8208x1024 (transpose S8208x16x64 [1, 0, 2] (dos x0 x1 x3 x4) transposes_S16x8208x64_S8208x16x64_1_0_2)
    shapeCasts_S8208x16x64_S8208x1024)) bitsLt_bf16_f32

def arrM : FVec Ideal S8448x1024 .f32 :=
  padRows (mulf (lanes (along (rowMax x0 x1 x3))) (broadcastInDim S8208x1024 ![] bcast_S_S8208x1024 log2e))

def arrDl : FVec Ideal S8448x1024 .f32 := padRows (lanes (along (delta x0 x1 x2 x3 x4)))

def arrC : FVec Ideal S8448x128 .f32 :=
  pad S8448x128 ![240, 0] ![0, 112] ![0, 0] (mulf x3 (broadcastInDim S8208x16 ![] bcast_S_S8208x16 log2e)) zero pads_S8208x16_S8448x128_24000_01120 h_S_

end

/-- The change of base as a real number. -/
def lam : ℝ := 1 / Real.log 2

theorem log_two_pos : 0 < Real.log 2 := Real.log_pos (by norm_num)

theorem ln2_at (i : S_.Idx) : ln2 i = ((Real.log 2 : ℝ) : EReal) := by
  have : ln2 i = Ideal.log (Ideal.ofBits FTy.f32 1073741824#32) := rfl
  rw [this, lit_two]
  exact if_neg (by norm_num)

theorem log2e_at (i : S_.Idx) : log2e i = ((lam : ℝ) : EReal) := by
  have : log2e i = Ideal.div (Ideal.ofBits FTy.f32 1065353216#32) (ln2 i) := rfl
  rw [this, ln2_at, lit_one, div_coe _ _ log_two_pos.ne']
  rfl

theorem zero_at (i : S_.Idx) : zero i = ((0 : ℝ) : EReal) := by
  show (((0#32 : BitVec 32).toInt : ℝ) : EReal) = _
  simp

/-- Over the extended reals a rounding is the identity. -/
theorem narrow_at {S : Shape} (x : FVec Ideal S .f32) (i : S.Idx) : (truncf .bf16 x bitsLt_bf16_f32 : FVec Ideal S .bf16) i = x i := rfl

theorem padRows_at (x : FVec Ideal S8208x1024 .f32) (f : ℕ → ℕ → ℝ) (hx : ∀ (r : Fin 8208) (j : Fin 1024), x (ix2 r j) = ((f r.val j.val : ℝ) : EReal))
    (r : Fin 8448) (j : Fin 1024) : padRows x (ix2 r j) = (((if r.val < 240 then 0 else f (r.val - 240) j.val) : ℝ) : EReal) := by
  pointwise [padRows]
  by_cases hr : r.val < 240
  · rw [dif_neg (by omega), if_pos hr, zero_at]
  · rw [dif_pos (by omega), if_neg hr, hx]

theorem lanes_at (y : FVec Ideal S16x8208 .f32) (f : ℕ → ℕ → ℝ) (hy : ∀ (h : Fin 16) (r : Fin 8208), y (ix2 h r) = ((f h.val r.val : ℝ) : EReal))
    (r : Fin 8208) (j : Fin 1024) : lanes (along y) (ix2 r j) = ((f (j.val / 64) r.val : ℝ) : EReal) := by
  pointwise [lanes, along]
  rw [hy]

theorem arrC_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (l : Fin 128) :
    arrC x3 (ix2 r l) = (((if r.val < 240 ∨ 16 ≤ l.val then 0 else a.g (r.val - 240) l.val * lam) : ℝ) : EReal) := by
  pointwise [arrC]
  by_cases hr : r.val < 240 ∨ 16 ≤ l.val
  · rw [dif_neg (by omega), if_pos hr, zero_at]
  · rw [dif_pos (by omega), if_neg hr, H.g, log2e_at, ← EReal.coe_mul]

theorem arrQ_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (j : Fin 1024) :
    arrQ x0 (ix2 r j) = (((if r.val < 240 then 0 else a.q (r.val - 240) j.val * (1 / 8 * lam)) : ℝ) : EReal) := by
  unfold arrQ
  rw [narrow_at]
  refine padRows_at _ (fun r j => a.q r j * (1 / 8 * lam)) (fun r j => ?_) r j
  pointwise []
  rw [H.q, log2e_at, lit_eighth, ← EReal.coe_mul, ← EReal.coe_mul]

theorem arrV_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (j : Fin 1024) :
    arrV x2 (ix2 r j) = (((if r.val < 240 then 0 else a.v (r.val - 240) j.val) : ℝ) : EReal) := by
  unfold arrV
  rw [narrow_at]
  exact padRows_at _ a.v H.v r j

theorem arrDo_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (j : Fin 1024) :
    arrDo x0 x1 x3 x4 (ix2 r j) = (((if r.val < 240 then 0 else a.ct (r.val - 240) j.val * (1 / a.l M (j.val / 64) (r.val - 240))) : ℝ) : EReal) := by
  unfold arrDo
  rw [narrow_at]
  refine padRows_at _ (fun r j => a.ct r j * (1 / a.l M (j / 64) r)) (fun r j => ?_) r j
  pointwise []
  rw [dos_at H hM]
  rw [show j.val / 64 * 64 + j.val % 64 = j.val by omega]

theorem times_at {S : Shape} (x y : FVec Ideal S .f32) (i : S.Idx) : mulf x y i = x i * y i := rfl

theorem base_at (r : Fin 8208) (j : Fin 1024) :
    (broadcastInDim S8208x1024 ![] bcast_S_S8208x1024 log2e : FVec Ideal S8208x1024 .f32) (ix2 r j) = ((lam : ℝ) : EReal) := by
  pointwise []
  exact log2e_at _

theorem arrM_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (j : Fin 1024) :
    arrM x0 x1 x3 (ix2 r j) = (((if r.val < 240 then 0 else M (j.val / 64) (r.val - 240) * lam) : ℝ) : EReal) := by
  unfold arrM
  refine padRows_at _ (fun r j => M (j / 64) r * lam) (fun r j => ?_) r j
  have e := lanes_at (rowMax x0 x1 x3) M hM r j
  rw [times_at, e, base_at, ← EReal.coe_mul]

/-- A row's cotangent times its output, the sum over the head's lanes. -/
def dlt (a : Real5) (M : ℕ → ℕ → ℝ) (h r : ℕ) : ℝ := ∑ d ∈ Finset.range 64, a.ct r (h * 64 + d) * (1 / a.l M h r)
  * ∑ s ∈ Finset.range 8208, a.e M h r s / a.l M h r * a.v s (h * 64 + d)

theorem arrDl_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (j : Fin 1024) :
    arrDl x0 x1 x2 x3 x4 (ix2 r j) = (((if r.val < 240 then 0 else dlt a M (j.val / 64) (r.val - 240)) : ℝ) : EReal) := by
  unfold arrDl
  refine padRows_at _ (fun r j => dlt a M (j / 64) r) (fun r j => ?_) r j
  exact lanes_at (delta x0 x1 x2 x3 x4) (dlt a M) (fun h r => delta_at H hM h r) r j
-- ==== Proof.Keys.lean ====
/-
  The two key arrays the call is given: a pair's keys on one head's lanes, and on the first lanes of the other head the
  gate in three parts.
-/
module
public import proofs.«01_k».proof.Proof.Prep

set_option maxRecDepth 8192
@[expose] public noncomputable section
namespace Cert.KernelIdeal.Bwd
open Gen Cert.Bwd
open Idealize.ShloMosaic TcCoe Idealize.SL.Sem

section
variable (x1 : FVec Ideal S8208x1024 .f32) (x3 : FVec Ideal S8208x16 .f32)

/-- The lanes of a pair, by number; the padding rows. -/
def laneNo : Vec Ideal S1x1x128 .i32 := iotaInDim S1x1x128 32 2
def padRow : Vec Ideal S8448x1 .i1 := cmpi .slt (iotaInDim S8448x1 32 0) (broadcastInDim S8448x1 ![] bcast_S_S8448x1 (constantI S_ 32 240#32))

/-- The gate a key carries, by row, pair and head of the pair. -/
def gateCol : FVec Ideal S8448x8x2 .f32 :=
  shapeCast S8448x8x2 (select (broadcastInDim S8448x16 ![0, 1] bcast_S8448x1_S8448x16_0_1 padRow)
    (broadcastInDim S8448x16 ![] bcast_S_S8448x16 (constant S_ .f32 0xC61C4000#32))
    (Host.negf (extractStridedSlice S8448x16 ![0, 0] (arrC x3) slices_S8448x128_S8448x16_0_0))) shapeCasts_S8448x16_S8448x8x2

def col0 : FVec Ideal S8448x8x1 .f32 := extractStridedSlice S8448x8x1 ![0, 0, 0] (gateCol x3) slices_S8448x8x2_S8448x8x1_0_0_0
def col1 : FVec Ideal S8448x8x1 .f32 := extractStridedSlice S8448x8x1 ![0, 0, 1] (gateCol x3) slices_S8448x8x2_S8448x8x1_0_0_1

/-- A number rounded, what the rounding left, rounded, and what that left. -/
def hi (y : FVec Ideal S8448x8x1 .f32) : FVec Ideal S8448x8x1 .f32 := extf .f32 (truncf .bf16 y bitsLt_bf16_f32) bitsLt_bf16_f32
def mid (y : FVec Ideal S8448x8x1 .f32) : FVec Ideal S8448x8x1 .f32 := hi (subf y (hi y))
def lo (y : FVec Ideal S8448x8x1 .f32) : FVec Ideal S8448x8x1 .f32 := subf (subf y (hi y)) (mid y)

/-- One lane of every pair overwritten. -/
def put (n : BitVec 32) (y : FVec Ideal S8448x8x1 .f32) (b : FVec Ideal S8448x8x128 .f32) : FVec Ideal S8448x8x128 .f32 :=
  select (broadcastInDim S8448x8x128 ![0, 1, 2] bcast_S1x1x128_S8448x8x128_0_1_2 (cmpi .eq laneNo (broadcastInDim S1x1x128 ![] bcast_S_S1x1x128 (constantI S_ 32 n))))
    (broadcastInDim S8448x8x128 ![0, 1, 2] bcast_S8448x8x1_S8448x8x128_0_1_2 y) b

def lowLane : Vec Ideal S8448x8x128 .i1 :=
  broadcastInDim S8448x8x128 ![0, 1, 2] bcast_S1x1x128_S8448x8x128_0_1_2 (cmpi .slt laneNo (broadcastInDim S1x1x128 ![] bcast_S_S1x1x128 (constantI S_ 32 64#32)))

def noKey : FVec Ideal S8448x8x128 .f32 := broadcastInDim S8448x8x128 ![] bcast_S_S8448x8x128 (constant S_ .f32 0x00000000#32)

def pairs : FVec Ideal S8448x8x128 .f32 := shapeCast S8448x8x128 (padRows x1) shapeCasts_S8448x1024_S8448x8x128

def arrKa : FVec Ideal S8448x1024 .bf16 :=
  truncf .bf16 (shapeCast S8448x1024 (put 66#32 (lo (col0 x3)) (put 65#32 (mid (col0 x3)) (put 64#32 (hi (col0 x3)) (select lowLane (pairs x1) noKey))))
    shapeCasts_S8448x8x128_S8448x1024) bitsLt_bf16_f32

def arrKb : FVec Ideal S8448x1024 .bf16 :=
  truncf .bf16 (shapeCast S8448x1024 (put 2#32 (lo (col1 x3)) (put 1#32 (mid (col1 x3)) (put 0#32 (hi (col1 x3)) (select lowLane noKey (pairs x1)))))
    shapeCasts_S8448x8x128_S8448x1024) bitsLt_bf16_f32

end

theorem lit_far : Ideal.ofBits FTy.f32 3323740160#32 = ((-10000 : ℝ) : EReal) := by
  simp [Ideal.ofBits, Ideal.ieee, -EReal.coe_mul]; norm_num

/-- The gate of head `h` a key at row `r` carries. -/
def gateOf (a : Real5) (h r : ℕ) : ℝ := if r < 240 then -10000 else -(a.g (r - 240) h * lam)

theorem gateCol_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (p : Fin 8) (b : Fin 2) :
    gateCol x3 (ix3 r p b) = ((gateOf a (p.val * 2 + b.val) r.val : ℝ) : EReal) := by
  have hc := arrC_at H hM r ⟨p.val * 2 + b.val, by omega⟩
  pointwise [gateCol, padRow]
  rw [hc, lit_far]
  unfold gateOf
  by_cases hr : r.val < 240
  · rw [if_pos hr, (WordCmp.cmpi_slt_ofNat_eq_one_iff (w := 32) (a := r.val) (b := 240) (by omega) (by omega)).2 hr]; rfl
  · rw [if_neg hr, (WordCmp.cmpi_slt_ofNat_eq_zero_iff (w := 32) (a := r.val) (b := 240) (by omega) (by omega)).2 hr,
      if_neg (by rintro (h | h) <;> [exact hr h; exact absurd h (by simp only; omega)]), EReal.coe_neg]; rfl

theorem put_at (n : ℕ) (hn : n < 128) (y : FVec Ideal S8448x8x1 .f32) (b : FVec Ideal S8448x8x128 .f32) (r : Fin 8448) (p : Fin 8) (l : Fin 128) :
    put (BitVec.ofNat 32 n) y b (ix3 r p l) = if l.val = n then y (ix3 r p 0) else b (ix3 r p l) := by
  pointwise [put, laneNo]
  by_cases hl : l.val = n
  · rw [if_pos hl, (WordCmp.cmpi_eq_ofNat_eq_one_iff (w := 32) (a := l.val) (b := n) (by omega) (by omega)).2 hl]; rfl
  · rw [if_neg hl, (WordCmp.cmpi_eq_ofNat_eq_zero_iff (w := 32) (a := l.val) (b := n) (by omega) (by omega)).2 hl]; rfl

theorem lowLane_at (r : Fin 8448) (p : Fin 8) (l : Fin 128) : lowLane (ix3 r p l) = if l.val < 64 then 1#1 else 0#1 := by
  pointwise [lowLane, laneNo]
  by_cases hl : l.val < 64
  · rw [if_pos hl, (WordCmp.cmpi_slt_ofNat_eq_one_iff (w := 32) (a := l.val) (b := 64) (by omega) (by omega)).2 hl]
  · rw [if_neg hl, (WordCmp.cmpi_slt_ofNat_eq_zero_iff (w := 32) (a := l.val) (b := 64) (by omega) (by omega)).2 hl]

theorem pick_low (x y : FVec Ideal S8448x8x128 .f32) (r : Fin 8448) (p : Fin 8) (l : Fin 128) :
    select lowLane x y (ix3 r p l) = if l.val < 64 then x (ix3 r p l) else y (ix3 r p l) := by
  have e : select lowLane x y (ix3 r p l) = Scalar.select (lowLane (ix3 r p l)) (x (ix3 r p l)) (y (ix3 r p l)) := rfl
  rw [e, lowLane_at]
  split
  · rfl
  · rfl

theorem noKey_at (r : Fin 8448) (p : Fin 8) (l : Fin 128) : noKey (ix3 r p l) = ((0 : ℝ) : EReal) := by
  pointwise [noKey]
  exact EReal.coe_zero.symm

theorem hi_at (y : FVec Ideal S8448x8x1 .f32) (i : S8448x8x1.Idx) : hi y i = y i := rfl

theorem mid_at (y : FVec Ideal S8448x8x1 .f32) (g : ℝ) (i : S8448x8x1.Idx) (h : y i = ((g : ℝ) : EReal)) : mid y i = ((0 : ℝ) : EReal) := by
  have e : mid y i = y i - y i := rfl
  rw [e, h, ← EReal.coe_sub, sub_self]

theorem lo_at (y : FVec Ideal S8448x8x1 .f32) (g : ℝ) (i : S8448x8x1.Idx) (h : y i = ((g : ℝ) : EReal)) : lo y i = ((0 : ℝ) : EReal) := by
  have e : lo y i = (y i - y i) - mid y i := rfl
  rw [e, mid_at y g i h, h, ← EReal.coe_sub, ← EReal.coe_sub, sub_self, sub_self]

theorem col0_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (p : Fin 8) : col0 x3 (ix3 r p 0) = ((gateOf a (p.val * 2) r.val : ℝ) : EReal) := by
  have e := gateCol_at H hM r p 0
  pointwise [col0]
  exact e

theorem col1_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (p : Fin 8) : col1 x3 (ix3 r p 0) = ((gateOf a (p.val * 2 + 1) r.val : ℝ) : EReal) := by
  have e := gateCol_at H hM r p 1
  pointwise [col1]
  exact e

theorem pairs_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (p : Fin 8) (l : Fin 128) :
    pairs x1 (ix3 r p l) = (((if r.val < 240 then 0 else a.k (r.val - 240) (p.val * 128 + l.val)) : ℝ) : EReal) := by
  have e := padRows_at x1 a.k H.k r ⟨p.val * 128 + l.val, by omega⟩
  pointwise [pairs]
  exact e

theorem arrKa_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (j : Fin 1024) :
    arrKa x1 x3 (ix2 r j) = (((if j.val % 128 < 64 then (if r.val < 240 then 0 else a.k (r.val - 240) j.val)
      else if j.val % 128 = 64 then gateOf a (j.val / 128 * 2) r.val else 0) : ℝ) : EReal) := by
  pointwise [arrKa]
  rw [put_at 66 (by omega), put_at 65 (by omega), put_at 64 (by omega), pick_low, noKey_at, pairs_at H hM, hi_at, mid_at _ _ _ (col0_at H hM r _),
    lo_at _ _ _ (col0_at H hM r _), col0_at H hM]
  rw [show j.val / 128 * 128 + j.val % 128 = j.val by omega]
  simp only
  split_ifs <;> first | rfl | omega

theorem arrKb_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8448) (j : Fin 1024) :
    arrKb x1 x3 (ix2 r j) = (((if 64 ≤ j.val % 128 then (if r.val < 240 then 0 else a.k (r.val - 240) j.val)
      else if j.val % 128 = 0 then gateOf a (j.val / 128 * 2 + 1) r.val else 0) : ℝ) : EReal) := by
  pointwise [arrKb]
  rw [put_at 2 (by omega), put_at 1 (by omega), put_at 0 (by omega), pick_low, noKey_at, pairs_at H hM, hi_at, mid_at _ _ _ (col1_at H hM r _),
    lo_at _ _ _ (col1_at H hM r _), col1_at H hM]
  rw [show j.val / 128 * 128 + j.val % 128 = j.val by omega]
  simp only
  split_ifs <;> first | rfl | omega
-- ==== Proof.Entry.lean ====
/-
  What the buffers hold when the call begins: each array the call reads is the host code's function of the arguments.
-/
module
public import proofs.«01_k».proof.Proof.Keys
public import Idealize.ShloMosaic.Lib.StableHlo.RunRead

set_option maxRecDepth 8192
@[expose] public noncomputable section
namespace Cert.KernelIdeal.Bwd
open Gen Cert.Bwd
open Idealize.ShloMosaic TcCoe Idealize.SL.Sem StableHlo

variable (m : (ℓ : Loc nD τ sig) → Buf (Elt Ideal) ℓ) (c : Dev nD)

theorem read_v49 : (V m c main_v49 : FVec Ideal S8448x1024 .bf16) = arrQ (m ((c.tc : Thread nD τ).loc main_arg0)) := by
  show StableHlo.after _ _ (Proc.devRef .tc main_v49) = _
  after_reads_simp
  simp -implicitDefEqProofs only [TRef.toBuf, TRef.ofBuf, cast_cast, cast_eq]
  unfold arrQ padRows zero log2e ln2
  rfl

theorem read_v112 : (V m c main_v112 : FVec Ideal S8448x1024 .bf16) = arrDo (m ((c.tc : Thread nD τ).loc main_arg0)) (m ((c.tc : Thread nD τ).loc main_arg1)) (m ((c.tc : Thread nD τ).loc main_arg3)) (m ((c.tc : Thread nD τ).loc main_arg4)) := by
  show StableHlo.after _ _ (Proc.devRef .tc main_v112) = _
  after_reads_simp
  simp -implicitDefEqProofs only [TRef.toBuf, TRef.ofBuf, cast_cast, cast_eq]
  unfold arrDo padRows zero dos sums expo along rowMax logits causal scores gates heads
  rfl

theorem read_v118 : (V m c main_v118 : FVec Ideal S8448x1024 .f32) = arrM (m ((c.tc : Thread nD τ).loc main_arg0)) (m ((c.tc : Thread nD τ).loc main_arg1)) (m ((c.tc : Thread nD τ).loc main_arg3)) := by
  show StableHlo.after _ _ (Proc.devRef .tc main_v118) = _
  after_reads_simp
  simp -implicitDefEqProofs only [TRef.toBuf, TRef.ofBuf, cast_cast, cast_eq]
  unfold arrM padRows zero lanes along log2e ln2 rowMax logits causal scores gates heads
  rfl

theorem read_v122 : (V m c main_v122 : FVec Ideal S8448x1024 .f32) = arrDl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after _ _ (Proc.devRef .tc main_v122) = _
  after_reads_simp
  simp -implicitDefEqProofs only [TRef.toBuf, TRef.ofBuf, cast_cast, cast_eq]
  unfold arrDl padRows zero lanes delta dos outs wts sums expo along rowMax logits causal scores gates heads
  rfl

theorem read_v54 : (V m c main_v54 : FVec Ideal S8448x128 .f32) = arrC (m ((c.tc : Thread nD τ).loc main_arg3)) := by
  show StableHlo.after _ _ (Proc.devRef .tc main_v54) = _
  after_reads_simp
  simp -implicitDefEqProofs only [TRef.toBuf, TRef.ofBuf, cast_cast, cast_eq]
  unfold arrC zero log2e ln2
  rfl

theorem read_v104 : (V m c main_v104 : FVec Ideal S8448x1024 .bf16) = arrKa (m ((c.tc : Thread nD τ).loc main_arg1)) (m ((c.tc : Thread nD τ).loc main_arg3)) := by
  show StableHlo.after _ _ (Proc.devRef .tc main_v104) = _
  after_reads_simp
  simp -implicitDefEqProofs only [TRef.toBuf, TRef.ofBuf, cast_cast, cast_eq]
  unfold arrKa put lo mid hi col0 gateCol padRow arrC zero log2e ln2 lowLane pairs padRows noKey laneNo
  rfl

theorem read_v106 : (V m c main_v106 : FVec Ideal S8448x1024 .bf16) = arrKb (m ((c.tc : Thread nD τ).loc main_arg1)) (m ((c.tc : Thread nD τ).loc main_arg3)) := by
  show StableHlo.after _ _ (Proc.devRef .tc main_v106) = _
  after_reads_simp
  simp -implicitDefEqProofs only [TRef.toBuf, TRef.ofBuf, cast_cast, cast_eq]
  unfold arrKb put lo mid hi col1 gateCol padRow arrC zero log2e ln2 lowLane pairs padRows noKey laneNo
  rfl

theorem read_v108 : (V m c main_v108 : FVec Ideal S8448x1024 .bf16) = arrV (m ((c.tc : Thread nD τ).loc main_arg2)) := by
  show StableHlo.after _ _ (Proc.devRef .tc main_v108) = _
  after_reads_simp
  simp -implicitDefEqProofs only [TRef.toBuf, TRef.ofBuf, cast_cast, cast_eq]
  unfold arrV padRows zero
  rfl

theorem read_v0 : (V m c main_v0 : FVec Ideal S_ .f32) = ln2  := by
  show StableHlo.after _ _ (Proc.devRef .tc main_v0) = _
  after_reads_simp
  unfold ln2
  rfl
-- ==== Proof.Equation.lean ====
/-
  The equation over the real numbers: on the arrays the host code makes, the tiled sums are the plain step's.
-/
module
public import proofs.«01_k».proof.Proof.Keys
public import proofs.«01_k».proof.Proof.Final

@[expose] public noncomputable section
namespace Cert.KernelIdeal.Bwd
open Cert.Bwd

/-- The eight arrays as real numbers. -/
def arrsOf (a : Real5) (M : ℕ → ℕ → ℝ) : Arrs where
  Q r j := if r < 240 then 0 else a.q (r - 240) j * (1 / 8 * lam)
  Do r j := if r < 240 then 0 else a.ct (r - 240) j * (1 / a.l M (j / 64) (r - 240))
  M h r := if r < 240 then 0 else M h (r - 240) * lam
  Dl h r := if r < 240 then 0 else dlt a M h (r - 240)
  C r l := if r < 240 ∨ 16 ≤ l then 0 else a.g (r - 240) l * lam
  Ka r j := if j % 128 < 64 then (if r < 240 then 0 else a.k (r - 240) j) else if j % 128 = 64 then gateOf a (j / 128 * 2) r else 0
  Kb r j := if 64 ≤ j % 128 then (if r < 240 then 0 else a.k (r - 240) j) else if j % 128 = 0 then gateOf a (j / 128 * 2 + 1) r else 0
  Va r j := if r < 240 then 0 else a.v (r - 240) j

variable (a : Real5) (M : ℕ → ℕ → ℝ)

/-- A sum over the lanes of a pair is one over the first head's and one over the second's. -/
theorem halves (f : ℕ → ℝ) : ∑ l ∈ Finset.range 128, f l = (∑ l ∈ Finset.range 64, f l) + ∑ l ∈ Finset.range 64, f (64 + l) :=
  Finset.sum_range_add f 64 64

/-- A sum over the padded rows is one over the padding and one over the rows. -/
theorem padded (f : ℕ → ℝ) : ∑ l ∈ Finset.range 8448, f l = (∑ l ∈ Finset.range 240, f l) + ∑ l ∈ Finset.range 8208, f (240 + l) :=
  Finset.sum_range_add f 240 8208

theorem lam_mul : lam * Real.log 2 = 1 := by
  unfold lam
  have := log_two_pos.ne'
  field_simp

theorem two_pow (y : ℝ) : Real.rpow 2 (y * lam) = Real.exp y := by
  have e : Real.rpow 2 (y * lam) = (2 : ℝ) ^ (y * lam) := rfl
  rw [e, Real.rpow_def_of_pos (by norm_num)]
  congr 1
  have := lam_mul
  calc Real.log 2 * (y * lam) = y * (lam * Real.log 2) := by ring
    _ = y := by rw [this, mul_one]

/-- A pair's score in base two. -/
theorem score (p b r s : ℕ) (hp : p < 8) (hb : b < 2) :
    ∑ l ∈ Finset.range 128, ((arrsOf a M).pair p).qh b (240 + r) l * ((arrsOf a M).pair p).key b (240 + s) l
      = ((∑ l ∈ Finset.range 64, a.q r ((2 * p + b) * 64 + l) * a.k s ((2 * p + b) * 64 + l)) * (1 / 8) - a.g s (2 * p + b)) * lam := by
  have hr : ¬ 240 + r < 240 := by omega
  have hs : ¬ 240 + s < 240 := by omega
  rw [halves]
  obtain rfl | rfl : b = 0 ∨ b = 1 := by omega
  · have e1 : ∀ l ∈ Finset.range 64, ((arrsOf a M).pair p).qh 0 (240 + r) l * ((arrsOf a M).pair p).key 0 (240 + s) l
        = (a.q r ((2 * p + 0) * 64 + l) * a.k s ((2 * p + 0) * 64 + l)) * (1 / 8 * lam) := by
      intro l hl
      have hl : l < 64 := Finset.mem_range.1 hl
      simp only [Inp.qh, Inp.key, Arrs.pair, arrsOf, if_true]
      rw [if_pos hl, if_neg hr, if_neg hs, if_pos (by omega), show 240 + r - 240 = r by omega, show 240 + s - 240 = s by omega,
        show (2 * p + 0) * 64 + l = p * 128 + l by omega]
      ring
    have e2 : ∑ l ∈ Finset.range 64, ((arrsOf a M).pair p).qh 0 (240 + r) (64 + l) * ((arrsOf a M).pair p).key 0 (240 + s) (64 + l)
        = -(a.g s (2 * p + 0) * lam) := by
      rw [Finset.sum_eq_single 0]
      · simp only [Inp.qh, Inp.key, Arrs.pair, arrsOf, if_true]
        rw [if_neg (by omega), if_pos (by omega), if_neg (by omega), if_pos (by omega), one_mul]
        unfold gateOf
        rw [if_neg hs, show 240 + s - 240 = s by omega, show (p * 128 + (64 + 0)) / 128 * 2 = 2 * p + 0 by omega]
      · intro l hl h0
        have hl : l < 64 := Finset.mem_range.1 hl
        simp only [Inp.key, Arrs.pair, arrsOf, if_true]
        rw [if_neg (by omega), if_neg (by omega), mul_zero]
      · intro h; exact absurd (Finset.mem_range.2 (by norm_num)) h
    rw [Finset.sum_congr rfl e1, e2, ← Finset.sum_mul]
    ring
  · have e1 : ∀ l ∈ Finset.range 64, ((arrsOf a M).pair p).qh 1 (240 + r) (64 + l) * ((arrsOf a M).pair p).key 1 (240 + s) (64 + l)
        = (a.q r ((2 * p + 1) * 64 + l) * a.k s ((2 * p + 1) * 64 + l)) * (1 / 8 * lam) := by
      intro l hl
      have hl : l < 64 := Finset.mem_range.1 hl
      simp only [Inp.qh, Inp.key, Arrs.pair, arrsOf, one_ne_zero, if_false]
      rw [if_neg (by omega), if_neg hr, if_neg hs, if_pos (by omega), show 240 + r - 240 = r by omega, show 240 + s - 240 = s by omega,
        show (2 * p + 1) * 64 + l = p * 128 + (64 + l) by omega]
      ring
    have e2 : ∑ l ∈ Finset.range 64, ((arrsOf a M).pair p).qh 1 (240 + r) l * ((arrsOf a M).pair p).key 1 (240 + s) l
        = -(a.g s (2 * p + 1) * lam) := by
      rw [Finset.sum_eq_single 0]
      · simp only [Inp.qh, Inp.key, Arrs.pair, arrsOf, one_ne_zero, if_false]
        rw [if_pos (by omega), if_pos (by omega), if_neg (by omega), if_pos (by omega), one_mul]
        unfold gateOf
        rw [if_neg hs, show 240 + s - 240 = s by omega, show (p * 128 + 0) / 128 * 2 + 1 = 2 * p + 1 by omega]
      · intro l hl h0
        have hl : l < 64 := Finset.mem_range.1 hl
        simp only [Inp.key, Arrs.pair, arrsOf, one_ne_zero, if_false]
        rw [if_neg (by omega), if_neg (by omega), mul_zero]
      · intro h; exact absurd (Finset.mem_range.2 (by norm_num)) h
    rw [Finset.sum_congr rfl e1, e2, ← Finset.sum_mul]
    ring

/-- The weight of two rows is the plain step's shifted exponential. -/
theorem w_eq (p b r s : ℕ) (hp : p < 8) (hb : b < 2) :
    ((arrsOf a M).pair p).w b (240 + r) (240 + s) = a.e M (2 * p + b) r s := by
  unfold Real5.e
  by_cases hs : s ≤ r
  · rw [Inp.w_of_ok _ (by unfold Inp.ok; omega), if_pos hs, score a M p b r s hp hb, ← two_pow]
    congr 1
    simp only [Arrs.pair, arrsOf]
    rw [if_neg (by omega), if_neg (by omega), show 240 + r - 240 = r by omega]
    unfold Real5.x
    ring
  · rw [Inp.w_of_not _ (by unfold Inp.ok; omega), if_neg hs]

theorem doh_eq (p b r s : ℕ) (hp : p < 8) (hb : b < 2) :
    ∑ l ∈ Finset.range 128, ((arrsOf a M).pair p).doh b (240 + r) l * ((arrsOf a M).pair p).v (240 + s) l
      = a.dp (2 * p + b) r s * (1 / a.l M (2 * p + b) r) := by
  have hr : ¬ 240 + r < 240 := by omega
  have hs : ¬ 240 + s < 240 := by omega
  rw [halves]
  unfold Real5.dp
  rw [Finset.sum_mul]
  obtain rfl | rfl : b = 0 ∨ b = 1 := by omega
  · rw [show ∑ l ∈ Finset.range 64, ((arrsOf a M).pair p).doh 0 (240 + r) (64 + l) * ((arrsOf a M).pair p).v (240 + s) (64 + l) = 0 from
      Finset.sum_eq_zero fun l hl => by simp only [Inp.doh, if_true]; rw [if_neg (by omega), zero_mul], add_zero]
    refine Finset.sum_congr rfl fun l hl => ?_
    have hl : l < 64 := Finset.mem_range.1 hl
    simp only [Inp.doh, Arrs.pair, arrsOf, if_true]
    rw [if_pos hl, if_neg hr, if_neg hs, show 240 + r - 240 = r by omega, show 240 + s - 240 = s by omega,
      show (p * 128 + l) / 64 = 2 * p + 0 by omega, show (2 * p + 0) * 64 + l = p * 128 + l by omega]
    ring
  · rw [show ∑ l ∈ Finset.range 64, ((arrsOf a M).pair p).doh 1 (240 + r) l * ((arrsOf a M).pair p).v (240 + s) l = 0 from
      Finset.sum_eq_zero fun l hl => by
        have hl : l < 64 := Finset.mem_range.1 hl
        simp only [Inp.doh, one_ne_zero, if_false]; rw [if_pos hl, zero_mul], zero_add]
    refine Finset.sum_congr rfl fun l hl => ?_
    have hl : l < 64 := Finset.mem_range.1 hl
    simp only [Inp.doh, Arrs.pair, arrsOf, one_ne_zero, if_false]
    rw [if_neg (by omega), if_neg hr, if_neg hs, show 240 + r - 240 = r by omega, show 240 + s - 240 = s by omega,
      show (p * 128 + (64 + l)) / 64 = 2 * p + 1 by omega, show (2 * p + 1) * 64 + l = p * 128 + (64 + l) by omega]
    ring

/-- A row's cotangent times its output is the sum over the keys of the products with the values, weighted. -/
theorem dlt_eq (h r : ℕ) :
    dlt a M h r = ∑ t ∈ Finset.range 8208, a.dp h r t * (1 / (a.l M h r * a.l M h r)) * a.e M h r t := by
  unfold dlt Real5.dp
  simp only [Finset.mul_sum, Finset.sum_mul]
  rw [Finset.sum_comm]
  refine Finset.sum_congr rfl fun t _ => Finset.sum_congr rfl fun d _ => ?_
  rw [one_div, one_div, mul_inv, div_eq_mul_inv]
  ring

/-- The gradient of a pair's score is the plain step's. -/
theorem ds_eq (p b r s : ℕ) (hp : p < 8) (hb : b < 2) :
    ((arrsOf a M).pair p).ds b (240 + r) (240 + s) = a.gl M (2 * p + b) r s := by
  unfold Inp.ds
  rw [w_eq a M p b r s hp hb, doh_eq a M p b r s hp hb]
  have e : ((arrsOf a M).pair p).dl b (240 + r) = dlt a M (2 * p + b) r := by
    simp only [Arrs.pair, arrsOf]
    rw [if_neg (by omega), show 240 + r - 240 = r by omega]
  rw [e, dlt_eq]
  unfold Real5.gl
  split
  · rw [div_eq_mul_one_div]; ring
  · rename_i hs
    unfold Real5.e
    rw [if_neg hs, zero_mul]

section
variable (j : ℕ)

theorem hd_lt : Inp.hd (j % 128) < 2 := by unfold Inp.hd; split <;> omega

theorem head_of : 2 * (j / 128) + Inp.hd (j % 128) = j / 64 := by unfold Inp.hd; split <;> omega

end

/-- The tiled gradient of the queries, scaled. -/
theorem outQ_eq (r j : ℕ) (hj : j < 1024) : outQ (arrsOf a M) (240 + r) j * (1 / 8) = a.dq M r (j / 64) (j % 64) := by
  unfold outQ Real5.dq
  rw [padded]
  have key : ∀ s, ((arrsOf a M).pair (j / 128)).key (Inp.hd (j % 128)) s (j % 128) = if s < 240 then 0 else a.k (s - 240) j := by
    intro s
    unfold Inp.key Inp.hd
    by_cases hl : j % 128 < 64
    · simp only [if_pos hl, if_true, Arrs.pair, arrsOf]
      rw [if_pos (by omega), show j / 128 * 128 + j % 128 = j by omega]
    · simp only [if_neg hl, one_ne_zero, if_false, Arrs.pair, arrsOf]
      rw [if_pos (by omega), show j / 128 * 128 + j % 128 = j by omega]
  rw [show ∑ s ∈ Finset.range 240, ((arrsOf a M).pair (j / 128)).ds (Inp.hd (j % 128)) (240 + r) s * ((arrsOf a M).pair (j / 128)).key (Inp.hd (j % 128)) s (j % 128) = 0 from
    Finset.sum_eq_zero fun s hs => by rw [key, if_pos (Finset.mem_range.1 hs), mul_zero], zero_add, Finset.sum_mul]
  refine Finset.sum_congr rfl fun s _ => ?_
  rw [key, if_neg (by omega), show 240 + s - 240 = s by omega, ds_eq a M _ _ r s (by omega) (hd_lt j), head_of,
    show j / 64 * 64 + j % 64 = j by omega]
  ring

/-- The tiled gradient of the keys, scaled back from base two. -/
theorem outK_eq (s j : ℕ) (hj : j < 1024) : outK (arrsOf a M) (240 + s) j * Real.log 2 = a.dk M s (j / 64) (j % 64) := by
  unfold outK sumK Real5.dk
  rw [show 11 * 768 = 8448 from rfl, padded]
  have qv : ∀ r, ((arrsOf a M).pair (j / 128)).q r (j % 128) = if r < 240 then 0 else a.q (r - 240) j * (1 / 8 * lam) := by
    intro r
    simp only [Arrs.pair, arrsOf]
    rw [show j / 128 * 128 + j % 128 = j by omega]
  rw [show ∑ r ∈ Finset.range 240, ((arrsOf a M).pair (j / 128)).ds (Inp.hd (j % 128)) r (240 + s) * ((arrsOf a M).pair (j / 128)).q r (j % 128) = 0 from
    Finset.sum_eq_zero fun r hr => by rw [qv, if_pos (Finset.mem_range.1 hr), mul_zero], zero_add, Finset.sum_mul]
  refine Finset.sum_congr rfl fun r _ => ?_
  rw [qv, if_neg (by omega), show 240 + r - 240 = r by omega, ds_eq a M _ _ r s (by omega) (hd_lt j), head_of,
    show j / 64 * 64 + j % 64 = j by omega]
  calc a.gl M (j / 64) r s * (a.q r j * (1 / 8 * lam)) * Real.log 2 = a.gl M (j / 64) r s * (1 / 8) * a.q r j * (lam * Real.log 2) := by ring
    _ = _ := by rw [lam_mul, mul_one]

/-- The tiled gradient of the values. -/
theorem outV_eq (s j : ℕ) (hj : j < 1024) : outV (arrsOf a M) (240 + s) j = a.dv M s (j / 64) (j % 64) := by
  unfold outV sumV Real5.dv
  rw [show 11 * 768 = 8448 from rfl, padded]
  have dv : ∀ r, ((arrsOf a M).pair (j / 128)).dO r (j % 128) = if r < 240 then 0 else a.ct (r - 240) j * (1 / a.l M (j / 64) (r - 240)) := by
    intro r
    simp only [Arrs.pair, arrsOf]
    rw [show j / 128 * 128 + j % 128 = j by omega]
  rw [show ∑ r ∈ Finset.range 240, ((arrsOf a M).pair (j / 128)).w (Inp.hd (j % 128)) r (240 + s) * ((arrsOf a M).pair (j / 128)).dO r (j % 128) = 0 from
    Finset.sum_eq_zero fun r hr => by rw [dv, if_pos (Finset.mem_range.1 hr), mul_zero], zero_add]
  refine Finset.sum_congr rfl fun r _ => ?_
  rw [dv, if_neg (by omega), show 240 + r - 240 = r by omega, w_eq a M _ _ r s (by omega) (hd_lt j), head_of,
    show j / 64 * 64 + j % 64 = j by omega, div_eq_mul_one_div]
  ring

/-- The tiled gradient of the gate. -/
theorem outC_eq (p b s : ℕ) (hp : p < 8) (hb : b < 2) (hs : s < 8208) : outC (arrsOf a M) p b (240 + s) = a.dg M s (2 * p + b) := by
  unfold outC sumC
  rw [if_pos hb, a.dg_eq M s (2 * p + b) hs, show 11 * 768 = 8448 from rfl, padded]
  rw [show ∑ r ∈ Finset.range 240, ((arrsOf a M).pair p).ds b r (240 + s) = 0 from
    Finset.sum_eq_zero fun r hr => Inp.ds_of_not _ (by have := Finset.mem_range.1 hr; unfold Inp.ok; omega), zero_add]
  exact congrArg _ (Finset.sum_congr rfl fun r _ => ds_eq a M p b r s hp hb)
-- ==== Proof.Held.lean ====
/-
  When the call begins its eight arrays hold the real numbers of `arrsOf`.
-/
module
public import proofs.«01_k».proof.Proof.Entry
public import proofs.«01_k».proof.Proof.Equation

set_option maxRecDepth 8192
@[expose] public noncomputable section
namespace Cert.KernelIdeal.Bwd
open Gen Cert.Bwd
open Idealize.ShloMosaic TcCoe Idealize.SL.Sem

variable (m : (ℓ : Loc nD τ sig) → Buf (Elt Ideal) ℓ) (c : Dev nD)

theorem held {a : Real5} {M : ℕ → ℕ → ℝ}
    (H : Holds (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) a)
    (hM : ∀ (h : Fin 16) (r : Fin 8208), rowMax (m ((c.tc : Thread nD τ).loc main_arg0)) (m ((c.tc : Thread nD τ).loc main_arg1))
      (m ((c.tc : Thread nD τ).loc main_arg3)) (ix2 h r) = ((M h.val r.val : ℝ) : EReal)) : Held m c (arrsOf a M) where
  h0 r l := (congrFun (read_v49 m c) (ix2 r l)).trans (arrQ_at H hM r l)
  h1 r l := (congrFun (read_v112 m c) (ix2 r l)).trans (arrDo_at H hM r l)
  h2 r l := (congrFun (read_v118 m c) (ix2 r l)).trans (arrM_at H hM r l)
  h3 r l := (congrFun (read_v122 m c) (ix2 r l)).trans (arrDl_at H hM r l)
  h4 r l := (congrFun (read_v54 m c) (ix2 r l)).trans (arrC_at H hM r l)
  h5 r l := (congrFun (read_v104 m c) (ix2 r l)).trans (arrKa_at H hM r l)
  h6 r l := (congrFun (read_v106 m c) (ix2 r l)).trans (arrKb_at H hM r l)
  h7 r l := (congrFun (read_v108 m c) (ix2 r l)).trans (arrV_at H hM r l)
-- ==== Proof.Results.lean ====
/-
  The kernel's four results, an index at a time.
-/
module
public import proofs.«01_k».proof.Proof.Final
public import proofs.«01_k».proof.Proof.Held

set_option maxRecDepth 8192
@[expose] public noncomputable section
namespace Cert.KernelIdeal.Bwd
open Gen Cert.Bwd
open Idealize.ShloMosaic TcCoe Idealize.SL.Sem

/-- The host's last operations on an array `X` of the call. -/
def lastQ (X : FVec Ideal S8448x1024 .f32) : FVec Ideal S8208x1024 .f32 :=
  mulf (extractStridedSlice S8208x1024 ![240, 0] X slices_S8448x1024_S8208x1024_240_0) (broadcastInDim S8208x1024 ![] bcast_S_S8208x1024 (constant S_ .f32 0x3E000000#32))

def lastK (X : FVec Ideal S8448x1024 .f32) : FVec Ideal S8208x1024 .f32 :=
  mulf (extractStridedSlice S8208x1024 ![240, 0] X slices_S8448x1024_S8208x1024_240_0) (broadcastInDim S8208x1024 ![] bcast_S_S8208x1024 ln2)

def lastV (X : FVec Ideal S8448x1024 .f32) : FVec Ideal S8208x1024 .f32 :=
  extractStridedSlice S8208x1024 ![240, 0] X slices_S8448x1024_S8208x1024_240_0

def lastC (X : FVec Ideal S8x8x8448 .f32) : FVec Ideal S8208x16 .f32 :=
  transpose S8208x16 [1, 0] (shapeCast S16x8208 (extractStridedSlice S8x2x8208 ![0, 0, 240] X slices_S8x8x8448_S8x2x8208_0_0_240) shapeCasts_S8x2x8208_S16x8208)
    transposes_S16x8208_S8208x16_1_0

theorem lastQ_at (X : FVec Ideal S8448x1024 .f32) (f : ℕ → ℕ → ℝ) (hX : ∀ r j, X (ix2 r j) = ((f r.val j.val : ℝ) : EReal)) (r : Fin 8208) (j : Fin 1024) :
    lastQ X (ix2 r j) = ((f (240 + r.val) j.val * (1 / 8) : ℝ) : EReal) := by
  pointwise [lastQ]
  rw [hX, lit_eighth, ← EReal.coe_mul]

theorem lastK_at (X : FVec Ideal S8448x1024 .f32) (f : ℕ → ℕ → ℝ) (hX : ∀ r j, X (ix2 r j) = ((f r.val j.val : ℝ) : EReal)) (r : Fin 8208) (j : Fin 1024) :
    lastK X (ix2 r j) = ((f (240 + r.val) j.val * Real.log 2 : ℝ) : EReal) := by
  pointwise [lastK]
  rw [hX, ln2_at, ← EReal.coe_mul]

theorem lastV_at (X : FVec Ideal S8448x1024 .f32) (f : ℕ → ℕ → ℝ) (hX : ∀ r j, X (ix2 r j) = ((f r.val j.val : ℝ) : EReal)) (r : Fin 8208) (j : Fin 1024) :
    lastV X (ix2 r j) = ((f (240 + r.val) j.val : ℝ) : EReal) := by
  pointwise [lastV]
  rw [hX]

theorem lastC_at (X : FVec Ideal S8x8x8448 .f32) (f : ℕ → ℕ → ℕ → ℝ) (hX : ∀ p b s, X (ix3 p b s) = ((f p.val b.val s.val : ℝ) : EReal)) (s : Fin 8208) (h : Fin 16) :
    lastC X (ix2 s h) = ((f (h.val / 2) (h.val % 2) (240 + s.val) : ℝ) : EReal) := by
  pointwise [lastC]
  rw [hX]
-- ==== Proof.Plain.lean ====
/-
  What the reference computes: the gradient of the logits and its four results as the real numbers of the plain step.
-/
module
public import proofs.«01_k».proof.Proof.Fwd
public import proofs.«01_k».proof.Proof.Gen.ReferenceIdeal.Read

set_option maxRecDepth 8192
@[expose] public noncomputable section
namespace Cert.ReferenceIdeal.Plain
open Cert.ReferenceIdeal Cert.ReferenceIdeal.Read Cert.Bwd
open Cert.KernelIdeal.Bwd (Holds expo sums wts heads logits rowMax div_coe lit_zero lit_eighth lit_bot)
open Idealize.ShloMosaic TcCoe Idealize.SL.Sem

theorem logits_eq (x0 x1 : FVec Ideal S8208x1024 .f32) (x3 : FVec Ideal S8208x16 .f32) : val_main_v21_0 (F := Ideal) x0 x1 x3 = logits x0 x1 x3 := rfl

theorem rowMax_eq (x0 x1 : FVec Ideal S8208x1024 .f32) (x3 : FVec Ideal S8208x16 .f32) : val_main_v22 (F := Ideal) x0 x1 x3 = rowMax x0 x1 x3 := rfl

theorem heads_eq (x : FVec Ideal S8208x1024 .f32) : val_main_v2 (F := Ideal) x = heads x := rfl

theorem shift_eq (x0 x1 : FVec Ideal S8208x1024 .f32) (x3 : FVec Ideal S8208x16 .f32) : val_main_v29 (F := Ideal) x0 x1 x3 = rowMax x0 x1 x3 := by
  funext i
  rw [val_main_v29_apply, rowMax_eq]
  have : val_main_v28 (F := Ideal) i = (⊥ : EReal) := lit_bot
  rw [this]
  exact max_eq_right bot_le

theorem expo_eq (x0 x1 : FVec Ideal S8208x1024 .f32) (x3 : FVec Ideal S8208x16 .f32) : val_main_v42 (F := Ideal) x0 x1 x3 = expo x0 x1 x3 := by
  unfold val_main_v42 val_main_v41 val_main_v40 val_main_v39
  rw [shift_eq, logits_eq]
  rfl

theorem sums_eq (x0 x1 : FVec Ideal S8208x1024 .f32) (x3 : FVec Ideal S8208x16 .f32) : val_main_v43 (F := Ideal) x0 x1 x3 = sums x0 x1 x3 := by
  unfold val_main_v43
  rw [expo_eq]
  rfl

theorem wts_eq (x0 x1 : FVec Ideal S8208x1024 .f32) (x3 : FVec Ideal S8208x16 .f32) : val_main_v46 (F := Ideal) x0 x1 x3 = wts x0 x1 x3 := by
  unfold val_main_v46 val_main_v45 val_main_v44
  rw [expo_eq, sums_eq]
  rfl

/-- The products of the cotangents with the values. -/
theorem dp_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r s : Fin 8208) :
    val_main_v59 (F := Ideal) x2 x4 (ix3 h r s) = ((a.dp h.val r.val s.val : ℝ) : EReal) := by
  have e : val_main_v59 (F := Ideal) x2 x4 = Host.dotGeneral dot_S16x8208x64_S16x8208x64_S16x8208x8208_2_2_1_1_0_0 none (heads x4) (heads x2) := rfl
  rw [e]
  pointwise []
  simp only [Cert.KernelIdeal.Bwd.heads_at x4 a.ct H.ct, Cert.KernelIdeal.Bwd.heads_at x2 a.v H.v, ← EReal.coe_mul, coe_sum_univ]
  simp only [Real5.dp, Finset.sum_range]

/-- The gradient of the logits. -/
theorem gl_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (h : Fin 16) (r s : Fin 8208) :
    val_main_v74 (F := Ideal) x0 x1 x2 x3 x4 (ix3 h r s) = ((a.gl M h.val r.val s.val : ℝ) : EReal) := by
  have hl : a.l M h.val r.val ≠ 0 := (a.l_pos M h.val r.val r.isLt).ne'
  pointwise [val_main_v74, val_main_v73, val_main_v72, val_main_v71, val_main_v70, val_main_v69, val_main_v68, val_main_v67, val_main_v66, val_main_v65,
    val_main_v64, val_main_v63, val_main_v62, val_main_v49, val_main_v48, val_main_v47, val_main_v44, val_main_v21_1, val_main_call1_v0, val_main_call1_cst,
    val_main_cst_10, val_main_cst_11, val_main_cst_12]
  have hc : val_main_v20 (F := Ideal) (ix2 r s) = if s.val ≤ r.val then 1#1 else 0#1 := Cert.KernelIdeal.Bwd.causal_at r s
  rw [hc, expo_eq, sums_eq]
  simp only [dp_at H hM, Cert.KernelIdeal.Bwd.sums_at H hM, Cert.KernelIdeal.Bwd.expo_at H hM, Finset.univ_unique, Finset.sum_singleton]
  simp only [← EReal.coe_mul, ← EReal.coe_one, ← EReal.coe_zero, div_coe _ _ hl, div_coe _ _ (mul_ne_zero hl hl), coe_sum_univ, ← EReal.coe_neg, ← EReal.coe_add]
  unfold Real5.gl
  rw [Finset.sum_range]
  by_cases hs : s.val ≤ r.val
  · rw [if_pos hs, if_pos hs]; rfl
  · rw [if_neg hs, if_neg hs]; rfl

/-- The gradient of the queries. -/
theorem dq_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8208) (j : Fin 1024) :
    val_main_v92 (F := Ideal) x0 x1 x2 x3 x4 (ix2 r j) = ((a.dq M r.val (j.val / 64) (j.val % 64) : ℝ) : EReal) := by
  have e : val_main_v5 (F := Ideal) x1 = heads x1 := rfl
  have hj : j.val / 64 < 16 := by omega
  pointwise [val_main_v92, val_main_v91, val_main_v85, val_main_v83, val_main_v82, val_main_cst_17]
  rw [e]
  simp only [gl_at H hM, Cert.KernelIdeal.Bwd.heads_at x1 a.k H.k, lit_eighth, ← EReal.coe_mul, coe_sum_univ]
  simp only [Real5.dq, Finset.sum_range]

/-- The gradient of the keys. -/
theorem dk_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8208) (j : Fin 1024) :
    val_main_v88 (F := Ideal) x0 x1 x2 x3 x4 (ix2 r j) = ((a.dk M r.val (j.val / 64) (j.val % 64) : ℝ) : EReal) := by
  pointwise [val_main_v88, val_main_v87, val_main_v84, val_main_v83, val_main_v82, val_main_cst_17]
  rw [heads_eq]
  simp only [gl_at H hM, Cert.KernelIdeal.Bwd.heads_at x0 a.q H.q, lit_eighth, ← EReal.coe_mul, coe_sum_univ]
  simp only [Real5.dk, Finset.sum_range]

/-- The gradient of the values. -/
theorem dv_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8208) (j : Fin 1024) :
    val_main_v61 (F := Ideal) x0 x1 x3 x4 (ix2 r j) = ((a.dv M r.val (j.val / 64) (j.val % 64) : ℝ) : EReal) := by
  have e : val_main_v56 (F := Ideal) x4 = heads x4 := rfl
  pointwise [val_main_v61, val_main_v60, val_main_v58, val_main_v57]
  rw [e, wts_eq]
  simp only [Cert.KernelIdeal.Bwd.wts_at H hM, Cert.KernelIdeal.Bwd.heads_at x4 a.ct H.ct, ← EReal.coe_mul, coe_sum_univ]
  simp only [Real5.dv, Finset.sum_range]

/-- The gradient of the gate. -/
theorem dg_at {x0 x1 x2 : FVec Ideal S8208x1024 .f32} {x3 : FVec Ideal S8208x16 .f32} {x4 : FVec Ideal S8208x1024 .f32} {a : Real5} {M : ℕ → ℕ → ℝ}
    (H : Holds x0 x1 x2 x3 x4 a) (hM : ∀ (h : Fin 16) (r : Fin 8208), rowMax x0 x1 x3 (ix2 h r) = ((M h.val r.val : ℝ) : EReal)) (r : Fin 8208) (h : Fin 16) :
    val_main_v90 (F := Ideal) x0 x1 x2 x3 x4 (ix2 r h) = ((a.dg M r.val h.val : ℝ) : EReal) := by
  pointwise [val_main_v90, val_main_v89, val_main_v86, val_main_v81, val_main_v80, val_main_v79, val_main_v78, val_main_v77, val_main_v76, val_main_v75,
    val_main_cst_13, val_main_cst_14, val_main_cst_15, val_main_cst_16]
  simp only [gl_at H hM, ← EReal.coe_neg, coe_sum_univ, Finset.univ_unique, Finset.sum_singleton, ← EReal.coe_add]
  simp only [Real5.dg, Finset.sum_range]
-- ==== Proof.Value.lean ====
/-
  The kernel's four results are the reference's.
-/
module
public import proofs.«01_k».proof.Proof.Finite
public import proofs.«01_k».proof.Proof.Results
public import proofs.«01_k».proof.Proof.Plain
public import proofs.«01_k».proof.Proof.Gen.ReferenceIdeal.Run
public import Idealize.ShloMosaic.Adequacy
public import Idealize.ShloMosaic.Init

set_option maxRecDepth 8192
@[expose] public noncomputable section
namespace Cert.Bwd
open Idealize.ShloMosaic TcCoe Idealize.SL.Sem
open Cert.KernelIdeal (S8208x1024 S8208x16)
open Cert.KernelIdeal.Bwd Cert.ReferenceIdeal.Plain Cert.ReferenceIdeal.Read

/-- Two tables that hold the same numbers are equal. -/
theorem table_ext {p q : ℕ} (x y : FVec Ideal ⟨2, ![p, q]⟩ .f32) (f : Fin p → Fin q → EReal) (hx : ∀ r j, x (ix2 r j) = f r j)
    (hy : ∀ r j, y (ix2 r j) = f r j) : x = y :=
  funext fun i => (congrArg x (eq_ix2 i)).trans ((hx (i 0) (i 1)).trans ((hy (i 0) (i 1)).symm.trans (congrArg y (eq_ix2 i)).symm))

section
variable (m : (ℓ : Loc Cert.KernelIdeal.nD Cert.KernelIdeal.τ Cert.KernelIdeal.sig) → Buf (Elt Ideal) ℓ) (c : Dev Cert.KernelIdeal.nD)

abbrev in0 : FVec Ideal S8208x1024 .f32 := m ((c.tc : Thread Cert.KernelIdeal.nD Cert.KernelIdeal.τ).loc Cert.KernelIdeal.main_arg0)
abbrev in1 : FVec Ideal S8208x1024 .f32 := m ((c.tc : Thread Cert.KernelIdeal.nD Cert.KernelIdeal.τ).loc Cert.KernelIdeal.main_arg1)
abbrev in2 : FVec Ideal S8208x1024 .f32 := m ((c.tc : Thread Cert.KernelIdeal.nD Cert.KernelIdeal.τ).loc Cert.KernelIdeal.main_arg2)
abbrev in3 : FVec Ideal S8208x16 .f32 := m ((c.tc : Thread Cert.KernelIdeal.nD Cert.KernelIdeal.τ).loc Cert.KernelIdeal.main_arg3)
abbrev in4 : FVec Ideal S8208x1024 .f32 := m ((c.tc : Thread Cert.KernelIdeal.nD Cert.KernelIdeal.τ).loc Cert.KernelIdeal.main_arg4)

variable {a : Real5} {M : ℕ → ℕ → ℝ} (H : Holds (in0 m c) (in1 m c) (in2 m c) (in3 m c) (in4 m c) a)
  (hM : ∀ (h : Fin 16) (r : Fin 8208), rowMax (in0 m c) (in1 m c) (in3 m c) (ix2 h r) = ((M h.val r.val : ℝ) : EReal))
include H hM

omit H hM in
theorem lastQ_of (r : Fin 8208) (j : Fin 1024) : lastQ (arr8 (arrsOf a M)) (ix2 r j) = ((a.dq M r.val (j.val / 64) (j.val % 64) : ℝ) : EReal) := by
  rw [lastQ_at (arr8 (arrsOf a M)) (outQ (arrsOf a M)) (fun _ _ => rfl) r j, outQ_eq a M r.val j.val j.isLt]

theorem regQ : Cert.KernelIdeal.Value.reg_main_v123_0 m c = (arr8 (arrsOf a M) : FVec Ideal Cert.KernelIdeal.S8448x1024 .f32) := final8 m c (held m c H hM)

theorem tableQ : lastQ (arr8 (arrsOf a M)) = val_main_v92 (F := Ideal) (in0 m c) (in1 m c) (in2 m c) (in3 m c) (in4 m c) :=
  table_ext _ _ (fun r j => ((a.dq M r.val (j.val / 64) (j.val % 64) : ℝ) : EReal)) lastQ_of (dq_at H hM)

theorem valueQ : lastQ (Cert.KernelIdeal.Value.reg_main_v123_0 m c) = val_main_v92 (F := Ideal) (in0 m c) (in1 m c) (in2 m c) (in3 m c) (in4 m c) :=
  (congrArg lastQ (regQ m c H hM)).trans (tableQ m c H hM)

omit H hM in
theorem lastK_of (r : Fin 8208) (j : Fin 1024) : lastK (arr9 (arrsOf a M)) (ix2 r j) = ((a.dk M r.val (j.val / 64) (j.val % 64) : ℝ) : EReal) := by
  rw [lastK_at (arr9 (arrsOf a M)) (outK (arrsOf a M)) (fun _ _ => rfl) r j, outK_eq a M r.val j.val j.isLt]

theorem regK : Cert.KernelIdeal.Value.reg_main_v123_1 m c = (arr9 (arrsOf a M) : FVec Ideal Cert.KernelIdeal.S8448x1024 .f32) := final9 m c (held m c H hM)

theorem tableK : lastK (arr9 (arrsOf a M)) = val_main_v88 (F := Ideal) (in0 m c) (in1 m c) (in2 m c) (in3 m c) (in4 m c) :=
  table_ext _ _ (fun r j => ((a.dk M r.val (j.val / 64) (j.val % 64) : ℝ) : EReal)) lastK_of (dk_at H hM)

theorem valueK : lastK (Cert.KernelIdeal.Value.reg_main_v123_1 m c) = val_main_v88 (F := Ideal) (in0 m c) (in1 m c) (in2 m c) (in3 m c) (in4 m c) :=
  (congrArg lastK (regK m c H hM)).trans (tableK m c H hM)

omit H hM in
theorem lastV_of (r : Fin 8208) (j : Fin 1024) : lastV (arr10 (arrsOf a M)) (ix2 r j) = ((a.dv M r.val (j.val / 64) (j.val % 64) : ℝ) : EReal) := by
  rw [lastV_at (arr10 (arrsOf a M)) (outV (arrsOf a M)) (fun _ _ => rfl) r j, outV_eq a M r.val j.val j.isLt]

theorem regV : Cert.KernelIdeal.Value.reg_main_v123_2 m c = (arr10 (arrsOf a M) : FVec Ideal Cert.KernelIdeal.S8448x1024 .f32) := final10 m c (held m c H hM)

theorem tableV : lastV (arr10 (arrsOf a M)) = val_main_v61 (F := Ideal) (in0 m c) (in1 m c) (in3 m c) (in4 m c) :=
  table_ext _ _ (fun r j => ((a.dv M r.val (j.val / 64) (j.val % 64) : ℝ) : EReal)) lastV_of (dv_at H hM)

theorem valueV : lastV (Cert.KernelIdeal.Value.reg_main_v123_2 m c) = val_main_v61 (F := Ideal) (in0 m c) (in1 m c) (in3 m c) (in4 m c) :=
  (congrArg lastV (regV m c H hM)).trans (tableV m c H hM)

theorem valueC : lastC (Cert.KernelIdeal.Value.reg_main_v123_3 m c) = val_main_v90 (F := Ideal) (in0 m c) (in1 m c) (in2 m c) (in3 m c) (in4 m c) :=
  have e : Cert.KernelIdeal.Value.reg_main_v123_3 m c = (arr11 (arrsOf a M) : FVec Ideal Cert.KernelIdeal.S8x8x8448 .f32) := final11 m c (held m c H hM)
  table_ext _ _ _ (fun s h => (congrArg (fun X => lastC X (ix2 s h)) e).trans ((lastC_at _ (outC (arrsOf a M)) (fun _ _ _ => rfl) s h).trans
    (congrArg (fun z : ℝ => (z : EReal)) (by
      rw [outC_eq a M (h.val / 2) (h.val % 2) s.val (by have := h.isLt; omega) (by omega) s.isLt]
      congr 1
      omega)))) (dg_at H hM)

end

theorem algebraic : Cert.algebraic_KernelIdeal_ReferenceIdeal_pre_finite := by
  intro m g m' g' hpre hargs
  have H : ∀ c, Holds (in0 m c) (in1 m c) (in2 m c) (in3 m c) (in4 m c) (reals (in0 m c) (in1 m c) (in2 m c) (in3 m c) (in4 m c)) := fun c =>
    holds_reals (hpre c).1 (hpre c).2.1 (hpre c).2.2.1 (hpre c).2.2.2.1 (hpre c).2.2.2.2
  refine ⟨fun c => lastQ (Cert.KernelIdeal.Value.reg_main_v123_0 m c), fun c => lastK (Cert.KernelIdeal.Value.reg_main_v123_1 m c),
    fun c => lastV (Cert.KernelIdeal.Value.reg_main_v123_2 m c), fun c => lastC (Cert.KernelIdeal.Value.reg_main_v123_3 m c),
    Cert.KernelIdeal.Value.run m g, (θ_run _ _ _).mono (fun r h c => ?_) (Cert.ReferenceIdeal.Value.run m' g')⟩
  obtain ⟨h92, h88, h61, h90, hrest⟩ := h c
  obtain ⟨a0, a1, a2, a3, a4⟩ := hargs c
  have hM := maxima_at (H c)
  refine ⟨h92.trans ?_, h88.trans ?_, h61.trans ?_, h90.trans ?_, hrest⟩
  · rw [val_main_v92_eq, a0, a1, a2, a3, a4]; exact (valueQ m c (H c) hM).symm
  · rw [val_main_v88_eq, a0, a1, a2, a3, a4]; exact (valueK m c (H c) hM).symm
  · rw [val_main_v61_eq, a0, a1, a3, a4]; exact (valueV m c (H c) hM).symm
  · rw [val_main_v90_eq, a0, a1, a2, a3, a4]; exact (valueC m c (H c) hM).symm
-- ==== Proof.Table.lean ====
/-
  A two-dimensional table as a function of two natural numbers, and the scale of a row.
-/
module
public import proofs.«01_k».proof.Proof.RealBlock
public import Idealize.ShloMosaic.Lib.Pipeline.Value
public import Idealize.ShloMosaic.Lib.StableHlo.RunRead

@[expose] public noncomputable section
namespace Cert.Bwd
open Idealize.ShloMosaic

/-- A table by row and column, zero outside. -/
def tab {p q : ℕ} (x : FVec Ideal ⟨2, ![p, q]⟩ .f32) (r j : ℕ) : EReal :=
  if h : r < p ∧ j < q then x (ix2 ⟨r, h.1⟩ ⟨j, h.2⟩) else 0

theorem tab_at {p q : ℕ} (x : FVec Ideal ⟨2, ![p, q]⟩ .f32) (r : Fin p) (j : Fin q) : tab x r.val j.val = x (ix2 r j) := by
  unfold tab
  rw [dif_pos ⟨r.isLt, j.isLt⟩]

theorem idx2 {p q : ℕ} {i j : (⟨2, ![p, q]⟩ : Shape).Idx} (h0 : (i 0).val = (j 0).val) (h1 : (i 1).val = (j 1).val) : i = j :=
  funext fun a => Fin.ext (match a with | ⟨0, _⟩ => h0 | ⟨1, _⟩ => h1)

theorem tile {a n b r : ℕ} (h : a = n) : a * b + 1 * r = n * b + r := by
  rw [h, Nat.one_mul]

theorem tile0 {a b r : ℕ} (h : a = 0) : a * b + 1 * r = r := by
  rw [h, Nat.one_mul, Nat.zero_mul, Nat.zero_add]

theorem cov {a n b x : ℕ} (h : a = n) (hx : n * b ≤ x ∧ x < n * b + b) : a * b ≤ x ∧ x < a * b + b := h ▸ hx

theorem all2 {P : Fin 2 → Prop} (h0 : P 0) (h1 : P 1) (a : Fin 2) : P a :=
  match a with | ⟨0, _⟩ => h0 | ⟨1, _⟩ => h1

theorem hz : (![0, 0] : Fin 2 → Nat) = fun _ => 0 := funext fun a => by fin_cases a <;> rfl

theorem hz' (a : Fin 2) : (![0, 0] : Fin 2 → Nat) a = 0 := by fin_cases a <;> rfl

theorem small_word {n : ℕ} (h : n < 88) : (BitVec.ofNat 32 n).toNat = n := by
  rw [BitVec.toNat_ofNat]
  omega

/-- The number the arrays are padded with. -/
def zero : FVec Ideal ⟨0, ![]⟩ .f32 := sitofp .f32 (constantI ⟨0, ![]⟩ 32 0#32)

theorem zero_at (i : (⟨0, ![]⟩ : Shape).Idx) : zero i = 0 := by
  show (((0#32 : BitVec 32).toInt : ℝ) : EReal) = _
  simp

theorem none_host : (FloatOps.ofBits .f32 0x00000000#32 : Ideal .f32) = 0 := by
  pointwise

/-- A row as a function of a natural number. -/
def col (x : FVec Ideal ⟨1, ![1024]⟩ .f32) (l : ℕ) : EReal := if h : l < 1024 then x (ix1 ⟨l, h⟩) else 0

theorem col_at (x : FVec Ideal ⟨1, ![1024]⟩ .f32) (l : Fin 1024) : col x l.val = x (ix1 l) := by
  unfold col
  rw [dif_pos l.isLt]

/-- A table under 240 rows of zeros. -/
def low {q : ℕ} (x : FVec Ideal ⟨2, ![8208, q]⟩ .f32) (r k : ℕ) : EReal := if r < 240 then 0 else tab x (r - 240) k

theorem low_pad {q : ℕ} (x : FVec Ideal ⟨2, ![8208, q]⟩ .f32) {r : ℕ} (h : r < 240) : low x r = fun _ => 0 := by
  funext k
  unfold low
  rw [if_pos h]

theorem low_row {q : ℕ} (x : FVec Ideal ⟨2, ![8208, q]⟩ .f32) (r : ℕ) : low x (240 + r) = tab x r := by
  funext k
  unfold low
  rw [if_neg (by omega), Nat.add_sub_cancel_left]

/-- A row's mean square and the small constant. -/
def size (x : ℕ → EReal) : EReal := Ideal.div (∑ j : Fin 1024, x j.val * x j.val) (Ideal.ofBits FTy.f32 0x44800000#32) + Ideal.ofBits FTy.f32 0x358637BD#32

/-- An entry of the scaled row. -/
def normed (x g : ℕ → EReal) (l : ℕ) : EReal := x l * Ideal.rsqrt (size x) * g l

/-- An entry of a product with the residual. -/
def summed (n : ℕ) (A B R : ℕ → ℕ → EReal) (r l : ℕ) : EReal := ∑ k : Fin n, A r k.val * B k.val l + R r l

theorem low_summed {n : ℕ} (x : FVec Ideal ⟨2, ![8208, n]⟩ .f32) (B : ℕ → ℕ → EReal) (y : FVec Ideal ⟨2, ![8208, 1024]⟩ .f32) (r : ℕ) :
    summed n (low x) B (low y) (240 + r) = summed n (tab x) B (tab y) r := by
  unfold summed
  rw [low_row, low_row]
-- ==== Proof.Prod2.lean ====
/-
  The weight gradient of the feed-forward layer's first product, as the kernel computes it: a sum over the tokens a
  tile of 1408 tokens at a time.
-/
module
public import proofs.«01_k».proof.Proof.Gen.Kernel2Ideal.Frame
public import proofs.«01_k».proof.Proof.Table

set_option maxRecDepth 65536
@[expose] public noncomputable section
namespace Cert.Kernel2Ideal.Prod
open Cert.Bwd (all2 cov idx2 tile tile0 hz small_word zero)
open Gen
open Idealize.ShloMosaic TcCoe Idealize.SL.Sem
open Pipeline (Dat)

theorem none_at (r : Fin 1024) (l : Fin 1408) : k0_pay1 (F := Ideal) (ix2 r l) = 0 := by
  pointwise [k0_pay1]

theorem step_at (x : Vec Ideal S1024x1408 .f32) (a : Vec Ideal S1024x1408 .bf16) (b : Vec Ideal S1408x1408 .bf16) (r : Fin 1024) (l : Fin 1408) :
    k0_pay2 x a b (ix2 r l) = x (ix2 r l) + ∑ k : Fin 1408, a (ix2 r k) * b (ix2 k l) := by
  pointwise [k0_pay2]

section
variable (c : Dev nD) (i : grid0.Coords) (p3 : Memref sig .tc .vmem S1024x1408 .bf16) (q3 : p3.IsWhole) (p4 : Memref sig .tc .vmem S1408x1408 .bf16) (q4 : p4.IsWhole)
  (p5 : Memref sig .tc .vmem S1024x1408 .f32) (q5 : p5.IsWhole) (p6 : Memref sig .tc .vmem S1024x1408 .f32) (q6 : p6.IsWhole)
  (x0 : Vec Ideal S1024x1408 .bf16) (x1 : Vec Ideal S1408x1408 .bf16) (xs0 : Vec Ideal S1024x1408 .f32)

theorem scratch_A (hc0 : cond0_0 i) (hc1 : ¬cond0_1 i) :
    sout0_A_0 c i p3 q3 p4 q4 p5 q5 p6 q6 hc0 hc1 x0 x1 = k0_pay2 k0_pay1 x0 x1 := by
  unfold sout0_A_0
  rw [View.read_writes_eq_canon _ _ _ (scover0_A_0 c i p3 q3 p4 q4 p5 q5 p6 q6 hc0 hc1 x0 x1)]
  unfold kernelRun0_A
  dsimp only
  sl_unfold_words
  rw [View.canon_cons_unit_zero (S := S1024x1408) hz, View.readCov_unit_zero (S := S1024x1408) _ hz]
  simp only [View.readAt_eq_ld, q3.read_unread, q4.read_unread, View.ld_unit_zero (S := S1024x1408) hz, View.ld_unit_zero (S := S1408x1408) hz]

theorem scratch_B (hc0 : ¬cond0_0 i) (hc1 : ¬cond0_1 i) :
    sout0_B_0 c i p3 q3 p4 q4 p5 q5 p6 q6 hc0 hc1 x0 x1 xs0 = k0_pay2 xs0 x0 x1 := by
  unfold sout0_B_0
  rw [View.read_writes_eq_canon _ _ _ (scover0_B_0 c i p3 q3 p4 q4 p5 q5 p6 q6 hc0 hc1 x0 x1 xs0)]
  unfold kernelRun0_B
  dsimp only
  sl_unfold_words
  rw [View.canon_unit_zero (S := S1024x1408) hz]
  simp only [View.readAt_eq_ld, q3.read_unread, q4.read_unread, q6.read_unread, View.ld_unit_zero (S := S1024x1408) hz, View.ld_unit_zero (S := S1408x1408) hz]

theorem scratch_C (hc0 : ¬cond0_0 i) (hc1 : cond0_1 i) :
    sout0_C_0 c i p3 q3 p4 q4 p5 q5 p6 q6 hc0 hc1 x0 x1 xs0 = k0_pay2 xs0 x0 x1 := by
  unfold sout0_C_0
  rw [View.read_writes_eq_canon _ _ _ (scover0_C_0 c i p3 q3 p4 q4 p5 q5 p6 q6 hc0 hc1 x0 x1 xs0)]
  unfold kernelRun0_C
  dsimp only
  sl_unfold_words
  rw [View.canon_unit_zero (S := S1024x1408) hz]
  simp only [View.readAt_eq_ld, q3.read_unread, q4.read_unread, q6.read_unread, View.ld_unit_zero (S := S1024x1408) hz, View.ld_unit_zero (S := S1408x1408) hz]

theorem result_C (hc0 : ¬cond0_0 i) (hc1 : cond0_1 i) :
    out0_C_2 c i p3 q3 p4 q4 p5 q5 p6 q6 hc0 hc1 x0 x1 xs0 = k0_pay2 xs0 x0 x1 := by
  unfold out0_C_2
  rw [View.read_writes_eq_canon _ _ _ (cover0_C_2 c i p3 q3 p4 q4 p5 q5 p6 q6 hc0 hc1 x0 x1 xs0)]
  unfold kernelRun0_C
  dsimp only
  sl_unfold_words
  rw [View.canon_unit_zero (S := S1024x1408) hz, View.readCov_unit_zero (S := S1024x1408) _ hz]
  simp only [View.readAt_eq_ld, q3.read_unread, q4.read_unread, q6.read_unread, View.ld_unit_zero (S := S1024x1408) hz, View.ld_unit_zero (S := S1408x1408) hz]

end

variable (m : (ℓ : Loc nD τ sig) → Buf (Elt Ideal) ℓ) (c : Dev nD)

section
variable (t : Fin cfg0.N)

theorem coords_0 : (grid0.coords t 0).val = t.val / 6 := by
  have h : t.val < 24 := t.isLt.trans_eq N_0
  have e : (grid0.coords t 0).val = t.val / 6 % 4 := Pipeline.Grid.coords_val t 0 (by decide) rfl
  omega

theorem coords_1 : (grid0.coords t 1).val = 0 := by
  have e : (grid0.coords t 1).val < 1 := (grid0.coords t 1).isLt
  omega

theorem coords_2 : (grid0.coords t 2).val = t.val % 6 := by
  have e : (grid0.coords t 2).val = t.val / 1 % 6 := Pipeline.Grid.coords_val t 2 (by decide) rfl
  omega

theorem word_1 : (BitVec.ofNat 32 (grid0.coords t 1).val).toNat = 0 := by
  have h : t.val < 24 := t.isLt.trans_eq N_0
  rw [coords_1, small_word (by omega)]

theorem word_2 : (BitVec.ofNat 32 (grid0.coords t 2).val).toNat = t.val % 6 := by
  have h : t.val < 24 := t.isLt.trans_eq N_0
  rw [coords_2, small_word (by omega)]

theorem word_0 : (BitVec.ofNat 32 (grid0.coords t 0).val).toNat = t.val / 6 := by
  have h : t.val < 24 := t.isLt.trans_eq N_0
  rw [coords_0, small_word (by omega)]

theorem index0 : win0_0.index t 0 = 0 ∧ win0_0.index t 1 = t.val % 6 := ⟨word_1 t, word_2 t⟩

theorem index1 : win0_1.index t 0 = t.val % 6 ∧ win0_1.index t 1 = t.val / 6 := ⟨word_2 t, word_0 t⟩

theorem index2 : win0_2.index t 0 = 0 ∧ win0_2.index t 1 = t.val / 6 := ⟨word_1 t, word_0 t⟩

end

/-- The two arrays the kernel multiplies hold these numbers. -/
structure Held (A B : ℕ → ℕ → EReal) : Prop where
  a : ∀ (r : Fin 1024) (k : Fin 8448), (V m c main_v2 : Vec Ideal S1024x8448 .bf16) (ix2 r k) = A r.val k.val
  b : ∀ (k : Fin 8448) (l : Fin 5632), (V m c main_v4 : Vec Ideal S8448x5632 .bf16) (ix2 k l) = B k.val l.val

variable {A B : ℕ → ℕ → EReal} (H : Held m c A B)
include H

theorem blk0 (t : Fin cfg0.N) (r : Fin 1024) (k : Fin 1408) :
    (iblk m c 0 t : Vec Ideal S1024x1408 .bf16) (ix2 r k) = A r.val (t.val % 6 * 1408 + k.val) := by
  obtain ⟨i0, i1⟩ := index0 t
  unfold iblk
  rw [View.read_apply]
  refine Eq.trans ?_ (H.a r ⟨t.val % 6 * 1408 + k.val, by omega⟩)
  exact congrArg (V m c main_v2 : Vec Ideal S1024x8448 .bf16) (idx2 (tile0 i0) (tile i1))

theorem blk1 (t : Fin cfg0.N) (k : Fin 1408) (l : Fin 1408) :
    (iblk m c 1 t : Vec Ideal S1408x1408 .bf16) (ix2 k l) = B (t.val % 6 * 1408 + k.val) (t.val / 6 * 1408 + l.val) := by
  have h : t.val < 24 := t.isLt.trans_eq N_0
  obtain ⟨i0, i1⟩ := index1 t
  unfold iblk
  rw [View.read_apply]
  refine Eq.trans ?_ (H.b ⟨t.val % 6 * 1408 + k.val, by omega⟩ ⟨t.val / 6 * 1408 + l.val, by omega⟩)
  exact congrArg (V m c main_v4 : Vec Ideal S8448x5632 .bf16) (idx2 (tile i0) (tile i1))

/-- One tile's step: the sum so far and the tile's products. -/
theorem step (t : Fin cfg0.N) (x : Vec Ideal S1024x1408 .f32) (r : Fin 1024) (l : Fin 1408)
    (hx : x (ix2 r l) = ∑ k ∈ Finset.range (t.val % 6 * 1408), A r.val k * B k (t.val / 6 * 1408 + l.val)) :
    k0_pay2 x (iblk m c 0 t : Vec Ideal S1024x1408 .bf16) (iblk m c 1 t : Vec Ideal S1408x1408 .bf16) (ix2 r l)
      = ∑ k ∈ Finset.range (t.val % 6 * 1408 + 1408), A r.val k * B k (t.val / 6 * 1408 + l.val) := by
  rw [step_at, hx, Finset.sum_range_add, Finset.sum_range (fun k => A r.val (t.val % 6 * 1408 + k) * B (t.val % 6 * 1408 + k) (t.val / 6 * 1408 + l.val))]
  simp only [blk0 m c H, blk1 m c H]

theorem scratch_at : ∀ (n : ℕ) (t : Fin cfg0.N), t.val = n → ∀ (r : Fin 1024) (l : Fin 1408), (outsAt0 m c t.val t.isLt).2 (ix2 r l)
    = ∑ k ∈ Finset.range (t.val % 6 * 1408 + 1408), A r.val k * B k (t.val / 6 * 1408 + l.val) := by
  intro n
  induction n with
  | zero =>
    intro t ht r l
    rw [outsAt0_A m c t (by omega) (by omega)]
    dsimp only
    rw [scratch_A]
    exact step m c H t _ r l (by rw [none_at, ht]; rfl)
  | succ n ih =>
    intro t ht r l
    have h : t.val < 24 := t.isLt.trans_eq N_0
    by_cases h0 : t.val % 6 = 0
    · rw [outsAt0_A m c t h0 (by omega)]
      dsimp only
      rw [scratch_A]
      exact step m c H t _ r l (by rw [none_at, h0]; rfl)
    · have e := ih ⟨t.val - 1, Nat.lt_of_le_of_lt (Nat.sub_le _ _) t.isLt⟩ (by dsimp only; omega) r l
      dsimp only at e
      rw [show (t.val - 1) % 6 * 1408 + 1408 = t.val % 6 * 1408 by omega, show (t.val - 1) / 6 = t.val / 6 by omega] at e
      by_cases h1 : t.val % 6 = 5
      · rw [outsAt0_C m c t h0 h1]
        dsimp only
        rw [scratch_C]
        exact step m c H t _ r l e
      · rw [outsAt0_B m c t h0 h1]
        dsimp only
        rw [scratch_B]
        exact step m c H t _ r l e

theorem out_at (t : Fin cfg0.N) (h1 : t.val % 6 = 5) (r : Fin 1024) (l : Fin 1408) : (outsAt0 m c t.val t.isLt).1 (ix2 r l)
    = ∑ k ∈ Finset.range 8448, A r.val k * B k (t.val / 6 * 1408 + l.val) := by
  have s := scratch_at m c H t.val t rfl r l
  rw [outsAt0_C m c t (by omega) h1] at s ⊢
  dsimp only at s ⊢
  rw [scratch_C] at s
  rw [result_C, s, h1]

omit H in
/-- The product. -/
def prod (A B : ℕ → ℕ → EReal) : Vec Ideal S1024x5632 .f32 := fun i => ∑ k ∈ Finset.range 8448, A (i 0).val k * B k (i 1).val

theorem flushed (t : Fin cfg0.N) (hf : (cfg0.win 2).flush t = true) :
    (dats m 0 c).flushed 2 t = ((cfg0.win 2).blk t).view.read (Elt Ideal) (prod A B : Buf (Elt Ideal) ((c.tc : Thread nD τ).loc main_v5)) := by
  have ht : t.val < 24 := t.isLt.trans_eq N_0
  replace hf := (flush0_2 t).1 hf
  show (cfg0.win 2).cut (grid0.coords t) ((dats m 0 c).after 2 t) = _
  rw [after0_2]
  have L := out_at m c H t hf
  generalize outsAt0 m c t.val t.isLt = o at L ⊢
  obtain ⟨i0, i1⟩ := index2 t
  funext y
  rw [View.read_apply]
  let y' : S1024x1408.Idx := y
  have h0 : (y' 0).val < 1024 := (y' 0).isLt
  have h1 : (y' 1).val < 1408 := (y' 1).isLt
  show o.1 y' = (prod A B) _
  have e : ((cfg0.win 2).blk t).view.emb y = (ix2 (⟨(y' 0).val, by omega⟩ : Fin 1024) (⟨t.val / 6 * 1408 + (y' 1).val, by omega⟩ : Fin 5632) : S1024x5632.Idx) := idx2 (tile0 i0) (tile i1)
  have g : (prod A B) (ix2 (⟨(y' 0).val, by omega⟩ : Fin 1024) (⟨t.val / 6 * 1408 + (y' 1).val, by omega⟩ : Fin 5632)) = o.1 y' := by
    refine Eq.trans ?_ ((L (y' 0) (y' 1)).symm.trans (congrArg o.1 (eq_ix2 y').symm))
    unfold prod
    rfl
  exact (congrArg (prod A B) e |>.trans g).symm

theorem final : (dats m 0 c).arrAt 2 cfg0.N = (prod A B : Buf (Elt Ideal) ((c.tc : Thread nD τ).loc main_v5)) :=
  (dats m 0 c).arrAt_eq_of_cover 2 _ (flushed m c H) fun (i : S1024x5632.Idx) => by
    have h0 : (i 0).val < 1024 := (i 0).isLt
    have h1 : (i 1).val < 5632 := (i 1).isLt
    have hN : (i 1).val / 1408 * 6 + 5 < cfg0.N := by rw [show cfg0.N = 24 from N_0]; omega
    generalize ht : (⟨(i 1).val / 1408 * 6 + 5, hN⟩ : Fin cfg0.N) = t
    have hv : t.val = (i 1).val / 1408 * 6 + 5 := by rw [← ht]
    obtain ⟨i0, i1⟩ := index2 t
    refine ⟨t, (flush0_2 t).2 (by omega), ?_⟩
    show i ∈ ((View.whole main_v5).slice (win0_2.rect t)).set
    rw [View.set_slice_whole, Rect.mem_set_unit]
    exact all2 (cov (b := 1024) (x := (i 0).val) i0 (by omega)) (cov (b := 1408) (x := (i 1).val) i1 (by omega))
-- ==== Proof.Value2.lean ====
/-
  The weight gradient of the feed-forward layer's first product: the kernel's is the reference's.
-/
module
public import proofs.«01_k».proof.Proof.Prod2
public import proofs.«01_k».proof.Proof.Table
public import proofs.«01_k».proof.Proof.Gen.Reference2Ideal.Run
public import proofs.«01_k».proof.Proof.Gen.Reference2Ideal.Read
public import proofs.«01_k».proof.Defs

set_option maxRecDepth 8192
@[expose] public noncomputable section
namespace Cert.Kernel2Ideal.Prod
open Cert.Bwd (idx2 tab tab_at zero zero_at)
open Gen
open Idealize.ShloMosaic TcCoe Idealize.SL.Sem StableHlo

def arrA (x : FVec Ideal S8208x1024 .f32) : FVec Ideal S1024x8448 .bf16 :=
  truncf .bf16 (transpose S1024x8448 [1, 0] (pad S8448x1024 ![240, 0] ![0, 0] ![0, 0] x zero pads_S8208x1024_S8448x1024_24000_000 h_S_) transposes_S8448x1024_S1024x8448_1_0) bitsLt_bf16_f32

def arrB (x : FVec Ideal S8208x5632 .f32) : FVec Ideal S8448x5632 .bf16 :=
  truncf .bf16 (pad S8448x5632 ![240, 0] ![0, 0] ![0, 0] x zero pads_S8208x5632_S8448x5632_24000_000 h_S_) bitsLt_bf16_f32

variable (m : (ℓ : Loc nD τ sig) → Buf (Elt Ideal) ℓ) (c : Dev nD)

theorem read_v2 : (V m c main_v2 : FVec Ideal S1024x8448 .bf16) = arrA (m ((c.tc : Thread nD τ).loc main_arg0)) := by
  show StableHlo.after _ _ (Proc.devRef .tc main_v2) = _
  after_reads_simp
  simp -implicitDefEqProofs only [TRef.toBuf, TRef.ofBuf, cast_cast, cast_eq]
  unfold arrA zero
  rfl

theorem read_v4 : (V m c main_v4 : FVec Ideal S8448x5632 .bf16) = arrB (m ((c.tc : Thread nD τ).loc main_arg1)) := by
  show StableHlo.after _ _ (Proc.devRef .tc main_v4) = _
  after_reads_simp
  simp -implicitDefEqProofs only [TRef.toBuf, TRef.ofBuf, cast_cast, cast_eq]
  unfold arrB zero
  rfl

theorem arrA_at (x : FVec Ideal S8208x1024 .f32) (r : Fin 1024) (k : Fin 8448) :
    arrA x (ix2 r k) = if k.val < 240 then 0 else tab x (k.val - 240) r.val := by
  pointwise [arrA]
  by_cases hr : k.val < 240
  · rw [dif_neg (by omega), if_pos hr, zero_at]
  · rw [dif_pos (by omega), if_neg hr]
    exact (tab_at x ⟨k.val - 240, by omega⟩ r).symm

theorem arrB_at (x : FVec Ideal S8208x5632 .f32) (k : Fin 8448) (l : Fin 5632) :
    arrB x (ix2 k l) = if k.val < 240 then 0 else tab x (k.val - 240) l.val := by
  pointwise [arrB]
  by_cases hr : k.val < 240
  · rw [dif_neg (by omega), if_pos hr, zero_at]
  · rw [dif_pos (by omega), if_neg hr]
    exact (tab_at x ⟨k.val - 240, by omega⟩ l).symm

abbrev in0 : FVec Ideal S8208x1024 .f32 := m ((c.tc : Thread nD τ).loc main_arg0)
abbrev in1 : FVec Ideal S8208x5632 .f32 := m ((c.tc : Thread nD τ).loc main_arg1)

abbrev numA (x : FVec Ideal S8208x1024 .f32) (r k : ℕ) : EReal := if k < 240 then 0 else tab x (k - 240) r
abbrev numB (x : FVec Ideal S8208x5632 .f32) (k l : ℕ) : EReal := if k < 240 then 0 else tab x (k - 240) l

theorem held : Held m c (numA (in0 m c)) (numB (in1 m c)) where
  a r k := (congrFun (read_v2 m c) (ix2 r k)).trans (arrA_at _ r k)
  b k l := (congrFun (read_v4 m c) (ix2 k l)).trans (arrB_at _ k l)

/-- The product without the rows of padding. -/
theorem prod_at (x : FVec Ideal S8208x1024 .f32) (y : FVec Ideal S8208x5632 .f32) (r : Fin 1024) (l : Fin 5632) :
    prod (numA x) (numB y) (ix2 r l) = ∑ k : Fin 8208, y (ix2 k l) * x (ix2 k r) := by
  show ∑ k ∈ Finset.range (240 + 8208), numA x r.val k * numB y k l.val = _
  rw [Finset.sum_range_add, Finset.sum_eq_zero (fun k hk => by unfold numA; rw [if_pos (Finset.mem_range.1 hk), zero_mul]), zero_add, Finset.sum_range]
  refine Finset.sum_congr rfl fun k _ => ?_
  unfold numA numB
  rw [if_neg (by omega), if_neg (by omega), Nat.add_sub_cancel_left, tab_at, tab_at, mul_comm]

theorem ref_at (x : FVec Ideal S8208x1024 .f32) (y : FVec Ideal S8208x5632 .f32) (r : Fin 1024) (l : Fin 5632) :
    Cert.Reference2Ideal.Read.val_main_v3 (F := Ideal) x y (ix2 r l) = ∑ k : Fin 8208, y (ix2 k l) * x (ix2 k r) := by
  rw [Cert.Reference2Ideal.Read.val_main_v3_apply, Cert.Reference2Ideal.Read.val_main_v2_apply]
  refine Finset.sum_congr rfl fun k _ => ?_
  congr 2 <;> exact idx2 rfl rfl

theorem value (x : FVec Ideal S8208x1024 .f32) (y : FVec Ideal S8208x5632 .f32) :
    prod (numA x) (numB y) = Cert.Reference2Ideal.Read.val_main_v3 (F := Ideal) x y :=
  funext fun i => (congrArg (prod (numA x) (numB y)) (eq_ix2 i)).trans ((prod_at x y (i 0) (i 1)).trans
    ((ref_at x y (i 0) (i 1)).symm.trans (congrArg (Cert.Reference2Ideal.Read.val_main_v3 (F := Ideal) x y) (eq_ix2 i)).symm))

theorem algebraic : Cert.algebraic_Kernel2Ideal_Reference2Ideal := by
  intro m g m' g' _ hargs
  refine ⟨fun c => prod (numA (in0 m c)) (numB (in1 m c)),
    (θ_run _ _ _).mono (fun r h c => ⟨((h.1 c).1 2).trans (final m c (held m c)), h.2 c⟩) (θ_run_and (run_main m g) (unchanged m g)),
    (θ_run _ _ _).mono (fun r h c => ?_) (Cert.Reference2Ideal.Value.run m' g')⟩
  obtain ⟨h3, hrest⟩ := h c
  obtain ⟨a0, a1⟩ := hargs c
  refine ⟨h3.trans ?_, hrest⟩
  rw [Cert.Reference2Ideal.Read.val_main_v3_eq, a0, a1]
  exact (value _ _).symm
-- ==== Proof.Prod3.lean ====
/-
  The weight gradient of the feed-forward layer's second product, as the kernel computes it: a sum over the tokens a
  tile of 768 tokens at a time.
-/
module
public import proofs.«01_k».proof.Proof.Gen.Kernel3Ideal.Frame
public import proofs.«01_k».proof.Proof.Table

set_option maxRecDepth 65536
@[expose] public noncomputable section
namespace Cert.Kernel3Ideal.Prod
open Cert.Bwd (all2 cov idx2 tile tile0 hz small_word zero)
open Gen
open Idealize.ShloMosaic TcCoe Idealize.SL.Sem
open Pipeline (Dat)

theorem none_at (r : Fin 1408) (l : Fin 1024) : k0_pay1 (F := Ideal) (ix2 r l) = 0 := by
  pointwise [k0_pay1]

theorem step_at (x : Vec Ideal S1408x1024 .f32) (a : Vec Ideal S768x1408 .bf16) (b : Vec Ideal S768x1024 .bf16) (r : Fin 1408) (l : Fin 1024) :
    k0_pay2 x a b (ix2 r l) = x (ix2 r l) + ∑ k : Fin 768, a (ix2 k r) * b (ix2 k l) := by
  pointwise [k0_pay2]

section
variable (c : Dev nD) (i : grid0.Coords) (p3 : Memref sig .tc .vmem S768x1408 .bf16) (q3 : p3.IsWhole) (p4 : Memref sig .tc .vmem S768x1024 .bf16) (q4 : p4.IsWhole)
  (p5 : Memref sig .tc .vmem S1408x1024 .f32) (q5 : p5.IsWhole) (p6 : Memref sig .tc .vmem S1408x1024 .f32) (q6 : p6.IsWhole)
  (x0 : Vec Ideal S768x1408 .bf16) (x1 : Vec Ideal S768x1024 .bf16) (xs0 : Vec Ideal S1408x1024 .f32)

theorem scratch_A (hc0 : cond0_0 i) (hc1 : ¬cond0_1 i) :
    sout0_A_0 c i p3 q3 p4 q4 p5 q5 p6 q6 hc0 hc1 x0 x1 = k0_pay2 k0_pay1 x0 x1 := by
  unfold sout0_A_0
  rw [View.read_writes_eq_canon _ _ _ (scover0_A_0 c i p3 q3 p4 q4 p5 q5 p6 q6 hc0 hc1 x0 x1)]
  unfold kernelRun0_A
  dsimp only
  sl_unfold_words
  rw [View.canon_cons_unit_zero (S := S1408x1024) hz, View.readCov_unit_zero (S := S1408x1024) _ hz]
  simp only [View.readAt_eq_ld, q3.read_unread, q4.read_unread, View.ld_unit_zero (S := S768x1408) hz, View.ld_unit_zero (S := S1408x1024) hz, View.ld_unit_zero (S := S768x1024) hz]

theorem scratch_B (hc0 : ¬cond0_0 i) (hc1 : ¬cond0_1 i) :
    sout0_B_0 c i p3 q3 p4 q4 p5 q5 p6 q6 hc0 hc1 x0 x1 xs0 = k0_pay2 xs0 x0 x1 := by
  unfold sout0_B_0
  rw [View.read_writes_eq_canon _ _ _ (scover0_B_0 c i p3 q3 p4 q4 p5 q5 p6 q6 hc0 hc1 x0 x1 xs0)]
  unfold kernelRun0_B
  dsimp only
  sl_unfold_words
  rw [View.canon_unit_zero (S := S1408x1024) hz]
  simp only [View.readAt_eq_ld, q3.read_unread, q4.read_unread, q6.read_unread, View.ld_unit_zero (S := S768x1408) hz, View.ld_unit_zero (S := S1408x1024) hz, View.ld_unit_zero (S := S768x1024) hz]

theorem scratch_C (hc0 : ¬cond0_0 i) (hc1 : cond0_1 i) :
    sout0_C_0 c i p3 q3 p4 q4 p5 q5 p6 q6 hc0 hc1 x0 x1 xs0 = k0_pay2 xs0 x0 x1 := by
  unfold sout0_C_0
  rw [View.read_writes_eq_canon _ _ _ (scover0_C_0 c i p3 q3 p4 q4 p5 q5 p6 q6 hc0 hc1 x0 x1 xs0)]
  unfold kernelRun0_C
  dsimp only
  sl_unfold_words
  rw [View.canon_unit_zero (S := S1408x1024) hz]
  simp only [View.readAt_eq_ld, q3.read_unread, q4.read_unread, q6.read_unread, View.ld_unit_zero (S := S768x1408) hz, View.ld_unit_zero (S := S1408x1024) hz, View.ld_unit_zero (S := S768x1024) hz]

theorem result_C (hc0 : ¬cond0_0 i) (hc1 : cond0_1 i) :
    out0_C_2 c i p3 q3 p4 q4 p5 q5 p6 q6 hc0 hc1 x0 x1 xs0 = k0_pay2 xs0 x0 x1 := by
  unfold out0_C_2
  rw [View.read_writes_eq_canon _ _ _ (cover0_C_2 c i p3 q3 p4 q4 p5 q5 p6 q6 hc0 hc1 x0 x1 xs0)]
  unfold kernelRun0_C
  dsimp only
  sl_unfold_words
  rw [View.canon_unit_zero (S := S1408x1024) hz, View.readCov_unit_zero (S := S1408x1024) _ hz]
  simp only [View.readAt_eq_ld, q3.read_unread, q4.read_unread, q6.read_unread, View.ld_unit_zero (S := S768x1408) hz, View.ld_unit_zero (S := S1408x1024) hz, View.ld_unit_zero (S := S768x1024) hz]

end

variable (m : (ℓ : Loc nD τ sig) → Buf (Elt Ideal) ℓ) (c : Dev nD)

section
variable (t : Fin cfg0.N)

theorem coords_0 : (grid0.coords t 0).val = 0 := by
  have e : (grid0.coords t 0).val < 1 := (grid0.coords t 0).isLt
  omega

theorem coords_1 : (grid0.coords t 1).val = t.val / 11 := by
  have h : t.val < 22 := t.isLt.trans_eq N_0
  have e : (grid0.coords t 1).val = t.val / 11 % 2 := Pipeline.Grid.coords_val t 1 (by decide) rfl
  omega

theorem coords_2 : (grid0.coords t 2).val = t.val % 11 := by
  have e : (grid0.coords t 2).val = t.val / 1 % 11 := Pipeline.Grid.coords_val t 2 (by decide) rfl
  omega

theorem word_2 : (BitVec.ofNat 32 (grid0.coords t 2).val).toNat = t.val % 11 := by
  have h : t.val < 22 := t.isLt.trans_eq N_0
  rw [coords_2, small_word (by omega)]

theorem word_1 : (BitVec.ofNat 32 (grid0.coords t 1).val).toNat = t.val / 11 := by
  have h : t.val < 22 := t.isLt.trans_eq N_0
  rw [coords_1, small_word (by omega)]

theorem word_0 : (BitVec.ofNat 32 (grid0.coords t 0).val).toNat = 0 := by
  have h : t.val < 22 := t.isLt.trans_eq N_0
  rw [coords_0, small_word (by omega)]

theorem index0 : win0_0.index t 0 = t.val % 11 ∧ win0_0.index t 1 = t.val / 11 := ⟨word_2 t, word_1 t⟩

theorem index1 : win0_1.index t 0 = t.val % 11 ∧ win0_1.index t 1 = 0 := ⟨word_2 t, word_0 t⟩

theorem index2 : win0_2.index t 0 = t.val / 11 ∧ win0_2.index t 1 = 0 := ⟨word_1 t, word_0 t⟩

end

/-- The two arrays the kernel multiplies hold these numbers. -/
structure Held (A B : ℕ → ℕ → EReal) : Prop where
  a : ∀ (k : Fin 8448) (r : Fin 2816), (V m c main_v1 : Vec Ideal S8448x2816 .bf16) (ix2 k r) = A k.val r.val
  b : ∀ (k : Fin 8448) (l : Fin 1024), (V m c main_v3 : Vec Ideal S8448x1024 .bf16) (ix2 k l) = B k.val l.val

variable {A B : ℕ → ℕ → EReal} (H : Held m c A B)
include H

theorem blk0 (t : Fin cfg0.N) (k : Fin 768) (r : Fin 1408) :
    (iblk m c 0 t : Vec Ideal S768x1408 .bf16) (ix2 k r) = A (t.val % 11 * 768 + k.val) (t.val / 11 * 1408 + r.val) := by
  have h : t.val < 22 := t.isLt.trans_eq N_0
  obtain ⟨i0, i1⟩ := index0 t
  unfold iblk
  rw [View.read_apply]
  refine Eq.trans ?_ (H.a ⟨t.val % 11 * 768 + k.val, by omega⟩ ⟨t.val / 11 * 1408 + r.val, by omega⟩)
  exact congrArg (V m c main_v1 : Vec Ideal S8448x2816 .bf16) (idx2 (tile i0) (tile i1))

theorem blk1 (t : Fin cfg0.N) (k : Fin 768) (l : Fin 1024) :
    (iblk m c 1 t : Vec Ideal S768x1024 .bf16) (ix2 k l) = B (t.val % 11 * 768 + k.val) l.val := by
  have h : t.val < 22 := t.isLt.trans_eq N_0
  obtain ⟨i0, i1⟩ := index1 t
  unfold iblk
  rw [View.read_apply]
  refine Eq.trans ?_ (H.b ⟨t.val % 11 * 768 + k.val, by omega⟩ l)
  exact congrArg (V m c main_v3 : Vec Ideal S8448x1024 .bf16) (idx2 (tile i0) (tile0 i1))

/-- One tile's step: the sum so far and the tile's products. -/
theorem step (t : Fin cfg0.N) (x : Vec Ideal S1408x1024 .f32) (r : Fin 1408) (l : Fin 1024)
    (hx : x (ix2 r l) = ∑ k ∈ Finset.range (t.val % 11 * 768), A k (t.val / 11 * 1408 + r.val) * B k l.val) :
    k0_pay2 x (iblk m c 0 t : Vec Ideal S768x1408 .bf16) (iblk m c 1 t : Vec Ideal S768x1024 .bf16) (ix2 r l)
      = ∑ k ∈ Finset.range (t.val % 11 * 768 + 768), A k (t.val / 11 * 1408 + r.val) * B k l.val := by
  rw [step_at, hx, Finset.sum_range_add, Finset.sum_range (fun k => A (t.val % 11 * 768 + k) (t.val / 11 * 1408 + r.val) * B (t.val % 11 * 768 + k) l.val)]
  simp only [blk0 m c H, blk1 m c H]

theorem scratch_at : ∀ (n : ℕ) (t : Fin cfg0.N), t.val = n → ∀ (r : Fin 1408) (l : Fin 1024), (outsAt0 m c t.val t.isLt).2 (ix2 r l)
    = ∑ k ∈ Finset.range (t.val % 11 * 768 + 768), A k (t.val / 11 * 1408 + r.val) * B k l.val := by
  intro n
  induction n with
  | zero =>
    intro t ht r l
    rw [outsAt0_A m c t (by omega) (by omega)]
    dsimp only
    rw [scratch_A]
    exact step m c H t _ r l (by rw [none_at, ht]; rfl)
  | succ n ih =>
    intro t ht r l
    have h : t.val < 22 := t.isLt.trans_eq N_0
    by_cases h0 : t.val % 11 = 0
    · rw [outsAt0_A m c t h0 (by omega)]
      dsimp only
      rw [scratch_A]
      exact step m c H t _ r l (by rw [none_at, h0]; rfl)
    · have e := ih ⟨t.val - 1, Nat.lt_of_le_of_lt (Nat.sub_le _ _) t.isLt⟩ (by dsimp only; omega) r l
      dsimp only at e
      rw [show (t.val - 1) % 11 * 768 + 768 = t.val % 11 * 768 by omega, show (t.val - 1) / 11 = t.val / 11 by omega] at e
      by_cases h1 : t.val % 11 = 10
      · rw [outsAt0_C m c t h0 h1]
        dsimp only
        rw [scratch_C]
        exact step m c H t _ r l e
      · rw [outsAt0_B m c t h0 h1]
        dsimp only
        rw [scratch_B]
        exact step m c H t _ r l e

theorem out_at (t : Fin cfg0.N) (h1 : t.val % 11 = 10) (r : Fin 1408) (l : Fin 1024) : (outsAt0 m c t.val t.isLt).1 (ix2 r l)
    = ∑ k ∈ Finset.range 8448, A k (t.val / 11 * 1408 + r.val) * B k l.val := by
  have s := scratch_at m c H t.val t rfl r l
  rw [outsAt0_C m c t (by omega) h1] at s ⊢
  dsimp only at s ⊢
  rw [scratch_C] at s
  rw [result_C, s, h1]

omit H in
/-- The product. -/
def prod (A B : ℕ → ℕ → EReal) : Vec Ideal S2816x1024 .f32 := fun i => ∑ k ∈ Finset.range 8448, A k (i 0).val * B k (i 1).val

theorem flushed (t : Fin cfg0.N) (hf : (cfg0.win 2).flush t = true) :
    (dats m 0 c).flushed 2 t = ((cfg0.win 2).blk t).view.read (Elt Ideal) (prod A B : Buf (Elt Ideal) ((c.tc : Thread nD τ).loc main_v4)) := by
  have ht : t.val < 22 := t.isLt.trans_eq N_0
  replace hf := (flush0_2 t).1 hf
  show (cfg0.win 2).cut (grid0.coords t) ((dats m 0 c).after 2 t) = _
  rw [after0_2]
  have L := out_at m c H t hf
  generalize outsAt0 m c t.val t.isLt = o at L ⊢
  obtain ⟨i0, i1⟩ := index2 t
  funext y
  rw [View.read_apply]
  let y' : S1408x1024.Idx := y
  have h0 : (y' 0).val < 1408 := (y' 0).isLt
  have h1 : (y' 1).val < 1024 := (y' 1).isLt
  show o.1 y' = (prod A B) _
  have e : ((cfg0.win 2).blk t).view.emb y = (ix2 (⟨t.val / 11 * 1408 + (y' 0).val, by omega⟩ : Fin 2816) (⟨(y' 1).val, by omega⟩ : Fin 1024) : S2816x1024.Idx) := idx2 (tile i0) (tile0 i1)
  have g : (prod A B) (ix2 (⟨t.val / 11 * 1408 + (y' 0).val, by omega⟩ : Fin 2816) (⟨(y' 1).val, by omega⟩ : Fin 1024)) = o.1 y' := by
    refine Eq.trans ?_ ((L (y' 0) (y' 1)).symm.trans (congrArg o.1 (eq_ix2 y').symm))
    unfold prod
    rfl
  exact (congrArg (prod A B) e |>.trans g).symm

theorem final : (dats m 0 c).arrAt 2 cfg0.N = (prod A B : Buf (Elt Ideal) ((c.tc : Thread nD τ).loc main_v4)) :=
  (dats m 0 c).arrAt_eq_of_cover 2 _ (flushed m c H) fun (i : S2816x1024.Idx) => by
    have h0 : (i 0).val < 2816 := (i 0).isLt
    have h1 : (i 1).val < 1024 := (i 1).isLt
    have hN : (i 0).val / 1408 * 11 + 10 < cfg0.N := by rw [show cfg0.N = 22 from N_0]; omega
    generalize ht : (⟨(i 0).val / 1408 * 11 + 10, hN⟩ : Fin cfg0.N) = t
    have hv : t.val = (i 0).val / 1408 * 11 + 10 := by rw [← ht]
    obtain ⟨i0, i1⟩ := index2 t
    refine ⟨t, (flush0_2 t).2 (by omega), ?_⟩
    show i ∈ ((View.whole main_v4).slice (win0_2.rect t)).set
    rw [View.set_slice_whole, Rect.mem_set_unit]
    exact all2 (cov (b := 1408) (x := (i 0).val) i0 (by omega)) (cov (b := 1024) (x := (i 1).val) i1 (by omega))
-- ==== Proof.Value3.lean ====
/-
  The weight gradient of the feed-forward layer's second product: the kernel's is the reference's.
-/
module
public import proofs.«01_k».proof.Proof.Prod3
public import proofs.«01_k».proof.Proof.Table
public import proofs.«01_k».proof.Proof.Gen.Reference3Ideal.Run
public import proofs.«01_k».proof.Proof.Gen.Reference3Ideal.Read
public import proofs.«01_k».proof.Defs

set_option maxRecDepth 8192
@[expose] public noncomputable section
namespace Cert.Kernel3Ideal.Prod
open Cert.Bwd (idx2 tab tab_at zero zero_at)
open Gen
open Idealize.ShloMosaic TcCoe Idealize.SL.Sem StableHlo

def arrA (x : FVec Ideal S8208x2816 .f32) : FVec Ideal S8448x2816 .bf16 :=
  truncf .bf16 (pad S8448x2816 ![240, 0] ![0, 0] ![0, 0] x zero pads_S8208x2816_S8448x2816_24000_000 h_S_) bitsLt_bf16_f32

def arrB (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

variable (m : (ℓ : Loc nD τ sig) → Buf (Elt Ideal) ℓ) (c : Dev nD)

theorem read_v1 : (V m c main_v1 : FVec Ideal S8448x2816 .bf16) = arrA (m ((c.tc : Thread nD τ).loc main_arg0)) := by
  show StableHlo.after _ _ (Proc.devRef .tc main_v1) = _
  after_reads_simp
  simp -implicitDefEqProofs only [TRef.toBuf, TRef.ofBuf, cast_cast, cast_eq]
  unfold arrA zero
  rfl

theorem read_v3 : (V m c main_v3 : FVec Ideal S8448x1024 .bf16) = arrB (m ((c.tc : Thread nD τ).loc main_arg1)) := by
  show StableHlo.after _ _ (Proc.devRef .tc main_v3) = _
  after_reads_simp
  simp -implicitDefEqProofs only [TRef.toBuf, TRef.ofBuf, cast_cast, cast_eq]
  unfold arrB zero
  rfl

theorem arrA_at (x : FVec Ideal S8208x2816 .f32) (k : Fin 8448) (r : Fin 2816) :
    arrA x (ix2 k r) = if k.val < 240 then 0 else tab x (k.val - 240) r.val := by
  pointwise [arrA]
  by_cases hr : k.val < 240
  · rw [dif_neg (by omega), if_pos hr, zero_at]
  · rw [dif_pos (by omega), if_neg hr]
    exact (tab_at x ⟨k.val - 240, by omega⟩ r).symm

theorem arrB_at (x : FVec Ideal S8208x1024 .f32) (k : Fin 8448) (l : Fin 1024) :
    arrB x (ix2 k l) = if k.val < 240 then 0 else tab x (k.val - 240) l.val := by
  pointwise [arrB]
  by_cases hr : k.val < 240
  · rw [dif_neg (by omega), if_pos hr, zero_at]
  · rw [dif_pos (by omega), if_neg hr]
    exact (tab_at x ⟨k.val - 240, by omega⟩ l).symm

abbrev in0 : FVec Ideal S8208x2816 .f32 := m ((c.tc : Thread nD τ).loc main_arg0)
abbrev in1 : FVec Ideal S8208x1024 .f32 := m ((c.tc : Thread nD τ).loc main_arg1)

abbrev numA (x : FVec Ideal S8208x2816 .f32) (k r : ℕ) : EReal := if k < 240 then 0 else tab x (k - 240) r
abbrev numB (x : FVec Ideal S8208x1024 .f32) (k l : ℕ) : EReal := if k < 240 then 0 else tab x (k - 240) l

theorem held : Held m c (numA (in0 m c)) (numB (in1 m c)) where
  a k r := (congrFun (read_v1 m c) (ix2 k r)).trans (arrA_at _ k r)
  b k l := (congrFun (read_v3 m c) (ix2 k l)).trans (arrB_at _ k l)

/-- The product without the rows of padding. -/
theorem prod_at (x : FVec Ideal S8208x2816 .f32) (y : FVec Ideal S8208x1024 .f32) (r : Fin 2816) (l : Fin 1024) :
    prod (numA x) (numB y) (ix2 r l) = ∑ k : Fin 8208, y (ix2 k l) * x (ix2 k r) := by
  show ∑ k ∈ Finset.range (240 + 8208), numA x k r.val * numB y k l.val = _
  rw [Finset.sum_range_add, Finset.sum_eq_zero (fun k hk => by unfold numA; rw [if_pos (Finset.mem_range.1 hk), zero_mul]), zero_add, Finset.sum_range]
  refine Finset.sum_congr rfl fun k _ => ?_
  unfold numA numB
  rw [if_neg (by omega), if_neg (by omega), Nat.add_sub_cancel_left, tab_at, tab_at, mul_comm]

theorem ref_at (x : FVec Ideal S8208x2816 .f32) (y : FVec Ideal S8208x1024 .f32) (r : Fin 2816) (l : Fin 1024) :
    Cert.Reference3Ideal.Read.val_main_v3 (F := Ideal) x y (ix2 r l) = ∑ k : Fin 8208, y (ix2 k l) * x (ix2 k r) := by
  rw [Cert.Reference3Ideal.Read.val_main_v3_apply, Cert.Reference3Ideal.Read.val_main_v2_apply]
  refine Finset.sum_congr rfl fun k _ => ?_
  congr 2 <;> exact idx2 rfl rfl

theorem value (x : FVec Ideal S8208x2816 .f32) (y : FVec Ideal S8208x1024 .f32) :
    prod (numA x) (numB y) = Cert.Reference3Ideal.Read.val_main_v3 (F := Ideal) x y :=
  funext fun i => (congrArg (prod (numA x) (numB y)) (eq_ix2 i)).trans ((prod_at x y (i 0) (i 1)).trans
    ((ref_at x y (i 0) (i 1)).symm.trans (congrArg (Cert.Reference3Ideal.Read.val_main_v3 (F := Ideal) x y) (eq_ix2 i)).symm))

theorem algebraic : Cert.algebraic_Kernel3Ideal_Reference3Ideal := by
  intro m g m' g' _ hargs
  refine ⟨fun c => prod (numA (in0 m c)) (numB (in1 m c)),
    (θ_run _ _ _).mono (fun r h c => ⟨((h.1 c).1 2).trans (final m c (held m c)), h.2 c⟩) (θ_run_and (run_main m g) (unchanged m g)),
    (θ_run _ _ _).mono (fun r h c => ?_) (Cert.Reference3Ideal.Value.run m' g')⟩
  obtain ⟨h3, hrest⟩ := h c
  obtain ⟨a0, a1⟩ := hargs c
  refine ⟨h3.trans ?_, hrest⟩
  rw [Cert.Reference3Ideal.Read.val_main_v3_eq, a0, a1]
  exact (value _ _).symm
-- ==== Proof.Norm.lean ====
/-
  The gradient of the feed-forward layer's input as the kernel computes it, 384 tokens at a time.
-/
module
public import proofs.«01_k».proof.Proof.Gen.Kernel4Ideal.Frame
public import proofs.«01_k».proof.Proof.Table

set_option maxRecDepth 65536
@[expose] public noncomputable section
namespace Cert.Kernel4Ideal.Norm
open Cert.Bwd (all2 cov idx2 tile tile0 hz small_word zero)
open Gen
open Idealize.ShloMosaic TcCoe Idealize.SL.Sem
open Pipeline (Dat)

def cN : EReal := Ideal.ofBits FTy.f32 0x44800000#32
def cE : EReal := Ideal.ofBits FTy.f32 0x358637BD#32
def cH : EReal := Ideal.ofBits FTy.f32 0xBF000000#32

/-- A row's mean square and the small constant. -/
def size (x : ℕ → EReal) : EReal := Ideal.div (∑ j : Fin 1024, x j.val * x j.val) cN + cE

/-- What the row is scaled by. -/
def scale (x : ℕ → EReal) : EReal := Ideal.rsqrt (size x)

/-- The gradient through the scale. -/
def slope (x d g : ℕ → EReal) : EReal :=
  Ideal.div ((∑ j : Fin 1024, x j.val * (d j.val * g j.val)) * (cH * Ideal.div (scale x) (size x))) cN

/-- An entry of the row's gradient, the residual's added last. -/
def entry (x d g res : ℕ → EReal) (l : ℕ) : EReal :=
  d l * g l * scale x + x l * slope x d g + slope x d g * x l + res l

/-- A row's part of the gain's gradient. -/
def part (x d : ℕ → EReal) (l : ℕ) : EReal := x l * scale x * d l

section
variable {a : Vec Ideal S384x5632 .bf16} {w : Vec Ideal S1024x5632 .bf16} {x : Vec Ideal S384x1024 .f32} {g : Vec Ideal S1x1024 .f32} {r : Fin 384}
  {xs ds gs : ℕ → EReal} (hd : ∀ l : Fin 1024, ∑ k : Fin 5632, a (ix2 r k) * w (ix2 l k) = ds l.val)
  (hx : ∀ l : Fin 1024, x (ix2 r l) = xs l.val) (hg : ∀ l : Fin 1024, g (ix2 0 l) = gs l.val)

include hd in
theorem prod_at (l : Fin 1024) : k0_pay5 a w (ix2 r l) = ds l.val := by
  rw [← hd]
  pointwise [k0_pay5]

include hx in
theorem row_at (l : Fin 1024) : k0_pay6 x (ix2 r l) = xs l.val := by
  rw [← hx]
  pointwise [k0_pay6]

include hx in
theorem size_at (z : Fin 1) : k0_pay7 x (ix2 r z) = size xs := by
  pointwise [k0_pay7]
  simp only [row_at hx]
  rfl

include hx in
theorem scale_at (z : Fin 1) : k0_pay8 x (ix2 r z) = scale xs := by
  pointwise [k0_pay8]
  rw [size_at hx]
  rfl

include hd hg in
theorem gained_at (l : Fin 1024) : k0_pay10 a w g (ix2 r l) = ds l.val * gs l.val := by
  pointwise [k0_pay10]
  rw [prod_at hd, hg]

include hd hx hg in
theorem first_at (l : Fin 1024) : k0_pay11 a w x g (ix2 r l) = ds l.val * gs l.val * scale xs := by
  pointwise [k0_pay11]
  rw [gained_at hd hg, scale_at hx]

include hd hx hg in
theorem slope_at : k0_pay12 a w x g (ix1 r) = slope xs ds gs := by
  pointwise [k0_pay12]
  simp only [row_at hx, gained_at hd hg, scale_at hx, size_at hx]
  rw [Fin.sum_univ_one]
  rfl

include hd hx hg in
theorem entry_at {res : Vec Ideal S384x1024 .f32} {rs : ℕ → EReal} (hr : ∀ l : Fin 1024, res (ix2 r l) = rs l.val) (l : Fin 1024) :
    k0_pay1 (k0_pay6 x) (k0_pay11 a w x g) (k0_pay12 a w x g) res (ix2 r l) = entry xs ds gs rs l.val := by
  have e6 := row_at hx l
  have e11 := first_at hd hx hg l
  have e12 := slope_at hd hx hg
  generalize k0_pay6 x = p at e6 ⊢
  generalize k0_pay11 a w x g = q at e11 ⊢
  generalize k0_pay12 a w x g = s at e12 ⊢
  pointwise [k0_pay1]
  rw [e6, e11, e12, hr]
  rfl

end

section
variable {a : Vec Ideal S384x5632 .bf16} {w : Vec Ideal S1024x5632 .bf16} {x : Vec Ideal S384x1024 .f32}
  {xs ds : ℕ → ℕ → EReal} (hd : ∀ (r : Fin 384) (l : Fin 1024), ∑ k : Fin 5632, a (ix2 r k) * w (ix2 l k) = ds r.val l.val)
  (hx : ∀ (r : Fin 384) (l : Fin 1024), x (ix2 r l) = xs r.val l.val)

include hd hx in
theorem part_at (z : Fin 1) (l : Fin 1024) : k0_pay9 a w x (ix2 z l) = ∑ r : Fin 384, part (xs r.val) (ds r.val) l.val := by
  pointwise [k0_pay9]
  refine Finset.sum_congr rfl fun r _ => ?_
  rw [row_at (hx r), scale_at (hx r), prod_at (hd r)]
  rfl

theorem more_at (v : Vec Ideal S1x1024 .f32) (z : Fin 1) (l : Fin 1024) : k0_pay3 (k0_pay9 a w x) v (ix2 z l) = v (ix2 z l) + k0_pay9 a w x (ix2 z l) := by
  generalize k0_pay9 a w x = p
  pointwise [k0_pay3]

theorem none_at (z : Fin 1) (l : Fin 1024) : (k0_pay4 (F := Ideal)) (ix2 z l) = 0 := by
  pointwise [k0_pay4]

end

section
variable (c : Dev nD) (i : grid0.Coords) (p1 : Memref sig .tc .vmem S384x5632 .bf16) (q1 : p1.IsWhole) (p2 : Memref sig .tc .vmem S1024x5632 .bf16) (q2 : p2.IsWhole) (p3 : Memref sig .tc .vmem S384x1024 .f32) (q3 : p3.IsWhole) (p4 : Memref sig .tc .vmem S1x1024 .f32) (q4 : p4.IsWhole) (p5 : Memref sig .tc .vmem S384x1024 .f32) (q5 : p5.IsWhole) (p6 : Memref sig .tc .vmem S384x1024 .f32) (q6 : p6.IsWhole) (p7 : Memref sig .tc .vmem S384x1024 .bf16) (q7 : p7.IsWhole) (p8 : Memref sig .tc .vmem S1x1024 .f32) (q8 : p8.IsWhole)
  (x0 : Vec Ideal S384x5632 .bf16) (x1 : Vec Ideal S1024x5632 .bf16) (x2 : Vec Ideal S384x1024 .f32) (x3 : Vec Ideal S1x1024 .f32) (x4 : Vec Ideal S384x1024 .f32) (xo7 : Vec Ideal S1x1024 .f32)

theorem grad_A (hc0 : cond0_0 i) :
    out0_A_5 c i p1 q1 p2 q2 p3 q3 p4 q4 p5 q5 p6 q6 p7 q7 p8 q8 hc0 x0 x1 x2 x3 x4 = k0_pay1 (k0_pay6 x2) (k0_pay11 x0 x1 x2 x3) (k0_pay12 x0 x1 x2 x3) x4 := by
  unfold out0_A_5
  rw [View.read_writes_eq_canon _ _ _ (cover0_A_5 c i p1 q1 p2 q2 p3 q3 p4 q4 p5 q5 p6 q6 p7 q7 p8 q8 hc0 x0 x1 x2 x3 x4)]
  unfold kernelRun0_A
  dsimp only
  sl_unfold_words
  rw [View.canon_unit_zero (S := S384x1024) hz]
  simp only [View.readAt_eq_ld, q1.read_unread, q2.read_unread, q3.read_unread, q4.read_unread, q5.read_unread, q8.read_unread, View.ld_unit_zero (S := S384x5632) hz, View.ld_unit_zero (S := S1024x5632) hz, View.ld_unit_zero (S := S384x1024) hz, View.ld_unit_zero (S := S1x1024) hz]

theorem gain_A (hc0 : cond0_0 i) :
    out0_A_7 c i p1 q1 p2 q2 p3 q3 p4 q4 p5 q5 p6 q6 p7 q7 p8 q8 hc0 x0 x1 x2 x3 x4 = k0_pay3 (k0_pay9 x0 x1 x2) (k0_pay4 (F := Ideal)) := by
  unfold out0_A_7
  rw [View.read_writes_eq_canon _ _ _ (cover0_A_7 c i p1 q1 p2 q2 p3 q3 p4 q4 p5 q5 p6 q6 p7 q7 p8 q8 hc0 x0 x1 x2 x3 x4)]
  unfold kernelRun0_A
  dsimp only
  sl_unfold_words
  rw [View.canon_cons_unit_zero (S := S1x1024) hz, View.readCov_unit_zero (S := S1x1024) _ hz]
  simp only [View.readAt_eq_ld, q1.read_unread, q2.read_unread, q3.read_unread, q4.read_unread, q5.read_unread, q8.read_unread, View.ld_unit_zero (S := S384x5632) hz, View.ld_unit_zero (S := S1024x5632) hz, View.ld_unit_zero (S := S384x1024) hz, View.ld_unit_zero (S := S1x1024) hz]

theorem grad_B (hc0 : ¬cond0_0 i) :
    out0_B_5 c i p1 q1 p2 q2 p3 q3 p4 q4 p5 q5 p6 q6 p7 q7 p8 q8 hc0 x0 x1 x2 x3 x4 xo7 = k0_pay1 (k0_pay6 x2) (k0_pay11 x0 x1 x2 x3) (k0_pay12 x0 x1 x2 x3) x4 := by
  unfold out0_B_5
  rw [View.read_writes_eq_canon _ _ _ (cover0_B_5 c i p1 q1 p2 q2 p3 q3 p4 q4 p5 q5 p6 q6 p7 q7 p8 q8 hc0 x0 x1 x2 x3 x4 xo7)]
  unfold kernelRun0_B
  dsimp only
  sl_unfold_words
  rw [View.canon_unit_zero (S := S384x1024) hz]
  simp only [View.readAt_eq_ld, q1.read_unread, q2.read_unread, q3.read_unread, q4.read_unread, q5.read_unread, q8.read_unread, View.ld_unit_zero (S := S384x5632) hz, View.ld_unit_zero (S := S1024x5632) hz, View.ld_unit_zero (S := S384x1024) hz, View.ld_unit_zero (S := S1x1024) hz]

theorem gain_B (hc0 : ¬cond0_0 i) :
    out0_B_7 c i p1 q1 p2 q2 p3 q3 p4 q4 p5 q5 p6 q6 p7 q7 p8 q8 hc0 x0 x1 x2 x3 x4 xo7 = k0_pay3 (k0_pay9 x0 x1 x2) xo7 := by
  unfold out0_B_7
  rw [View.read_writes_eq_canon _ _ _ (cover0_B_7 c i p1 q1 p2 q2 p3 q3 p4 q4 p5 q5 p6 q6 p7 q7 p8 q8 hc0 x0 x1 x2 x3 x4 xo7)]
  unfold kernelRun0_B
  dsimp only
  sl_unfold_words
  rw [View.canon_unit_zero (S := S1x1024) hz]
  simp only [View.readAt_eq_ld, q1.read_unread, q2.read_unread, q3.read_unread, q4.read_unread, q5.read_unread, q8.read_unread, View.ld_unit_zero (S := S384x5632) hz, View.ld_unit_zero (S := S1024x5632) hz, View.ld_unit_zero (S := S384x1024) hz, View.ld_unit_zero (S := S1x1024) hz]

end

variable (m : (ℓ : Loc nD τ sig) → Buf (Elt Ideal) ℓ) (c : Dev nD)

section
variable (t : Fin cfg0.N)

theorem coords_0 : (grid0.coords t 0).val = t.val := by
  have h : t.val < 22 := t.isLt.trans_eq N_0
  have e : (grid0.coords t 0).val = t.val / 1 % 22 := Pipeline.Grid.coords_val t 0 (by decide) rfl
  omega

theorem word_0 : (BitVec.ofNat 32 (grid0.coords t 0).val).toNat = t.val := by
  have h : t.val < 22 := t.isLt.trans_eq N_0
  rw [coords_0, small_word (by omega)]

theorem index0 : win0_0.index t 0 = t.val ∧ win0_0.index t 1 = 0 := ⟨word_0 t, rfl⟩

theorem index1 : win0_1.index t 0 = 0 ∧ win0_1.index t 1 = 0 := ⟨rfl, rfl⟩

theorem index2 : win0_2.index t 0 = t.val ∧ win0_2.index t 1 = 0 := ⟨word_0 t, rfl⟩

theorem index3 : win0_3.index t 0 = 0 ∧ win0_3.index t 1 = 0 := ⟨rfl, rfl⟩

theorem index4 : win0_4.index t 0 = t.val ∧ win0_4.index t 1 = 0 := ⟨word_0 t, rfl⟩

theorem index5 : win0_5.index t 0 = t.val ∧ win0_5.index t 1 = 0 := ⟨word_0 t, rfl⟩

theorem index7 : win0_7.index t 0 = 0 ∧ win0_7.index t 1 = 0 := ⟨rfl, rfl⟩

end

abbrev tileA (t : Fin cfg0.N) : Vec Ideal S384x5632 .bf16 := iblk m c 0 t
abbrev tileW (t : Fin cfg0.N) : Vec Ideal S1024x5632 .bf16 := iblk m c 1 t

/-- The kernel's five arrays hold these numbers. -/
structure Held (A W X : ℕ → ℕ → EReal) (G : ℕ → EReal) (R : ℕ → ℕ → EReal) : Prop where
  a : ∀ (r : Fin 8448) (k : Fin 5632), (V m c main_v1 : Vec Ideal S8448x5632 .bf16) (ix2 r k) = A r.val k.val
  w : ∀ (l : Fin 1024) (k : Fin 5632), (V m c main_v2 : Vec Ideal S1024x5632 .bf16) (ix2 l k) = W l.val k.val
  x : ∀ (r : Fin 8448) (l : Fin 1024), (V m c main_v3 : Vec Ideal S8448x1024 .f32) (ix2 r l) = X r.val l.val
  g : ∀ (z : Fin 1) (l : Fin 1024), (V m c main_v4 : Vec Ideal S1x1024 .f32) (ix2 z l) = G l.val
  r : ∀ (r : Fin 8448) (l : Fin 1024), (V m c main_v5 : Vec Ideal S8448x1024 .f32) (ix2 r l) = R r.val l.val

variable {A W X : ℕ → ℕ → EReal} {G : ℕ → EReal} {R : ℕ → ℕ → EReal} (H : Held m c A W X G R)
include H

theorem blk0 (t : Fin cfg0.N) (r : Fin 384) (k : Fin 5632) :
    (iblk m c 0 t : Vec Ideal S384x5632 .bf16) (ix2 r k) = A (t.val * 384 + r.val) k.val := by
  have h : t.val < 22 := t.isLt.trans_eq N_0
  obtain ⟨i0, i1⟩ := index0 t
  unfold iblk
  rw [View.read_apply]
  refine Eq.trans ?_ (H.a ⟨t.val * 384 + r.val, by omega⟩ k)
  exact congrArg (V m c main_v1 : Vec Ideal S8448x5632 .bf16) (idx2 (tile i0) (tile0 i1))

theorem blk1 (t : Fin cfg0.N) (r : Fin 1024) (k : Fin 5632) :
    (iblk m c 1 t : Vec Ideal S1024x5632 .bf16) (ix2 r k) = W r.val k.val := by
  have h : t.val < 22 := t.isLt.trans_eq N_0
  obtain ⟨i0, i1⟩ := index1 t
  unfold iblk
  rw [View.read_apply]
  refine Eq.trans ?_ (H.w r k)
  exact congrArg (V m c main_v2 : Vec Ideal S1024x5632 .bf16) (idx2 (tile0 i0) (tile0 i1))

theorem blk2 (t : Fin cfg0.N) (r : Fin 384) (k : Fin 1024) :
    (iblk m c 2 t : Vec Ideal S384x1024 .f32) (ix2 r k) = X (t.val * 384 + r.val) k.val := by
  have h : t.val < 22 := t.isLt.trans_eq N_0
  obtain ⟨i0, i1⟩ := index2 t
  unfold iblk
  rw [View.read_apply]
  refine Eq.trans ?_ (H.x ⟨t.val * 384 + r.val, by omega⟩ k)
  exact congrArg (V m c main_v3 : Vec Ideal S8448x1024 .f32) (idx2 (tile i0) (tile0 i1))

theorem blk3 (t : Fin cfg0.N) (r : Fin 1) (k : Fin 1024) :
    (iblk m c 3 t : Vec Ideal S1x1024 .f32) (ix2 r k) = G k.val := by
  have h : t.val < 22 := t.isLt.trans_eq N_0
  obtain ⟨i0, i1⟩ := index3 t
  unfold iblk
  rw [View.read_apply]
  refine Eq.trans ?_ (H.g r k)
  exact congrArg (V m c main_v4 : Vec Ideal S1x1024 .f32) (idx2 (tile0 i0) (tile0 i1))

theorem blk4 (t : Fin cfg0.N) (r : Fin 384) (k : Fin 1024) :
    (iblk m c 4 t : Vec Ideal S384x1024 .f32) (ix2 r k) = R (t.val * 384 + r.val) k.val := by
  have h : t.val < 22 := t.isLt.trans_eq N_0
  obtain ⟨i0, i1⟩ := index4 t
  unfold iblk
  rw [View.read_apply]
  refine Eq.trans ?_ (H.r ⟨t.val * 384 + r.val, by omega⟩ k)
  exact congrArg (V m c main_v5 : Vec Ideal S8448x1024 .f32) (idx2 (tile i0) (tile0 i1))

omit H in
/-- The layer's gradient before the gain. -/
def dn (A W : ℕ → ℕ → EReal) (i l : ℕ) : EReal := ∑ k : Fin 5632, A i k.val * W l k.val

theorem tile_prod (t : Fin cfg0.N) (r : Fin 384) (l : Fin 1024) :
    ∑ k : Fin 5632, tileA m c t (ix2 r k) * tileW m c t (ix2 l k) = dn A W (t.val * 384 + r.val) l.val :=
  Finset.sum_congr rfl fun k _ => congrArg₂ (· * ·) (blk0 m c H t r k) (blk1 m c H t l k)

theorem tile_grad (t : Fin cfg0.N) (r : Fin 384) (l : Fin 1024) : (outsAt0 m c t.val t.isLt).1 (ix2 r l)
    = entry (X (t.val * 384 + r.val)) (dn A W (t.val * 384 + r.val)) G (R (t.val * 384 + r.val)) l.val := by
  have e := entry_at (a := iblk m c 0 t) (w := iblk m c 1 t) (x := iblk m c 2 t) (g := iblk m c 3 t) (r := r)
    (tile_prod m c H t r) (blk2 m c H t r) (blk3 m c H t 0) (res := iblk m c 4 t) (blk4 m c H t r) l
  by_cases h0 : t.val % 22 = 0
  · rw [outsAt0_A m c t h0]
    dsimp only
    rw [grad_A]
    exact e
  · rw [outsAt0_B m c t h0]
    dsimp only
    rw [grad_B]
    exact e

theorem tile_gain (t : Fin cfg0.N) (z : Fin 1) (l : Fin 1024) :
    k0_pay9 (iblk m c 0 t : Vec Ideal S384x5632 .bf16) (iblk m c 1 t : Vec Ideal S1024x5632 .bf16) (iblk m c 2 t : Vec Ideal S384x1024 .f32) (ix2 z l)
      = ∑ r ∈ Finset.range 384, part (X (t.val * 384 + r)) (dn A W (t.val * 384 + r)) l.val :=
  (part_at (a := iblk m c 0 t) (w := iblk m c 1 t) (x := iblk m c 2 t) (xs := fun r => X (t.val * 384 + r)) (ds := fun r => dn A W (t.val * 384 + r))
    (tile_prod m c H t) (blk2 m c H t) z l).trans
    (Finset.sum_range (fun r => part (X (t.val * 384 + r)) (dn A W (t.val * 384 + r)) l.val)).symm

theorem gain_at : ∀ (n : ℕ) (t : Fin cfg0.N), t.val = n → ∀ (z : Fin 1) (l : Fin 1024), (outsAt0 m c t.val t.isLt).2.2 (ix2 z l)
    = ∑ i ∈ Finset.range (t.val * 384 + 384), part (X i) (dn A W i) l.val := by
  intro n
  induction n with
  | zero =>
    intro t ht z l
    rw [outsAt0_A m c t (by omega)]
    dsimp only
    rw [gain_A, more_at, none_at, zero_add, tile_gain m c H, ht]
    simp only [Nat.zero_mul, Nat.zero_add]
  | succ n ih =>
    intro t ht z l
    have h : t.val < 22 := t.isLt.trans_eq N_0
    have e := ih ⟨t.val - 1, Nat.lt_of_le_of_lt (Nat.sub_le _ _) t.isLt⟩ (by dsimp only; omega) z l
    dsimp only at e
    rw [show (t.val - 1) * 384 + 384 = t.val * 384 by omega] at e
    rw [outsAt0_B m c t (by omega)]
    dsimp only
    rw [gain_B, more_at, e, tile_gain m c H, Finset.sum_range_add]

omit H in
/-- The array of the tokens' gradients. -/
def grad (A W X : ℕ → ℕ → EReal) (G : ℕ → EReal) (R : ℕ → ℕ → EReal) : Vec Ideal S8448x1024 .f32 :=
  fun i => entry (X (i 0).val) (dn A W (i 0).val) G (R (i 0).val) (i 1).val

omit H in
/-- The gain's gradient. -/
def gain (A W X : ℕ → ℕ → EReal) : Vec Ideal S1x1024 .f32 :=
  fun i => ∑ j ∈ Finset.range 8448, part (X j) (dn A W j) (i 1).val

theorem flushed5 (t : Fin cfg0.N) (_ : (cfg0.win 5).flush t = true) :
    (dats m 0 c).flushed 5 t = ((cfg0.win 5).blk t).view.read (Elt Ideal) (grad A W X G R : Buf (Elt Ideal) ((c.tc : Thread nD τ).loc main_v6_0)) := by
  have ht : t.val < 22 := t.isLt.trans_eq N_0
  show (cfg0.win 5).cut (grid0.coords t) ((dats m 0 c).after 5 t) = _
  rw [after0_5]
  have L := tile_grad m c H t
  generalize outsAt0 m c t.val t.isLt = o at L ⊢
  obtain ⟨i0, i1⟩ := index5 t
  funext y
  rw [View.read_apply]
  let y' : S384x1024.Idx := y
  have h0 : (y' 0).val < 384 := (y' 0).isLt
  have h1 : (y' 1).val < 1024 := (y' 1).isLt
  show o.1 y' = (grad A W X G R) _
  have e : ((cfg0.win 5).blk t).view.emb y = (ix2 (⟨t.val * 384 + (y' 0).val, by omega⟩ : Fin 8448) (⟨(y' 1).val, by omega⟩ : Fin 1024) : S8448x1024.Idx) := idx2 (tile i0) (tile0 i1)
  have g : (grad A W X G R) (ix2 (⟨t.val * 384 + (y' 0).val, by omega⟩ : Fin 8448) (⟨(y' 1).val, by omega⟩ : Fin 1024)) = o.1 y' := by
    refine Eq.trans ?_ ((L (y' 0) (y' 1)).symm.trans (congrArg o.1 (eq_ix2 y').symm))
    unfold grad
    rfl
  exact (congrArg (grad A W X G R) e |>.trans g).symm

theorem final5 : (dats m 0 c).arrAt 5 cfg0.N = (grad A W X G R : Buf (Elt Ideal) ((c.tc : Thread nD τ).loc main_v6_0)) :=
  (dats m 0 c).arrAt_eq_of_cover 5 _ (flushed5 m c H) fun (i : S8448x1024.Idx) => by
    have h0 : (i 0).val < 8448 := (i 0).isLt
    have h1 : (i 1).val < 1024 := (i 1).isLt
    have hN : (i 0).val / 384 < cfg0.N := by rw [show cfg0.N = 22 from N_0]; omega
    generalize ht : (⟨(i 0).val / 384, hN⟩ : Fin cfg0.N) = t
    have hv : t.val = (i 0).val / 384 := by rw [← ht]
    obtain ⟨i0, i1⟩ := index5 t
    refine ⟨t, flush0_5 t, ?_⟩
    show i ∈ ((View.whole main_v6_0).slice (win0_5.rect t)).set
    rw [View.set_slice_whole, Rect.mem_set_unit]
    exact all2 (cov (b := 384) (x := (i 0).val) i0 (by omega)) (cov (b := 1024) (x := (i 1).val) i1 (by omega))

theorem flushed7 (t : Fin cfg0.N) (hf : (cfg0.win 7).flush t = true) :
    (dats m 0 c).flushed 7 t = ((cfg0.win 7).blk t).view.read (Elt Ideal) (gain A W X : Buf (Elt Ideal) ((c.tc : Thread nD τ).loc main_v6_2)) := by
  have ht : t.val < 22 := t.isLt.trans_eq N_0
  replace hf := (flush0_7 t).1 hf
  show (cfg0.win 7).cut (grid0.coords t) ((dats m 0 c).after 7 t) = _
  rw [after0_7]
  have L := gain_at m c H t.val t rfl
  rw [show t.val * 384 + 384 = 8448 by omega] at L
  generalize outsAt0 m c t.val t.isLt = o at L ⊢
  obtain ⟨i0, i1⟩ := index7 t
  funext y
  rw [View.read_apply]
  let y' : S1x1024.Idx := y
  have h0 : (y' 0).val < 1 := (y' 0).isLt
  have h1 : (y' 1).val < 1024 := (y' 1).isLt
  show o.2.2 y' = (gain A W X) _
  have e : ((cfg0.win 7).blk t).view.emb y = (ix2 (⟨(y' 0).val, by omega⟩ : Fin 1) (⟨(y' 1).val, by omega⟩ : Fin 1024) : S1x1024.Idx) := idx2 (tile0 i0) (tile0 i1)
  have g : (gain A W X) (ix2 (⟨(y' 0).val, by omega⟩ : Fin 1) (⟨(y' 1).val, by omega⟩ : Fin 1024)) = o.2.2 y' := by
    refine Eq.trans ?_ ((L (y' 0) (y' 1)).symm.trans (congrArg o.2.2 (eq_ix2 y').symm))
    unfold gain
    rfl
  exact (congrArg (gain A W X) e |>.trans g).symm

theorem final7 : (dats m 0 c).arrAt 7 cfg0.N = (gain A W X : Buf (Elt Ideal) ((c.tc : Thread nD τ).loc main_v6_2)) :=
  (dats m 0 c).arrAt_eq_of_cover 7 _ (flushed7 m c H) fun (i : S1x1024.Idx) => by
    have h0 : (i 0).val < 1 := (i 0).isLt
    have h1 : (i 1).val < 1024 := (i 1).isLt
    have hN : 21 < cfg0.N := by rw [show cfg0.N = 22 from N_0]; omega
    generalize ht : (⟨21, hN⟩ : Fin cfg0.N) = t
    have hv : t.val = 21 := by rw [← ht]
    obtain ⟨i0, i1⟩ := index7 t
    refine ⟨t, (flush0_7 t).2 (by omega), ?_⟩
    show i ∈ ((View.whole main_v6_2).slice (win0_7.rect t)).set
    rw [View.set_slice_whole, Rect.mem_set_unit]
    exact all2 (cov (b := 1) (x := (i 0).val) i0 (by omega)) (cov (b := 1024) (x := (i 1).val) i1 (by omega))
-- ==== Proof.Value4.lean ====
/-
  The gradient of the feed-forward layer's input: the kernel's is the reference's.
-/
module
public import proofs.«01_k».proof.Proof.Norm
public import proofs.«01_k».proof.Proof.Table
public import proofs.«01_k».proof.Proof.Gen.Kernel4Ideal.Run
public import proofs.«01_k».proof.Proof.Gen.Reference4Ideal.Run
public import proofs.«01_k».proof.Proof.Gen.Reference4Ideal.Read
public import proofs.«01_k».proof.Defs

set_option maxRecDepth 8192
@[expose] public noncomputable section
namespace Cert.Kernel4Ideal.Norm
open Cert.Bwd (idx2 tab tab_at zero zero_at low low_row low_pad col col_at none_host)
open Gen
open Idealize.ShloMosaic TcCoe Idealize.SL.Sem StableHlo

def arrA (x : FVec Ideal S8208x5632 .f32) : FVec Ideal S8448x5632 .bf16 :=
  truncf .bf16 (pad S8448x5632 ![240, 0] ![0, 0] ![0, 0] x zero pads_S8208x5632_S8448x5632_24000_000 h_S_) bitsLt_bf16_f32

def arrW (x : FVec Ideal S1024x5632 .f32) : FVec Ideal S1024x5632 .bf16 := truncf .bf16 x bitsLt_bf16_f32

def arrX (x : FVec Ideal S8208x1024 .f32) : FVec Ideal S8448x1024 .f32 :=
  pad S8448x1024 ![240, 0] ![0, 0] ![0, 0] x zero pads_S8208x1024_S8448x1024_24000_000 h_S_

def arrG (x : FVec Ideal S1024 .f32) : FVec Ideal S1x1024 .f32 := shapeCast S1x1024 x shapeCasts_S1024_S1x1024

variable (m : (ℓ : Loc nD τ sig) → Buf (Elt Ideal) ℓ) (c : Dev nD)

theorem read_v1 : (V m c main_v1 : FVec Ideal S8448x5632 .bf16) = arrA (m ((c.tc : Thread nD τ).loc main_arg3)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S1024x5632 .bf16) = arrW (m ((c.tc : Thread nD τ).loc main_arg2)) := by
  show StableHlo.after _ _ (Proc.devRef .tc main_v2) = _
  after_reads_simp
  unfold arrW
  rfl

theorem read_v3 : (V m c main_v3 : FVec Ideal S8448x1024 .f32) = arrX (m ((c.tc : Thread nD τ).loc main_arg0)) := by
  show StableHlo.after _ _ (Proc.devRef .tc main_v3) = _
  after_reads_simp
  simp -implicitDefEqProofs only [TRef.toBuf, TRef.ofBuf, cast_cast, cast_eq]
  unfold arrX zero
  rfl

theorem read_v4 : (V m c main_v4 : FVec Ideal S1x1024 .f32) = arrG (m ((c.tc : Thread nD τ).loc main_arg1)) := by
  show StableHlo.after _ _ (Proc.devRef .tc main_v4) = _
  after_reads_simp
  unfold arrG
  rfl

theorem read_v5 : (V m c main_v5 : FVec Ideal S8448x1024 .f32) = arrX (m ((c.tc : Thread nD τ).loc main_arg4)) := by
  show StableHlo.after _ _ (Proc.devRef .tc main_v5) = _
  after_reads_simp
  simp -implicitDefEqProofs only [TRef.toBuf, TRef.ofBuf, cast_cast, cast_eq]
  unfold arrX zero
  rfl

theorem arrA_at (x : FVec Ideal S8208x5632 .f32) (r : Fin 8448) (k : Fin 5632) :
    arrA x (ix2 r k) = if r.val < 240 then 0 else tab x (r.val - 240) k.val := by
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S1024x5632 .f32) (l : Fin 1024) (k : Fin 5632) : arrW x (ix2 l k) = tab x l.val k.val :=
  (tab_at x l k).symm

theorem arrX_at (x : FVec Ideal S8208x1024 .f32) (r : Fin 8448) (l : Fin 1024) :
    arrX x (ix2 r l) = if r.val < 240 then 0 else tab x (r.val - 240) l.val := by
  pointwise [arrX]
  by_cases hr : r.val < 240
  · rw [dif_neg (by omega), if_pos hr, zero_at]
  · rw [dif_pos (by omega), if_neg hr]
    exact (tab_at x ⟨r.val - 240, by omega⟩ l).symm

theorem arrG_at (x : FVec Ideal S1024 .f32) (z : Fin 1) (l : Fin 1024) : arrG x (ix2 z l) = col x l.val := by
  rw [col_at]
  pointwise [arrG]

abbrev in0 : FVec Ideal S8208x1024 .f32 := m ((c.tc : Thread nD τ).loc main_arg0)
abbrev in1 : FVec Ideal S1024 .f32 := m ((c.tc : Thread nD τ).loc main_arg1)
abbrev in2 : FVec Ideal S1024x5632 .f32 := m ((c.tc : Thread nD τ).loc main_arg2)
abbrev in3 : FVec Ideal S8208x5632 .f32 := m ((c.tc : Thread nD τ).loc main_arg3)
abbrev in4 : FVec Ideal S8208x1024 .f32 := m ((c.tc : Thread nD τ).loc main_arg4)

theorem held : Held m c (low (in3 m c)) (tab (in2 m c)) (low (in0 m c)) (col (in1 m c)) (low (in4 m c)) where
  a r k := (congrFun (read_v1 m c) (ix2 r k)).trans (arrA_at _ r k)
  w l k := (congrFun (read_v2 m c) (ix2 l k)).trans (arrW_at _ l k)
  x r l := (congrFun (read_v3 m c) (ix2 r l)).trans (arrX_at _ r l)
  g z l := (congrFun (read_v4 m c) (ix2 z l)).trans (arrG_at _ z l)
  r r l := (congrFun (read_v5 m c) (ix2 r l)).trans (arrX_at _ r l)

/-- The array without the rows of padding. -/
def cutout (y : Vec Ideal S8448x1024 .f32) : FVec Ideal S8208x1024 .f32 :=
  extractStridedSlice S8208x1024 ![240, 0] y slices_S8448x1024_S8208x1024_240_0

def flat (y : Vec Ideal S1x1024 .f32) : FVec Ideal S1024 .f32 := shapeCast S1024 y shapeCasts_S1x1024_S1024

section
variable (x : FVec Ideal S8208x1024 .f32) (g : FVec Ideal S1024 .f32) (w : FVec Ideal S1024x5632 .f32) (ct : FVec Ideal S8208x5632 .f32)
  (res : FVec Ideal S8208x1024 .f32)

theorem low_dn (r : ℕ) : dn (low ct) (tab w) (240 + r) = dn (tab ct) (tab w) r := by
  funext l
  unfold dn
  rw [low_row]

theorem grad_at (r : Fin 8208) (l : Fin 1024) : cutout (grad (low ct) (tab w) (low x) (col g) (low res)) (ix2 r l)
    = entry (tab x r.val) (dn (tab ct) (tab w) r.val) (col g) (tab res r.val) l.val := by
  have e : cutout (grad (low ct) (tab w) (low x) (col g) (low res)) (ix2 r l) = grad (low ct) (tab w) (low x) (col g) (low res) (ix2 (⟨240 + r.val, by omega⟩ : Fin 8448) l) := by
    generalize grad (low ct) (tab w) (low x) (col g) (low res) = y
    pointwise [cutout]
  rw [e]
  show entry (low x (240 + r.val)) (dn (low ct) (tab w) (240 + r.val)) (col g) (low res (240 + r.val)) l.val = _
  rw [low_row, low_row, low_dn]

theorem part_pad {r : ℕ} (h : r < 240) (l : ℕ) : part (low x r) (dn (low ct) (tab w) r) l = 0 := by
  unfold part
  rw [low_pad x h, zero_mul, zero_mul]

theorem gain_flat (l : Fin 1024) : flat (gain (low ct) (tab w) (low x)) (ix1 l) = ∑ r : Fin 8208, part (tab x r.val) (dn (tab ct) (tab w) r.val) l.val := by
  have e : flat (gain (low ct) (tab w) (low x)) (ix1 l) = gain (low ct) (tab w) (low x) (ix2 (0 : Fin 1) l) := by
    generalize gain (low ct) (tab w) (low x) = y
    pointwise [flat]
  rw [e]
  show ∑ j ∈ Finset.range (240 + 8208), part (low x j) (dn (low ct) (tab w) j) l.val = _
  rw [Finset.sum_range_add, Finset.sum_eq_zero (fun j hj => part_pad x w ct (Finset.mem_range.1 hj) l.val), zero_add, Finset.sum_range]
  simp only [low_row, low_dn]

open Cert.Reference4Ideal.Read

theorem ref_dn (r : Fin 8208) (l : Fin 1024) : val_main_v17 (F := Ideal) w ct (ix2 r l) = dn (tab ct) (tab w) r.val l.val := by
  rw [val_main_v17_apply]
  refine Finset.sum_congr rfl fun k _ => ?_
  rw [tab_at, tab_at]
  congr 2 <;> exact idx2 rfl rfl

theorem ref_square (r : Fin 8208) : val_main_v1 (F := Ideal) x (ix1 r) = ∑ j : Fin 1024, tab x r.val j.val * tab x r.val j.val := by
  rw [val_main_v1_apply, val_main_cst_apply, none_host, zero_add]
  refine Finset.sum_congr rfl fun j _ => ?_
  rw [show idx_main_v1 (ix1 r) j = ix2 r j from idx2 rfl rfl, val_main_v0_apply, tab_at]
  rfl

theorem ref_size (r : Fin 8208) (z : Fin 1) : val_main_v6 (F := Ideal) x (ix2 r z) = size (tab x r.val) := by
  rw [val_main_v6_apply, val_main_v5_apply, val_main_v4_apply, val_main_v3_apply, val_main_v2_apply, val_main_cst_0_apply, val_main_cst_1_apply,
    show idx_main_v2 (ix2 r z) = ix1 r from funext fun a => match a with | ⟨0, _⟩ => rfl, ref_square]
  rfl

theorem ref_scale (r : Fin 8208) (z : Fin 1) : val_main_v7 (F := Ideal) x (ix2 r z) = scale (tab x r.val) := by
  rw [val_main_v7_apply, ref_size]
  rfl

theorem ref_gained (r : Fin 8208) (l : Fin 1024) : val_main_v22 (F := Ideal) g w ct (ix2 r l) = dn (tab ct) (tab w) r.val l.val * col g l.val := by
  rw [val_main_v22_apply, val_main_v21_apply, val_main_v13_apply, ref_dn, col_at,
    show idx_main_v13 (idx_main_v21 (ix2 r l)) = ix1 l from funext fun a => match a with | ⟨0, _⟩ => rfl]
  rfl

theorem ref_inner (r : Fin 8208) : val_main_v25 (F := Ideal) x g w ct (ix1 r)
    = ∑ j : Fin 1024, tab x r.val j.val * (dn (tab ct) (tab w) r.val j.val * col g j.val) := by
  rw [val_main_v25_apply, val_main_cst_5_apply, none_host, zero_add]
  refine Finset.sum_congr rfl fun j _ => ?_
  rw [show idx_main_v25 (ix1 r) j = ix2 r j from idx2 rfl rfl, val_main_v24_apply, ref_gained, tab_at]
  rfl

theorem ref_slope (r : Fin 8208) : val_main_v33 (F := Ideal) x g w ct (ix1 r) = slope (tab x r.val) (dn (tab ct) (tab w) r.val) (col g) := by
  rw [val_main_v33_apply, val_main_cst_7_apply, none_host, zero_add, Fin.sum_univ_one,
    show idx_main_v33 (ix1 r) 0 = ix2 r (0 : Fin 1) from idx2 rfl rfl,
    val_main_v32_apply, val_main_v31_apply, val_main_v30_apply, val_main_v26_apply, val_main_cst_6_apply,
    val_main_v10_apply, val_main_v9_apply, val_main_v8_apply, val_main_cst_2_apply, ref_size, ref_scale,
    show idx_main_v26 (ix2 r (0 : Fin 1)) = ix1 r from funext fun a => match a with | ⟨0, _⟩ => Fin.ext (by show _ = r.val; simp [idx_main_v26]), ref_inner]
  rfl

theorem last_first (a d p q : EReal) : a + d + p + q = d + p + q + a := by
  rw [add_comm a d, add_right_comm d, add_right_comm _ a]

theorem ref_grad (r : Fin 8208) (l : Fin 1024) : val_main_v38 (F := Ideal) x g w ct res (ix2 r l)
    = entry (tab x r.val) (dn (tab ct) (tab w) r.val) (col g) (tab res r.val) l.val := by
  rw [val_main_v38_apply, val_main_v37_apply, val_main_v36_apply, val_main_v35_apply, val_main_v34_apply, val_main_v29_apply, val_main_v28_apply,
    val_main_v27_apply, ref_gained,
    show idx_main_v27 (ix2 r l) = ix2 r (0 : Fin 1) from idx2 rfl rfl,
    show idx_main_v34 (ix2 r l) = ix1 r from funext fun a => match a with | ⟨0, _⟩ => rfl, ref_slope, ref_scale]
  unfold entry
  rw [tab_at, tab_at]
  exact last_first _ _ _ _

theorem ref_gain (l : Fin 1024) : val_main_v23 (F := Ideal) x w ct (ix1 l) = ∑ r : Fin 8208, part (tab x r.val) (dn (tab ct) (tab w) r.val) l.val := by
  rw [val_main_v23_apply, val_main_cst_4_apply, none_host, zero_add, Fin.sum_univ_one, val_main_v20_apply,
    show idx_main_v20 (idx_main_v23 (ix1 l) 0) = ix1 l from funext fun a => match a with | ⟨0, _⟩ => Fin.ext (by show _ = l.val; simp [idx_main_v20, idx_main_v23]),
    val_main_v19_apply, val_main_cst_3_apply, none_host, zero_add]
  refine Finset.sum_congr rfl fun r _ => ?_
  rw [show idx_main_v19 (ix1 l) r = ix2 r l from idx2 rfl rfl,
    val_main_v18_apply, val_main_v12_apply, val_main_v11_apply, ref_dn,
    show idx_main_v11 (ix2 r l) = ix2 r (0 : Fin 1) from idx2 rfl rfl, ref_scale]
  unfold part
  rw [tab_at]
  rfl

theorem value_grad : cutout (grad (low ct) (tab w) (low x) (col g) (low res)) = Cert.Reference4Ideal.Read.val_main_v38 (F := Ideal) x g w ct res :=
  funext fun i => (congrArg (cutout (grad (low ct) (tab w) (low x) (col g) (low res))) (eq_ix2 i)).trans ((grad_at x g w ct res (i 0) (i 1)).trans
    ((ref_grad x g w ct res (i 0) (i 1)).symm.trans (congrArg (Cert.Reference4Ideal.Read.val_main_v38 (F := Ideal) x g w ct res) (eq_ix2 i)).symm))

theorem value_gain : flat (gain (low ct) (tab w) (low x)) = Cert.Reference4Ideal.Read.val_main_v23 (F := Ideal) x w ct :=
  funext fun i => (congrArg (flat (gain (low ct) (tab w) (low x))) (eq_ix1 i)).trans ((gain_flat x w ct (i 0)).trans
    ((ref_gain x w ct (i 0)).symm.trans (congrArg (Cert.Reference4Ideal.Read.val_main_v23 (F := Ideal) x w ct) (eq_ix1 i)).symm))

end

theorem algebraic : Cert.algebraic_Kernel4Ideal_Reference4Ideal := by
  intro m g m' g' _ hargs
  refine ⟨fun c => cutout (grad (low (in3 m c)) (tab (in2 m c)) (low (in0 m c)) (col (in1 m c)) (low (in4 m c))),
    fun c => flat (gain (low (in3 m c)) (tab (in2 m c)) (low (in0 m c))),
    (θ_run _ _ _).mono (fun r h c => ⟨(h c).1.trans (congrArg cutout (final5 m c (held m c))), (h c).2.1.trans (congrArg flat (final7 m c (held m c))), (h c).2.2⟩)
      (Cert.Kernel4Ideal.Value.run m g),
    (θ_run _ _ _).mono (fun r h c => ?_) (Cert.Reference4Ideal.Value.run m' g')⟩
  obtain ⟨h1, h2, hrest⟩ := h c
  obtain ⟨a0, a1, a2, a3, a4⟩ := hargs c
  refine ⟨h1.trans ?_, h2.trans ?_, hrest⟩
  · rw [Cert.Reference4Ideal.Read.val_main_v38_eq, a0, a1, a2, a3, a4]
    exact (value_grad _ _ _ _ _).symm
  · rw [Cert.Reference4Ideal.Read.val_main_v23_eq, a0, a2, a3]
    exact (value_gain _ _ _).symm
-- ==== Proof.Gate.lean ====
/-
  The gradient of the feed-forward layer's gate as the kernel computes it, 256 tokens at a time.
-/
module
public import proofs.«01_k».proof.Proof.Gen.Kernel5Ideal.Frame
public import proofs.«01_k».proof.Proof.Table
public import Idealize.ShloMosaic.Lib.Pipeline.ValueKit.Tiles

set_option maxRecDepth 65536
@[expose] public noncomputable section
namespace Cert.Kernel5Ideal.Gate
open Cert.Bwd (all2 cov idx2 tile tile0 hz small_word)
open Gen
open Idealize.ShloMosaic TcCoe Idealize.SL.Sem
open Pipeline (Dat)

/-- The gate's gradient: the product's gradient `d`, the gate `g`, the other factor `u`. -/
def dgate (d g u : EReal) : EReal :=
  d * u * Ideal.logistic g + g * (d * u) * (Ideal.logistic g * (1 - Ideal.logistic g))

/-- The other factor's gradient. -/
def dup (d g : EReal) : EReal := g * Ideal.logistic g * d

section
variable (a : Vec Ideal S256x1024 .bf16) (w : Vec Ideal S2816x1024 .bf16) (g u : Vec Ideal S256x2816 .bf16) (r : Fin 256) (l : Fin 2816)

theorem prod_at : k0_pay1 a w (ix2 r l) = ∑ k : Fin 1024, a (ix2 r k) * w (ix2 l k) := by
  pointwise [k0_pay1]

theorem gate_at : k0_pay2 g (ix2 r l) = g (ix2 r l) := by
  pointwise [k0_pay2]

theorem sigma_at : k0_pay3 g (ix2 r l) = Ideal.logistic (g (ix2 r l)) :=
  congrArg Ideal.logistic (gate_at g r l)

theorem one_at : (Scalar.ofBits .f32 0x3F800000#32 : Ideal .f32) = 1 := by
  pointwise

theorem dgate_at : k0_pay4 a w g u (ix2 r l) = dgate (∑ k : Fin 1024, a (ix2 r k) * w (ix2 l k)) (g (ix2 r l)) (u (ix2 r l)) := by
  rw [← prod_at]
  unfold dgate
  rw [← sigma_at]
  have e := gate_at g r l
  pointwise [k0_pay4]
  rw [e]

theorem dup_at : k0_pay5 a w g (ix2 r l) = dup (∑ k : Fin 1024, a (ix2 r k) * w (ix2 l k)) (g (ix2 r l)) := by
  rw [← prod_at]
  unfold dup
  rw [← sigma_at, ← gate_at g r l]
  rfl

end

/-- An entry of the two gradients laid side by side. -/
def entry (l : ℕ) (d : ℕ → EReal) (g u : ℕ → EReal) : EReal :=
  if l < 2816 then dgate (d l) (g l) (u l) else dup (d (l - 2816)) (g (l - 2816))

section
variable (x0 : Vec Ideal S256x1024 .bf16) (x1 : Vec Ideal S2816x1024 .bf16) (x2 x3 : Vec Ideal S256x2816 .bf16)

theorem out_eq : out0_4 x0 x1 x2 x3 = View.canon [⟨r0_4, k0_pay5 x0 x1 x2⟩, ⟨r0_3, k0_pay4 x0 x1 x2 x3⟩] := by
  unfold out0_4
  rw [View.ld_unit_zero (S := S256x1024) hz, View.ld_unit_zero (S := S2816x1024) hz, View.ld_unit_zero (S := S256x2816) hz, View.ld_unit_zero (S := S256x2816) hz]

theorem out_at (d g u : ℕ → EReal) (r : Fin 256) (l : Fin 5632)
    (hd : ∀ l : Fin 2816, ∑ k : Fin 1024, x0 (ix2 r k) * x1 (ix2 l k) = d l.val)
    (hg : ∀ l : Fin 2816, x2 (ix2 r l) = g l.val) (hu : ∀ l : Fin 2816, x3 (ix2 r l) = u l.val) :
    out0_4 x0 x1 x2 x3 (ix2 r l) = entry l.val d g u := by
  rw [out_eq]
  refine View.canon_eq_of_allAt _ _ _ (cover0_4 _ _ _)
    (View.allAt_cons_unit _ _ _ _ _ (fun x hx => ?_) (View.allAt_cons_unit _ _ _ _ _ (fun x hx => ?_) (View.allAt_nil _ _)))
  · have h0 : r.val = 0 + (x 0).val := hx 0
    obtain ⟨q, hq⟩ : ∃ q : Fin 2816, (x 1).val = q.val := ⟨x 1, rfl⟩
    have h1 : l.val = 2816 + (x 1).val := hx 1
    have e : (x : S256x2816.Idx) = ix2 r q := by
      funext a
      match a with
      | ⟨0, _⟩ => exact Fin.ext (by show (x 0).val = r.val; omega)
      | ⟨1, _⟩ => exact Fin.ext hq
    refine (congrArg (k0_pay5 x0 x1 x2) e).trans ((dup_at x0 x1 x2 r q).trans ?_)
    rw [hd, hg]
    unfold entry
    rw [if_neg (by omega), show l.val - 2816 = q.val by omega]
  · have h0 : r.val = 0 + (x 0).val := hx 0
    obtain ⟨q, hq⟩ : ∃ q : Fin 2816, (x 1).val = q.val := ⟨x 1, rfl⟩
    have h1 : l.val = 0 + (x 1).val := hx 1
    have e : (x : S256x2816.Idx) = ix2 r q := by
      funext a
      match a with
      | ⟨0, _⟩ => exact Fin.ext (by show (x 0).val = r.val; omega)
      | ⟨1, _⟩ => exact Fin.ext hq
    refine (congrArg (k0_pay4 x0 x1 x2 x3) e).trans ((dgate_at x0 x1 x2 x3 r q).trans ?_)
    rw [hd, hg, hu]
    unfold entry
    rw [if_pos (by omega), show l.val = q.val by omega]

end

variable (m : (ℓ : Loc nD τ sig) → Buf (Elt Ideal) ℓ) (c : Dev nD)

section
variable (t : Fin cfg0.N)

theorem coords_0 : (grid0.coords t 0).val = t.val := by
  have h : t.val < 33 := t.isLt.trans_eq N_0
  have e : (grid0.coords t 0).val = t.val / 1 % 33 := Pipeline.Grid.coords_val t 0 (by decide) rfl
  omega

theorem word_0 : (BitVec.ofNat 32 (grid0.coords t 0).val).toNat = t.val := by
  have h : t.val < 33 := t.isLt.trans_eq N_0
  rw [coords_0, small_word (by omega)]

theorem index0 : win0_0.index t 0 = t.val ∧ win0_0.index t 1 = 0 := ⟨word_0 t, rfl⟩

theorem index1 : win0_1.index t 0 = 0 ∧ win0_1.index t 1 = 0 := ⟨rfl, rfl⟩

theorem index2 : win0_2.index t 0 = t.val ∧ win0_2.index t 1 = 0 := ⟨word_0 t, rfl⟩

theorem index3 : win0_3.index t 0 = t.val ∧ win0_3.index t 1 = 0 := ⟨word_0 t, rfl⟩

theorem index4 : win0_4.index t 0 = t.val ∧ win0_4.index t 1 = 0 := ⟨word_0 t, rfl⟩

end

/-- The kernel's four arrays hold these numbers. -/
structure Held (A W G U : ℕ → ℕ → EReal) : Prop where
  a : ∀ (r : Fin 8448) (k : Fin 1024), (V m c main_v3 : Vec Ideal S8448x1024 .bf16) (ix2 r k) = A r.val k.val
  w : ∀ (l : Fin 2816) (k : Fin 1024), (V m c main_v4 : Vec Ideal S2816x1024 .bf16) (ix2 l k) = W l.val k.val
  g : ∀ (r : Fin 8448) (l : Fin 2816), (V m c main_v6 : Vec Ideal S8448x2816 .bf16) (ix2 r l) = G r.val l.val
  u : ∀ (r : Fin 8448) (l : Fin 2816), (V m c main_v8 : Vec Ideal S8448x2816 .bf16) (ix2 r l) = U r.val l.val

variable {A W G U : ℕ → ℕ → EReal} (H : Held m c A W G U)
include H

theorem blk0 (t : Fin cfg0.N) (r : Fin 256) (k : Fin 1024) :
    (iblk m c 0 t : Vec Ideal S256x1024 .bf16) (ix2 r k) = A (t.val * 256 + r.val) k.val := by
  have h : t.val < 33 := t.isLt.trans_eq N_0
  obtain ⟨i0, i1⟩ := index0 t
  unfold iblk
  rw [View.read_apply]
  refine Eq.trans ?_ (H.a ⟨t.val * 256 + r.val, by omega⟩ k)
  exact congrArg (V m c main_v3 : Vec Ideal S8448x1024 .bf16) (idx2 (tile i0) (tile0 i1))

theorem blk1 (t : Fin cfg0.N) (r : Fin 2816) (k : Fin 1024) :
    (iblk m c 1 t : Vec Ideal S2816x1024 .bf16) (ix2 r k) = W r.val k.val := by
  have h : t.val < 33 := t.isLt.trans_eq N_0
  obtain ⟨i0, i1⟩ := index1 t
  unfold iblk
  rw [View.read_apply]
  refine Eq.trans ?_ (H.w r k)
  exact congrArg (V m c main_v4 : Vec Ideal S2816x1024 .bf16) (idx2 (tile0 i0) (tile0 i1))

theorem blk2 (t : Fin cfg0.N) (r : Fin 256) (k : Fin 2816) :
    (iblk m c 2 t : Vec Ideal S256x2816 .bf16) (ix2 r k) = G (t.val * 256 + r.val) k.val := by
  have h : t.val < 33 := t.isLt.trans_eq N_0
  obtain ⟨i0, i1⟩ := index2 t
  unfold iblk
  rw [View.read_apply]
  refine Eq.trans ?_ (H.g ⟨t.val * 256 + r.val, by omega⟩ k)
  exact congrArg (V m c main_v6 : Vec Ideal S8448x2816 .bf16) (idx2 (tile i0) (tile0 i1))

theorem blk3 (t : Fin cfg0.N) (r : Fin 256) (k : Fin 2816) :
    (iblk m c 3 t : Vec Ideal S256x2816 .bf16) (ix2 r k) = U (t.val * 256 + r.val) k.val := by
  have h : t.val < 33 := t.isLt.trans_eq N_0
  obtain ⟨i0, i1⟩ := index3 t
  unfold iblk
  rw [View.read_apply]
  refine Eq.trans ?_ (H.u ⟨t.val * 256 + r.val, by omega⟩ k)
  exact congrArg (V m c main_v8 : Vec Ideal S8448x2816 .bf16) (idx2 (tile i0) (tile0 i1))

omit H in
/-- The array of the two gradients. -/
def grad (A W G U : ℕ → ℕ → EReal) : Vec Ideal S8448x5632 .bf16 :=
  fun i => entry (i 1).val (fun l => ∑ k : Fin 1024, A (i 0).val k.val * W l k.val) (G (i 0).val) (U (i 0).val)

theorem tile_at (t : Fin cfg0.N) (r : Fin 256) (l : Fin 5632) :
    out0_4 (iblk m c 0 t) (iblk m c 1 t) (iblk m c 2 t) (iblk m c 3 t) (ix2 r l)
      = entry l.val (fun l => ∑ k : Fin 1024, A (t.val * 256 + r.val) k.val * W l k.val) (G (t.val * 256 + r.val)) (U (t.val * 256 + r.val)) :=
  out_at _ _ _ _ _ _ _ r l
    (fun l => Finset.sum_congr rfl fun k _ => by rw [blk0 m c H, blk1 m c H])
    (fun l => blk2 m c H t r l) (fun l => blk3 m c H t r l)

theorem flushed (t : Fin cfg0.N) (_ : (cfg0.win 4).flush t = true) :
    (dats m 0 c).flushed 4 t = ((cfg0.win 4).blk t).view.read (Elt Ideal) (grad A W G U : Buf (Elt Ideal) ((c.tc : Thread nD τ).loc main_v9)) := by
  have ht : t.val < 33 := t.isLt.trans_eq N_0
  show (cfg0.win 4).cut (grid0.coords t) ((dats m 0 c).after 4 t) = _
  rw [after0_4]
  have L := tile_at m c H t
  generalize out0_4 (iblk m c 0 t) (iblk m c 1 t) (iblk m c 2 t) (iblk m c 3 t) = o at L ⊢
  obtain ⟨i0, i1⟩ := index4 t
  funext y
  rw [View.read_apply]
  let y' : S256x5632.Idx := y
  have h0 : (y' 0).val < 256 := (y' 0).isLt
  have h1 : (y' 1).val < 5632 := (y' 1).isLt
  show o y' = (grad A W G U) _
  have e : ((cfg0.win 4).blk t).view.emb y = (ix2 (⟨t.val * 256 + (y' 0).val, by omega⟩ : Fin 8448) (⟨(y' 1).val, by omega⟩ : Fin 5632) : S8448x5632.Idx) := idx2 (tile i0) (tile0 i1)
  have g : (grad A W G U) (ix2 (⟨t.val * 256 + (y' 0).val, by omega⟩ : Fin 8448) (⟨(y' 1).val, by omega⟩ : Fin 5632)) = o y' := by
    refine Eq.trans ?_ ((L (y' 0) (y' 1)).symm.trans (congrArg o (eq_ix2 y').symm))
    unfold grad
    rfl
  exact (congrArg (grad A W G U) e |>.trans g).symm

theorem final : (dats m 0 c).arrAt 4 cfg0.N = (grad A W G U : Buf (Elt Ideal) ((c.tc : Thread nD τ).loc main_v9)) :=
  (dats m 0 c).arrAt_eq_of_cover 4 _ (flushed m c H) fun (i : S8448x5632.Idx) => by
    have h0 : (i 0).val < 8448 := (i 0).isLt
    have h1 : (i 1).val < 5632 := (i 1).isLt
    have hN : (i 0).val / 256 < cfg0.N := by rw [show cfg0.N = 33 from N_0]; omega
    generalize ht : (⟨(i 0).val / 256, hN⟩ : Fin cfg0.N) = t
    have hv : t.val = (i 0).val / 256 := by rw [← ht]
    obtain ⟨i0, i1⟩ := index4 t
    refine ⟨t, flush0_4 t, ?_⟩
    show i ∈ ((View.whole main_v9).slice (win0_4.rect t)).set
    rw [View.set_slice_whole, Rect.mem_set_unit]
    exact all2 (cov (b := 256) (x := (i 0).val) i0 (by omega)) (cov (b := 5632) (x := (i 1).val) i1 (by omega))
-- ==== Proof.Value5.lean ====
/-
  The gradient of the feed-forward layer's gate: the kernel's is the reference's.
-/
module
public import proofs.«01_k».proof.Proof.Gate
public import proofs.«01_k».proof.Proof.Table
public import proofs.«01_k».proof.Proof.Gen.Kernel5Ideal.Run
public import proofs.«01_k».proof.Proof.Gen.Reference5Ideal.Run
public import proofs.«01_k».proof.Proof.Gen.Reference5Ideal.Read
public import proofs.«01_k».proof.Defs

set_option maxRecDepth 8192
@[expose] public noncomputable section
namespace Cert.Kernel5Ideal.Gate
open Cert.Bwd (idx2 tab tab_at zero zero_at)
open Gen
open Idealize.ShloMosaic TcCoe Idealize.SL.Sem StableHlo

def arrA (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

def arrW (x : FVec Ideal S2816x1024 .f32) : FVec Ideal S2816x1024 .bf16 := truncf .bf16 x bitsLt_bf16_f32

def arrG (x : FVec Ideal S8208x5632 .f32) : FVec Ideal S8448x2816 .bf16 :=
  truncf .bf16 (pad S8448x2816 ![240, 0] ![0, 0] ![0, 0] (extractStridedSlice S8208x2816 ![0, 0] x slices_S8208x5632_S8208x2816_0_0) zero pads_S8208x2816_S8448x2816_24000_000 h_S_) bitsLt_bf16_f32

def arrU (x : FVec Ideal S8208x5632 .f32) : FVec Ideal S8448x2816 .bf16 :=
  truncf .bf16 (pad S8448x2816 ![240, 0] ![0, 0] ![0, 0] (extractStridedSlice S8208x2816 ![0, 2816] x slices_S8208x5632_S8208x2816_0_2816) zero pads_S8208x2816_S8448x2816_24000_000 h_S_) bitsLt_bf16_f32

variable (m : (ℓ : Loc nD τ sig) → Buf (Elt Ideal) ℓ) (c : Dev nD)

theorem read_v3 : (V m c main_v3 : FVec Ideal S8448x1024 .bf16) = arrA (m ((c.tc : Thread nD τ).loc main_arg2)) := by
  show StableHlo.after _ _ (Proc.devRef .tc main_v3) = _
  after_reads_simp
  simp -implicitDefEqProofs only [TRef.toBuf, TRef.ofBuf, cast_cast, cast_eq]
  unfold arrA zero
  rfl

theorem read_v4 : (V m c main_v4 : FVec Ideal S2816x1024 .bf16) = arrW (m ((c.tc : Thread nD τ).loc main_arg1)) := by
  show StableHlo.after _ _ (Proc.devRef .tc main_v4) = _
  after_reads_simp
  unfold arrW
  rfl

theorem read_v6 : (V m c main_v6 : FVec Ideal S8448x2816 .bf16) = arrG (m ((c.tc : Thread nD τ).loc main_arg0)) := by
  show StableHlo.after _ _ (Proc.devRef .tc main_v6) = _
  after_reads_simp
  simp -implicitDefEqProofs only [TRef.toBuf, TRef.ofBuf, cast_cast, cast_eq]
  unfold arrG zero
  rfl

theorem read_v8 : (V m c main_v8 : FVec Ideal S8448x2816 .bf16) = arrU (m ((c.tc : Thread nD τ).loc main_arg0)) := by
  show StableHlo.after _ _ (Proc.devRef .tc main_v8) = _
  after_reads_simp
  simp -implicitDefEqProofs only [TRef.toBuf, TRef.ofBuf, cast_cast, cast_eq]
  unfold arrU zero
  rfl

theorem arrA_at (x : FVec Ideal S8208x1024 .f32) (r : Fin 8448) (k : Fin 1024) :
    arrA x (ix2 r k) = if r.val < 240 then 0 else tab x (r.val - 240) k.val := by
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S2816x1024 .f32) (l : Fin 2816) (k : Fin 1024) : arrW x (ix2 l k) = tab x l.val k.val :=
  (tab_at x l k).symm

theorem arrG_at (x : FVec Ideal S8208x5632 .f32) (r : Fin 8448) (l : Fin 2816) :
    arrG x (ix2 r l) = if r.val < 240 then 0 else tab x (r.val - 240) l.val := by
  pointwise [arrG]
  by_cases hr : r.val < 240
  · rw [dif_neg (by omega), if_pos hr, zero_at]
  · rw [dif_pos (by omega), if_neg hr]
    refine Eq.trans ?_ (tab_at x ⟨r.val - 240, by omega⟩ ⟨l.val, by omega⟩).symm
    congr 1

theorem arrU_at (x : FVec Ideal S8208x5632 .f32) (r : Fin 8448) (l : Fin 2816) :
    arrU x (ix2 r l) = if r.val < 240 then 0 else tab x (r.val - 240) (2816 + l.val) := by
  pointwise [arrU]
  by_cases hr : r.val < 240
  · rw [dif_neg (by omega), if_pos hr, zero_at]
  · rw [dif_pos (by omega), if_neg hr]
    refine Eq.trans ?_ (tab_at x ⟨r.val - 240, by omega⟩ ⟨2816 + l.val, by omega⟩).symm
    congr 1

abbrev in0 : FVec Ideal S8208x5632 .f32 := m ((c.tc : Thread nD τ).loc main_arg0)
abbrev in1 : FVec Ideal S2816x1024 .f32 := m ((c.tc : Thread nD τ).loc main_arg1)
abbrev in2 : FVec Ideal S8208x1024 .f32 := m ((c.tc : Thread nD τ).loc main_arg2)

abbrev numA (x : FVec Ideal S8208x1024 .f32) (r k : ℕ) : EReal := if r < 240 then 0 else tab x (r - 240) k
abbrev numG (x : FVec Ideal S8208x5632 .f32) (r l : ℕ) : EReal := if r < 240 then 0 else tab x (r - 240) l
abbrev numU (x : FVec Ideal S8208x5632 .f32) (r l : ℕ) : EReal := if r < 240 then 0 else tab x (r - 240) (2816 + l)

theorem held : Held m c (numA (in2 m c)) (tab (in1 m c)) (numG (in0 m c)) (numU (in0 m c)) where
  a r k := (congrFun (read_v3 m c) (ix2 r k)).trans (arrA_at _ r k)
  w l k := (congrFun (read_v4 m c) (ix2 l k)).trans (arrW_at _ l k)
  g r l := (congrFun (read_v6 m c) (ix2 r l)).trans (arrG_at _ r l)
  u r l := (congrFun (read_v8 m c) (ix2 r l)).trans (arrU_at _ r l)

section
variable (x : FVec Ideal S8208x5632 .f32) (w : FVec Ideal S2816x1024 .f32) (ct : FVec Ideal S8208x1024 .f32)

/-- The array without the rows of padding. -/
def cutout (y : Vec Ideal S8448x5632 .bf16) : FVec Ideal S8208x5632 .f32 :=
  extf .f32 (extractStridedSlice S8208x5632 ![240, 0] y slices_S8448x5632_S8208x5632_240_0) bitsLt_bf16_f32

theorem cutout_at (y : Vec Ideal S8448x5632 .bf16) (r : Fin 8208) (l : Fin 5632) :
    cutout y (ix2 r l) = y (ix2 (⟨240 + r.val, by omega⟩ : Fin 8448) l) := by
  pointwise [cutout]

/-- An entry of the result. -/
def goal (r l : ℕ) : EReal := entry l (fun l => ∑ k : Fin 1024, tab ct r k.val * tab w l k.val) (tab x r) (fun l => tab x r (2816 + l))

theorem grad_at (r : Fin 8208) (l : Fin 5632) :
    cutout (grad (numA ct) (tab w) (numG x) (numU x)) (ix2 r l) = goal x w ct r.val l.val := by
  rw [cutout_at]
  show entry l.val (fun l => ∑ k : Fin 1024, numA ct (240 + r.val) k.val * tab w l k.val) (fun l => numG x (240 + r.val) l) (fun l => numU x (240 + r.val) l) = _
  unfold numA numG numU goal
  simp only [if_neg (show ¬(240 + r.val < 240) by omega), Nat.add_sub_cancel_left]

open Cert.Reference5Ideal.Read

theorem ref_dprod (r : Fin 8208) (l : Fin 2816) :
    val_main_v5 (F := Ideal) w ct (ix2 r l) = ∑ k : Fin 1024, tab ct r.val k.val * tab w l.val k.val := by
  rw [val_main_v5_apply]
  refine Finset.sum_congr rfl fun k _ => ?_
  rw [tab_at, tab_at]
  congr 2 <;> exact idx2 rfl rfl

theorem ref_gate (r : Fin 8208) (l : Fin 2816) : val_main_v0 (F := Ideal) x (ix2 r l) = tab x r.val l.val := by
  rw [val_main_v0_apply]
  exact Eq.trans (congrArg x (by funext a; match a with | ⟨0, _⟩ => rfl | ⟨1, _⟩ => rfl)) (tab_at x r ⟨l.val, by omega⟩).symm

theorem ref_up (r : Fin 8208) (l : Fin 2816) : val_main_v1 (F := Ideal) x (ix2 r l) = tab x r.val (2816 + l.val) := by
  rw [val_main_v1_apply]
  exact Eq.trans (congrArg x (by funext a; match a with | ⟨0, _⟩ => rfl | ⟨1, _⟩ => rfl)) (tab_at x r ⟨2816 + l.val, by omega⟩).symm

theorem one_host : (FloatOps.ofBits .f32 0x3F800000#32 : Ideal .f32) = 1 := one_at

theorem ref_sigma (r : Fin 8208) (l : Fin 2816) : val_main_v2_2 (F := Ideal) x (ix2 r l) = Ideal.logistic (tab x r.val l.val) := by
  rw [val_main_v2_2_apply, val_main_call0_v4_apply, val_main_call0_v3_apply, val_main_call0_v2_apply, val_main_call0_v1_apply,
    val_main_call0_v0_apply, val_main_call0_cst_apply, val_main_call0_cst_0_apply, ref_gate, one_host]
  rfl

theorem ref_dgate (r : Fin 8208) (l : Fin 2816) : val_main_v8 (F := Ideal) x w ct (ix2 r l)
    = dgate (∑ k : Fin 1024, tab ct r.val k.val * tab w l.val k.val) (tab x r.val l.val) (tab x r.val (2816 + l.val)) := by
  rw [val_main_v8_apply, val_main_call1_v2_apply, val_main_call1_v1_apply, val_main_call1_v0_apply, val_main_v7_apply, val_main_v2_1_apply,
    val_main_call0_v7_apply, val_main_call0_v6_apply, val_main_call0_cst_1_apply, ref_dprod, ref_gate, ref_up, ref_sigma, one_host]
  rfl

theorem ref_dup (r : Fin 8208) (l : Fin 2816) : val_main_v6 (F := Ideal) x w ct (ix2 r l)
    = dup (∑ k : Fin 1024, tab ct r.val k.val * tab w l.val k.val) (tab x r.val l.val) := by
  rw [val_main_v6_apply, val_main_v2_0_apply, ref_dprod, ref_gate, ref_sigma]
  rfl

theorem ref_at (r : Fin 8208) (l : Fin 5632) : val_main_v9 (F := Ideal) x w ct (ix2 r l) = goal x w ct r.val l.val := by
  have e8 := fun l => ref_dgate x w ct r l
  have e6 := fun l => ref_dup x w ct r l
  unfold val_main_v9 goal entry
  generalize val_main_v8 (F := Ideal) x w ct = a at e8 ⊢
  generalize val_main_v6 (F := Ideal) x w ct = b at e6 ⊢
  by_cases h : l.val < 2816
  · rw [if_pos h, ← e8 ⟨l.val, h⟩]
    pointwise
    exact dif_pos h
  · rw [if_neg h, ← e6 ⟨l.val - 2816, by omega⟩]
    pointwise
    exact dif_neg h

theorem value : cutout (grad (numA ct) (tab w) (numG x) (numU x)) = Cert.Reference5Ideal.Read.val_main_v9 (F := Ideal) x w ct :=
  funext fun i => (congrArg (cutout (grad (numA ct) (tab w) (numG x) (numU x))) (eq_ix2 i)).trans ((grad_at x w ct (i 0) (i 1)).trans
    ((ref_at x w ct (i 0) (i 1)).symm.trans (congrArg (Cert.Reference5Ideal.Read.val_main_v9 (F := Ideal) x w ct) (eq_ix2 i)).symm))

end

theorem algebraic : Cert.algebraic_Kernel5Ideal_Reference5Ideal := by
  intro m g m' g' _ hargs
  refine ⟨fun c => cutout (grad (numA (in2 m c)) (tab (in1 m c)) (numG (in0 m c)) (numU (in0 m c))),
    (θ_run _ _ _).mono (fun r h c => ⟨(h c).1.trans (congrArg cutout (final m c (held m c))), (h c).2⟩) (Cert.Kernel5Ideal.Value.run m g),
    (θ_run _ _ _).mono (fun r h c => ?_) (Cert.Reference5Ideal.Value.run m' g')⟩
  obtain ⟨h3, hrest⟩ := h c
  obtain ⟨a0, a1, a2⟩ := hargs c
  refine ⟨h3.trans ?_, hrest⟩
  rw [Cert.Reference5Ideal.Read.val_main_v9_eq, a0, a1, a2]
  exact (value _ _ _).symm
-- ==== Proof.Gate6.lean ====
/-
  The feed-forward layer's first product and its gate, as the kernel computes them: tiles of 768 rows and 1408 columns.
-/
module
public import proofs.«01_k».proof.Proof.Gen.Kernel6Ideal.Frame
public import proofs.«01_k».proof.Proof.Table

set_option maxRecDepth 65536
@[expose] public noncomputable section
namespace Cert.Kernel6Ideal.Gate
open Cert.Bwd (all2 cov idx2 tile tile0 hz small_word)
open Gen
open Idealize.ShloMosaic TcCoe Idealize.SL.Sem
open Pipeline (Dat)

/-- The gated product of the gate `g` and the other factor `u`. -/
def gated (g u : EReal) : EReal := g * Ideal.logistic g * u

section
variable (a : Vec Ideal S768x1024 .bf16) (w w' : Vec Ideal S1024x1408 .bf16) (r : Fin 768) (l : Fin 1408)

theorem prod_at : k0_pay2 a w (ix2 r l) = ∑ k : Fin 1024, a (ix2 r k) * w (ix2 k l) := by
  pointwise [k0_pay2, k0_pay1]

theorem prod_at' : k0_pay3 a w (ix2 r l) = ∑ k : Fin 1024, a (ix2 r k) * w (ix2 k l) := by
  pointwise [k0_pay3, k0_pay1]

theorem gate_at : k0_pay4 a w (ix2 r l) = ∑ k : Fin 1024, a (ix2 r k) * w (ix2 k l) := prod_at a w r l

theorem up_at : k0_pay5 a w (ix2 r l) = ∑ k : Fin 1024, a (ix2 r k) * w (ix2 k l) := prod_at' a w r l

theorem gated_at : k0_pay6 a w w' (ix2 r l) = gated (∑ k : Fin 1024, a (ix2 r k) * w (ix2 k l)) (∑ k : Fin 1024, a (ix2 r k) * w' (ix2 k l)) := by
  rw [← prod_at, ← prod_at']
  rfl

end

section
variable (x0 : Vec Ideal S768x1024 .bf16) (x1 x2 : Vec Ideal S1024x1408 .bf16)

theorem out3_eq : out0_3 x0 x1 x2 = k0_pay4 x0 x1 := by
  unfold out0_3
  rw [View.canon_unit_zero (S := S768x1408) hz, View.ld_unit_zero (S := S768x1024) hz, View.ld_unit_zero (S := S1024x1408) hz]

theorem out4_eq : out0_4 x0 x1 x2 = k0_pay5 x0 x2 := by
  unfold out0_4
  rw [View.canon_unit_zero (S := S768x1408) hz, View.ld_unit_zero (S := S768x1024) hz, View.ld_unit_zero (S := S1024x1408) hz]

theorem out5_eq : out0_5 x0 x1 x2 = k0_pay6 x0 x1 x2 := by
  unfold out0_5
  rw [View.canon_unit_zero (S := S768x1408) hz, View.ld_unit_zero (S := S768x1024) hz, View.ld_unit_zero (S := S1024x1408) hz, View.ld_unit_zero (S := S1024x1408) hz]

end

variable (m : (ℓ : Loc nD τ sig) → Buf (Elt Ideal) ℓ) (c : Dev nD)

section
variable (t : Fin cfg0.N)

theorem coords_0 : (grid0.coords t 0).val = t.val / 11 := by
  have h : t.val < 22 := t.isLt.trans_eq N_0
  have e : (grid0.coords t 0).val = t.val / 11 % 2 := Pipeline.Grid.coords_val t 0 (by decide) rfl
  omega

theorem coords_1 : (grid0.coords t 1).val = t.val % 11 := by
  have e : (grid0.coords t 1).val = t.val / 1 % 11 := Pipeline.Grid.coords_val t 1 (by decide) rfl
  omega

theorem index0 : win0_0.index t 0 = t.val % 11 ∧ win0_0.index t 1 = 0 := by
  refine ⟨?_, rfl⟩
  show (BitVec.ofNat 32 (grid0.coords t 1).val).toNat = _
  rw [coords_1, small_word (by omega)]

theorem word_0 : (BitVec.ofNat 32 (grid0.coords t 0).val).toNat = t.val / 11 := by
  have h : t.val < 22 := t.isLt.trans_eq N_0
  rw [coords_0, small_word (by omega)]

theorem word_1 : (BitVec.ofNat 32 (grid0.coords t 1).val).toNat = t.val % 11 := by
  have h : t.val < 22 := t.isLt.trans_eq N_0
  rw [coords_1, small_word (by omega)]

theorem index1 : win0_1.index t 0 = 0 ∧ win0_1.index t 1 = t.val / 11 := ⟨rfl, word_0 t⟩

theorem index2 : win0_2.index t 0 = 0 ∧ win0_2.index t 1 = 2 + t.val / 11 := by
  have h : t.val < 22 := t.isLt.trans_eq N_0
  refine ⟨rfl, ?_⟩
  show (2#32 + BitVec.ofNat 32 (grid0.coords t 0).val).toNat = _
  rw [coords_0, BitVec.toNat_add, small_word (n := t.val / 11) (by omega), small_word (n := 2) (by omega)]
  omega

theorem index3 : win0_3.index t 0 = t.val % 11 ∧ win0_3.index t 1 = t.val / 11 := ⟨word_1 t, word_0 t⟩

theorem index4 : win0_4.index t 0 = t.val % 11 ∧ win0_4.index t 1 = t.val / 11 := ⟨word_1 t, word_0 t⟩

theorem index5 : win0_5.index t 0 = t.val % 11 ∧ win0_5.index t 1 = t.val / 11 := ⟨word_1 t, word_0 t⟩

end

/-- The arrays the kernel reads hold these numbers. -/
structure Held (A B : ℕ → ℕ → EReal) : Prop where
  a : ∀ (r : Fin 8448) (k : Fin 1024), (V m c main_v1 : Vec Ideal S8448x1024 .bf16) (ix2 r k) = A r.val k.val
  b : ∀ (k : Fin 1024) (l : Fin 5632), (V m c main_v2 : Vec Ideal S1024x5632 .bf16) (ix2 k l) = B k.val l.val

/-- An entry of the product. -/
def entry (A B : ℕ → ℕ → EReal) (r l : ℕ) : EReal := ∑ k : Fin 1024, A r k.val * B k.val l

/-- The three arrays: the gate, the other factor, the gated product. -/
def gateF (A B : ℕ → ℕ → EReal) (r l : ℕ) : EReal := entry A B r l
def upF (A B : ℕ → ℕ → EReal) (r l : ℕ) : EReal := entry A B r (2816 + l)
def gatedF (A B : ℕ → ℕ → EReal) (r l : ℕ) : EReal := gated (gateF A B r l) (upF A B r l)

/-- The array of these numbers. -/
def arr (f : ℕ → ℕ → EReal) : Vec Ideal S8448x2816 .bf16 := fun i => f (i 0).val (i 1).val

abbrev bA (t : Fin cfg0.N) : Vec Ideal S768x1024 .bf16 := iblk m c 0 t
abbrev bB (t : Fin cfg0.N) : Vec Ideal S1024x1408 .bf16 := iblk m c 1 t
abbrev bC (t : Fin cfg0.N) : Vec Ideal S1024x1408 .bf16 := iblk m c 2 t

variable {A B : ℕ → ℕ → EReal} (H : Held m c A B)
include H

theorem blk0 (t : Fin cfg0.N) (r : Fin 768) (k : Fin 1024) :
    (iblk m c 0 t : Vec Ideal S768x1024 .bf16) (ix2 r k) = A (t.val % 11 * 768 + r.val) k.val := by
  obtain ⟨i0, i1⟩ := index0 t
  unfold iblk
  rw [View.read_apply]
  refine Eq.trans ?_ (H.a ⟨t.val % 11 * 768 + r.val, by omega⟩ k)
  exact congrArg (V m c main_v1 : Vec Ideal S8448x1024 .bf16) (idx2 (tile i0) (tile0 i1))

theorem blk1 (t : Fin cfg0.N) (k : Fin 1024) (l : Fin 1408) :
    (iblk m c 1 t : Vec Ideal S1024x1408 .bf16) (ix2 k l) = B k.val (t.val / 11 * 1408 + l.val) := by
  have h : t.val < 22 := t.isLt.trans_eq N_0
  obtain ⟨i0, i1⟩ := index1 t
  unfold iblk
  rw [View.read_apply]
  refine Eq.trans ?_ (H.b k ⟨t.val / 11 * 1408 + l.val, by omega⟩)
  exact congrArg (V m c main_v2 : Vec Ideal S1024x5632 .bf16) (idx2 (tile0 i0) (tile i1))

theorem blk2 (t : Fin cfg0.N) (k : Fin 1024) (l : Fin 1408) :
    (iblk m c 2 t : Vec Ideal S1024x1408 .bf16) (ix2 k l) = B k.val (2816 + (t.val / 11 * 1408 + l.val)) := by
  have h : t.val < 22 := t.isLt.trans_eq N_0
  obtain ⟨i0, i1⟩ := index2 t
  unfold iblk
  rw [View.read_apply]
  refine Eq.trans ?_ (H.b k ⟨2816 + (t.val / 11 * 1408 + l.val), by omega⟩)
  show (V m c main_v2 : Vec Ideal S1024x5632 .bf16) _ = _
  congr 1
  funext a
  apply Fin.ext
  match a with
  | ⟨0, _⟩ => show win0_2.index t 0 * 1024 + 1 * k.val = k.val; rw [i0]; omega
  | ⟨1, _⟩ => show win0_2.index t 1 * 1408 + 1 * l.val = 2816 + (t.val / 11 * 1408 + l.val); rw [i1]; omega

theorem sum1 (t : Fin cfg0.N) (r : Fin 768) (l : Fin 1408) :
    ∑ k : Fin 1024, bA m c t (ix2 r k) * bB m c t (ix2 k l)
      = gateF A B (t.val % 11 * 768 + r.val) (t.val / 11 * 1408 + l.val) :=
  Finset.sum_congr rfl fun k _ => congrArg₂ (fun a b : EReal => a * b) (blk0 m c H t r k) (blk1 m c H t k l)

theorem sum2 (t : Fin cfg0.N) (r : Fin 768) (l : Fin 1408) :
    ∑ k : Fin 1024, bA m c t (ix2 r k) * bC m c t (ix2 k l)
      = upF A B (t.val % 11 * 768 + r.val) (t.val / 11 * 1408 + l.val) :=
  Finset.sum_congr rfl fun k _ => congrArg₂ (fun a b : EReal => a * b) (blk0 m c H t r k) (blk2 m c H t k l)

theorem tile3 (t : Fin cfg0.N) (r : Fin 768) (l : Fin 1408) :
    out0_3 (iblk m c 0 t) (iblk m c 1 t) (iblk m c 2 t) (ix2 r l) = gateF A B (t.val % 11 * 768 + r.val) (t.val / 11 * 1408 + l.val) := by
  rw [out3_eq]
  exact (gate_at _ _ r l).trans (sum1 m c H t r l)

theorem tile4 (t : Fin cfg0.N) (r : Fin 768) (l : Fin 1408) :
    out0_4 (iblk m c 0 t) (iblk m c 1 t) (iblk m c 2 t) (ix2 r l) = upF A B (t.val % 11 * 768 + r.val) (t.val / 11 * 1408 + l.val) := by
  rw [out4_eq]
  exact (up_at _ _ r l).trans (sum2 m c H t r l)

theorem tile5 (t : Fin cfg0.N) (r : Fin 768) (l : Fin 1408) :
    out0_5 (iblk m c 0 t) (iblk m c 1 t) (iblk m c 2 t) (ix2 r l) = gatedF A B (t.val % 11 * 768 + r.val) (t.val / 11 * 1408 + l.val) := by
  rw [out5_eq]
  exact (gated_at _ _ _ r l).trans (congrArg₂ gated (sum1 m c H t r l) (sum2 m c H t r l))

theorem flushed3 (t : Fin cfg0.N) (_ : (cfg0.win 3).flush t = true) :
    (dats m 0 c).flushed 3 t = ((cfg0.win 3).blk t).view.read (Elt Ideal) (arr (gateF A B) : Buf (Elt Ideal) ((c.tc : Thread nD τ).loc main_v3_0)) := by
  have ht : t.val < 22 := t.isLt.trans_eq N_0
  show (cfg0.win 3).cut (grid0.coords t) ((dats m 0 c).after 3 t) = _
  rw [after0_3]
  have L := tile3 m c H t
  generalize out0_3 (iblk m c 0 t) (iblk m c 1 t) (iblk m c 2 t) = o at L ⊢
  generalize gateF A B = f at L ⊢
  obtain ⟨i0, i1⟩ := index3 t
  funext y
  rw [View.read_apply]
  let y' : S768x1408.Idx := y
  have h0 : (y' 0).val < 768 := (y' 0).isLt
  have h1 : (y' 1).val < 1408 := (y' 1).isLt
  show o y' = arr f _
  have e : ((cfg0.win 3).blk t).view.emb y = (ix2 (⟨t.val % 11 * 768 + (y' 0).val, by omega⟩ : Fin 8448) (⟨t.val / 11 * 1408 + (y' 1).val, by omega⟩ : Fin 2816) : S8448x2816.Idx) := idx2 (tile i0) (tile i1)
  have g : arr f (ix2 (⟨t.val % 11 * 768 + (y' 0).val, by omega⟩ : Fin 8448) (⟨t.val / 11 * 1408 + (y' 1).val, by omega⟩ : Fin 2816)) = o y' := by
    refine Eq.trans ?_ ((L (y' 0) (y' 1)).symm.trans (congrArg o (eq_ix2 y').symm))
    unfold arr
    rfl
  exact (congrArg (arr f) e |>.trans g).symm

theorem final3 : (dats m 0 c).arrAt 3 cfg0.N = (arr (gateF A B) : Buf (Elt Ideal) ((c.tc : Thread nD τ).loc main_v3_0)) :=
  (dats m 0 c).arrAt_eq_of_cover 3 _ (flushed3 m c H) fun (i : S8448x2816.Idx) => by
    have h0 : (i 0).val < 8448 := (i 0).isLt
    have h1 : (i 1).val < 2816 := (i 1).isLt
    have hN : (i 1).val / 1408 * 11 + (i 0).val / 768 < cfg0.N := by rw [show cfg0.N = 22 from N_0]; omega
    generalize ht : (⟨(i 1).val / 1408 * 11 + (i 0).val / 768, hN⟩ : Fin cfg0.N) = t
    have hv : t.val = (i 1).val / 1408 * 11 + (i 0).val / 768 := by rw [← ht]
    obtain ⟨i0, i1⟩ := index3 t
    refine ⟨t, flush0_3 t, ?_⟩
    show i ∈ ((View.whole main_v3_0).slice (win0_3.rect t)).set
    rw [View.set_slice_whole, Rect.mem_set_unit]
    exact all2 (cov (b := 768) (x := (i 0).val) i0 (by omega)) (cov (b := 1408) (x := (i 1).val) i1 (by omega))

theorem flushed4 (t : Fin cfg0.N) (_ : (cfg0.win 4).flush t = true) :
    (dats m 0 c).flushed 4 t = ((cfg0.win 4).blk t).view.read (Elt Ideal) (arr (upF A B) : Buf (Elt Ideal) ((c.tc : Thread nD τ).loc main_v3_1)) := by
  have ht : t.val < 22 := t.isLt.trans_eq N_0
  show (cfg0.win 4).cut (grid0.coords t) ((dats m 0 c).after 4 t) = _
  rw [after0_4]
  have L := tile4 m c H t
  generalize out0_4 (iblk m c 0 t) (iblk m c 1 t) (iblk m c 2 t) = o at L ⊢
  generalize upF A B = f at L ⊢
  obtain ⟨i0, i1⟩ := index4 t
  funext y
  rw [View.read_apply]
  let y' : S768x1408.Idx := y
  have h0 : (y' 0).val < 768 := (y' 0).isLt
  have h1 : (y' 1).val < 1408 := (y' 1).isLt
  show o y' = arr f _
  have e : ((cfg0.win 4).blk t).view.emb y = (ix2 (⟨t.val % 11 * 768 + (y' 0).val, by omega⟩ : Fin 8448) (⟨t.val / 11 * 1408 + (y' 1).val, by omega⟩ : Fin 2816) : S8448x2816.Idx) := idx2 (tile i0) (tile i1)
  have g : arr f (ix2 (⟨t.val % 11 * 768 + (y' 0).val, by omega⟩ : Fin 8448) (⟨t.val / 11 * 1408 + (y' 1).val, by omega⟩ : Fin 2816)) = o y' := by
    refine Eq.trans ?_ ((L (y' 0) (y' 1)).symm.trans (congrArg o (eq_ix2 y').symm))
    unfold arr
    rfl
  exact (congrArg (arr f) e |>.trans g).symm

theorem final4 : (dats m 0 c).arrAt 4 cfg0.N = (arr (upF A B) : Buf (Elt Ideal) ((c.tc : Thread nD τ).loc main_v3_1)) :=
  (dats m 0 c).arrAt_eq_of_cover 4 _ (flushed4 m c H) fun (i : S8448x2816.Idx) => by
    have h0 : (i 0).val < 8448 := (i 0).isLt
    have h1 : (i 1).val < 2816 := (i 1).isLt
    have hN : (i 1).val / 1408 * 11 + (i 0).val / 768 < cfg0.N := by rw [show cfg0.N = 22 from N_0]; omega
    generalize ht : (⟨(i 1).val / 1408 * 11 + (i 0).val / 768, hN⟩ : Fin cfg0.N) = t
    have hv : t.val = (i 1).val / 1408 * 11 + (i 0).val / 768 := by rw [← ht]
    obtain ⟨i0, i1⟩ := index4 t
    refine ⟨t, flush0_4 t, ?_⟩
    show i ∈ ((View.whole main_v3_1).slice (win0_4.rect t)).set
    rw [View.set_slice_whole, Rect.mem_set_unit]
    exact all2 (cov (b := 768) (x := (i 0).val) i0 (by omega)) (cov (b := 1408) (x := (i 1).val) i1 (by omega))

theorem flushed5 (t : Fin cfg0.N) (_ : (cfg0.win 5).flush t = true) :
    (dats m 0 c).flushed 5 t = ((cfg0.win 5).blk t).view.read (Elt Ideal) (arr (gatedF A B) : Buf (Elt Ideal) ((c.tc : Thread nD τ).loc main_v3_2)) := by
  have ht : t.val < 22 := t.isLt.trans_eq N_0
  show (cfg0.win 5).cut (grid0.coords t) ((dats m 0 c).after 5 t) = _
  rw [after0_5]
  have L := tile5 m c H t
  generalize out0_5 (iblk m c 0 t) (iblk m c 1 t) (iblk m c 2 t) = o at L ⊢
  generalize gatedF A B = f at L ⊢
  obtain ⟨i0, i1⟩ := index5 t
  funext y
  rw [View.read_apply]
  let y' : S768x1408.Idx := y
  have h0 : (y' 0).val < 768 := (y' 0).isLt
  have h1 : (y' 1).val < 1408 := (y' 1).isLt
  show o y' = arr f _
  have e : ((cfg0.win 5).blk t).view.emb y = (ix2 (⟨t.val % 11 * 768 + (y' 0).val, by omega⟩ : Fin 8448) (⟨t.val / 11 * 1408 + (y' 1).val, by omega⟩ : Fin 2816) : S8448x2816.Idx) := idx2 (tile i0) (tile i1)
  have g : arr f (ix2 (⟨t.val % 11 * 768 + (y' 0).val, by omega⟩ : Fin 8448) (⟨t.val / 11 * 1408 + (y' 1).val, by omega⟩ : Fin 2816)) = o y' := by
    refine Eq.trans ?_ ((L (y' 0) (y' 1)).symm.trans (congrArg o (eq_ix2 y').symm))
    unfold arr
    rfl
  exact (congrArg (arr f) e |>.trans g).symm

theorem final5 : (dats m 0 c).arrAt 5 cfg0.N = (arr (gatedF A B) : Buf (Elt Ideal) ((c.tc : Thread nD τ).loc main_v3_2)) :=
  (dats m 0 c).arrAt_eq_of_cover 5 _ (flushed5 m c H) fun (i : S8448x2816.Idx) => by
    have h0 : (i 0).val < 8448 := (i 0).isLt
    have h1 : (i 1).val < 2816 := (i 1).isLt
    have hN : (i 1).val / 1408 * 11 + (i 0).val / 768 < cfg0.N := by rw [show cfg0.N = 22 from N_0]; omega
    generalize ht : (⟨(i 1).val / 1408 * 11 + (i 0).val / 768, hN⟩ : Fin cfg0.N) = t
    have hv : t.val = (i 1).val / 1408 * 11 + (i 0).val / 768 := by rw [← ht]
    obtain ⟨i0, i1⟩ := index5 t
    refine ⟨t, flush0_5 t, ?_⟩
    show i ∈ ((View.whole main_v3_2).slice (win0_5.rect t)).set
    rw [View.set_slice_whole, Rect.mem_set_unit]
    exact all2 (cov (b := 768) (x := (i 0).val) i0 (by omega)) (cov (b := 1408) (x := (i 1).val) i1 (by omega))
-- ==== Proof.Value6.lean ====
/-
  The feed-forward layer's first product and its gate: the kernel's are the reference's.
-/
module
public import proofs.«01_k».proof.Proof.Gate6
public import proofs.«01_k».proof.Proof.Table
public import Idealize.ShloMosaic.Lib.StableHlo.Run
public import Idealize.ShloMosaic.Lib.Pipeline.FrameSuffix
public import proofs.«01_k».proof.Proof.Gen.Reference6Ideal.Run
public import proofs.«01_k».proof.Proof.Gen.Reference6Ideal.Read
public import proofs.«01_k».proof.Defs

set_option maxRecDepth 8192
@[expose] public noncomputable section
namespace Cert.Kernel6Ideal.Gate
open Cert.Bwd (idx2 tab tab_at zero zero_at low low_row)
open Gen
open Idealize.ShloMosaic TcCoe Idealize.SL.Sem StableHlo

def arrA (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

def arrW (x : FVec Ideal S1024x5632 .f32) : FVec Ideal S1024x5632 .bf16 := truncf .bf16 x bitsLt_bf16_f32

/-- The array without the rows of padding. -/
def cutout (y : Vec Ideal S8448x2816 .bf16) : FVec Ideal S8208x2816 .f32 :=
  extf .f32 (extractStridedSlice S8208x2816 ![240, 0] y slices_S8448x2816_S8208x2816_240_0) bitsLt_bf16_f32

theorem cutout_at (y : Vec Ideal S8448x2816 .bf16) (r : Fin 8208) (l : Fin 2816) :
    cutout y (ix2 r l) = y (ix2 (⟨240 + r.val, by omega⟩ : Fin 8448) l) := by
  pointwise [cutout]

variable (m : (ℓ : Loc nD τ sig) → Buf (Elt Ideal) ℓ) (c : Dev nD)

theorem read_v1 : (V m c main_v1 : FVec Ideal S8448x1024 .bf16) = arrA (m ((c.tc : Thread nD τ).loc main_arg0)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S1024x5632 .bf16) = arrW (m ((c.tc : Thread nD τ).loc main_arg1)) := by
  show StableHlo.after _ _ (Proc.devRef .tc main_v2) = _
  after_reads_simp
  unfold arrW
  rfl

theorem arrA_at (x : FVec Ideal S8208x1024 .f32) (r : Fin 8448) (k : Fin 1024) : arrA x (ix2 r k) = low x r.val k.val := by
  unfold low
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S1024x5632 .f32) (k : Fin 1024) (l : Fin 5632) : arrW x (ix2 k l) = tab x k.val l.val :=
  (tab_at x k l).symm

abbrev in0 : FVec Ideal S8208x1024 .f32 := m ((c.tc : Thread nD τ).loc main_arg0)
abbrev in1 : FVec Ideal S1024x5632 .f32 := m ((c.tc : Thread nD τ).loc main_arg1)

theorem held : Held m c (low (in0 m c)) (tab (in1 m c)) where
  a r k := (congrFun (read_v1 m c) (ix2 r k)).trans (arrA_at _ r k)
  b k l := (congrFun (read_v2 m c) (ix2 k l)).trans (arrW_at _ k l)

/-- What the buffers hold when the kernel is done. -/
abbrev exitV : Valuation τ sig (Elt Ideal) := Pipeline.withArrays spec0 c (V0 m c) fun w => (dats m 0 c).arrAt w cfg0.N

theorem exit3 : exitV m c (Proc.devRef .tc main_v3_0) = (dats m 0 c).arrAt 3 cfg0.N :=
  Pipeline.Dat.withArrays_arrAt (dats m 0 c) launch₀0.sharedIn (V0 m c) (A_eq m c) 3

theorem tail3 (W : Valuation τ sig (Elt Ideal)) :
    after (List.flatten [hostOps1]) W (Proc.devRef .tc main_v5) = cutout (W (Proc.devRef .tc main_v3_0)) := by
  simp only [hostOps1, List.flatten_cons, List.flatten_nil, List.append_nil, List.cons_append, List.nil_append]
  after_results
  unfold cutout
  rfl

theorem fin3 : Pipeline.afterTail₀ cfgs (dats m) 0 (V0 m) [hostOps1] c main_v5 = cutout ((dats m 0 c).arrAt 3 cfg0.N) :=
  (tail3 (exitV m c)).trans (by rw [exit3])

theorem exit4 : exitV m c (Proc.devRef .tc main_v3_1) = (dats m 0 c).arrAt 4 cfg0.N :=
  Pipeline.Dat.withArrays_arrAt (dats m 0 c) launch₀0.sharedIn (V0 m c) (A_eq m c) 4

theorem tail4 (W : Valuation τ sig (Elt Ideal)) :
    after (List.flatten [hostOps1]) W (Proc.devRef .tc main_v7) = cutout (W (Proc.devRef .tc main_v3_1)) := by
  simp only [hostOps1, List.flatten_cons, List.flatten_nil, List.append_nil, List.cons_append, List.nil_append]
  after_results
  unfold cutout
  rfl

theorem fin4 : Pipeline.afterTail₀ cfgs (dats m) 0 (V0 m) [hostOps1] c main_v7 = cutout ((dats m 0 c).arrAt 4 cfg0.N) :=
  (tail4 (exitV m c)).trans (by rw [exit4])

theorem exit5 : exitV m c (Proc.devRef .tc main_v3_2) = (dats m 0 c).arrAt 5 cfg0.N :=
  Pipeline.Dat.withArrays_arrAt (dats m 0 c) launch₀0.sharedIn (V0 m c) (A_eq m c) 5

theorem tail5 (W : Valuation τ sig (Elt Ideal)) :
    after (List.flatten [hostOps1]) W (Proc.devRef .tc main_v9) = cutout (W (Proc.devRef .tc main_v3_2)) := by
  simp only [hostOps1, List.flatten_cons, List.flatten_nil, List.append_nil, List.cons_append, List.nil_append]
  after_results
  unfold cutout
  rfl

theorem fin5 : Pipeline.afterTail₀ cfgs (dats m) 0 (V0 m) [hostOps1] c main_v9 = cutout ((dats m 0 c).arrAt 5 cfg0.N) :=
  (tail5 (exitV m c)).trans (by rw [exit5])

theorem run (g : Dev nD → PrngReg) :
    θ_run defs (onTc (τ := τ) (main (F := Ideal))) ⟨m, fun _ => 0, g⟩ fun r => ∀ c : Dev nD,
      r.2.mem ((c.tc : Thread nD τ).loc main_v5) = cutout (arr (gateF (low (in0 m c)) (tab (in1 m c))))
      ∧ r.2.mem ((c.tc : Thread nD τ).loc main_v7) = cutout (arr (upF (low (in0 m c)) (tab (in1 m c))))
      ∧ r.2.mem ((c.tc : Thread nD τ).loc main_v9) = cutout (arr (gatedF (low (in0 m c)) (tab (in1 m c))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans ((fin3 m c).trans (congrArg cutout (final3 m c (held m c)))),
      ((h c).2 main_v7 (Pipeline.mem_restRefs_of main_v7 (by decide) (by decide))).trans ((fin4 m c).trans (congrArg cutout (final4 m c (held m c)))),
      ((h c).2 main_v9 (Pipeline.mem_restRefs_of main_v9 (by decide) (by decide))).trans ((fin5 m c).trans (congrArg cutout (final5 m c (held m c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m g)

section
variable (x : FVec Ideal S8208x1024 .f32) (w : FVec Ideal S1024x5632 .f32)

theorem low_entry (r l : ℕ) : entry (low x) (tab w) (240 + r) l = entry (tab x) (tab w) r l :=
  Finset.sum_congr rfl fun k _ => by rw [low_row]

open Cert.Reference6Ideal.Read

theorem ref_prod (r : Fin 8208) (l : Fin 5632) : val_main_v0 (F := Ideal) x w (ix2 r l) = entry (tab x) (tab w) r.val l.val := by
  rw [val_main_v0_apply]
  refine Finset.sum_congr rfl fun k _ => ?_
  rw [tab_at, tab_at]
  congr 2 <;> exact idx2 rfl rfl

theorem ref_gate (r : Fin 8208) (l : Fin 2816) : val_main_v1 (F := Ideal) x w (ix2 r l) = gateF (tab x) (tab w) r.val l.val := by
  rw [val_main_v1_apply]
  exact Eq.trans (congrArg (val_main_v0 (F := Ideal) x w) (by funext a; match a with | ⟨0, _⟩ => rfl | ⟨1, _⟩ => rfl)) (ref_prod x w r ⟨l.val, by omega⟩)

theorem ref_up (r : Fin 8208) (l : Fin 2816) : val_main_v2 (F := Ideal) x w (ix2 r l) = upF (tab x) (tab w) r.val l.val := by
  rw [val_main_v2_apply]
  exact Eq.trans (congrArg (val_main_v0 (F := Ideal) x w) (by funext a; match a with | ⟨0, _⟩ => rfl | ⟨1, _⟩ => rfl)) (ref_prod x w r ⟨2816 + l.val, by omega⟩)

theorem one_at : (FloatOps.ofBits .f32 0x3F800000#32 : Ideal .f32) = 1 := by
  show (Scalar.ofBits .f32 0x3F800000#32 : Ideal .f32) = 1
  pointwise

theorem ref_gated (r : Fin 8208) (l : Fin 2816) : val_main_v4 (F := Ideal) x w (ix2 r l) = gatedF (tab x) (tab w) r.val l.val := by
  rw [val_main_v4_apply, val_main_v3_apply, val_main_call0_v5_apply, val_main_call0_v4_apply, val_main_call0_v3_apply, val_main_call0_v2_apply, val_main_call0_v1_apply,
    val_main_call0_v0_apply, val_main_call0_cst_apply, val_main_call0_cst_0_apply, ref_gate, ref_up, one_at]
  rfl

theorem same (f : ℕ → ℕ → EReal) (y : FVec Ideal S8208x2816 .f32) (h : ∀ (r : Fin 8208) (l : Fin 2816), y (ix2 r l) = f (240 + r.val) l.val) :
    cutout (arr f) = y :=
  funext fun i => (congrArg (cutout (arr f)) (eq_ix2 i)).trans ((cutout_at (arr f) (i 0) (i 1)).trans
    ((h (i 0) (i 1)).symm.trans (congrArg y (eq_ix2 i)).symm))

theorem value3 : cutout (arr (gateF (low x) (tab w))) = Cert.Reference6Ideal.Read.val_main_v1 (F := Ideal) x w :=
  same _ _ fun r l => (ref_gate x w r l).trans (low_entry x w r.val l.val).symm

theorem value4 : cutout (arr (upF (low x) (tab w))) = Cert.Reference6Ideal.Read.val_main_v2 (F := Ideal) x w :=
  same _ _ fun r l => (ref_up x w r l).trans (low_entry x w r.val (2816 + l.val)).symm

theorem value5 : cutout (arr (gatedF (low x) (tab w))) = Cert.Reference6Ideal.Read.val_main_v4 (F := Ideal) x w :=
  same _ _ fun r l => (ref_gated x w r l).trans
    (congrArg₂ gated (low_entry x w r.val l.val) (low_entry x w r.val (2816 + l.val))).symm

end

theorem algebraic : Cert.algebraic_Kernel6Ideal_Reference6Ideal := by
  intro m g m' g' _ hargs
  refine ⟨fun c => cutout (arr (gateF (low (in0 m c)) (tab (in1 m c)))), fun c => cutout (arr (upF (low (in0 m c)) (tab (in1 m c)))), fun c => cutout (arr (gatedF (low (in0 m c)) (tab (in1 m c)))), run m g,
    (θ_run _ _ _).mono (fun r h c => ?_) (Cert.Reference6Ideal.Value.run m' g')⟩
  obtain ⟨h3, h4, h5, hrest⟩ := h c
  obtain ⟨a0, a1⟩ := hargs c
  refine ⟨h3.trans ?_, h4.trans ?_, h5.trans ?_, hrest⟩
  · rw [Cert.Reference6Ideal.Read.val_main_v1_eq, a0, a1]
    exact (value3 _ _).symm
  · rw [Cert.Reference6Ideal.Read.val_main_v2_eq, a0, a1]
    exact (value4 _ _).symm
  · rw [Cert.Reference6Ideal.Read.val_main_v4_eq, a0, a1]
    exact (value5 _ _).symm
-- ==== Proof.Prod7.lean ====
/-
  The weight gradient of the gated recurrence's first product, as the kernel computes it: a sum over the tokens a
  tile of 1408 tokens at a time.
-/
module
public import proofs.«01_k».proof.Proof.Gen.Kernel7Ideal.Frame
public import proofs.«01_k».proof.Proof.Table

set_option maxRecDepth 65536
@[expose] public noncomputable section
namespace Cert.Kernel7Ideal.Prod
open Cert.Bwd (all2 cov idx2 tile tile0 hz small_word zero)
open Gen
open Idealize.ShloMosaic TcCoe Idealize.SL.Sem
open Pipeline (Dat)

theorem none_at (r : Fin 1024) (l : Fin 1024) : k0_pay1 (F := Ideal) (ix2 r l) = 0 := by
  pointwise [k0_pay1]

theorem step_at (x : Vec Ideal S1024x1024 .f32) (a : Vec Ideal S1024x1408 .bf16) (b : Vec Ideal S1408x1024 .bf16) (r : Fin 1024) (l : Fin 1024) :
    k0_pay2 x a b (ix2 r l) = x (ix2 r l) + ∑ k : Fin 1408, a (ix2 r k) * b (ix2 k l) := by
  pointwise [k0_pay2]

section
variable (c : Dev nD) (i : grid0.Coords) (p3 : Memref sig .tc .vmem S1024x1408 .bf16) (q3 : p3.IsWhole) (p4 : Memref sig .tc .vmem S1408x1024 .bf16) (q4 : p4.IsWhole)
  (p5 : Memref sig .tc .vmem S1024x1024 .f32) (q5 : p5.IsWhole) (p6 : Memref sig .tc .vmem S1024x1024 .f32) (q6 : p6.IsWhole)
  (x0 : Vec Ideal S1024x1408 .bf16) (x1 : Vec Ideal S1408x1024 .bf16) (xs0 : Vec Ideal S1024x1024 .f32)

theorem scratch_A (hc0 : cond0_0 i) (hc1 : ¬cond0_1 i) :
    sout0_A_0 c i p3 q3 p4 q4 p5 q5 p6 q6 hc0 hc1 x0 x1 = k0_pay2 k0_pay1 x0 x1 := by
  unfold sout0_A_0
  rw [View.read_writes_eq_canon _ _ _ (scover0_A_0 c i p3 q3 p4 q4 p5 q5 p6 q6 hc0 hc1 x0 x1)]
  unfold kernelRun0_A
  dsimp only
  sl_unfold_words
  rw [View.canon_cons_unit_zero (S := S1024x1024) hz, View.readCov_unit_zero (S := S1024x1024) _ hz]
  simp only [View.readAt_eq_ld, q3.read_unread, q4.read_unread, View.ld_unit_zero (S := S1024x1408) hz, View.ld_unit_zero (S := S1024x1024) hz, View.ld_unit_zero (S := S1408x1024) hz]

theorem scratch_B (hc0 : ¬cond0_0 i) (hc1 : ¬cond0_1 i) :
    sout0_B_0 c i p3 q3 p4 q4 p5 q5 p6 q6 hc0 hc1 x0 x1 xs0 = k0_pay2 xs0 x0 x1 := by
  unfold sout0_B_0
  rw [View.read_writes_eq_canon _ _ _ (scover0_B_0 c i p3 q3 p4 q4 p5 q5 p6 q6 hc0 hc1 x0 x1 xs0)]
  unfold kernelRun0_B
  dsimp only
  sl_unfold_words
  rw [View.canon_unit_zero (S := S1024x1024) hz]
  simp only [View.readAt_eq_ld, q3.read_unread, q4.read_unread, q6.read_unread, View.ld_unit_zero (S := S1024x1408) hz, View.ld_unit_zero (S := S1024x1024) hz, View.ld_unit_zero (S := S1408x1024) hz]

theorem scratch_C (hc0 : ¬cond0_0 i) (hc1 : cond0_1 i) :
    sout0_C_0 c i p3 q3 p4 q4 p5 q5 p6 q6 hc0 hc1 x0 x1 xs0 = k0_pay2 xs0 x0 x1 := by
  unfold sout0_C_0
  rw [View.read_writes_eq_canon _ _ _ (scover0_C_0 c i p3 q3 p4 q4 p5 q5 p6 q6 hc0 hc1 x0 x1 xs0)]
  unfold kernelRun0_C
  dsimp only
  sl_unfold_words
  rw [View.canon_unit_zero (S := S1024x1024) hz]
  simp only [View.readAt_eq_ld, q3.read_unread, q4.read_unread, q6.read_unread, View.ld_unit_zero (S := S1024x1408) hz, View.ld_unit_zero (S := S1024x1024) hz, View.ld_unit_zero (S := S1408x1024) hz]

theorem result_C (hc0 : ¬cond0_0 i) (hc1 : cond0_1 i) :
    out0_C_2 c i p3 q3 p4 q4 p5 q5 p6 q6 hc0 hc1 x0 x1 xs0 = k0_pay2 xs0 x0 x1 := by
  unfold out0_C_2
  rw [View.read_writes_eq_canon _ _ _ (cover0_C_2 c i p3 q3 p4 q4 p5 q5 p6 q6 hc0 hc1 x0 x1 xs0)]
  unfold kernelRun0_C
  dsimp only
  sl_unfold_words
  rw [View.canon_unit_zero (S := S1024x1024) hz, View.readCov_unit_zero (S := S1024x1024) _ hz]
  simp only [View.readAt_eq_ld, q3.read_unread, q4.read_unread, q6.read_unread, View.ld_unit_zero (S := S1024x1408) hz, View.ld_unit_zero (S := S1024x1024) hz, View.ld_unit_zero (S := S1408x1024) hz]

end

variable (m : (ℓ : Loc nD τ sig) → Buf (Elt Ideal) ℓ) (c : Dev nD)

section
variable (t : Fin cfg0.N)

theorem coords_0 : (grid0.coords t 0).val = t.val / 6 := by
  have h : t.val < 24 := t.isLt.trans_eq N_0
  have e : (grid0.coords t 0).val = t.val / 6 % 4 := Pipeline.Grid.coords_val t 0 (by decide) rfl
  omega

theorem coords_1 : (grid0.coords t 1).val = 0 := by
  have e : (grid0.coords t 1).val < 1 := (grid0.coords t 1).isLt
  omega

theorem coords_2 : (grid0.coords t 2).val = t.val % 6 := by
  have e : (grid0.coords t 2).val = t.val / 1 % 6 := Pipeline.Grid.coords_val t 2 (by decide) rfl
  omega

theorem word_1 : (BitVec.ofNat 32 (grid0.coords t 1).val).toNat = 0 := by
  have h : t.val < 24 := t.isLt.trans_eq N_0
  rw [coords_1, small_word (by omega)]

theorem word_2 : (BitVec.ofNat 32 (grid0.coords t 2).val).toNat = t.val % 6 := by
  have h : t.val < 24 := t.isLt.trans_eq N_0
  rw [coords_2, small_word (by omega)]

theorem word_0 : (BitVec.ofNat 32 (grid0.coords t 0).val).toNat = t.val / 6 := by
  have h : t.val < 24 := t.isLt.trans_eq N_0
  rw [coords_0, small_word (by omega)]

theorem index0 : win0_0.index t 0 = 0 ∧ win0_0.index t 1 = t.val % 6 := ⟨word_1 t, word_2 t⟩

theorem index1 : win0_1.index t 0 = t.val % 6 ∧ win0_1.index t 1 = t.val / 6 := ⟨word_2 t, word_0 t⟩

theorem index2 : win0_2.index t 0 = 0 ∧ win0_2.index t 1 = t.val / 6 := ⟨word_1 t, word_0 t⟩

end

/-- The two arrays the kernel multiplies hold these numbers. -/
structure Held (A B : ℕ → ℕ → EReal) : Prop where
  a : ∀ (r : Fin 1024) (k : Fin 8448), (V m c main_v2 : Vec Ideal S1024x8448 .bf16) (ix2 r k) = A r.val k.val
  b : ∀ (k : Fin 8448) (l : Fin 4096), (V m c main_v4 : Vec Ideal S8448x4096 .bf16) (ix2 k l) = B k.val l.val

variable {A B : ℕ → ℕ → EReal} (H : Held m c A B)
include H

theorem blk0 (t : Fin cfg0.N) (r : Fin 1024) (k : Fin 1408) :
    (iblk m c 0 t : Vec Ideal S1024x1408 .bf16) (ix2 r k) = A r.val (t.val % 6 * 1408 + k.val) := by
  obtain ⟨i0, i1⟩ := index0 t
  unfold iblk
  rw [View.read_apply]
  refine Eq.trans ?_ (H.a r ⟨t.val % 6 * 1408 + k.val, by omega⟩)
  exact congrArg (V m c main_v2 : Vec Ideal S1024x8448 .bf16) (idx2 (tile0 i0) (tile i1))

theorem blk1 (t : Fin cfg0.N) (k : Fin 1408) (l : Fin 1024) :
    (iblk m c 1 t : Vec Ideal S1408x1024 .bf16) (ix2 k l) = B (t.val % 6 * 1408 + k.val) (t.val / 6 * 1024 + l.val) := by
  have h : t.val < 24 := t.isLt.trans_eq N_0
  obtain ⟨i0, i1⟩ := index1 t
  unfold iblk
  rw [View.read_apply]
  refine Eq.trans ?_ (H.b ⟨t.val % 6 * 1408 + k.val, by omega⟩ ⟨t.val / 6 * 1024 + l.val, by omega⟩)
  exact congrArg (V m c main_v4 : Vec Ideal S8448x4096 .bf16) (idx2 (tile i0) (tile i1))

/-- One tile's step: the sum so far and the tile's products. -/
theorem step (t : Fin cfg0.N) (x : Vec Ideal S1024x1024 .f32) (r : Fin 1024) (l : Fin 1024)
    (hx : x (ix2 r l) = ∑ k ∈ Finset.range (t.val % 6 * 1408), A r.val k * B k (t.val / 6 * 1024 + l.val)) :
    k0_pay2 x (iblk m c 0 t : Vec Ideal S1024x1408 .bf16) (iblk m c 1 t : Vec Ideal S1408x1024 .bf16) (ix2 r l)
      = ∑ k ∈ Finset.range (t.val % 6 * 1408 + 1408), A r.val k * B k (t.val / 6 * 1024 + l.val) := by
  rw [step_at, hx, Finset.sum_range_add, Finset.sum_range (fun k => A r.val (t.val % 6 * 1408 + k) * B (t.val % 6 * 1408 + k) (t.val / 6 * 1024 + l.val))]
  simp only [blk0 m c H, blk1 m c H]

theorem scratch_at : ∀ (n : ℕ) (t : Fin cfg0.N), t.val = n → ∀ (r : Fin 1024) (l : Fin 1024), (outsAt0 m c t.val t.isLt).2 (ix2 r l)
    = ∑ k ∈ Finset.range (t.val % 6 * 1408 + 1408), A r.val k * B k (t.val / 6 * 1024 + l.val) := by
  intro n
  induction n with
  | zero =>
    intro t ht r l
    rw [outsAt0_A m c t (by omega) (by omega)]
    dsimp only
    rw [scratch_A]
    exact step m c H t _ r l (by rw [none_at, ht]; rfl)
  | succ n ih =>
    intro t ht r l
    have h : t.val < 24 := t.isLt.trans_eq N_0
    by_cases h0 : t.val % 6 = 0
    · rw [outsAt0_A m c t h0 (by omega)]
      dsimp only
      rw [scratch_A]
      exact step m c H t _ r l (by rw [none_at, h0]; rfl)
    · have e := ih ⟨t.val - 1, Nat.lt_of_le_of_lt (Nat.sub_le _ _) t.isLt⟩ (by dsimp only; omega) r l
      dsimp only at e
      rw [show (t.val - 1) % 6 * 1408 + 1408 = t.val % 6 * 1408 by omega, show (t.val - 1) / 6 = t.val / 6 by omega] at e
      by_cases h1 : t.val % 6 = 5
      · rw [outsAt0_C m c t h0 h1]
        dsimp only
        rw [scratch_C]
        exact step m c H t _ r l e
      · rw [outsAt0_B m c t h0 h1]
        dsimp only
        rw [scratch_B]
        exact step m c H t _ r l e

theorem out_at (t : Fin cfg0.N) (h1 : t.val % 6 = 5) (r : Fin 1024) (l : Fin 1024) : (outsAt0 m c t.val t.isLt).1 (ix2 r l)
    = ∑ k ∈ Finset.range 8448, A r.val k * B k (t.val / 6 * 1024 + l.val) := by
  have s := scratch_at m c H t.val t rfl r l
  rw [outsAt0_C m c t (by omega) h1] at s ⊢
  dsimp only at s ⊢
  rw [scratch_C] at s
  rw [result_C, s, h1]

omit H in
/-- The product. -/
def prod (A B : ℕ → ℕ → EReal) : Vec Ideal S1024x4096 .f32 := fun i => ∑ k ∈ Finset.range 8448, A (i 0).val k * B k (i 1).val

theorem flushed (t : Fin cfg0.N) (hf : (cfg0.win 2).flush t = true) :
    (dats m 0 c).flushed 2 t = ((cfg0.win 2).blk t).view.read (Elt Ideal) (prod A B : Buf (Elt Ideal) ((c.tc : Thread nD τ).loc main_v5)) := by
  have ht : t.val < 24 := t.isLt.trans_eq N_0
  replace hf := (flush0_2 t).1 hf
  show (cfg0.win 2).cut (grid0.coords t) ((dats m 0 c).after 2 t) = _
  rw [after0_2]
  have L := out_at m c H t hf
  generalize outsAt0 m c t.val t.isLt = o at L ⊢
  obtain ⟨i0, i1⟩ := index2 t
  funext y
  rw [View.read_apply]
  let y' : S1024x1024.Idx := y
  have h0 : (y' 0).val < 1024 := (y' 0).isLt
  have h1 : (y' 1).val < 1024 := (y' 1).isLt
  show o.1 y' = (prod A B) _
  have e : ((cfg0.win 2).blk t).view.emb y = (ix2 (⟨(y' 0).val, by omega⟩ : Fin 1024) (⟨t.val / 6 * 1024 + (y' 1).val, by omega⟩ : Fin 4096) : S1024x4096.Idx) := idx2 (tile0 i0) (tile i1)
  have g : (prod A B) (ix2 (⟨(y' 0).val, by omega⟩ : Fin 1024) (⟨t.val / 6 * 1024 + (y' 1).val, by omega⟩ : Fin 4096)) = o.1 y' := by
    refine Eq.trans ?_ ((L (y' 0) (y' 1)).symm.trans (congrArg o.1 (eq_ix2 y').symm))
    unfold prod
    rfl
  exact (congrArg (prod A B) e |>.trans g).symm

theorem final : (dats m 0 c).arrAt 2 cfg0.N = (prod A B : Buf (Elt Ideal) ((c.tc : Thread nD τ).loc main_v5)) :=
  (dats m 0 c).arrAt_eq_of_cover 2 _ (flushed m c H) fun (i : S1024x4096.Idx) => by
    have h0 : (i 0).val < 1024 := (i 0).isLt
    have h1 : (i 1).val < 4096 := (i 1).isLt
    have hN : (i 1).val / 1024 * 6 + 5 < cfg0.N := by rw [show cfg0.N = 24 from N_0]; omega
    generalize ht : (⟨(i 1).val / 1024 * 6 + 5, hN⟩ : Fin cfg0.N) = t
    have hv : t.val = (i 1).val / 1024 * 6 + 5 := by rw [← ht]
    obtain ⟨i0, i1⟩ := index2 t
    refine ⟨t, (flush0_2 t).2 (by omega), ?_⟩
    show i ∈ ((View.whole main_v5).slice (win0_2.rect t)).set
    rw [View.set_slice_whole, Rect.mem_set_unit]
    exact all2 (cov (b := 1024) (x := (i 0).val) i0 (by omega)) (cov (b := 1024) (x := (i 1).val) i1 (by omega))
-- ==== Proof.Value7.lean ====
/-
  The weight gradient of the gated recurrence's first product: the kernel's is the reference's.
-/
module
public import proofs.«01_k».proof.Proof.Prod7
public import proofs.«01_k».proof.Proof.Table
public import proofs.«01_k».proof.Proof.Gen.Reference7Ideal.Run
public import proofs.«01_k».proof.Proof.Gen.Reference7Ideal.Read
public import proofs.«01_k».proof.Defs

set_option maxRecDepth 8192
@[expose] public noncomputable section
namespace Cert.Kernel7Ideal.Prod
open Cert.Bwd (idx2 tab tab_at zero zero_at)
open Gen
open Idealize.ShloMosaic TcCoe Idealize.SL.Sem StableHlo

def arrA (x : FVec Ideal S8208x1024 .f32) : FVec Ideal S1024x8448 .bf16 :=
  truncf .bf16 (transpose S1024x8448 [1, 0] (pad S8448x1024 ![240, 0] ![0, 0] ![0, 0] x zero pads_S8208x1024_S8448x1024_24000_000 h_S_) transposes_S8448x1024_S1024x8448_1_0) bitsLt_bf16_f32

def arrB (x : FVec Ideal S8208x4096 .f32) : FVec Ideal S8448x4096 .bf16 :=
  truncf .bf16 (pad S8448x4096 ![240, 0] ![0, 0] ![0, 0] x zero pads_S8208x4096_S8448x4096_24000_000 h_S_) bitsLt_bf16_f32

variable (m : (ℓ : Loc nD τ sig) → Buf (Elt Ideal) ℓ) (c : Dev nD)

theorem read_v2 : (V m c main_v2 : FVec Ideal S1024x8448 .bf16) = arrA (m ((c.tc : Thread nD τ).loc main_arg0)) := by
  show StableHlo.after _ _ (Proc.devRef .tc main_v2) = _
  after_reads_simp
  simp -implicitDefEqProofs only [TRef.toBuf, TRef.ofBuf, cast_cast, cast_eq]
  unfold arrA zero
  rfl

theorem read_v4 : (V m c main_v4 : FVec Ideal S8448x4096 .bf16) = arrB (m ((c.tc : Thread nD τ).loc main_arg1)) := by
  show StableHlo.after _ _ (Proc.devRef .tc main_v4) = _
  after_reads_simp
  simp -implicitDefEqProofs only [TRef.toBuf, TRef.ofBuf, cast_cast, cast_eq]
  unfold arrB zero
  rfl

theorem arrA_at (x : FVec Ideal S8208x1024 .f32) (r : Fin 1024) (k : Fin 8448) :
    arrA x (ix2 r k) = if k.val < 240 then 0 else tab x (k.val - 240) r.val := by
  pointwise [arrA]
  by_cases hr : k.val < 240
  · rw [dif_neg (by omega), if_pos hr, zero_at]
  · rw [dif_pos (by omega), if_neg hr]
    exact (tab_at x ⟨k.val - 240, by omega⟩ r).symm

theorem arrB_at (x : FVec Ideal S8208x4096 .f32) (k : Fin 8448) (l : Fin 4096) :
    arrB x (ix2 k l) = if k.val < 240 then 0 else tab x (k.val - 240) l.val := by
  pointwise [arrB]
  by_cases hr : k.val < 240
  · rw [dif_neg (by omega), if_pos hr, zero_at]
  · rw [dif_pos (by omega), if_neg hr]
    exact (tab_at x ⟨k.val - 240, by omega⟩ l).symm

abbrev in0 : FVec Ideal S8208x1024 .f32 := m ((c.tc : Thread nD τ).loc main_arg0)
abbrev in1 : FVec Ideal S8208x4096 .f32 := m ((c.tc : Thread nD τ).loc main_arg1)

abbrev numA (x : FVec Ideal S8208x1024 .f32) (r k : ℕ) : EReal := if k < 240 then 0 else tab x (k - 240) r
abbrev numB (x : FVec Ideal S8208x4096 .f32) (k l : ℕ) : EReal := if k < 240 then 0 else tab x (k - 240) l

theorem held : Held m c (numA (in0 m c)) (numB (in1 m c)) where
  a r k := (congrFun (read_v2 m c) (ix2 r k)).trans (arrA_at _ r k)
  b k l := (congrFun (read_v4 m c) (ix2 k l)).trans (arrB_at _ k l)

/-- The product without the rows of padding. -/
theorem prod_at (x : FVec Ideal S8208x1024 .f32) (y : FVec Ideal S8208x4096 .f32) (r : Fin 1024) (l : Fin 4096) :
    prod (numA x) (numB y) (ix2 r l) = ∑ k : Fin 8208, y (ix2 k l) * x (ix2 k r) := by
  show ∑ k ∈ Finset.range (240 + 8208), numA x r.val k * numB y k l.val = _
  rw [Finset.sum_range_add, Finset.sum_eq_zero (fun k hk => by unfold numA; rw [if_pos (Finset.mem_range.1 hk), zero_mul]), zero_add, Finset.sum_range]
  refine Finset.sum_congr rfl fun k _ => ?_
  unfold numA numB
  rw [if_neg (by omega), if_neg (by omega), Nat.add_sub_cancel_left, tab_at, tab_at, mul_comm]

theorem ref_at (x : FVec Ideal S8208x1024 .f32) (y : FVec Ideal S8208x4096 .f32) (r : Fin 1024) (l : Fin 4096) :
    Cert.Reference7Ideal.Read.val_main_v3 (F := Ideal) x y (ix2 r l) = ∑ k : Fin 8208, y (ix2 k l) * x (ix2 k r) := by
  rw [Cert.Reference7Ideal.Read.val_main_v3_apply, Cert.Reference7Ideal.Read.val_main_v2_apply]
  refine Finset.sum_congr rfl fun k _ => ?_
  congr 2 <;> exact idx2 rfl rfl

theorem value (x : FVec Ideal S8208x1024 .f32) (y : FVec Ideal S8208x4096 .f32) :
    prod (numA x) (numB y) = Cert.Reference7Ideal.Read.val_main_v3 (F := Ideal) x y :=
  funext fun i => (congrArg (prod (numA x) (numB y)) (eq_ix2 i)).trans ((prod_at x y (i 0) (i 1)).trans
    ((ref_at x y (i 0) (i 1)).symm.trans (congrArg (Cert.Reference7Ideal.Read.val_main_v3 (F := Ideal) x y) (eq_ix2 i)).symm))

theorem algebraic : Cert.algebraic_Kernel7Ideal_Reference7Ideal := by
  intro m g m' g' _ hargs
  refine ⟨fun c => prod (numA (in0 m c)) (numB (in1 m c)),
    (θ_run _ _ _).mono (fun r h c => ⟨((h.1 c).1 2).trans (final m c (held m c)), h.2 c⟩) (θ_run_and (run_main m g) (unchanged m g)),
    (θ_run _ _ _).mono (fun r h c => ?_) (Cert.Reference7Ideal.Value.run m' g')⟩
  obtain ⟨h3, hrest⟩ := h c
  obtain ⟨a0, a1⟩ := hargs c
  refine ⟨h3.trans ?_, hrest⟩
  rw [Cert.Reference7Ideal.Read.val_main_v3_eq, a0, a1]
  exact (value _ _).symm
-- ==== Proof.Prod8.lean ====
/-
  The weight gradient of the attention's first product, as the kernel computes it: a sum over the tokens a
  tile of 1408 tokens at a time.
-/
module
public import proofs.«01_k».proof.Proof.Gen.Kernel8Ideal.Frame
public import proofs.«01_k».proof.Proof.Table

set_option maxRecDepth 65536
@[expose] public noncomputable section
namespace Cert.Kernel8Ideal.Prod
open Cert.Bwd (all2 cov idx2 tile tile0 hz small_word zero)
open Gen
open Idealize.ShloMosaic TcCoe Idealize.SL.Sem
open Pipeline (Dat)

theorem none_at (r : Fin 1024) (l : Fin 1408) : k0_pay1 (F := Ideal) (ix2 r l) = 0 := by
  pointwise [k0_pay1]

theorem step_at (x : Vec Ideal S1024x1408 .f32) (a : Vec Ideal S1024x1408 .bf16) (b : Vec Ideal S1408x1408 .bf16) (r : Fin 1024) (l : Fin 1408) :
    k0_pay2 x a b (ix2 r l) = x (ix2 r l) + ∑ k : Fin 1408, a (ix2 r k) * b (ix2 k l) := by
  pointwise [k0_pay2]

section
variable (c : Dev nD) (i : grid0.Coords) (p3 : Memref sig .tc .vmem S1024x1408 .bf16) (q3 : p3.IsWhole) (p4 : Memref sig .tc .vmem S1408x1408 .bf16) (q4 : p4.IsWhole)
  (p5 : Memref sig .tc .vmem S1024x1408 .f32) (q5 : p5.IsWhole) (p6 : Memref sig .tc .vmem S1024x1408 .f32) (q6 : p6.IsWhole)
  (x0 : Vec Ideal S1024x1408 .bf16) (x1 : Vec Ideal S1408x1408 .bf16) (xs0 : Vec Ideal S1024x1408 .f32)

theorem scratch_A (hc0 : cond0_0 i) (hc1 : ¬cond0_1 i) :
    sout0_A_0 c i p3 q3 p4 q4 p5 q5 p6 q6 hc0 hc1 x0 x1 = k0_pay2 k0_pay1 x0 x1 := by
  unfold sout0_A_0
  rw [View.read_writes_eq_canon _ _ _ (scover0_A_0 c i p3 q3 p4 q4 p5 q5 p6 q6 hc0 hc1 x0 x1)]
  unfold kernelRun0_A
  dsimp only
  sl_unfold_words
  rw [View.canon_cons_unit_zero (S := S1024x1408) hz, View.readCov_unit_zero (S := S1024x1408) _ hz]
  simp only [View.readAt_eq_ld, q3.read_unread, q4.read_unread, View.ld_unit_zero (S := S1024x1408) hz, View.ld_unit_zero (S := S1408x1408) hz]

theorem scratch_B (hc0 : ¬cond0_0 i) (hc1 : ¬cond0_1 i) :
    sout0_B_0 c i p3 q3 p4 q4 p5 q5 p6 q6 hc0 hc1 x0 x1 xs0 = k0_pay2 xs0 x0 x1 := by
  unfold sout0_B_0
  rw [View.read_writes_eq_canon _ _ _ (scover0_B_0 c i p3 q3 p4 q4 p5 q5 p6 q6 hc0 hc1 x0 x1 xs0)]
  unfold kernelRun0_B
  dsimp only
  sl_unfold_words
  rw [View.canon_unit_zero (S := S1024x1408) hz]
  simp only [View.readAt_eq_ld, q3.read_unread, q4.read_unread, q6.read_unread, View.ld_unit_zero (S := S1024x1408) hz, View.ld_unit_zero (S := S1408x1408) hz]

theorem scratch_C (hc0 : ¬cond0_0 i) (hc1 : cond0_1 i) :
    sout0_C_0 c i p3 q3 p4 q4 p5 q5 p6 q6 hc0 hc1 x0 x1 xs0 = k0_pay2 xs0 x0 x1 := by
  unfold sout0_C_0
  rw [View.read_writes_eq_canon _ _ _ (scover0_C_0 c i p3 q3 p4 q4 p5 q5 p6 q6 hc0 hc1 x0 x1 xs0)]
  unfold kernelRun0_C
  dsimp only
  sl_unfold_words
  rw [View.canon_unit_zero (S := S1024x1408) hz]
  simp only [View.readAt_eq_ld, q3.read_unread, q4.read_unread, q6.read_unread, View.ld_unit_zero (S := S1024x1408) hz, View.ld_unit_zero (S := S1408x1408) hz]

theorem result_C (hc0 : ¬cond0_0 i) (hc1 : cond0_1 i) :
    out0_C_2 c i p3 q3 p4 q4 p5 q5 p6 q6 hc0 hc1 x0 x1 xs0 = k0_pay2 xs0 x0 x1 := by
  unfold out0_C_2
  rw [View.read_writes_eq_canon _ _ _ (cover0_C_2 c i p3 q3 p4 q4 p5 q5 p6 q6 hc0 hc1 x0 x1 xs0)]
  unfold kernelRun0_C
  dsimp only
  sl_unfold_words
  rw [View.canon_unit_zero (S := S1024x1408) hz, View.readCov_unit_zero (S := S1024x1408) _ hz]
  simp only [View.readAt_eq_ld, q3.read_unread, q4.read_unread, q6.read_unread, View.ld_unit_zero (S := S1024x1408) hz, View.ld_unit_zero (S := S1408x1408) hz]

end

variable (m : (ℓ : Loc nD τ sig) → Buf (Elt Ideal) ℓ) (c : Dev nD)

section
variable (t : Fin cfg0.N)

theorem coords_0 : (grid0.coords t 0).val = t.val / 6 := by
  have h : t.val < 18 := t.isLt.trans_eq N_0
  have e : (grid0.coords t 0).val = t.val / 6 % 3 := Pipeline.Grid.coords_val t 0 (by decide) rfl
  omega

theorem coords_1 : (grid0.coords t 1).val = 0 := by
  have e : (grid0.coords t 1).val < 1 := (grid0.coords t 1).isLt
  omega

theorem coords_2 : (grid0.coords t 2).val = t.val % 6 := by
  have e : (grid0.coords t 2).val = t.val / 1 % 6 := Pipeline.Grid.coords_val t 2 (by decide) rfl
  omega

theorem word_1 : (BitVec.ofNat 32 (grid0.coords t 1).val).toNat = 0 := by
  have h : t.val < 18 := t.isLt.trans_eq N_0
  rw [coords_1, small_word (by omega)]

theorem word_2 : (BitVec.ofNat 32 (grid0.coords t 2).val).toNat = t.val % 6 := by
  have h : t.val < 18 := t.isLt.trans_eq N_0
  rw [coords_2, small_word (by omega)]

theorem word_0 : (BitVec.ofNat 32 (grid0.coords t 0).val).toNat = t.val / 6 := by
  have h : t.val < 18 := t.isLt.trans_eq N_0
  rw [coords_0, small_word (by omega)]

theorem index0 : win0_0.index t 0 = 0 ∧ win0_0.index t 1 = t.val % 6 := ⟨word_1 t, word_2 t⟩

theorem index1 : win0_1.index t 0 = t.val % 6 ∧ win0_1.index t 1 = t.val / 6 := ⟨word_2 t, word_0 t⟩

theorem index2 : win0_2.index t 0 = 0 ∧ win0_2.index t 1 = t.val / 6 := ⟨word_1 t, word_0 t⟩

end

/-- The two arrays the kernel multiplies hold these numbers. -/
structure Held (A B : ℕ → ℕ → EReal) : Prop where
  a : ∀ (r : Fin 1024) (k : Fin 8448), (V m c main_v2 : Vec Ideal S1024x8448 .bf16) (ix2 r k) = A r.val k.val
  b : ∀ (k : Fin 8448) (l : Fin 4224), (V m c main_v4 : Vec Ideal S8448x4224 .bf16) (ix2 k l) = B k.val l.val

variable {A B : ℕ → ℕ → EReal} (H : Held m c A B)
include H

theorem blk0 (t : Fin cfg0.N) (r : Fin 1024) (k : Fin 1408) :
    (iblk m c 0 t : Vec Ideal S1024x1408 .bf16) (ix2 r k) = A r.val (t.val % 6 * 1408 + k.val) := by
  obtain ⟨i0, i1⟩ := index0 t
  unfold iblk
  rw [View.read_apply]
  refine Eq.trans ?_ (H.a r ⟨t.val % 6 * 1408 + k.val, by omega⟩)
  exact congrArg (V m c main_v2 : Vec Ideal S1024x8448 .bf16) (idx2 (tile0 i0) (tile i1))

theorem blk1 (t : Fin cfg0.N) (k : Fin 1408) (l : Fin 1408) :
    (iblk m c 1 t : Vec Ideal S1408x1408 .bf16) (ix2 k l) = B (t.val % 6 * 1408 + k.val) (t.val / 6 * 1408 + l.val) := by
  have h : t.val < 18 := t.isLt.trans_eq N_0
  obtain ⟨i0, i1⟩ := index1 t
  unfold iblk
  rw [View.read_apply]
  refine Eq.trans ?_ (H.b ⟨t.val % 6 * 1408 + k.val, by omega⟩ ⟨t.val / 6 * 1408 + l.val, by omega⟩)
  exact congrArg (V m c main_v4 : Vec Ideal S8448x4224 .bf16) (idx2 (tile i0) (tile i1))

/-- One tile's step: the sum so far and the tile's products. -/
theorem step (t : Fin cfg0.N) (x : Vec Ideal S1024x1408 .f32) (r : Fin 1024) (l : Fin 1408)
    (hx : x (ix2 r l) = ∑ k ∈ Finset.range (t.val % 6 * 1408), A r.val k * B k (t.val / 6 * 1408 + l.val)) :
    k0_pay2 x (iblk m c 0 t : Vec Ideal S1024x1408 .bf16) (iblk m c 1 t : Vec Ideal S1408x1408 .bf16) (ix2 r l)
      = ∑ k ∈ Finset.range (t.val % 6 * 1408 + 1408), A r.val k * B k (t.val / 6 * 1408 + l.val) := by
  rw [step_at, hx, Finset.sum_range_add, Finset.sum_range (fun k => A r.val (t.val % 6 * 1408 + k) * B (t.val % 6 * 1408 + k) (t.val / 6 * 1408 + l.val))]
  simp only [blk0 m c H, blk1 m c H]

theorem scratch_at : ∀ (n : ℕ) (t : Fin cfg0.N), t.val = n → ∀ (r : Fin 1024) (l : Fin 1408), (outsAt0 m c t.val t.isLt).2 (ix2 r l)
    = ∑ k ∈ Finset.range (t.val % 6 * 1408 + 1408), A r.val k * B k (t.val / 6 * 1408 + l.val) := by
  intro n
  induction n with
  | zero =>
    intro t ht r l
    rw [outsAt0_A m c t (by omega) (by omega)]
    dsimp only
    rw [scratch_A]
    exact step m c H t _ r l (by rw [none_at, ht]; rfl)
  | succ n ih =>
    intro t ht r l
    have h : t.val < 18 := t.isLt.trans_eq N_0
    by_cases h0 : t.val % 6 = 0
    · rw [outsAt0_A m c t h0 (by omega)]
      dsimp only
      rw [scratch_A]
      exact step m c H t _ r l (by rw [none_at, h0]; rfl)
    · have e := ih ⟨t.val - 1, Nat.lt_of_le_of_lt (Nat.sub_le _ _) t.isLt⟩ (by dsimp only; omega) r l
      dsimp only at e
      rw [show (t.val - 1) % 6 * 1408 + 1408 = t.val % 6 * 1408 by omega, show (t.val - 1) / 6 = t.val / 6 by omega] at e
      by_cases h1 : t.val % 6 = 5
      · rw [outsAt0_C m c t h0 h1]
        dsimp only
        rw [scratch_C]
        exact step m c H t _ r l e
      · rw [outsAt0_B m c t h0 h1]
        dsimp only
        rw [scratch_B]
        exact step m c H t _ r l e

theorem out_at (t : Fin cfg0.N) (h1 : t.val % 6 = 5) (r : Fin 1024) (l : Fin 1408) : (outsAt0 m c t.val t.isLt).1 (ix2 r l)
    = ∑ k ∈ Finset.range 8448, A r.val k * B k (t.val / 6 * 1408 + l.val) := by
  have s := scratch_at m c H t.val t rfl r l
  rw [outsAt0_C m c t (by omega) h1] at s ⊢
  dsimp only at s ⊢
  rw [scratch_C] at s
  rw [result_C, s, h1]

omit H in
/-- The product. -/
def prod (A B : ℕ → ℕ → EReal) : Vec Ideal S1024x4224 .f32 := fun i => ∑ k ∈ Finset.range 8448, A (i 0).val k * B k (i 1).val

theorem flushed (t : Fin cfg0.N) (hf : (cfg0.win 2).flush t = true) :
    (dats m 0 c).flushed 2 t = ((cfg0.win 2).blk t).view.read (Elt Ideal) (prod A B : Buf (Elt Ideal) ((c.tc : Thread nD τ).loc main_v5)) := by
  have ht : t.val < 18 := t.isLt.trans_eq N_0
  replace hf := (flush0_2 t).1 hf
  show (cfg0.win 2).cut (grid0.coords t) ((dats m 0 c).after 2 t) = _
  rw [after0_2]
  have L := out_at m c H t hf
  generalize outsAt0 m c t.val t.isLt = o at L ⊢
  obtain ⟨i0, i1⟩ := index2 t
  funext y
  rw [View.read_apply]
  let y' : S1024x1408.Idx := y
  have h0 : (y' 0).val < 1024 := (y' 0).isLt
  have h1 : (y' 1).val < 1408 := (y' 1).isLt
  show o.1 y' = (prod A B) _
  have e : ((cfg0.win 2).blk t).view.emb y = (ix2 (⟨(y' 0).val, by omega⟩ : Fin 1024) (⟨t.val / 6 * 1408 + (y' 1).val, by omega⟩ : Fin 4224) : S1024x4224.Idx) := idx2 (tile0 i0) (tile i1)
  have g : (prod A B) (ix2 (⟨(y' 0).val, by omega⟩ : Fin 1024) (⟨t.val / 6 * 1408 + (y' 1).val, by omega⟩ : Fin 4224)) = o.1 y' := by
    refine Eq.trans ?_ ((L (y' 0) (y' 1)).symm.trans (congrArg o.1 (eq_ix2 y').symm))
    unfold prod
    rfl
  exact (congrArg (prod A B) e |>.trans g).symm

theorem final : (dats m 0 c).arrAt 2 cfg0.N = (prod A B : Buf (Elt Ideal) ((c.tc : Thread nD τ).loc main_v5)) :=
  (dats m 0 c).arrAt_eq_of_cover 2 _ (flushed m c H) fun (i : S1024x4224.Idx) => by
    have h0 : (i 0).val < 1024 := (i 0).isLt
    have h1 : (i 1).val < 4224 := (i 1).isLt
    have hN : (i 1).val / 1408 * 6 + 5 < cfg0.N := by rw [show cfg0.N = 18 from N_0]; omega
    generalize ht : (⟨(i 1).val / 1408 * 6 + 5, hN⟩ : Fin cfg0.N) = t
    have hv : t.val = (i 1).val / 1408 * 6 + 5 := by rw [← ht]
    obtain ⟨i0, i1⟩ := index2 t
    refine ⟨t, (flush0_2 t).2 (by omega), ?_⟩
    show i ∈ ((View.whole main_v5).slice (win0_2.rect t)).set
    rw [View.set_slice_whole, Rect.mem_set_unit]
    exact all2 (cov (b := 1024) (x := (i 0).val) i0 (by omega)) (cov (b := 1408) (x := (i 1).val) i1 (by omega))
-- ==== Proof.Value8.lean ====
/-
  The weight gradient of the attention's first product: the kernel's is the reference's.
-/
module
public import proofs.«01_k».proof.Proof.Prod8
public import proofs.«01_k».proof.Proof.Table
public import proofs.«01_k».proof.Proof.Gen.Kernel8Ideal.Run
public import proofs.«01_k».proof.Proof.Gen.Reference8Ideal.Run
public import proofs.«01_k».proof.Proof.Gen.Reference8Ideal.Read
public import proofs.«01_k».proof.Defs

set_option maxRecDepth 8192
@[expose] public noncomputable section
namespace Cert.Kernel8Ideal.Prod
open Cert.Bwd (idx2 tab tab_at zero zero_at)
open Gen
open Idealize.ShloMosaic TcCoe Idealize.SL.Sem StableHlo

def arrA (x : FVec Ideal S8208x1024 .f32) : FVec Ideal S1024x8448 .bf16 :=
  truncf .bf16 (transpose S1024x8448 [1, 0] (pad S8448x1024 ![240, 0] ![0, 0] ![0, 0] x zero pads_S8208x1024_S8448x1024_24000_000 h_S_) transposes_S8448x1024_S1024x8448_1_0) bitsLt_bf16_f32

def arrB (x : FVec Ideal S8208x4112 .f32) : FVec Ideal S8448x4224 .bf16 :=
  truncf .bf16 (pad S8448x4224 ![240, 0] ![0, 112] ![0, 0] x zero pads_S8208x4112_S8448x4224_24000_01120 h_S_) bitsLt_bf16_f32

variable (m : (ℓ : Loc nD τ sig) → Buf (Elt Ideal) ℓ) (c : Dev nD)

theorem read_v2 : (V m c main_v2 : FVec Ideal S1024x8448 .bf16) = arrA (m ((c.tc : Thread nD τ).loc main_arg0)) := by
  show StableHlo.after _ _ (Proc.devRef .tc main_v2) = _
  after_reads_simp
  simp -implicitDefEqProofs only [TRef.toBuf, TRef.ofBuf, cast_cast, cast_eq]
  unfold arrA zero
  rfl

theorem read_v4 : (V m c main_v4 : FVec Ideal S8448x4224 .bf16) = arrB (m ((c.tc : Thread nD τ).loc main_arg1)) := by
  show StableHlo.after _ _ (Proc.devRef .tc main_v4) = _
  after_reads_simp
  simp -implicitDefEqProofs only [TRef.toBuf, TRef.ofBuf, cast_cast, cast_eq]
  unfold arrB zero
  rfl

theorem arrA_at (x : FVec Ideal S8208x1024 .f32) (r : Fin 1024) (k : Fin 8448) :
    arrA x (ix2 r k) = if k.val < 240 then 0 else tab x (k.val - 240) r.val := by
  pointwise [arrA]
  by_cases hr : k.val < 240
  · rw [dif_neg (by omega), if_pos hr, zero_at]
  · rw [dif_pos (by omega), if_neg hr]
    exact (tab_at x ⟨k.val - 240, by omega⟩ r).symm

theorem arrB_at (x : FVec Ideal S8208x4112 .f32) (k : Fin 8448) (l : Fin 4224) :
    arrB x (ix2 k l) = if k.val < 240 then 0 else tab x (k.val - 240) l.val := by
  pointwise [arrB]
  by_cases hr : k.val < 240
  · rw [dif_neg (by omega), if_pos hr, zero_at]
  · rw [if_neg hr]
    by_cases hl : l.val < 4112
    · rw [dif_pos (by omega)]
      exact (tab_at x ⟨k.val - 240, by omega⟩ ⟨l.val, hl⟩).symm
    · rw [dif_neg (by omega), zero_at]
      unfold tab
      rw [dif_neg (by omega)]

abbrev in0 : FVec Ideal S8208x1024 .f32 := m ((c.tc : Thread nD τ).loc main_arg0)
abbrev in1 : FVec Ideal S8208x4112 .f32 := m ((c.tc : Thread nD τ).loc main_arg1)

abbrev numA (x : FVec Ideal S8208x1024 .f32) (r k : ℕ) : EReal := if k < 240 then 0 else tab x (k - 240) r
abbrev numB (x : FVec Ideal S8208x4112 .f32) (k l : ℕ) : EReal := if k < 240 then 0 else tab x (k - 240) l

theorem held : Held m c (numA (in0 m c)) (numB (in1 m c)) where
  a r k := (congrFun (read_v2 m c) (ix2 r k)).trans (arrA_at _ r k)
  b k l := (congrFun (read_v4 m c) (ix2 k l)).trans (arrB_at _ k l)

/-- The array without the columns of padding. -/
def cutout (y : Vec Ideal S1024x4224 .f32) : FVec Ideal S1024x4112 .f32 :=
  extractStridedSlice S1024x4112 ![0, 0] y slices_S1024x4224_S1024x4112_0_0

/-- The product without the padding. -/
theorem prod_at (x : FVec Ideal S8208x1024 .f32) (y : FVec Ideal S8208x4112 .f32) (r : Fin 1024) (l : Fin 4112) :
    cutout (prod (numA x) (numB y)) (ix2 r l) = ∑ k : Fin 8208, y (ix2 k l) * x (ix2 k r) := by
  have e : cutout (prod (numA x) (numB y)) (ix2 r l) = prod (numA x) (numB y) (ix2 r (⟨l.val, by omega⟩ : Fin 4224)) := by
    generalize prod (numA x) (numB y) = z
    pointwise [cutout]
  rw [e]
  show ∑ k ∈ Finset.range (240 + 8208), numA x r.val k * numB y k l.val = _
  rw [Finset.sum_range_add, Finset.sum_eq_zero (fun k hk => by unfold numA; rw [if_pos (Finset.mem_range.1 hk), zero_mul]), zero_add, Finset.sum_range]
  refine Finset.sum_congr rfl fun k _ => ?_
  unfold numA numB
  rw [if_neg (by omega), if_neg (by omega), Nat.add_sub_cancel_left, tab_at, tab_at, mul_comm]

theorem ref_at (x : FVec Ideal S8208x1024 .f32) (y : FVec Ideal S8208x4112 .f32) (r : Fin 1024) (l : Fin 4112) :
    Cert.Reference8Ideal.Read.val_main_v3 (F := Ideal) x y (ix2 r l) = ∑ k : Fin 8208, y (ix2 k l) * x (ix2 k r) := by
  rw [Cert.Reference8Ideal.Read.val_main_v3_apply, Cert.Reference8Ideal.Read.val_main_v2_apply]
  refine Finset.sum_congr rfl fun k _ => ?_
  congr 2 <;> exact idx2 rfl rfl

theorem value (x : FVec Ideal S8208x1024 .f32) (y : FVec Ideal S8208x4112 .f32) :
    cutout (prod (numA x) (numB y)) = Cert.Reference8Ideal.Read.val_main_v3 (F := Ideal) x y :=
  funext fun i => (congrArg (cutout (prod (numA x) (numB y))) (eq_ix2 i)).trans ((prod_at x y (i 0) (i 1)).trans
    ((ref_at x y (i 0) (i 1)).symm.trans (congrArg (Cert.Reference8Ideal.Read.val_main_v3 (F := Ideal) x y) (eq_ix2 i)).symm))

theorem algebraic : Cert.algebraic_Kernel8Ideal_Reference8Ideal := by
  intro m g m' g' _ hargs
  refine ⟨fun c => cutout (prod (numA (in0 m c)) (numB (in1 m c))),
    (θ_run _ _ _).mono (fun r h c => ⟨(h c).1.trans (congrArg cutout (final m c (held m c))), (h c).2⟩) (Cert.Kernel8Ideal.Value.run m g),
    (θ_run _ _ _).mono (fun r h c => ?_) (Cert.Reference8Ideal.Value.run m' g')⟩
  obtain ⟨h3, hrest⟩ := h c
  obtain ⟨a0, a1⟩ := hargs c
  refine ⟨h3.trans ?_, hrest⟩
  rw [Cert.Reference8Ideal.Read.val_main_v3_eq, a0, a1]
  exact (value _ _).symm
-- ==== Proof.Norm9.lean ====
/-
  The gradient of the gated recurrence's input as the kernel computes it, 384 tokens at a time.
-/
module
public import proofs.«01_k».proof.Proof.Gen.Kernel9Ideal.Frame
public import proofs.«01_k».proof.Proof.Table

set_option maxRecDepth 65536
@[expose] public noncomputable section
namespace Cert.Kernel9Ideal.Norm
open Cert.Bwd (all2 cov idx2 tile tile0 hz small_word zero)
open Gen
open Idealize.ShloMosaic TcCoe Idealize.SL.Sem
open Pipeline (Dat)

def cN : EReal := Ideal.ofBits FTy.f32 0x44800000#32
def cE : EReal := Ideal.ofBits FTy.f32 0x358637BD#32
def cH : EReal := Ideal.ofBits FTy.f32 0xBF000000#32

/-- A row's mean square and the small constant. -/
def size (x : ℕ → EReal) : EReal := Ideal.div (∑ j : Fin 1024, x j.val * x j.val) cN + cE

/-- What the row is scaled by. -/
def scale (x : ℕ → EReal) : EReal := Ideal.rsqrt (size x)

/-- The gradient through the scale. -/
def slope (x d g : ℕ → EReal) : EReal :=
  Ideal.div ((∑ j : Fin 1024, x j.val * (d j.val * g j.val)) * (cH * Ideal.div (scale x) (size x))) cN

/-- An entry of the row's gradient, the residual's added last. -/
def entry (x d g res : ℕ → EReal) (l : ℕ) : EReal :=
  d l * g l * scale x + x l * slope x d g + slope x d g * x l + res l

/-- A row's part of the gain's gradient. -/
def part (x d : ℕ → EReal) (l : ℕ) : EReal := x l * scale x * d l

section
variable {a : Vec Ideal S384x4096 .bf16} {w : Vec Ideal S1024x4096 .bf16} {x : Vec Ideal S384x1024 .f32} {g : Vec Ideal S1x1024 .f32} {r : Fin 384}
  {xs ds gs : ℕ → EReal} (hd : ∀ l : Fin 1024, ∑ k : Fin 4096, a (ix2 r k) * w (ix2 l k) = ds l.val)
  (hx : ∀ l : Fin 1024, x (ix2 r l) = xs l.val) (hg : ∀ l : Fin 1024, g (ix2 0 l) = gs l.val)

include hd in
theorem prod_at (l : Fin 1024) : k0_pay5 a w (ix2 r l) = ds l.val := by
  rw [← hd]
  pointwise [k0_pay5]

include hx in
theorem row_at (l : Fin 1024) : k0_pay6 x (ix2 r l) = xs l.val := by
  rw [← hx]
  pointwise [k0_pay6]

include hx in
theorem size_at (z : Fin 1) : k0_pay7 x (ix2 r z) = size xs := by
  pointwise [k0_pay7]
  simp only [row_at hx]
  rfl

include hx in
theorem scale_at (z : Fin 1) : k0_pay8 x (ix2 r z) = scale xs := by
  pointwise [k0_pay8]
  rw [size_at hx]
  rfl

include hd hg in
theorem gained_at (l : Fin 1024) : k0_pay10 a w g (ix2 r l) = ds l.val * gs l.val := by
  pointwise [k0_pay10]
  rw [prod_at hd, hg]

include hd hx hg in
theorem first_at (l : Fin 1024) : k0_pay11 a w x g (ix2 r l) = ds l.val * gs l.val * scale xs := by
  pointwise [k0_pay11]
  rw [gained_at hd hg, scale_at hx]

include hd hx hg in
theorem slope_at : k0_pay12 a w x g (ix1 r) = slope xs ds gs := by
  pointwise [k0_pay12]
  simp only [row_at hx, gained_at hd hg, scale_at hx, size_at hx]
  rw [Fin.sum_univ_one]
  rfl

include hd hx hg in
theorem entry_at {res : Vec Ideal S384x1024 .f32} {rs : ℕ → EReal} (hr : ∀ l : Fin 1024, res (ix2 r l) = rs l.val) (l : Fin 1024) :
    k0_pay1 (k0_pay6 x) (k0_pay11 a w x g) (k0_pay12 a w x g) res (ix2 r l) = entry xs ds gs rs l.val := by
  have e6 := row_at hx l
  have e11 := first_at hd hx hg l
  have e12 := slope_at hd hx hg
  generalize k0_pay6 x = p at e6 ⊢
  generalize k0_pay11 a w x g = q at e11 ⊢
  generalize k0_pay12 a w x g = s at e12 ⊢
  pointwise [k0_pay1]
  rw [e6, e11, e12, hr]
  rfl

end

section
variable {a : Vec Ideal S384x4096 .bf16} {w : Vec Ideal S1024x4096 .bf16} {x : Vec Ideal S384x1024 .f32}
  {xs ds : ℕ → ℕ → EReal} (hd : ∀ (r : Fin 384) (l : Fin 1024), ∑ k : Fin 4096, a (ix2 r k) * w (ix2 l k) = ds r.val l.val)
  (hx : ∀ (r : Fin 384) (l : Fin 1024), x (ix2 r l) = xs r.val l.val)

include hd hx in
theorem part_at (z : Fin 1) (l : Fin 1024) : k0_pay9 a w x (ix2 z l) = ∑ r : Fin 384, part (xs r.val) (ds r.val) l.val := by
  pointwise [k0_pay9]
  refine Finset.sum_congr rfl fun r _ => ?_
  rw [row_at (hx r), scale_at (hx r), prod_at (hd r)]
  rfl

theorem more_at (v : Vec Ideal S1x1024 .f32) (z : Fin 1) (l : Fin 1024) : k0_pay3 (k0_pay9 a w x) v (ix2 z l) = v (ix2 z l) + k0_pay9 a w x (ix2 z l) := by
  generalize k0_pay9 a w x = p
  pointwise [k0_pay3]

theorem none_at (z : Fin 1) (l : Fin 1024) : (k0_pay4 (F := Ideal)) (ix2 z l) = 0 := by
  pointwise [k0_pay4]

end

section
variable (c : Dev nD) (i : grid0.Coords) (p1 : Memref sig .tc .vmem S384x4096 .bf16) (q1 : p1.IsWhole) (p2 : Memref sig .tc .vmem S1024x4096 .bf16) (q2 : p2.IsWhole) (p3 : Memref sig .tc .vmem S384x1024 .f32) (q3 : p3.IsWhole) (p4 : Memref sig .tc .vmem S1x1024 .f32) (q4 : p4.IsWhole) (p5 : Memref sig .tc .vmem S384x1024 .f32) (q5 : p5.IsWhole) (p6 : Memref sig .tc .vmem S384x1024 .f32) (q6 : p6.IsWhole) (p7 : Memref sig .tc .vmem S384x1024 .bf16) (q7 : p7.IsWhole) (p8 : Memref sig .tc .vmem S1x1024 .f32) (q8 : p8.IsWhole)
  (x0 : Vec Ideal S384x4096 .bf16) (x1 : Vec Ideal S1024x4096 .bf16) (x2 : Vec Ideal S384x1024 .f32) (x3 : Vec Ideal S1x1024 .f32) (x4 : Vec Ideal S384x1024 .f32) (xo7 : Vec Ideal S1x1024 .f32)

theorem grad_A (hc0 : cond0_0 i) :
    out0_A_5 c i p1 q1 p2 q2 p3 q3 p4 q4 p5 q5 p6 q6 p7 q7 p8 q8 hc0 x0 x1 x2 x3 x4 = k0_pay1 (k0_pay6 x2) (k0_pay11 x0 x1 x2 x3) (k0_pay12 x0 x1 x2 x3) x4 := by
  unfold out0_A_5
  rw [View.read_writes_eq_canon _ _ _ (cover0_A_5 c i p1 q1 p2 q2 p3 q3 p4 q4 p5 q5 p6 q6 p7 q7 p8 q8 hc0 x0 x1 x2 x3 x4)]
  unfold kernelRun0_A
  dsimp only
  sl_unfold_words
  rw [View.canon_unit_zero (S := S384x1024) hz]
  simp only [View.readAt_eq_ld, q1.read_unread, q2.read_unread, q3.read_unread, q4.read_unread, q5.read_unread, q8.read_unread, View.ld_unit_zero (S := S384x4096) hz, View.ld_unit_zero (S := S1024x4096) hz, View.ld_unit_zero (S := S384x1024) hz, View.ld_unit_zero (S := S1x1024) hz]

theorem gain_A (hc0 : cond0_0 i) :
    out0_A_7 c i p1 q1 p2 q2 p3 q3 p4 q4 p5 q5 p6 q6 p7 q7 p8 q8 hc0 x0 x1 x2 x3 x4 = k0_pay3 (k0_pay9 x0 x1 x2) (k0_pay4 (F := Ideal)) := by
  unfold out0_A_7
  rw [View.read_writes_eq_canon _ _ _ (cover0_A_7 c i p1 q1 p2 q2 p3 q3 p4 q4 p5 q5 p6 q6 p7 q7 p8 q8 hc0 x0 x1 x2 x3 x4)]
  unfold kernelRun0_A
  dsimp only
  sl_unfold_words
  rw [View.canon_cons_unit_zero (S := S1x1024) hz, View.readCov_unit_zero (S := S1x1024) _ hz]
  simp only [View.readAt_eq_ld, q1.read_unread, q2.read_unread, q3.read_unread, q4.read_unread, q5.read_unread, q8.read_unread, View.ld_unit_zero (S := S384x4096) hz, View.ld_unit_zero (S := S1024x4096) hz, View.ld_unit_zero (S := S384x1024) hz, View.ld_unit_zero (S := S1x1024) hz]

theorem grad_B (hc0 : ¬cond0_0 i) :
    out0_B_5 c i p1 q1 p2 q2 p3 q3 p4 q4 p5 q5 p6 q6 p7 q7 p8 q8 hc0 x0 x1 x2 x3 x4 xo7 = k0_pay1 (k0_pay6 x2) (k0_pay11 x0 x1 x2 x3) (k0_pay12 x0 x1 x2 x3) x4 := by
  unfold out0_B_5
  rw [View.read_writes_eq_canon _ _ _ (cover0_B_5 c i p1 q1 p2 q2 p3 q3 p4 q4 p5 q5 p6 q6 p7 q7 p8 q8 hc0 x0 x1 x2 x3 x4 xo7)]
  unfold kernelRun0_B
  dsimp only
  sl_unfold_words
  rw [View.canon_unit_zero (S := S384x1024) hz]
  simp only [View.readAt_eq_ld, q1.read_unread, q2.read_unread, q3.read_unread, q4.read_unread, q5.read_unread, q8.read_unread, View.ld_unit_zero (S := S384x4096) hz, View.ld_unit_zero (S := S1024x4096) hz, View.ld_unit_zero (S := S384x1024) hz, View.ld_unit_zero (S := S1x1024) hz]

theorem gain_B (hc0 : ¬cond0_0 i) :
    out0_B_7 c i p1 q1 p2 q2 p3 q3 p4 q4 p5 q5 p6 q6 p7 q7 p8 q8 hc0 x0 x1 x2 x3 x4 xo7 = k0_pay3 (k0_pay9 x0 x1 x2) xo7 := by
  unfold out0_B_7
  rw [View.read_writes_eq_canon _ _ _ (cover0_B_7 c i p1 q1 p2 q2 p3 q3 p4 q4 p5 q5 p6 q6 p7 q7 p8 q8 hc0 x0 x1 x2 x3 x4 xo7)]
  unfold kernelRun0_B
  dsimp only
  sl_unfold_words
  rw [View.canon_unit_zero (S := S1x1024) hz]
  simp only [View.readAt_eq_ld, q1.read_unread, q2.read_unread, q3.read_unread, q4.read_unread, q5.read_unread, q8.read_unread, View.ld_unit_zero (S := S384x4096) hz, View.ld_unit_zero (S := S1024x4096) hz, View.ld_unit_zero (S := S384x1024) hz, View.ld_unit_zero (S := S1x1024) hz]

end

variable (m : (ℓ : Loc nD τ sig) → Buf (Elt Ideal) ℓ) (c : Dev nD)

section
variable (t : Fin cfg0.N)

theorem coords_0 : (grid0.coords t 0).val = t.val := by
  have h : t.val < 22 := t.isLt.trans_eq N_0
  have e : (grid0.coords t 0).val = t.val / 1 % 22 := Pipeline.Grid.coords_val t 0 (by decide) rfl
  omega

theorem word_0 : (BitVec.ofNat 32 (grid0.coords t 0).val).toNat = t.val := by
  have h : t.val < 22 := t.isLt.trans_eq N_0
  rw [coords_0, small_word (by omega)]

theorem index0 : win0_0.index t 0 = t.val ∧ win0_0.index t 1 = 0 := ⟨word_0 t, rfl⟩

theorem index1 : win0_1.index t 0 = 0 ∧ win0_1.index t 1 = 0 := ⟨rfl, rfl⟩

theorem index2 : win0_2.index t 0 = t.val ∧ win0_2.index t 1 = 0 := ⟨word_0 t, rfl⟩

theorem index3 : win0_3.index t 0 = 0 ∧ win0_3.index t 1 = 0 := ⟨rfl, rfl⟩

theorem index4 : win0_4.index t 0 = t.val ∧ win0_4.index t 1 = 0 := ⟨word_0 t, rfl⟩

theorem index5 : win0_5.index t 0 = t.val ∧ win0_5.index t 1 = 0 := ⟨word_0 t, rfl⟩

theorem index7 : win0_7.index t 0 = 0 ∧ win0_7.index t 1 = 0 := ⟨rfl, rfl⟩

end

abbrev tileA (t : Fin cfg0.N) : Vec Ideal S384x4096 .bf16 := iblk m c 0 t
abbrev tileW (t : Fin cfg0.N) : Vec Ideal S1024x4096 .bf16 := iblk m c 1 t

/-- The kernel's five arrays hold these numbers. -/
structure Held (A W X : ℕ → ℕ → EReal) (G : ℕ → EReal) (R : ℕ → ℕ → EReal) : Prop where
  a : ∀ (r : Fin 8448) (k : Fin 4096), (V m c main_v1 : Vec Ideal S8448x4096 .bf16) (ix2 r k) = A r.val k.val
  w : ∀ (l : Fin 1024) (k : Fin 4096), (V m c main_v2 : Vec Ideal S1024x4096 .bf16) (ix2 l k) = W l.val k.val
  x : ∀ (r : Fin 8448) (l : Fin 1024), (V m c main_v3 : Vec Ideal S8448x1024 .f32) (ix2 r l) = X r.val l.val
  g : ∀ (z : Fin 1) (l : Fin 1024), (V m c main_v4 : Vec Ideal S1x1024 .f32) (ix2 z l) = G l.val
  r : ∀ (r : Fin 8448) (l : Fin 1024), (V m c main_v5 : Vec Ideal S8448x1024 .f32) (ix2 r l) = R r.val l.val

variable {A W X : ℕ → ℕ → EReal} {G : ℕ → EReal} {R : ℕ → ℕ → EReal} (H : Held m c A W X G R)
include H

theorem blk0 (t : Fin cfg0.N) (r : Fin 384) (k : Fin 4096) :
    (iblk m c 0 t : Vec Ideal S384x4096 .bf16) (ix2 r k) = A (t.val * 384 + r.val) k.val := by
  have h : t.val < 22 := t.isLt.trans_eq N_0
  obtain ⟨i0, i1⟩ := index0 t
  unfold iblk
  rw [View.read_apply]
  refine Eq.trans ?_ (H.a ⟨t.val * 384 + r.val, by omega⟩ k)
  exact congrArg (V m c main_v1 : Vec Ideal S8448x4096 .bf16) (idx2 (tile i0) (tile0 i1))

theorem blk1 (t : Fin cfg0.N) (r : Fin 1024) (k : Fin 4096) :
    (iblk m c 1 t : Vec Ideal S1024x4096 .bf16) (ix2 r k) = W r.val k.val := by
  have h : t.val < 22 := t.isLt.trans_eq N_0
  obtain ⟨i0, i1⟩ := index1 t
  unfold iblk
  rw [View.read_apply]
  refine Eq.trans ?_ (H.w r k)
  exact congrArg (V m c main_v2 : Vec Ideal S1024x4096 .bf16) (idx2 (tile0 i0) (tile0 i1))

theorem blk2 (t : Fin cfg0.N) (r : Fin 384) (k : Fin 1024) :
    (iblk m c 2 t : Vec Ideal S384x1024 .f32) (ix2 r k) = X (t.val * 384 + r.val) k.val := by
  have h : t.val < 22 := t.isLt.trans_eq N_0
  obtain ⟨i0, i1⟩ := index2 t
  unfold iblk
  rw [View.read_apply]
  refine Eq.trans ?_ (H.x ⟨t.val * 384 + r.val, by omega⟩ k)
  exact congrArg (V m c main_v3 : Vec Ideal S8448x1024 .f32) (idx2 (tile i0) (tile0 i1))

theorem blk3 (t : Fin cfg0.N) (r : Fin 1) (k : Fin 1024) :
    (iblk m c 3 t : Vec Ideal S1x1024 .f32) (ix2 r k) = G k.val := by
  have h : t.val < 22 := t.isLt.trans_eq N_0
  obtain ⟨i0, i1⟩ := index3 t
  unfold iblk
  rw [View.read_apply]
  refine Eq.trans ?_ (H.g r k)
  exact congrArg (V m c main_v4 : Vec Ideal S1x1024 .f32) (idx2 (tile0 i0) (tile0 i1))

theorem blk4 (t : Fin cfg0.N) (r : Fin 384) (k : Fin 1024) :
    (iblk m c 4 t : Vec Ideal S384x1024 .f32) (ix2 r k) = R (t.val * 384 + r.val) k.val := by
  have h : t.val < 22 := t.isLt.trans_eq N_0
  obtain ⟨i0, i1⟩ := index4 t
  unfold iblk
  rw [View.read_apply]
  refine Eq.trans ?_ (H.r ⟨t.val * 384 + r.val, by omega⟩ k)
  exact congrArg (V m c main_v5 : Vec Ideal S8448x1024 .f32) (idx2 (tile i0) (tile0 i1))

omit H in
/-- The layer's gradient before the gain. -/
def dn (A W : ℕ → ℕ → EReal) (i l : ℕ) : EReal := ∑ k : Fin 4096, A i k.val * W l k.val

theorem tile_prod (t : Fin cfg0.N) (r : Fin 384) (l : Fin 1024) :
    ∑ k : Fin 4096, tileA m c t (ix2 r k) * tileW m c t (ix2 l k) = dn A W (t.val * 384 + r.val) l.val :=
  Finset.sum_congr rfl fun k _ => congrArg₂ (· * ·) (blk0 m c H t r k) (blk1 m c H t l k)

theorem tile_grad (t : Fin cfg0.N) (r : Fin 384) (l : Fin 1024) : (outsAt0 m c t.val t.isLt).1 (ix2 r l)
    = entry (X (t.val * 384 + r.val)) (dn A W (t.val * 384 + r.val)) G (R (t.val * 384 + r.val)) l.val := by
  have e := entry_at (a := iblk m c 0 t) (w := iblk m c 1 t) (x := iblk m c 2 t) (g := iblk m c 3 t) (r := r)
    (tile_prod m c H t r) (blk2 m c H t r) (blk3 m c H t 0) (res := iblk m c 4 t) (blk4 m c H t r) l
  by_cases h0 : t.val % 22 = 0
  · rw [outsAt0_A m c t h0]
    dsimp only
    rw [grad_A]
    exact e
  · rw [outsAt0_B m c t h0]
    dsimp only
    rw [grad_B]
    exact e

theorem tile_gain (t : Fin cfg0.N) (z : Fin 1) (l : Fin 1024) :
    k0_pay9 (iblk m c 0 t : Vec Ideal S384x4096 .bf16) (iblk m c 1 t : Vec Ideal S1024x4096 .bf16) (iblk m c 2 t : Vec Ideal S384x1024 .f32) (ix2 z l)
      = ∑ r ∈ Finset.range 384, part (X (t.val * 384 + r)) (dn A W (t.val * 384 + r)) l.val :=
  (part_at (a := iblk m c 0 t) (w := iblk m c 1 t) (x := iblk m c 2 t) (xs := fun r => X (t.val * 384 + r)) (ds := fun r => dn A W (t.val * 384 + r))
    (tile_prod m c H t) (blk2 m c H t) z l).trans
    (Finset.sum_range (fun r => part (X (t.val * 384 + r)) (dn A W (t.val * 384 + r)) l.val)).symm

theorem gain_at : ∀ (n : ℕ) (t : Fin cfg0.N), t.val = n → ∀ (z : Fin 1) (l : Fin 1024), (outsAt0 m c t.val t.isLt).2.2 (ix2 z l)
    = ∑ i ∈ Finset.range (t.val * 384 + 384), part (X i) (dn A W i) l.val := by
  intro n
  induction n with
  | zero =>
    intro t ht z l
    rw [outsAt0_A m c t (by omega)]
    dsimp only
    rw [gain_A, more_at, none_at, zero_add, tile_gain m c H, ht]
    simp only [Nat.zero_mul, Nat.zero_add]
  | succ n ih =>
    intro t ht z l
    have h : t.val < 22 := t.isLt.trans_eq N_0
    have e := ih ⟨t.val - 1, Nat.lt_of_le_of_lt (Nat.sub_le _ _) t.isLt⟩ (by dsimp only; omega) z l
    dsimp only at e
    rw [show (t.val - 1) * 384 + 384 = t.val * 384 by omega] at e
    rw [outsAt0_B m c t (by omega)]
    dsimp only
    rw [gain_B, more_at, e, tile_gain m c H, Finset.sum_range_add]

omit H in
/-- The array of the tokens' gradients. -/
def grad (A W X : ℕ → ℕ → EReal) (G : ℕ → EReal) (R : ℕ → ℕ → EReal) : Vec Ideal S8448x1024 .f32 :=
  fun i => entry (X (i 0).val) (dn A W (i 0).val) G (R (i 0).val) (i 1).val

omit H in
/-- The gain's gradient. -/
def gain (A W X : ℕ → ℕ → EReal) : Vec Ideal S1x1024 .f32 :=
  fun i => ∑ j ∈ Finset.range 8448, part (X j) (dn A W j) (i 1).val

theorem flushed5 (t : Fin cfg0.N) (_ : (cfg0.win 5).flush t = true) :
    (dats m 0 c).flushed 5 t = ((cfg0.win 5).blk t).view.read (Elt Ideal) (grad A W X G R : Buf (Elt Ideal) ((c.tc : Thread nD τ).loc main_v6_0)) := by
  have ht : t.val < 22 := t.isLt.trans_eq N_0
  show (cfg0.win 5).cut (grid0.coords t) ((dats m 0 c).after 5 t) = _
  rw [after0_5]
  have L := tile_grad m c H t
  generalize outsAt0 m c t.val t.isLt = o at L ⊢
  obtain ⟨i0, i1⟩ := index5 t
  funext y
  rw [View.read_apply]
  let y' : S384x1024.Idx := y
  have h0 : (y' 0).val < 384 := (y' 0).isLt
  have h1 : (y' 1).val < 1024 := (y' 1).isLt
  show o.1 y' = (grad A W X G R) _
  have e : ((cfg0.win 5).blk t).view.emb y = (ix2 (⟨t.val * 384 + (y' 0).val, by omega⟩ : Fin 8448) (⟨(y' 1).val, by omega⟩ : Fin 1024) : S8448x1024.Idx) := idx2 (tile i0) (tile0 i1)
  have g : (grad A W X G R) (ix2 (⟨t.val * 384 + (y' 0).val, by omega⟩ : Fin 8448) (⟨(y' 1).val, by omega⟩ : Fin 1024)) = o.1 y' := by
    refine Eq.trans ?_ ((L (y' 0) (y' 1)).symm.trans (congrArg o.1 (eq_ix2 y').symm))
    unfold grad
    rfl
  exact (congrArg (grad A W X G R) e |>.trans g).symm

theorem final5 : (dats m 0 c).arrAt 5 cfg0.N = (grad A W X G R : Buf (Elt Ideal) ((c.tc : Thread nD τ).loc main_v6_0)) :=
  (dats m 0 c).arrAt_eq_of_cover 5 _ (flushed5 m c H) fun (i : S8448x1024.Idx) => by
    have h0 : (i 0).val < 8448 := (i 0).isLt
    have h1 : (i 1).val < 1024 := (i 1).isLt
    have hN : (i 0).val / 384 < cfg0.N := by rw [show cfg0.N = 22 from N_0]; omega
    generalize ht : (⟨(i 0).val / 384, hN⟩ : Fin cfg0.N) = t
    have hv : t.val = (i 0).val / 384 := by rw [← ht]
    obtain ⟨i0, i1⟩ := index5 t
    refine ⟨t, flush0_5 t, ?_⟩
    show i ∈ ((View.whole main_v6_0).slice (win0_5.rect t)).set
    rw [View.set_slice_whole, Rect.mem_set_unit]
    exact all2 (cov (b := 384) (x := (i 0).val) i0 (by omega)) (cov (b := 1024) (x := (i 1).val) i1 (by omega))

theorem flushed7 (t : Fin cfg0.N) (hf : (cfg0.win 7).flush t = true) :
    (dats m 0 c).flushed 7 t = ((cfg0.win 7).blk t).view.read (Elt Ideal) (gain A W X : Buf (Elt Ideal) ((c.tc : Thread nD τ).loc main_v6_2)) := by
  have ht : t.val < 22 := t.isLt.trans_eq N_0
  replace hf := (flush0_7 t).1 hf
  show (cfg0.win 7).cut (grid0.coords t) ((dats m 0 c).after 7 t) = _
  rw [after0_7]
  have L := gain_at m c H t.val t rfl
  rw [show t.val * 384 + 384 = 8448 by omega] at L
  generalize outsAt0 m c t.val t.isLt = o at L ⊢
  obtain ⟨i0, i1⟩ := index7 t
  funext y
  rw [View.read_apply]
  let y' : S1x1024.Idx := y
  have h0 : (y' 0).val < 1 := (y' 0).isLt
  have h1 : (y' 1).val < 1024 := (y' 1).isLt
  show o.2.2 y' = (gain A W X) _
  have e : ((cfg0.win 7).blk t).view.emb y = (ix2 (⟨(y' 0).val, by omega⟩ : Fin 1) (⟨(y' 1).val, by omega⟩ : Fin 1024) : S1x1024.Idx) := idx2 (tile0 i0) (tile0 i1)
  have g : (gain A W X) (ix2 (⟨(y' 0).val, by omega⟩ : Fin 1) (⟨(y' 1).val, by omega⟩ : Fin 1024)) = o.2.2 y' := by
    refine Eq.trans ?_ ((L (y' 0) (y' 1)).symm.trans (congrArg o.2.2 (eq_ix2 y').symm))
    unfold gain
    rfl
  exact (congrArg (gain A W X) e |>.trans g).symm

theorem final7 : (dats m 0 c).arrAt 7 cfg0.N = (gain A W X : Buf (Elt Ideal) ((c.tc : Thread nD τ).loc main_v6_2)) :=
  (dats m 0 c).arrAt_eq_of_cover 7 _ (flushed7 m c H) fun (i : S1x1024.Idx) => by
    have h0 : (i 0).val < 1 := (i 0).isLt
    have h1 : (i 1).val < 1024 := (i 1).isLt
    have hN : 21 < cfg0.N := by rw [show cfg0.N = 22 from N_0]; omega
    generalize ht : (⟨21, hN⟩ : Fin cfg0.N) = t
    have hv : t.val = 21 := by rw [← ht]
    obtain ⟨i0, i1⟩ := index7 t
    refine ⟨t, (flush0_7 t).2 (by omega), ?_⟩
    show i ∈ ((View.whole main_v6_2).slice (win0_7.rect t)).set
    rw [View.set_slice_whole, Rect.mem_set_unit]
    exact all2 (cov (b := 1) (x := (i 0).val) i0 (by omega)) (cov (b := 1024) (x := (i 1).val) i1 (by omega))
-- ==== Proof.Value9.lean ====
/-
  The gradient of the gated recurrence's input: the kernel's is the reference's.
-/
module
public import proofs.«01_k».proof.Proof.Norm9
public import proofs.«01_k».proof.Proof.Table
public import proofs.«01_k».proof.Proof.Gen.Kernel9Ideal.Run
public import proofs.«01_k».proof.Proof.Gen.Reference9Ideal.Run
public import proofs.«01_k».proof.Proof.Gen.Reference9Ideal.Read
public import proofs.«01_k».proof.Defs

set_option maxRecDepth 8192
@[expose] public noncomputable section
namespace Cert.Kernel9Ideal.Norm
open Cert.Bwd (idx2 tab tab_at zero zero_at low low_row low_pad col col_at none_host)
open Gen
open Idealize.ShloMosaic TcCoe Idealize.SL.Sem StableHlo

def arrA (x : FVec Ideal S8208x4096 .f32) : FVec Ideal S8448x4096 .bf16 :=
  truncf .bf16 (pad S8448x4096 ![240, 0] ![0, 0] ![0, 0] x zero pads_S8208x4096_S8448x4096_24000_000 h_S_) bitsLt_bf16_f32

def arrW (x : FVec Ideal S1024x4096 .f32) : FVec Ideal S1024x4096 .bf16 := truncf .bf16 x bitsLt_bf16_f32

def arrX (x : FVec Ideal S8208x1024 .f32) : FVec Ideal S8448x1024 .f32 :=
  pad S8448x1024 ![240, 0] ![0, 0] ![0, 0] x zero pads_S8208x1024_S8448x1024_24000_000 h_S_

def arrG (x : FVec Ideal S1024 .f32) : FVec Ideal S1x1024 .f32 := shapeCast S1x1024 x shapeCasts_S1024_S1x1024

variable (m : (ℓ : Loc nD τ sig) → Buf (Elt Ideal) ℓ) (c : Dev nD)

theorem read_v1 : (V m c main_v1 : FVec Ideal S8448x4096 .bf16) = arrA (m ((c.tc : Thread nD τ).loc main_arg3)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S1024x4096 .bf16) = arrW (m ((c.tc : Thread nD τ).loc main_arg2)) := by
  show StableHlo.after _ _ (Proc.devRef .tc main_v2) = _
  after_reads_simp
  unfold arrW
  rfl

theorem read_v3 : (V m c main_v3 : FVec Ideal S8448x1024 .f32) = arrX (m ((c.tc : Thread nD τ).loc main_arg0)) := by
  show StableHlo.after _ _ (Proc.devRef .tc main_v3) = _
  after_reads_simp
  simp -implicitDefEqProofs only [TRef.toBuf, TRef.ofBuf, cast_cast, cast_eq]
  unfold arrX zero
  rfl

theorem read_v4 : (V m c main_v4 : FVec Ideal S1x1024 .f32) = arrG (m ((c.tc : Thread nD τ).loc main_arg1)) := by
  show StableHlo.after _ _ (Proc.devRef .tc main_v4) = _
  after_reads_simp
  unfold arrG
  rfl

theorem read_v5 : (V m c main_v5 : FVec Ideal S8448x1024 .f32) = arrX (m ((c.tc : Thread nD τ).loc main_arg4)) := by
  show StableHlo.after _ _ (Proc.devRef .tc main_v5) = _
  after_reads_simp
  simp -implicitDefEqProofs only [TRef.toBuf, TRef.ofBuf, cast_cast, cast_eq]
  unfold arrX zero
  rfl

theorem arrA_at (x : FVec Ideal S8208x4096 .f32) (r : Fin 8448) (k : Fin 4096) :
    arrA x (ix2 r k) = if r.val < 240 then 0 else tab x (r.val - 240) k.val := by
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S1024x4096 .f32) (l : Fin 1024) (k : Fin 4096) : arrW x (ix2 l k) = tab x l.val k.val :=
  (tab_at x l k).symm

theorem arrX_at (x : FVec Ideal S8208x1024 .f32) (r : Fin 8448) (l : Fin 1024) :
    arrX x (ix2 r l) = if r.val < 240 then 0 else tab x (r.val - 240) l.val := by
  pointwise [arrX]
  by_cases hr : r.val < 240
  · rw [dif_neg (by omega), if_pos hr, zero_at]
  · rw [dif_pos (by omega), if_neg hr]
    exact (tab_at x ⟨r.val - 240, by omega⟩ l).symm

theorem arrG_at (x : FVec Ideal S1024 .f32) (z : Fin 1) (l : Fin 1024) : arrG x (ix2 z l) = col x l.val := by
  rw [col_at]
  pointwise [arrG]

abbrev in0 : FVec Ideal S8208x1024 .f32 := m ((c.tc : Thread nD τ).loc main_arg0)
abbrev in1 : FVec Ideal S1024 .f32 := m ((c.tc : Thread nD τ).loc main_arg1)
abbrev in2 : FVec Ideal S1024x4096 .f32 := m ((c.tc : Thread nD τ).loc main_arg2)
abbrev in3 : FVec Ideal S8208x4096 .f32 := m ((c.tc : Thread nD τ).loc main_arg3)
abbrev in4 : FVec Ideal S8208x1024 .f32 := m ((c.tc : Thread nD τ).loc main_arg4)

theorem held : Held m c (low (in3 m c)) (tab (in2 m c)) (low (in0 m c)) (col (in1 m c)) (low (in4 m c)) where
  a r k := (congrFun (read_v1 m c) (ix2 r k)).trans (arrA_at _ r k)
  w l k := (congrFun (read_v2 m c) (ix2 l k)).trans (arrW_at _ l k)
  x r l := (congrFun (read_v3 m c) (ix2 r l)).trans (arrX_at _ r l)
  g z l := (congrFun (read_v4 m c) (ix2 z l)).trans (arrG_at _ z l)
  r r l := (congrFun (read_v5 m c) (ix2 r l)).trans (arrX_at _ r l)

/-- The array without the rows of padding. -/
def cutout (y : Vec Ideal S8448x1024 .f32) : FVec Ideal S8208x1024 .f32 :=
  extractStridedSlice S8208x1024 ![240, 0] y slices_S8448x1024_S8208x1024_240_0

def flat (y : Vec Ideal S1x1024 .f32) : FVec Ideal S1024 .f32 := shapeCast S1024 y shapeCasts_S1x1024_S1024

section
variable (x : FVec Ideal S8208x1024 .f32) (g : FVec Ideal S1024 .f32) (w : FVec Ideal S1024x4096 .f32) (ct : FVec Ideal S8208x4096 .f32)
  (res : FVec Ideal S8208x1024 .f32)

theorem low_dn (r : ℕ) : dn (low ct) (tab w) (240 + r) = dn (tab ct) (tab w) r := by
  funext l
  unfold dn
  rw [low_row]

theorem grad_at (r : Fin 8208) (l : Fin 1024) : cutout (grad (low ct) (tab w) (low x) (col g) (low res)) (ix2 r l)
    = entry (tab x r.val) (dn (tab ct) (tab w) r.val) (col g) (tab res r.val) l.val := by
  have e : cutout (grad (low ct) (tab w) (low x) (col g) (low res)) (ix2 r l) = grad (low ct) (tab w) (low x) (col g) (low res) (ix2 (⟨240 + r.val, by omega⟩ : Fin 8448) l) := by
    generalize grad (low ct) (tab w) (low x) (col g) (low res) = y
    pointwise [cutout]
  rw [e]
  show entry (low x (240 + r.val)) (dn (low ct) (tab w) (240 + r.val)) (col g) (low res (240 + r.val)) l.val = _
  rw [low_row, low_row, low_dn]

theorem part_pad {r : ℕ} (h : r < 240) (l : ℕ) : part (low x r) (dn (low ct) (tab w) r) l = 0 := by
  unfold part
  rw [low_pad x h, zero_mul, zero_mul]

theorem gain_flat (l : Fin 1024) : flat (gain (low ct) (tab w) (low x)) (ix1 l) = ∑ r : Fin 8208, part (tab x r.val) (dn (tab ct) (tab w) r.val) l.val := by
  have e : flat (gain (low ct) (tab w) (low x)) (ix1 l) = gain (low ct) (tab w) (low x) (ix2 (0 : Fin 1) l) := by
    generalize gain (low ct) (tab w) (low x) = y
    pointwise [flat]
  rw [e]
  show ∑ j ∈ Finset.range (240 + 8208), part (low x j) (dn (low ct) (tab w) j) l.val = _
  rw [Finset.sum_range_add, Finset.sum_eq_zero (fun j hj => part_pad x w ct (Finset.mem_range.1 hj) l.val), zero_add, Finset.sum_range]
  simp only [low_row, low_dn]

open Cert.Reference9Ideal.Read

theorem ref_dn (r : Fin 8208) (l : Fin 1024) : val_main_v17 (F := Ideal) w ct (ix2 r l) = dn (tab ct) (tab w) r.val l.val := by
  rw [val_main_v17_apply]
  refine Finset.sum_congr rfl fun k _ => ?_
  rw [tab_at, tab_at]
  congr 2 <;> exact idx2 rfl rfl

theorem ref_square (r : Fin 8208) : val_main_v1 (F := Ideal) x (ix1 r) = ∑ j : Fin 1024, tab x r.val j.val * tab x r.val j.val := by
  rw [val_main_v1_apply, val_main_cst_apply, none_host, zero_add]
  refine Finset.sum_congr rfl fun j _ => ?_
  rw [show idx_main_v1 (ix1 r) j = ix2 r j from idx2 rfl rfl, val_main_v0_apply, tab_at]
  rfl

theorem ref_size (r : Fin 8208) (z : Fin 1) : val_main_v6 (F := Ideal) x (ix2 r z) = size (tab x r.val) := by
  rw [val_main_v6_apply, val_main_v5_apply, val_main_v4_apply, val_main_v3_apply, val_main_v2_apply, val_main_cst_0_apply, val_main_cst_1_apply,
    show idx_main_v2 (ix2 r z) = ix1 r from funext fun a => match a with | ⟨0, _⟩ => rfl, ref_square]
  rfl

theorem ref_scale (r : Fin 8208) (z : Fin 1) : val_main_v7 (F := Ideal) x (ix2 r z) = scale (tab x r.val) := by
  rw [val_main_v7_apply, ref_size]
  rfl

theorem ref_gained (r : Fin 8208) (l : Fin 1024) : val_main_v22 (F := Ideal) g w ct (ix2 r l) = dn (tab ct) (tab w) r.val l.val * col g l.val := by
  rw [val_main_v22_apply, val_main_v21_apply, val_main_v13_apply, ref_dn, col_at,
    show idx_main_v13 (idx_main_v21 (ix2 r l)) = ix1 l from funext fun a => match a with | ⟨0, _⟩ => rfl]
  rfl

theorem ref_inner (r : Fin 8208) : val_main_v25 (F := Ideal) x g w ct (ix1 r)
    = ∑ j : Fin 1024, tab x r.val j.val * (dn (tab ct) (tab w) r.val j.val * col g j.val) := by
  rw [val_main_v25_apply, val_main_cst_5_apply, none_host, zero_add]
  refine Finset.sum_congr rfl fun j _ => ?_
  rw [show idx_main_v25 (ix1 r) j = ix2 r j from idx2 rfl rfl, val_main_v24_apply, ref_gained, tab_at]
  rfl

theorem ref_slope (r : Fin 8208) : val_main_v33 (F := Ideal) x g w ct (ix1 r) = slope (tab x r.val) (dn (tab ct) (tab w) r.val) (col g) := by
  rw [val_main_v33_apply, val_main_cst_7_apply, none_host, zero_add, Fin.sum_univ_one,
    show idx_main_v33 (ix1 r) 0 = ix2 r (0 : Fin 1) from idx2 rfl rfl,
    val_main_v32_apply, val_main_v31_apply, val_main_v30_apply, val_main_v26_apply, val_main_cst_6_apply,
    val_main_v10_apply, val_main_v9_apply, val_main_v8_apply, val_main_cst_2_apply, ref_size, ref_scale,
    show idx_main_v26 (ix2 r (0 : Fin 1)) = ix1 r from funext fun a => match a with | ⟨0, _⟩ => Fin.ext (by show _ = r.val; simp [idx_main_v26]), ref_inner]
  rfl

theorem last_first (a d p q : EReal) : a + d + p + q = d + p + q + a := by
  rw [add_comm a d, add_right_comm d, add_right_comm _ a]

theorem ref_grad (r : Fin 8208) (l : Fin 1024) : val_main_v38 (F := Ideal) x g w ct res (ix2 r l)
    = entry (tab x r.val) (dn (tab ct) (tab w) r.val) (col g) (tab res r.val) l.val := by
  rw [val_main_v38_apply, val_main_v37_apply, val_main_v36_apply, val_main_v35_apply, val_main_v34_apply, val_main_v29_apply, val_main_v28_apply,
    val_main_v27_apply, ref_gained,
    show idx_main_v27 (ix2 r l) = ix2 r (0 : Fin 1) from idx2 rfl rfl,
    show idx_main_v34 (ix2 r l) = ix1 r from funext fun a => match a with | ⟨0, _⟩ => rfl, ref_slope, ref_scale]
  unfold entry
  rw [tab_at, tab_at]
  exact last_first _ _ _ _

theorem ref_gain (l : Fin 1024) : val_main_v23 (F := Ideal) x w ct (ix1 l) = ∑ r : Fin 8208, part (tab x r.val) (dn (tab ct) (tab w) r.val) l.val := by
  rw [val_main_v23_apply, val_main_cst_4_apply, none_host, zero_add, Fin.sum_univ_one, val_main_v20_apply,
    show idx_main_v20 (idx_main_v23 (ix1 l) 0) = ix1 l from funext fun a => match a with | ⟨0, _⟩ => Fin.ext (by show _ = l.val; simp [idx_main_v20, idx_main_v23]),
    val_main_v19_apply, val_main_cst_3_apply, none_host, zero_add]
  refine Finset.sum_congr rfl fun r _ => ?_
  rw [show idx_main_v19 (ix1 l) r = ix2 r l from idx2 rfl rfl,
    val_main_v18_apply, val_main_v12_apply, val_main_v11_apply, ref_dn,
    show idx_main_v11 (ix2 r l) = ix2 r (0 : Fin 1) from idx2 rfl rfl, ref_scale]
  unfold part
  rw [tab_at]
  rfl

theorem value_grad : cutout (grad (low ct) (tab w) (low x) (col g) (low res)) = Cert.Reference9Ideal.Read.val_main_v38 (F := Ideal) x g w ct res :=
  funext fun i => (congrArg (cutout (grad (low ct) (tab w) (low x) (col g) (low res))) (eq_ix2 i)).trans ((grad_at x g w ct res (i 0) (i 1)).trans
    ((ref_grad x g w ct res (i 0) (i 1)).symm.trans (congrArg (Cert.Reference9Ideal.Read.val_main_v38 (F := Ideal) x g w ct res) (eq_ix2 i)).symm))

theorem value_gain : flat (gain (low ct) (tab w) (low x)) = Cert.Reference9Ideal.Read.val_main_v23 (F := Ideal) x w ct :=
  funext fun i => (congrArg (flat (gain (low ct) (tab w) (low x))) (eq_ix1 i)).trans ((gain_flat x w ct (i 0)).trans
    ((ref_gain x w ct (i 0)).symm.trans (congrArg (Cert.Reference9Ideal.Read.val_main_v23 (F := Ideal) x w ct) (eq_ix1 i)).symm))

end

theorem algebraic : Cert.algebraic_Kernel9Ideal_Reference9Ideal := by
  intro m g m' g' _ hargs
  refine ⟨fun c => cutout (grad (low (in3 m c)) (tab (in2 m c)) (low (in0 m c)) (col (in1 m c)) (low (in4 m c))),
    fun c => flat (gain (low (in3 m c)) (tab (in2 m c)) (low (in0 m c))),
    (θ_run _ _ _).mono (fun r h c => ⟨(h c).1.trans (congrArg cutout (final5 m c (held m c))), (h c).2.1.trans (congrArg flat (final7 m c (held m c))), (h c).2.2⟩)
      (Cert.Kernel9Ideal.Value.run m g),
    (θ_run _ _ _).mono (fun r h c => ?_) (Cert.Reference9Ideal.Value.run m' g')⟩
  obtain ⟨h1, h2, hrest⟩ := h c
  obtain ⟨a0, a1, a2, a3, a4⟩ := hargs c
  refine ⟨h1.trans ?_, h2.trans ?_, hrest⟩
  · rw [Cert.Reference9Ideal.Read.val_main_v38_eq, a0, a1, a2, a3, a4]
    exact (value_grad _ _ _ _ _).symm
  · rw [Cert.Reference9Ideal.Read.val_main_v23_eq, a0, a2, a3]
    exact (value_gain _ _ _).symm
-- ==== Proof.Prod10.lean ====
/-
  The weight gradient of the mixers' last product, as the kernel computes it: a sum over the tokens a
  tile of 768 tokens at a time.
-/
module
public import proofs.«01_k».proof.Proof.Gen.Kernel10Ideal.Frame
public import proofs.«01_k».proof.Proof.Table

set_option maxRecDepth 65536
@[expose] public noncomputable section
namespace Cert.Kernel10Ideal.Prod
open Cert.Bwd (all2 cov idx2 tile tile0 hz small_word zero)
open Gen
open Idealize.ShloMosaic TcCoe Idealize.SL.Sem
open Pipeline (Dat)

theorem none_at (r : Fin 1024) (l : Fin 1024) : k0_pay1 (F := Ideal) (ix2 r l) = 0 := by
  pointwise [k0_pay1]

theorem step_at (x : Vec Ideal S1024x1024 .f32) (a : Vec Ideal S768x1024 .bf16) (b : Vec Ideal S768x1024 .bf16) (r : Fin 1024) (l : Fin 1024) :
    k0_pay2 x a b (ix2 r l) = x (ix2 r l) + ∑ k : Fin 768, a (ix2 k r) * b (ix2 k l) := by
  pointwise [k0_pay2]

section
variable (c : Dev nD) (i : grid0.Coords) (p3 : Memref sig .tc .vmem S768x1024 .bf16) (q3 : p3.IsWhole) (p4 : Memref sig .tc .vmem S768x1024 .bf16) (q4 : p4.IsWhole)
  (p5 : Memref sig .tc .vmem S1024x1024 .f32) (q5 : p5.IsWhole) (p6 : Memref sig .tc .vmem S1024x1024 .f32) (q6 : p6.IsWhole)
  (x0 : Vec Ideal S768x1024 .bf16) (x1 : Vec Ideal S768x1024 .bf16) (xs0 : Vec Ideal S1024x1024 .f32)

theorem scratch_A (hc0 : cond0_0 i) (hc1 : ¬cond0_1 i) :
    sout0_A_0 c i p3 q3 p4 q4 p5 q5 p6 q6 hc0 hc1 x0 x1 = k0_pay2 k0_pay1 x0 x1 := by
  unfold sout0_A_0
  rw [View.read_writes_eq_canon _ _ _ (scover0_A_0 c i p3 q3 p4 q4 p5 q5 p6 q6 hc0 hc1 x0 x1)]
  unfold kernelRun0_A
  dsimp only
  sl_unfold_words
  rw [View.canon_cons_unit_zero (S := S1024x1024) hz, View.readCov_unit_zero (S := S1024x1024) _ hz]
  simp only [View.readAt_eq_ld, q3.read_unread, q4.read_unread, View.ld_unit_zero (S := S768x1024) hz, View.ld_unit_zero (S := S1024x1024) hz, View.ld_unit_zero (S := S768x1024) hz]

theorem scratch_B (hc0 : ¬cond0_0 i) (hc1 : ¬cond0_1 i) :
    sout0_B_0 c i p3 q3 p4 q4 p5 q5 p6 q6 hc0 hc1 x0 x1 xs0 = k0_pay2 xs0 x0 x1 := by
  unfold sout0_B_0
  rw [View.read_writes_eq_canon _ _ _ (scover0_B_0 c i p3 q3 p4 q4 p5 q5 p6 q6 hc0 hc1 x0 x1 xs0)]
  unfold kernelRun0_B
  dsimp only
  sl_unfold_words
  rw [View.canon_unit_zero (S := S1024x1024) hz]
  simp only [View.readAt_eq_ld, q3.read_unread, q4.read_unread, q6.read_unread, View.ld_unit_zero (S := S768x1024) hz, View.ld_unit_zero (S := S1024x1024) hz, View.ld_unit_zero (S := S768x1024) hz]

theorem scratch_C (hc0 : ¬cond0_0 i) (hc1 : cond0_1 i) :
    sout0_C_0 c i p3 q3 p4 q4 p5 q5 p6 q6 hc0 hc1 x0 x1 xs0 = k0_pay2 xs0 x0 x1 := by
  unfold sout0_C_0
  rw [View.read_writes_eq_canon _ _ _ (scover0_C_0 c i p3 q3 p4 q4 p5 q5 p6 q6 hc0 hc1 x0 x1 xs0)]
  unfold kernelRun0_C
  dsimp only
  sl_unfold_words
  rw [View.canon_unit_zero (S := S1024x1024) hz]
  simp only [View.readAt_eq_ld, q3.read_unread, q4.read_unread, q6.read_unread, View.ld_unit_zero (S := S768x1024) hz, View.ld_unit_zero (S := S1024x1024) hz, View.ld_unit_zero (S := S768x1024) hz]

theorem result_C (hc0 : ¬cond0_0 i) (hc1 : cond0_1 i) :
    out0_C_2 c i p3 q3 p4 q4 p5 q5 p6 q6 hc0 hc1 x0 x1 xs0 = k0_pay2 xs0 x0 x1 := by
  unfold out0_C_2
  rw [View.read_writes_eq_canon _ _ _ (cover0_C_2 c i p3 q3 p4 q4 p5 q5 p6 q6 hc0 hc1 x0 x1 xs0)]
  unfold kernelRun0_C
  dsimp only
  sl_unfold_words
  rw [View.canon_unit_zero (S := S1024x1024) hz, View.readCov_unit_zero (S := S1024x1024) _ hz]
  simp only [View.readAt_eq_ld, q3.read_unread, q4.read_unread, q6.read_unread, View.ld_unit_zero (S := S768x1024) hz, View.ld_unit_zero (S := S1024x1024) hz, View.ld_unit_zero (S := S768x1024) hz]

end

variable (m : (ℓ : Loc nD τ sig) → Buf (Elt Ideal) ℓ) (c : Dev nD)

section
variable (t : Fin cfg0.N)

theorem coords_0 : (grid0.coords t 0).val = 0 := by
  have e : (grid0.coords t 0).val < 1 := (grid0.coords t 0).isLt
  omega

theorem coords_1 : (grid0.coords t 1).val = t.val / 11 := by
  have h : t.val < 11 := t.isLt.trans_eq N_0
  have e : (grid0.coords t 1).val = t.val / 11 % 1 := Pipeline.Grid.coords_val t 1 (by decide) rfl
  omega

theorem coords_2 : (grid0.coords t 2).val = t.val % 11 := by
  have e : (grid0.coords t 2).val = t.val / 1 % 11 := Pipeline.Grid.coords_val t 2 (by decide) rfl
  omega

theorem word_2 : (BitVec.ofNat 32 (grid0.coords t 2).val).toNat = t.val % 11 := by
  have h : t.val < 11 := t.isLt.trans_eq N_0
  rw [coords_2, small_word (by omega)]

theorem word_1 : (BitVec.ofNat 32 (grid0.coords t 1).val).toNat = t.val / 11 := by
  have h : t.val < 11 := t.isLt.trans_eq N_0
  rw [coords_1, small_word (by omega)]

theorem word_0 : (BitVec.ofNat 32 (grid0.coords t 0).val).toNat = 0 := by
  have h : t.val < 11 := t.isLt.trans_eq N_0
  rw [coords_0, small_word (by omega)]

theorem index0 : win0_0.index t 0 = t.val % 11 ∧ win0_0.index t 1 = t.val / 11 := ⟨word_2 t, word_1 t⟩

theorem index1 : win0_1.index t 0 = t.val % 11 ∧ win0_1.index t 1 = 0 := ⟨word_2 t, word_0 t⟩

theorem index2 : win0_2.index t 0 = t.val / 11 ∧ win0_2.index t 1 = 0 := ⟨word_1 t, word_0 t⟩

end

/-- The two arrays the kernel multiplies hold these numbers. -/
structure Held (A B : ℕ → ℕ → EReal) : Prop where
  a : ∀ (k : Fin 8448) (r : Fin 1024), (V m c main_v1 : Vec Ideal S8448x1024 .bf16) (ix2 k r) = A k.val r.val
  b : ∀ (k : Fin 8448) (l : Fin 1024), (V m c main_v3 : Vec Ideal S8448x1024 .bf16) (ix2 k l) = B k.val l.val

variable {A B : ℕ → ℕ → EReal} (H : Held m c A B)
include H

theorem blk0 (t : Fin cfg0.N) (k : Fin 768) (r : Fin 1024) :
    (iblk m c 0 t : Vec Ideal S768x1024 .bf16) (ix2 k r) = A (t.val % 11 * 768 + k.val) (t.val / 11 * 1024 + r.val) := by
  have h : t.val < 11 := t.isLt.trans_eq N_0
  obtain ⟨i0, i1⟩ := index0 t
  unfold iblk
  rw [View.read_apply]
  refine Eq.trans ?_ (H.a ⟨t.val % 11 * 768 + k.val, by omega⟩ ⟨t.val / 11 * 1024 + r.val, by omega⟩)
  exact congrArg (V m c main_v1 : Vec Ideal S8448x1024 .bf16) (idx2 (tile i0) (tile i1))

theorem blk1 (t : Fin cfg0.N) (k : Fin 768) (l : Fin 1024) :
    (iblk m c 1 t : Vec Ideal S768x1024 .bf16) (ix2 k l) = B (t.val % 11 * 768 + k.val) l.val := by
  have h : t.val < 11 := t.isLt.trans_eq N_0
  obtain ⟨i0, i1⟩ := index1 t
  unfold iblk
  rw [View.read_apply]
  refine Eq.trans ?_ (H.b ⟨t.val % 11 * 768 + k.val, by omega⟩ l)
  exact congrArg (V m c main_v3 : Vec Ideal S8448x1024 .bf16) (idx2 (tile i0) (tile0 i1))

/-- One tile's step: the sum so far and the tile's products. -/
theorem step (t : Fin cfg0.N) (x : Vec Ideal S1024x1024 .f32) (r : Fin 1024) (l : Fin 1024)
    (hx : x (ix2 r l) = ∑ k ∈ Finset.range (t.val % 11 * 768), A k (t.val / 11 * 1024 + r.val) * B k l.val) :
    k0_pay2 x (iblk m c 0 t : Vec Ideal S768x1024 .bf16) (iblk m c 1 t : Vec Ideal S768x1024 .bf16) (ix2 r l)
      = ∑ k ∈ Finset.range (t.val % 11 * 768 + 768), A k (t.val / 11 * 1024 + r.val) * B k l.val := by
  rw [step_at, hx, Finset.sum_range_add, Finset.sum_range (fun k => A (t.val % 11 * 768 + k) (t.val / 11 * 1024 + r.val) * B (t.val % 11 * 768 + k) l.val)]
  simp only [blk0 m c H, blk1 m c H]

theorem scratch_at : ∀ (n : ℕ) (t : Fin cfg0.N), t.val = n → ∀ (r : Fin 1024) (l : Fin 1024), (outsAt0 m c t.val t.isLt).2 (ix2 r l)
    = ∑ k ∈ Finset.range (t.val % 11 * 768 + 768), A k (t.val / 11 * 1024 + r.val) * B k l.val := by
  intro n
  induction n with
  | zero =>
    intro t ht r l
    rw [outsAt0_A m c t (by omega) (by omega)]
    dsimp only
    rw [scratch_A]
    exact step m c H t _ r l (by rw [none_at, ht]; rfl)
  | succ n ih =>
    intro t ht r l
    have h : t.val < 11 := t.isLt.trans_eq N_0
    by_cases h0 : t.val % 11 = 0
    · rw [outsAt0_A m c t h0 (by omega)]
      dsimp only
      rw [scratch_A]
      exact step m c H t _ r l (by rw [none_at, h0]; rfl)
    · have e := ih ⟨t.val - 1, Nat.lt_of_le_of_lt (Nat.sub_le _ _) t.isLt⟩ (by dsimp only; omega) r l
      dsimp only at e
      rw [show (t.val - 1) % 11 * 768 + 768 = t.val % 11 * 768 by omega, show (t.val - 1) / 11 = t.val / 11 by omega] at e
      by_cases h1 : t.val % 11 = 10
      · rw [outsAt0_C m c t h0 h1]
        dsimp only
        rw [scratch_C]
        exact step m c H t _ r l e
      · rw [outsAt0_B m c t h0 h1]
        dsimp only
        rw [scratch_B]
        exact step m c H t _ r l e

theorem out_at (t : Fin cfg0.N) (h1 : t.val % 11 = 10) (r : Fin 1024) (l : Fin 1024) : (outsAt0 m c t.val t.isLt).1 (ix2 r l)
    = ∑ k ∈ Finset.range 8448, A k (t.val / 11 * 1024 + r.val) * B k l.val := by
  have s := scratch_at m c H t.val t rfl r l
  rw [outsAt0_C m c t (by omega) h1] at s ⊢
  dsimp only at s ⊢
  rw [scratch_C] at s
  rw [result_C, s, h1]

omit H in
/-- The product. -/
def prod (A B : ℕ → ℕ → EReal) : Vec Ideal S1024x1024 .f32 := fun i => ∑ k ∈ Finset.range 8448, A k (i 0).val * B k (i 1).val

theorem flushed (t : Fin cfg0.N) (hf : (cfg0.win 2).flush t = true) :
    (dats m 0 c).flushed 2 t = ((cfg0.win 2).blk t).view.read (Elt Ideal) (prod A B : Buf (Elt Ideal) ((c.tc : Thread nD τ).loc main_v4)) := by
  have ht : t.val < 11 := t.isLt.trans_eq N_0
  replace hf := (flush0_2 t).1 hf
  show (cfg0.win 2).cut (grid0.coords t) ((dats m 0 c).after 2 t) = _
  rw [after0_2]
  have L := out_at m c H t hf
  generalize outsAt0 m c t.val t.isLt = o at L ⊢
  obtain ⟨i0, i1⟩ := index2 t
  funext y
  rw [View.read_apply]
  let y' : S1024x1024.Idx := y
  have h0 : (y' 0).val < 1024 := (y' 0).isLt
  have h1 : (y' 1).val < 1024 := (y' 1).isLt
  show o.1 y' = (prod A B) _
  have e : ((cfg0.win 2).blk t).view.emb y = (ix2 (⟨t.val / 11 * 1024 + (y' 0).val, by omega⟩ : Fin 1024) (⟨(y' 1).val, by omega⟩ : Fin 1024) : S1024x1024.Idx) := idx2 (tile i0) (tile0 i1)
  have g : (prod A B) (ix2 (⟨t.val / 11 * 1024 + (y' 0).val, by omega⟩ : Fin 1024) (⟨(y' 1).val, by omega⟩ : Fin 1024)) = o.1 y' := by
    refine Eq.trans ?_ ((L (y' 0) (y' 1)).symm.trans (congrArg o.1 (eq_ix2 y').symm))
    unfold prod
    rfl
  exact (congrArg (prod A B) e |>.trans g).symm

theorem final : (dats m 0 c).arrAt 2 cfg0.N = (prod A B : Buf (Elt Ideal) ((c.tc : Thread nD τ).loc main_v4)) :=
  (dats m 0 c).arrAt_eq_of_cover 2 _ (flushed m c H) fun (i : S1024x1024.Idx) => by
    have h0 : (i 0).val < 1024 := (i 0).isLt
    have h1 : (i 1).val < 1024 := (i 1).isLt
    have hN : (i 0).val / 1024 * 11 + 10 < cfg0.N := by rw [show cfg0.N = 11 from N_0]; omega
    generalize ht : (⟨(i 0).val / 1024 * 11 + 10, hN⟩ : Fin cfg0.N) = t
    have hv : t.val = (i 0).val / 1024 * 11 + 10 := by rw [← ht]
    obtain ⟨i0, i1⟩ := index2 t
    refine ⟨t, (flush0_2 t).2 (by omega), ?_⟩
    show i ∈ ((View.whole main_v4).slice (win0_2.rect t)).set
    rw [View.set_slice_whole, Rect.mem_set_unit]
    exact all2 (cov (b := 1024) (x := (i 0).val) i0 (by omega)) (cov (b := 1024) (x := (i 1).val) i1 (by omega))
-- ==== Proof.Value10.lean ====
/-
  The weight gradient of the mixers' last product: the kernel's is the reference's.
-/
module
public import proofs.«01_k».proof.Proof.Prod10
public import proofs.«01_k».proof.Proof.Table
public import proofs.«01_k».proof.Proof.Gen.Reference10Ideal.Run
public import proofs.«01_k».proof.Proof.Gen.Reference10Ideal.Read
public import proofs.«01_k».proof.Defs

set_option maxRecDepth 8192
@[expose] public noncomputable section
namespace Cert.Kernel10Ideal.Prod
open Cert.Bwd (idx2 tab tab_at zero zero_at)
open Gen
open Idealize.ShloMosaic TcCoe Idealize.SL.Sem StableHlo

def arrA (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

def arrB (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

variable (m : (ℓ : Loc nD τ sig) → Buf (Elt Ideal) ℓ) (c : Dev nD)

theorem read_v1 : (V m c main_v1 : FVec Ideal S8448x1024 .bf16) = arrA (m ((c.tc : Thread nD τ).loc main_arg0)) := by
  show StableHlo.after _ _ (Proc.devRef .tc main_v1) = _
  after_reads_simp
  simp -implicitDefEqProofs only [TRef.toBuf, TRef.ofBuf, cast_cast, cast_eq]
  unfold arrA zero
  rfl

theorem read_v3 : (V m c main_v3 : FVec Ideal S8448x1024 .bf16) = arrB (m ((c.tc : Thread nD τ).loc main_arg1)) := by
  show StableHlo.after _ _ (Proc.devRef .tc main_v3) = _
  after_reads_simp
  simp -implicitDefEqProofs only [TRef.toBuf, TRef.ofBuf, cast_cast, cast_eq]
  unfold arrB zero
  rfl

theorem arrA_at (x : FVec Ideal S8208x1024 .f32) (k : Fin 8448) (r : Fin 1024) :
    arrA x (ix2 k r) = if k.val < 240 then 0 else tab x (k.val - 240) r.val := by
  pointwise [arrA]
  by_cases hr : k.val < 240
  · rw [dif_neg (by omega), if_pos hr, zero_at]
  · rw [dif_pos (by omega), if_neg hr]
    exact (tab_at x ⟨k.val - 240, by omega⟩ r).symm

theorem arrB_at (x : FVec Ideal S8208x1024 .f32) (k : Fin 8448) (l : Fin 1024) :
    arrB x (ix2 k l) = if k.val < 240 then 0 else tab x (k.val - 240) l.val := by
  pointwise [arrB]
  by_cases hr : k.val < 240
  · rw [dif_neg (by omega), if_pos hr, zero_at]
  · rw [dif_pos (by omega), if_neg hr]
    exact (tab_at x ⟨k.val - 240, by omega⟩ l).symm

abbrev in0 : FVec Ideal S8208x1024 .f32 := m ((c.tc : Thread nD τ).loc main_arg0)
abbrev in1 : FVec Ideal S8208x1024 .f32 := m ((c.tc : Thread nD τ).loc main_arg1)

abbrev numA (x : FVec Ideal S8208x1024 .f32) (k r : ℕ) : EReal := if k < 240 then 0 else tab x (k - 240) r
abbrev numB (x : FVec Ideal S8208x1024 .f32) (k l : ℕ) : EReal := if k < 240 then 0 else tab x (k - 240) l

theorem held : Held m c (numA (in0 m c)) (numB (in1 m c)) where
  a k r := (congrFun (read_v1 m c) (ix2 k r)).trans (arrA_at _ k r)
  b k l := (congrFun (read_v3 m c) (ix2 k l)).trans (arrB_at _ k l)

/-- The product without the rows of padding. -/
theorem prod_at (x : FVec Ideal S8208x1024 .f32) (y : FVec Ideal S8208x1024 .f32) (r : Fin 1024) (l : Fin 1024) :
    prod (numA x) (numB y) (ix2 r l) = ∑ k : Fin 8208, y (ix2 k l) * x (ix2 k r) := by
  show ∑ k ∈ Finset.range (240 + 8208), numA x k r.val * numB y k l.val = _
  rw [Finset.sum_range_add, Finset.sum_eq_zero (fun k hk => by unfold numA; rw [if_pos (Finset.mem_range.1 hk), zero_mul]), zero_add, Finset.sum_range]
  refine Finset.sum_congr rfl fun k _ => ?_
  unfold numA numB
  rw [if_neg (by omega), if_neg (by omega), Nat.add_sub_cancel_left, tab_at, tab_at, mul_comm]

theorem ref_at (x : FVec Ideal S8208x1024 .f32) (y : FVec Ideal S8208x1024 .f32) (r : Fin 1024) (l : Fin 1024) :
    Cert.Reference10Ideal.Read.val_main_v3 (F := Ideal) x y (ix2 r l) = ∑ k : Fin 8208, y (ix2 k l) * x (ix2 k r) := by
  rw [Cert.Reference10Ideal.Read.val_main_v3_apply, Cert.Reference10Ideal.Read.val_main_v2_apply]
  refine Finset.sum_congr rfl fun k _ => ?_
  congr 2 <;> exact idx2 rfl rfl

theorem value (x : FVec Ideal S8208x1024 .f32) (y : FVec Ideal S8208x1024 .f32) :
    prod (numA x) (numB y) = Cert.Reference10Ideal.Read.val_main_v3 (F := Ideal) x y :=
  funext fun i => (congrArg (prod (numA x) (numB y)) (eq_ix2 i)).trans ((prod_at x y (i 0) (i 1)).trans
    ((ref_at x y (i 0) (i 1)).symm.trans (congrArg (Cert.Reference10Ideal.Read.val_main_v3 (F := Ideal) x y) (eq_ix2 i)).symm))

theorem algebraic : Cert.algebraic_Kernel10Ideal_Reference10Ideal := by
  intro m g m' g' _ hargs
  refine ⟨fun c => prod (numA (in0 m c)) (numB (in1 m c)),
    (θ_run _ _ _).mono (fun r h c => ⟨((h.1 c).1 2).trans (final m c (held m c)), h.2 c⟩) (θ_run_and (run_main m g) (unchanged m g)),
    (θ_run _ _ _).mono (fun r h c => ?_) (Cert.Reference10Ideal.Value.run m' g')⟩
  obtain ⟨h3, hrest⟩ := h c
  obtain ⟨a0, a1⟩ := hargs c
  refine ⟨h3.trans ?_, hrest⟩
  rw [Cert.Reference10Ideal.Read.val_main_v3_eq, a0, a1]
  exact (value _ _).symm
-- ==== Proof.Prod11.lean ====
/-
  The gradient of the gated recurrence's output, as the kernel computes it: a tile of 768 rows at a time.
-/
module
public import proofs.«01_k».proof.Proof.Gen.Kernel11Ideal.Frame
public import proofs.«01_k».proof.Proof.Table
public import Idealize.ShloMosaic.Lib.Pipeline.ValueKit.Acc

set_option maxRecDepth 65536
@[expose] public noncomputable section
namespace Cert.Kernel11Ideal.Prod
open Cert.Bwd (all2 cov idx2 tile tile0 hz hz' small_word)
open Gen
open Idealize.ShloMosaic TcCoe Idealize.SL.Sem
open Pipeline (Dat)

theorem none_at (r : Fin 768) (l : Fin 1024) : k0_pay1 (F := Ideal) (ix2 r l) = 0 := by
  pointwise [k0_pay1]

theorem step_at (x : Vec Ideal S768x1024 .f32) (a : Vec Ideal S768x1024 .bf16) (b : Vec Ideal S1024x1024 .bf16) (r : Fin 768) (l : Fin 1024) :
    k0_pay2 x a b (ix2 r l) = x (ix2 r l) + ∑ k : Fin 1024, a (ix2 r k) * b (ix2 l k) := by
  pointwise [k0_pay2]

section
variable (c : Dev nD) (i : grid0.Coords) (p3 : Memref sig .tc .vmem S768x1024 .bf16) (q3 : p3.IsWhole) (p4 : Memref sig .tc .vmem S1024x1024 .bf16) (q4 : p4.IsWhole) (p5 : Memref sig .tc .vmem S768x1024 .f32) (q5 : p5.IsWhole) (p6 : Memref sig .tc .vmem S768x1024 .f32) (q6 : p6.IsWhole)
  (x0 : Vec Ideal S768x1024 .bf16) (x1 : Vec Ideal S1024x1024 .bf16)

theorem result (hc0 : cond0_0 i) (hc1 : cond0_1 i) :
    out0_A_2 c i p3 q3 p4 q4 p5 q5 p6 q6 hc0 hc1 x0 x1 = k0_pay2 k0_pay1 x0 x1 := by
  unfold out0_A_2
  rw [View.read_writes_eq_canon _ _ _ (cover0_A_2 c i p3 q3 p4 q4 p5 q5 p6 q6 hc0 hc1 x0 x1)]
  unfold kernelRun0_A
  dsimp only
  sl_unfold_words
  rw [View.canon_unit_zero (S := S768x1024) hz, View.readCov_cons_unit_lit' (S := S768x1024) _ _ _ _ _ hz' hz', View.readCov_unit_zero (S := S768x1024) _ hz]
  simp only [View.readAt_eq_ld, q3.read_unread, q4.read_unread, View.ld_unit_zero (S := S768x1024) hz, View.ld_unit_zero (S := S1024x1024) hz]

end

variable (m : (ℓ : Loc nD τ sig) → Buf (Elt Ideal) ℓ) (c : Dev nD)

section
variable (t : Fin cfg0.N)

theorem coords_0 : (grid0.coords t 0).val = t.val / 11 := by
  have h : t.val < 11 := t.isLt.trans_eq N_0
  have e : (grid0.coords t 0).val = t.val / 11 % 1 := Pipeline.Grid.coords_val t 0 (by decide) rfl
  omega

theorem coords_1 : (grid0.coords t 1).val = t.val % 11 := by
  have e : (grid0.coords t 1).val = t.val / 1 % 11 := Pipeline.Grid.coords_val t 1 (by decide) rfl
  omega

theorem coords_2 : (grid0.coords t 2).val = 0 := by
  have e : (grid0.coords t 2).val < 1 := (grid0.coords t 2).isLt
  omega

theorem word_1 : (BitVec.ofNat 32 (grid0.coords t 1).val).toNat = t.val % 11 := by
  have h : t.val < 11 := t.isLt.trans_eq N_0
  rw [coords_1, small_word (by omega)]

theorem word_2 : (BitVec.ofNat 32 (grid0.coords t 2).val).toNat = 0 := by
  have h : t.val < 11 := t.isLt.trans_eq N_0
  rw [coords_2, small_word (by omega)]

theorem word_0 : (BitVec.ofNat 32 (grid0.coords t 0).val).toNat = t.val / 11 := by
  have h : t.val < 11 := t.isLt.trans_eq N_0
  rw [coords_0, small_word (by omega)]

theorem index0 : win0_0.index t 0 = t.val % 11 ∧ win0_0.index t 1 = 0 := ⟨word_1 t, word_2 t⟩

theorem index1 : win0_1.index t 0 = t.val / 11 ∧ win0_1.index t 1 = 0 := ⟨word_0 t, word_2 t⟩

theorem index2 : win0_2.index t 0 = t.val % 11 ∧ win0_2.index t 1 = t.val / 11 := ⟨word_1 t, word_0 t⟩

end

/-- The arrays the kernel reads hold these numbers. -/
structure Held (A B : ℕ → ℕ → EReal) : Prop where
  a : ∀ (r : Fin 8448) (k : Fin 1024), (V m c main_v1 : Vec Ideal S8448x1024 .bf16) (ix2 r k) = A r.val k.val
  b : ∀ (k : Fin 1024) (l : Fin 1024), (V m c main_v2 : Vec Ideal S1024x1024 .bf16) (ix2 l k) = B k.val l.val

variable {A B : ℕ → ℕ → EReal} (H : Held m c A B)
include H

theorem blk0 (t : Fin cfg0.N) (r : Fin 768) (k : Fin 1024) :
    (iblk m c 0 t : Vec Ideal S768x1024 .bf16) (ix2 r k) = A (t.val % 11 * 768 + r.val) k.val := by
  obtain ⟨i0, i1⟩ := index0 t
  unfold iblk
  rw [View.read_apply]
  refine Eq.trans ?_ (H.a ⟨t.val % 11 * 768 + r.val, by omega⟩ k)
  exact congrArg (V m c main_v1 : Vec Ideal S8448x1024 .bf16) (idx2 (tile i0) (tile0 i1))

theorem blk1 (t : Fin cfg0.N) (k : Fin 1024) (l : Fin 1024) :
    (iblk m c 1 t : Vec Ideal S1024x1024 .bf16) (ix2 l k) = B k.val (t.val / 11 * 1024 + l.val) := by
  have h : t.val < 11 := t.isLt.trans_eq N_0
  obtain ⟨i0, i1⟩ := index1 t
  unfold iblk
  rw [View.read_apply]
  refine Eq.trans ?_ (H.b k ⟨t.val / 11 * 1024 + l.val, by omega⟩)
  exact congrArg (V m c main_v2 : Vec Ideal S1024x1024 .bf16) (idx2 (tile i0) (tile0 i1))

theorem tile_at (t : Fin cfg0.N) (r : Fin 768) (l : Fin 1024) : outsAt0 m c t (ix2 r l)
    = ∑ k : Fin 1024, A (t.val % 11 * 768 + r.val) k.val * B k.val (t.val / 11 * 1024 + l.val) := by
  unfold outsAt0
  rw [result]
  rw [step_at, none_at, zero_add]
  refine Finset.sum_congr rfl fun k _ => ?_
  rw [blk0 m c H, blk1 m c H]

omit H in
/-- The product. -/
def prod (A B : ℕ → ℕ → EReal) : Vec Ideal S8448x1024 .f32 := fun i => ∑ k : Fin 1024, A (i 0).val k.val * B k.val (i 1).val

theorem flushed (t : Fin cfg0.N) (_ : (cfg0.win 2).flush t = true) :
    (dats m 0 c).flushed 2 t = ((cfg0.win 2).blk t).view.read (Elt Ideal) (prod A B : Buf (Elt Ideal) ((c.tc : Thread nD τ).loc main_v3)) := by
  have ht : t.val < 11 := t.isLt.trans_eq N_0
  show (cfg0.win 2).cut (grid0.coords t) ((dats m 0 c).after 2 t) = _
  rw [after0_2]
  have L := tile_at m c H t
  generalize outsAt0 m c t = o at L ⊢
  obtain ⟨i0, i1⟩ := index2 t
  funext y
  rw [View.read_apply]
  let y' : S768x1024.Idx := y
  have h0 : (y' 0).val < 768 := (y' 0).isLt
  have h1 : (y' 1).val < 1024 := (y' 1).isLt
  show o y' = (prod A B) _
  have e : ((cfg0.win 2).blk t).view.emb y = (ix2 (⟨t.val % 11 * 768 + (y' 0).val, by omega⟩ : Fin 8448) (⟨t.val / 11 * 1024 + (y' 1).val, by omega⟩ : Fin 1024) : S8448x1024.Idx) := idx2 (tile i0) (tile i1)
  have g : (prod A B) (ix2 (⟨t.val % 11 * 768 + (y' 0).val, by omega⟩ : Fin 8448) (⟨t.val / 11 * 1024 + (y' 1).val, by omega⟩ : Fin 1024)) = o y' := by
    refine Eq.trans ?_ ((L (y' 0) (y' 1)).symm.trans (congrArg o (eq_ix2 y').symm))
    unfold prod
    rfl
  exact (congrArg (prod A B) e |>.trans g).symm

theorem final : (dats m 0 c).arrAt 2 cfg0.N = (prod A B : Buf (Elt Ideal) ((c.tc : Thread nD τ).loc main_v3)) :=
  (dats m 0 c).arrAt_eq_of_cover 2 _ (flushed m c H) fun (i : S8448x1024.Idx) => by
    have h0 : (i 0).val < 8448 := (i 0).isLt
    have h1 : (i 1).val < 1024 := (i 1).isLt
    have hN : (i 1).val / 1024 * 11 + (i 0).val / 768 < cfg0.N := by rw [show cfg0.N = 11 from N_0]; omega
    generalize ht : (⟨(i 1).val / 1024 * 11 + (i 0).val / 768, hN⟩ : Fin cfg0.N) = t
    have hv : t.val = (i 1).val / 1024 * 11 + (i 0).val / 768 := by rw [← ht]
    obtain ⟨i0, i1⟩ := index2 t
    refine ⟨t, flush0_2 t, ?_⟩
    show i ∈ ((View.whole main_v3).slice (win0_2.rect t)).set
    rw [View.set_slice_whole, Rect.mem_set_unit]
    exact all2 (cov (b := 768) (x := (i 0).val) i0 (by omega)) (cov (b := 1024) (x := (i 1).val) i1 (by omega))
-- ==== Proof.Value11.lean ====
/-
  The gradient of the gated recurrence's output: the kernel's is the reference's.
-/
module
public import proofs.«01_k».proof.Proof.Prod11
public import proofs.«01_k».proof.Proof.Table
public import proofs.«01_k».proof.Proof.Gen.Kernel11Ideal.Run
public import proofs.«01_k».proof.Proof.Gen.Reference11Ideal.Run
public import proofs.«01_k».proof.Proof.Gen.Reference11Ideal.Read
public import proofs.«01_k».proof.Defs

set_option maxRecDepth 8192
@[expose] public noncomputable section
namespace Cert.Kernel11Ideal.Prod
open Cert.Bwd (idx2 tab tab_at zero zero_at low low_row)
open Gen
open Idealize.ShloMosaic TcCoe Idealize.SL.Sem StableHlo

def arrA (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

def arrW (x : FVec Ideal S1024x1024 .f32) : FVec Ideal S1024x1024 .bf16 :=
  truncf .bf16 x bitsLt_bf16_f32

variable (m : (ℓ : Loc nD τ sig) → Buf (Elt Ideal) ℓ) (c : Dev nD)

theorem read_v1 : (V m c main_v1 : FVec Ideal S8448x1024 .bf16) = arrA (m ((c.tc : Thread nD τ).loc main_arg1)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S1024x1024 .bf16) = arrW (m ((c.tc : Thread nD τ).loc main_arg0)) := by
  show StableHlo.after _ _ (Proc.devRef .tc main_v2) = _
  after_reads_simp
  unfold arrW
  rfl

theorem arrA_at (x : FVec Ideal S8208x1024 .f32) (r : Fin 8448) (k : Fin 1024) : arrA x (ix2 r k) = low x r.val k.val := by
  unfold low
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S1024x1024 .f32) (k : Fin 1024) (l : Fin 1024) : arrW x (ix2 l k) = tab x l.val k.val :=
  (tab_at x l k).symm

abbrev in0 : FVec Ideal S1024x1024 .f32 := m ((c.tc : Thread nD τ).loc main_arg0)
abbrev in1 : FVec Ideal S8208x1024 .f32 := m ((c.tc : Thread nD τ).loc main_arg1)

theorem held : Held m c (low (in1 m c)) (fun k l => tab (in0 m c) l k) where
  a r k := (congrFun (read_v1 m c) (ix2 r k)).trans (arrA_at _ r k)
  b k l := (congrFun (read_v2 m c) (ix2 l k)).trans (arrW_at _ k l)

/-- The array without the padding. -/
def cutout (y : Vec Ideal S8448x1024 .f32) : FVec Ideal S8208x1024 .f32 :=
  extractStridedSlice S8208x1024 ![240, 0] y slices_S8448x1024_S8208x1024_240_0

section
variable (w : FVec Ideal S1024x1024 .f32) (x : FVec Ideal S8208x1024 .f32)

theorem prod_at (r : Fin 8208) (l : Fin 1024) : cutout (prod (low x) (fun k l => tab w l k)) (ix2 r l) = ∑ k : Fin 1024, x (ix2 r k) * w (ix2 l k) := by
  have e : cutout (prod (low x) (fun k l => tab w l k)) (ix2 r l) = (prod (low x) (fun k l => tab w l k)) (ix2 (⟨240 + r.val, by omega⟩ : Fin 8448) (⟨l.val, by omega⟩ : Fin 1024)) := by
    generalize prod (low x) (fun k l => tab w l k) = z
    pointwise [cutout]
  rw [e]
  show ∑ k : Fin 1024, low x (240 + r.val) k.val * tab w l.val k.val = _
  refine Finset.sum_congr rfl fun k _ => ?_
  rw [low_row, tab_at, tab_at]

theorem ref_at (r : Fin 8208) (l : Fin 1024) : Cert.Reference11Ideal.Read.val_main_v2 (F := Ideal) w x (ix2 r l) = ∑ k : Fin 1024, x (ix2 r k) * w (ix2 l k) := by
  rw [Cert.Reference11Ideal.Read.val_main_v2_apply]
  refine Finset.sum_congr rfl fun k _ => ?_
  congr 2 <;> exact idx2 rfl rfl

theorem value : cutout (prod (low x) (fun k l => tab w l k)) = Cert.Reference11Ideal.Read.val_main_v2 (F := Ideal) w x :=
  funext fun i => (congrArg (cutout (prod (low x) (fun k l => tab w l k))) (eq_ix2 i)).trans ((prod_at w x (i 0) (i 1)).trans
    ((ref_at w x (i 0) (i 1)).symm.trans (congrArg (Cert.Reference11Ideal.Read.val_main_v2 (F := Ideal) w x) (eq_ix2 i)).symm))

end

theorem algebraic : Cert.algebraic_Kernel11Ideal_Reference11Ideal := by
  intro m g m' g' _ hargs
  refine ⟨fun c => cutout (prod (low (in1 m c)) (fun k l => tab (in0 m c) l k)),
    (θ_run _ _ _).mono (fun r h c => ⟨(h c).1.trans (congrArg cutout (final m c (held m c))), (h c).2⟩) (Cert.Kernel11Ideal.Value.run m g),
    (θ_run _ _ _).mono (fun r h c => ?_) (Cert.Reference11Ideal.Value.run m' g')⟩
  obtain ⟨h3, hrest⟩ := h c
  obtain ⟨a0, a1⟩ := hargs c
  refine ⟨h3.trans ?_, hrest⟩
  rw [Cert.Reference11Ideal.Read.val_main_v2_eq, a0, a1]
  exact (value _ _).symm
-- ==== Proof.Prod12.lean ====
/-
  The gated recurrence's first product, as the kernel computes it: a tile of 768 rows at a time.
-/
module
public import proofs.«01_k».proof.Proof.Gen.Kernel12Ideal.Frame
public import proofs.«01_k».proof.Proof.Table
public import Idealize.ShloMosaic.Lib.Pipeline.ValueKit.Acc

set_option maxRecDepth 65536
@[expose] public noncomputable section
namespace Cert.Kernel12Ideal.Prod
open Cert.Bwd (all2 cov idx2 tile tile0 hz hz' small_word)
open Gen
open Idealize.ShloMosaic TcCoe Idealize.SL.Sem
open Pipeline (Dat)

theorem none_at (r : Fin 768) (l : Fin 1024) : k0_pay1 (F := Ideal) (ix2 r l) = 0 := by
  pointwise [k0_pay1]

theorem step_at (x : Vec Ideal S768x1024 .f32) (a : Vec Ideal S768x1024 .bf16) (b : Vec Ideal S1024x1024 .bf16) (r : Fin 768) (l : Fin 1024) :
    k0_pay2 x a b (ix2 r l) = x (ix2 r l) + ∑ k : Fin 1024, a (ix2 r k) * b (ix2 k l) := by
  pointwise [k0_pay2]

section
variable (c : Dev nD) (i : grid0.Coords) (p3 : Memref sig .tc .vmem S768x1024 .bf16) (q3 : p3.IsWhole) (p4 : Memref sig .tc .vmem S1024x1024 .bf16) (q4 : p4.IsWhole) (p5 : Memref sig .tc .vmem S768x1024 .f32) (q5 : p5.IsWhole) (p6 : Memref sig .tc .vmem S768x1024 .f32) (q6 : p6.IsWhole)
  (x0 : Vec Ideal S768x1024 .bf16) (x1 : Vec Ideal S1024x1024 .bf16)

theorem result (hc0 : cond0_0 i) (hc1 : cond0_1 i) :
    out0_A_2 c i p3 q3 p4 q4 p5 q5 p6 q6 hc0 hc1 x0 x1 = k0_pay2 k0_pay1 x0 x1 := by
  unfold out0_A_2
  rw [View.read_writes_eq_canon _ _ _ (cover0_A_2 c i p3 q3 p4 q4 p5 q5 p6 q6 hc0 hc1 x0 x1)]
  unfold kernelRun0_A
  dsimp only
  sl_unfold_words
  rw [View.canon_unit_zero (S := S768x1024) hz, View.readCov_cons_unit_lit' (S := S768x1024) _ _ _ _ _ hz' hz', View.readCov_unit_zero (S := S768x1024) _ hz]
  simp only [View.readAt_eq_ld, q3.read_unread, q4.read_unread, View.ld_unit_zero (S := S768x1024) hz, View.ld_unit_zero (S := S1024x1024) hz]

end

variable (m : (ℓ : Loc nD τ sig) → Buf (Elt Ideal) ℓ) (c : Dev nD)

section
variable (t : Fin cfg0.N)

theorem coords_0 : (grid0.coords t 0).val = t.val / 11 := by
  have h : t.val < 44 := t.isLt.trans_eq N_0
  have e : (grid0.coords t 0).val = t.val / 11 % 4 := Pipeline.Grid.coords_val t 0 (by decide) rfl
  omega

theorem coords_1 : (grid0.coords t 1).val = t.val % 11 := by
  have e : (grid0.coords t 1).val = t.val / 1 % 11 := Pipeline.Grid.coords_val t 1 (by decide) rfl
  omega

theorem coords_2 : (grid0.coords t 2).val = 0 := by
  have e : (grid0.coords t 2).val < 1 := (grid0.coords t 2).isLt
  omega

theorem word_1 : (BitVec.ofNat 32 (grid0.coords t 1).val).toNat = t.val % 11 := by
  have h : t.val < 44 := t.isLt.trans_eq N_0
  rw [coords_1, small_word (by omega)]

theorem word_2 : (BitVec.ofNat 32 (grid0.coords t 2).val).toNat = 0 := by
  have h : t.val < 44 := t.isLt.trans_eq N_0
  rw [coords_2, small_word (by omega)]

theorem word_0 : (BitVec.ofNat 32 (grid0.coords t 0).val).toNat = t.val / 11 := by
  have h : t.val < 44 := t.isLt.trans_eq N_0
  rw [coords_0, small_word (by omega)]

theorem index0 : win0_0.index t 0 = t.val % 11 ∧ win0_0.index t 1 = 0 := ⟨word_1 t, word_2 t⟩

theorem index1 : win0_1.index t 0 = 0 ∧ win0_1.index t 1 = t.val / 11 := ⟨word_2 t, word_0 t⟩

theorem index2 : win0_2.index t 0 = t.val % 11 ∧ win0_2.index t 1 = t.val / 11 := ⟨word_1 t, word_0 t⟩

end

/-- The arrays the kernel reads hold these numbers. -/
structure Held (A B : ℕ → ℕ → EReal) : Prop where
  a : ∀ (r : Fin 8448) (k : Fin 1024), (V m c main_v1 : Vec Ideal S8448x1024 .bf16) (ix2 r k) = A r.val k.val
  b : ∀ (k : Fin 1024) (l : Fin 4096), (V m c main_v2 : Vec Ideal S1024x4096 .bf16) (ix2 k l) = B k.val l.val

variable {A B : ℕ → ℕ → EReal} (H : Held m c A B)
include H

theorem blk0 (t : Fin cfg0.N) (r : Fin 768) (k : Fin 1024) :
    (iblk m c 0 t : Vec Ideal S768x1024 .bf16) (ix2 r k) = A (t.val % 11 * 768 + r.val) k.val := by
  obtain ⟨i0, i1⟩ := index0 t
  unfold iblk
  rw [View.read_apply]
  refine Eq.trans ?_ (H.a ⟨t.val % 11 * 768 + r.val, by omega⟩ k)
  exact congrArg (V m c main_v1 : Vec Ideal S8448x1024 .bf16) (idx2 (tile i0) (tile0 i1))

theorem blk1 (t : Fin cfg0.N) (k : Fin 1024) (l : Fin 1024) :
    (iblk m c 1 t : Vec Ideal S1024x1024 .bf16) (ix2 k l) = B k.val (t.val / 11 * 1024 + l.val) := by
  have h : t.val < 44 := t.isLt.trans_eq N_0
  obtain ⟨i0, i1⟩ := index1 t
  unfold iblk
  rw [View.read_apply]
  refine Eq.trans ?_ (H.b k ⟨t.val / 11 * 1024 + l.val, by omega⟩)
  exact congrArg (V m c main_v2 : Vec Ideal S1024x4096 .bf16) (idx2 (tile0 i0) (tile i1))

theorem tile_at (t : Fin cfg0.N) (r : Fin 768) (l : Fin 1024) : outsAt0 m c t (ix2 r l)
    = ∑ k : Fin 1024, A (t.val % 11 * 768 + r.val) k.val * B k.val (t.val / 11 * 1024 + l.val) := by
  unfold outsAt0
  rw [result]
  rw [step_at, none_at, zero_add]
  refine Finset.sum_congr rfl fun k _ => ?_
  rw [blk0 m c H, blk1 m c H]

omit H in
/-- The product. -/
def prod (A B : ℕ → ℕ → EReal) : Vec Ideal S8448x4096 .f32 := fun i => ∑ k : Fin 1024, A (i 0).val k.val * B k.val (i 1).val

theorem flushed (t : Fin cfg0.N) (_ : (cfg0.win 2).flush t = true) :
    (dats m 0 c).flushed 2 t = ((cfg0.win 2).blk t).view.read (Elt Ideal) (prod A B : Buf (Elt Ideal) ((c.tc : Thread nD τ).loc main_v3)) := by
  have ht : t.val < 44 := t.isLt.trans_eq N_0
  show (cfg0.win 2).cut (grid0.coords t) ((dats m 0 c).after 2 t) = _
  rw [after0_2]
  have L := tile_at m c H t
  generalize outsAt0 m c t = o at L ⊢
  obtain ⟨i0, i1⟩ := index2 t
  funext y
  rw [View.read_apply]
  let y' : S768x1024.Idx := y
  have h0 : (y' 0).val < 768 := (y' 0).isLt
  have h1 : (y' 1).val < 1024 := (y' 1).isLt
  show o y' = (prod A B) _
  have e : ((cfg0.win 2).blk t).view.emb y = (ix2 (⟨t.val % 11 * 768 + (y' 0).val, by omega⟩ : Fin 8448) (⟨t.val / 11 * 1024 + (y' 1).val, by omega⟩ : Fin 4096) : S8448x4096.Idx) := idx2 (tile i0) (tile i1)
  have g : (prod A B) (ix2 (⟨t.val % 11 * 768 + (y' 0).val, by omega⟩ : Fin 8448) (⟨t.val / 11 * 1024 + (y' 1).val, by omega⟩ : Fin 4096)) = o y' := by
    refine Eq.trans ?_ ((L (y' 0) (y' 1)).symm.trans (congrArg o (eq_ix2 y').symm))
    unfold prod
    rfl
  exact (congrArg (prod A B) e |>.trans g).symm

theorem final : (dats m 0 c).arrAt 2 cfg0.N = (prod A B : Buf (Elt Ideal) ((c.tc : Thread nD τ).loc main_v3)) :=
  (dats m 0 c).arrAt_eq_of_cover 2 _ (flushed m c H) fun (i : S8448x4096.Idx) => by
    have h0 : (i 0).val < 8448 := (i 0).isLt
    have h1 : (i 1).val < 4096 := (i 1).isLt
    have hN : (i 1).val / 1024 * 11 + (i 0).val / 768 < cfg0.N := by rw [show cfg0.N = 44 from N_0]; omega
    generalize ht : (⟨(i 1).val / 1024 * 11 + (i 0).val / 768, hN⟩ : Fin cfg0.N) = t
    have hv : t.val = (i 1).val / 1024 * 11 + (i 0).val / 768 := by rw [← ht]
    obtain ⟨i0, i1⟩ := index2 t
    refine ⟨t, flush0_2 t, ?_⟩
    show i ∈ ((View.whole main_v3).slice (win0_2.rect t)).set
    rw [View.set_slice_whole, Rect.mem_set_unit]
    exact all2 (cov (b := 768) (x := (i 0).val) i0 (by omega)) (cov (b := 1024) (x := (i 1).val) i1 (by omega))
-- ==== Proof.Value12.lean ====
/-
  The gated recurrence's first product: the kernel's is the reference's.
-/
module
public import proofs.«01_k».proof.Proof.Prod12
public import proofs.«01_k».proof.Proof.Table
public import proofs.«01_k».proof.Proof.Gen.Kernel12Ideal.Run
public import proofs.«01_k».proof.Proof.Gen.Reference12Ideal.Run
public import proofs.«01_k».proof.Proof.Gen.Reference12Ideal.Read
public import proofs.«01_k».proof.Defs

set_option maxRecDepth 8192
@[expose] public noncomputable section
namespace Cert.Kernel12Ideal.Prod
open Cert.Bwd (idx2 tab tab_at zero zero_at low low_row)
open Gen
open Idealize.ShloMosaic TcCoe Idealize.SL.Sem StableHlo

def arrA (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

def arrW (x : FVec Ideal S1024x4096 .f32) : FVec Ideal S1024x4096 .bf16 :=
  truncf .bf16 x bitsLt_bf16_f32

variable (m : (ℓ : Loc nD τ sig) → Buf (Elt Ideal) ℓ) (c : Dev nD)

theorem read_v1 : (V m c main_v1 : FVec Ideal S8448x1024 .bf16) = arrA (m ((c.tc : Thread nD τ).loc main_arg0)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S1024x4096 .bf16) = arrW (m ((c.tc : Thread nD τ).loc main_arg1)) := by
  show StableHlo.after _ _ (Proc.devRef .tc main_v2) = _
  after_reads_simp
  unfold arrW
  rfl

theorem arrA_at (x : FVec Ideal S8208x1024 .f32) (r : Fin 8448) (k : Fin 1024) : arrA x (ix2 r k) = low x r.val k.val := by
  unfold low
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S1024x4096 .f32) (k : Fin 1024) (l : Fin 4096) : arrW x (ix2 k l) = tab x k.val l.val :=
  (tab_at x k l).symm

abbrev in0 : FVec Ideal S8208x1024 .f32 := m ((c.tc : Thread nD τ).loc main_arg0)
abbrev in1 : FVec Ideal S1024x4096 .f32 := m ((c.tc : Thread nD τ).loc main_arg1)

theorem held : Held m c (low (in0 m c)) (tab (in1 m c)) where
  a r k := (congrFun (read_v1 m c) (ix2 r k)).trans (arrA_at _ r k)
  b k l := (congrFun (read_v2 m c) (ix2 k l)).trans (arrW_at _ k l)

/-- The array without the padding. -/
def cutout (y : Vec Ideal S8448x4096 .f32) : FVec Ideal S8208x4096 .f32 :=
  extractStridedSlice S8208x4096 ![240, 0] y slices_S8448x4096_S8208x4096_240_0

section
variable (x : FVec Ideal S8208x1024 .f32) (w : FVec Ideal S1024x4096 .f32)

theorem prod_at (r : Fin 8208) (l : Fin 4096) : cutout (prod (low x) (tab w)) (ix2 r l) = ∑ k : Fin 1024, x (ix2 r k) * w (ix2 k l) := by
  have e : cutout (prod (low x) (tab w)) (ix2 r l) = (prod (low x) (tab w)) (ix2 (⟨240 + r.val, by omega⟩ : Fin 8448) (⟨l.val, by omega⟩ : Fin 4096)) := by
    generalize prod (low x) (tab w) = z
    pointwise [cutout]
  rw [e]
  show ∑ k : Fin 1024, low x (240 + r.val) k.val * tab w k.val l.val = _
  refine Finset.sum_congr rfl fun k _ => ?_
  rw [low_row, tab_at, tab_at]

theorem ref_at (r : Fin 8208) (l : Fin 4096) : Cert.Reference12Ideal.Read.val_main_v0 (F := Ideal) x w (ix2 r l) = ∑ k : Fin 1024, x (ix2 r k) * w (ix2 k l) := by
  rw [Cert.Reference12Ideal.Read.val_main_v0_apply]
  refine Finset.sum_congr rfl fun k _ => ?_
  congr 2 <;> exact idx2 rfl rfl

theorem value : cutout (prod (low x) (tab w)) = Cert.Reference12Ideal.Read.val_main_v0 (F := Ideal) x w :=
  funext fun i => (congrArg (cutout (prod (low x) (tab w))) (eq_ix2 i)).trans ((prod_at x w (i 0) (i 1)).trans
    ((ref_at x w (i 0) (i 1)).symm.trans (congrArg (Cert.Reference12Ideal.Read.val_main_v0 (F := Ideal) x w) (eq_ix2 i)).symm))

end

theorem algebraic : Cert.algebraic_Kernel12Ideal_Reference12Ideal := by
  intro m g m' g' _ hargs
  refine ⟨fun c => cutout (prod (low (in0 m c)) (tab (in1 m c))),
    (θ_run _ _ _).mono (fun r h c => ⟨(h c).1.trans (congrArg cutout (final m c (held m c))), (h c).2⟩) (Cert.Kernel12Ideal.Value.run m g),
    (θ_run _ _ _).mono (fun r h c => ?_) (Cert.Reference12Ideal.Value.run m' g')⟩
  obtain ⟨h3, hrest⟩ := h c
  obtain ⟨a0, a1⟩ := hargs c
  refine ⟨h3.trans ?_, hrest⟩
  rw [Cert.Reference12Ideal.Read.val_main_v0_eq, a0, a1]
  exact (value _ _).symm
-- ==== Proof.Prod13.lean ====
/-
  The attention's first product, as the kernel computes it: a tile of 768 rows at a time.
-/
module
public import proofs.«01_k».proof.Proof.Gen.Kernel13Ideal.Frame
public import proofs.«01_k».proof.Proof.Table
public import Idealize.ShloMosaic.Lib.Pipeline.ValueKit.Acc

set_option maxRecDepth 65536
@[expose] public noncomputable section
namespace Cert.Kernel13Ideal.Prod
open Cert.Bwd (all2 cov idx2 tile tile0 hz hz' small_word)
open Gen
open Idealize.ShloMosaic TcCoe Idealize.SL.Sem
open Pipeline (Dat)

theorem none_at (r : Fin 768) (l : Fin 1408) : k0_pay1 (F := Ideal) (ix2 r l) = 0 := by
  pointwise [k0_pay1]

theorem step_at (x : Vec Ideal S768x1408 .f32) (a : Vec Ideal S768x1024 .bf16) (b : Vec Ideal S1024x1408 .bf16) (r : Fin 768) (l : Fin 1408) :
    k0_pay2 x a b (ix2 r l) = x (ix2 r l) + ∑ k : Fin 1024, a (ix2 r k) * b (ix2 k l) := by
  pointwise [k0_pay2]

section
variable (c : Dev nD) (i : grid0.Coords) (p3 : Memref sig .tc .vmem S768x1024 .bf16) (q3 : p3.IsWhole) (p4 : Memref sig .tc .vmem S1024x1408 .bf16) (q4 : p4.IsWhole) (p5 : Memref sig .tc .vmem S768x1408 .f32) (q5 : p5.IsWhole) (p6 : Memref sig .tc .vmem S768x1408 .f32) (q6 : p6.IsWhole)
  (x0 : Vec Ideal S768x1024 .bf16) (x1 : Vec Ideal S1024x1408 .bf16)

theorem result (hc0 : cond0_0 i) (hc1 : cond0_1 i) :
    out0_A_2 c i p3 q3 p4 q4 p5 q5 p6 q6 hc0 hc1 x0 x1 = k0_pay2 k0_pay1 x0 x1 := by
  unfold out0_A_2
  rw [View.read_writes_eq_canon _ _ _ (cover0_A_2 c i p3 q3 p4 q4 p5 q5 p6 q6 hc0 hc1 x0 x1)]
  unfold kernelRun0_A
  dsimp only
  sl_unfold_words
  rw [View.canon_unit_zero (S := S768x1408) hz, View.readCov_cons_unit_lit' (S := S768x1408) _ _ _ _ _ hz' hz', View.readCov_unit_zero (S := S768x1408) _ hz]
  simp only [View.readAt_eq_ld, q3.read_unread, q4.read_unread, View.ld_unit_zero (S := S768x1024) hz, View.ld_unit_zero (S := S1024x1408) hz, View.ld_unit_zero (S := S768x1408) hz]

end

variable (m : (ℓ : Loc nD τ sig) → Buf (Elt Ideal) ℓ) (c : Dev nD)

section
variable (t : Fin cfg0.N)

theorem coords_0 : (grid0.coords t 0).val = t.val / 11 := by
  have h : t.val < 33 := t.isLt.trans_eq N_0
  have e : (grid0.coords t 0).val = t.val / 11 % 3 := Pipeline.Grid.coords_val t 0 (by decide) rfl
  omega

theorem coords_1 : (grid0.coords t 1).val = t.val % 11 := by
  have e : (grid0.coords t 1).val = t.val / 1 % 11 := Pipeline.Grid.coords_val t 1 (by decide) rfl
  omega

theorem coords_2 : (grid0.coords t 2).val = 0 := by
  have e : (grid0.coords t 2).val < 1 := (grid0.coords t 2).isLt
  omega

theorem word_1 : (BitVec.ofNat 32 (grid0.coords t 1).val).toNat = t.val % 11 := by
  have h : t.val < 33 := t.isLt.trans_eq N_0
  rw [coords_1, small_word (by omega)]

theorem word_2 : (BitVec.ofNat 32 (grid0.coords t 2).val).toNat = 0 := by
  have h : t.val < 33 := t.isLt.trans_eq N_0
  rw [coords_2, small_word (by omega)]

theorem word_0 : (BitVec.ofNat 32 (grid0.coords t 0).val).toNat = t.val / 11 := by
  have h : t.val < 33 := t.isLt.trans_eq N_0
  rw [coords_0, small_word (by omega)]

theorem index0 : win0_0.index t 0 = t.val % 11 ∧ win0_0.index t 1 = 0 := ⟨word_1 t, word_2 t⟩

theorem index1 : win0_1.index t 0 = 0 ∧ win0_1.index t 1 = t.val / 11 := ⟨word_2 t, word_0 t⟩

theorem index2 : win0_2.index t 0 = t.val % 11 ∧ win0_2.index t 1 = t.val / 11 := ⟨word_1 t, word_0 t⟩

end

/-- The arrays the kernel reads hold these numbers. -/
structure Held (A B : ℕ → ℕ → EReal) : Prop where
  a : ∀ (r : Fin 8448) (k : Fin 1024), (V m c main_v2 : Vec Ideal S8448x1024 .bf16) (ix2 r k) = A r.val k.val
  b : ∀ (k : Fin 1024) (l : Fin 4224), (V m c main_v3 : Vec Ideal S1024x4224 .bf16) (ix2 k l) = B k.val l.val

variable {A B : ℕ → ℕ → EReal} (H : Held m c A B)
include H

theorem blk0 (t : Fin cfg0.N) (r : Fin 768) (k : Fin 1024) :
    (iblk m c 0 t : Vec Ideal S768x1024 .bf16) (ix2 r k) = A (t.val % 11 * 768 + r.val) k.val := by
  obtain ⟨i0, i1⟩ := index0 t
  unfold iblk
  rw [View.read_apply]
  refine Eq.trans ?_ (H.a ⟨t.val % 11 * 768 + r.val, by omega⟩ k)
  exact congrArg (V m c main_v2 : Vec Ideal S8448x1024 .bf16) (idx2 (tile i0) (tile0 i1))

theorem blk1 (t : Fin cfg0.N) (k : Fin 1024) (l : Fin 1408) :
    (iblk m c 1 t : Vec Ideal S1024x1408 .bf16) (ix2 k l) = B k.val (t.val / 11 * 1408 + l.val) := by
  have h : t.val < 33 := t.isLt.trans_eq N_0
  obtain ⟨i0, i1⟩ := index1 t
  unfold iblk
  rw [View.read_apply]
  refine Eq.trans ?_ (H.b k ⟨t.val / 11 * 1408 + l.val, by omega⟩)
  exact congrArg (V m c main_v3 : Vec Ideal S1024x4224 .bf16) (idx2 (tile0 i0) (tile i1))

theorem tile_at (t : Fin cfg0.N) (r : Fin 768) (l : Fin 1408) : outsAt0 m c t (ix2 r l)
    = ∑ k : Fin 1024, A (t.val % 11 * 768 + r.val) k.val * B k.val (t.val / 11 * 1408 + l.val) := by
  unfold outsAt0
  rw [result]
  rw [step_at, none_at, zero_add]
  refine Finset.sum_congr rfl fun k _ => ?_
  rw [blk0 m c H, blk1 m c H]

omit H in
/-- The product. -/
def prod (A B : ℕ → ℕ → EReal) : Vec Ideal S8448x4224 .f32 := fun i => ∑ k : Fin 1024, A (i 0).val k.val * B k.val (i 1).val

theorem flushed (t : Fin cfg0.N) (_ : (cfg0.win 2).flush t = true) :
    (dats m 0 c).flushed 2 t = ((cfg0.win 2).blk t).view.read (Elt Ideal) (prod A B : Buf (Elt Ideal) ((c.tc : Thread nD τ).loc main_v4)) := by
  have ht : t.val < 33 := t.isLt.trans_eq N_0
  show (cfg0.win 2).cut (grid0.coords t) ((dats m 0 c).after 2 t) = _
  rw [after0_2]
  have L := tile_at m c H t
  generalize outsAt0 m c t = o at L ⊢
  obtain ⟨i0, i1⟩ := index2 t
  funext y
  rw [View.read_apply]
  let y' : S768x1408.Idx := y
  have h0 : (y' 0).val < 768 := (y' 0).isLt
  have h1 : (y' 1).val < 1408 := (y' 1).isLt
  show o y' = (prod A B) _
  have e : ((cfg0.win 2).blk t).view.emb y = (ix2 (⟨t.val % 11 * 768 + (y' 0).val, by omega⟩ : Fin 8448) (⟨t.val / 11 * 1408 + (y' 1).val, by omega⟩ : Fin 4224) : S8448x4224.Idx) := idx2 (tile i0) (tile i1)
  have g : (prod A B) (ix2 (⟨t.val % 11 * 768 + (y' 0).val, by omega⟩ : Fin 8448) (⟨t.val / 11 * 1408 + (y' 1).val, by omega⟩ : Fin 4224)) = o y' := by
    refine Eq.trans ?_ ((L (y' 0) (y' 1)).symm.trans (congrArg o (eq_ix2 y').symm))
    unfold prod
    rfl
  exact (congrArg (prod A B) e |>.trans g).symm

theorem final : (dats m 0 c).arrAt 2 cfg0.N = (prod A B : Buf (Elt Ideal) ((c.tc : Thread nD τ).loc main_v4)) :=
  (dats m 0 c).arrAt_eq_of_cover 2 _ (flushed m c H) fun (i : S8448x4224.Idx) => by
    have h0 : (i 0).val < 8448 := (i 0).isLt
    have h1 : (i 1).val < 4224 := (i 1).isLt
    have hN : (i 1).val / 1408 * 11 + (i 0).val / 768 < cfg0.N := by rw [show cfg0.N = 33 from N_0]; omega
    generalize ht : (⟨(i 1).val / 1408 * 11 + (i 0).val / 768, hN⟩ : Fin cfg0.N) = t
    have hv : t.val = (i 1).val / 1408 * 11 + (i 0).val / 768 := by rw [← ht]
    obtain ⟨i0, i1⟩ := index2 t
    refine ⟨t, flush0_2 t, ?_⟩
    show i ∈ ((View.whole main_v4).slice (win0_2.rect t)).set
    rw [View.set_slice_whole, Rect.mem_set_unit]
    exact all2 (cov (b := 768) (x := (i 0).val) i0 (by omega)) (cov (b := 1408) (x := (i 1).val) i1 (by omega))
-- ==== Proof.Value13.lean ====
/-
  The attention's first product: the kernel's is the reference's.
-/
module
public import proofs.«01_k».proof.Proof.Prod13
public import proofs.«01_k».proof.Proof.Table
public import proofs.«01_k».proof.Proof.Gen.Kernel13Ideal.Run
public import proofs.«01_k».proof.Proof.Gen.Reference13Ideal.Run
public import proofs.«01_k».proof.Proof.Gen.Reference13Ideal.Read
public import proofs.«01_k».proof.Defs

set_option maxRecDepth 8192
@[expose] public noncomputable section
namespace Cert.Kernel13Ideal.Prod
open Cert.Bwd (idx2 tab tab_at zero zero_at low low_row)
open Gen
open Idealize.ShloMosaic TcCoe Idealize.SL.Sem StableHlo

def arrA (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

def arrW (x : FVec Ideal S1024x4112 .f32) : FVec Ideal S1024x4224 .bf16 :=
  truncf .bf16 (pad S1024x4224 ![0, 0] ![0, 112] ![0, 0] x zero pads_S1024x4112_S1024x4224_000_01120 h_S_) bitsLt_bf16_f32

variable (m : (ℓ : Loc nD τ sig) → Buf (Elt Ideal) ℓ) (c : Dev nD)

theorem read_v2 : (V m c main_v2 : FVec Ideal S8448x1024 .bf16) = arrA (m ((c.tc : Thread nD τ).loc main_arg0)) := by
  show StableHlo.after _ _ (Proc.devRef .tc main_v2) = _
  after_reads_simp
  simp -implicitDefEqProofs only [TRef.toBuf, TRef.ofBuf, cast_cast, cast_eq]
  unfold arrA zero
  rfl

theorem read_v3 : (V m c main_v3 : FVec Ideal S1024x4224 .bf16) = arrW (m ((c.tc : Thread nD τ).loc main_arg1)) := by
  show StableHlo.after _ _ (Proc.devRef .tc main_v3) = _
  after_reads_simp
  simp -implicitDefEqProofs only [TRef.toBuf, TRef.ofBuf, cast_cast, cast_eq]
  unfold arrW zero
  rfl

theorem arrA_at (x : FVec Ideal S8208x1024 .f32) (r : Fin 8448) (k : Fin 1024) : arrA x (ix2 r k) = low x r.val k.val := by
  unfold low
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S1024x4112 .f32) (k : Fin 1024) (l : Fin 4224) : arrW x (ix2 k l) = tab x k.val l.val := by
  pointwise [arrW]
  by_cases hl : l.val < 4112
  · rw [dif_pos (by omega)]
    exact (tab_at x k ⟨l.val, hl⟩).symm
  · rw [dif_neg (by omega), zero_at]
    unfold tab
    rw [dif_neg (by omega)]

abbrev in0 : FVec Ideal S8208x1024 .f32 := m ((c.tc : Thread nD τ).loc main_arg0)
abbrev in1 : FVec Ideal S1024x4112 .f32 := m ((c.tc : Thread nD τ).loc main_arg1)

theorem held : Held m c (low (in0 m c)) (tab (in1 m c)) where
  a r k := (congrFun (read_v2 m c) (ix2 r k)).trans (arrA_at _ r k)
  b k l := (congrFun (read_v3 m c) (ix2 k l)).trans (arrW_at _ k l)

/-- The array without the padding. -/
def cutout (y : Vec Ideal S8448x4224 .f32) : FVec Ideal S8208x4112 .f32 :=
  extractStridedSlice S8208x4112 ![240, 0] y slices_S8448x4224_S8208x4112_240_0

section
variable (x : FVec Ideal S8208x1024 .f32) (w : FVec Ideal S1024x4112 .f32)

theorem prod_at (r : Fin 8208) (l : Fin 4112) : cutout (prod (low x) (tab w)) (ix2 r l) = ∑ k : Fin 1024, x (ix2 r k) * w (ix2 k l) := by
  have e : cutout (prod (low x) (tab w)) (ix2 r l) = (prod (low x) (tab w)) (ix2 (⟨240 + r.val, by omega⟩ : Fin 8448) (⟨l.val, by omega⟩ : Fin 4224)) := by
    generalize prod (low x) (tab w) = z
    pointwise [cutout]
  rw [e]
  show ∑ k : Fin 1024, low x (240 + r.val) k.val * tab w k.val l.val = _
  refine Finset.sum_congr rfl fun k _ => ?_
  rw [low_row, tab_at, tab_at]

theorem ref_at (r : Fin 8208) (l : Fin 4112) : Cert.Reference13Ideal.Read.val_main_v0 (F := Ideal) x w (ix2 r l) = ∑ k : Fin 1024, x (ix2 r k) * w (ix2 k l) := by
  rw [Cert.Reference13Ideal.Read.val_main_v0_apply]
  refine Finset.sum_congr rfl fun k _ => ?_
  congr 2 <;> exact idx2 rfl rfl

theorem value : cutout (prod (low x) (tab w)) = Cert.Reference13Ideal.Read.val_main_v0 (F := Ideal) x w :=
  funext fun i => (congrArg (cutout (prod (low x) (tab w))) (eq_ix2 i)).trans ((prod_at x w (i 0) (i 1)).trans
    ((ref_at x w (i 0) (i 1)).symm.trans (congrArg (Cert.Reference13Ideal.Read.val_main_v0 (F := Ideal) x w) (eq_ix2 i)).symm))

end

theorem algebraic : Cert.algebraic_Kernel13Ideal_Reference13Ideal := by
  intro m g m' g' _ hargs
  refine ⟨fun c => cutout (prod (low (in0 m c)) (tab (in1 m c))),
    (θ_run _ _ _).mono (fun r h c => ⟨(h c).1.trans (congrArg cutout (final m c (held m c))), (h c).2⟩) (Cert.Kernel13Ideal.Value.run m g),
    (θ_run _ _ _).mono (fun r h c => ?_) (Cert.Reference13Ideal.Value.run m' g')⟩
  obtain ⟨h3, hrest⟩ := h c
  obtain ⟨a0, a1⟩ := hargs c
  refine ⟨h3.trans ?_, hrest⟩
  rw [Cert.Reference13Ideal.Read.val_main_v0_eq, a0, a1]
  exact (value _ _).symm
-- ==== Proof.Prod14.lean ====
/-
  The last feed-forward layer's second product with the residual, as the kernel computes it: a tile of 768 rows at a time.
-/
module
public import proofs.«01_k».proof.Proof.Gen.Kernel14Ideal.Frame
public import proofs.«01_k».proof.Proof.Table
public import Idealize.ShloMosaic.Lib.Pipeline.ValueKit.Acc

set_option maxRecDepth 65536
@[expose] public noncomputable section
namespace Cert.Kernel14Ideal.Prod
open Cert.Bwd (all2 cov idx2 tile tile0 hz hz' small_word)
open Gen
open Idealize.ShloMosaic TcCoe Idealize.SL.Sem
open Pipeline (Dat)

theorem none_at (r : Fin 768) (l : Fin 1024) : k0_pay1 (F := Ideal) (ix2 r l) = 0 := by
  pointwise [k0_pay1]

theorem step_at (x : Vec Ideal S768x1024 .f32) (a : Vec Ideal S768x2816 .bf16) (b : Vec Ideal S2816x1024 .bf16) (r : Fin 768) (l : Fin 1024) :
    k0_pay2 x a b (ix2 r l) = x (ix2 r l) + ∑ k : Fin 2816, a (ix2 r k) * b (ix2 k l) := by
  pointwise [k0_pay2]

theorem last_at (x y : Vec Ideal S768x1024 .f32) (r : Fin 768) (l : Fin 1024) : k0_pay3 x y (ix2 r l) = x (ix2 r l) + y (ix2 r l) := by
  pointwise [k0_pay3]

section
variable (c : Dev nD) (i : grid0.Coords) (p3 : Memref sig .tc .vmem S768x2816 .bf16) (q3 : p3.IsWhole) (p4 : Memref sig .tc .vmem S2816x1024 .bf16) (q4 : p4.IsWhole) (p5 : Memref sig .tc .vmem S768x1024 .f32) (q5 : p5.IsWhole) (p6 : Memref sig .tc .vmem S768x1024 .f32) (q6 : p6.IsWhole) (p7 : Memref sig .tc .vmem S768x1024 .f32) (q7 : p7.IsWhole)
  (x0 : Vec Ideal S768x2816 .bf16) (x1 : Vec Ideal S2816x1024 .bf16) (x2 : Vec Ideal S768x1024 .f32)

theorem result (hc0 : cond0_0 i) (hc1 : cond0_1 i) :
    out0_A_3 c i p3 q3 p4 q4 p5 q5 p6 q6 p7 q7 hc0 hc1 x0 x1 x2 = k0_pay3 (k0_pay2 k0_pay1 x0 x1) x2 := by
  unfold out0_A_3
  rw [View.read_writes_eq_canon _ _ _ (cover0_A_3 c i p3 q3 p4 q4 p5 q5 p6 q6 p7 q7 hc0 hc1 x0 x1 x2)]
  unfold kernelRun0_A
  dsimp only
  sl_unfold_words
  rw [View.canon_unit_zero (S := S768x1024) hz, View.readCov_cons_unit_lit' (S := S768x1024) _ _ _ _ _ hz' hz', View.readCov_unit_zero (S := S768x1024) _ hz]
  simp only [View.readAt_eq_ld, q3.read_unread, q4.read_unread, q5.read_unread, View.ld_unit_zero (S := S768x2816) hz, View.ld_unit_zero (S := S2816x1024) hz, View.ld_unit_zero (S := S768x1024) hz]

end

variable (m : (ℓ : Loc nD τ sig) → Buf (Elt Ideal) ℓ) (c : Dev nD)

section
variable (t : Fin cfg0.N)

theorem coords_0 : (grid0.coords t 0).val = t.val / 11 := by
  have h : t.val < 11 := t.isLt.trans_eq N_0
  have e : (grid0.coords t 0).val = t.val / 11 % 1 := Pipeline.Grid.coords_val t 0 (by decide) rfl
  omega

theorem coords_1 : (grid0.coords t 1).val = t.val % 11 := by
  have e : (grid0.coords t 1).val = t.val / 1 % 11 := Pipeline.Grid.coords_val t 1 (by decide) rfl
  omega

theorem coords_2 : (grid0.coords t 2).val = 0 := by
  have e : (grid0.coords t 2).val < 1 := (grid0.coords t 2).isLt
  omega

theorem word_1 : (BitVec.ofNat 32 (grid0.coords t 1).val).toNat = t.val % 11 := by
  have h : t.val < 11 := t.isLt.trans_eq N_0
  rw [coords_1, small_word (by omega)]

theorem word_2 : (BitVec.ofNat 32 (grid0.coords t 2).val).toNat = 0 := by
  have h : t.val < 11 := t.isLt.trans_eq N_0
  rw [coords_2, small_word (by omega)]

theorem word_0 : (BitVec.ofNat 32 (grid0.coords t 0).val).toNat = t.val / 11 := by
  have h : t.val < 11 := t.isLt.trans_eq N_0
  rw [coords_0, small_word (by omega)]

theorem index0 : win0_0.index t 0 = t.val % 11 ∧ win0_0.index t 1 = 0 := ⟨word_1 t, word_2 t⟩

theorem index1 : win0_1.index t 0 = 0 ∧ win0_1.index t 1 = t.val / 11 := ⟨word_2 t, word_0 t⟩

theorem index2 : win0_2.index t 0 = t.val % 11 ∧ win0_2.index t 1 = t.val / 11 := ⟨word_1 t, word_0 t⟩

theorem index3 : win0_3.index t 0 = t.val % 11 ∧ win0_3.index t 1 = t.val / 11 := ⟨word_1 t, word_0 t⟩

end

/-- The arrays the kernel reads hold these numbers. -/
structure Held (A B R : ℕ → ℕ → EReal) : Prop where
  a : ∀ (r : Fin 8448) (k : Fin 2816), (V m c main_v1 : Vec Ideal S8448x2816 .bf16) (ix2 r k) = A r.val k.val
  b : ∀ (k : Fin 2816) (l : Fin 1024), (V m c main_v2 : Vec Ideal S2816x1024 .bf16) (ix2 k l) = B k.val l.val
  r : ∀ (r : Fin 8448) (l : Fin 1024), (V m c main_v3 : Vec Ideal S8448x1024 .f32) (ix2 r l) = R r.val l.val

variable {A B R : ℕ → ℕ → EReal} (H : Held m c A B R)
include H

theorem blk0 (t : Fin cfg0.N) (r : Fin 768) (k : Fin 2816) :
    (iblk m c 0 t : Vec Ideal S768x2816 .bf16) (ix2 r k) = A (t.val % 11 * 768 + r.val) k.val := by
  obtain ⟨i0, i1⟩ := index0 t
  unfold iblk
  rw [View.read_apply]
  refine Eq.trans ?_ (H.a ⟨t.val % 11 * 768 + r.val, by omega⟩ k)
  exact congrArg (V m c main_v1 : Vec Ideal S8448x2816 .bf16) (idx2 (tile i0) (tile0 i1))

theorem blk1 (t : Fin cfg0.N) (k : Fin 2816) (l : Fin 1024) :
    (iblk m c 1 t : Vec Ideal S2816x1024 .bf16) (ix2 k l) = B k.val (t.val / 11 * 1024 + l.val) := by
  have h : t.val < 11 := t.isLt.trans_eq N_0
  obtain ⟨i0, i1⟩ := index1 t
  unfold iblk
  rw [View.read_apply]
  refine Eq.trans ?_ (H.b k ⟨t.val / 11 * 1024 + l.val, by omega⟩)
  exact congrArg (V m c main_v2 : Vec Ideal S2816x1024 .bf16) (idx2 (tile0 i0) (tile i1))

theorem blk2 (t : Fin cfg0.N) (r : Fin 768) (l : Fin 1024) :
    (iblk m c 2 t : Vec Ideal S768x1024 .f32) (ix2 r l) = R (t.val % 11 * 768 + r.val) (t.val / 11 * 1024 + l.val) := by
  have h : t.val < 11 := t.isLt.trans_eq N_0
  obtain ⟨i0, i1⟩ := index2 t
  unfold iblk
  rw [View.read_apply]
  refine Eq.trans ?_ (H.r ⟨t.val % 11 * 768 + r.val, by omega⟩ ⟨t.val / 11 * 1024 + l.val, by omega⟩)
  exact congrArg (V m c main_v3 : Vec Ideal S8448x1024 .f32) (idx2 (tile i0) (tile i1))

theorem tile_at (t : Fin cfg0.N) (r : Fin 768) (l : Fin 1024) : outsAt0 m c t (ix2 r l)
    = ∑ k : Fin 2816, A (t.val % 11 * 768 + r.val) k.val * B k.val (t.val / 11 * 1024 + l.val) + R (t.val % 11 * 768 + r.val) (t.val / 11 * 1024 + l.val) := by
  unfold outsAt0
  rw [result]
  rw [last_at, step_at, none_at, zero_add]
  refine congrArg₂ (· + ·) (Finset.sum_congr rfl fun k _ => ?_) (blk2 m c H t r l)
  rw [blk0 m c H, blk1 m c H]

omit H in
/-- The product. -/
def prod (A B R : ℕ → ℕ → EReal) : Vec Ideal S8448x1024 .f32 := fun i => ∑ k : Fin 2816, A (i 0).val k.val * B k.val (i 1).val + R (i 0).val (i 1).val

theorem flushed (t : Fin cfg0.N) (_ : (cfg0.win 3).flush t = true) :
    (dats m 0 c).flushed 3 t = ((cfg0.win 3).blk t).view.read (Elt Ideal) (prod A B R : Buf (Elt Ideal) ((c.tc : Thread nD τ).loc main_v4)) := by
  have ht : t.val < 11 := t.isLt.trans_eq N_0
  show (cfg0.win 3).cut (grid0.coords t) ((dats m 0 c).after 3 t) = _
  rw [after0_3]
  have L := tile_at m c H t
  generalize outsAt0 m c t = o at L ⊢
  obtain ⟨i0, i1⟩ := index3 t
  funext y
  rw [View.read_apply]
  let y' : S768x1024.Idx := y
  have h0 : (y' 0).val < 768 := (y' 0).isLt
  have h1 : (y' 1).val < 1024 := (y' 1).isLt
  show o y' = (prod A B R) _
  have e : ((cfg0.win 3).blk t).view.emb y = (ix2 (⟨t.val % 11 * 768 + (y' 0).val, by omega⟩ : Fin 8448) (⟨t.val / 11 * 1024 + (y' 1).val, by omega⟩ : Fin 1024) : S8448x1024.Idx) := idx2 (tile i0) (tile i1)
  have g : (prod A B R) (ix2 (⟨t.val % 11 * 768 + (y' 0).val, by omega⟩ : Fin 8448) (⟨t.val / 11 * 1024 + (y' 1).val, by omega⟩ : Fin 1024)) = o y' := by
    refine Eq.trans ?_ ((L (y' 0) (y' 1)).symm.trans (congrArg o (eq_ix2 y').symm))
    unfold prod
    rfl
  exact (congrArg (prod A B R) e |>.trans g).symm

theorem final : (dats m 0 c).arrAt 3 cfg0.N = (prod A B R : Buf (Elt Ideal) ((c.tc : Thread nD τ).loc main_v4)) :=
  (dats m 0 c).arrAt_eq_of_cover 3 _ (flushed m c H) fun (i : S8448x1024.Idx) => by
    have h0 : (i 0).val < 8448 := (i 0).isLt
    have h1 : (i 1).val < 1024 := (i 1).isLt
    have hN : (i 1).val / 1024 * 11 + (i 0).val / 768 < cfg0.N := by rw [show cfg0.N = 11 from N_0]; omega
    generalize ht : (⟨(i 1).val / 1024 * 11 + (i 0).val / 768, hN⟩ : Fin cfg0.N) = t
    have hv : t.val = (i 1).val / 1024 * 11 + (i 0).val / 768 := by rw [← ht]
    obtain ⟨i0, i1⟩ := index3 t
    refine ⟨t, flush0_3 t, ?_⟩
    show i ∈ ((View.whole main_v4).slice (win0_3.rect t)).set
    rw [View.set_slice_whole, Rect.mem_set_unit]
    exact all2 (cov (b := 768) (x := (i 0).val) i0 (by omega)) (cov (b := 1024) (x := (i 1).val) i1 (by omega))
-- ==== Proof.Value14.lean ====
/-
  The last feed-forward layer's second product with the residual: the kernel's is the reference's.
-/
module
public import proofs.«01_k».proof.Proof.Prod14
public import proofs.«01_k».proof.Proof.Table
public import proofs.«01_k».proof.Proof.Gen.Kernel14Ideal.Run
public import proofs.«01_k».proof.Proof.Gen.Reference14Ideal.Run
public import proofs.«01_k».proof.Proof.Gen.Reference14Ideal.Read
public import proofs.«01_k».proof.Defs

set_option maxRecDepth 8192
@[expose] public noncomputable section
namespace Cert.Kernel14Ideal.Prod
open Cert.Bwd (idx2 tab tab_at zero zero_at low low_row)
open Gen
open Idealize.ShloMosaic TcCoe Idealize.SL.Sem StableHlo

def arrA (x : FVec Ideal S8208x2816 .f32) : FVec Ideal S8448x2816 .bf16 :=
  truncf .bf16 (pad S8448x2816 ![240, 0] ![0, 0] ![0, 0] x zero pads_S8208x2816_S8448x2816_24000_000 h_S_) bitsLt_bf16_f32

def arrW (x : FVec Ideal S2816x1024 .f32) : FVec Ideal S2816x1024 .bf16 :=
  truncf .bf16 x bitsLt_bf16_f32

def arrR (x : FVec Ideal S8208x1024 .f32) : FVec Ideal S8448x1024 .f32 :=
  pad S8448x1024 ![240, 0] ![0, 0] ![0, 0] x zero pads_S8208x1024_S8448x1024_24000_000 h_S_

variable (m : (ℓ : Loc nD τ sig) → Buf (Elt Ideal) ℓ) (c : Dev nD)

theorem read_v1 : (V m c main_v1 : FVec Ideal S8448x2816 .bf16) = arrA (m ((c.tc : Thread nD τ).loc main_arg0)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S2816x1024 .bf16) = arrW (m ((c.tc : Thread nD τ).loc main_arg1)) := by
  show StableHlo.after _ _ (Proc.devRef .tc main_v2) = _
  after_reads_simp
  unfold arrW
  rfl

theorem read_v3 : (V m c main_v3 : FVec Ideal S8448x1024 .f32) = arrR (m ((c.tc : Thread nD τ).loc main_arg2)) := by
  show StableHlo.after _ _ (Proc.devRef .tc main_v3) = _
  after_reads_simp
  simp -implicitDefEqProofs only [TRef.toBuf, TRef.ofBuf, cast_cast, cast_eq]
  unfold arrR zero
  rfl

theorem arrA_at (x : FVec Ideal S8208x2816 .f32) (r : Fin 8448) (k : Fin 2816) : arrA x (ix2 r k) = low x r.val k.val := by
  unfold low
  pointwise [arrA]
  by_cases hr : r.val < 240
  · rw [dif_neg (by omega), if_pos hr, zero_at]
  · rw [dif_pos (by omega), if_neg hr]
    exact (tab_at x ⟨r.val - 240, by omega⟩ k).symm

theorem arrW_at (x : FVec Ideal S2816x1024 .f32) (k : Fin 2816) (l : Fin 1024) : arrW x (ix2 k l) = tab x k.val l.val :=
  (tab_at x k l).symm

theorem arrR_at (x : FVec Ideal S8208x1024 .f32) (r : Fin 8448) (l : Fin 1024) : arrR x (ix2 r l) = low x r.val l.val := by
  unfold low
  pointwise [arrR]
  by_cases hr : r.val < 240
  · rw [dif_neg (by omega), if_pos hr, zero_at]
  · rw [dif_pos (by omega), if_neg hr]
    exact (tab_at x ⟨r.val - 240, by omega⟩ l).symm

abbrev in0 : FVec Ideal S8208x2816 .f32 := m ((c.tc : Thread nD τ).loc main_arg0)
abbrev in1 : FVec Ideal S2816x1024 .f32 := m ((c.tc : Thread nD τ).loc main_arg1)
abbrev in2 : FVec Ideal S8208x1024 .f32 := m ((c.tc : Thread nD τ).loc main_arg2)

theorem held : Held m c (low (in0 m c)) (tab (in1 m c)) (low (in2 m c)) where
  a r k := (congrFun (read_v1 m c) (ix2 r k)).trans (arrA_at _ r k)
  b k l := (congrFun (read_v2 m c) (ix2 k l)).trans (arrW_at _ k l)
  r r l := (congrFun (read_v3 m c) (ix2 r l)).trans (arrR_at _ r l)

/-- The array without the padding. -/
def cutout (y : Vec Ideal S8448x1024 .f32) : FVec Ideal S8208x1024 .f32 :=
  extractStridedSlice S8208x1024 ![240, 0] y slices_S8448x1024_S8208x1024_240_0

section
variable (x : FVec Ideal S8208x2816 .f32) (w : FVec Ideal S2816x1024 .f32) (y : FVec Ideal S8208x1024 .f32)

theorem prod_at (r : Fin 8208) (l : Fin 1024) : cutout (prod (low x) (tab w) (low y)) (ix2 r l) = y (ix2 r l) + ∑ k : Fin 2816, x (ix2 r k) * w (ix2 k l) := by
  have e : cutout (prod (low x) (tab w) (low y)) (ix2 r l) = (prod (low x) (tab w) (low y)) (ix2 (⟨240 + r.val, by omega⟩ : Fin 8448) (⟨l.val, by omega⟩ : Fin 1024)) := by
    generalize prod (low x) (tab w) (low y) = z
    pointwise [cutout]
  rw [e]
  show ∑ k : Fin 2816, low x (240 + r.val) k.val * tab w k.val l.val + low y (240 + r.val) l.val = _
  rw [add_comm, low_row, tab_at]
  refine congrArg _ (Finset.sum_congr rfl fun k _ => ?_)
  rw [low_row, tab_at, tab_at]

theorem ref_at (r : Fin 8208) (l : Fin 1024) : Cert.Reference14Ideal.Read.val_main_v1 (F := Ideal) x w y (ix2 r l) = y (ix2 r l) + ∑ k : Fin 2816, x (ix2 r k) * w (ix2 k l) := by
  rw [Cert.Reference14Ideal.Read.val_main_v1_apply, Cert.Reference14Ideal.Read.val_main_v0_apply]
  refine congrArg (y (ix2 r l) + ·) (Finset.sum_congr rfl fun k _ => ?_)
  congr 2 <;> exact idx2 rfl rfl

theorem value : cutout (prod (low x) (tab w) (low y)) = Cert.Reference14Ideal.Read.val_main_v1 (F := Ideal) x w y :=
  funext fun i => (congrArg (cutout (prod (low x) (tab w) (low y))) (eq_ix2 i)).trans ((prod_at x w y (i 0) (i 1)).trans
    ((ref_at x w y (i 0) (i 1)).symm.trans (congrArg (Cert.Reference14Ideal.Read.val_main_v1 (F := Ideal) x w y) (eq_ix2 i)).symm))

end

theorem algebraic : Cert.algebraic_Kernel14Ideal_Reference14Ideal := by
  intro m g m' g' _ hargs
  refine ⟨fun c => cutout (prod (low (in0 m c)) (tab (in1 m c)) (low (in2 m c))),
    (θ_run _ _ _).mono (fun r h c => ⟨(h c).1.trans (congrArg cutout (final m c (held m c))), (h c).2⟩) (Cert.Kernel14Ideal.Value.run m g),
    (θ_run _ _ _).mono (fun r h c => ?_) (Cert.Reference14Ideal.Value.run m' g')⟩
  obtain ⟨h3, hrest⟩ := h c
  obtain ⟨a0, a1, a2⟩ := hargs c
  refine ⟨h3.trans ?_, hrest⟩
  rw [Cert.Reference14Ideal.Read.val_main_v1_eq, a0, a1, a2]
  exact (value _ _ _).symm
-- ==== Proof.Online15.lean ====
/-
  The running softmax of the attention's forward pass over the real numbers: what a row's maximum and weighted sums are
  after any number of keys, and that one more block of keys carries them on.
-/
module
public import proofs.«01_k».proof.Proof.Logits
public import proofs.«01_k».proof.Proof.Equation

@[expose] public noncomputable section
namespace Cert.Bwd
open Idealize.ShloMosaic

namespace Inp

variable (X : Inp)

/-- A pair's score in base two. -/
def sc (h R s : ℕ) : ℝ := ∑ l ∈ Finset.range 128, X.qh h R l * X.key h s l

/-- The lane that carries head `h`'s gate. -/
def gLane (h : ℕ) : ℕ := if h = 0 then 64 else 0

/-- Head `h`'s keys: minus infinity in the gate's lane of the padding. -/
def keyE (h s l : ℕ) : EReal := if s < 240 ∧ l = gLane h then ⊥ else ((X.key h s l : ℝ) : EReal)

/-- Head `h`'s values, with ones in the other head's lanes. -/
def val (h s l : ℕ) : ℝ := if h = 0 then (if l < 64 then X.v s l else 1) else (if l < 64 then 1 else X.v s l)

/-- The weight of a pair under the running maximum `μ`. -/
def wt (h R : ℕ) (μ : ℝ) (s : ℕ) : ℝ := if 240 ≤ s ∧ s ≤ R then Real.rpow 2 (X.sc h R s + (X.sh h R - μ)) else 0

/-- A row's running maximum and weighted sums after the keys before `K`. -/
def Part (h R K : ℕ) (m : EReal) (A : Fin 128 → EReal) : Prop :=
  (m = ⊥ ∧ (∀ l, A l = 0) ∧ K = 0) ∨
    ∃ μ : ℝ, m = (μ : EReal) ∧ ∀ l : Fin 128, A l = ((∑ s ∈ Finset.range K, X.wt h R μ s * X.val h s l.val : ℝ) : EReal)

/-- A query against a key: minus infinity against the padding. -/
theorem score_sum (h R s : ℕ) (hh : h < 2) :
    (∑ l : Fin 128, ((X.qh h R l.val : ℝ) : EReal) * X.keyE h s l.val) = if 240 ≤ s then ((X.sc h R s : ℝ) : EReal) else ⊥ := by
  by_cases hs : 240 ≤ s
  · rw [if_pos hs]
    have e : ∀ l, X.keyE h s l = ((X.key h s l : ℝ) : EReal) := fun l => if_neg fun hl => absurd hl.1 (by omega)
    simp only [e, ← EReal.coe_mul, coe_sum_univ, sc, Finset.sum_range]
  · rw [if_neg hs]
    have hg : gLane h < 128 := by unfold gLane; split <;> omega
    rw [← Finset.add_sum_erase Finset.univ _ (Finset.mem_univ (⟨gLane h, hg⟩ : Fin 128))]
    have e : X.qh h R (gLane h) = 1 := by
      obtain rfl | rfl : h = 0 ∨ h = 1 := by omega
      · simp [qh, gLane]
      · simp [qh, gLane]
    have e' : X.keyE h s (gLane h) = ⊥ := if_pos ⟨by omega, rfl⟩
    dsimp only
    rw [e, e', EReal.coe_one, one_mul, EReal.bot_add]

theorem ceil_real (x : ℝ) : Ideal.liftRound Int.ceil ((x : ℝ) : EReal) = (((⌈x⌉ : ℤ) : ℝ) : EReal) := rfl

theorem wt_shift (h R : ℕ) (μ ν : ℝ) (s : ℕ) : Real.rpow 2 (μ - ν) * X.wt h R μ s = X.wt h R ν s := by
  unfold wt
  split
  · have e := Real.rpow_add (show (0 : ℝ) < 2 by norm_num) (μ - ν) (X.sc h R s + (X.sh h R - μ))
    rw [show μ - ν + (X.sc h R s + (X.sh h R - μ)) = X.sc h R s + (X.sh h R - ν) by ring] at e
    exact e.symm
  · rw [mul_zero]

/-- One more block of keys. -/
theorem Part.step {X : Inp} {h R K : ℕ} {m : EReal} {A : Fin 128 → EReal} (P : X.Part h R K m A) (n : ℕ) (T : Fin n → EReal)
    (hT : ∀ i, T i = if 240 ≤ K + i.val ∧ K + i.val ≤ R then ((X.sc h R (K + i.val) : ℝ) : EReal) else ⊥)
    (i₀ : Fin n) (h₀ : 240 ≤ K + i₀.val ∧ K + i₀.val ≤ R) (m' : EReal)
    (hm : m' = Ideal.liftRound Int.ceil (max m (((X.sh h R : ℝ) : EReal) + Finset.fold max (⊥ : EReal) T Finset.univ)))
    (A' : Fin 128 → EReal)
    (hA : ∀ l, A' l = Ideal.exp2 (m - m') * A l
      + ∑ i, Ideal.exp2 (T i + (((X.sh h R : ℝ) : EReal) - m')) * ((X.val h (K + i.val) l.val : ℝ) : EReal)) :
    X.Part h R (K + n) m' A' := by
  right
  obtain ⟨t, ht⟩ : ∃ t : ℝ, Finset.fold max (⊥ : EReal) T Finset.univ = (t : EReal) := by
    refine ⟨_, Cert.KernelIdeal.Bwd.fold_max_real T i₀ ?_ fun j => ?_⟩
    · rw [hT, if_pos h₀]; exact EReal.coe_ne_bot _
    · rw [hT]; split
      · exact EReal.coe_ne_top _
      · exact bot_ne_top
  rw [ht, ← EReal.coe_add] at hm
  obtain ⟨ν, hν⟩ : ∃ ν : ℝ, m' = (ν : EReal) := by
    rcases P with ⟨rfl, -, -⟩ | ⟨μ, rfl, -⟩
    · rw [max_eq_right bot_le, ceil_real] at hm; exact ⟨_, hm⟩
    · rw [← EReal.coe_strictMono.monotone.map_max, ceil_real] at hm; exact ⟨_, hm⟩
  refine ⟨ν, hν, fun l => ?_⟩
  have eT : ∀ i, Ideal.exp2 (T i + (((X.sh h R : ℝ) : EReal) - m')) = ((X.wt h R ν (K + i.val) : ℝ) : EReal) := by
    intro i
    rw [hT, hν, ← EReal.coe_sub]
    unfold wt
    split
    · rw [← EReal.coe_add]; rfl
    · rw [EReal.bot_add]; rfl
  rw [hA]
  simp only [eT, ← EReal.coe_mul, coe_sum_univ]
  rw [Finset.sum_range_add, EReal.coe_add, Finset.sum_range (n := n)]
  refine congrArg₂ (fun a b : EReal => a + b) ?_ rfl
  rcases P with ⟨rfl, hz, rfl⟩ | ⟨μ, rfl, hz⟩
  · rw [hz, mul_zero, Finset.sum_range_zero]; rfl
  · rw [hz, hν, ← EReal.coe_sub, show Ideal.exp2 ((μ - ν : ℝ) : EReal) = ((Real.rpow 2 (μ - ν) : ℝ) : EReal) from rfl, ← EReal.coe_mul,
      Finset.mul_sum]
    congr 1
    refine Finset.sum_congr rfl fun s _ => ?_
    rw [← mul_assoc, wt_shift]

theorem wt_nonneg (h R : ℕ) (μ : ℝ) (s : ℕ) : 0 ≤ X.wt h R μ s := by
  unfold wt
  split
  · exact Real.rpow_nonneg (by norm_num) _
  · exact le_rfl

/-- The weights past the row are zero, so the sums may run over all keys. -/
theorem wt_all (h R K : ℕ) (hK : R < K) (hK' : K ≤ 8448) (μ : ℝ) (f : ℕ → ℝ) :
    ∑ s ∈ Finset.range K, X.wt h R μ s * f s = Real.rpow 2 (0 - μ) * ∑ s ∈ Finset.range 8448, X.wt h R 0 s * f s := by
  have e : ∀ s, K ≤ s → X.wt h R μ s * f s = 0 := fun s hs => by unfold wt; rw [if_neg (by omega), zero_mul]
  rw [Finset.sum_subset (Finset.range_subset_range.2 hK') fun s _ hs => e s (by simpa using hs), Finset.mul_sum]
  refine Finset.sum_congr rfl fun s _ => ?_
  rw [← X.wt_shift h R 0 μ, mul_assoc]

theorem wt_pos (h R : ℕ) (hR : 240 ≤ R) (hR' : R < 8448) : 0 < ∑ s ∈ Finset.range 8448, X.wt h R 0 s := by
  refine Finset.sum_pos' (fun s _ => X.wt_nonneg h R 0 s) ⟨R, Finset.mem_range.2 hR', ?_⟩
  unfold wt
  rw [if_pos ⟨hR, le_refl R⟩]
  exact Real.rpow_pos_of_pos (by norm_num) _

/-- A head's weighted sum of the values over its sum of the weights, after all keys of the row. -/
theorem Part.ratio {X : Inp} {h R K : ℕ} {m : EReal} {A : Fin 128 → EReal} (P : X.Part h R K m A) (hR : 240 ≤ R) (hK : R < K) (hK' : K ≤ 8448)
    (l l' : Fin 128) (hl : ∀ s, X.val h s l.val = X.v s l.val) (hl' : ∀ s, X.val h s l'.val = 1) :
    Ideal.div (A l) (A l') = (((∑ s ∈ Finset.range 8448, X.wt h R 0 s * X.v s l.val) / ∑ s ∈ Finset.range 8448, X.wt h R 0 s : ℝ) : EReal) := by
  rcases P with ⟨-, -, h0⟩ | ⟨μ, -, hA⟩
  · omega
  · have c0 : (0 : ℝ) < Real.rpow 2 (0 - μ) := Real.rpow_pos_of_pos (by norm_num) _
    have d0 := X.wt_pos h R hR (by omega)
    have e1 : ∑ s ∈ Finset.range 8448, X.wt h R 0 s * 1 = ∑ s ∈ Finset.range 8448, X.wt h R 0 s :=
      Finset.sum_congr rfl fun s _ => mul_one _
    rw [hA, hA, X.wt_all h R K hK hK', X.wt_all h R K hK hK']
    simp only [hl, hl']
    rw [e1, Cert.KernelIdeal.Bwd.div_coe _ _ (mul_pos c0 d0).ne', mul_div_mul_left _ _ c0.ne']

end Inp
-- ==== Proof.Body15.lean ====
/-
  The forward kernel's blocks of keys, one row at a time: a block's new maximum and sums, a trip of the loop over the
  key tiles before the diagonal, the diagonal's tile, and the body's result.
-/
module
public import proofs.«01_k».proof.Proof.Gen.Kernel15Ideal.Frame
public import proofs.«01_k».proof.Proof.Online15
public import proofs.«01_k».proof.Proof.RowsOf
public import proofs.«01_k».proof.Proof.Diag

set_option maxRecDepth 8192
@[expose] public noncomputable section
namespace Cert.Kernel15Ideal.Attn
open Gen Cert.Bwd
open Idealize.ShloMosaic TcCoe Idealize.SL.Sem

/-- A block of 256 keys: the new maximum and the new sums. -/
def blkM (q : FVec Ideal S768x128 .bf16) (cq : FVec Ideal S768x1 .f32) (k : Vec Ideal S256x128 .bf16) (m : FVec Ideal S768x1 .f32) : FVec Ideal S768x1 .f32 :=
  k0_pay11 q cq m k
def blkA (q : FVec Ideal S768x128 .bf16) (cq : FVec Ideal S768x1 .f32) (k : Vec Ideal S256x128 .bf16) (vh : FVec Ideal S256x128 .bf16)
    (m : FVec Ideal S768x1 .f32) (a : FVec Ideal S768x128 .f32) : FVec Ideal S768x128 .f32 :=
  k0_pay17 a vh (k0_pay15 q cq m k) (k0_pay16 q cq m k)

theorem blk_row (X : Inp) (h R K : ℕ) (hh : h < 2) (q : FVec Ideal S768x128 .bf16) (cq : FVec Ideal S768x1 .f32) (k : Vec Ideal S256x128 .bf16)
    (vh : FVec Ideal S256x128 .bf16) (m : FVec Ideal S768x1 .f32) (a : FVec Ideal S768x128 .f32) (r : Fin 768)
    (hq : ∀ l : Fin 128, q (ix2 r l) = ((X.qh h R l.val : ℝ) : EReal)) (hc : cq (ix2 r 0) = ((X.sh h R : ℝ) : EReal))
    (hk : ∀ (s : Fin 256) (l : Fin 128), k (ix2 s l) = X.keyE h (K + s.val) l.val)
    (hv : ∀ (s : Fin 256) (l : Fin 128), vh (ix2 s l) = ((X.val h (K + s.val) l.val : ℝ) : EReal))
    (hK : K + 256 ≤ R) (P : X.Part h R K (m (ix2 r 0)) fun l => a (ix2 r l)) :
    X.Part h R (K + 256) (blkM q cq k m (ix2 r 0)) fun l => blkA q cq k vh m a (ix2 r l) := by
  have hT : ∀ s : Fin 256, k0_pay10 q k (ix2 r s) = if 240 ≤ K + s.val ∧ K + s.val ≤ R then ((X.sc h R (K + s.val) : ℝ) : EReal) else ⊥ := by
    intro s
    pointwise [k0_pay10]
    simp only [hq, hk]
    rw [X.score_sum h R _ hh]
    have := s.isLt
    split_ifs <;> first | rfl | omega
  refine P.step 256 (fun s => k0_pay10 q k (ix2 r s)) hT ⟨255, by decide⟩ ⟨by show 240 ≤ K + 255; omega, by show K + 255 ≤ R; omega⟩ _ ?_ _ fun l => ?_
  · unfold blkM
    pointwise [k0_pay11]
    rw [hc, Cert.KernelIdeal.Bwd.neg_inf]
  · unfold blkA blkM
    pointwise [k0_pay17, k0_pay15, k0_pay16]
    simp only [hc, hv]
    rfl

/-- Head 0's and head 1's values of a block, with ones in the other head's lanes. -/
def val0 (v2 : IVec S1x128 1) (v : Vec Ideal S256x128 .bf16) : FVec Ideal S256x128 .bf16 :=
  select (broadcastTo S256x128 (shapeCast S1x128 v2 shapeCasts_S1x128_S1x128) broadcasts_S1x128_S256x128) (k0_pay8 v)
    (extractStridedSlice S256x128 ![0, 0] (k0_pay69 (F := Ideal)) slices_S768x128_o0_0_S256x128)
def val1 (v2 : IVec S1x128 1) (v : Vec Ideal S256x128 .bf16) : FVec Ideal S256x128 .bf16 := k0_pay9 v2 (k0_pay69 (F := Ideal)) v

/-- One row of a tile's query-side vectors: the lane mask, the two heads' queries and shifts. -/
structure Row (X : Inp) (R : ℕ) (r : Fin 768) (v2 : IVec S1x128 1) (q0 q1 : FVec Ideal S768x128 .bf16) (s0 s1 : FVec Ideal S768x1 .f32) : Prop where
  lo : ∀ l : Fin 128, v2 (ix2 0 l) = BitVec.ofBool (decide (l.val < 64))
  q0 : ∀ l : Fin 128, q0 (ix2 r l) = ((X.qh 0 R l.val : ℝ) : EReal)
  q1 : ∀ l : Fin 128, q1 (ix2 r l) = ((X.qh 1 R l.val : ℝ) : EReal)
  s0 : s0 (ix2 r 0) = ((X.sh 0 R : ℝ) : EReal)
  s1 : s1 (ix2 r 0) = ((X.sh 1 R : ℝ) : EReal)

/-- What a row carries after the keys before `K`. -/
def Both (X : Inp) (R K : ℕ) (r : Fin 768) (acc : FVec Ideal S768x1 .f32 × FVec Ideal S768x128 .f32 × FVec Ideal S768x1 .f32 × FVec Ideal S768x128 .f32) : Prop :=
  X.Part 0 R K (acc.1 (ix2 r 0)) (fun l => acc.2.1 (ix2 r l)) ∧ X.Part 1 R K (acc.2.2.1 (ix2 r 0)) fun l => acc.2.2.2 (ix2 r l)

/-- A load of the rows `[o, o + n)` of an array that holds `g`. -/
theorem readAt_rows {sp : Space} {n : ℕ} (v : View sig .tc sp S8448x128 .bf16) (f : v.ty.Contents (Elt Ideal)) (g : ℕ → ℕ → EReal)
    (hg : ∀ (s : Fin 8448) (l : Fin 128), v.read (Elt Ideal) f (ix2 s l) = g s.val l.val)
    {off : Fin 2 → ℕ} {o : ℕ} (hoff : off = ![o, 0]) (inb : ∀ a, off a + (![n, 128] : Fin 2 → ℕ) a ≤ S8448x128.size a) (x : Fin n) (l : Fin 128) :
    v.readAt (Elt Ideal) (Rect.unit (s := S8448x128) off ![n, 128] inb).toLoadRect f (ix2 x l) = g (o + x.val) l.val := by
  subst hoff
  have hb : o + x.val < 8448 := by
    have h : o + n ≤ 8448 := inb 0
    have := x.isLt
    omega
  rw [View.readAt_unit v f inb rfl inb]
  refine Eq.trans ?_ (hg ⟨o + x.val, hb⟩ l)
  refine congrArg (v.read (Elt Ideal) f) (funext fun a => Fin.ext ?_)
  match a with
  | ⟨0, _⟩ => show o + 1 * x.val = o + x.val; omega
  | ⟨1, _⟩ => show 0 + 1 * l.val = l.val; omega

theorem val0_at (X : Inp) (K : ℕ) (v2 : IVec S1x128 1) (v : Vec Ideal S256x128 .bf16) (lo : ∀ l : Fin 128, v2 (ix2 0 l) = BitVec.ofBool (decide (l.val < 64)))
    (hv : ∀ (s : Fin 256) (l : Fin 128), v (ix2 s l) = ((X.v (K + s.val) l.val : ℝ) : EReal)) (s : Fin 256) (l : Fin 128) :
    val0 v2 v (ix2 s l) = ((X.val 0 (K + s.val) l.val : ℝ) : EReal) := by
  pointwise [val0, k0_pay8, k0_pay69]
  rw [lo, Scalar.select_ofBool, hv]
  simp only [decide_eq_true_eq, Inp.val, if_true]
  split_ifs <;> rfl

theorem val1_at (X : Inp) (K : ℕ) (v2 : IVec S1x128 1) (v : Vec Ideal S256x128 .bf16) (lo : ∀ l : Fin 128, v2 (ix2 0 l) = BitVec.ofBool (decide (l.val < 64)))
    (hv : ∀ (s : Fin 256) (l : Fin 128), v (ix2 s l) = ((X.v (K + s.val) l.val : ℝ) : EReal)) (s : Fin 256) (l : Fin 128) :
    val1 v2 v (ix2 s l) = ((X.val 1 (K + s.val) l.val : ℝ) : EReal) := by
  pointwise [val1, k0_pay8, k0_pay9, k0_pay69]
  rw [lo, Scalar.select_ofBool, hv]
  simp only [decide_eq_true_eq, Inp.val, if_neg (show ¬ (1 : ℕ) = 0 by decide)]
  split_ifs <;> rfl

theorem off_word {n : ℕ} (hn : n < 11) (b : Fin 3) :
    (Scalar.indexCast (Scalar.addi (Scalar.muli (Scf.iv 0#32 1#32 n) 768#32) (BitVec.ofNat 32 (256 * b.val)))).toNat = n * 768 + 256 * b.val := by
  have : ∀ (n : Fin 11) (b : Fin 3),
    (Scalar.indexCast (Scalar.addi (Scalar.muli (Scf.iv 0#32 1#32 n.val) 768#32) (BitVec.ofNat 32 (256 * b.val)))).toNat = n.val * 768 + 256 * b.val := by decide +kernel
  exact this ⟨n, hn⟩ b

section
variable (𝒱 : Variants) (c : Dev nD) (bd : Option 𝒱.V) (i : grid0.Coords) (y2 : Memref sig .tc .vmem S768x128 .bf16) (z2 : y2.IsWhole) (y3 : Memref sig .tc .vmem S8448x128 .bf16) (z3 : y3.IsWhole) (y4 : Memref sig .tc .vmem S8448x128 .bf16) (z4 : y4.IsWhole) (y5 : Memref sig .tc .vmem S8448x128 .bf16) (z5 : y5.IsWhole) (y6 : Memref sig .tc .vmem S768x128 .f32) (z6 : y6.IsWhole) (y7 : Memref sig .tc .vmem S768x128 .f32) (z7 : y7.IsWhole) (y8 : Memref sig .tc .vmem S768x128 .f32) (z8 : y8.IsWhole) (y9 : Memref sig .tc .vmem S768x128 .bf16) (z9 : y9.IsWhole) (y10 : Memref sig .tc .vmem S768x128 .f32) (z10 : y10.IsWhole) (y11 : Memref sig .tc .vmem S768x128 .f32) (z11 : y11.IsWhole) (y1 : BitVec 32) (v2 : IVec S1x128 1) (v17 : FVec Ideal S768x128 .bf16) (v27 : FVec Ideal S768x128 .bf16) (v29 : FVec Ideal S768x128 .f32) (v40 : FVec Ideal S768x1 .f32) (v41 : BitVec 32) (X_arg3 : BufTy.Contents (Elt Ideal) y3.view.ty) (X_arg4 : BufTy.Contents (Elt Ideal) y4.view.ty) (X_arg5 : BufTy.Contents (Elt Ideal) y5.view.ty)

/-- A trip of the loop carries a row over 768 more keys. -/
theorem trip_row (k : Fin (k0_t1_loop i).trips) (X : Inp) (R : ℕ) (r : Fin 768) (hR : Row X R r v2 v17 v27 v40 (k0_pay68 v29 v41)) (hk : k.val < 11)
    (hKR : k.val * 768 + 768 ≤ R)
    (h3 : ∀ (s : Fin 8448) (l : Fin 128), y3.view.read (Elt Ideal) X_arg3 (ix2 s l) = X.keyE 0 s.val l.val)
    (h4 : ∀ (s : Fin 8448) (l : Fin 128), y4.view.read (Elt Ideal) X_arg4 (ix2 s l) = X.keyE 1 s.val l.val)
    (h5 : ∀ (s : Fin 8448) (l : Fin 128), y5.view.read (Elt Ideal) X_arg5 (ix2 s l) = ((X.v s.val l.val : ℝ) : EReal))
    (acc : FVec Ideal S768x1 .f32 × FVec Ideal S768x128 .f32 × FVec Ideal S768x1 .f32 × FVec Ideal S768x128 .f32) (B : Both X R (k.val * 768) r acc) :
    Both X R (k.val * 768 + 768) r ((trip_k0_t1 (F := Ideal) 𝒱 c bd i y2 z2 y3 z3 y4 z4 y5 z5 y6 z6 y7 z7 y8 z8 y9 z9 y10 z10 y11 z11 y1 v2 v17 v27 v29 v40 v41 X_arg3 X_arg4 X_arg5 k).1 acc) := by
  have ho : ∀ b : Fin 3, k0_off1 i k (BitVec.ofNat 32 (256 * b.val)) = ![k.val * 768 + 256 * b.val, 0] := by
    intro b
    show (![(Scalar.indexCast (Scalar.addi (Scalar.muli (Scf.iv 0#32 1#32 k.val) 768#32) (BitVec.ofNat 32 (256 * b.val)))).toNat, 0] : Fin 2 → ℕ) = _
    rw [off_word hk]
  have E3 := fun b : Fin 3 => readAt_rows y3.view X_arg3 (X.keyE 0) h3 (ho b) (k0_off1_inb i k b)
  have E4 := fun b : Fin 3 => readAt_rows y4.view X_arg4 (X.keyE 1) h4 (ho b) (k0_off1_inb i k b)
  have E5 := fun b : Fin 3 => readAt_rows y5.view X_arg5 (fun s l => ((X.v s l : ℝ) : EReal)) h5 (ho b) (k0_off1_inb i k b)
  have A0 := blk_row X 0 R _ (by decide) v17 v40 _ _ _ _ r hR.q0 hR.s0 (E3 0) (val0_at X _ v2 _ hR.lo (E5 0)) (by show k.val * 768 + 0 + 256 ≤ R; omega) B.1
  have A1 := blk_row X 0 R _ (by decide) v17 v40 _ _ _ _ r hR.q0 hR.s0 (E3 1) (val0_at X _ v2 _ hR.lo (E5 1)) (by show k.val * 768 + 256 + 256 ≤ R; omega) A0
  have A2 := blk_row X 0 R _ (by decide) v17 v40 _ _ _ _ r hR.q0 hR.s0 (E3 2) (val0_at X _ v2 _ hR.lo (E5 2)) (by show k.val * 768 + 512 + 256 ≤ R; omega) A1
  have B0 := blk_row X 1 R _ (by decide) v27 (k0_pay68 v29 v41) _ _ _ _ r hR.q1 hR.s1 (E4 0) (val1_at X _ v2 _ hR.lo (E5 0)) (by show k.val * 768 + 0 + 256 ≤ R; omega) B.2
  have B1 := blk_row X 1 R _ (by decide) v27 (k0_pay68 v29 v41) _ _ _ _ r hR.q1 hR.s1 (E4 1) (val1_at X _ v2 _ hR.lo (E5 1)) (by show k.val * 768 + 256 + 256 ≤ R; omega) B0
  have B2 := blk_row X 1 R _ (by decide) v27 (k0_pay68 v29 v41) _ _ _ _ r hR.q1 hR.s1 (E4 2) (val1_at X _ v2 _ hR.lo (E5 2)) (by show k.val * 768 + 512 + 256 ≤ R; omega) B1
  unfold trip_k0_t1
  dsimp only
  sl_unfold_words
  exact ⟨A2, B2⟩

/-- The loop carries a row over the keys of the tiles before. -/
theorem loop_row (X : Inp) (R : ℕ) (r : Fin 768) (hR : Row X R r v2 v17 v27 v40 (k0_pay68 v29 v41))
    (h3 : ∀ (s : Fin 8448) (l : Fin 128), y3.view.read (Elt Ideal) X_arg3 (ix2 s l) = X.keyE 0 s.val l.val)
    (h4 : ∀ (s : Fin 8448) (l : Fin 128), y4.view.read (Elt Ideal) X_arg4 (ix2 s l) = X.keyE 1 s.val l.val)
    (h5 : ∀ (s : Fin 8448) (l : Fin 128), y5.view.read (Elt Ideal) X_arg5 (ix2 s l) = ((X.v s.val l.val : ℝ) : EReal))
    (n : ℕ) (hn : n < 11) (ht : (k0_t1_loop i).trips = n) (hKR : n * 768 ≤ R) (init : FVec Ideal S768x1 .f32 × FVec Ideal S768x128 .f32 × FVec Ideal S768x1 .f32 × FVec Ideal S768x128 .f32) (B : Both X R 0 r init) :
    ∀ j : ℕ, j ≤ n → Both X R (j * 768) r (st_k0_t1 (F := Ideal) 𝒱 c bd i y2 z2 y3 z3 y4 z4 y5 z5 y6 z6 y7 z7 y8 z8 y9 z9 y10 z10 y11 z11 y1 v2 v17 v27 v29 v40 v41 X_arg3 X_arg4 X_arg5 init j) := by
  intro j
  induction j with
  | zero => intro _; rw [Nat.zero_mul]; exact B
  | succ j ih =>
    intro hj
    have hs := st_k0_t1_succ (F := Ideal) 𝒱 c bd i y2 z2 y3 z3 y4 z4 y5 z5 y6 z6 y7 z7 y8 z8 y9 z9 y10 z10 y11 z11 y1 v2 v17 v27 v29 v40 v41 X_arg3 X_arg4 X_arg5 init ⟨j, by omega⟩
    rw [show j + 1 = (⟨j, by omega⟩ : Fin (k0_t1_loop i).trips).val + 1 from rfl, hs, Nat.add_mul]
    exact trip_row 𝒱 c bd i y2 z2 y3 z3 y4 z4 y5 z5 y6 z6 y7 z7 y8 z8 y9 z9 y10 z10 y11 z11 y1 v2 v17 v27 v29 v40 v41 X_arg3 X_arg4 X_arg5 ⟨j, by omega⟩ X R r hR (by show j < 11; omega) (by show j * 768 + 768 ≤ R; omega) h3 h4 h5 _ (ih (by omega))

end

theorem mask_value : (Named.named (F := Ideal) Cert.Kernel15Ideal.κ "mask" (φ := .f32) 0xF149F2CA#32 : EReal) = ⊥ :=
  IdealRules.named_const.ideal_named_scalar _ _ _ _ rfl

theorem mask_at (n : ℕ) (hn : n < 11) (r s : Fin 768) :
    k0_pay83 (Scalar.muli (BitVec.ofNat 32 n) 768#32) (Scalar.addi (Scalar.muli (BitVec.ofNat 32 n) 768#32) 0#32) (iota .tc S768x1 32 [0] iota_S768x1_d0_w32) (ix2 r s)
      = BitVec.ofBool (decide (n * 768 + s.val ≤ n * 768 + r.val ∧ (240 ≤ n * 768 + s.val ∨ n * 768 + r.val < 240))) := by
  have e1 : IntOp.addi (Scalar.addi (Scalar.muli (BitVec.ofNat 32 n) 768#32) 0#32) (BitVec.ofNat 32 r.val) = BitVec.ofNat 32 (n * 768 + r.val) := by
    show (BitVec.ofNat 32 n * 768#32 + 0#32) + BitVec.ofNat 32 r.val = _
    apply BitVec.eq_of_toNat_eq; simp
  have e2 : IntOp.addi (Scalar.muli (BitVec.ofNat 32 n) 768#32) (BitVec.ofNat 32 s.val) = BitVec.ofNat 32 (n * 768 + s.val) := by
    show BitVec.ofNat 32 n * 768#32 + BitVec.ofNat 32 s.val = _
    apply BitVec.eq_of_toNat_eq; simp
  pointwise [k0_pay83]
  rw [e1, e2, Cert.KernelIdeal.Bwd.mask_word (by omega) (by omega)]

/-- The diagonal's tile of keys, masked: the new maximum and the new sums. -/
theorem diag_row (X : Inp) (n : ℕ) (r : Fin 768) (q k vh : FVec Ideal S768x128 .bf16) (cq m : FVec Ideal S768x1 .f32)
    (a : FVec Ideal S768x128 .f32) (h : ℕ) (hh : h < 2)
    (hq : ∀ l : Fin 128, q (ix2 r l) = ((X.qh h (n * 768 + r.val) l.val : ℝ) : EReal)) (hc : cq (ix2 r 0) = ((X.sh h (n * 768 + r.val) : ℝ) : EReal))
    (hk : ∀ (s : Fin 768) (l : Fin 128), k (ix2 s l) = X.keyE h (n * 768 + s.val) l.val)
    (hv : ∀ (s : Fin 768) (l : Fin 128), vh (ix2 s l) = ((X.val h (n * 768 + s.val) l.val : ℝ) : EReal))
    (hn : n < 11) (hr : 240 ≤ n * 768 + r.val)
    (P : X.Part h (n * 768 + r.val) (n * 768) (m (ix2 r 0)) fun l => a (ix2 r l)) :
    X.Part h (n * 768 + r.val) (n * 768 + 768)
      (k0_pay85 q cq m (Scalar.muli (BitVec.ofNat 32 n) 768#32) k (Scalar.addi (Scalar.muli (BitVec.ofNat 32 n) 768#32) 0#32) (iota .tc S768x1 32 [0] iota_S768x1_d0_w32) (ix2 r 0))
      fun l => k0_pay86 q cq m a (Scalar.muli (BitVec.ofNat 32 n) 768#32) k vh (Scalar.addi (Scalar.muli (BitVec.ofNat 32 n) 768#32) 0#32) (iota .tc S768x1 32 [0] iota_S768x1_d0_w32) (ix2 r l) := by
  have hT : ∀ s : Fin 768, k0_pay84 q (Scalar.muli (BitVec.ofNat 32 n) 768#32) k (Scalar.addi (Scalar.muli (BitVec.ofNat 32 n) 768#32) 0#32) (iota .tc S768x1 32 [0] iota_S768x1_d0_w32) (ix2 r s)
      = if 240 ≤ n * 768 + s.val ∧ n * 768 + s.val ≤ n * 768 + r.val then ((X.sc h (n * 768 + r.val) (n * 768 + s.val) : ℝ) : EReal) else ⊥ := by
    intro s
    pointwise [k0_pay84]
    rw [mask_at n hn, Scalar.select_ofBool, mask_value]
    simp only [hq, hk]
    rw [X.score_sum h _ _ hh]
    simp only [decide_eq_true_eq]
    split_ifs <;> first | rfl | omega
  refine P.step 768 _ hT r ⟨hr, le_refl _⟩ _ ?_ _ fun l => ?_
  · pointwise [k0_pay85]
    rw [hc, Cert.KernelIdeal.Bwd.neg_inf]
  · pointwise [k0_pay86]
    simp only [hc, hv]
    rfl
-- ==== Proof.Out15.lean ====
/-
  The forward kernel's body at a grid point: the vectors it makes of a tile's blocks before its loops, and its result,
  each row's softmax-weighted values times the gate's logistic.
-/
module
public import proofs.«01_k».proof.Proof.Body15

set_option maxRecDepth 8192
@[expose] public noncomputable section
namespace Cert.Kernel15Ideal.Attn
open Gen Cert.Bwd
open Cert.KernelIdeal.Bwd (lane_lt lane_eq pick_lane)
open Idealize.ShloMosaic TcCoe Idealize.SL.Sem

theorem trips1 (i : grid0.Coords) : (k0_t1_loop i).trips = (i 1).val := by
  have : ∀ n : Fin 11, Scf.trips 0#32 (Scalar.addi 0#32 (Scalar.muli (Scalar.divsi (Scalar.subi (BitVec.ofNat 32 n.val) 0#32) 1#32) 1#32)) 1#32 = n.val := by decide +kernel
  exact this (i 1)

theorem trips2 (i : grid0.Coords) : (k0_t2_loop i).trips = 0 := by
  have : ∀ n : Fin 11, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by decide +kernel
  exact this (i 1)

theorem off3 (i : grid0.Coords) : k0_off3 i = ![(i 1).val * 768, 0] := by
  have : ∀ n : Fin 11, (Scalar.indexCast (Scalar.muli (BitVec.ofNat 32 n.val) 768#32)).toNat = n.val * 768 := by decide +kernel
  show (![(Scalar.indexCast (Scalar.muli (BitVec.ofNat 32 (i 1).val) 768#32)).toNat, 0] : Fin 2 → ℕ) = _
  rw [this (i 1)]

/-- The vectors made of a tile's queries and gates. -/
theorem row_of (X : Inp) (C : ℕ → ℕ → ℝ) (i : grid0.Coords) (R : ℕ) (r : Fin 768) (q : Vec Ideal S768x128 .bf16) (c : Vec Ideal S768x128 .f32)
    (hq : ∀ l : Fin 128, q (ix2 r l) = ((X.q R l.val : ℝ) : EReal)) (hc : ∀ l : Fin 128, c (ix2 r l) = ((C R l.val : ℝ) : EReal))
    (hs : ∀ h, h < 2 → X.sh h R = C R (2 * (i 0).val + h)) :
    Row X R r k0_pay60 (k0_pay64 q) (k0_pay65 q) (k0_pay67 i c) (k0_pay68 (k0_pay66 c) (Scalar.muli 2#32 (BitVec.ofNat 32 (i 0).val))) := by
  have hp : (i 0).val < 8 := (i 0).isLt
  have e0 : Scalar.addi (Scalar.muli (2#32) (BitVec.ofNat 32 (i 0).val)) 0#32 = BitVec.ofNat 32 (2 * (i 0).val + 0) := by
    show (2#32 * BitVec.ofNat 32 (i 0).val) + 0#32 = _
    apply BitVec.eq_of_toNat_eq; simp
  have e1 : Scalar.addi (Scalar.muli (2#32) (BitVec.ofNat 32 (i 0).val)) 1#32 = BitVec.ofNat 32 (2 * (i 0).val + 1) := by
    show (2#32 * BitVec.ofNat 32 (i 0).val) + 1#32 = _
    apply BitVec.eq_of_toNat_eq; simp
  refine ⟨fun l => ?_, fun l => ?_, fun l => ?_, ?_, ?_⟩
  · pointwise [k0_pay60]; exact lane_lt l 64 (by decide)
  · pointwise [k0_pay64, k0_pay63, k0_pay62, k0_pay61]
    rw [lane_lt l 64 (by decide), lane_lt l 67 (by decide), hq, Scalar.select_ofBool, Scalar.select_ofBool]
    simp only [decide_eq_true_eq, Inp.qh, if_true]
    split_ifs <;> rfl
  · pointwise [k0_pay65, k0_pay63, k0_pay62, k0_pay61]
    rw [lane_lt l 64 (by decide), lane_lt l 3 (by decide), hq, Scalar.select_ofBool, Scalar.select_ofBool]
    simp only [decide_eq_true_eq, Inp.qh, if_neg (show ¬ (1 : ℕ) = 0 by decide)]
    split_ifs <;> rfl
  · pointwise [k0_pay67, k0_pay66]
    simp only [e0, lane_eq _ _ (show 2 * (i 0).val + 0 < 2 ^ 31 by omega), Scalar.select_ofBool, decide_eq_true_eq, hc]
    rw [pick_lane (fun x => C R x.val) (2 * (i 0).val + 0) (by omega), hs 0 (by decide)]
  · pointwise [k0_pay68, k0_pay66]
    simp only [e1, lane_eq _ _ (show 2 * (i 0).val + 1 < 2 ^ 31 by omega), Scalar.select_ofBool, decide_eq_true_eq, hc]
    rw [pick_lane (fun x => C R x.val) (2 * (i 0).val + 1) (by omega), hs 1 (by decide)]

/-- The result's row: a head's ratio times the gate's logistic. -/
theorem last_row (X : Inp) (R K : ℕ) (hR : 240 ≤ R) (hK : R < K) (hK' : K ≤ 8448) (r : Fin 768) (v2 : IVec S1x128 1)
    (lo : ∀ l : Fin 128, v2 (ix2 0 l) = BitVec.ofBool (decide (l.val < 64)))
    (a3 : FVec Ideal S768x128 .f32) (v80 : FVec Ideal S768x128 .bf16) (a0 : FVec Ideal S768x128 .f32) (w : FVec Ideal S768x768 .bf16)
    (e : FVec Ideal S768x128 .f32) (g : Vec Ideal S768x128 .f32) (m0 m1 : EReal)
    (P0 : X.Part 0 R K m0 fun l => a0 (ix2 r l)) (P1 : X.Part 1 R K m1 fun l => k0_pay1 a3 v80 w e (ix2 r l)) (l : Fin 128) :
    k0_pay7 v2 a3 v80 a0 w e g (ix2 r l)
      = (((∑ s ∈ Finset.range 8448, X.wt (Inp.hd l.val) R 0 s * X.v s l.val) / ∑ s ∈ Finset.range 8448, X.wt (Inp.hd l.val) R 0 s : ℝ) : EReal)
        * FloatOps.logistic (F := Ideal) (φ := .f32) (g (ix2 r l)) := by
  pointwise [k0_pay7, k0_pay4, k0_pay3, k0_pay2]
  refine congrArg₂ (fun x y : EReal => x * y) ?_ rfl
  have hl : l.val < 128 := l.isLt
  rw [lo, Scalar.select_ofBool]
  by_cases b : l.val < 64
  · rw [if_pos (decide_eq_true b), show Inp.hd l.val = 0 from if_pos b]
    refine P0.ratio hR hK hK' l _ (fun s => ?_) fun s => ?_
    · simp only [Inp.val, if_true, if_pos b]
    · simp only [Inp.val, if_true]
      exact if_neg (show ¬ (l.val + 128 - 64) % 128 < 64 by omega)
  · rw [if_neg (by simpa using b), show Inp.hd l.val = 1 from if_neg b]
    refine P1.ratio hR hK hK' l _ (fun s => ?_) fun s => ?_
    · simp only [Inp.val, if_neg (show ¬ (1 : ℕ) = 0 by decide), if_neg b]
    · simp only [Inp.val, if_neg (show ¬ (1 : ℕ) = 0 by decide)]
      exact if_pos (show (l.val + 128 - 64) % 128 < 64 by omega)

section
variable (c : Dev nD) (i : grid0.Coords) (y2 : Memref sig .tc .vmem S768x128 .bf16) (z2 : y2.IsWhole) (y3 : Memref sig .tc .vmem S8448x128 .bf16) (z3 : y3.IsWhole) (y4 : Memref sig .tc .vmem S8448x128 .bf16) (z4 : y4.IsWhole) (y5 : Memref sig .tc .vmem S8448x128 .bf16) (z5 : y5.IsWhole) (y6 : Memref sig .tc .vmem S768x128 .f32) (z6 : y6.IsWhole) (y7 : Memref sig .tc .vmem S768x128 .f32) (z7 : y7.IsWhole) (y8 : Memref sig .tc .vmem S768x128 .f32) (z8 : y8.IsWhole) (y9 : Memref sig .tc .vmem S768x128 .bf16) (z9 : y9.IsWhole) (y10 : Memref sig .tc .vmem S768x128 .f32) (z10 : y10.IsWhole) (y11 : Memref sig .tc .vmem S768x128 .f32) (z11 : y11.IsWhole)
  (x0 : Vec Ideal S768x128 .bf16) (x1 : Vec Ideal S8448x128 .bf16) (x2 : Vec Ideal S8448x128 .bf16) (x3 : Vec Ideal S8448x128 .bf16) (x4 : Vec Ideal S768x128 .f32) (x5 : Vec Ideal S768x128 .f32)

/-- The second loop runs no trip. -/
theorem loop2_none (𝒱 : Variants) (bd : Option 𝒱.V) (y1 : BitVec 32) (v2 : IVec S1x128 1) (v17 : FVec Ideal S768x128 .bf16) (v27 : FVec Ideal S768x128 .bf16) (v29 : FVec Ideal S768x128 .f32) (v40 : FVec Ideal S768x1 .f32) (v41 : BitVec 32) (X_arg3 : BufTy.Contents (Elt Ideal) y3.view.ty) (X_arg4 : BufTy.Contents (Elt Ideal) y4.view.ty) (X_arg5 : BufTy.Contents (Elt Ideal) y5.view.ty) (v61 : BitVec 32)
    (init : FVec Ideal S768x1 .f32 × FVec Ideal S768x128 .f32 × FVec Ideal S768x1 .f32 × FVec Ideal S768x128 .f32) (j : ℕ) (hj : j = 0) :
    st_k0_t2 (F := Ideal) 𝒱 c bd i y2 z2 y3 z3 y4 z4 y5 z5 y6 z6 y7 z7 y8 z8 y9 z9 y10 z10 y11 z11 y1 v2 v17 v27 v29 v40 v41 v61 X_arg3 X_arg4 X_arg5 init j = init := by
  subst hj; rfl

theorem out_row (X : Inp) (C : ℕ → ℕ → ℝ) (r : Fin 768) (hr : 240 ≤ (i 1).val * 768 + r.val)
    (hq : ∀ l : Fin 128, x0 (ix2 r l) = ((X.q ((i 1).val * 768 + r.val) l.val : ℝ) : EReal))
    (hc : ∀ l : Fin 128, x4 (ix2 r l) = ((C ((i 1).val * 768 + r.val) l.val : ℝ) : EReal))
    (hs : ∀ h, h < 2 → X.sh h ((i 1).val * 768 + r.val) = C ((i 1).val * 768 + r.val) (2 * (i 0).val + h))
    (h1 : ∀ (s : Fin 8448) (l : Fin 128), x1 (ix2 s l) = X.keyE 0 s.val l.val)
    (h2 : ∀ (s : Fin 8448) (l : Fin 128), x2 (ix2 s l) = X.keyE 1 s.val l.val)
    (h3 : ∀ (s : Fin 8448) (l : Fin 128), x3 (ix2 s l) = ((X.v s.val l.val : ℝ) : EReal)) (l : Fin 128) :
    out0_A_7 (F := Ideal) c i y2 z2 y3 z3 y4 z4 y5 z5 y6 z6 y7 z7 y8 z8 y9 z9 y10 z10 y11 z11 x0 x1 x2 x3 x4 x5 (ix2 r l)
      = (((∑ s ∈ Finset.range 8448, X.wt (Inp.hd l.val) ((i 1).val * 768 + r.val) 0 s * X.v s l.val)
          / ∑ s ∈ Finset.range 8448, X.wt (Inp.hd l.val) ((i 1).val * 768 + r.val) 0 s : ℝ) : EReal)
        * FloatOps.logistic (F := Ideal) (φ := .f32) (x5 (ix2 r l)) := by
  have hi : (i 1).val < 11 := (i 1).isLt
  have hz : (![0, 0] : Fin 2 → ℕ) = fun _ => 0 := by funext a; match a with | ⟨0, _⟩ => rfl | ⟨1, _⟩ => rfl
  have hR := row_of X C i _ r x0 x4 hq hc hs
  have T1 : Scf.trips (k0_t1_loop i).lb (k0_t1_loop i).ub (k0_t1_loop i).st = (i 1).val := trips1 i
  have T2 : Scf.trips (k0_t2_loop i).lb (k0_t2_loop i).ub (k0_t2_loop i).st = 0 := trips2 i
  have e1 : ∀ (s : Fin 8448) (l : Fin 128), y3.view.read (Elt Ideal) (z3.unread x1) (ix2 s l) = X.keyE 0 s.val l.val := fun s l => by
    rw [z3.read_unread]; exact h1 s l
  have e2 : ∀ (s : Fin 8448) (l : Fin 128), y4.view.read (Elt Ideal) (z4.unread x2) (ix2 s l) = X.keyE 1 s.val l.val := fun s l => by
    rw [z4.read_unread]; exact h2 s l
  have e3 : ∀ (s : Fin 8448) (l : Fin 128), y5.view.read (Elt Ideal) (z5.unread x3) (ix2 s l) = ((X.v s.val l.val : ℝ) : EReal) := fun s l => by
    rw [z5.read_unread]; exact h3 s l
  have L := loop_row .none c none i y2 z2 y3 z3 y4 z4 y5 z5 y6 z6 y7 z7 y8 z8 y9 z9 y10 z10 y11 z11 (BitVec.ofNat 32 (i 1).val) k0_pay60 (k0_pay64 x0) (k0_pay65 x0) (k0_pay66 x4) (k0_pay67 i x4) (Scalar.muli 2#32 (BitVec.ofNat 32 (i 0).val))
    (z3.unread x1) (z4.unread x2) (z5.unread x3) X _ r hR e1 e2 e3 (i 1).val hi (trips1 i) (by omega) (k0_pay70 (F := Ideal), k0_pay71 (F := Ideal), k0_pay72 (F := Ideal), k0_pay73 (F := Ideal))
    ⟨Or.inl ⟨by pointwise [k0_pay70]; exact mask_value, fun l => by pointwise [k0_pay71], rfl⟩, Or.inl ⟨by pointwise [k0_pay72]; exact mask_value, fun l => by pointwise [k0_pay73], rfl⟩⟩ (i 1).val le_rfl
  have a1 := readAt_rows (n := 768) y3.view (z3.unread x1) (X.keyE 0) e1 (off3 i) (k0_off3_inb i)
  have a2 := readAt_rows (n := 768) y4.view (z4.unread x2) (X.keyE 1) e2 (off3 i) (k0_off3_inb i)
  have a3 := readAt_rows (n := 768) y5.view (z5.unread x3) (fun s l => ((X.v s l : ℝ) : EReal)) e3 (off3 i) (k0_off3_inb i)
  have Q0 : View.readAt (Elt Ideal) y2.view (Rect.unit (s := S768x128) (![0, 0] : Fin 2 → ℕ) ![768, 128] inb_S768x128_S768x128_0_0).toLoadRect (z2.unread x0) = x0 :=
    (View.readAt_full y2.view (z2.unread x0) inb_S768x128_S768x128_0_0).trans (z2.read_unread x0)
  have Q4 : View.readAt (Elt Ideal) y6.view (Rect.unit (s := S768x128) (![0, 0] : Fin 2 → ℕ) ![768, 128] inb_S768x128_S768x128_0_0).toLoadRect (z6.unread x4) = x4 :=
    (View.readAt_full y6.view (z6.unread x4) inb_S768x128_S768x128_0_0).trans (z6.read_unread x4)
  have Q5 : View.readAt (Elt Ideal) y7.view (Rect.unit (s := S768x128) (![0, 0] : Fin 2 → ℕ) ![768, 128] inb_S768x128_S768x128_0_0).toLoadRect (z7.unread x5) = x5 :=
    (View.readAt_full y7.view (z7.unread x5) inb_S768x128_S768x128_0_0).trans (z7.read_unread x5)
  unfold out0_A_7
  refine (congrFun (View.read_writes_eq_canon VO0_7 VO0_7.junk _ (cover0_A_7 c i y2 z2 y3 z3 y4 z4 y5 z5 y6 z6 y7 z7 y8 z8 y9 z9 y10 z10 y11 z11 x0 x1 x2 x3 x4 x5)) _).trans ?_
  unfold kernelRun0_A
  dsimp only
  sl_unfold_words
  rw [View.canon_unit_zero (S := S768x128) hz]
  simp only [T1, T2, loop2_none _ _ _ _ _ _ _ _ _ _ _ _ _ _ _ _ _ _ _ _ _ _ _ _ _ _ _ _ _ _ _ _ _ _ _ _ _ rfl, Q0, Q4, Q5]
  refine last_row X _ ((i 1).val * 768 + 768) hr (by omega) (by omega) r _ hR.lo _ _ _ _ _ x5 _ _
    (diag_row X (i 1).val r (k0_pay64 x0) _ _ (k0_pay67 i x4) _ _ 0 (by decide) hR.q0 hR.s0 ?_ ?_ hi hr L.1)
    (diag_row X (i 1).val r (k0_pay65 x0) _ _ (k0_pay68 (k0_pay66 x4) (Scalar.muli 2#32 (BitVec.ofNat 32 (i 0).val))) _ _ 1 (by decide) hR.q1 hR.s1 ?_ ?_ hi hr L.2) l
  · intro s l
    pointwise [k0_pay78]
    exact a1 s l
  · intro s l
    pointwise [k0_pay81, k0_pay80, k0_pay69]
    rw [hR.lo, Scalar.select_ofBool]
    by_cases b : l.val < 64
    · rw [if_pos (decide_eq_true b)]
      refine (a3 s l).trans ?_
      simp only [Inp.val, if_true, if_pos b]
    · rw [if_neg (by simpa using b)]
      simp only [Inp.val, if_true, if_neg b]
      rfl
  · intro s l
    pointwise [k0_pay79]
    exact a2 s l
  · intro s l
    pointwise [k0_pay82, k0_pay80, k0_pay69]
    rw [hR.lo, Scalar.select_ofBool]
    by_cases b : l.val < 64
    · rw [if_pos (decide_eq_true b)]
      simp only [Inp.val, if_neg (show ¬ (1 : ℕ) = 0 by decide), if_pos b]
      rfl
    · rw [if_neg (by simpa using b)]
      refine (a3 s l).trans ?_
      simp only [Inp.val, if_neg (show ¬ (1 : ℕ) = 0 by decide), if_neg b]

end
-- ==== Proof.Host15.lean ====
/-
  The forward attention: its arrays as the host code makes them, and its equation over the reals, each row's tiled
  weights against the plain step's softmax.
-/
module
public import proofs.«01_k».proof.Proof.Out15
public import proofs.«01_k».proof.Proof.Equation
public import Idealize.ShloMosaic.Lib.StableHlo.RunRead

set_option maxRecDepth 8192
@[expose] public noncomputable section
namespace Cert.KernelIdeal.Bwd
open Cert.Bwd

variable (a : Real5) (M : ℕ → ℕ → ℝ)

theorem wt_eq (p b r s : ℕ) (hp : p < 8) (hb : b < 2) :
    ((arrsOf a fun _ _ => 0).pair p).wt b (240 + r) 0 (240 + s) = a.e (fun _ _ => 0) (2 * p + b) r s := by
  rw [← w_eq a _ p b r s hp hb]
  unfold Inp.wt Inp.sc
  by_cases hs : s ≤ r
  · rw [if_pos (by omega), Inp.w_of_ok _ (by unfold Inp.ok; omega), sub_zero]
  · rw [if_neg (by omega), Inp.w_of_not _ (by unfold Inp.ok; omega)]

theorem shifted (h r s : ℕ) : a.e M h r s = a.e (fun _ _ => 0) h r s * Real.exp (-(M h r)) := by
  unfold Real5.e
  split
  · rw [← Real.exp_add]; congr 1; ring
  · rw [zero_mul]

/-- A row's tiled ratio is the plain step's weighted sum. -/
theorem ratio_eq (r j : ℕ) (hj : j < 1024) :
    (∑ s ∈ Finset.range 8448, ((arrsOf a fun _ _ => 0).pair (j / 128)).wt (Inp.hd (j % 128)) (240 + r) 0 s * ((arrsOf a fun _ _ => 0).pair (j / 128)).v s (j % 128))
      / ∑ s ∈ Finset.range 8448, ((arrsOf a fun _ _ => 0).pair (j / 128)).wt (Inp.hd (j % 128)) (240 + r) 0 s
      = ∑ s ∈ Finset.range 8208, a.e M (j / 64) r s / a.l M (j / 64) r * a.v s j := by
  have w0 : ∀ s ∈ Finset.range 240, ((arrsOf a fun _ _ => 0).pair (j / 128)).wt (Inp.hd (j % 128)) (240 + r) 0 s = 0 := fun s hs =>
    if_neg (by have := Finset.mem_range.1 hs; omega)
  have w1 : ∀ s, ((arrsOf a fun _ _ => 0).pair (j / 128)).wt (Inp.hd (j % 128)) (240 + r) 0 (240 + s) = a.e (fun _ _ => 0) (j / 64) r s := fun s => by
    rw [wt_eq a _ _ _ _ (by omega) (hd_lt j), head_of]
  have v1 : ∀ s, ((arrsOf a fun _ _ => 0).pair (j / 128)).v (240 + s) (j % 128) = a.v s j := fun s => by
    simp only [Arrs.pair, arrsOf]
    rw [if_neg (by omega), show 240 + s - 240 = s by omega, show j / 128 * 128 + j % 128 = j by omega]
  have hE := (Real.exp_pos (-(M (j / 64) r))).ne'
  rw [padded, padded, Finset.sum_eq_zero w0, Finset.sum_eq_zero fun s hs => by rw [w0 s hs, zero_mul]]
  simp only [w1, v1, zero_add]
  unfold Real5.l
  simp only [shifted a M]
  rw [← Finset.sum_mul, Finset.sum_div]
  refine Finset.sum_congr rfl fun s _ => ?_
  rw [mul_div_mul_right _ _ hE, div_mul_eq_mul_div]

end Cert.KernelIdeal.Bwd

namespace Cert.Kernel15Ideal.Attn
open Cert.Kernel15Ideal Cert.Kernel15Ideal.Gen Cert.Bwd
open Cert.KernelIdeal.Bwd (Holds arrQ arrV arrC arrKa arrKb arrQ_at arrV_at arrC_at arrKa_at arrKb_at arrsOf padRow padRows zero log2e ln2 put lo mid hi col0 col1 gateCol lowLane pairs noKey laneNo)
open Idealize.ShloMosaic TcCoe Idealize.SL.Sem StableHlo

/-- A column's lane of its pair. -/
def divisor : Vec Ideal S_ .i32 := select (cmpi .eq (constantI S_ 32 128#32) (constantI S_ 32 0#32)) (constantI S_ 32 1#32) (constantI S_ 32 128#32)
def left : Vec Ideal S1x1024 .i32 := Host.remsi (iotaInDim S1x1024 32 1) (broadcastInDim S1x1024 ![] bcast_S_S1x1024 divisor)
def none' : Vec Ideal S1x1024 .i32 := broadcastInDim S1x1024 ![] bcast_S_S1x1024 (constantI S_ 32 0#32)
def laneOf : Vec Ideal S1x1024 .i32 :=
  select (andi (cmpi .ne (cmpi .slt left none') (broadcastInDim S1x1024 ![] bcast_S_S1x1024 (cmpi .slt divisor (constantI S_ 32 0#32)))) (cmpi .ne left none'))
    (addi left (broadcastInDim S1x1024 ![] bcast_S_S1x1024 divisor)) left

def padLane (n : BitVec 32) : Vec Ideal S8448x1024 .i1 :=
  andi (broadcastInDim S8448x1024 ![0, 1] bcast_S8448x1_S8448x1024_0_1 padRow)
    (broadcastInDim S8448x1024 ![0, 1] bcast_S1x1024_S8448x1024_0_1 (cmpi .eq laneOf (broadcastInDim S1x1024 ![] bcast_S_S1x1024 (constantI S_ 32 n))))

/-- An array with `-∞` in the padding rows of lane `n` of every pair. -/
def over (n : BitVec 32) (y : FVec Ideal S8448x1024 .bf16) : FVec Ideal S8448x1024 .bf16 :=
  select (padLane n) (broadcastInDim S8448x1024 ![] bcast_S_S8448x1024 (constant S_ .bf16 0xFF80#16)) y

def arrG (x : FVec Ideal S8208x1024 .f32) : FVec Ideal S8448x4224 .f32 :=
  pad S8448x4224 ![240, 3072] ![0, 128] ![0, 0] x (sitofp .f32 (constantI S_ 32 0#32)) pads_S8208x1024_S8448x4224_24000_30721280 h_S_

theorem laneOf_at (j : Fin 1024) : laneOf (ix2 0 j) = BitVec.ofNat 32 (j.val % 128) := by
  pointwise [laneOf, left, none', divisor]
  revert j
  decide +kernel

theorem over_at (n : ℕ) (hn : n < 128) (y : FVec Ideal S8448x1024 .bf16) (r : Fin 8448) (j : Fin 1024) :
    over (BitVec.ofNat 32 n) y (ix2 r j) = if r.val < 240 ∧ j.val % 128 = n then ⊥ else y (ix2 r j) := by
  have e := laneOf_at j
  pointwise [over, padLane, padRow]
  rw [e, show Ideal.ofBits FTy.bf16 65408#16 = ⊥ by simp [Ideal.ofBits, Ideal.ieee]]
  by_cases hr : r.val < 240
  · rw [(WordCmp.cmpi_slt_ofNat_eq_one_iff (w := 32) (a := r.val) (b := 240) (by omega) (by omega)).2 hr]
    by_cases hl : j.val % 128 = n
    · rw [if_pos ⟨hr, hl⟩, (WordCmp.cmpi_eq_ofNat_eq_one_iff (w := 32) (a := j.val % 128) (b := n) (by omega) (by omega)).2 hl]; rfl
    · rw [if_neg (fun h => hl h.2), (WordCmp.cmpi_eq_ofNat_eq_zero_iff (w := 32) (a := j.val % 128) (b := n) (by omega) (by omega)).2 hl]; rfl
  · rw [if_neg (fun h => hr h.1), (WordCmp.cmpi_slt_ofNat_eq_zero_iff (w := 32) (a := r.val) (b := 240) (by omega) (by omega)).2 hr,
      show ∀ b : BitVec 1, IntOp.andi 0#1 b = 0#1 by decide]; rfl

theorem arrG_at (x : FVec Ideal S8208x1024 .f32) (r : Fin 8208) (j : Fin 1024) :
    arrG x (ix2 (⟨240 + r.val, by omega⟩ : Fin 8448) (⟨3072 + j.val, by omega⟩ : Fin 4224)) = x (ix2 r j) := by
  pointwise [arrG]

variable (m : (ℓ : Loc nD τ sig) → Buf (Elt Ideal) ℓ) (c : Dev nD)

abbrev in0 : FVec Ideal S8208x1024 .f32 := m ((c.tc : Thread nD τ).loc main_arg0)
abbrev in1 : FVec Ideal S8208x1024 .f32 := m ((c.tc : Thread nD τ).loc main_arg1)
abbrev in2 : FVec Ideal S8208x1024 .f32 := m ((c.tc : Thread nD τ).loc main_arg2)
abbrev in3 : FVec Ideal S8208x16 .f32 := m ((c.tc : Thread nD τ).loc main_arg3)
abbrev in4 : FVec Ideal S8208x1024 .f32 := m ((c.tc : Thread nD τ).loc main_arg4)

theorem read_v6 : (V m c main_v6 : FVec Ideal S8448x1024 .bf16) = arrQ (in0 m c) := by
  show StableHlo.after _ _ (Proc.devRef .tc main_v6) = _
  after_reads_simp
  simp -implicitDefEqProofs only [TRef.toBuf, TRef.ofBuf, cast_cast, cast_eq]
  unfold arrQ padRows zero log2e ln2
  rfl

theorem read_v11 : (V m c main_v11 : FVec Ideal S8448x128 .f32) = arrC (in3 m c) := by
  show StableHlo.after _ _ (Proc.devRef .tc main_v11) = _
  after_reads_simp
  simp -implicitDefEqProofs only [TRef.toBuf, TRef.ofBuf, cast_cast, cast_eq]
  unfold arrC zero log2e
  rfl

theorem read_v80 : (V m c main_v80 : FVec Ideal S8448x1024 .bf16) = arrV (in2 m c) := by
  show StableHlo.after _ _ (Proc.devRef .tc main_v80) = _
  after_reads_simp
  simp -implicitDefEqProofs only [TRef.toBuf, TRef.ofBuf, cast_cast, cast_eq]
  unfold arrV padRows zero
  rfl

theorem read_v78 : (V m c main_v78 : FVec Ideal S8448x4224 .f32) = arrG (in4 m c) := by
  show StableHlo.after _ _ (Proc.devRef .tc main_v78) = _
  after_reads_simp
  simp -implicitDefEqProofs only [TRef.toBuf, TRef.ofBuf, cast_cast, cast_eq]
  unfold arrG
  rfl

theorem read_v71 : (V m c main_v71 : FVec Ideal S8448x1024 .bf16) = over 64#32 (arrKa (in1 m c) (in3 m c)) := by
  show StableHlo.after _ _ (Proc.devRef .tc main_v71) = _
  after_reads_simp
  simp -implicitDefEqProofs only [TRef.toBuf, TRef.ofBuf, cast_cast, cast_eq]
  unfold over padLane laneOf left none' divisor arrKa put lo mid hi col0 gateCol padRow arrC zero log2e ln2 lowLane pairs padRows noKey laneNo
  rfl

theorem read_v77 : (V m c main_v77 : FVec Ideal S8448x1024 .bf16) = over 0#32 (arrKb (in1 m c) (in3 m c)) := by
  show StableHlo.after _ _ (Proc.devRef .tc main_v77) = _
  after_reads_simp
  simp -implicitDefEqProofs only [TRef.toBuf, TRef.ofBuf, cast_cast, cast_eq]
  unfold over padLane laneOf left none' divisor arrKb put lo mid hi col1 gateCol padRow arrC zero log2e ln2 lowLane pairs padRows noKey laneNo
  rfl
-- ==== Proof.Value15.lean ====
/-
  The forward attention: the blocks its grid points work on, what its output array holds at the end, and that this is
  the plain step's gated output.
-/
module
public import proofs.«01_k».proof.Proof.Host15
public import proofs.«01_k».proof.Proof.Value
public import proofs.«01_k».proof.Proof.Gen.Kernel15Ideal.Run
public import proofs.«01_k».proof.Proof.Gen.Reference15Ideal.Run
public import proofs.«01_k».proof.Proof.Gen.Reference15Ideal.Read
public import proofs.«01_k».proof.Defs
public import Idealize.ShloMosaic.Lib.Pipeline.Value

set_option maxRecDepth 65536
@[expose] public noncomputable section
namespace Cert.Kernel15Ideal.Attn
open Gen Cert.Bwd
open Cert.KernelIdeal.Bwd (Holds arrQ arrV arrC arrKa arrKb arrQ_at arrV_at arrC_at arrKa_at arrKb_at arrsOf small_word rowMax outs outs_at ratio_eq)
open Idealize.ShloMosaic TcCoe Idealize.SL.Sem StableHlo

section
open Cert.Reference15Ideal.Read
open Cert.KernelIdeal.Bwd (logits expo sums wts along heads)
variable (x0 x1 x2 : FVec Ideal S8208x1024 .f32) (x3 : FVec Ideal S8208x16 .f32)

theorem logits_eq : val_main_v21 (F := Ideal) x0 x1 x3 = logits x0 x1 x3 := rfl

theorem rowMax_eq : val_main_v22 (F := Ideal) x0 x1 x3 = rowMax x0 x1 x3 := rfl

theorem shift_eq : val_main_v24 (F := Ideal) x0 x1 x3 = rowMax x0 x1 x3 := by
  funext i
  rw [val_main_v24_apply, rowMax_eq]
  have : val_main_v23 (F := Ideal) i = (⊥ : EReal) := Cert.KernelIdeal.Bwd.lit_bot
  rw [this]
  exact max_eq_right bot_le

theorem expo_eq : val_main_v28 (F := Ideal) x0 x1 x3 = expo x0 x1 x3 := by
  unfold val_main_v28 val_main_v27 val_main_v26 val_main_v25
  rw [shift_eq, logits_eq]
  rfl

theorem sums_eq : val_main_v29 (F := Ideal) x0 x1 x3 = sums x0 x1 x3 := by
  unfold val_main_v29
  rw [expo_eq]
  rfl

theorem wts_eq : val_main_v32 (F := Ideal) x0 x1 x3 = wts x0 x1 x3 := by
  unfold val_main_v32 val_main_v31 val_main_v30
  rw [expo_eq, sums_eq]
  rfl

theorem outs_eq : val_main_v35 (F := Ideal) x0 x1 x2 x3 = outs x0 x1 x2 x3 := by
  unfold val_main_v35
  rw [wts_eq]
  rfl

end

instance finite15_facts : Cert.Pre_finite15.Facts where
  bcast_S_S8208x1024 := by decide
  bcast_S_S8208x16 := by decide

variable (m : (ℓ : Loc nD τ sig) → Buf (Elt Ideal) ℓ) (c : Dev nD) (t : Fin cfg0.N)

theorem coords_p : (grid0.coords t 0).val = t.val / 11 := by
  have h : t.val < 88 := t.isLt.trans_eq N_0
  have e : (grid0.coords t 0).val = t.val / 11 % 8 := Pipeline.Grid.coords_val t 0 (by decide) rfl
  omega

theorem coords_n : (grid0.coords t 1).val = t.val % 11 := by
  have e : (grid0.coords t 1).val = t.val / 1 % 11 := Pipeline.Grid.coords_val t 1 (by decide) rfl
  omega

theorem pair_word : (BitVec.ofNat 32 (grid0.coords t 0).val).toNat = t.val / 11 := by
  have h : t.val < 88 := t.isLt.trans_eq N_0
  rw [coords_p, small_word (by omega)]

theorem tile_word : (BitVec.ofNat 32 (grid0.coords t 1).val).toNat = t.val % 11 := by
  rw [coords_n, small_word (by omega)]

theorem gate_word : (Scalar.addi 24#32 (BitVec.ofNat 32 (grid0.coords t 0).val)).toNat = 24 + t.val / 11 := by
  have h : t.val < 88 := t.isLt.trans_eq N_0
  rw [coords_p]
  have : ∀ n : Fin 8, (Scalar.addi 24#32 (BitVec.ofNat 32 n.val)).toNat = 24 + n.val := by decide +kernel
  exact this ⟨t.val / 11, by omega⟩

theorem row_lt (r : Fin 768) : t.val % 11 * 768 + r.val < 8448 := by omega
theorem col_lt (l : Fin 128) : t.val / 11 * 128 + l.val < 1024 := by
  have h : t.val < 88 := t.isLt.trans_eq N_0
  omega
theorem gate_lt (l : Fin 128) : 3072 + (t.val / 11 * 128 + l.val) < 4224 := by
  have h : t.val < 88 := t.isLt.trans_eq N_0
  omega

theorem blk0 (r : Fin 768) (l : Fin 128) : (iblk m c 0 t : Vec Ideal S768x128 .bf16) (ix2 r l) = arrQ (in0 m c) (ix2 (⟨_, row_lt t r⟩ : Fin 8448) (⟨_, col_lt t l⟩ : Fin 1024)) := by
  unfold iblk
  rw [View.read_apply]
  refine Eq.trans ?_ (congrFun (read_v6 m c) _)
  show (V m c main_v6 : FVec Ideal S8448x1024 .bf16) _ = _
  congr 1
  funext a
  apply Fin.ext
  match a with
    | ⟨0, _⟩ => show win0_0.index t 0 * 768 + 1 * r.val = t.val % 11 * 768 + r.val; rw [show win0_0.index t 0 = _ from tile_word t]; omega
    | ⟨1, _⟩ => show win0_0.index t 1 * 128 + 1 * l.val = t.val / 11 * 128 + l.val; rw [show win0_0.index t 1 = _ from pair_word t]; omega

theorem blk1 (r : Fin 8448) (l : Fin 128) : (iblk m c 1 t : Vec Ideal S8448x128 .bf16) (ix2 r l) = over 64#32 (arrKa (in1 m c) (in3 m c)) (ix2 r (⟨_, col_lt t l⟩ : Fin 1024)) := by
  unfold iblk
  rw [View.read_apply]
  refine Eq.trans ?_ (congrFun (read_v71 m c) _)
  show (V m c main_v71 : FVec Ideal S8448x1024 .bf16) _ = _
  congr 1
  funext a
  apply Fin.ext
  match a with
    | ⟨0, _⟩ => show win0_1.index t 0 * 8448 + 1 * r.val = r.val; rw [show win0_1.index t 0 = 0 from rfl]; omega
    | ⟨1, _⟩ => show win0_1.index t 1 * 128 + 1 * l.val = t.val / 11 * 128 + l.val; rw [show win0_1.index t 1 = _ from pair_word t]; omega

theorem blk2 (r : Fin 8448) (l : Fin 128) : (iblk m c 2 t : Vec Ideal S8448x128 .bf16) (ix2 r l) = over 0#32 (arrKb (in1 m c) (in3 m c)) (ix2 r (⟨_, col_lt t l⟩ : Fin 1024)) := by
  unfold iblk
  rw [View.read_apply]
  refine Eq.trans ?_ (congrFun (read_v77 m c) _)
  show (V m c main_v77 : FVec Ideal S8448x1024 .bf16) _ = _
  congr 1
  funext a
  apply Fin.ext
  match a with
    | ⟨0, _⟩ => show win0_2.index t 0 * 8448 + 1 * r.val = r.val; rw [show win0_2.index t 0 = 0 from rfl]; omega
    | ⟨1, _⟩ => show win0_2.index t 1 * 128 + 1 * l.val = t.val / 11 * 128 + l.val; rw [show win0_2.index t 1 = _ from pair_word t]; omega

theorem blk3 (r : Fin 8448) (l : Fin 128) : (iblk m c 3 t : Vec Ideal S8448x128 .bf16) (ix2 r l) = arrV (in2 m c) (ix2 r (⟨_, col_lt t l⟩ : Fin 1024)) := by
  unfold iblk
  rw [View.read_apply]
  refine Eq.trans ?_ (congrFun (read_v80 m c) _)
  show (V m c main_v80 : FVec Ideal S8448x1024 .bf16) _ = _
  congr 1
  funext a
  apply Fin.ext
  match a with
    | ⟨0, _⟩ => show win0_3.index t 0 * 8448 + 1 * r.val = r.val; rw [show win0_3.index t 0 = 0 from rfl]; omega
    | ⟨1, _⟩ => show win0_3.index t 1 * 128 + 1 * l.val = t.val / 11 * 128 + l.val; rw [show win0_3.index t 1 = _ from pair_word t]; omega

theorem blk4 (r : Fin 768) (l : Fin 128) : (iblk m c 4 t : Vec Ideal S768x128 .f32) (ix2 r l) = arrC (in3 m c) (ix2 (⟨_, row_lt t r⟩ : Fin 8448) l) := by
  unfold iblk
  rw [View.read_apply]
  refine Eq.trans ?_ (congrFun (read_v11 m c) _)
  show (V m c main_v11 : FVec Ideal S8448x128 .f32) _ = _
  congr 1
  funext a
  apply Fin.ext
  match a with
    | ⟨0, _⟩ => show win0_4.index t 0 * 768 + 1 * r.val = t.val % 11 * 768 + r.val; rw [show win0_4.index t 0 = _ from tile_word t]; omega
    | ⟨1, _⟩ => show win0_4.index t 1 * 128 + 1 * l.val = l.val; rw [show win0_4.index t 1 = 0 from rfl]; omega

theorem blk5 (r : Fin 768) (l : Fin 128) : (iblk m c 5 t : Vec Ideal S768x128 .f32) (ix2 r l) = arrG (in4 m c) (ix2 (⟨_, row_lt t r⟩ : Fin 8448) (⟨_, gate_lt t l⟩ : Fin 4224)) := by
  unfold iblk
  rw [View.read_apply]
  refine Eq.trans ?_ (congrFun (read_v78 m c) _)
  show (V m c main_v78 : FVec Ideal S8448x4224 .f32) _ = _
  congr 1
  funext a
  apply Fin.ext
  match a with
    | ⟨0, _⟩ => show win0_5.index t 0 * 768 + 1 * r.val = t.val % 11 * 768 + r.val; rw [show win0_5.index t 0 = _ from tile_word t]; omega
    | ⟨1, _⟩ => show win0_5.index t 1 * 128 + 1 * l.val = 3072 + (t.val / 11 * 128 + l.val); rw [show win0_5.index t 1 = _ from gate_word t]; omega

/-- What a point leaves in its output tile. -/
def tileOf : Vec Ideal S768x128 .bf16 := (outsAt0 m c t).2.1

theorem tile_eq : tileOf m c t = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) := by
  unfold tileOf outsAt0
  dsimp only

/-- The output array at the end. -/
def endTile (i : S8448x1024.Idx) : Fin cfg0.N := ⟨(i 1).val / 128 * 11 + (i 0).val / 768, by
  have h0 : (i 0).val < 8448 := (i 0).isLt
  have h1 : (i 1).val < 1024 := (i 1).isLt
  rw [show cfg0.N = 88 from N_0]; omega⟩
def og : Vec Ideal S8448x1024 .bf16 := fun i =>
  tileOf m c (endTile i) (ix2 (⟨(i 0).val % 768, by omega⟩ : Fin 768) (⟨(i 1).val % 128, by omega⟩ : Fin 128))

theorem flushed (t : Fin cfg0.N) (_ : (cfg0.win 7).flush t = true) :
    (dats m 0 c).flushed 7 t = ((cfg0.win 7).blk t).view.read (Elt Ideal) (og m c : Buf (Elt Ideal) ((c.tc : Thread nD τ).loc main_v81_1)) := by
  have ht : t.val < 88 := t.isLt.trans_eq N_0
  show (cfg0.win 7).cut (grid0.coords t) ((dats m 0 c).after 7 t) = _
  rw [after0_7]
  have i0 : win0_7.index t 0 = t.val % 11 := tile_word t
  have i1 : win0_7.index t 1 = t.val / 11 := pair_word t
  funext y
  rw [View.read_apply]
  let y' : S768x128.Idx := y
  have h0 : (y' 0).val < 768 := (y' 0).isLt
  have h1 : (y' 1).val < 128 := (y' 1).isLt
  show tileOf m c t y' = og m c _
  have e : ((cfg0.win 7).blk t).view.emb y = (ix2 (⟨t.val % 11 * 768 + (y' 0).val, by omega⟩ : Fin 8448) (⟨t.val / 11 * 128 + (y' 1).val, by omega⟩ : Fin 1024) : S8448x1024.Idx) := by
    funext a
    apply Fin.ext
    match a with
    | ⟨0, _⟩ => show win0_7.index t 0 * 768 + 1 * (y' 0).val = _; rw [i0]; show _ = t.val % 11 * 768 + (y' 0).val; omega
    | ⟨1, _⟩ => show win0_7.index t 1 * 128 + 1 * (y' 1).val = _; rw [i1]; show _ = t.val / 11 * 128 + (y' 1).val; omega
  refine Eq.trans ?_ (congrArg (og m c) e).symm
  have same : ∀ (t' : Fin cfg0.N) (r : Fin 768) (l : Fin 128), t' = t → r = y' 0 → l = y' 1 → tileOf m c t y' = tileOf m c t' (ix2 r l) := by
    rintro _ _ _ rfl rfl rfl
    exact congrArg (tileOf m c _) (eq_ix2 y')
  refine same _ _ _ (Fin.ext ?_) (Fin.ext ?_) (Fin.ext ?_)
  · show (t.val / 11 * 128 + (y' 1).val) / 128 * 11 + (t.val % 11 * 768 + (y' 0).val) / 768 = t.val; omega
  · show (t.val % 11 * 768 + (y' 0).val) % 768 = (y' 0).val; omega
  · show (t.val / 11 * 128 + (y' 1).val) % 128 = (y' 1).val; omega

theorem final : (dats m 0 c).arrAt 7 cfg0.N = (og m c : Buf (Elt Ideal) ((c.tc : Thread nD τ).loc main_v81_1)) :=
  (dats m 0 c).arrAt_eq_of_cover 7 _ (flushed m c) fun (i : S8448x1024.Idx) => by
    have h0 : (i 0).val < 8448 := (i 0).isLt
    have h1 : (i 1).val < 1024 := (i 1).isLt
    generalize ht : endTile (i : S8448x1024.Idx) = t
    have hv : t.val = (i 1).val / 128 * 11 + (i 0).val / 768 := by rw [← ht]; rfl
    have i0 : win0_7.index t 0 = t.val % 11 := tile_word t
    have i1 : win0_7.index t 1 = t.val / 11 := pair_word t
    refine ⟨t, flush0_7 t, ?_⟩
    show i ∈ ((View.whole main_v81_1).slice (win0_7.rect t)).set
    rw [View.set_slice_whole, Rect.mem_set_unit]
    intro a
    match a with
    | ⟨0, _⟩ =>
      show win0_7.index t 0 * 768 ≤ (i 0).val ∧ (i 0).val < win0_7.index t 0 * 768 + 768
      rw [i0]; omega
    | ⟨1, _⟩ =>
      show win0_7.index t 1 * 128 ≤ (i 1).val ∧ (i 1).val < win0_7.index t 1 * 128 + 128
      rw [i1]; omega

/-- The array without the rows of padding. -/
def cutout (y : Vec Ideal S8448x1024 .bf16) : FVec Ideal S8208x1024 .f32 :=
  extf .f32 (extractStridedSlice S8208x1024 ![240, 0] y slices_S8448x1024_S8208x1024_240_0) bitsLt_bf16_f32

theorem cutout_at (y : Vec Ideal S8448x1024 .bf16) (r : Fin 8208) (l : Fin 1024) :
    cutout y (ix2 r l) = y (ix2 (⟨240 + r.val, by omega⟩ : Fin 8448) l) := by
  pointwise [cutout]

section
variable {x4 : FVec Ideal S8208x1024 .f32} {a : Real5} {M : ℕ → ℕ → ℝ} (H : Holds (in0 m c) (in1 m c) (in2 m c) (in3 m c) x4 a)
  (hM : ∀ (h : Fin 16) (r : Fin 8208), rowMax (in0 m c) (in1 m c) (in3 m c) (ix2 h r) = ((M h.val r.val : ℝ) : EReal))
include H hM

theorem tile_at (r : Fin 768) (hr : 240 ≤ t.val % 11 * 768 + r.val) (l : Fin 128) :
    tileOf m c t (ix2 r l)
      = (((∑ s ∈ Finset.range 8448, ((arrsOf a fun _ _ => 0).pair (t.val / 11)).wt (Inp.hd l.val) (t.val % 11 * 768 + r.val) 0 s * ((arrsOf a fun _ _ => 0).pair (t.val / 11)).v s l.val)
          / ∑ s ∈ Finset.range 8448, ((arrsOf a fun _ _ => 0).pair (t.val / 11)).wt (Inp.hd l.val) (t.val % 11 * 768 + r.val) 0 s : ℝ) : EReal)
        * FloatOps.logistic (F := Ideal) (φ := .f32) (arrG (in4 m c) (ix2 (⟨_, row_lt t r⟩ : Fin 8448) (⟨_, gate_lt t l⟩ : Fin 4224))) := by
  have e := out_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t)
    ((arrsOf a fun _ _ => 0).pair (t.val / 11)) (arrsOf a fun _ _ => 0).C r
    (by rw [coords_n]; exact hr)
    (fun l => (blk0 m c t r l).trans (by rw [arrQ_at H hM, coords_n]; rfl))
    (fun l => (blk4 m c t r l).trans (by rw [arrC_at H hM, coords_n]; rfl))
    (fun h _ => by
      rw [coords_n, coords_p]
      show (arrsOf a fun _ _ => 0).C _ _ - (arrsOf a fun _ _ => 0).M _ _ = _
      rw [show (arrsOf a fun _ _ => 0).M (2 * (t.val / 11) + h) (t.val % 11 * 768 + r.val) = 0 by simp [arrsOf], sub_zero])
    (fun s l => (blk1 m c t s l).trans (by
      rw [show (64#32 : BitVec 32) = BitVec.ofNat 32 64 from rfl, over_at 64 (by omega), arrKa_at H hM]
      unfold Inp.keyE
      rw [show (t.val / 11 * 128 + l.val) % 128 = l.val by omega]
      exact if_congr Iff.rfl rfl (by show _ = (((arrsOf a fun _ _ => 0).Ka s.val (t.val / 11 * 128 + l.val) : ℝ) : EReal); unfold arrsOf; dsimp only; rw [show (t.val / 11 * 128 + l.val) % 128 = l.val by omega])))
    (fun s l => (blk2 m c t s l).trans (by
      rw [show (0#32 : BitVec 32) = BitVec.ofNat 32 0 from rfl, over_at 0 (by omega), arrKb_at H hM]
      unfold Inp.keyE
      rw [show (t.val / 11 * 128 + l.val) % 128 = l.val by omega]
      exact if_congr Iff.rfl rfl (by show _ = (((arrsOf a fun _ _ => 0).Kb s.val (t.val / 11 * 128 + l.val) : ℝ) : EReal); unfold arrsOf; dsimp only; rw [show (t.val / 11 * 128 + l.val) % 128 = l.val by omega])))
    (fun s l => (blk3 m c t s l).trans (by rw [arrV_at H hM]; rfl)) l
  rw [coords_n] at e
  rw [tile_eq, ← blk5 m c t r l]
  exact e

theorem og_at (r : Fin 8208) (j : Fin 1024) : cutout (og m c) (ix2 r j)
    = ((∑ s ∈ Finset.range 8208, a.e M (j.val / 64) r.val s / a.l M (j.val / 64) r.val * a.v s j.val : ℝ) : EReal)
      * FloatOps.logistic (F := Ideal) (φ := .f32) (in4 m c (ix2 r j)) := by
  rw [cutout_at, ← ratio_eq a M r.val j.val j.isLt, ← arrG_at (in4 m c) r j]
  show tileOf m c (endTile (ix2 (⟨240 + r.val, by omega⟩ : Fin 8448) j)) (ix2 (⟨(240 + r.val) % 768, by omega⟩ : Fin 768) (⟨j.val % 128, by omega⟩ : Fin 128)) = _
  generalize ht : endTile (ix2 (⟨240 + r.val, by omega⟩ : Fin 8448) j) = t
  have hv : t.val = j.val / 128 * 11 + (240 + r.val) / 768 := by rw [← ht]; rfl
  have hp : t.val / 11 = j.val / 128 := by omega
  have hn : t.val % 11 * 768 + (240 + r.val) % 768 = 240 + r.val := by omega
  rw [tile_at m c t H hM _ (by show 240 ≤ t.val % 11 * 768 + (240 + r.val) % 768; omega)]
  dsimp only
  refine congrArg₂ (fun x y : EReal => x * y) (by rw [hp, hn]) (congrArg (fun z => FloatOps.logistic (F := Ideal) (φ := .f32) (arrG (in4 m c) z)) ?_)
  funext b
  apply Fin.ext
  match b with
  | ⟨0, _⟩ => exact hn
  | ⟨1, _⟩ => show 3072 + (t.val / 11 * 128 + j.val % 128) = 3072 + j.val; omega

open Cert.Reference15Ideal.Read in
theorem ref_at (r : Fin 8208) (j : Fin 1024) : val_main_v44 (F := Ideal) (in0 m c) (in1 m c) (in2 m c) (in3 m c) (in4 m c) (ix2 r j)
    = ((∑ s ∈ Finset.range 8208, a.e M (j.val / 64) r.val s / a.l M (j.val / 64) r.val * a.v s j.val : ℝ) : EReal)
      * FloatOps.logistic (F := Ideal) (φ := .f32) (in4 m c (ix2 r j)) := by
  have e := outs_at H hM ⟨j.val / 64, by omega⟩ r ⟨j.val % 64, by omega⟩
  have one : (FloatOps.ofBits .f32 0x3F800000#32 : Ideal .f32) = 1 := by
    show (Scalar.ofBits .f32 0x3F800000#32 : Ideal .f32) = 1
    pointwise
  rw [val_main_v44_apply, val_main_v43_apply, val_main_v42_apply, val_main_v41_apply, val_main_v40_apply, val_main_v39_apply, val_main_v38_apply,
    val_main_cst_4_apply, val_main_cst_5_apply, one]
  refine congrArg₂ (fun x y : EReal => x * y) ?_ rfl
  have g : val_main_v37 (F := Ideal) (in0 m c) (in1 m c) (in2 m c) (in3 m c) (ix2 r j)
      = val_main_v35 (F := Ideal) (in0 m c) (in1 m c) (in2 m c) (in3 m c) (ix3 (⟨j.val / 64, by omega⟩ : Fin 16) r (⟨j.val % 64, by omega⟩ : Fin 64)) := by
    unfold val_main_v37 val_main_v36
    generalize val_main_v35 (F := Ideal) (in0 m c) (in1 m c) (in2 m c) (in3 m c) = y
    pointwise
  rw [g, outs_eq, e]
  rw [show j.val / 64 * 64 + j.val % 64 = j.val by omega]

theorem table : cutout (Cert.Kernel15Ideal.Value.reg_main_v81_1 m c) = Cert.Reference15Ideal.Read.val_main_v44 (F := Ideal) (in0 m c) (in1 m c) (in2 m c) (in3 m c) (in4 m c) :=
  have e : Cert.Kernel15Ideal.Value.reg_main_v81_1 m c = (og m c : FVec Ideal S8448x1024 .bf16) := final m c
  (congrArg cutout e).trans (table_ext _ _ _ (og_at m c H hM) (ref_at m c H hM))

end

theorem algebraic : Cert.algebraic_Kernel15Ideal_Reference15Ideal_pre_finite15 := by
  intro m g m' g' hpre hargs
  have H : ∀ c, Holds (in0 m c) (in1 m c) (in2 m c) (in3 m c) (in0 m c) (reals (in0 m c) (in1 m c) (in2 m c) (in3 m c) (in0 m c)) := fun c =>
    holds_reals (hpre c).1 (hpre c).2.1 (hpre c).2.2.1 (hpre c).2.2.2 (hpre c).1
  refine ⟨fun c => cutout (Cert.Kernel15Ideal.Value.reg_main_v81_1 m c), Cert.Kernel15Ideal.Value.run m g,
    (θ_run _ _ _).mono (fun r h c => ?_) (Cert.Reference15Ideal.Value.run m' g')⟩
  obtain ⟨h44, hrest⟩ := h c
  obtain ⟨a0, a1, a2, a3, a4⟩ := hargs c
  refine ⟨h44.trans ?_, hrest⟩
  rw [Cert.Reference15Ideal.Read.val_main_v44_eq, a0, a1, a2, a3, a4]
  exact (table m c (H c) (maxima_at (H c))).symm
-- ==== Proof.Value16.lean ====
/-
  The feed-forward layer's second product with the residual and the scaled rows of the sum: the kernel's, a tile of 768 rows
  at a time, are the reference's.
-/
module
public import proofs.«01_k».proof.Proof.Table
public import proofs.«01_k».proof.Proof.Gen.Kernel16Ideal.Run
public import proofs.«01_k».proof.Proof.Gen.Reference16Ideal.Run
public import proofs.«01_k».proof.Proof.Gen.Reference16Ideal.Read
public import proofs.«01_k».proof.Defs

set_option maxRecDepth 65536
@[expose] public noncomputable section
namespace Cert.Kernel16Ideal.Out
open Cert.Bwd
open Gen
open Idealize.ShloMosaic TcCoe Idealize.SL.Sem StableHlo
open Pipeline (Dat)

section
variable {a : Vec Ideal S768x2816 .bf16} {w : Vec Ideal S2816x1024 .bf16} {x : Vec Ideal S768x1024 .f32} {g : Vec Ideal S1x1024 .f32} {r : Fin 768}
  {s gs : ℕ → EReal} (hs : ∀ l : Fin 1024, ∑ k : Fin 2816, a (ix2 r k) * w (ix2 k l) + x (ix2 r l) = s l.val)
  (hg : ∀ l : Fin 1024, g (ix2 0 l) = gs l.val)

include hs in
theorem sum_at (l : Fin 1024) : k0_pay1 a w x (ix2 r l) = s l.val := by
  rw [← hs]
  pointwise [k0_pay1]

include hs hg in
theorem norm_at (l : Fin 1024) : k0_pay3 a w x g (ix2 r l) = normed s gs l.val := by
  have e := sum_at hs
  unfold k0_pay3 k0_pay2
  generalize k0_pay1 a w x = p at e ⊢
  pointwise []
  simp only [e, hg]
  rfl

end

variable (m : (ℓ : Loc nD τ sig) → Buf (Elt Ideal) ℓ) (c : Dev nD)

theorem word (t : Fin cfg0.N) : (BitVec.ofNat 32 (grid0.coords t 0).val).toNat = t.val := by
  have h : t.val < 11 := t.isLt.trans_eq N_0
  have e : (grid0.coords t 0).val = t.val / 1 % 11 := Pipeline.Grid.coords_val t 0 (by decide) rfl
  rw [e, BitVec.toNat_ofNat]
  omega

theorem row (t : Fin cfg0.N) (n : ℕ) : (BitVec.ofNat 32 (grid0.coords t 0).val).toNat * 768 + 1 * n = t.val * 768 + n := by
  rw [word, Nat.one_mul]

theorem column (q n : ℕ) : 0 * q + 1 * n = n := by omega

/-- The kernel's arrays hold these numbers. -/
structure Held (A B R : ℕ → ℕ → EReal) (G : ℕ → EReal) : Prop where
  a : ∀ i : S8448x2816.Idx, (V m c main_v1 : Vec Ideal S8448x2816 .bf16) i = A (i 0).val (i 1).val
  b : ∀ i : S2816x1024.Idx, (V m c main_v2 : Vec Ideal S2816x1024 .bf16) i = B (i 0).val (i 1).val
  r : ∀ i : S8448x1024.Idx, (V m c main_v3 : Vec Ideal S8448x1024 .f32) i = R (i 0).val (i 1).val
  g : ∀ i : S1x1024.Idx, (V m c main_v4 : Vec Ideal S1x1024 .f32) i = G (i 1).val

abbrev tileA (t : Fin cfg0.N) : Vec Ideal S768x2816 .bf16 := iblk m c 0 t
abbrev tileW (t : Fin cfg0.N) : Vec Ideal S2816x1024 .bf16 := iblk m c 1 t
abbrev tileR (t : Fin cfg0.N) : Vec Ideal S768x1024 .f32 := iblk m c 2 t

/-- The array of these numbers. -/
def arr (f : ℕ → ℕ → EReal) : S8448x1024.Idx → EReal := fun i => f (i 0).val (i 1).val

section
variable {A B R : ℕ → ℕ → EReal} {G : ℕ → EReal} (H : Held m c A B R G)
include H

theorem tile_sum (t : Fin cfg0.N) (r : Fin 768) (l : Fin 1024) :
    ∑ k : Fin 2816, tileA m c t (ix2 r k) * tileW m c t (ix2 k l) + tileR m c t (ix2 r l) = summed 2816 A B R (t.val * 768 + r.val) l.val := by
  unfold tileA tileW tileR iblk summed
  refine congrArg₂ (· + ·) (Finset.sum_congr rfl fun k _ => ?_) ?_
  · rw [View.read_apply, View.read_apply]
    exact congrArg₂ (· * ·) ((H.a _).trans (congrArg₂ A (row t r.val) (column 2816 k.val))) ((H.b _).trans (congrArg₂ B (column 2816 k.val) (column 1024 l.val)))
  · rw [View.read_apply]
    exact (H.r _).trans (congrArg₂ R (row t r.val) (column 1024 l.val))

theorem tile_gain (t : Fin cfg0.N) (l : Fin 1024) : (iblk m c 3 t : Vec Ideal S1x1024 .f32) (ix2 0 l) = G l.val := by
  unfold iblk
  rw [View.read_apply]
  exact (H.g _).trans (congrArg G (column 1024 l.val))

theorem after4 (t : Fin cfg0.N) (y : S768x1024.Idx) : ((dats m 0 c).after 4 t : Vec Ideal S768x1024 .f32) y = summed 2816 A B R (t.val * 768 + (y 0).val) (y 1).val := by
  rw [after0_4, eq_ix2 y]
  unfold out0_4
  rw [View.canon_unit_zero (S := S768x1024) hz, View.ld_unit_zero (S := S768x2816) hz, View.ld_unit_zero (S := S2816x1024) hz, View.ld_unit_zero (S := S768x1024) hz]
  exact sum_at (tile_sum m c H t (y 0)) (y 1)

theorem after5 (t : Fin cfg0.N) (y : S768x1024.Idx) : ((dats m 0 c).after 5 t : Vec Ideal S768x1024 .bf16) y = normed (summed 2816 A B R (t.val * 768 + (y 0).val)) G (y 1).val := by
  rw [after0_5, eq_ix2 y]
  unfold out0_5
  rw [View.canon_unit_zero (S := S768x1024) hz, View.ld_unit_zero (S := S768x2816) hz, View.ld_unit_zero (S := S2816x1024) hz, View.ld_unit_zero (S := S768x1024) hz,
    View.ld_unit_zero (S := S1x1024) hz]
  exact norm_at (tile_sum m c H t (y 0)) (tile_gain m c H t) (y 1)

omit H in
theorem inside (i : S8448x1024.Idx) : ∃ t : Fin cfg0.N,
    ((BitVec.ofNat 32 (grid0.coords t 0).val).toNat * 768 ≤ (i 0).val ∧ (i 0).val < (BitVec.ofNat 32 (grid0.coords t 0).val).toNat * 768 + 768)
      ∧ 0 * 1024 ≤ (i 1).val ∧ (i 1).val < 0 * 1024 + 1024 := by
  have h0 : (i 0).val < 8448 := (i 0).isLt
  have h1 : (i 1).val < 1024 := (i 1).isLt
  refine ⟨⟨(i 0).val / 768, by rw [show cfg0.N = 11 from N_0]; omega⟩, ?_⟩
  rw [word]
  dsimp only
  omega

theorem final4 : (dats m 0 c).arrAt 4 cfg0.N = (arr (summed 2816 A B R) : Buf (Elt Ideal) ((c.tc : Thread nD τ).loc main_v5_0)) :=
  (dats m 0 c).arrAt_eq_of_cover 4 _ (fun t _ => by
    have L := after4 m c H t
    show (cfg0.win 4).cut (grid0.coords t) ((dats m 0 c).after 4 t) = _
    generalize (dats m 0 c).after 4 t = o at L ⊢
    funext y
    rw [View.read_apply]
    exact (L y).trans (congrArg₂ (summed 2816 A B R) (row t _).symm (column 1024 _).symm)) fun i => by
    obtain ⟨t, h0, h1⟩ := inside i
    refine ⟨t, flush0_4 t, ?_⟩
    show i ∈ ((View.whole main_v5_0).slice (win0_4.rect t)).set
    rw [View.set_slice_whole, Rect.mem_set_unit]
    intro a
    match a with
    | ⟨0, _⟩ => exact h0
    | ⟨1, _⟩ => exact h1

theorem final5 : (dats m 0 c).arrAt 5 cfg0.N = (arr (fun r => normed (summed 2816 A B R r) G) : Buf (Elt Ideal) ((c.tc : Thread nD τ).loc main_v5_1)) :=
  (dats m 0 c).arrAt_eq_of_cover 5 _ (fun t _ => by
    have L := after5 m c H t
    show (cfg0.win 5).cut (grid0.coords t) ((dats m 0 c).after 5 t) = _
    generalize (dats m 0 c).after 5 t = o at L ⊢
    funext y
    rw [View.read_apply]
    exact (L y).trans (congrArg₂ (fun r => normed (summed 2816 A B R r) G) (row t _).symm (column 1024 _).symm)) fun i => by
    obtain ⟨t, h0, h1⟩ := inside i
    refine ⟨t, flush0_5 t, ?_⟩
    show i ∈ ((View.whole main_v5_1).slice (win0_5.rect t)).set
    rw [View.set_slice_whole, Rect.mem_set_unit]
    intro a
    match a with
    | ⟨0, _⟩ => exact h0
    | ⟨1, _⟩ => exact h1

end

def arrA (x : FVec Ideal S8208x2816 .f32) : FVec Ideal S8448x2816 .bf16 :=
  truncf .bf16 (pad S8448x2816 ![240, 0] ![0, 0] ![0, 0] x zero pads_S8208x2816_S8448x2816_24000_000 h_S_) bitsLt_bf16_f32

def arrR (x : FVec Ideal S8208x1024 .f32) : FVec Ideal S8448x1024 .f32 :=
  pad S8448x1024 ![240, 0] ![0, 0] ![0, 0] x zero pads_S8208x1024_S8448x1024_24000_000 h_S_

def arrG (x : FVec Ideal S1024 .f32) : FVec Ideal S1x1024 .f32 := shapeCast S1x1024 x shapeCasts_S1024_S1x1024

theorem arrA_at (x : FVec Ideal S8208x2816 .f32) (r : Fin 8448) (k : Fin 2816) : arrA x (ix2 r k) = low x r.val k.val := by
  unfold low
  pointwise [arrA]
  by_cases hr : r.val < 240
  · rw [dif_neg (by omega), if_pos hr, zero_at]
  · rw [dif_pos (by omega), if_neg hr]
    exact (tab_at x ⟨r.val - 240, by omega⟩ k).symm

theorem arrR_at (x : FVec Ideal S8208x1024 .f32) (r : Fin 8448) (l : Fin 1024) : arrR x (ix2 r l) = low x r.val l.val := by
  unfold low
  pointwise [arrR]
  by_cases hr : r.val < 240
  · rw [dif_neg (by omega), if_pos hr, zero_at]
  · rw [dif_pos (by omega), if_neg hr]
    exact (tab_at x ⟨r.val - 240, by omega⟩ l).symm

theorem arrG_at (x : FVec Ideal S1024 .f32) (z : Fin 1) (l : Fin 1024) : arrG x (ix2 z l) = col x l.val := by
  rw [col_at]
  pointwise [arrG]

theorem read_v1 : (V m c main_v1 : FVec Ideal S8448x2816 .bf16) = arrA (m ((c.tc : Thread nD τ).loc main_arg0)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S2816x1024 .bf16) = truncf (F := Ideal) (φ := .f32) .bf16 (m ((c.tc : Thread nD τ).loc main_arg1)) bitsLt_bf16_f32 := by
  show StableHlo.after _ _ (Proc.devRef .tc main_v2) = _
  after_reads_simp

theorem read_v3 : (V m c main_v3 : FVec Ideal S8448x1024 .f32) = arrR (m ((c.tc : Thread nD τ).loc main_arg2)) := by
  show StableHlo.after _ _ (Proc.devRef .tc main_v3) = _
  after_reads_simp
  simp -implicitDefEqProofs only [TRef.toBuf, TRef.ofBuf, cast_cast, cast_eq]
  unfold arrR zero
  rfl

theorem read_v4 : (V m c main_v4 : FVec Ideal S1x1024 .f32) = arrG (m ((c.tc : Thread nD τ).loc main_arg3)) := by
  show StableHlo.after _ _ (Proc.devRef .tc main_v4) = _
  after_reads_simp
  unfold arrG
  rfl

abbrev in0 : FVec Ideal S8208x2816 .f32 := m ((c.tc : Thread nD τ).loc main_arg0)
abbrev in1 : FVec Ideal S2816x1024 .f32 := m ((c.tc : Thread nD τ).loc main_arg1)
abbrev in2 : FVec Ideal S8208x1024 .f32 := m ((c.tc : Thread nD τ).loc main_arg2)
abbrev in3 : FVec Ideal S1024 .f32 := m ((c.tc : Thread nD τ).loc main_arg3)

theorem held : Held m c (low (in0 m c)) (tab (in1 m c)) (low (in2 m c)) (col (in3 m c)) where
  a i := (congrFun (read_v1 m c) i).trans ((congrArg (arrA _) (eq_ix2 i)).trans (arrA_at _ (i 0) (i 1)))
  b i := (congrFun (read_v2 m c) i).trans ((congrArg (in1 m c) (eq_ix2 i)).trans (tab_at _ (i 0) (i 1)).symm)
  r i := (congrFun (read_v3 m c) i).trans ((congrArg (arrR _) (eq_ix2 i)).trans (arrR_at _ (i 0) (i 1)))
  g i := (congrFun (read_v4 m c) i).trans ((congrArg (arrG _) (eq_ix2 i)).trans (arrG_at _ (i 0) (i 1)))

/-- The array without the padding. -/
def cutout (y : Vec Ideal S8448x1024 .f32) : FVec Ideal S8208x1024 .f32 :=
  extractStridedSlice S8208x1024 ![240, 0] y slices_S8448x1024_S8208x1024_240_0

theorem cutout_at (f : ℕ → ℕ → EReal) (r : Fin 8208) (l : Fin 1024) : cutout (arr f) (ix2 r l) = f (240 + r.val) l.val := by
  have e : cutout (arr f) (ix2 r l) = arr f (ix2 (⟨240 + r.val, by omega⟩ : Fin 8448) l) := by
    generalize arr f = z
    pointwise [cutout]
  exact e

section
variable (x : FVec Ideal S8208x2816 .f32) (w : FVec Ideal S2816x1024 .f32) (y : FVec Ideal S8208x1024 .f32) (g : FVec Ideal S1024 .f32)

open Cert.Reference16Ideal.Read

theorem ref_sum (r : Fin 8208) (l : Fin 1024) : val_main_v1 (F := Ideal) x w y (ix2 r l) = summed 2816 (tab x) (tab w) (tab y) r.val l.val := by
  rw [val_main_v1_apply, val_main_v0_apply]
  unfold summed
  rw [add_comm, tab_at]
  refine congrArg (y (ix2 r l) + ·) (Finset.sum_congr rfl fun k _ => ?_)
  rw [tab_at, tab_at]
  congr 2 <;> exact idx2 rfl rfl

theorem ref_size (r : Fin 8208) (z : Fin 1) : val_main_v8 (F := Ideal) x w y (ix2 r z) = size (summed 2816 (tab x) (tab w) (tab y) r.val) := by
  rw [val_main_v8_apply, val_main_v7_apply, val_main_v6_apply, val_main_v5_apply, val_main_v4_apply, val_main_cst_0_apply, val_main_cst_1_apply,
    show idx_main_v4 (ix2 r z) = ix1 r from funext fun a => match a with | ⟨0, _⟩ => rfl, val_main_v3_apply, val_main_cst_apply, none_host, zero_add]
  refine congrArg (fun s : EReal => Ideal.div s _ + _) (Finset.sum_congr rfl fun j _ => ?_)
  rw [show idx_main_v3 (ix1 r) j = ix2 r j from idx2 rfl rfl, val_main_v2_apply, ref_sum]
  rfl

theorem ref_norm (r : Fin 8208) (l : Fin 1024) : val_main_v14 (F := Ideal) x w y g (ix2 r l) = normed (summed 2816 (tab x) (tab w) (tab y) r.val) (col g) l.val := by
  rw [val_main_v14_apply, val_main_v13_apply, val_main_v12_apply, val_main_v11_apply, val_main_v10_apply, val_main_v9_apply, ref_sum,
    show idx_main_v10 (ix2 r l) = ix2 r (0 : Fin 1) from idx2 rfl rfl, ref_size,
    show idx_main_v12 (idx_main_v13 (ix2 r l)) = ix1 l from funext fun a => match a with | ⟨0, _⟩ => rfl, ← col_at g l]
  rfl

theorem value_sum : cutout (arr (summed 2816 (low x) (tab w) (low y))) = val_main_v1 (F := Ideal) x w y := funext fun i => by
  rw [eq_ix2 i]
  exact (cutout_at _ (i 0) (i 1)).trans ((congrFun (low_summed x _ y _) _).trans (ref_sum x w y (i 0) (i 1)).symm)

theorem value_norm : cutout (arr (fun r => normed (summed 2816 (low x) (tab w) (low y) r) (col g))) = val_main_v14 (F := Ideal) x w y g := funext fun i => by
  rw [eq_ix2 i]
  exact (cutout_at _ (i 0) (i 1)).trans ((congrArg (normed · (col g) _) (low_summed x _ y _)).trans (ref_norm x w y g (i 0) (i 1)).symm)

end

theorem algebraic : Cert.algebraic_Kernel16Ideal_Reference16Ideal := by
  intro m g m' g' _ hargs
  refine ⟨fun c => cutout (arr (summed 2816 (low (in0 m c)) (tab (in1 m c)) (low (in2 m c)))),
    fun c => cutout (arr (fun r => normed (summed 2816 (low (in0 m c)) (tab (in1 m c)) (low (in2 m c)) r) (col (in3 m c)))),
    (θ_run _ _ _).mono (fun r h c => ⟨(h c).1.trans (congrArg cutout (final4 m c (held m c))), (h c).2.1.trans (congrArg cutout (final5 m c (held m c))), (h c).2.2⟩)
      (Cert.Kernel16Ideal.Value.run m g),
    (θ_run _ _ _).mono (fun r h c => ?_) (Cert.Reference16Ideal.Value.run m' g')⟩
  obtain ⟨h1, h2, hrest⟩ := h c
  obtain ⟨a0, a1, a2, a3⟩ := hargs c
  refine ⟨h1.trans ?_, h2.trans ?_, hrest⟩
  · rw [Cert.Reference16Ideal.Read.val_main_v1_eq, a0, a1, a2]
    exact (value_sum _ _ _).symm
  · rw [Cert.Reference16Ideal.Read.val_main_v14_eq, a0, a1, a2, a3]
    exact (value_norm _ _ _ _).symm
-- ==== Proof.Value17.lean ====
/-
  The output product of a mixer with the residual and the scaled rows of the sum: the kernel's, a tile of 768 rows
  at a time, are the reference's.
-/
module
public import proofs.«01_k».proof.Proof.Table
public import proofs.«01_k».proof.Proof.Gen.Kernel17Ideal.Run
public import proofs.«01_k».proof.Proof.Gen.Reference17Ideal.Run
public import proofs.«01_k».proof.Proof.Gen.Reference17Ideal.Read
public import proofs.«01_k».proof.Defs

set_option maxRecDepth 65536
@[expose] public noncomputable section
namespace Cert.Kernel17Ideal.Out
open Cert.Bwd
open Gen
open Idealize.ShloMosaic TcCoe Idealize.SL.Sem StableHlo
open Pipeline (Dat)

section
variable {a : Vec Ideal S768x1024 .bf16} {w : Vec Ideal S1024x1024 .bf16} {x : Vec Ideal S768x1024 .f32} {g : Vec Ideal S1x1024 .f32} {r : Fin 768}
  {s gs : ℕ → EReal} (hs : ∀ l : Fin 1024, ∑ k : Fin 1024, a (ix2 r k) * w (ix2 k l) + x (ix2 r l) = s l.val)
  (hg : ∀ l : Fin 1024, g (ix2 0 l) = gs l.val)

include hs in
theorem sum_at (l : Fin 1024) : k0_pay1 a w x (ix2 r l) = s l.val := by
  rw [← hs]
  pointwise [k0_pay1]

include hs hg in
theorem norm_at (l : Fin 1024) : k0_pay3 a w x g (ix2 r l) = normed s gs l.val := by
  have e := sum_at hs
  unfold k0_pay3 k0_pay2
  generalize k0_pay1 a w x = p at e ⊢
  pointwise []
  simp only [e, hg]
  rfl

end

variable (m : (ℓ : Loc nD τ sig) → Buf (Elt Ideal) ℓ) (c : Dev nD)

theorem word (t : Fin cfg0.N) : (BitVec.ofNat 32 (grid0.coords t 0).val).toNat = t.val := by
  have h : t.val < 11 := t.isLt.trans_eq N_0
  have e : (grid0.coords t 0).val = t.val / 1 % 11 := Pipeline.Grid.coords_val t 0 (by decide) rfl
  rw [e, BitVec.toNat_ofNat]
  omega

theorem row (t : Fin cfg0.N) (n : ℕ) : (BitVec.ofNat 32 (grid0.coords t 0).val).toNat * 768 + 1 * n = t.val * 768 + n := by
  rw [word, Nat.one_mul]

theorem column (q n : ℕ) : 0 * q + 1 * n = n := by omega

/-- The kernel's arrays hold these numbers. -/
structure Held (A B R : ℕ → ℕ → EReal) (G : ℕ → EReal) : Prop where
  a : ∀ i : S8448x1024.Idx, (V m c main_v1 : Vec Ideal S8448x1024 .bf16) i = A (i 0).val (i 1).val
  b : ∀ i : S1024x1024.Idx, (V m c main_v2 : Vec Ideal S1024x1024 .bf16) i = B (i 0).val (i 1).val
  r : ∀ i : S8448x1024.Idx, (V m c main_v3 : Vec Ideal S8448x1024 .f32) i = R (i 0).val (i 1).val
  g : ∀ i : S1x1024.Idx, (V m c main_v4 : Vec Ideal S1x1024 .f32) i = G (i 1).val

abbrev tileA (t : Fin cfg0.N) : Vec Ideal S768x1024 .bf16 := iblk m c 0 t
abbrev tileW (t : Fin cfg0.N) : Vec Ideal S1024x1024 .bf16 := iblk m c 1 t
abbrev tileR (t : Fin cfg0.N) : Vec Ideal S768x1024 .f32 := iblk m c 2 t

/-- The array of these numbers. -/
def arr (f : ℕ → ℕ → EReal) : S8448x1024.Idx → EReal := fun i => f (i 0).val (i 1).val

section
variable {A B R : ℕ → ℕ → EReal} {G : ℕ → EReal} (H : Held m c A B R G)
include H

theorem tile_sum (t : Fin cfg0.N) (r : Fin 768) (l : Fin 1024) :
    ∑ k : Fin 1024, tileA m c t (ix2 r k) * tileW m c t (ix2 k l) + tileR m c t (ix2 r l) = summed 1024 A B R (t.val * 768 + r.val) l.val := by
  unfold tileA tileW tileR iblk summed
  refine congrArg₂ (· + ·) (Finset.sum_congr rfl fun k _ => ?_) ?_
  · rw [View.read_apply, View.read_apply]
    exact congrArg₂ (· * ·) ((H.a _).trans (congrArg₂ A (row t r.val) (column 1024 k.val))) ((H.b _).trans (congrArg₂ B (column 1024 k.val) (column 1024 l.val)))
  · rw [View.read_apply]
    exact (H.r _).trans (congrArg₂ R (row t r.val) (column 1024 l.val))

theorem tile_gain (t : Fin cfg0.N) (l : Fin 1024) : (iblk m c 3 t : Vec Ideal S1x1024 .f32) (ix2 0 l) = G l.val := by
  unfold iblk
  rw [View.read_apply]
  exact (H.g _).trans (congrArg G (column 1024 l.val))

theorem after4 (t : Fin cfg0.N) (y : S768x1024.Idx) : ((dats m 0 c).after 4 t : Vec Ideal S768x1024 .f32) y = summed 1024 A B R (t.val * 768 + (y 0).val) (y 1).val := by
  rw [after0_4, eq_ix2 y]
  unfold out0_4
  rw [View.canon_unit_zero (S := S768x1024) hz, View.ld_unit_zero (S := S768x1024) hz, View.ld_unit_zero (S := S1024x1024) hz, View.ld_unit_zero (S := S768x1024) hz]
  exact sum_at (tile_sum m c H t (y 0)) (y 1)

theorem after5 (t : Fin cfg0.N) (y : S768x1024.Idx) : ((dats m 0 c).after 5 t : Vec Ideal S768x1024 .bf16) y = normed (summed 1024 A B R (t.val * 768 + (y 0).val)) G (y 1).val := by
  rw [after0_5, eq_ix2 y]
  unfold out0_5
  rw [View.canon_unit_zero (S := S768x1024) hz, View.ld_unit_zero (S := S768x1024) hz, View.ld_unit_zero (S := S1024x1024) hz, View.ld_unit_zero (S := S768x1024) hz,
    View.ld_unit_zero (S := S1x1024) hz]
  exact norm_at (tile_sum m c H t (y 0)) (tile_gain m c H t) (y 1)

omit H in
theorem inside (i : S8448x1024.Idx) : ∃ t : Fin cfg0.N,
    ((BitVec.ofNat 32 (grid0.coords t 0).val).toNat * 768 ≤ (i 0).val ∧ (i 0).val < (BitVec.ofNat 32 (grid0.coords t 0).val).toNat * 768 + 768)
      ∧ 0 * 1024 ≤ (i 1).val ∧ (i 1).val < 0 * 1024 + 1024 := by
  have h0 : (i 0).val < 8448 := (i 0).isLt
  have h1 : (i 1).val < 1024 := (i 1).isLt
  refine ⟨⟨(i 0).val / 768, by rw [show cfg0.N = 11 from N_0]; omega⟩, ?_⟩
  rw [word]
  dsimp only
  omega

theorem final4 : (dats m 0 c).arrAt 4 cfg0.N = (arr (summed 1024 A B R) : Buf (Elt Ideal) ((c.tc : Thread nD τ).loc main_v5_0)) :=
  (dats m 0 c).arrAt_eq_of_cover 4 _ (fun t _ => by
    have L := after4 m c H t
    show (cfg0.win 4).cut (grid0.coords t) ((dats m 0 c).after 4 t) = _
    generalize (dats m 0 c).after 4 t = o at L ⊢
    funext y
    rw [View.read_apply]
    exact (L y).trans (congrArg₂ (summed 1024 A B R) (row t _).symm (column 1024 _).symm)) fun i => by
    obtain ⟨t, h0, h1⟩ := inside i
    refine ⟨t, flush0_4 t, ?_⟩
    show i ∈ ((View.whole main_v5_0).slice (win0_4.rect t)).set
    rw [View.set_slice_whole, Rect.mem_set_unit]
    intro a
    match a with
    | ⟨0, _⟩ => exact h0
    | ⟨1, _⟩ => exact h1

theorem final5 : (dats m 0 c).arrAt 5 cfg0.N = (arr (fun r => normed (summed 1024 A B R r) G) : Buf (Elt Ideal) ((c.tc : Thread nD τ).loc main_v5_1)) :=
  (dats m 0 c).arrAt_eq_of_cover 5 _ (fun t _ => by
    have L := after5 m c H t
    show (cfg0.win 5).cut (grid0.coords t) ((dats m 0 c).after 5 t) = _
    generalize (dats m 0 c).after 5 t = o at L ⊢
    funext y
    rw [View.read_apply]
    exact (L y).trans (congrArg₂ (fun r => normed (summed 1024 A B R r) G) (row t _).symm (column 1024 _).symm)) fun i => by
    obtain ⟨t, h0, h1⟩ := inside i
    refine ⟨t, flush0_5 t, ?_⟩
    show i ∈ ((View.whole main_v5_1).slice (win0_5.rect t)).set
    rw [View.set_slice_whole, Rect.mem_set_unit]
    intro a
    match a with
    | ⟨0, _⟩ => exact h0
    | ⟨1, _⟩ => exact h1

end

def arrA (x : FVec Ideal S8208x1024 .f32) : FVec Ideal S8448x1024 .bf16 :=
  truncf .bf16 (pad S8448x1024 ![240, 0] ![0, 0] ![0, 0] x zero pads_S8208x1024_S8448x1024_24000_000 h_S_) bitsLt_bf16_f32

def arrR (x : FVec Ideal S8208x1024 .f32) : FVec Ideal S8448x1024 .f32 :=
  pad S8448x1024 ![240, 0] ![0, 0] ![0, 0] x zero pads_S8208x1024_S8448x1024_24000_000 h_S_

def arrG (x : FVec Ideal S1024 .f32) : FVec Ideal S1x1024 .f32 := shapeCast S1x1024 x shapeCasts_S1024_S1x1024

theorem arrA_at (x : FVec Ideal S8208x1024 .f32) (r : Fin 8448) (k : Fin 1024) : arrA x (ix2 r k) = low x r.val k.val := by
  unfold low
  pointwise [arrA]
  by_cases hr : r.val < 240
  · rw [dif_neg (by omega), if_pos hr, zero_at]
  · rw [dif_pos (by omega), if_neg hr]
    exact (tab_at x ⟨r.val - 240, by omega⟩ k).symm

theorem arrR_at (x : FVec Ideal S8208x1024 .f32) (r : Fin 8448) (l : Fin 1024) : arrR x (ix2 r l) = low x r.val l.val := by
  unfold low
  pointwise [arrR]
  by_cases hr : r.val < 240
  · rw [dif_neg (by omega), if_pos hr, zero_at]
  · rw [dif_pos (by omega), if_neg hr]
    exact (tab_at x ⟨r.val - 240, by omega⟩ l).symm

theorem arrG_at (x : FVec Ideal S1024 .f32) (z : Fin 1) (l : Fin 1024) : arrG x (ix2 z l) = col x l.val := by
  rw [col_at]
  pointwise [arrG]

theorem read_v1 : (V m c main_v1 : FVec Ideal S8448x1024 .bf16) = arrA (m ((c.tc : Thread nD τ).loc main_arg0)) := by
  show StableHlo.after _ _ (Proc.devRef .tc main_v1) = _
  after_reads_simp
  simp -implicitDefEqProofs only [TRef.toBuf, TRef.ofBuf, cast_cast, cast_eq]
  unfold arrA zero
  rfl

theorem read_v2 : (V m c main_v2 : FVec Ideal S1024x1024 .bf16) = truncf (F := Ideal) (φ := .f32) .bf16 (m ((c.tc : Thread nD τ).loc main_arg1)) bitsLt_bf16_f32 := by
  show StableHlo.after _ _ (Proc.devRef .tc main_v2) = _
  after_reads_simp

theorem read_v3 : (V m c main_v3 : FVec Ideal S8448x1024 .f32) = arrR (m ((c.tc : Thread nD τ).loc main_arg2)) := by
  show StableHlo.after _ _ (Proc.devRef .tc main_v3) = _
  after_reads_simp
  simp -implicitDefEqProofs only [TRef.toBuf, TRef.ofBuf, cast_cast, cast_eq]
  unfold arrR zero
  rfl

theorem read_v4 : (V m c main_v4 : FVec Ideal S1x1024 .f32) = arrG (m ((c.tc : Thread nD τ).loc main_arg3)) := by
  show StableHlo.after _ _ (Proc.devRef .tc main_v4) = _
  after_reads_simp
  unfold arrG
  rfl

abbrev in0 : FVec Ideal S8208x1024 .f32 := m ((c.tc : Thread nD τ).loc main_arg0)
abbrev in1 : FVec Ideal S1024x1024 .f32 := m ((c.tc : Thread nD τ).loc main_arg1)
abbrev in2 : FVec Ideal S8208x1024 .f32 := m ((c.tc : Thread nD τ).loc main_arg2)
abbrev in3 : FVec Ideal S1024 .f32 := m ((c.tc : Thread nD τ).loc main_arg3)

theorem held : Held m c (low (in0 m c)) (tab (in1 m c)) (low (in2 m c)) (col (in3 m c)) where
  a i := (congrFun (read_v1 m c) i).trans ((congrArg (arrA _) (eq_ix2 i)).trans (arrA_at _ (i 0) (i 1)))
  b i := (congrFun (read_v2 m c) i).trans ((congrArg (in1 m c) (eq_ix2 i)).trans (tab_at _ (i 0) (i 1)).symm)
  r i := (congrFun (read_v3 m c) i).trans ((congrArg (arrR _) (eq_ix2 i)).trans (arrR_at _ (i 0) (i 1)))
  g i := (congrFun (read_v4 m c) i).trans ((congrArg (arrG _) (eq_ix2 i)).trans (arrG_at _ (i 0) (i 1)))

/-- The array without the padding. -/
def cutout (y : Vec Ideal S8448x1024 .f32) : FVec Ideal S8208x1024 .f32 :=
  extractStridedSlice S8208x1024 ![240, 0] y slices_S8448x1024_S8208x1024_240_0

theorem cutout_at (f : ℕ → ℕ → EReal) (r : Fin 8208) (l : Fin 1024) : cutout (arr f) (ix2 r l) = f (240 + r.val) l.val := by
  have e : cutout (arr f) (ix2 r l) = arr f (ix2 (⟨240 + r.val, by omega⟩ : Fin 8448) l) := by
    generalize arr f = z
    pointwise [cutout]
  exact e

section
variable (x : FVec Ideal S8208x1024 .f32) (w : FVec Ideal S1024x1024 .f32) (y : FVec Ideal S8208x1024 .f32) (g : FVec Ideal S1024 .f32)

open Cert.Reference17Ideal.Read

theorem ref_sum (r : Fin 8208) (l : Fin 1024) : val_main_v1 (F := Ideal) x w y (ix2 r l) = summed 1024 (tab x) (tab w) (tab y) r.val l.val := by
  rw [val_main_v1_apply, val_main_v0_apply]
  unfold summed
  rw [add_comm, tab_at]
  refine congrArg (y (ix2 r l) + ·) (Finset.sum_congr rfl fun k _ => ?_)
  rw [tab_at, tab_at]
  congr 2 <;> exact idx2 rfl rfl

theorem ref_size (r : Fin 8208) (z : Fin 1) : val_main_v8 (F := Ideal) x w y (ix2 r z) = size (summed 1024 (tab x) (tab w) (tab y) r.val) := by
  rw [val_main_v8_apply, val_main_v7_apply, val_main_v6_apply, val_main_v5_apply, val_main_v4_apply, val_main_cst_0_apply, val_main_cst_1_apply,
    show idx_main_v4 (ix2 r z) = ix1 r from funext fun a => match a with | ⟨0, _⟩ => rfl, val_main_v3_apply, val_main_cst_apply, none_host, zero_add]
  refine congrArg (fun s : EReal => Ideal.div s _ + _) (Finset.sum_congr rfl fun j _ => ?_)
  rw [show idx_main_v3 (ix1 r) j = ix2 r j from idx2 rfl rfl, val_main_v2_apply, ref_sum]
  rfl

theorem ref_norm (r : Fin 8208) (l : Fin 1024) : val_main_v14 (F := Ideal) x w y g (ix2 r l) = normed (summed 1024 (tab x) (tab w) (tab y) r.val) (col g) l.val := by
  rw [val_main_v14_apply, val_main_v13_apply, val_main_v12_apply, val_main_v11_apply, val_main_v10_apply, val_main_v9_apply, ref_sum,
    show idx_main_v10 (ix2 r l) = ix2 r (0 : Fin 1) from idx2 rfl rfl, ref_size,
    show idx_main_v12 (idx_main_v13 (ix2 r l)) = ix1 l from funext fun a => match a with | ⟨0, _⟩ => rfl, ← col_at g l]
  rfl

theorem value_sum : cutout (arr (summed 1024 (low x) (tab w) (low y))) = val_main_v1 (F := Ideal) x w y := funext fun i => by
  rw [eq_ix2 i]
  exact (cutout_at _ (i 0) (i 1)).trans ((congrFun (low_summed x _ y _) _).trans (ref_sum x w y (i 0) (i 1)).symm)

theorem value_norm : cutout (arr (fun r => normed (summed 1024 (low x) (tab w) (low y) r) (col g))) = val_main_v14 (F := Ideal) x w y g := funext fun i => by
  rw [eq_ix2 i]
  exact (cutout_at _ (i 0) (i 1)).trans ((congrArg (normed · (col g) _) (low_summed x _ y _)).trans (ref_norm x w y g (i 0) (i 1)).symm)

end

theorem algebraic : Cert.algebraic_Kernel17Ideal_Reference17Ideal := by
  intro m g m' g' _ hargs
  refine ⟨fun c => cutout (arr (summed 1024 (low (in0 m c)) (tab (in1 m c)) (low (in2 m c)))),
    fun c => cutout (arr (fun r => normed (summed 1024 (low (in0 m c)) (tab (in1 m c)) (low (in2 m c)) r) (col (in3 m c)))),
    (θ_run _ _ _).mono (fun r h c => ⟨(h c).1.trans (congrArg cutout (final4 m c (held m c))), (h c).2.1.trans (congrArg cutout (final5 m c (held m c))), (h c).2.2⟩)
      (Cert.Kernel17Ideal.Value.run m g),
    (θ_run _ _ _).mono (fun r h c => ?_) (Cert.Reference17Ideal.Value.run m' g')⟩
  obtain ⟨h1, h2, hrest⟩ := h c
  obtain ⟨a0, a1, a2, a3⟩ := hargs c
  refine ⟨h1.trans ?_, h2.trans ?_, hrest⟩
  · rw [Cert.Reference17Ideal.Read.val_main_v1_eq, a0, a1, a2]
    exact (value_sum _ _ _).symm
  · rw [Cert.Reference17Ideal.Read.val_main_v14_eq, a0, a1, a2, a3]
    exact (value_norm _ _ _ _).symm
-- ==== Proof.Value18.lean ====
/-
  The gradients of a mixer's output, its gate's logits and its heads' sums: the kernel's, a tile of 256 rows at a time,
  are the reference's.
-/
module
public import proofs.«01_k».proof.Proof.Table
public import proofs.«01_k».proof.Proof.Gen.Kernel18Ideal.Run
public import proofs.«01_k».proof.Proof.Gen.Reference18Ideal.Run
public import proofs.«01_k».proof.Proof.Gen.Reference18Ideal.Read
public import proofs.«01_k».proof.Defs
public import Idealize.ShloMosaic.Lib.Pipeline.ValueKit

set_option maxRecDepth 65536
@[expose] public noncomputable section
namespace Cert.Kernel18Ideal.Dx
open Cert.Bwd
open Gen
open Idealize.ShloMosaic TcCoe Idealize.SL.Sem StableHlo
open Pipeline (Dat)

/-- A block of the gradient of the mixer's output, of the gate's logits, and of the heads' sums. -/
def doB (d : FVec Ideal S256x128 .f32) (g s : Vec Ideal S256x128 .f32) : FVec Ideal S256x128 .bf16 :=
  truncf .bf16 (mulf (mulf d (logistic (shapeCast S256x128 g shapeCasts_S256x128_S256x128))) (shapeCast S256x128 s shapeCasts_S256x128_S256x128)) bitsLt_bf16_f32

def dgB (d : FVec Ideal S256x128 .f32) (g o : Vec Ideal S256x128 .f32) : FVec Ideal S256x128 .bf16 :=
  truncf .bf16 (mulf (mulf (mulf d (shapeCast S256x128 o shapeCasts_S256x128_S256x128)) (logistic (shapeCast S256x128 g shapeCasts_S256x128_S256x128)))
    (subf (broadcast S256x128 (Scalar.ofBits .f32 0x3F800000#32)) (logistic (shapeCast S256x128 g shapeCasts_S256x128_S256x128)))) bitsLt_bf16_f32

def prodB (d : FVec Ideal S256x128 .f32) (g s o : Vec Ideal S256x128 .f32) : FVec Ideal S256x128 .f32 :=
  mulf (extf .f32 (doB d g s) bitsLt_bf16_f32) (shapeCast S256x128 o shapeCasts_S256x128_S256x128)

def lanes : IVec S256x128 1 := broadcastTo S256x128 (shapeCast S1x128 k0_pay2 shapeCasts_S1x128_S1x128) broadcasts_S1x128_S256x128

def sumB (t : FVec Ideal S256x128 .f32) : FVec Ideal S256x128 .f32 :=
  broadcastTo S256x128 (shapeCast S256x1 (shapeCast S256x1 (multiReduction .add [1] S256 t 0x00000000#32 reduces_S256x128_S256 (.inl rfl) rfl)
    shapeCasts_S256_S256x1) shapeCasts_S256x1_S256x1) broadcasts_S256x1_S256x128

def deB (t : FVec Ideal S256x128 .f32) : FVec Ideal S256x128 .f32 :=
  select lanes (sumB (select lanes t (broadcast S256x128 (Scalar.ofBits .f32 0x00000000#32))))
    (sumB (select lanes (broadcast S256x128 (Scalar.ofBits .f32 0x00000000#32)) t))

theorem lanes_at (r : Fin 256) (q : Fin 128) : lanes (ix2 r q) = BitVec.ofBool (decide (q.val < 64)) := by
  pointwise [lanes, k0_pay2]
  exact WordCmp.cmpi_slt_ofNat (by omega) (by decide)

theorem sumB_at (t : FVec Ideal S256x128 .f32) (r : Fin 256) (q : Fin 128) : sumB t (ix2 r q) = ∑ k : Fin 128, t (ix2 r k) := by
  pointwise [sumB]

section
variable {D G S O : ℕ → EReal} {r : Fin 256}

/-- The gradients at an entry, and a head's sum. -/
abbrev doN (D G S : ℕ → EReal) (l : ℕ) : EReal := D l * Ideal.logistic (G l) * S l
abbrev dgN (D G O : ℕ → EReal) (l : ℕ) : EReal := D l * O l * Ideal.logistic (G l) * (1 - Ideal.logistic (G l))
abbrev deN (D G S O : ℕ → EReal) (l : ℕ) : EReal := ∑ k : Fin 64, doN D G S (64 * (l / 64) + k.val) * O (64 * (l / 64) + k.val)

section
variable {o : ℕ} {d : FVec Ideal S256x128 .f32} {g s u : Vec Ideal S256x128 .f32} (hd : ∀ q : Fin 128, d (ix2 r q) = D (o + q.val))
  (hg : ∀ q : Fin 128, g (ix2 r q) = G (o + q.val)) (hs : ∀ q : Fin 128, s (ix2 r q) = S (o + q.val)) (hu : ∀ q : Fin 128, u (ix2 r q) = O (o + q.val))

include hd hg hs in
theorem doB_at (q : Fin 128) : doB d g s (ix2 r q) = doN D G S (o + q.val) := by
  unfold doN
  rw [← hd, ← hg, ← hs]
  pointwise [doB]

include hd hg hu in
theorem dgB_at (q : Fin 128) : dgB d g u (ix2 r q) = dgN D G O (o + q.val) := by
  unfold dgN
  rw [← hd, ← hg, ← hu]
  pointwise [dgB]

include hd hg hs hu in
theorem deB_at (h : o % 128 = 0) (q : Fin 128) : deB (prodB d g s u) (ix2 r q) = deN D G S O (o + q.val) := by
  have e : ∀ q : Fin 128, prodB d g s u (ix2 r q) = doN D G S (o + q.val) * O (o + q.val) := fun q => by
    rw [← doB_at hd hg hs, ← hu]
    pointwise [prodB]
  have z : (Scalar.ofBits .f32 0x00000000#32 : Ideal .f32) = 0 := none_host
  unfold deB deN
  show Scalar.select _ _ _ = _
  have hq := q.isLt
  rw [lanes_at, sumB_at, sumB_at, Scalar.select_ofBool, Fin.sum_univ_add (a := 64) (b := 64), Fin.sum_univ_add (a := 64) (b := 64)]
  have a1 : ∀ k : Fin 64, select lanes (prodB d g s u) (broadcast S256x128 (Scalar.ofBits .f32 0x00000000#32)) (ix2 r (Fin.castAdd 64 k))
      = doN D G S (o + k.val) * O (o + k.val) := fun k => by
    show Scalar.select _ _ _ = _
    rw [lanes_at, Scalar.select_ofBool, if_pos (decide_eq_true (show (Fin.castAdd 64 k).val < 64 from k.isLt)), e]
    rfl
  have a2 : ∀ k : Fin 64, select lanes (prodB d g s u) (broadcast S256x128 (Scalar.ofBits .f32 0x00000000#32)) (ix2 r (Fin.natAdd 64 k)) = 0 := fun k => by
    show Scalar.select _ _ _ = _
    rw [lanes_at, Scalar.select_ofBool, if_neg (by simp)]
    exact z
  have a3 : ∀ k : Fin 64, select lanes (broadcast S256x128 (Scalar.ofBits .f32 0x00000000#32)) (prodB d g s u) (ix2 r (Fin.castAdd 64 k)) = 0 := fun k => by
    show Scalar.select _ _ _ = _
    rw [lanes_at, Scalar.select_ofBool, if_pos (decide_eq_true (show (Fin.castAdd 64 k).val < 64 from k.isLt))]
    exact z
  have a4 : ∀ k : Fin 64, select lanes (broadcast S256x128 (Scalar.ofBits .f32 0x00000000#32)) (prodB d g s u) (ix2 r (Fin.natAdd 64 k))
      = doN D G S (o + (64 + k.val)) * O (o + (64 + k.val)) := fun k => by
    show Scalar.select _ _ _ = _
    rw [lanes_at, Scalar.select_ofBool, if_neg (by simp), e]
    rfl
  rw [Finset.sum_congr rfl fun k _ => a1 k, Finset.sum_congr rfl fun k _ => a2 k, Finset.sum_congr rfl fun k _ => a3 k, Finset.sum_congr rfl fun k _ => a4 k,
    Finset.sum_const_zero, add_zero, zero_add]
  by_cases b : q.val < 64
  · rw [if_pos (decide_eq_true b), show 64 * ((o + q.val) / 64) = o by omega]
  · rw [if_neg (by simpa using b), show 64 * ((o + q.val) / 64) = o + 64 by omega]
    simp only [Nat.add_assoc]

theorem lane {off : ℕ} {x : S256x128.Idx} {l : Fin 1024} (hx : ∀ a, ((ix2 r l : S256x1024.Idx) a : ℕ) = (![0, off] : Fin 2 → ℕ) a + (x a).val) :
    ∃ q : Fin 128, x = ix2 r q ∧ l.val = off + q.val :=
  ⟨x 1, idx2 (by have := hx 0; exact (Nat.zero_add _).symm.trans this.symm) rfl, hx 1⟩

include hd hg hs in
theorem do_tile (l : Fin 1024) : View.TileAt (Val := Elt Ideal) (e := .bf16) (ix2 r l : S256x1024.Idx) ![0, o] ![256, 128] (doB d g s) (doN D G S l.val) := fun x hx => by
  obtain ⟨q, rfl, e⟩ := lane hx
  rw [e, doB_at hd hg hs]

include hd hg hu in
theorem dg_tile (l : Fin 1024) : View.TileAt (Val := Elt Ideal) (e := .bf16) (ix2 r l : S256x1024.Idx) ![0, o] ![256, 128] (dgB d g u) (dgN D G O l.val) := fun x hx => by
  obtain ⟨q, rfl, e⟩ := lane hx
  rw [e, dgB_at hd hg hu]

include hd hg hs hu in
theorem de_tile (h : o % 128 = 0) (l : Fin 1024) : View.TileAt (Val := Elt Ideal) (e := .f32) (ix2 r l : S256x1024.Idx) ![0, o] ![256, 128] (deB (prodB d g s u)) (deN D G S O l.val) := fun x hx => by
  obtain ⟨q, rfl, e⟩ := lane hx
  rw [e, deB_at hd hg hs hu h]

end

variable (c : Dev nD) (i : grid0.Coords) (p1 : Memref sig .tc .vmem S256x1024 .bf16) (q1 : p1.IsWhole) (p2 : Memref sig .tc .vmem S1024x1024 .bf16) (q2 : p2.IsWhole) (p3 : Memref sig .tc .vmem S256x1024 .f32) (q3 : p3.IsWhole) (p4 : Memref sig .tc .vmem S256x1024 .f32) (q4 : p4.IsWhole) (p5 : Memref sig .tc .vmem S256x1024 .f32) (q5 : p5.IsWhole) (p6 : Memref sig .tc .vmem S256x1024 .bf16) (q6 : p6.IsWhole) (p7 : Memref sig .tc .vmem S256x1024 .bf16) (q7 : p7.IsWhole) (p8 : Memref sig .tc .vmem S256x1024 .f32) (q8 : p8.IsWhole)
  {x0 : Vec Ideal S256x1024 .bf16} {x1 : Vec Ideal S1024x1024 .bf16} {x2 x3 x4 : Vec Ideal S256x1024 .f32}
  (h0 : ∀ l : Fin 1024, ∑ k : Fin 1024, x0 (ix2 r k) * x1 (ix2 l k) = D l.val) (h2 : ∀ l : Fin 1024, x2 (ix2 r l) = O l.val)
  (h3 : ∀ l : Fin 1024, x3 (ix2 r l) = G l.val) (h4 : ∀ l : Fin 1024, x4 (ix2 r l) = S l.val)

theorem part {off : ℕ} (ho : off + 128 ≤ 1024) : S256x1024.Slices ![0, off] S256x128 :=
  ⟨rfl, fun a => match a with | ⟨0, _⟩ => le_rfl | ⟨1, _⟩ => ho⟩

include h0 in
theorem d_at {off : ℕ} (ho : off + 128 ≤ 1024) (q : Fin 128) :
    extractStridedSlice S256x128 ![0, off]
      (k0_pay3 (View.readAt (Elt Ideal) p1.view (Rect.unit ![0, 0] S256x1024.size inb_S256x1024_S256x1024_0_0).toLoadRect (q1.unread x0))
        (View.readAt (Elt Ideal) p2.view (Rect.unit ![0, 0] S1024x1024.size inb_S1024x1024_S1024x1024_0_0).toLoadRect (q2.unread x1))) (part ho) (ix2 r q) = D (off + q.val) := by
  have hl : off + q.val < 1024 := by omega
  rw [View.readAt_full, View.readAt_full, q1.read_unread, q2.read_unread, ← h0 ⟨off + q.val, hl⟩]
  refine Eq.trans (congrArg (k0_pay3 x0 x1) (idx2 (i := _) (j := ix2 r ⟨off + q.val, hl⟩) (Nat.zero_add _) rfl)) ?_
  pointwise [k0_pay3]

theorem v_at {v : View sig .tc .vmem S256x1024 .f32} {f : v.ty.Contents (Elt Ideal)} {x : Vec Ideal S256x1024 .f32} (hf : v.read (Elt Ideal) f = x)
    {X : ℕ → EReal} (hx : ∀ l : Fin 1024, x (ix2 r l) = X l.val) {off : ℕ} (inb : ∀ a, (![0, off] : Fin 2 → ℕ) a + S256x128.size a ≤ S256x1024.size a) (q : Fin 128) :
    View.readAt (Elt Ideal) v (Rect.unit (s := S256x1024) ![0, off] S256x128.size inb).toLoadRect f (ix2 r q) = X (off + q.val) := by
  have hl : off + q.val < 1024 := by have : off + 128 ≤ 1024 := inb 1; omega
  rw [View.readAt_unit v f inb rfl inb, ← hx ⟨off + q.val, hl⟩, hf]
  exact congrArg x (idx2 ((Nat.zero_add _).trans (Nat.one_mul _)) (congrArg (off + ·) (Nat.one_mul _)))

include h0 h3 h4 in
theorem out5 (l : Fin 1024) : out0_A_5 (F := Ideal) c i p1 q1 p2 q2 p3 q3 p4 q4 p5 q5 p6 q6 p7 q7 p8 q8 x0 x1 x2 x3 x4 (ix2 r l) = doN D G S l.val := by
  unfold out0_A_5
  have C := cover0_A_5 c i p1 q1 p2 q2 p3 q3 p4 q4 p5 q5 p6 q6 p7 q7 p8 q8 x0 x1 x2 x3 x4
  rw [View.read_writes_eq_canon VO0_5 VO0_5.junk _ C]
  refine View.canon_eq_of_allAt _ _ _ (C _) ?_
  unfold kernelRun0_A
  dsimp only
  sl_unfold_words
  iterate 8 refine View.allAt_cons_unit _ _ _ _ _ (do_tile (d_at p1 q1 p2 q2 h0 (by decide)) (v_at (q4.read_unread x3) h3 _) (v_at (q5.read_unread x4) h4 _) l) ?_
  exact View.allAt_nil _ _

include h0 h3 h2 in
theorem out6 (l : Fin 1024) : out0_A_6 (F := Ideal) c i p1 q1 p2 q2 p3 q3 p4 q4 p5 q5 p6 q6 p7 q7 p8 q8 x0 x1 x2 x3 x4 (ix2 r l) = dgN D G O l.val := by
  unfold out0_A_6
  have C := cover0_A_6 c i p1 q1 p2 q2 p3 q3 p4 q4 p5 q5 p6 q6 p7 q7 p8 q8 x0 x1 x2 x3 x4
  rw [View.read_writes_eq_canon VO0_6 VO0_6.junk _ C]
  refine View.canon_eq_of_allAt _ _ _ (C _) ?_
  unfold kernelRun0_A
  dsimp only
  sl_unfold_words
  iterate 8 refine View.allAt_cons_unit _ _ _ _ _ (dg_tile (d_at p1 q1 p2 q2 h0 (by decide)) (v_at (q4.read_unread x3) h3 _) (v_at (q3.read_unread x2) h2 _) l) ?_
  exact View.allAt_nil _ _

include h0 h3 h2 h4 in
theorem out7 (l : Fin 1024) : out0_A_7 (F := Ideal) c i p1 q1 p2 q2 p3 q3 p4 q4 p5 q5 p6 q6 p7 q7 p8 q8 x0 x1 x2 x3 x4 (ix2 r l) = deN D G S O l.val := by
  unfold out0_A_7
  have C := cover0_A_7 c i p1 q1 p2 q2 p3 q3 p4 q4 p5 q5 p6 q6 p7 q7 p8 q8 x0 x1 x2 x3 x4
  rw [View.read_writes_eq_canon VO0_7 VO0_7.junk _ C]
  refine View.canon_eq_of_allAt _ _ _ (C _) ?_
  unfold kernelRun0_A
  dsimp only
  sl_unfold_words
  iterate 8 refine View.allAt_cons_unit _ _ _ _ _ (de_tile (d_at p1 q1 p2 q2 h0 (by decide)) (v_at (q4.read_unread x3) h3 _) (v_at (q5.read_unread x4) h4 _) (v_at (q3.read_unread x2) h2 _) (by decide) l) ?_
  exact View.allAt_nil _ _

end

variable (m : (ℓ : Loc nD τ sig) → Buf (Elt Ideal) ℓ) (c : Dev nD)

theorem word (t : Fin cfg0.N) : (BitVec.ofNat 32 (grid0.coords t 0).val).toNat = t.val := by
  have h : t.val < 33 := t.isLt.trans_eq N_0
  have e : (grid0.coords t 0).val = t.val / 1 % 33 := Pipeline.Grid.coords_val t 0 (by decide) rfl
  rw [e, BitVec.toNat_ofNat]
  omega

theorem row (t : Fin cfg0.N) (n : ℕ) : (BitVec.ofNat 32 (grid0.coords t 0).val).toNat * 256 + 1 * n = t.val * 256 + n := by
  rw [word, Nat.one_mul]

theorem column (q n : ℕ) : 0 * q + 1 * n = n := by omega

/-- The kernel's arrays hold these numbers. -/
structure Held (A B O G S : ℕ → ℕ → EReal) : Prop where
  a : ∀ i : S8448x1024.Idx, (V m c main_v2 : Vec Ideal S8448x1024 .bf16) i = A (i 0).val (i 1).val
  b : ∀ i : S1024x1024.Idx, (V m c main_v3 : Vec Ideal S1024x1024 .bf16) i = B (i 0).val (i 1).val
  o : ∀ i : S8448x1024.Idx, (V m c main_v4 : Vec Ideal S8448x1024 .f32) i = O (i 0).val (i 1).val
  g : ∀ (i : S8448x4224.Idx) (l : Fin 1024), (i 1).val = 3072 + l.val → (V m c main_v0 : Vec Ideal S8448x4224 .f32) i = G (i 0).val l.val
  s : ∀ i : S8448x1024.Idx, (V m c main_v5 : Vec Ideal S8448x1024 .f32) i = S (i 0).val (i 1).val

abbrev tileA (t : Fin cfg0.N) : Vec Ideal S256x1024 .bf16 := iblk m c 0 t
abbrev tileW (t : Fin cfg0.N) : Vec Ideal S1024x1024 .bf16 := iblk m c 1 t
abbrev tileO (t : Fin cfg0.N) : Vec Ideal S256x1024 .f32 := iblk m c 2 t
abbrev tileG (t : Fin cfg0.N) : Vec Ideal S256x1024 .f32 := X0_3 m c t
abbrev tileS (t : Fin cfg0.N) : Vec Ideal S256x1024 .f32 := iblk m c 4 t

/-- The product's rows. -/
abbrev prod (A B : ℕ → ℕ → EReal) (r l : ℕ) : EReal := ∑ k : Fin 1024, A r k.val * B l k.val

/-- The array of these numbers. -/
def arr (f : ℕ → ℕ → EReal) : S8448x1024.Idx → EReal := fun i => f (i 0).val (i 1).val

section
variable {A B O G S : ℕ → ℕ → EReal} (H : Held m c A B O G S)
include H

theorem tile_prod (t : Fin cfg0.N) (r : Fin 256) (l : Fin 1024) :
    ∑ k : Fin 1024, tileA m c t (ix2 r k) * tileW m c t (ix2 l k) = prod A B (t.val * 256 + r.val) l.val := by
  unfold tileA tileW iblk
  refine Finset.sum_congr rfl fun k _ => ?_
  rw [View.read_apply, View.read_apply]
  exact congrArg₂ (· * ·) ((H.a _).trans (congrArg₂ A (row t r.val) (column 1024 k.val))) ((H.b _).trans (congrArg₂ B (column 1024 l.val) (column 1024 k.val)))

theorem tile_o (t : Fin cfg0.N) (r : Fin 256) (l : Fin 1024) : tileO m c t (ix2 r l) = O (t.val * 256 + r.val) l.val := by
  unfold tileO iblk
  rw [View.read_apply]
  exact (H.o _).trans (congrArg₂ O (row t r.val) (column 1024 l.val))

theorem tile_g (t : Fin cfg0.N) (r : Fin 256) (l : Fin 1024) : tileG m c t (ix2 r l) = G (t.val * 256 + r.val) l.val := by
  unfold tileG X0_3 Pipeline.Window.fill
  rw [dif_pos (moved0_3 t _)]
  unfold iblk
  rw [View.read_apply]
  exact (H.g _ l (congrArg (3072 + ·) (Nat.one_mul l.val))).trans (congrArg (G · l.val) (row t r.val))

theorem tile_s (t : Fin cfg0.N) (r : Fin 256) (l : Fin 1024) : tileS m c t (ix2 r l) = S (t.val * 256 + r.val) l.val := by
  unfold tileS iblk
  rw [View.read_apply]
  exact (H.s _).trans (congrArg₂ S (row t r.val) (column 1024 l.val))

theorem after5 (t : Fin cfg0.N) (y : S256x1024.Idx) : ((dats m 0 c).after 5 t : Vec Ideal S256x1024 .bf16) y
    = doN (prod A B (t.val * 256 + (y 0).val)) (G (t.val * 256 + (y 0).val)) (S (t.val * 256 + (y 0).val)) (y 1).val := by
  rw [after0_5, eq_ix2 y]
  unfold outsAt0
  dsimp only
  exact out5 c _ _ _ _ _ _ _ _ _ _ _ _ _ _ _ _ _ (tile_prod m c H t (y 0)) (tile_g m c H t (y 0)) (tile_s m c H t (y 0)) (y 1)

theorem after6 (t : Fin cfg0.N) (y : S256x1024.Idx) : ((dats m 0 c).after 6 t : Vec Ideal S256x1024 .bf16) y
    = dgN (prod A B (t.val * 256 + (y 0).val)) (G (t.val * 256 + (y 0).val)) (O (t.val * 256 + (y 0).val)) (y 1).val := by
  rw [after0_6, eq_ix2 y]
  unfold outsAt0
  dsimp only
  exact out6 c _ _ _ _ _ _ _ _ _ _ _ _ _ _ _ _ _ (tile_prod m c H t (y 0)) (tile_o m c H t (y 0)) (tile_g m c H t (y 0)) (y 1)

theorem after7 (t : Fin cfg0.N) (y : S256x1024.Idx) : ((dats m 0 c).after 7 t : Vec Ideal S256x1024 .f32) y
    = deN (prod A B (t.val * 256 + (y 0).val)) (G (t.val * 256 + (y 0).val)) (S (t.val * 256 + (y 0).val)) (O (t.val * 256 + (y 0).val)) (y 1).val := by
  rw [after0_7, eq_ix2 y]
  unfold outsAt0
  dsimp only
  exact out7 c _ _ _ _ _ _ _ _ _ _ _ _ _ _ _ _ _ (tile_prod m c H t (y 0)) (tile_o m c H t (y 0)) (tile_g m c H t (y 0)) (tile_s m c H t (y 0)) (y 1)

omit H in
theorem inside (i : S8448x1024.Idx) : ∃ t : Fin cfg0.N,
    ((BitVec.ofNat 32 (grid0.coords t 0).val).toNat * 256 ≤ (i 0).val ∧ (i 0).val < (BitVec.ofNat 32 (grid0.coords t 0).val).toNat * 256 + 256)
      ∧ 0 * 1024 ≤ (i 1).val ∧ (i 1).val < 0 * 1024 + 1024 := by
  have h0 : (i 0).val < 8448 := (i 0).isLt
  have h1 : (i 1).val < 1024 := (i 1).isLt
  refine ⟨⟨(i 0).val / 256, by rw [show cfg0.N = 33 from N_0]; omega⟩, ?_⟩
  rw [word]
  dsimp only
  omega

abbrev doT (A B G S : ℕ → ℕ → EReal) (r : ℕ) : ℕ → EReal := doN (prod A B r) (G r) (S r)
abbrev dgT (A B G O : ℕ → ℕ → EReal) (r : ℕ) : ℕ → EReal := dgN (prod A B r) (G r) (O r)
abbrev deT (A B G S O : ℕ → ℕ → EReal) (r : ℕ) : ℕ → EReal := deN (prod A B r) (G r) (S r) (O r)

theorem final5 : (dats m 0 c).arrAt 5 cfg0.N = (arr (doT A B G S) : Buf (Elt Ideal) ((c.tc : Thread nD τ).loc main_v6_0)) :=
  (dats m 0 c).arrAt_eq_of_cover 5 _ (fun t _ => by
    have L := after5 m c H t
    show (cfg0.win 5).cut (grid0.coords t) ((dats m 0 c).after 5 t) = _
    generalize (dats m 0 c).after 5 t = o at L ⊢
    funext y
    rw [View.read_apply]
    exact (L y).trans (congrArg₂ (doT A B G S) (row t _).symm (column 1024 _).symm)) fun i => by
    obtain ⟨t, h0, h1⟩ := inside i
    refine ⟨t, flush0_5 t, ?_⟩
    show i ∈ ((View.whole main_v6_0).slice (win0_5.rect t)).set
    rw [View.set_slice_whole, Rect.mem_set_unit]
    exact fun a => match a with | ⟨0, _⟩ => h0 | ⟨1, _⟩ => h1

theorem final6 : (dats m 0 c).arrAt 6 cfg0.N = (arr (dgT A B G O) : Buf (Elt Ideal) ((c.tc : Thread nD τ).loc main_v6_1)) :=
  (dats m 0 c).arrAt_eq_of_cover 6 _ (fun t _ => by
    have L := after6 m c H t
    show (cfg0.win 6).cut (grid0.coords t) ((dats m 0 c).after 6 t) = _
    generalize (dats m 0 c).after 6 t = o at L ⊢
    funext y
    rw [View.read_apply]
    exact (L y).trans (congrArg₂ (dgT A B G O) (row t _).symm (column 1024 _).symm)) fun i => by
    obtain ⟨t, h0, h1⟩ := inside i
    refine ⟨t, flush0_6 t, ?_⟩
    show i ∈ ((View.whole main_v6_1).slice (win0_6.rect t)).set
    rw [View.set_slice_whole, Rect.mem_set_unit]
    exact fun a => match a with | ⟨0, _⟩ => h0 | ⟨1, _⟩ => h1

theorem final7 : (dats m 0 c).arrAt 7 cfg0.N = (arr (deT A B G S O) : Buf (Elt Ideal) ((c.tc : Thread nD τ).loc main_v6_2)) :=
  (dats m 0 c).arrAt_eq_of_cover 7 _ (fun t _ => by
    have L := after7 m c H t
    show (cfg0.win 7).cut (grid0.coords t) ((dats m 0 c).after 7 t) = _
    generalize (dats m 0 c).after 7 t = o at L ⊢
    funext y
    rw [View.read_apply]
    exact (L y).trans (congrArg₂ (deT A B G S O) (row t _).symm (column 1024 _).symm)) fun i => by
    obtain ⟨t, h0, h1⟩ := inside i
    refine ⟨t, flush0_7 t, ?_⟩
    show i ∈ ((View.whole main_v6_2).slice (win0_7.rect t)).set
    rw [View.set_slice_whole, Rect.mem_set_unit]
    exact fun a => match a with | ⟨0, _⟩ => h0 | ⟨1, _⟩ => h1

end

def arrR (x : FVec Ideal S8208x1024 .f32) : FVec Ideal S8448x1024 .f32 :=
  pad S8448x1024 ![240, 0] ![0, 0] ![0, 0] x zero pads_S8208x1024_S8448x1024_24000_000 h_S_

def arrG (x : FVec Ideal S8208x1024 .f32) : FVec Ideal S8448x4224 .f32 :=
  pad S8448x4224 ![240, 3072] ![0, 128] ![0, 0] x zero pads_S8208x1024_S8448x4224_24000_30721280 h_S_

theorem arrR_at (x : FVec Ideal S8208x1024 .f32) (r : Fin 8448) (l : Fin 1024) : arrR x (ix2 r l) = low x r.val l.val := by
  unfold low
  pointwise [arrR]
  by_cases hr : r.val < 240
  · rw [dif_neg (by omega), if_pos hr, zero_at]
  · rw [dif_pos (by omega), if_neg hr]
    exact (tab_at x ⟨r.val - 240, by omega⟩ l).symm

theorem arrG_at (x : FVec Ideal S8208x1024 .f32) (r : Fin 8448) (l : Fin 1024) : arrG x (ix2 r (⟨3072 + l.val, by omega⟩ : Fin 4224)) = low x r.val l.val := by
  unfold low
  pointwise [arrG]
  by_cases hr : r.val < 240
  · rw [dif_neg (by omega), if_pos hr, zero_at]
  · rw [dif_pos (by omega), if_neg hr, tab_at x ⟨r.val - 240, by omega⟩ l]

abbrev in0 : FVec Ideal S8208x1024 .f32 := m ((c.tc : Thread nD τ).loc main_arg0)
abbrev in1 : FVec Ideal S8208x1024 .f32 := m ((c.tc : Thread nD τ).loc main_arg1)
abbrev in2 : FVec Ideal S8208x1024 .f32 := m ((c.tc : Thread nD τ).loc main_arg2)
abbrev in3 : FVec Ideal S1024x1024 .f32 := m ((c.tc : Thread nD τ).loc main_arg3)
abbrev in4 : FVec Ideal S8208x1024 .f32 := m ((c.tc : Thread nD τ).loc main_arg4)

theorem read_v2 : (V m c main_v2 : FVec Ideal S8448x1024 .bf16) = truncf (F := Ideal) (φ := .f32) .bf16 (arrR (in4 m c)) bitsLt_bf16_f32 := by
  show StableHlo.after _ _ (Proc.devRef .tc main_v2) = _
  after_reads_simp
  simp -implicitDefEqProofs only [TRef.toBuf, TRef.ofBuf, cast_cast, cast_eq]
  unfold arrR zero
  rfl

theorem read_v3 : (V m c main_v3 : FVec Ideal S1024x1024 .bf16) = truncf (F := Ideal) (φ := .f32) .bf16 (in3 m c) bitsLt_bf16_f32 := by
  show StableHlo.after _ _ (Proc.devRef .tc main_v3) = _
  after_reads_simp

theorem read_v4 : (V m c main_v4 : FVec Ideal S8448x1024 .f32) = arrR (in0 m c) := by
  show StableHlo.after _ _ (Proc.devRef .tc main_v4) = _
  after_reads_simp
  simp -implicitDefEqProofs only [TRef.toBuf, TRef.ofBuf, cast_cast, cast_eq]
  unfold arrR zero
  rfl

theorem read_v0 : (V m c main_v0 : FVec Ideal S8448x4224 .f32) = arrG (in1 m c) := by
  show StableHlo.after _ _ (Proc.devRef .tc main_v0) = _
  after_reads_simp
  simp -implicitDefEqProofs only [TRef.toBuf, TRef.ofBuf, cast_cast, cast_eq]
  unfold arrG zero
  rfl

theorem read_v5 : (V m c main_v5 : FVec Ideal S8448x1024 .f32) = arrR (in2 m c) := by
  show StableHlo.after _ _ (Proc.devRef .tc main_v5) = _
  after_reads_simp
  simp -implicitDefEqProofs only [TRef.toBuf, TRef.ofBuf, cast_cast, cast_eq]
  unfold arrR zero
  rfl

theorem held : Held m c (low (in4 m c)) (tab (in3 m c)) (low (in0 m c)) (low (in1 m c)) (low (in2 m c)) where
  a i := (congrFun (read_v2 m c) i).trans ((congrArg (arrR _) (eq_ix2 i)).trans (arrR_at _ (i 0) (i 1)))
  b i := (congrFun (read_v3 m c) i).trans ((congrArg (in3 m c) (eq_ix2 i)).trans (tab_at _ (i 0) (i 1)).symm)
  o i := (congrFun (read_v4 m c) i).trans ((congrArg (arrR _) (eq_ix2 i)).trans (arrR_at _ (i 0) (i 1)))
  g i l h := (congrFun (read_v0 m c) i).trans ((congrArg (arrG _) (idx2 (i := i) (j := ix2 (i 0) (⟨3072 + l.val, by omega⟩ : Fin 4224)) rfl h)).trans (arrG_at _ (i 0) l))
  s i := (congrFun (read_v5 m c) i).trans ((congrArg (arrR _) (eq_ix2 i)).trans (arrR_at _ (i 0) (i 1)))

/-- The array without the padding. -/
def cutout (y : Vec Ideal S8448x1024 .f32) : FVec Ideal S8208x1024 .f32 :=
  extractStridedSlice S8208x1024 ![240, 0] y slices_S8448x1024_S8208x1024_240_0

theorem cutout_at (f : ℕ → ℕ → EReal) (r : Fin 8208) (l : Fin 1024) : cutout (arr f) (ix2 r l) = f (240 + r.val) l.val := by
  have e : cutout (arr f) (ix2 r l) = arr f (ix2 (⟨240 + r.val, by omega⟩ : Fin 8448) l) := by
    generalize arr f = z
    pointwise [cutout]
  exact e

section
variable (x g s : FVec Ideal S8208x1024 .f32) (w : FVec Ideal S1024x1024 .f32) (ct : FVec Ideal S8208x1024 .f32)

open Cert.Reference18Ideal.Read

theorem one_host : (FloatOps.ofBits .f32 0x3F800000#32 : Ideal .f32) = 1 := by
  pointwise

theorem ref_sigma (r : Fin 8208) (l : Fin 1024) : val_main_v5 (F := Ideal) g (ix2 r l) = Ideal.logistic (tab g r.val l.val) := by
  rw [val_main_v5_apply, val_main_v4_apply, val_main_v3_apply, val_main_v2_apply, val_main_v1_apply, val_main_v0_apply, val_main_cst_apply,
    val_main_cst_0_apply, one_host, tab_at]
  rfl

theorem ref_prod (r : Fin 8208) (l : Fin 1024) : val_main_v11 (F := Ideal) w ct (ix2 r l) = prod (tab ct) (tab w) r.val l.val := by
  rw [val_main_v11_apply]
  refine Finset.sum_congr rfl fun k _ => ?_
  rw [tab_at, tab_at]
  exact congrArg₂ (fun i j => ct i * w j) (idx2 rfl rfl) (idx2 rfl rfl)

theorem ref_do (r : Fin 8208) (l : Fin 1024) : val_main_v15 (F := Ideal) g s w ct (ix2 r l) = doT (tab ct) (tab w) (tab g) (tab s) r.val l.val := by
  rw [val_main_v15_apply, val_main_v13_apply, ref_sigma, ref_prod, ← tab_at s]
  rfl

theorem ref_dg (r : Fin 8208) (l : Fin 1024) : val_main_v14 (F := Ideal) x g w ct (ix2 r l) = dgT (tab ct) (tab w) (tab g) (tab x) r.val l.val := by
  rw [val_main_v14_apply, val_main_v12_apply, val_main_v8_apply, val_main_v7_apply, val_main_v6_apply, val_main_cst_1_apply, ref_sigma, ref_prod, one_host,
    ← tab_at x]
  unfold dgT dgN
  rw [mul_assoc (_ * _), mul_comm (prod _ _ _ _)]
  rfl

theorem ref_de (r : Fin 8208) (l : Fin 1024) : val_main_v21 (F := Ideal) x g s w ct (ix2 r l) = deT (tab ct) (tab w) (tab g) (tab s) (tab x) r.val l.val := by
  rw [val_main_v21_apply, val_main_v20_apply, val_main_v19_apply, val_main_v18_apply, val_main_cst_2_apply, none_host, zero_add]
  refine Finset.sum_congr rfl fun k _ => ?_
  have hl : 64 * (l.val / 64) + k.val < 1024 := by omega
  rw [val_main_v17_apply, val_main_v16_apply]
  rw [show idx_main_v17 (idx_main_v18 (idx_main_v19 (idx_main_v20 (idx_main_v21 (ix2 r l)))) k) = ix2 r (⟨64 * (l.val / 64) + k.val, hl⟩ : Fin 1024) from
    idx2 (by show (((r.val * 1024 + l.val) / 1024 * 16 + (r.val * 1024 + l.val) / 64 % 16) * 64 + k.val) / 1024 = r.val; omega)
      (by show (((r.val * 1024 + l.val) / 1024 * 16 + (r.val * 1024 + l.val) / 64 % 16) * 64 + k.val) % 1024 = 64 * (l.val / 64) + k.val; omega), ref_do, ← tab_at x]
  rfl

theorem value_do : cutout (arr (doT (low ct) (tab w) (low g) (low s))) = val_main_v15 (F := Ideal) g s w ct := funext fun i => by
  rw [eq_ix2 i]
  refine (cutout_at _ (i 0) (i 1)).trans (Eq.trans ?_ (ref_do g s w ct (i 0) (i 1)).symm)
  unfold doT prod
  simp only [low_row]

theorem value_dg : cutout (arr (dgT (low ct) (tab w) (low g) (low x))) = val_main_v14 (F := Ideal) x g w ct := funext fun i => by
  rw [eq_ix2 i]
  refine (cutout_at _ (i 0) (i 1)).trans (Eq.trans ?_ (ref_dg x g w ct (i 0) (i 1)).symm)
  unfold dgT prod
  simp only [low_row]

theorem value_de : cutout (arr (deT (low ct) (tab w) (low g) (low s) (low x))) = val_main_v21 (F := Ideal) x g s w ct := funext fun i => by
  rw [eq_ix2 i]
  refine (cutout_at _ (i 0) (i 1)).trans (Eq.trans ?_ (ref_de x g s w ct (i 0) (i 1)).symm)
  unfold deT prod
  simp only [low_row]

end

theorem algebraic : Cert.algebraic_Kernel18Ideal_Reference18Ideal := by
  intro m g m' g' _ hargs
  refine ⟨fun c => cutout (arr (doT (low (in4 m c)) (tab (in3 m c)) (low (in1 m c)) (low (in2 m c)))),
    fun c => cutout (arr (dgT (low (in4 m c)) (tab (in3 m c)) (low (in1 m c)) (low (in0 m c)))),
    fun c => cutout (arr (deT (low (in4 m c)) (tab (in3 m c)) (low (in1 m c)) (low (in2 m c)) (low (in0 m c)))),
    (θ_run _ _ _).mono (fun r h c => ⟨(h c).1.trans (congrArg cutout (final5 m c (held m c))), (h c).2.1.trans (congrArg cutout (final6 m c (held m c))),
      (h c).2.2.1.trans (congrArg cutout (final7 m c (held m c))), (h c).2.2.2⟩) (Cert.Kernel18Ideal.Value.run m g),
    (θ_run _ _ _).mono (fun r h c => ?_) (Cert.Reference18Ideal.Value.run m' g')⟩
  obtain ⟨h1, h2, h3, hrest⟩ := h c
  obtain ⟨a0, a1, a2, a3, a4⟩ := hargs c
  refine ⟨h1.trans ?_, h2.trans ?_, h3.trans ?_, hrest⟩
  · rw [Cert.Reference18Ideal.Read.val_main_v15_eq, a1, a2, a3, a4]
    exact (value_do _ _ _ _).symm
  · rw [Cert.Reference18Ideal.Read.val_main_v14_eq, a0, a1, a3, a4]
    exact (value_dg _ _ _ _).symm
  · rw [Cert.Reference18Ideal.Read.val_main_v21_eq, a0, a1, a2, a3, a4]
    exact (value_de _ _ _ _ _).symm
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.KernelIdeal.Read
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Value
public import proofs.«01_k».proof.Proof.Value2
public import proofs.«01_k».proof.Proof.Value3
public import proofs.«01_k».proof.Proof.Value4
public import proofs.«01_k».proof.Proof.Value5
public import proofs.«01_k».proof.Proof.Value6
public import proofs.«01_k».proof.Proof.Value7
public import proofs.«01_k».proof.Proof.Value8
public import proofs.«01_k».proof.Proof.Value9
public import proofs.«01_k».proof.Proof.Value10
public import proofs.«01_k».proof.Proof.Value11
public import proofs.«01_k».proof.Proof.Value12
public import proofs.«01_k».proof.Proof.Value13
public import proofs.«01_k».proof.Proof.Value14
public import proofs.«01_k».proof.Proof.Value15
public import proofs.«01_k».proof.Proof.Value16
public import proofs.«01_k».proof.Proof.Value17
public import proofs.«01_k».proof.Proof.Value18
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts, Cert.Bwd.finite_facts, Cert.Kernel15Ideal.Attn.finite15_facts,
    fun m ρ _ => Cert.Kernel.Gen.frame m ρ, fun m ρ _ => Cert.KernelIdeal.Gen.frame m ρ, fun m ρ _ => Cert.KernelIdeal.Gen.frame m ρ,
    fun m ρ _ => (θ_run _ _ _).mono (fun r h => ⟨fun c => (h c).2.2.2.2, sem_eq_zero_of_no_sems rfl r.2⟩) (Cert.ReferenceIdeal.Value.run m ρ),
    fun m ρ _ => (θ_run _ _ _).mono (fun r h => ⟨fun c => (h c).2.2.2.2, sem_eq_zero_of_no_sems rfl r.2⟩) (Cert.ReferenceIdeal.Value.run m ρ),
    fun m ρ _ => Cert.Kernel2.Gen.frame m ρ, fun m ρ _ => Cert.Kernel2Ideal.Gen.frame m ρ,
    fun m ρ _ => (θ_run _ _ _).mono (fun r h => ⟨fun c => (h c).2, sem_eq_zero_of_no_sems rfl r.2⟩) (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems rfl r.2⟩) (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2.2, sem_eq_zero_of_no_sems rfl r.2⟩) (Cert.Reference4Ideal.Value.run m ρ),
    fun m ρ _ => Cert.Kernel5.Gen.frame m ρ, fun m ρ _ => Cert.Kernel5Ideal.Gen.frame m ρ,
    fun m ρ _ => (θ_run _ _ _).mono (fun r h => ⟨fun c => (h c).2, sem_eq_zero_of_no_sems rfl r.2⟩) (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2.2.2, sem_eq_zero_of_no_sems rfl r.2⟩) (Cert.Reference6Ideal.Value.run m ρ),
    fun m ρ _ => Cert.Kernel7.Gen.frame m ρ, fun m ρ _ => Cert.Kernel7Ideal.Gen.frame m ρ,
    fun m ρ _ => (θ_run _ _ _).mono (fun r h => ⟨fun c => (h c).2, sem_eq_zero_of_no_sems rfl r.2⟩) (Cert.Reference7Ideal.Value.run m ρ),
    fun m ρ _ => Cert.Kernel8.Gen.frame m ρ, fun m ρ _ => Cert.Kernel8Ideal.Gen.frame m ρ,
    fun m ρ _ => (θ_run _ _ _).mono (fun r h => ⟨fun c => (h c).2, sem_eq_zero_of_no_sems rfl r.2⟩) (Cert.Reference8Ideal.Value.run m ρ),
    fun m ρ _ => Cert.Kernel9.Gen.frame m ρ, fun m ρ _ => Cert.Kernel9Ideal.Gen.frame m ρ,
    fun m ρ _ => (θ_run _ _ _).mono (fun r h => ⟨fun c => (h c).2.2, sem_eq_zero_of_no_sems rfl r.2⟩) (Cert.Reference9Ideal.Value.run m ρ),
    fun m ρ _ => Cert.Kernel10.Gen.frame m ρ, fun m ρ _ => Cert.Kernel10Ideal.Gen.frame m ρ,
    fun m ρ _ => (θ_run _ _ _).mono (fun r h => ⟨fun c => (h c).2, sem_eq_zero_of_no_sems rfl r.2⟩) (Cert.Reference10Ideal.Value.run m ρ),
    fun m ρ _ => Cert.Kernel11.Gen.frame m ρ, fun m ρ _ => Cert.Kernel11Ideal.Gen.frame m ρ,
    fun m ρ _ => (θ_run _ _ _).mono (fun r h => ⟨fun c => (h c).2, sem_eq_zero_of_no_sems rfl r.2⟩) (Cert.Reference11Ideal.Value.run m ρ),
    fun m ρ _ => Cert.Kernel12.Gen.frame m ρ, fun m ρ _ => Cert.Kernel12Ideal.Gen.frame m ρ,
    fun m ρ _ => (θ_run _ _ _).mono (fun r h => ⟨fun c => (h c).2, sem_eq_zero_of_no_sems rfl r.2⟩) (Cert.Reference12Ideal.Value.run m ρ),
    fun m ρ _ => Cert.Kernel13.Gen.frame m ρ, fun m ρ _ => Cert.Kernel13Ideal.Gen.frame m ρ,
    fun m ρ _ => (θ_run _ _ _).mono (fun r h => ⟨fun c => (h c).2, sem_eq_zero_of_no_sems rfl r.2⟩) (Cert.Reference13Ideal.Value.run m ρ),
    fun m ρ _ => Cert.Kernel14.Gen.frame m ρ, fun m ρ _ => Cert.Kernel14Ideal.Gen.frame m ρ,
    fun m ρ _ => (θ_run _ _ _).mono (fun r h => ⟨fun c => (h c).2, sem_eq_zero_of_no_sems rfl r.2⟩) (Cert.Reference14Ideal.Value.run m ρ),
    fun m ρ _ => Cert.Kernel15.Gen.frame m ρ, fun m ρ _ => Cert.Kernel15Ideal.Gen.frame m ρ, fun m ρ _ => Cert.Kernel15Ideal.Gen.frame m ρ,
    fun m ρ _ => (θ_run _ _ _).mono (fun r h => ⟨fun c => (h c).2, sem_eq_zero_of_no_sems rfl r.2⟩) (Cert.Reference15Ideal.Value.run m ρ),

    fun m ρ _ => (θ_run _ _ _).mono (fun r h => ⟨fun c => (h c).2, sem_eq_zero_of_no_sems rfl r.2⟩) (Cert.Reference15Ideal.Value.run m ρ),
    fun m ρ _ => Cert.Kernel16.Gen.frame m ρ, fun m ρ _ => Cert.Kernel16Ideal.Gen.frame m ρ,
    fun m ρ _ => (θ_run _ _ _).mono (fun r h => ⟨fun c => (h c).2.2, sem_eq_zero_of_no_sems rfl r.2⟩) (Cert.Reference16Ideal.Value.run m ρ),
    fun m ρ _ => Cert.Kernel17.Gen.frame m ρ, fun m ρ _ => Cert.Kernel17Ideal.Gen.frame m ρ,
    fun m ρ _ => (θ_run _ _ _).mono (fun r h => ⟨fun c => (h c).2.2, sem_eq_zero_of_no_sems rfl r.2⟩) (Cert.Reference17Ideal.Value.run m ρ),
    fun m ρ _ => Cert.Kernel18.Gen.frame m ρ, fun m ρ _ => Cert.Kernel18Ideal.Gen.frame m ρ,
    fun m ρ _ => (θ_run _ _ _).mono (fun r h => ⟨fun c => (h c).2.2.2, sem_eq_zero_of_no_sems rfl r.2⟩) (Cert.Reference18Ideal.Value.run m ρ),
    IdealRules.named_const.statement Cert.KernelIdeal.κ "mask" .f32 0xF149F2CA#32 ⊥ rfl, Cert.Bwd.algebraic,
    trivial, Cert.Kernel2Ideal.Prod.algebraic, trivial, Cert.Kernel3Ideal.Prod.algebraic,
    trivial, Cert.Kernel4Ideal.Norm.algebraic, trivial, Cert.Kernel5Ideal.Gate.algebraic,
    trivial, Cert.Kernel6Ideal.Gate.algebraic,
    trivial, Cert.Kernel7Ideal.Prod.algebraic,
    trivial, Cert.Kernel8Ideal.Prod.algebraic,
    trivial, Cert.Kernel9Ideal.Norm.algebraic,
    trivial, Cert.Kernel10Ideal.Prod.algebraic,
    trivial, Cert.Kernel11Ideal.Prod.algebraic,
    trivial, Cert.Kernel12Ideal.Prod.algebraic,
    trivial, Cert.Kernel13Ideal.Prod.algebraic,
    trivial, Cert.Kernel14Ideal.Prod.algebraic,
    IdealRules.named_const.statement Cert.Kernel15Ideal.κ "mask" .f32 0xF149F2CA#32 ⊥ rfl, Cert.Kernel15Ideal.Attn.algebraic,
    trivial, Cert.Kernel16Ideal.Out.algebraic,
    trivial, Cert.Kernel17Ideal.Out.algebraic,
    trivial, Cert.Kernel18Ideal.Dx.algebraic⟩

end Cert.Proof

end
